-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Lstm (m : (ℓ : Loc Cert.Lstm.nD Cert.Lstm.τ Cert.Lstm.sig) → Buf (Elt Bits) ℓ) : Prop :=
  True

def Pre_LstmIdeal (m : (ℓ : Loc Cert.LstmIdeal.nD Cert.LstmIdeal.τ Cert.LstmIdeal.sig) → Buf (Elt Ideal) ℓ) : Prop :=
  True

def Pre_LstmReferenceIdeal (m : (ℓ : Loc Cert.LstmReferenceIdeal.nD Cert.LstmReferenceIdeal.τ Cert.LstmReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Lstm [hLstm : Cert.Lstm.Facts] : Prop :=
  ∀ (m : (ℓ : Loc Cert.Lstm.nD Cert.Lstm.τ Cert.Lstm.sig) → Buf (Elt Bits) ℓ) (g : Dev Cert.Lstm.nD → PrngReg), Pre_Lstm m →
    θ_run (Cert.Lstm.defs (F := Bits)) (onTc (τ := Cert.Lstm.τ) (Cert.Lstm.main (F := Bits))) ⟨m, fun _ => 0, g⟩ (fun r => (∀ c : Dev Cert.Lstm.nD,
      r.2.mem ((c.tc : Thread Cert.Lstm.nD Cert.Lstm.τ).loc Cert.Lstm.main_arg0) = m ((c.tc : Thread Cert.Lstm.nD Cert.Lstm.τ).loc Cert.Lstm.main_arg0)
      ∧ r.2.mem ((c.tc : Thread Cert.Lstm.nD Cert.Lstm.τ).loc Cert.Lstm.main_arg1) = m ((c.tc : Thread Cert.Lstm.nD Cert.Lstm.τ).loc Cert.Lstm.main_arg1)
      ∧ r.2.mem ((c.tc : Thread Cert.Lstm.nD Cert.Lstm.τ).loc Cert.Lstm.main_arg2) = m ((c.tc : Thread Cert.Lstm.nD Cert.Lstm.τ).loc Cert.Lstm.main_arg2)
      ∧ r.2.mem ((c.tc : Thread Cert.Lstm.nD Cert.Lstm.τ).loc Cert.Lstm.main_arg3) = m ((c.tc : Thread Cert.Lstm.nD Cert.Lstm.τ).loc Cert.Lstm.main_arg3)
      ∧ r.2.mem ((c.tc : Thread Cert.Lstm.nD Cert.Lstm.τ).loc Cert.Lstm.main_arg4) = m ((c.tc : Thread Cert.Lstm.nD Cert.Lstm.τ).loc Cert.Lstm.main_arg4)
      ∧ r.2.mem ((c.tc : Thread Cert.Lstm.nD Cert.Lstm.τ).loc Cert.Lstm.main_arg5) = m ((c.tc : Thread Cert.Lstm.nD Cert.Lstm.τ).loc Cert.Lstm.main_arg5)
      ∧ r.2.mem ((c.tc : Thread Cert.Lstm.nD Cert.Lstm.τ).loc Cert.Lstm.main_arg6) = m ((c.tc : Thread Cert.Lstm.nD Cert.Lstm.τ).loc Cert.Lstm.main_arg6))
      ∧ r.2.sem = fun _ => 0)

def quiescent_LstmIdeal [hLstmIdeal : Cert.LstmIdeal.Facts] : Prop :=
  ∀ (m : (ℓ : Loc Cert.LstmIdeal.nD Cert.LstmIdeal.τ Cert.LstmIdeal.sig) → Buf (Elt Ideal) ℓ) (g : Dev Cert.LstmIdeal.nD → PrngReg), Pre_LstmIdeal m →
    θ_run (Cert.LstmIdeal.defs (F := Ideal)) (onTc (τ := Cert.LstmIdeal.τ) (Cert.LstmIdeal.main (F := Ideal))) ⟨m, fun _ => 0, g⟩ (fun r => (∀ c : Dev Cert.LstmIdeal.nD,
      r.2.mem ((c.tc : Thread Cert.LstmIdeal.nD Cert.LstmIdeal.τ).loc Cert.LstmIdeal.main_arg0) = m ((c.tc : Thread Cert.LstmIdeal.nD Cert.LstmIdeal.τ).loc Cert.LstmIdeal.main_arg0)
      ∧ r.2.mem ((c.tc : Thread Cert.LstmIdeal.nD Cert.LstmIdeal.τ).loc Cert.LstmIdeal.main_arg1) = m ((c.tc : Thread Cert.LstmIdeal.nD Cert.LstmIdeal.τ).loc Cert.LstmIdeal.main_arg1)
      ∧ r.2.mem ((c.tc : Thread Cert.LstmIdeal.nD Cert.LstmIdeal.τ).loc Cert.LstmIdeal.main_arg2) = m ((c.tc : Thread Cert.LstmIdeal.nD Cert.LstmIdeal.τ).loc Cert.LstmIdeal.main_arg2)
      ∧ r.2.mem ((c.tc : Thread Cert.LstmIdeal.nD Cert.LstmIdeal.τ).loc Cert.LstmIdeal.main_arg3) = m ((c.tc : Thread Cert.LstmIdeal.nD Cert.LstmIdeal.τ).loc Cert.LstmIdeal.main_arg3)
      ∧ r.2.mem ((c.tc : Thread Cert.LstmIdeal.nD Cert.LstmIdeal.τ).loc Cert.LstmIdeal.main_arg4) = m ((c.tc : Thread Cert.LstmIdeal.nD Cert.LstmIdeal.τ).loc Cert.LstmIdeal.main_arg4)
      ∧ r.2.mem ((c.tc : Thread Cert.LstmIdeal.nD Cert.LstmIdeal.τ).loc Cert.LstmIdeal.main_arg5) = m ((c.tc : Thread Cert.LstmIdeal.nD Cert.LstmIdeal.τ).loc Cert.LstmIdeal.main_arg5)
      ∧ r.2.mem ((c.tc : Thread Cert.LstmIdeal.nD Cert.LstmIdeal.τ).loc Cert.LstmIdeal.main_arg6) = m ((c.tc : Thread Cert.LstmIdeal.nD Cert.LstmIdeal.τ).loc Cert.LstmIdeal.main_arg6))
      ∧ r.2.sem = fun _ => 0)

def quiescent_LstmReferenceIdeal [hLstmReferenceIdeal : Cert.LstmReferenceIdeal.Facts] : Prop :=
  ∀ (m : (ℓ : Loc Cert.LstmReferenceIdeal.nD Cert.LstmReferenceIdeal.τ Cert.LstmReferenceIdeal.sig) → Buf (Elt Ideal) ℓ) (g : Dev Cert.LstmReferenceIdeal.nD → PrngReg), Pre_LstmReferenceIdeal m →
    θ_run (Cert.LstmReferenceIdeal.defs (F := Ideal)) (onTc (τ := Cert.LstmReferenceIdeal.τ) (Cert.LstmReferenceIdeal.main (F := Ideal))) ⟨m, fun _ => 0, g⟩ (fun r => (∀ c : Dev Cert.LstmReferenceIdeal.nD,
      r.2.mem ((c.tc : Thread Cert.LstmReferenceIdeal.nD Cert.LstmReferenceIdeal.τ).loc Cert.LstmReferenceIdeal.main_arg0) = m ((c.tc : Thread Cert.LstmReferenceIdeal.nD Cert.LstmReferenceIdeal.τ).loc Cert.LstmReferenceIdeal.main_arg0)
      ∧ r.2.mem ((c.tc : Thread Cert.LstmReferenceIdeal.nD Cert.LstmReferenceIdeal.τ).loc Cert.LstmReferenceIdeal.main_arg1) = m ((c.tc : Thread Cert.LstmReferenceIdeal.nD Cert.LstmReferenceIdeal.τ).loc Cert.LstmReferenceIdeal.main_arg1)
      ∧ r.2.mem ((c.tc : Thread Cert.LstmReferenceIdeal.nD Cert.LstmReferenceIdeal.τ).loc Cert.LstmReferenceIdeal.main_arg2) = m ((c.tc : Thread Cert.LstmReferenceIdeal.nD Cert.LstmReferenceIdeal.τ).loc Cert.LstmReferenceIdeal.main_arg2)
      ∧ r.2.mem ((c.tc : Thread Cert.LstmReferenceIdeal.nD Cert.LstmReferenceIdeal.τ).loc Cert.LstmReferenceIdeal.main_arg3) = m ((c.tc : Thread Cert.LstmReferenceIdeal.nD Cert.LstmReferenceIdeal.τ).loc Cert.LstmReferenceIdeal.main_arg3)
      ∧ r.2.mem ((c.tc : Thread Cert.LstmReferenceIdeal.nD Cert.LstmReferenceIdeal.τ).loc Cert.LstmReferenceIdeal.main_arg4) = m ((c.tc : Thread Cert.LstmReferenceIdeal.nD Cert.LstmReferenceIdeal.τ).loc Cert.LstmReferenceIdeal.main_arg4)
      ∧ r.2.mem ((c.tc : Thread Cert.LstmReferenceIdeal.nD Cert.LstmReferenceIdeal.τ).loc Cert.LstmReferenceIdeal.main_arg5) = m ((c.tc : Thread Cert.LstmReferenceIdeal.nD Cert.LstmReferenceIdeal.τ).loc Cert.LstmReferenceIdeal.main_arg5)
      ∧ r.2.mem ((c.tc : Thread Cert.LstmReferenceIdeal.nD Cert.LstmReferenceIdeal.τ).loc Cert.LstmReferenceIdeal.main_arg6) = m ((c.tc : Thread Cert.LstmReferenceIdeal.nD Cert.LstmReferenceIdeal.τ).loc Cert.LstmReferenceIdeal.main_arg6))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Lstm_LstmIdeal : Prop :=
  True

def algebraic_LstmIdeal_LstmReferenceIdeal [hLstmIdeal : Cert.LstmIdeal.Facts] [hLstmReferenceIdeal : Cert.LstmReferenceIdeal.Facts] : Prop :=
  ∀ (m : (ℓ : Loc Cert.LstmIdeal.nD Cert.LstmIdeal.τ Cert.LstmIdeal.sig) → Buf (Elt Ideal) ℓ) (g : Dev Cert.LstmIdeal.nD → PrngReg)
    (m' : (ℓ : Loc Cert.LstmReferenceIdeal.nD Cert.LstmReferenceIdeal.τ Cert.LstmReferenceIdeal.sig) → Buf (Elt Ideal) ℓ) (g' : Dev Cert.LstmReferenceIdeal.nD → PrngReg), Pre_LstmIdeal m →
    (∀ c : Dev Cert.LstmIdeal.nD,
      m' ((c.tc : Thread Cert.LstmReferenceIdeal.nD Cert.LstmReferenceIdeal.τ).loc Cert.LstmReferenceIdeal.main_arg0) = m ((c.tc : Thread Cert.LstmIdeal.nD Cert.LstmIdeal.τ).loc Cert.LstmIdeal.main_arg0)
      ∧ m' ((c.tc : Thread Cert.LstmReferenceIdeal.nD Cert.LstmReferenceIdeal.τ).loc Cert.LstmReferenceIdeal.main_arg1) = m ((c.tc : Thread Cert.LstmIdeal.nD Cert.LstmIdeal.τ).loc Cert.LstmIdeal.main_arg1)
      ∧ m' ((c.tc : Thread Cert.LstmReferenceIdeal.nD Cert.LstmReferenceIdeal.τ).loc Cert.LstmReferenceIdeal.main_arg2) = m ((c.tc : Thread Cert.LstmIdeal.nD Cert.LstmIdeal.τ).loc Cert.LstmIdeal.main_arg2)
      ∧ m' ((c.tc : Thread Cert.LstmReferenceIdeal.nD Cert.LstmReferenceIdeal.τ).loc Cert.LstmReferenceIdeal.main_arg3) = m ((c.tc : Thread Cert.LstmIdeal.nD Cert.LstmIdeal.τ).loc Cert.LstmIdeal.main_arg3)
      ∧ m' ((c.tc : Thread Cert.LstmReferenceIdeal.nD Cert.LstmReferenceIdeal.τ).loc Cert.LstmReferenceIdeal.main_arg4) = m ((c.tc : Thread Cert.LstmIdeal.nD Cert.LstmIdeal.τ).loc Cert.LstmIdeal.main_arg4)
      ∧ m' ((c.tc : Thread Cert.LstmReferenceIdeal.nD Cert.LstmReferenceIdeal.τ).loc Cert.LstmReferenceIdeal.main_arg5) = m ((c.tc : Thread Cert.LstmIdeal.nD Cert.LstmIdeal.τ).loc Cert.LstmIdeal.main_arg5)
      ∧ m' ((c.tc : Thread Cert.LstmReferenceIdeal.nD Cert.LstmReferenceIdeal.τ).loc Cert.LstmReferenceIdeal.main_arg6) = m ((c.tc : Thread Cert.LstmIdeal.nD Cert.LstmIdeal.τ).loc Cert.LstmIdeal.main_arg6)) →
    ∃ (v0 : (c : Dev Cert.LstmIdeal.nD) → Buf (Elt Ideal) ((c.tc : Thread Cert.LstmIdeal.nD Cert.LstmIdeal.τ).loc Cert.LstmIdeal.main_v573)),
      θ_run (Cert.LstmIdeal.defs (F := Ideal)) (onTc (τ := Cert.LstmIdeal.τ) (Cert.LstmIdeal.main (F := Ideal))) ⟨m, fun _ => 0, g⟩ (fun r => ∀ c : Dev Cert.LstmIdeal.nD,
          r.2.mem ((c.tc : Thread Cert.LstmIdeal.nD Cert.LstmIdeal.τ).loc Cert.LstmIdeal.main_v573) = v0 c
          ∧ r.2.mem ((c.tc : Thread Cert.LstmIdeal.nD Cert.LstmIdeal.τ).loc Cert.LstmIdeal.main_arg0) = m ((c.tc : Thread Cert.LstmIdeal.nD Cert.LstmIdeal.τ).loc Cert.LstmIdeal.main_arg0)
          ∧ r.2.mem ((c.tc : Thread Cert.LstmIdeal.nD Cert.LstmIdeal.τ).loc Cert.LstmIdeal.main_arg1) = m ((c.tc : Thread Cert.LstmIdeal.nD Cert.LstmIdeal.τ).loc Cert.LstmIdeal.main_arg1)
          ∧ r.2.mem ((c.tc : Thread Cert.LstmIdeal.nD Cert.LstmIdeal.τ).loc Cert.LstmIdeal.main_arg2) = m ((c.tc : Thread Cert.LstmIdeal.nD Cert.LstmIdeal.τ).loc Cert.LstmIdeal.main_arg2)
          ∧ r.2.mem ((c.tc : Thread Cert.LstmIdeal.nD Cert.LstmIdeal.τ).loc Cert.LstmIdeal.main_arg3) = m ((c.tc : Thread Cert.LstmIdeal.nD Cert.LstmIdeal.τ).loc Cert.LstmIdeal.main_arg3)
          ∧ r.2.mem ((c.tc : Thread Cert.LstmIdeal.nD Cert.LstmIdeal.τ).loc Cert.LstmIdeal.main_arg4) = m ((c.tc : Thread Cert.LstmIdeal.nD Cert.LstmIdeal.τ).loc Cert.LstmIdeal.main_arg4)
          ∧ r.2.mem ((c.tc : Thread Cert.LstmIdeal.nD Cert.LstmIdeal.τ).loc Cert.LstmIdeal.main_arg5) = m ((c.tc : Thread Cert.LstmIdeal.nD Cert.LstmIdeal.τ).loc Cert.LstmIdeal.main_arg5)
          ∧ r.2.mem ((c.tc : Thread Cert.LstmIdeal.nD Cert.LstmIdeal.τ).loc Cert.LstmIdeal.main_arg6) = m ((c.tc : Thread Cert.LstmIdeal.nD Cert.LstmIdeal.τ).loc Cert.LstmIdeal.main_arg6))
      ∧ θ_run (Cert.LstmReferenceIdeal.defs (F := Ideal)) (onTc (τ := Cert.LstmReferenceIdeal.τ) (Cert.LstmReferenceIdeal.main (F := Ideal))) ⟨m', fun _ => 0, g'⟩ (fun r => ∀ c : Dev Cert.LstmReferenceIdeal.nD,
          r.2.mem ((c.tc : Thread Cert.LstmReferenceIdeal.nD Cert.LstmReferenceIdeal.τ).loc Cert.LstmReferenceIdeal.main_v93) = v0 c
          ∧ r.2.mem ((c.tc : Thread Cert.LstmReferenceIdeal.nD Cert.LstmReferenceIdeal.τ).loc Cert.LstmReferenceIdeal.main_arg0) = m' ((c.tc : Thread Cert.LstmReferenceIdeal.nD Cert.LstmReferenceIdeal.τ).loc Cert.LstmReferenceIdeal.main_arg0)
          ∧ r.2.mem ((c.tc : Thread Cert.LstmReferenceIdeal.nD Cert.LstmReferenceIdeal.τ).loc Cert.LstmReferenceIdeal.main_arg1) = m' ((c.tc : Thread Cert.LstmReferenceIdeal.nD Cert.LstmReferenceIdeal.τ).loc Cert.LstmReferenceIdeal.main_arg1)
          ∧ r.2.mem ((c.tc : Thread Cert.LstmReferenceIdeal.nD Cert.LstmReferenceIdeal.τ).loc Cert.LstmReferenceIdeal.main_arg2) = m' ((c.tc : Thread Cert.LstmReferenceIdeal.nD Cert.LstmReferenceIdeal.τ).loc Cert.LstmReferenceIdeal.main_arg2)
          ∧ r.2.mem ((c.tc : Thread Cert.LstmReferenceIdeal.nD Cert.LstmReferenceIdeal.τ).loc Cert.LstmReferenceIdeal.main_arg3) = m' ((c.tc : Thread Cert.LstmReferenceIdeal.nD Cert.LstmReferenceIdeal.τ).loc Cert.LstmReferenceIdeal.main_arg3)
          ∧ r.2.mem ((c.tc : Thread Cert.LstmReferenceIdeal.nD Cert.LstmReferenceIdeal.τ).loc Cert.LstmReferenceIdeal.main_arg4) = m' ((c.tc : Thread Cert.LstmReferenceIdeal.nD Cert.LstmReferenceIdeal.τ).loc Cert.LstmReferenceIdeal.main_arg4)
          ∧ r.2.mem ((c.tc : Thread Cert.LstmReferenceIdeal.nD Cert.LstmReferenceIdeal.τ).loc Cert.LstmReferenceIdeal.main_arg5) = m' ((c.tc : Thread Cert.LstmReferenceIdeal.nD Cert.LstmReferenceIdeal.τ).loc Cert.LstmReferenceIdeal.main_arg5)
          ∧ r.2.mem ((c.tc : Thread Cert.LstmReferenceIdeal.nD Cert.LstmReferenceIdeal.τ).loc Cert.LstmReferenceIdeal.main_arg6) = m' ((c.tc : Thread Cert.LstmReferenceIdeal.nD Cert.LstmReferenceIdeal.τ).loc Cert.LstmReferenceIdeal.main_arg6))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v3)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v3) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v6) = v0 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2))

def Claim : Prop :=
  ∃ (hKernel : Cert.Kernel.Facts) (hKernelIdeal : Cert.KernelIdeal.Facts) (hReferenceIdeal : Cert.ReferenceIdeal.Facts) (hLstm : Cert.Lstm.Facts) (hLstmIdeal : Cert.LstmIdeal.Facts) (hLstmReferenceIdeal : Cert.LstmReferenceIdeal.Facts) (hProj : Cert.Proj.Facts) (hProjIdeal : Cert.ProjIdeal.Facts) (hProjReferenceIdeal : Cert.ProjReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ quiescent_Lstm (hLstm := hLstm)
    ∧ quiescent_LstmIdeal (hLstmIdeal := hLstmIdeal)
    ∧ quiescent_LstmReferenceIdeal (hLstmReferenceIdeal := hLstmReferenceIdeal)
    ∧ quiescent_Proj (hProj := hProj)
    ∧ quiescent_ProjIdeal (hProjIdeal := hProjIdeal)
    ∧ quiescent_ProjReferenceIdeal (hProjReferenceIdeal := hProjReferenceIdeal)
    ∧ preserves_Kernel_KernelIdeal
    ∧ algebraic_KernelIdeal_ReferenceIdeal (hKernelIdeal := hKernelIdeal) (hReferenceIdeal := hReferenceIdeal) (hPre_in_range := hPre_in_range)
    ∧ preserves_Lstm_LstmIdeal
    ∧ algebraic_LstmIdeal_LstmReferenceIdeal (hLstmIdeal := hLstmIdeal) (hLstmReferenceIdeal := hLstmReferenceIdeal)
    ∧ preserves_Proj_ProjIdeal
    ∧ algebraic_ProjIdeal_ProjReferenceIdeal (hProjIdeal := hProjIdeal) (hProjReferenceIdeal := hProjReferenceIdeal)
-- ==== Pre_in_range.lean ====
abbrev S1024x20x4 : Shape := ⟨3, ![1024, 20, 4]⟩
abbrev S1000x16 : Shape := ⟨2, ![1000, 16]⟩
abbrev S_ : Shape := ⟨0, ![]⟩

class Facts : Prop where
  bcast_S_S1024x20x4 : S_.BroadcastsInDim S1024x20x4 (![] : Fin 0 → Fin S1024x20x4.rank)
  reducesTo_S1024x20x4_S_d0_1_2 : S1024x20x4.ReducesTo [0, 1, 2] S_
  h_S_ : 0 < S_.numel

variable [Facts]

def fn {F : FTy → Type} [FloatOps F] (main_arg0 : IVec S1024x20x4 32) (main_arg1 : FVec F S1000x16 .f32) (main_arg2 : FVec F S1000x16 .f32) (main_arg3 : FVec F S1000x16 .f32) (main_arg4 : FVec F S1000x16 .f32) : IVec S_ 1 :=
  let main_c : IVec S_ 32 := constantI S_ 32 0#32
  let main_v0 : IVec S1024x20x4 32 := broadcastInDim S1024x20x4 ![] bcast_S_S1024x20x4 main_c
  let main_v1 : IVec S1024x20x4 1 := cmpi .sge main_arg0 main_v0
  let main_c_0 : IVec S_ 32 := constantI S_ 32 1000#32
  let main_v2 : IVec S1024x20x4 32 := broadcastInDim S1024x20x4 ![] bcast_S_S1024x20x4 main_c_0
  let main_v3 : IVec S1024x20x4 1 := cmpi .slt main_arg0 main_v2
  let main_v4 : IVec S1024x20x4 1 := andi main_v1 main_v3
  let main_c_1 : IVec S_ 1 := constantI S_ 1 1#1
  let main_v5 : IVec S_ 1 := (fun x v => Host.reduce IntOp.andi x v reducesTo_S1024x20x4_S_d0_1_2 h_S_) main_v4 main_c_1
  main_v5
-- ==== Kernel.lean ====
abbrev S1024x20x4 : Shape := ⟨3, ![1024, 20, 4]⟩
abbrev S1000x16 : Shape := ⟨2, ![1000, 16]⟩
abbrev S4000x16 : Shape := ⟨2, ![4000, 16]⟩
abbrev S4 : Shape := ⟨1, ![4]⟩
abbrev S_ : Shape := ⟨0, ![]⟩
abbrev S20x1024x4 : Shape := ⟨3, ![20, 1024, 4]⟩
abbrev S1x1x4 : Shape := ⟨3, ![1, 1, 4]⟩
abbrev S81920 : Shape := ⟨1, ![81920]⟩
abbrev S81920x16 : Shape := ⟨2, ![81920, 16]⟩
abbrev S2560 : Shape := ⟨1, ![2560]⟩
abbrev S2560x16 : Shape := ⟨2, ![2560, 16]⟩

abbrev nBuf : Table → Nat
  | .hbm => 16
  | .local .scVector .vmem => 2
  | _ => 0

abbrev bufTy : (tb : Table) → Fin (nBuf tb) → BufTy
  | .hbm, ⟨0, _⟩ => ⟨S1024x20x4, .i32⟩
  | .hbm, ⟨1, _⟩ => ⟨S1000x16, .f32⟩
  | .hbm, ⟨2, _⟩ => ⟨S1000x16, .f32⟩
  | .hbm, ⟨3, _⟩ => ⟨S1000x16, .f32⟩
  | .hbm, ⟨4, _⟩ => ⟨S1000x16, .f32⟩
  | .hbm, ⟨5, _⟩ => ⟨S4000x16, .f32⟩
  | .hbm, ⟨6, _⟩ => ⟨S4, .i32⟩
  | .hbm, ⟨7, _⟩ => ⟨S_, .i32⟩
  | .hbm, ⟨8, _⟩ => ⟨S4, .i32⟩
  | .hbm, ⟨9, _⟩ => ⟨S4, .i32⟩
  | .hbm, ⟨10, _⟩ => ⟨S20x1024x4, .i32⟩
  | .hbm, ⟨11, _⟩ => ⟨S1x1x4, .i32⟩
  | .hbm, ⟨12, _⟩ => ⟨S20x1024x4, .i32⟩
  | .hbm, ⟨13, _⟩ => ⟨S20x1024x4, .i32⟩
  | .hbm, ⟨14, _⟩ => ⟨S81920, .i32⟩
  | .hbm, ⟨15, _⟩ => ⟨S81920x16, .f32⟩
  | .local .scVector .vmem, ⟨0, _⟩ => ⟨S2560, .i32⟩
  | .local .scVector .vmem, ⟨1, _⟩ => ⟨S2560x16, .f32⟩
  | _, _ => ⟨S1024x20x4, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v0_scv : Ref sig .scVector := ⟨.hbm, 5, rfl⟩
abbrev main_v8_scv : Ref sig .scVector := ⟨.hbm, 14, rfl⟩
abbrev main_v9_scv : Ref sig .scVector := ⟨.hbm, 15, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2560_i32 : BitVec 32 := 2560#32
  let v2 : BitVec 32 := Scalar.muli v1 c2560_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2560_i32 : BitVec 32 := 2560#32
  let v2 : BitVec 32 := Scalar.muli v1 c2560_i32
  let c0_i32_3_r1 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1024x20x4 : Shape := ⟨3, ![1024, 20, 4]⟩
abbrev S1000x16 : Shape := ⟨2, ![1000, 16]⟩
abbrev S1024x20x1 : Shape := ⟨3, ![1024, 20, 1]⟩
abbrev S1024x20 : Shape := ⟨2, ![1024, 20]⟩
abbrev S_ : Shape := ⟨0, ![]⟩
abbrev S1024x20x16 : Shape := ⟨3, ![1024, 20, 16]⟩
abbrev S1024x20x64 : Shape := ⟨3, ![1024, 20, 64]⟩
abbrev S20x1024x64 : Shape := ⟨3, ![20, 1024, 64]⟩
abbrev S81920x16 : Shape := ⟨2, ![81920, 16]⟩

abbrev nBuf : Space → Nat
  | .hbm => 52
  | .vmem => 0
  | .smem => 0
  | _ => 0

abbrev bufTy : (tb : Table) → Fin (tcTables nBuf tb) → BufTy
  | .hbm, ⟨0, _⟩ => ⟨S1024x20x4, .i32⟩
  | .hbm, ⟨1, _⟩ => ⟨S1000x16, .f32⟩
  | .hbm, ⟨2, _⟩ => ⟨S1000x16, .f32⟩
  | .hbm, ⟨3, _⟩ => ⟨S1000x16, .f32⟩
  | .hbm, ⟨4, _⟩ => ⟨S1000x16, .f32⟩
  | .hbm, ⟨5, _⟩ => ⟨S1024x20x1, .i32⟩
  | .hbm, ⟨6, _⟩ => ⟨S1024x20, .i32⟩
  | .hbm, ⟨7, _⟩ => ⟨S_, .i32⟩
  | .hbm, ⟨8, _⟩ => ⟨S1024x20, .i32⟩
  | .hbm, ⟨9, _⟩ => ⟨S1024x20, .i1⟩
  | .hbm, ⟨10, _⟩ => ⟨S_, .i32⟩
  | .hbm, ⟨11, _⟩ => ⟨S1024x20, .i32⟩
  | .hbm, ⟨12, _⟩ => ⟨S1024x20, .i32⟩
  | .hbm, ⟨13, _⟩ => ⟨S1024x20, .i32⟩
  | .hbm, ⟨14, _⟩ => ⟨S1024x20x1, .i32⟩
  | .hbm, ⟨15, _⟩ => ⟨S1024x20x16, .f32⟩
  | .hbm, ⟨16, _⟩ => ⟨S1024x20x1, .i32⟩
  | .hbm, ⟨17, _⟩ => ⟨S1024x20, .i32⟩
  | .hbm, ⟨18, _⟩ => ⟨S_, .i32⟩
  | .hbm, ⟨19, _⟩ => ⟨S1024x20, .i32⟩
  | .hbm, ⟨20, _⟩ => ⟨S1024x20, .i1⟩
  | .hbm, ⟨21, _⟩ => ⟨S_, .i32⟩
  | .hbm, ⟨22, _⟩ => ⟨S1024x20, .i32⟩
  | .hbm, ⟨23, _⟩ => ⟨S1024x20, .i32⟩
  | .hbm, ⟨24, _⟩ => ⟨S1024x20, .i32⟩
  | .hbm, ⟨25, _⟩ => ⟨S1024x20x1, .i32⟩
  | .hbm, ⟨26, _⟩ => ⟨S1024x20x16, .f32⟩
  | .hbm, ⟨27, _⟩ => ⟨S1024x20x1, .i32⟩
  | .hbm, ⟨28, _⟩ => ⟨S1024x20, .i32⟩
  | .hbm, ⟨29, _⟩ => ⟨S_, .i32⟩
  | .hbm, ⟨30, _⟩ => ⟨S1024x20, .i32⟩
  | .hbm, ⟨31, _⟩ => ⟨S1024x20, .i1⟩
  | .hbm, ⟨32, _⟩ => ⟨S_, .i32⟩
  | .hbm, ⟨33, _⟩ => ⟨S1024x20, .i32⟩
  | .hbm, ⟨34, _⟩ => ⟨S1024x20, .i32⟩
  | .hbm, ⟨35, _⟩ => ⟨S1024x20, .i32⟩
  | .hbm, ⟨36, _⟩ => ⟨S1024x20x1, .i32⟩
  | .hbm, ⟨37, _⟩ => ⟨S1024x20x16, .f32⟩
  | .hbm, ⟨38, _⟩ => ⟨S1024x20x1, .i32⟩
  | .hbm, ⟨39, _⟩ => ⟨S1024x20, .i32⟩
  | .hbm, ⟨40, _⟩ => ⟨S_, .i32⟩
  | .hbm, ⟨41, _⟩ => ⟨S1024x20, .i32⟩
  | .hbm, ⟨42, _⟩ => ⟨S1024x20, .i1⟩
  | .hbm, ⟨43, _⟩ => ⟨S_, .i32⟩
  | .hbm, ⟨44, _⟩ => ⟨S1024x20, .i32⟩
  | .hbm, ⟨45, _⟩ => ⟨S1024x20, .i32⟩
  | .hbm, ⟨46, _⟩ => ⟨S1024x20, .i32⟩
  | .hbm, ⟨47, _⟩ => ⟨S1024x20x1, .i32⟩
  | .hbm, ⟨48, _⟩ => ⟨S1024x20x16, .f32⟩
  | .hbm, ⟨49, _⟩ => ⟨S1024x20x64, .f32⟩
  | .hbm, ⟨50, _⟩ => ⟨S20x1024x64, .f32⟩
  | .hbm, ⟨51, _⟩ => ⟨S81920x16, .f32⟩
  | _, _ => ⟨S1024x20x4, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_3 : Ref sig .tc := ⟨.hbm, 29, rfl⟩
abbrev main_v20 : Ref sig .tc := ⟨.hbm, 30, rfl⟩
abbrev main_v21 : Ref sig .tc := ⟨.hbm, 31, rfl⟩
abbrev main_c_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_c_5 : Ref sig .tc := ⟨.hbm, 40, rfl⟩
abbrev main_v29 : Ref sig .tc := ⟨.hbm, 41, rfl⟩
abbrev main_v30 : Ref sig .tc := ⟨.hbm, 42, rfl⟩
abbrev main_c_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Lstm.lean ====
abbrev S20x1024x64 : Shape := ⟨3, ![20, 1024, 64]⟩
abbrev S3x2x128x64 : Shape := ⟨4, ![3, 2, 128, 64]⟩
abbrev S3x2x128x32 : Shape := ⟨4, ![3, 2, 128, 32]⟩
abbrev S3x2x128 : Shape := ⟨3, ![3, 2, 128]⟩
abbrev S4000x64 : Shape := ⟨2, ![4000, 64]⟩
abbrev S4000 : Shape := ⟨1, ![4000]⟩
abbrev S_ : Shape := ⟨0, ![]⟩
abbrev S256x192 : Shape := ⟨2, ![256, 192]⟩
abbrev S256 : Shape := ⟨1, ![256]⟩
abbrev S1x1x128x64 : Shape := ⟨4, ![1, 1, 128, 64]⟩
abbrev S128x64 : Shape := ⟨2, ![128, 64]⟩
abbrev S32x64 : Shape := ⟨2, ![32, 64]⟩
abbrev S1 : Shape := ⟨1, ![1]⟩
abbrev S2 : Shape := ⟨1, ![2]⟩
abbrev S1x1x128x32 : Shape := ⟨4, ![1, 1, 128, 32]⟩
abbrev S128x32 : Shape := ⟨2, ![128, 32]⟩
abbrev S32x32 : Shape := ⟨2, ![32, 32]⟩
abbrev S1x1x128 : Shape := ⟨3, ![1, 1, 128]⟩
abbrev S128 : Shape := ⟨1, ![128]⟩
abbrev S32 : Shape := ⟨1, ![32]⟩
abbrev S256x1 : Shape := ⟨2, ![256, 1]⟩
abbrev S1x256x192 : Shape := ⟨3, ![1, 256, 192]⟩
abbrev S3x256x192 : Shape := ⟨3, ![3, 256, 192]⟩
abbrev S1x256x1 : Shape := ⟨3, ![1, 256, 1]⟩
abbrev S3x256x1 : Shape := ⟨3, ![3, 256, 1]⟩
abbrev S20x64x1024 : Shape := ⟨3, ![20, 64, 1024]⟩
abbrev S64x1024 : Shape := ⟨2, ![64, 1024]⟩
abbrev S1x256x64 : Shape := ⟨3, ![1, 256, 64]⟩
abbrev S256x64 : Shape := ⟨2, ![256, 64]⟩
abbrev S1x1024x64 : Shape := ⟨3, ![1, 1024, 64]⟩
abbrev S1024x64 : Shape := ⟨2, ![1024, 64]⟩
abbrev S256x1024 : Shape := ⟨2, ![256, 1024]⟩
abbrev S32x1024 : Shape := ⟨2, ![32, 1024]⟩
abbrev S1x32x1024 : Shape := ⟨3, ![1, 32, 1024]⟩
abbrev S1x64x1024 : Shape := ⟨3, ![1, 64, 1024]⟩
abbrev S4x1000x64 : Shape := ⟨3, ![4, 1000, 64]⟩
abbrev S4x64x1000 : Shape := ⟨3, ![4, 64, 1000]⟩
abbrev S4x1x1000 : Shape := ⟨3, ![4, 1, 1000]⟩
abbrev S1024x20x4x1000 : Shape := ⟨4, ![1024, 20, 4, 1000]⟩
abbrev S1024x1x4x1000 : Shape := ⟨4, ![1024, 1, 4, 1000]⟩
abbrev S1x64x1000 : Shape := ⟨3, ![1, 64, 1000]⟩
abbrev S64x1000 : Shape := ⟨2, ![64, 1000]⟩
abbrev S1024x1000 : Shape := ⟨2, ![1024, 1000]⟩
abbrev S1x1x1000 : Shape := ⟨3, ![1, 1, 1000]⟩
abbrev S1x1000 : Shape := ⟨2, ![1, 1000]⟩
abbrev S1024x1x1x1000 : Shape := ⟨4, ![1024, 1, 1, 1000]⟩

abbrev nBuf : Space → Nat
  | .hbm => 707
  | .vmem => 14
  | .smem => 0
  | _ => 0

abbrev hbmTy0_0 (i : Nat) : BufTy := match i % 128 with
  | 0 => ⟨S20x1024x64, .f32⟩
  | 1 => ⟨S3x2x128x64, .f32⟩
  | 2 => ⟨S3x2x128x32, .f32⟩
  | 3 => ⟨S3x2x128, .f32⟩
  | 4 => ⟨S3x2x128, .f32⟩
  | 5 => ⟨S4000x64, .f32⟩
  | 6 => ⟨S4000, .f32⟩
  | 7 => ⟨S_, .f32⟩
  | 8 => ⟨S256x192, .f32⟩
  | 9 => ⟨S_, .f32⟩
  | 10 => ⟨S256, .f32⟩
  | 11 => ⟨S1x1x128x64, .f32⟩
  | 12 => ⟨S128x64, .f32⟩
  | 13 => ⟨S32x64, .f32⟩
  | 14 => ⟨S_, .i32⟩
  | 15 => ⟨S1, .i32⟩
  | 16 => ⟨S_, .i32⟩
  | 17 => ⟨S1, .i32⟩
  | 18 => ⟨S2, .i32⟩
  | 19 => ⟨S256x192, .f32⟩
  | 20 => ⟨S1x1x128x32, .f32⟩
  | 21 => ⟨S128x32, .f32⟩
  | 22 => ⟨S32x32, .f32⟩
  | 23 => ⟨S_, .i32⟩
  | 24 => ⟨S1, .i32⟩
  | 25 => ⟨S_, .i32⟩
  | 26 => ⟨S1, .i32⟩
  | 27 => ⟨S2, .i32⟩
  | 28 => ⟨S256x192, .f32⟩
  | 29 => ⟨S1x1x128, .f32⟩
  | 30 => ⟨S128, .f32⟩
  | 31 => ⟨S32, .f32⟩
  | 32 => ⟨S1x1x128, .f32⟩
  | 33 => ⟨S128, .f32⟩
  | 34 => ⟨S32, .f32⟩
  | 35 => ⟨S32, .f32⟩
  | 36 => ⟨S_, .i32⟩
  | 37 => ⟨S1, .i32⟩
  | 38 => ⟨S256, .f32⟩
  | 39 => ⟨S1x1x128x64, .f32⟩
  | 40 => ⟨S128x64, .f32⟩
  | 41 => ⟨S32x64, .f32⟩
  | 42 => ⟨S_, .i32⟩
  | 43 => ⟨S1, .i32⟩
  | 44 => ⟨S_, .i32⟩
  | 45 => ⟨S1, .i32⟩
  | 46 => ⟨S2, .i32⟩
  | 47 => ⟨S256x192, .f32⟩
  | 48 => ⟨S1x1x128x32, .f32⟩
  | 49 => ⟨S128x32, .f32⟩
  | 50 => ⟨S32x32, .f32⟩
  | 51 => ⟨S_, .i32⟩
  | 52 => ⟨S1, .i32⟩
  | 53 => ⟨S_, .i32⟩
  | 54 => ⟨S1, .i32⟩
  | 55 => ⟨S2, .i32⟩
  | 56 => ⟨S256x192, .f32⟩
  | 57 => ⟨S1x1x128, .f32⟩
  | 58 => ⟨S128, .f32⟩
  | 59 => ⟨S32, .f32⟩
  | 60 => ⟨S1x1x128, .f32⟩
  | 61 => ⟨S128, .f32⟩
  | 62 => ⟨S32, .f32⟩
  | 63 => ⟨S32, .f32⟩
  | 64 => ⟨S_, .i32⟩
  | 65 => ⟨S1, .i32⟩
  | 66 => ⟨S256, .f32⟩
  | 67 => ⟨S1x1x128x64, .f32⟩
  | 68 => ⟨S128x64, .f32⟩
  | 69 => ⟨S32x64, .f32⟩
  | 70 => ⟨S_, .i32⟩
  | 71 => ⟨S1, .i32⟩
  | 72 => ⟨S_, .i32⟩
  | 73 => ⟨S1, .i32⟩
  | 74 => ⟨S2, .i32⟩
  | 75 => ⟨S256x192, .f32⟩
  | 76 => ⟨S1x1x128x32, .f32⟩
  | 77 => ⟨S128x32, .f32⟩
  | 78 => ⟨S32x32, .f32⟩
  | 79 => ⟨S_, .i32⟩
  | 80 => ⟨S1, .i32⟩
  | 81 => ⟨S_, .i32⟩
  | 82 => ⟨S1, .i32⟩
  | 83 => ⟨S2, .i32⟩
  | 84 => ⟨S256x192, .f32⟩
  | 85 => ⟨S1x1x128, .f32⟩
  | 86 => ⟨S128, .f32⟩
  | 87 => ⟨S32, .f32⟩
  | 88 => ⟨S1x1x128, .f32⟩
  | 89 => ⟨S128, .f32⟩
  | 90 => ⟨S32, .f32⟩
  | 91 => ⟨S32, .f32⟩
  | 92 => ⟨S_, .i32⟩
  | 93 => ⟨S1, .i32⟩
  | 94 => ⟨S256, .f32⟩
  | 95 => ⟨S1x1x128x64, .f32⟩
  | 96 => ⟨S128x64, .f32⟩
  | 97 => ⟨S32x64, .f32⟩
  | 98 => ⟨S_, .i32⟩
  | 99 => ⟨S1, .i32⟩
  | 100 => ⟨S_, .i32⟩
  | 101 => ⟨S1, .i32⟩
  | 102 => ⟨S2, .i32⟩
  | 103 => ⟨S256x192, .f32⟩
  | 104 => ⟨S1x1x128x32, .f32⟩
  | 105 => ⟨S128x32, .f32⟩
  | 106 => ⟨S32x32, .f32⟩
  | 107 => ⟨S_, .i32⟩
  | 108 => ⟨S1, .i32⟩
  | 109 => ⟨S_, .i32⟩
  | 110 => ⟨S1, .i32⟩
  | 111 => ⟨S2, .i32⟩
  | 112 => ⟨S256x192, .f32⟩
  | 113 => ⟨S1x1x128, .f32⟩
  | 114 => ⟨S128, .f32⟩
  | 115 => ⟨S32, .f32⟩
  | 116 => ⟨S1x1x128, .f32⟩
  | 117 => ⟨S128, .f32⟩
  | 118 => ⟨S32, .f32⟩
  | 119 => ⟨S32, .f32⟩
  | 120 => ⟨S_, .i32⟩
  | 121 => ⟨S1, .i32⟩
  | 122 => ⟨S256, .f32⟩
  | 123 => ⟨S1x1x128x64, .f32⟩
  | 124 => ⟨S128x64, .f32⟩
  | 125 => ⟨S32x64, .f32⟩
  | 126 => ⟨S_, .i32⟩
  | 127 => ⟨S1, .i32⟩
  | _ => ⟨S20x1024x64, .f32⟩

abbrev hbmTy0_1 (i : Nat) : BufTy := match i % 128 with
  | 0 => ⟨S_, .i32⟩
  | 1 => ⟨S1, .i32⟩
  | 2 => ⟨S2, .i32⟩
  | 3 => ⟨S256x192, .f32⟩
  | 4 => ⟨S1x1x128x32, .f32⟩
  | 5 => ⟨S128x32, .f32⟩
  | 6 => ⟨S32x32, .f32⟩
  | 7 => ⟨S_, .i32⟩
  | 8 => ⟨S1, .i32⟩
  | 9 => ⟨S_, .i32⟩
  | 10 => ⟨S1, .i32⟩
  | 11 => ⟨S2, .i32⟩
  | 12 => ⟨S256x192, .f32⟩
  | 13 => ⟨S1x1x128, .f32⟩
  | 14 => ⟨S128, .f32⟩
  | 15 => ⟨S32, .f32⟩
  | 16 => ⟨S1x1x128, .f32⟩
  | 17 => ⟨S128, .f32⟩
  | 18 => ⟨S32, .f32⟩
  | 19 => ⟨S32, .f32⟩
  | 20 => ⟨S_, .i32⟩
  | 21 => ⟨S1, .i32⟩
  | 22 => ⟨S256, .f32⟩
  | 23 => ⟨S1x1x128x64, .f32⟩
  | 24 => ⟨S128x64, .f32⟩
  | 25 => ⟨S32x64, .f32⟩
  | 26 => ⟨S_, .i32⟩
  | 27 => ⟨S1, .i32⟩
  | 28 => ⟨S_, .i32⟩
  | 29 => ⟨S1, .i32⟩
  | 30 => ⟨S2, .i32⟩
  | 31 => ⟨S256x192, .f32⟩
  | 32 => ⟨S1x1x128x32, .f32⟩
  | 33 => ⟨S128x32, .f32⟩
  | 34 => ⟨S32x32, .f32⟩
  | 35 => ⟨S_, .i32⟩
  | 36 => ⟨S1, .i32⟩
  | 37 => ⟨S_, .i32⟩
  | 38 => ⟨S1, .i32⟩
  | 39 => ⟨S2, .i32⟩
  | 40 => ⟨S256x192, .f32⟩
  | 41 => ⟨S1x1x128, .f32⟩
  | 42 => ⟨S128, .f32⟩
  | 43 => ⟨S32, .f32⟩
  | 44 => ⟨S1x1x128, .f32⟩
  | 45 => ⟨S128, .f32⟩
  | 46 => ⟨S32, .f32⟩
  | 47 => ⟨S32, .f32⟩
  | 48 => ⟨S_, .i32⟩
  | 49 => ⟨S1, .i32⟩
  | 50 => ⟨S256, .f32⟩
  | 51 => ⟨S1x1x128x64, .f32⟩
  | 52 => ⟨S128x64, .f32⟩
  | 53 => ⟨S32x64, .f32⟩
  | 54 => ⟨S_, .i32⟩
  | 55 => ⟨S1, .i32⟩
  | 56 => ⟨S_, .i32⟩
  | 57 => ⟨S1, .i32⟩
  | 58 => ⟨S2, .i32⟩
  | 59 => ⟨S256x192, .f32⟩
  | 60 => ⟨S1x1x128x32, .f32⟩
  | 61 => ⟨S128x32, .f32⟩
  | 62 => ⟨S32x32, .f32⟩
  | 63 => ⟨S_, .i32⟩
  | 64 => ⟨S1, .i32⟩
  | 65 => ⟨S_, .i32⟩
  | 66 => ⟨S1, .i32⟩
  | 67 => ⟨S2, .i32⟩
  | 68 => ⟨S256x192, .f32⟩
  | 69 => ⟨S1x1x128, .f32⟩
  | 70 => ⟨S128, .f32⟩
  | 71 => ⟨S32, .f32⟩
  | 72 => ⟨S1x1x128, .f32⟩
  | 73 => ⟨S128, .f32⟩
  | 74 => ⟨S32, .f32⟩
  | 75 => ⟨S32, .f32⟩
  | 76 => ⟨S_, .i32⟩
  | 77 => ⟨S1, .i32⟩
  | 78 => ⟨S256, .f32⟩
  | 79 => ⟨S1x1x128x64, .f32⟩
  | 80 => ⟨S128x64, .f32⟩
  | 81 => ⟨S32x64, .f32⟩
  | 82 => ⟨S_, .i32⟩
  | 83 => ⟨S1, .i32⟩
  | 84 => ⟨S_, .i32⟩
  | 85 => ⟨S1, .i32⟩
  | 86 => ⟨S2, .i32⟩
  | 87 => ⟨S256x192, .f32⟩
  | 88 => ⟨S1x1x128x32, .f32⟩
  | 89 => ⟨S128x32, .f32⟩
  | 90 => ⟨S32x32, .f32⟩
  | 91 => ⟨S_, .i32⟩
  | 92 => ⟨S1, .i32⟩
  | 93 => ⟨S_, .i32⟩
  | 94 => ⟨S1, .i32⟩
  | 95 => ⟨S2, .i32⟩
  | 96 => ⟨S256x192, .f32⟩
  | 97 => ⟨S1x1x128, .f32⟩
  | 98 => ⟨S128, .f32⟩
  | 99 => ⟨S32, .f32⟩
  | 100 => ⟨S1x1x128, .f32⟩
  | 101 => ⟨S128, .f32⟩
  | 102 => ⟨S32, .f32⟩
  | 103 => ⟨S32, .f32⟩
  | 104 => ⟨S_, .i32⟩
  | 105 => ⟨S1, .i32⟩
  | 106 => ⟨S256, .f32⟩
  | 107 => ⟨S256x1, .f32⟩
  | 108 => ⟨S_, .f32⟩
  | 109 => ⟨S256x192, .f32⟩
  | 110 => ⟨S_, .f32⟩
  | 111 => ⟨S256, .f32⟩
  | 112 => ⟨S1x1x128x64, .f32⟩
  | 113 => ⟨S128x64, .f32⟩
  | 114 => ⟨S32x64, .f32⟩
  | 115 => ⟨S_, .i32⟩
  | 116 => ⟨S1, .i32⟩
  | 117 => ⟨S_, .i32⟩
  | 118 => ⟨S1, .i32⟩
  | 119 => ⟨S2, .i32⟩
  | 120 => ⟨S256x192, .f32⟩
  | 121 => ⟨S1x1x128x32, .f32⟩
  | 122 => ⟨S128x32, .f32⟩
  | 123 => ⟨S32x32, .f32⟩
  | 124 => ⟨S_, .i32⟩
  | 125 => ⟨S1, .i32⟩
  | 126 => ⟨S_, .i32⟩
  | 127 => ⟨S1, .i32⟩
  | _ => ⟨S20x1024x64, .f32⟩

abbrev hbmTy0_2 (i : Nat) : BufTy := match i % 128 with
  | 0 => ⟨S2, .i32⟩
  | 1 => ⟨S256x192, .f32⟩
  | 2 => ⟨S1x1x128, .f32⟩
  | 3 => ⟨S128, .f32⟩
  | 4 => ⟨S32, .f32⟩
  | 5 => ⟨S1x1x128, .f32⟩
  | 6 => ⟨S128, .f32⟩
  | 7 => ⟨S32, .f32⟩
  | 8 => ⟨S32, .f32⟩
  | 9 => ⟨S_, .i32⟩
  | 10 => ⟨S1, .i32⟩
  | 11 => ⟨S256, .f32⟩
  | 12 => ⟨S1x1x128x64, .f32⟩
  | 13 => ⟨S128x64, .f32⟩
  | 14 => ⟨S32x64, .f32⟩
  | 15 => ⟨S_, .i32⟩
  | 16 => ⟨S1, .i32⟩
  | 17 => ⟨S_, .i32⟩
  | 18 => ⟨S1, .i32⟩
  | 19 => ⟨S2, .i32⟩
  | 20 => ⟨S256x192, .f32⟩
  | 21 => ⟨S1x1x128x32, .f32⟩
  | 22 => ⟨S128x32, .f32⟩
  | 23 => ⟨S32x32, .f32⟩
  | 24 => ⟨S_, .i32⟩
  | 25 => ⟨S1, .i32⟩
  | 26 => ⟨S_, .i32⟩
  | 27 => ⟨S1, .i32⟩
  | 28 => ⟨S2, .i32⟩
  | 29 => ⟨S256x192, .f32⟩
  | 30 => ⟨S1x1x128, .f32⟩
  | 31 => ⟨S128, .f32⟩
  | 32 => ⟨S32, .f32⟩
  | 33 => ⟨S1x1x128, .f32⟩
  | 34 => ⟨S128, .f32⟩
  | 35 => ⟨S32, .f32⟩
  | 36 => ⟨S32, .f32⟩
  | 37 => ⟨S_, .i32⟩
  | 38 => ⟨S1, .i32⟩
  | 39 => ⟨S256, .f32⟩
  | 40 => ⟨S1x1x128x64, .f32⟩
  | 41 => ⟨S128x64, .f32⟩
  | 42 => ⟨S32x64, .f32⟩
  | 43 => ⟨S_, .i32⟩
  | 44 => ⟨S1, .i32⟩
  | 45 => ⟨S_, .i32⟩
  | 46 => ⟨S1, .i32⟩
  | 47 => ⟨S2, .i32⟩
  | 48 => ⟨S256x192, .f32⟩
  | 49 => ⟨S1x1x128x32, .f32⟩
  | 50 => ⟨S128x32, .f32⟩
  | 51 => ⟨S32x32, .f32⟩
  | 52 => ⟨S_, .i32⟩
  | 53 => ⟨S1, .i32⟩
  | 54 => ⟨S_, .i32⟩
  | 55 => ⟨S1, .i32⟩
  | 56 => ⟨S2, .i32⟩
  | 57 => ⟨S256x192, .f32⟩
  | 58 => ⟨S1x1x128, .f32⟩
  | 59 => ⟨S128, .f32⟩
  | 60 => ⟨S32, .f32⟩
  | 61 => ⟨S1x1x128, .f32⟩
  | 62 => ⟨S128, .f32⟩
  | 63 => ⟨S32, .f32⟩
  | 64 => ⟨S32, .f32⟩
  | 65 => ⟨S_, .i32⟩
  | 66 => ⟨S1, .i32⟩
  | 67 => ⟨S256, .f32⟩
  | 68 => ⟨S1x1x128x64, .f32⟩
  | 69 => ⟨S128x64, .f32⟩
  | 70 => ⟨S32x64, .f32⟩
  | 71 => ⟨S_, .i32⟩
  | 72 => ⟨S1, .i32⟩
  | 73 => ⟨S_, .i32⟩
  | 74 => ⟨S1, .i32⟩
  | 75 => ⟨S2, .i32⟩
  | 76 => ⟨S256x192, .f32⟩
  | 77 => ⟨S1x1x128x32, .f32⟩
  | 78 => ⟨S128x32, .f32⟩
  | 79 => ⟨S32x32, .f32⟩
  | 80 => ⟨S_, .i32⟩
  | 81 => ⟨S1, .i32⟩
  | 82 => ⟨S_, .i32⟩
  | 83 => ⟨S1, .i32⟩
  | 84 => ⟨S2, .i32⟩
  | 85 => ⟨S256x192, .f32⟩
  | 86 => ⟨S1x1x128, .f32⟩
  | 87 => ⟨S128, .f32⟩
  | 88 => ⟨S32, .f32⟩
  | 89 => ⟨S1x1x128, .f32⟩
  | 90 => ⟨S128, .f32⟩
  | 91 => ⟨S32, .f32⟩
  | 92 => ⟨S32, .f32⟩
  | 93 => ⟨S_, .i32⟩
  | 94 => ⟨S1, .i32⟩
  | 95 => ⟨S256, .f32⟩
  | 96 => ⟨S1x1x128x64, .f32⟩
  | 97 => ⟨S128x64, .f32⟩
  | 98 => ⟨S32x64, .f32⟩
  | 99 => ⟨S_, .i32⟩
  | 100 => ⟨S1, .i32⟩
  | 101 => ⟨S_, .i32⟩
  | 102 => ⟨S1, .i32⟩
  | 103 => ⟨S2, .i32⟩
  | 104 => ⟨S256x192, .f32⟩
  | 105 => ⟨S1x1x128x32, .f32⟩
  | 106 => ⟨S128x32, .f32⟩
  | 107 => ⟨S32x32, .f32⟩
  | 108 => ⟨S_, .i32⟩
  | 109 => ⟨S1, .i32⟩
  | 110 => ⟨S_, .i32⟩
  | 111 => ⟨S1, .i32⟩
  | 112 => ⟨S2, .i32⟩
  | 113 => ⟨S256x192, .f32⟩
  | 114 => ⟨S1x1x128, .f32⟩
  | 115 => ⟨S128, .f32⟩
  | 116 => ⟨S32, .f32⟩
  | 117 => ⟨S1x1x128, .f32⟩
  | 118 => ⟨S128, .f32⟩
  | 119 => ⟨S32, .f32⟩
  | 120 => ⟨S32, .f32⟩
  | 121 => ⟨S_, .i32⟩
  | 122 => ⟨S1, .i32⟩
  | 123 => ⟨S256, .f32⟩
  | 124 => ⟨S1x1x128x64, .f32⟩
  | 125 => ⟨S128x64, .f32⟩
  | 126 => ⟨S32x64, .f32⟩
  | 127 => ⟨S_, .i32⟩
  | _ => ⟨S20x1024x64, .f32⟩

abbrev hbmTy0_3 (i : Nat) : BufTy := match i % 128 with
  | 0 => ⟨S1, .i32⟩
  | 1 => ⟨S_, .i32⟩
  | 2 => ⟨S1, .i32⟩
  | 3 => ⟨S2, .i32⟩
  | 4 => ⟨S256x192, .f32⟩
  | 5 => ⟨S1x1x128x32, .f32⟩
  | 6 => ⟨S128x32, .f32⟩
  | 7 => ⟨S32x32, .f32⟩
  | 8 => ⟨S_, .i32⟩
  | 9 => ⟨S1, .i32⟩
  | 10 => ⟨S_, .i32⟩
  | 11 => ⟨S1, .i32⟩
  | 12 => ⟨S2, .i32⟩
  | 13 => ⟨S256x192, .f32⟩
  | 14 => ⟨S1x1x128, .f32⟩
  | 15 => ⟨S128, .f32⟩
  | 16 => ⟨S32, .f32⟩
  | 17 => ⟨S1x1x128, .f32⟩
  | 18 => ⟨S128, .f32⟩
  | 19 => ⟨S32, .f32⟩
  | 20 => ⟨S32, .f32⟩
  | 21 => ⟨S_, .i32⟩
  | 22 => ⟨S1, .i32⟩
  | 23 => ⟨S256, .f32⟩
  | 24 => ⟨S1x1x128x64, .f32⟩
  | 25 => ⟨S128x64, .f32⟩
  | 26 => ⟨S32x64, .f32⟩
  | 27 => ⟨S_, .i32⟩
  | 28 => ⟨S1, .i32⟩
  | 29 => ⟨S_, .i32⟩
  | 30 => ⟨S1, .i32⟩
  | 31 => ⟨S2, .i32⟩
  | 32 => ⟨S256x192, .f32⟩
  | 33 => ⟨S1x1x128x32, .f32⟩
  | 34 => ⟨S128x32, .f32⟩
  | 35 => ⟨S32x32, .f32⟩
  | 36 => ⟨S_, .i32⟩
  | 37 => ⟨S1, .i32⟩
  | 38 => ⟨S_, .i32⟩
  | 39 => ⟨S1, .i32⟩
  | 40 => ⟨S2, .i32⟩
  | 41 => ⟨S256x192, .f32⟩
  | 42 => ⟨S1x1x128, .f32⟩
  | 43 => ⟨S128, .f32⟩
  | 44 => ⟨S32, .f32⟩
  | 45 => ⟨S1x1x128, .f32⟩
  | 46 => ⟨S128, .f32⟩
  | 47 => ⟨S32, .f32⟩
  | 48 => ⟨S32, .f32⟩
  | 49 => ⟨S_, .i32⟩
  | 50 => ⟨S1, .i32⟩
  | 51 => ⟨S256, .f32⟩
  | 52 => ⟨S1x1x128x64, .f32⟩
  | 53 => ⟨S128x64, .f32⟩
  | 54 => ⟨S32x64, .f32⟩
  | 55 => ⟨S_, .i32⟩
  | 56 => ⟨S1, .i32⟩
  | 57 => ⟨S_, .i32⟩
  | 58 => ⟨S1, .i32⟩
  | 59 => ⟨S2, .i32⟩
  | 60 => ⟨S256x192, .f32⟩
  | 61 => ⟨S1x1x128x32, .f32⟩
  | 62 => ⟨S128x32, .f32⟩
  | 63 => ⟨S32x32, .f32⟩
  | 64 => ⟨S_, .i32⟩
  | 65 => ⟨S1, .i32⟩
  | 66 => ⟨S_, .i32⟩
  | 67 => ⟨S1, .i32⟩
  | 68 => ⟨S2, .i32⟩
  | 69 => ⟨S256x192, .f32⟩
  | 70 => ⟨S1x1x128, .f32⟩
  | 71 => ⟨S128, .f32⟩
  | 72 => ⟨S32, .f32⟩
  | 73 => ⟨S1x1x128, .f32⟩
  | 74 => ⟨S128, .f32⟩
  | 75 => ⟨S32, .f32⟩
  | 76 => ⟨S32, .f32⟩
  | 77 => ⟨S_, .i32⟩
  | 78 => ⟨S1, .i32⟩
  | 79 => ⟨S256, .f32⟩
  | 80 => ⟨S256x1, .f32⟩
  | 81 => ⟨S_, .f32⟩
  | 82 => ⟨S256x192, .f32⟩
  | 83 => ⟨S_, .f32⟩
  | 84 => ⟨S256, .f32⟩
  | 85 => ⟨S1x1x128x64, .f32⟩
  | 86 => ⟨S128x64, .f32⟩
  | 87 => ⟨S32x64, .f32⟩
  | 88 => ⟨S_, .i32⟩
  | 89 => ⟨S1, .i32⟩
  | 90 => ⟨S_, .i32⟩
  | 91 => ⟨S1, .i32⟩
  | 92 => ⟨S2, .i32⟩
  | 93 => ⟨S256x192, .f32⟩
  | 94 => ⟨S1x1x128x32, .f32⟩
  | 95 => ⟨S128x32, .f32⟩
  | 96 => ⟨S32x32, .f32⟩
  | 97 => ⟨S_, .i32⟩
  | 98 => ⟨S1, .i32⟩
  | 99 => ⟨S_, .i32⟩
  | 100 => ⟨S1, .i32⟩
  | 101 => ⟨S2, .i32⟩
  | 102 => ⟨S256x192, .f32⟩
  | 103 => ⟨S1x1x128, .f32⟩
  | 104 => ⟨S128, .f32⟩
  | 105 => ⟨S32, .f32⟩
  | 106 => ⟨S1x1x128, .f32⟩
  | 107 => ⟨S128, .f32⟩
  | 108 => ⟨S32, .f32⟩
  | 109 => ⟨S32, .f32⟩
  | 110 => ⟨S_, .i32⟩
  | 111 => ⟨S1, .i32⟩
  | 112 => ⟨S256, .f32⟩
  | 113 => ⟨S1x1x128x64, .f32⟩
  | 114 => ⟨S128x64, .f32⟩
  | 115 => ⟨S32x64, .f32⟩
  | 116 => ⟨S_, .i32⟩
  | 117 => ⟨S1, .i32⟩
  | 118 => ⟨S_, .i32⟩
  | 119 => ⟨S1, .i32⟩
  | 120 => ⟨S2, .i32⟩
  | 121 => ⟨S256x192, .f32⟩
  | 122 => ⟨S1x1x128x32, .f32⟩
  | 123 => ⟨S128x32, .f32⟩
  | 124 => ⟨S32x32, .f32⟩
  | 125 => ⟨S_, .i32⟩
  | 126 => ⟨S1, .i32⟩
  | 127 => ⟨S_, .i32⟩
  | _ => ⟨S20x1024x64, .f32⟩

abbrev hbmTy0_4 (i : Nat) : BufTy := match i % 128 with
  | 0 => ⟨S1, .i32⟩
  | 1 => ⟨S2, .i32⟩
  | 2 => ⟨S256x192, .f32⟩
  | 3 => ⟨S1x1x128, .f32⟩
  | 4 => ⟨S128, .f32⟩
  | 5 => ⟨S32, .f32⟩
  | 6 => ⟨S1x1x128, .f32⟩
  | 7 => ⟨S128, .f32⟩
  | 8 => ⟨S32, .f32⟩
  | 9 => ⟨S32, .f32⟩
  | 10 => ⟨S_, .i32⟩
  | 11 => ⟨S1, .i32⟩
  | 12 => ⟨S256, .f32⟩
  | 13 => ⟨S1x1x128x64, .f32⟩
  | 14 => ⟨S128x64, .f32⟩
  | 15 => ⟨S32x64, .f32⟩
  | 16 => ⟨S_, .i32⟩
  | 17 => ⟨S1, .i32⟩
  | 18 => ⟨S_, .i32⟩
  | 19 => ⟨S1, .i32⟩
  | 20 => ⟨S2, .i32⟩
  | 21 => ⟨S256x192, .f32⟩
  | 22 => ⟨S1x1x128x32, .f32⟩
  | 23 => ⟨S128x32, .f32⟩
  | 24 => ⟨S32x32, .f32⟩
  | 25 => ⟨S_, .i32⟩
  | 26 => ⟨S1, .i32⟩
  | 27 => ⟨S_, .i32⟩
  | 28 => ⟨S1, .i32⟩
  | 29 => ⟨S2, .i32⟩
  | 30 => ⟨S256x192, .f32⟩
  | 31 => ⟨S1x1x128, .f32⟩
  | 32 => ⟨S128, .f32⟩
  | 33 => ⟨S32, .f32⟩
  | 34 => ⟨S1x1x128, .f32⟩
  | 35 => ⟨S128, .f32⟩
  | 36 => ⟨S32, .f32⟩
  | 37 => ⟨S32, .f32⟩
  | 38 => ⟨S_, .i32⟩
  | 39 => ⟨S1, .i32⟩
  | 40 => ⟨S256, .f32⟩
  | 41 => ⟨S1x1x128x64, .f32⟩
  | 42 => ⟨S128x64, .f32⟩
  | 43 => ⟨S32x64, .f32⟩
  | 44 => ⟨S_, .i32⟩
  | 45 => ⟨S1, .i32⟩
  | 46 => ⟨S_, .i32⟩
  | 47 => ⟨S1, .i32⟩
  | 48 => ⟨S2, .i32⟩
  | 49 => ⟨S256x192, .f32⟩
  | 50 => ⟨S1x1x128x32, .f32⟩
  | 51 => ⟨S128x32, .f32⟩
  | 52 => ⟨S32x32, .f32⟩
  | 53 => ⟨S_, .i32⟩
  | 54 => ⟨S1, .i32⟩
  | 55 => ⟨S_, .i32⟩
  | 56 => ⟨S1, .i32⟩
  | 57 => ⟨S2, .i32⟩
  | 58 => ⟨S256x192, .f32⟩
  | 59 => ⟨S1x1x128, .f32⟩
  | 60 => ⟨S128, .f32⟩
  | 61 => ⟨S32, .f32⟩
  | 62 => ⟨S1x1x128, .f32⟩
  | 63 => ⟨S128, .f32⟩
  | 64 => ⟨S32, .f32⟩
  | 65 => ⟨S32, .f32⟩
  | 66 => ⟨S_, .i32⟩
  | 67 => ⟨S1, .i32⟩
  | 68 => ⟨S256, .f32⟩
  | 69 => ⟨S1x1x128x64, .f32⟩
  | 70 => ⟨S128x64, .f32⟩
  | 71 => ⟨S32x64, .f32⟩
  | 72 => ⟨S_, .i32⟩
  | 73 => ⟨S1, .i32⟩
  | 74 => ⟨S_, .i32⟩
  | 75 => ⟨S1, .i32⟩
  | 76 => ⟨S2, .i32⟩
  | 77 => ⟨S256x192, .f32⟩
  | 78 => ⟨S1x1x128x32, .f32⟩
  | 79 => ⟨S128x32, .f32⟩
  | 80 => ⟨S32x32, .f32⟩
  | 81 => ⟨S_, .i32⟩
  | 82 => ⟨S1, .i32⟩
  | 83 => ⟨S_, .i32⟩
  | 84 => ⟨S1, .i32⟩
  | 85 => ⟨S2, .i32⟩
  | 86 => ⟨S256x192, .f32⟩
  | 87 => ⟨S1x1x128, .f32⟩
  | 88 => ⟨S128, .f32⟩
  | 89 => ⟨S32, .f32⟩
  | 90 => ⟨S1x1x128, .f32⟩
  | 91 => ⟨S128, .f32⟩
  | 92 => ⟨S32, .f32⟩
  | 93 => ⟨S32, .f32⟩
  | 94 => ⟨S_, .i32⟩
  | 95 => ⟨S1, .i32⟩
  | 96 => ⟨S256, .f32⟩
  | 97 => ⟨S1x1x128x64, .f32⟩
  | 98 => ⟨S128x64, .f32⟩
  | 99 => ⟨S32x64, .f32⟩
  | 100 => ⟨S_, .i32⟩
  | 101 => ⟨S1, .i32⟩
  | 102 => ⟨S_, .i32⟩
  | 103 => ⟨S1, .i32⟩
  | 104 => ⟨S2, .i32⟩
  | 105 => ⟨S256x192, .f32⟩
  | 106 => ⟨S1x1x128x32, .f32⟩
  | 107 => ⟨S128x32, .f32⟩
  | 108 => ⟨S32x32, .f32⟩
  | 109 => ⟨S_, .i32⟩
  | 110 => ⟨S1, .i32⟩
  | 111 => ⟨S_, .i32⟩
  | 112 => ⟨S1, .i32⟩
  | 113 => ⟨S2, .i32⟩
  | 114 => ⟨S256x192, .f32⟩
  | 115 => ⟨S1x1x128, .f32⟩
  | 116 => ⟨S128, .f32⟩
  | 117 => ⟨S32, .f32⟩
  | 118 => ⟨S1x1x128, .f32⟩
  | 119 => ⟨S128, .f32⟩
  | 120 => ⟨S32, .f32⟩
  | 121 => ⟨S32, .f32⟩
  | 122 => ⟨S_, .i32⟩
  | 123 => ⟨S1, .i32⟩
  | 124 => ⟨S256, .f32⟩
  | 125 => ⟨S1x1x128x64, .f32⟩
  | 126 => ⟨S128x64, .f32⟩
  | 127 => ⟨S32x64, .f32⟩
  | _ => ⟨S20x1024x64, .f32⟩

abbrev hbmTy0_5 (i : Nat) : BufTy := match i % 128 with
  | 0 => ⟨S_, .i32⟩
  | 1 => ⟨S1, .i32⟩
  | 2 => ⟨S_, .i32⟩
  | 3 => ⟨S1, .i32⟩
  | 4 => ⟨S2, .i32⟩
  | 5 => ⟨S256x192, .f32⟩
  | 6 => ⟨S1x1x128x32, .f32⟩
  | 7 => ⟨S128x32, .f32⟩
  | 8 => ⟨S32x32, .f32⟩
  | 9 => ⟨S_, .i32⟩
  | 10 => ⟨S1, .i32⟩
  | 11 => ⟨S_, .i32⟩
  | 12 => ⟨S1, .i32⟩
  | 13 => ⟨S2, .i32⟩
  | 14 => ⟨S256x192, .f32⟩
  | 15 => ⟨S1x1x128, .f32⟩
  | 16 => ⟨S128, .f32⟩
  | 17 => ⟨S32, .f32⟩
  | 18 => ⟨S1x1x128, .f32⟩
  | 19 => ⟨S128, .f32⟩
  | 20 => ⟨S32, .f32⟩
  | 21 => ⟨S32, .f32⟩
  | 22 => ⟨S_, .i32⟩
  | 23 => ⟨S1, .i32⟩
  | 24 => ⟨S256, .f32⟩
  | 25 => ⟨S1x1x128x64, .f32⟩
  | 26 => ⟨S128x64, .f32⟩
  | 27 => ⟨S32x64, .f32⟩
  | 28 => ⟨S_, .i32⟩
  | 29 => ⟨S1, .i32⟩
  | 30 => ⟨S_, .i32⟩
  | 31 => ⟨S1, .i32⟩
  | 32 => ⟨S2, .i32⟩
  | 33 => ⟨S256x192, .f32⟩
  | 34 => ⟨S1x1x128x32, .f32⟩
  | 35 => ⟨S128x32, .f32⟩
  | 36 => ⟨S32x32, .f32⟩
  | 37 => ⟨S_, .i32⟩
  | 38 => ⟨S1, .i32⟩
  | 39 => ⟨S_, .i32⟩
  | 40 => ⟨S1, .i32⟩
  | 41 => ⟨S2, .i32⟩
  | 42 => ⟨S256x192, .f32⟩
  | 43 => ⟨S1x1x128, .f32⟩
  | 44 => ⟨S128, .f32⟩
  | 45 => ⟨S32, .f32⟩
  | 46 => ⟨S1x1x128, .f32⟩
  | 47 => ⟨S128, .f32⟩
  | 48 => ⟨S32, .f32⟩
  | 49 => ⟨S32, .f32⟩
  | 50 => ⟨S_, .i32⟩
  | 51 => ⟨S1, .i32⟩
  | 52 => ⟨S256, .f32⟩
  | 53 => ⟨S256x1, .f32⟩
  | 54 => ⟨S1x256x192, .f32⟩
  | 55 => ⟨S1x256x192, .f32⟩
  | 56 => ⟨S1x256x192, .f32⟩
  | 57 => ⟨S3x256x192, .f32⟩
  | 58 => ⟨S1x256x1, .f32⟩
  | 59 => ⟨S1x256x1, .f32⟩
  | 60 => ⟨S1x256x1, .f32⟩
  | 61 => ⟨S3x256x1, .f32⟩
  | 62 => ⟨S20x64x1024, .f32⟩
  | 63 => ⟨S4x1000x64, .f32⟩
  | 64 => ⟨S4x64x1000, .f32⟩
  | 65 => ⟨S4x1x1000, .f32⟩
  | 66 => ⟨S1024x20x4x1000, .f32⟩
  | _ => ⟨S20x1024x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S20x1024x64, .f32⟩

abbrev bufTy : (tb : Table) → Fin (tcTables nBuf tb) → BufTy
  | .hbm, ⟨i, _⟩ => hbmTy i
  | .local _ .vmem, ⟨0, _⟩ => ⟨S20x1024x64, .f32⟩
  | .local _ .vmem, ⟨1, _⟩ => ⟨S3x256x192, .f32⟩
  | .local _ .vmem, ⟨2, _⟩ => ⟨S3x256x1, .f32⟩
  | .local _ .vmem, ⟨3, _⟩ => ⟨S20x64x1024, .f32⟩
  | .local _ .vmem, ⟨4, _⟩ => ⟨S20x64x1024, .f32⟩
  | .local _ .vmem, ⟨5, _⟩ => ⟨S20x64x1024, .f32⟩
  | .local _ .vmem, ⟨6, _⟩ => ⟨S64x1024, .f32⟩
  | .local _ .vmem, ⟨7, _⟩ => ⟨S64x1024, .f32⟩
  | .local _ .vmem, ⟨8, _⟩ => ⟨S1x64x1024, .f32⟩
  | .local _ .vmem, ⟨9, _⟩ => ⟨S1x64x1024, .f32⟩
  | .local _ .vmem, ⟨10, _⟩ => ⟨S4x64x1000, .f32⟩
  | .local _ .vmem, ⟨11, _⟩ => ⟨S4x1x1000, .f32⟩
  | .local _ .vmem, ⟨12, _⟩ => ⟨S1024x1x4x1000, .f32⟩
  | .local _ .vmem, ⟨13, _⟩ => ⟨S1024x1x4x1000, .f32⟩
  | _, _ => ⟨S20x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_c_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_2 : Ref sig .tc := ⟨.hbm, 23, rfl⟩
abbrev main_v12 : Ref sig .tc := ⟨.hbm, 24, rfl⟩
abbrev main_c_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_5 : Ref sig .tc := ⟨.hbm, 42, rfl⟩
abbrev main_v28 : Ref sig .tc := ⟨.hbm, 43, rfl⟩
abbrev main_c_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_c_7 : Ref sig .tc := ⟨.hbm, 51, rfl⟩
abbrev main_v35 : Ref sig .tc := ⟨.hbm, 52, rfl⟩
abbrev main_c_8 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_c_9 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_c_10 : Ref sig .tc := ⟨.hbm, 70, rfl⟩
abbrev main_v51 : Ref sig .tc := ⟨.hbm, 71, rfl⟩
abbrev main_c_11 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_c_12 : Ref sig .tc := ⟨.hbm, 79, rfl⟩
abbrev main_v58 : Ref sig .tc := ⟨.hbm, 80, rfl⟩
abbrev main_c_13 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_c_14 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_c_15 : Ref sig .tc := ⟨.hbm, 98, rfl⟩
abbrev main_v74 : Ref sig .tc := ⟨.hbm, 99, rfl⟩
abbrev main_c_16 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_c_17 : Ref sig .tc := ⟨.hbm, 107, rfl⟩
abbrev main_v81 : Ref sig .tc := ⟨.hbm, 108, rfl⟩
abbrev main_c_18 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_c_19 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_c_20 : Ref sig .tc := ⟨.hbm, 126, rfl⟩
abbrev main_v97 : Ref sig .tc := ⟨.hbm, 127, rfl⟩
abbrev main_c_21 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_c_22 : Ref sig .tc := ⟨.hbm, 135, rfl⟩
abbrev main_v104 : Ref sig .tc := ⟨.hbm, 136, rfl⟩
abbrev main_c_23 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_c_24 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_c_25 : Ref sig .tc := ⟨.hbm, 154, rfl⟩
abbrev main_v120 : Ref sig .tc := ⟨.hbm, 155, rfl⟩
abbrev main_c_26 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_c_27 : Ref sig .tc := ⟨.hbm, 163, rfl⟩
abbrev main_v127 : Ref sig .tc := ⟨.hbm, 164, rfl⟩
abbrev main_c_28 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_c_29 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_c_30 : Ref sig .tc := ⟨.hbm, 182, rfl⟩
abbrev main_v143 : Ref sig .tc := ⟨.hbm, 183, rfl⟩
abbrev main_c_31 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_c_32 : Ref sig .tc := ⟨.hbm, 191, rfl⟩
abbrev main_v150 : Ref sig .tc := ⟨.hbm, 192, rfl⟩
abbrev main_c_33 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_c_34 : Ref sig .tc := ⟨.hbm, 204, rfl⟩
abbrev main_v161 : Ref sig .tc := ⟨.hbm, 205, rfl⟩
abbrev main_v162 : Ref sig .tc := ⟨.hbm, 206, rfl⟩
abbrev main_v163 : Ref sig .tc := ⟨.hbm, 207, rfl⟩
abbrev main_v164 : Ref sig .tc := ⟨.hbm, 208, rfl⟩
abbrev main_v165 : Ref sig .tc := ⟨.hbm, 209, rfl⟩
abbrev main_c_35 : Ref sig .tc := ⟨.hbm, 210, rfl⟩
abbrev main_v166 : Ref sig .tc := ⟨.hbm, 211, rfl⟩
abbrev main_c_36 : Ref sig .tc := ⟨.hbm, 212, rfl⟩
abbrev main_v167 : Ref sig .tc := ⟨.hbm, 213, rfl⟩
abbrev main_v168 : Ref sig .tc := ⟨.hbm, 214, rfl⟩
abbrev main_v169 : Ref sig .tc := ⟨.hbm, 215, rfl⟩
abbrev main_v170 : Ref sig .tc := ⟨.hbm, 216, rfl⟩
abbrev main_v171 : Ref sig .tc := ⟨.hbm, 217, rfl⟩
abbrev main_v172 : Ref sig .tc := ⟨.hbm, 218, rfl⟩
abbrev main_c_37 : Ref sig .tc := ⟨.hbm, 219, rfl⟩
abbrev main_v173 : Ref sig .tc := ⟨.hbm, 220, rfl⟩
abbrev main_c_38 : Ref sig .tc := ⟨.hbm, 221, rfl⟩
abbrev main_v174 : Ref sig .tc := ⟨.hbm, 222, rfl⟩
abbrev main_v175 : Ref sig .tc := ⟨.hbm, 223, rfl⟩
abbrev main_v176 : Ref sig .tc := ⟨.hbm, 224, rfl⟩
abbrev main_v177 : Ref sig .tc := ⟨.hbm, 225, rfl⟩
abbrev main_v178 : Ref sig .tc := ⟨.hbm, 226, rfl⟩
abbrev main_v179 : Ref sig .tc := ⟨.hbm, 227, rfl⟩
abbrev main_v180 : Ref sig .tc := ⟨.hbm, 228, rfl⟩
abbrev main_v181 : Ref sig .tc := ⟨.hbm, 229, rfl⟩
abbrev main_v182 : Ref sig .tc := ⟨.hbm, 230, rfl⟩
abbrev main_v183 : Ref sig .tc := ⟨.hbm, 231, rfl⟩
abbrev main_c_39 : Ref sig .tc := ⟨.hbm, 232, rfl⟩
abbrev main_v184 : Ref sig .tc := ⟨.hbm, 233, rfl⟩
abbrev main_v185 : Ref sig .tc := ⟨.hbm, 234, rfl⟩
abbrev main_v186 : Ref sig .tc := ⟨.hbm, 235, rfl⟩
abbrev main_cst_40 : Ref sig .tc := ⟨.hbm, 236, rfl⟩
abbrev main_v187 : Ref sig .tc := ⟨.hbm, 237, rfl⟩
abbrev main_cst_41 : Ref sig .tc := ⟨.hbm, 238, rfl⟩
abbrev main_v188 : Ref sig .tc := ⟨.hbm, 239, rfl⟩
abbrev main_v189 : Ref sig .tc := ⟨.hbm, 240, rfl⟩
abbrev main_v190 : Ref sig .tc := ⟨.hbm, 241, rfl⟩
abbrev main_v191 : Ref sig .tc := ⟨.hbm, 242, rfl⟩
abbrev main_c_42 : Ref sig .tc := ⟨.hbm, 243, rfl⟩
abbrev main_v192 : Ref sig .tc := ⟨.hbm, 244, rfl⟩
abbrev main_c_43 : Ref sig .tc := ⟨.hbm, 245, rfl⟩
abbrev main_v193 : Ref sig .tc := ⟨.hbm, 246, rfl⟩
abbrev main_v194 : Ref sig .tc := ⟨.hbm, 247, rfl⟩
abbrev main_v195 : Ref sig .tc := ⟨.hbm, 248, rfl⟩
abbrev main_v196 : Ref sig .tc := ⟨.hbm, 249, rfl⟩
abbrev main_v197 : Ref sig .tc := ⟨.hbm, 250, rfl⟩
abbrev main_v198 : Ref sig .tc := ⟨.hbm, 251, rfl⟩
abbrev main_c_44 : Ref sig .tc := ⟨.hbm, 252, rfl⟩
abbrev main_v199 : Ref sig .tc := ⟨.hbm, 253, rfl⟩
abbrev main_c_45 : Ref sig .tc := ⟨.hbm, 254, rfl⟩
abbrev main_v200 : Ref sig .tc := ⟨.hbm, 255, rfl⟩
abbrev main_v201 : Ref sig .tc := ⟨.hbm, 256, rfl⟩
abbrev main_v202 : Ref sig .tc := ⟨.hbm, 257, rfl⟩
abbrev main_v203 : Ref sig .tc := ⟨.hbm, 258, rfl⟩
abbrev main_v204 : Ref sig .tc := ⟨.hbm, 259, rfl⟩
abbrev main_v205 : Ref sig .tc := ⟨.hbm, 260, rfl⟩
abbrev main_v206 : Ref sig .tc := ⟨.hbm, 261, rfl⟩
abbrev main_v207 : Ref sig .tc := ⟨.hbm, 262, rfl⟩
abbrev main_v208 : Ref sig .tc := ⟨.hbm, 263, rfl⟩
abbrev main_v209 : Ref sig .tc := ⟨.hbm, 264, rfl⟩
abbrev main_c_46 : Ref sig .tc := ⟨.hbm, 265, rfl⟩
abbrev main_v210 : Ref sig .tc := ⟨.hbm, 266, rfl⟩
abbrev main_v211 : Ref sig .tc := ⟨.hbm, 267, rfl⟩
abbrev main_v212 : Ref sig .tc := ⟨.hbm, 268, rfl⟩
abbrev main_v213 : Ref sig .tc := ⟨.hbm, 269, rfl⟩
abbrev main_v214 : Ref sig .tc := ⟨.hbm, 270, rfl⟩
abbrev main_c_47 : Ref sig .tc := ⟨.hbm, 271, rfl⟩
abbrev main_v215 : Ref sig .tc := ⟨.hbm, 272, rfl⟩
abbrev main_c_48 : Ref sig .tc := ⟨.hbm, 273, rfl⟩
abbrev main_v216 : Ref sig .tc := ⟨.hbm, 274, rfl⟩
abbrev main_v217 : Ref sig .tc := ⟨.hbm, 275, rfl⟩
abbrev main_v218 : Ref sig .tc := ⟨.hbm, 276, rfl⟩
abbrev main_v219 : Ref sig .tc := ⟨.hbm, 277, rfl⟩
abbrev main_v220 : Ref sig .tc := ⟨.hbm, 278, rfl⟩
abbrev main_v221 : Ref sig .tc := ⟨.hbm, 279, rfl⟩
abbrev main_c_49 : Ref sig .tc := ⟨.hbm, 280, rfl⟩
abbrev main_v222 : Ref sig .tc := ⟨.hbm, 281, rfl⟩
abbrev main_c_50 : Ref sig .tc := ⟨.hbm, 282, rfl⟩
abbrev main_v223 : Ref sig .tc := ⟨.hbm, 283, rfl⟩
abbrev main_v224 : Ref sig .tc := ⟨.hbm, 284, rfl⟩
abbrev main_v225 : Ref sig .tc := ⟨.hbm, 285, rfl⟩
abbrev main_v226 : Ref sig .tc := ⟨.hbm, 286, rfl⟩
abbrev main_v227 : Ref sig .tc := ⟨.hbm, 287, rfl⟩
abbrev main_v228 : Ref sig .tc := ⟨.hbm, 288, rfl⟩
abbrev main_v229 : Ref sig .tc := ⟨.hbm, 289, rfl⟩
abbrev main_v230 : Ref sig .tc := ⟨.hbm, 290, rfl⟩
abbrev main_v231 : Ref sig .tc := ⟨.hbm, 291, rfl⟩
abbrev main_v232 : Ref sig .tc := ⟨.hbm, 292, rfl⟩
abbrev main_c_51 : Ref sig .tc := ⟨.hbm, 293, rfl⟩
abbrev main_v233 : Ref sig .tc := ⟨.hbm, 294, rfl⟩
abbrev main_v234 : Ref sig .tc := ⟨.hbm, 295, rfl⟩
abbrev main_v235 : Ref sig .tc := ⟨.hbm, 296, rfl⟩
abbrev main_v236 : Ref sig .tc := ⟨.hbm, 297, rfl⟩
abbrev main_v237 : Ref sig .tc := ⟨.hbm, 298, rfl⟩
abbrev main_c_52 : Ref sig .tc := ⟨.hbm, 299, rfl⟩
abbrev main_v238 : Ref sig .tc := ⟨.hbm, 300, rfl⟩
abbrev main_c_53 : Ref sig .tc := ⟨.hbm, 301, rfl⟩
abbrev main_v239 : Ref sig .tc := ⟨.hbm, 302, rfl⟩
abbrev main_v240 : Ref sig .tc := ⟨.hbm, 303, rfl⟩
abbrev main_v241 : Ref sig .tc := ⟨.hbm, 304, rfl⟩
abbrev main_v242 : Ref sig .tc := ⟨.hbm, 305, rfl⟩
abbrev main_v243 : Ref sig .tc := ⟨.hbm, 306, rfl⟩
abbrev main_v244 : Ref sig .tc := ⟨.hbm, 307, rfl⟩
abbrev main_c_54 : Ref sig .tc := ⟨.hbm, 308, rfl⟩
abbrev main_v245 : Ref sig .tc := ⟨.hbm, 309, rfl⟩
abbrev main_c_55 : Ref sig .tc := ⟨.hbm, 310, rfl⟩
abbrev main_v246 : Ref sig .tc := ⟨.hbm, 311, rfl⟩
abbrev main_v247 : Ref sig .tc := ⟨.hbm, 312, rfl⟩
abbrev main_v248 : Ref sig .tc := ⟨.hbm, 313, rfl⟩
abbrev main_v249 : Ref sig .tc := ⟨.hbm, 314, rfl⟩
abbrev main_v250 : Ref sig .tc := ⟨.hbm, 315, rfl⟩
abbrev main_v251 : Ref sig .tc := ⟨.hbm, 316, rfl⟩
abbrev main_v252 : Ref sig .tc := ⟨.hbm, 317, rfl⟩
abbrev main_v253 : Ref sig .tc := ⟨.hbm, 318, rfl⟩
abbrev main_v254 : Ref sig .tc := ⟨.hbm, 319, rfl⟩
abbrev main_v255 : Ref sig .tc := ⟨.hbm, 320, rfl⟩
abbrev main_c_56 : Ref sig .tc := ⟨.hbm, 321, rfl⟩
abbrev main_v256 : Ref sig .tc := ⟨.hbm, 322, rfl⟩
abbrev main_v257 : Ref sig .tc := ⟨.hbm, 323, rfl⟩
abbrev main_v258 : Ref sig .tc := ⟨.hbm, 324, rfl⟩
abbrev main_v259 : Ref sig .tc := ⟨.hbm, 325, rfl⟩
abbrev main_v260 : Ref sig .tc := ⟨.hbm, 326, rfl⟩
abbrev main_c_57 : Ref sig .tc := ⟨.hbm, 327, rfl⟩
abbrev main_v261 : Ref sig .tc := ⟨.hbm, 328, rfl⟩
abbrev main_c_58 : Ref sig .tc := ⟨.hbm, 329, rfl⟩
abbrev main_v262 : Ref sig .tc := ⟨.hbm, 330, rfl⟩
abbrev main_v263 : Ref sig .tc := ⟨.hbm, 331, rfl⟩
abbrev main_v264 : Ref sig .tc := ⟨.hbm, 332, rfl⟩
abbrev main_v265 : Ref sig .tc := ⟨.hbm, 333, rfl⟩
abbrev main_v266 : Ref sig .tc := ⟨.hbm, 334, rfl⟩
abbrev main_v267 : Ref sig .tc := ⟨.hbm, 335, rfl⟩
abbrev main_c_59 : Ref sig .tc := ⟨.hbm, 336, rfl⟩
abbrev main_v268 : Ref sig .tc := ⟨.hbm, 337, rfl⟩
abbrev main_c_60 : Ref sig .tc := ⟨.hbm, 338, rfl⟩
abbrev main_v269 : Ref sig .tc := ⟨.hbm, 339, rfl⟩
abbrev main_v270 : Ref sig .tc := ⟨.hbm, 340, rfl⟩
abbrev main_v271 : Ref sig .tc := ⟨.hbm, 341, rfl⟩
abbrev main_v272 : Ref sig .tc := ⟨.hbm, 342, rfl⟩
abbrev main_v273 : Ref sig .tc := ⟨.hbm, 343, rfl⟩
abbrev main_v274 : Ref sig .tc := ⟨.hbm, 344, rfl⟩
abbrev main_v275 : Ref sig .tc := ⟨.hbm, 345, rfl⟩
abbrev main_v276 : Ref sig .tc := ⟨.hbm, 346, rfl⟩
abbrev main_v277 : Ref sig .tc := ⟨.hbm, 347, rfl⟩
abbrev main_v278 : Ref sig .tc := ⟨.hbm, 348, rfl⟩
abbrev main_c_61 : Ref sig .tc := ⟨.hbm, 349, rfl⟩
abbrev main_v279 : Ref sig .tc := ⟨.hbm, 350, rfl⟩
abbrev main_v280 : Ref sig .tc := ⟨.hbm, 351, rfl⟩
abbrev main_v281 : Ref sig .tc := ⟨.hbm, 352, rfl⟩
abbrev main_v282 : Ref sig .tc := ⟨.hbm, 353, rfl⟩
abbrev main_v283 : Ref sig .tc := ⟨.hbm, 354, rfl⟩
abbrev main_c_62 : Ref sig .tc := ⟨.hbm, 355, rfl⟩
abbrev main_v284 : Ref sig .tc := ⟨.hbm, 356, rfl⟩
abbrev main_c_63 : Ref sig .tc := ⟨.hbm, 357, rfl⟩
abbrev main_v285 : Ref sig .tc := ⟨.hbm, 358, rfl⟩
abbrev main_v286 : Ref sig .tc := ⟨.hbm, 359, rfl⟩
abbrev main_v287 : Ref sig .tc := ⟨.hbm, 360, rfl⟩
abbrev main_v288 : Ref sig .tc := ⟨.hbm, 361, rfl⟩
abbrev main_v289 : Ref sig .tc := ⟨.hbm, 362, rfl⟩
abbrev main_v290 : Ref sig .tc := ⟨.hbm, 363, rfl⟩
abbrev main_c_64 : Ref sig .tc := ⟨.hbm, 364, rfl⟩
abbrev main_v291 : Ref sig .tc := ⟨.hbm, 365, rfl⟩
abbrev main_c_65 : Ref sig .tc := ⟨.hbm, 366, rfl⟩
abbrev main_v292 : Ref sig .tc := ⟨.hbm, 367, rfl⟩
abbrev main_v293 : Ref sig .tc := ⟨.hbm, 368, rfl⟩
abbrev main_v294 : Ref sig .tc := ⟨.hbm, 369, rfl⟩
abbrev main_v295 : Ref sig .tc := ⟨.hbm, 370, rfl⟩
abbrev main_v296 : Ref sig .tc := ⟨.hbm, 371, rfl⟩
abbrev main_v297 : Ref sig .tc := ⟨.hbm, 372, rfl⟩
abbrev main_v298 : Ref sig .tc := ⟨.hbm, 373, rfl⟩
abbrev main_v299 : Ref sig .tc := ⟨.hbm, 374, rfl⟩
abbrev main_v300 : Ref sig .tc := ⟨.hbm, 375, rfl⟩
abbrev main_v301 : Ref sig .tc := ⟨.hbm, 376, rfl⟩
abbrev main_c_66 : Ref sig .tc := ⟨.hbm, 377, rfl⟩
abbrev main_v302 : Ref sig .tc := ⟨.hbm, 378, rfl⟩
abbrev main_v303 : Ref sig .tc := ⟨.hbm, 379, rfl⟩
abbrev main_v304 : Ref sig .tc := ⟨.hbm, 380, rfl⟩
abbrev main_v305 : Ref sig .tc := ⟨.hbm, 381, rfl⟩
abbrev main_v306 : Ref sig .tc := ⟨.hbm, 382, rfl⟩
abbrev main_c_67 : Ref sig .tc := ⟨.hbm, 383, rfl⟩
abbrev main_v307 : Ref sig .tc := ⟨.hbm, 384, rfl⟩
abbrev main_c_68 : Ref sig .tc := ⟨.hbm, 385, rfl⟩
abbrev main_v308 : Ref sig .tc := ⟨.hbm, 386, rfl⟩
abbrev main_v309 : Ref sig .tc := ⟨.hbm, 387, rfl⟩
abbrev main_v310 : Ref sig .tc := ⟨.hbm, 388, rfl⟩
abbrev main_v311 : Ref sig .tc := ⟨.hbm, 389, rfl⟩
abbrev main_v312 : Ref sig .tc := ⟨.hbm, 390, rfl⟩
abbrev main_v313 : Ref sig .tc := ⟨.hbm, 391, rfl⟩
abbrev main_c_69 : Ref sig .tc := ⟨.hbm, 392, rfl⟩
abbrev main_v314 : Ref sig .tc := ⟨.hbm, 393, rfl⟩
abbrev main_c_70 : Ref sig .tc := ⟨.hbm, 394, rfl⟩
abbrev main_v315 : Ref sig .tc := ⟨.hbm, 395, rfl⟩
abbrev main_v316 : Ref sig .tc := ⟨.hbm, 396, rfl⟩
abbrev main_v317 : Ref sig .tc := ⟨.hbm, 397, rfl⟩
abbrev main_v318 : Ref sig .tc := ⟨.hbm, 398, rfl⟩
abbrev main_v319 : Ref sig .tc := ⟨.hbm, 399, rfl⟩
abbrev main_v320 : Ref sig .tc := ⟨.hbm, 400, rfl⟩
abbrev main_v321 : Ref sig .tc := ⟨.hbm, 401, rfl⟩
abbrev main_v322 : Ref sig .tc := ⟨.hbm, 402, rfl⟩
abbrev main_v323 : Ref sig .tc := ⟨.hbm, 403, rfl⟩
abbrev main_v324 : Ref sig .tc := ⟨.hbm, 404, rfl⟩
abbrev main_c_71 : Ref sig .tc := ⟨.hbm, 405, rfl⟩
abbrev main_v325 : Ref sig .tc := ⟨.hbm, 406, rfl⟩
abbrev main_v326 : Ref sig .tc := ⟨.hbm, 407, rfl⟩
abbrev main_v327 : Ref sig .tc := ⟨.hbm, 408, rfl⟩
abbrev main_v328 : Ref sig .tc := ⟨.hbm, 409, rfl⟩
abbrev main_v329 : Ref sig .tc := ⟨.hbm, 410, rfl⟩
abbrev main_c_72 : Ref sig .tc := ⟨.hbm, 411, rfl⟩
abbrev main_v330 : Ref sig .tc := ⟨.hbm, 412, rfl⟩
abbrev main_c_73 : Ref sig .tc := ⟨.hbm, 413, rfl⟩
abbrev main_v331 : Ref sig .tc := ⟨.hbm, 414, rfl⟩
abbrev main_v332 : Ref sig .tc := ⟨.hbm, 415, rfl⟩
abbrev main_v333 : Ref sig .tc := ⟨.hbm, 416, rfl⟩
abbrev main_v334 : Ref sig .tc := ⟨.hbm, 417, rfl⟩
abbrev main_v335 : Ref sig .tc := ⟨.hbm, 418, rfl⟩
abbrev main_v336 : Ref sig .tc := ⟨.hbm, 419, rfl⟩
abbrev main_c_74 : Ref sig .tc := ⟨.hbm, 420, rfl⟩
abbrev main_v337 : Ref sig .tc := ⟨.hbm, 421, rfl⟩
abbrev main_c_75 : Ref sig .tc := ⟨.hbm, 422, rfl⟩
abbrev main_v338 : Ref sig .tc := ⟨.hbm, 423, rfl⟩
abbrev main_v339 : Ref sig .tc := ⟨.hbm, 424, rfl⟩
abbrev main_v340 : Ref sig .tc := ⟨.hbm, 425, rfl⟩
abbrev main_v341 : Ref sig .tc := ⟨.hbm, 426, rfl⟩
abbrev main_v342 : Ref sig .tc := ⟨.hbm, 427, rfl⟩
abbrev main_v343 : Ref sig .tc := ⟨.hbm, 428, rfl⟩
abbrev main_v344 : Ref sig .tc := ⟨.hbm, 429, rfl⟩
abbrev main_v345 : Ref sig .tc := ⟨.hbm, 430, rfl⟩
abbrev main_v346 : Ref sig .tc := ⟨.hbm, 431, rfl⟩
abbrev main_v347 : Ref sig .tc := ⟨.hbm, 432, rfl⟩
abbrev main_c_76 : Ref sig .tc := ⟨.hbm, 433, rfl⟩
abbrev main_v348 : Ref sig .tc := ⟨.hbm, 434, rfl⟩
abbrev main_v349 : Ref sig .tc := ⟨.hbm, 435, rfl⟩
abbrev main_v350 : Ref sig .tc := ⟨.hbm, 436, rfl⟩
abbrev main_v351 : Ref sig .tc := ⟨.hbm, 437, rfl⟩
abbrev main_v352 : Ref sig .tc := ⟨.hbm, 438, rfl⟩
abbrev main_c_77 : Ref sig .tc := ⟨.hbm, 439, rfl⟩
abbrev main_v353 : Ref sig .tc := ⟨.hbm, 440, rfl⟩
abbrev main_c_78 : Ref sig .tc := ⟨.hbm, 441, rfl⟩
abbrev main_v354 : Ref sig .tc := ⟨.hbm, 442, rfl⟩
abbrev main_v355 : Ref sig .tc := ⟨.hbm, 443, rfl⟩
abbrev main_v356 : Ref sig .tc := ⟨.hbm, 444, rfl⟩
abbrev main_v357 : Ref sig .tc := ⟨.hbm, 445, rfl⟩
abbrev main_v358 : Ref sig .tc := ⟨.hbm, 446, rfl⟩
abbrev main_v359 : Ref sig .tc := ⟨.hbm, 447, rfl⟩
abbrev main_c_79 : Ref sig .tc := ⟨.hbm, 448, rfl⟩
abbrev main_v360 : Ref sig .tc := ⟨.hbm, 449, rfl⟩
abbrev main_c_80 : Ref sig .tc := ⟨.hbm, 450, rfl⟩
abbrev main_v361 : Ref sig .tc := ⟨.hbm, 451, rfl⟩
abbrev main_v362 : Ref sig .tc := ⟨.hbm, 452, rfl⟩
abbrev main_v363 : Ref sig .tc := ⟨.hbm, 453, rfl⟩
abbrev main_v364 : Ref sig .tc := ⟨.hbm, 454, rfl⟩
abbrev main_v365 : Ref sig .tc := ⟨.hbm, 455, rfl⟩
abbrev main_v366 : Ref sig .tc := ⟨.hbm, 456, rfl⟩
abbrev main_v367 : Ref sig .tc := ⟨.hbm, 457, rfl⟩
abbrev main_v368 : Ref sig .tc := ⟨.hbm, 458, rfl⟩
abbrev main_v369 : Ref sig .tc := ⟨.hbm, 459, rfl⟩
abbrev main_v370 : Ref sig .tc := ⟨.hbm, 460, rfl⟩
abbrev main_c_81 : Ref sig .tc := ⟨.hbm, 461, rfl⟩
abbrev main_v371 : Ref sig .tc := ⟨.hbm, 462, rfl⟩
abbrev main_v372 : Ref sig .tc := ⟨.hbm, 463, rfl⟩
abbrev main_v373 : Ref sig .tc := ⟨.hbm, 464, rfl⟩
abbrev main_cst_82 : Ref sig .tc := ⟨.hbm, 465, rfl⟩
abbrev main_v374 : Ref sig .tc := ⟨.hbm, 466, rfl⟩
abbrev main_cst_83 : Ref sig .tc := ⟨.hbm, 467, rfl⟩
abbrev main_v375 : Ref sig .tc := ⟨.hbm, 468, rfl⟩
abbrev main_v376 : Ref sig .tc := ⟨.hbm, 469, rfl⟩
abbrev main_v377 : Ref sig .tc := ⟨.hbm, 470, rfl⟩
abbrev main_v378 : Ref sig .tc := ⟨.hbm, 471, rfl⟩
abbrev main_c_84 : Ref sig .tc := ⟨.hbm, 472, rfl⟩
abbrev main_v379 : Ref sig .tc := ⟨.hbm, 473, rfl⟩
abbrev main_c_85 : Ref sig .tc := ⟨.hbm, 474, rfl⟩
abbrev main_v380 : Ref sig .tc := ⟨.hbm, 475, rfl⟩
abbrev main_v381 : Ref sig .tc := ⟨.hbm, 476, rfl⟩
abbrev main_v382 : Ref sig .tc := ⟨.hbm, 477, rfl⟩
abbrev main_v383 : Ref sig .tc := ⟨.hbm, 478, rfl⟩
abbrev main_v384 : Ref sig .tc := ⟨.hbm, 479, rfl⟩
abbrev main_v385 : Ref sig .tc := ⟨.hbm, 480, rfl⟩
abbrev main_c_86 : Ref sig .tc := ⟨.hbm, 481, rfl⟩
abbrev main_v386 : Ref sig .tc := ⟨.hbm, 482, rfl⟩
abbrev main_c_87 : Ref sig .tc := ⟨.hbm, 483, rfl⟩
abbrev main_v387 : Ref sig .tc := ⟨.hbm, 484, rfl⟩
abbrev main_v388 : Ref sig .tc := ⟨.hbm, 485, rfl⟩
abbrev main_v389 : Ref sig .tc := ⟨.hbm, 486, rfl⟩
abbrev main_v390 : Ref sig .tc := ⟨.hbm, 487, rfl⟩
abbrev main_v391 : Ref sig .tc := ⟨.hbm, 488, rfl⟩
abbrev main_v392 : Ref sig .tc := ⟨.hbm, 489, rfl⟩
abbrev main_v393 : Ref sig .tc := ⟨.hbm, 490, rfl⟩
abbrev main_v394 : Ref sig .tc := ⟨.hbm, 491, rfl⟩
abbrev main_v395 : Ref sig .tc := ⟨.hbm, 492, rfl⟩
abbrev main_v396 : Ref sig .tc := ⟨.hbm, 493, rfl⟩
abbrev main_c_88 : Ref sig .tc := ⟨.hbm, 494, rfl⟩
abbrev main_v397 : Ref sig .tc := ⟨.hbm, 495, rfl⟩
abbrev main_v398 : Ref sig .tc := ⟨.hbm, 496, rfl⟩
abbrev main_v399 : Ref sig .tc := ⟨.hbm, 497, rfl⟩
abbrev main_v400 : Ref sig .tc := ⟨.hbm, 498, rfl⟩
abbrev main_v401 : Ref sig .tc := ⟨.hbm, 499, rfl⟩
abbrev main_c_89 : Ref sig .tc := ⟨.hbm, 500, rfl⟩
abbrev main_v402 : Ref sig .tc := ⟨.hbm, 501, rfl⟩
abbrev main_c_90 : Ref sig .tc := ⟨.hbm, 502, rfl⟩
abbrev main_v403 : Ref sig .tc := ⟨.hbm, 503, rfl⟩
abbrev main_v404 : Ref sig .tc := ⟨.hbm, 504, rfl⟩
abbrev main_v405 : Ref sig .tc := ⟨.hbm, 505, rfl⟩
abbrev main_v406 : Ref sig .tc := ⟨.hbm, 506, rfl⟩
abbrev main_v407 : Ref sig .tc := ⟨.hbm, 507, rfl⟩
abbrev main_v408 : Ref sig .tc := ⟨.hbm, 508, rfl⟩
abbrev main_c_91 : Ref sig .tc := ⟨.hbm, 509, rfl⟩
abbrev main_v409 : Ref sig .tc := ⟨.hbm, 510, rfl⟩
abbrev main_c_92 : Ref sig .tc := ⟨.hbm, 511, rfl⟩
abbrev main_v410 : Ref sig .tc := ⟨.hbm, 512, rfl⟩
abbrev main_v411 : Ref sig .tc := ⟨.hbm, 513, rfl⟩
abbrev main_v412 : Ref sig .tc := ⟨.hbm, 514, rfl⟩
abbrev main_v413 : Ref sig .tc := ⟨.hbm, 515, rfl⟩
abbrev main_v414 : Ref sig .tc := ⟨.hbm, 516, rfl⟩
abbrev main_v415 : Ref sig .tc := ⟨.hbm, 517, rfl⟩
abbrev main_v416 : Ref sig .tc := ⟨.hbm, 518, rfl⟩
abbrev main_v417 : Ref sig .tc := ⟨.hbm, 519, rfl⟩
abbrev main_v418 : Ref sig .tc := ⟨.hbm, 520, rfl⟩
abbrev main_v419 : Ref sig .tc := ⟨.hbm, 521, rfl⟩
abbrev main_c_93 : Ref sig .tc := ⟨.hbm, 522, rfl⟩
abbrev main_v420 : Ref sig .tc := ⟨.hbm, 523, rfl⟩
abbrev main_v421 : Ref sig .tc := ⟨.hbm, 524, rfl⟩
abbrev main_v422 : Ref sig .tc := ⟨.hbm, 525, rfl⟩
abbrev main_v423 : Ref sig .tc := ⟨.hbm, 526, rfl⟩
abbrev main_v424 : Ref sig .tc := ⟨.hbm, 527, rfl⟩
abbrev main_c_94 : Ref sig .tc := ⟨.hbm, 528, rfl⟩
abbrev main_v425 : Ref sig .tc := ⟨.hbm, 529, rfl⟩
abbrev main_c_95 : Ref sig .tc := ⟨.hbm, 530, rfl⟩
abbrev main_v426 : Ref sig .tc := ⟨.hbm, 531, rfl⟩
abbrev main_v427 : Ref sig .tc := ⟨.hbm, 532, rfl⟩
abbrev main_v428 : Ref sig .tc := ⟨.hbm, 533, rfl⟩
abbrev main_v429 : Ref sig .tc := ⟨.hbm, 534, rfl⟩
abbrev main_v430 : Ref sig .tc := ⟨.hbm, 535, rfl⟩
abbrev main_v431 : Ref sig .tc := ⟨.hbm, 536, rfl⟩
abbrev main_c_96 : Ref sig .tc := ⟨.hbm, 537, rfl⟩
abbrev main_v432 : Ref sig .tc := ⟨.hbm, 538, rfl⟩
abbrev main_c_97 : Ref sig .tc := ⟨.hbm, 539, rfl⟩
abbrev main_v433 : Ref sig .tc := ⟨.hbm, 540, rfl⟩
abbrev main_v434 : Ref sig .tc := ⟨.hbm, 541, rfl⟩
abbrev main_v435 : Ref sig .tc := ⟨.hbm, 542, rfl⟩
abbrev main_v436 : Ref sig .tc := ⟨.hbm, 543, rfl⟩
abbrev main_v437 : Ref sig .tc := ⟨.hbm, 544, rfl⟩
abbrev main_v438 : Ref sig .tc := ⟨.hbm, 545, rfl⟩
abbrev main_v439 : Ref sig .tc := ⟨.hbm, 546, rfl⟩
abbrev main_v440 : Ref sig .tc := ⟨.hbm, 547, rfl⟩
abbrev main_v441 : Ref sig .tc := ⟨.hbm, 548, rfl⟩
abbrev main_v442 : Ref sig .tc := ⟨.hbm, 549, rfl⟩
abbrev main_c_98 : Ref sig .tc := ⟨.hbm, 550, rfl⟩
abbrev main_v443 : Ref sig .tc := ⟨.hbm, 551, rfl⟩
abbrev main_v444 : Ref sig .tc := ⟨.hbm, 552, rfl⟩
abbrev main_v445 : Ref sig .tc := ⟨.hbm, 553, rfl⟩
abbrev main_v446 : Ref sig .tc := ⟨.hbm, 554, rfl⟩
abbrev main_v447 : Ref sig .tc := ⟨.hbm, 555, rfl⟩
abbrev main_c_99 : Ref sig .tc := ⟨.hbm, 556, rfl⟩
abbrev main_v448 : Ref sig .tc := ⟨.hbm, 557, rfl⟩
abbrev main_c_100 : Ref sig .tc := ⟨.hbm, 558, rfl⟩
abbrev main_v449 : Ref sig .tc := ⟨.hbm, 559, rfl⟩
abbrev main_v450 : Ref sig .tc := ⟨.hbm, 560, rfl⟩
abbrev main_v451 : Ref sig .tc := ⟨.hbm, 561, rfl⟩
abbrev main_v452 : Ref sig .tc := ⟨.hbm, 562, rfl⟩
abbrev main_v453 : Ref sig .tc := ⟨.hbm, 563, rfl⟩
abbrev main_v454 : Ref sig .tc := ⟨.hbm, 564, rfl⟩
abbrev main_c_101 : Ref sig .tc := ⟨.hbm, 565, rfl⟩
abbrev main_v455 : Ref sig .tc := ⟨.hbm, 566, rfl⟩
abbrev main_c_102 : Ref sig .tc := ⟨.hbm, 567, rfl⟩
abbrev main_v456 : Ref sig .tc := ⟨.hbm, 568, rfl⟩
abbrev main_v457 : Ref sig .tc := ⟨.hbm, 569, rfl⟩
abbrev main_v458 : Ref sig .tc := ⟨.hbm, 570, rfl⟩
abbrev main_v459 : Ref sig .tc := ⟨.hbm, 571, rfl⟩
abbrev main_v460 : Ref sig .tc := ⟨.hbm, 572, rfl⟩
abbrev main_v461 : Ref sig .tc := ⟨.hbm, 573, rfl⟩
abbrev main_v462 : Ref sig .tc := ⟨.hbm, 574, rfl⟩
abbrev main_v463 : Ref sig .tc := ⟨.hbm, 575, rfl⟩
abbrev main_v464 : Ref sig .tc := ⟨.hbm, 576, rfl⟩
abbrev main_v465 : Ref sig .tc := ⟨.hbm, 577, rfl⟩
abbrev main_c_103 : Ref sig .tc := ⟨.hbm, 578, rfl⟩
abbrev main_v466 : Ref sig .tc := ⟨.hbm, 579, rfl⟩
abbrev main_v467 : Ref sig .tc := ⟨.hbm, 580, rfl⟩
abbrev main_v468 : Ref sig .tc := ⟨.hbm, 581, rfl⟩
abbrev main_v469 : Ref sig .tc := ⟨.hbm, 582, rfl⟩
abbrev main_v470 : Ref sig .tc := ⟨.hbm, 583, rfl⟩
abbrev main_c_104 : Ref sig .tc := ⟨.hbm, 584, rfl⟩
abbrev main_v471 : Ref sig .tc := ⟨.hbm, 585, rfl⟩
abbrev main_c_105 : Ref sig .tc := ⟨.hbm, 586, rfl⟩
abbrev main_v472 : Ref sig .tc := ⟨.hbm, 587, rfl⟩
abbrev main_v473 : Ref sig .tc := ⟨.hbm, 588, rfl⟩
abbrev main_v474 : Ref sig .tc := ⟨.hbm, 589, rfl⟩
abbrev main_v475 : Ref sig .tc := ⟨.hbm, 590, rfl⟩
abbrev main_v476 : Ref sig .tc := ⟨.hbm, 591, rfl⟩
abbrev main_v477 : Ref sig .tc := ⟨.hbm, 592, rfl⟩
abbrev main_c_106 : Ref sig .tc := ⟨.hbm, 593, rfl⟩
abbrev main_v478 : Ref sig .tc := ⟨.hbm, 594, rfl⟩
abbrev main_c_107 : Ref sig .tc := ⟨.hbm, 595, rfl⟩
abbrev main_v479 : Ref sig .tc := ⟨.hbm, 596, rfl⟩
abbrev main_v480 : Ref sig .tc := ⟨.hbm, 597, rfl⟩
abbrev main_v481 : Ref sig .tc := ⟨.hbm, 598, rfl⟩
abbrev main_v482 : Ref sig .tc := ⟨.hbm, 599, rfl⟩
abbrev main_v483 : Ref sig .tc := ⟨.hbm, 600, rfl⟩
abbrev main_v484 : Ref sig .tc := ⟨.hbm, 601, rfl⟩
abbrev main_v485 : Ref sig .tc := ⟨.hbm, 602, rfl⟩
abbrev main_v486 : Ref sig .tc := ⟨.hbm, 603, rfl⟩
abbrev main_v487 : Ref sig .tc := ⟨.hbm, 604, rfl⟩
abbrev main_v488 : Ref sig .tc := ⟨.hbm, 605, rfl⟩
abbrev main_c_108 : Ref sig .tc := ⟨.hbm, 606, rfl⟩
abbrev main_v489 : Ref sig .tc := ⟨.hbm, 607, rfl⟩
abbrev main_v490 : Ref sig .tc := ⟨.hbm, 608, rfl⟩
abbrev main_v491 : Ref sig .tc := ⟨.hbm, 609, rfl⟩
abbrev main_v492 : Ref sig .tc := ⟨.hbm, 610, rfl⟩
abbrev main_v493 : Ref sig .tc := ⟨.hbm, 611, rfl⟩
abbrev main_c_109 : Ref sig .tc := ⟨.hbm, 612, rfl⟩
abbrev main_v494 : Ref sig .tc := ⟨.hbm, 613, rfl⟩
abbrev main_c_110 : Ref sig .tc := ⟨.hbm, 614, rfl⟩
abbrev main_v495 : Ref sig .tc := ⟨.hbm, 615, rfl⟩
abbrev main_v496 : Ref sig .tc := ⟨.hbm, 616, rfl⟩
abbrev main_v497 : Ref sig .tc := ⟨.hbm, 617, rfl⟩
abbrev main_v498 : Ref sig .tc := ⟨.hbm, 618, rfl⟩
abbrev main_v499 : Ref sig .tc := ⟨.hbm, 619, rfl⟩
abbrev main_v500 : Ref sig .tc := ⟨.hbm, 620, rfl⟩
abbrev main_c_111 : Ref sig .tc := ⟨.hbm, 621, rfl⟩
abbrev main_v501 : Ref sig .tc := ⟨.hbm, 622, rfl⟩
abbrev main_c_112 : Ref sig .tc := ⟨.hbm, 623, rfl⟩
abbrev main_v502 : Ref sig .tc := ⟨.hbm, 624, rfl⟩
abbrev main_v503 : Ref sig .tc := ⟨.hbm, 625, rfl⟩
abbrev main_v504 : Ref sig .tc := ⟨.hbm, 626, rfl⟩
abbrev main_v505 : Ref sig .tc := ⟨.hbm, 627, rfl⟩
abbrev main_v506 : Ref sig .tc := ⟨.hbm, 628, rfl⟩
abbrev main_v507 : Ref sig .tc := ⟨.hbm, 629, rfl⟩
abbrev main_v508 : Ref sig .tc := ⟨.hbm, 630, rfl⟩
abbrev main_v509 : Ref sig .tc := ⟨.hbm, 631, rfl⟩
abbrev main_v510 : Ref sig .tc := ⟨.hbm, 632, rfl⟩
abbrev main_v511 : Ref sig .tc := ⟨.hbm, 633, rfl⟩
abbrev main_c_113 : Ref sig .tc := ⟨.hbm, 634, rfl⟩
abbrev main_v512 : Ref sig .tc := ⟨.hbm, 635, rfl⟩
abbrev main_v513 : Ref sig .tc := ⟨.hbm, 636, rfl⟩
abbrev main_v514 : Ref sig .tc := ⟨.hbm, 637, rfl⟩
abbrev main_v515 : Ref sig .tc := ⟨.hbm, 638, rfl⟩
abbrev main_v516 : Ref sig .tc := ⟨.hbm, 639, rfl⟩
abbrev main_c_114 : Ref sig .tc := ⟨.hbm, 640, rfl⟩
abbrev main_v517 : Ref sig .tc := ⟨.hbm, 641, rfl⟩
abbrev main_c_115 : Ref sig .tc := ⟨.hbm, 642, rfl⟩
abbrev main_v518 : Ref sig .tc := ⟨.hbm, 643, rfl⟩
abbrev main_v519 : Ref sig .tc := ⟨.hbm, 644, rfl⟩
abbrev main_v520 : Ref sig .tc := ⟨.hbm, 645, rfl⟩
abbrev main_v521 : Ref sig .tc := ⟨.hbm, 646, rfl⟩
abbrev main_v522 : Ref sig .tc := ⟨.hbm, 647, rfl⟩
abbrev main_v523 : Ref sig .tc := ⟨.hbm, 648, rfl⟩
abbrev main_c_116 : Ref sig .tc := ⟨.hbm, 649, rfl⟩
abbrev main_v524 : Ref sig .tc := ⟨.hbm, 650, rfl⟩
abbrev main_c_117 : Ref sig .tc := ⟨.hbm, 651, rfl⟩
abbrev main_v525 : Ref sig .tc := ⟨.hbm, 652, rfl⟩
abbrev main_v526 : Ref sig .tc := ⟨.hbm, 653, rfl⟩
abbrev main_v527 : Ref sig .tc := ⟨.hbm, 654, rfl⟩
abbrev main_v528 : Ref sig .tc := ⟨.hbm, 655, rfl⟩
abbrev main_v529 : Ref sig .tc := ⟨.hbm, 656, rfl⟩
abbrev main_v530 : Ref sig .tc := ⟨.hbm, 657, rfl⟩
abbrev main_v531 : Ref sig .tc := ⟨.hbm, 658, rfl⟩
abbrev main_v532 : Ref sig .tc := ⟨.hbm, 659, rfl⟩
abbrev main_v533 : Ref sig .tc := ⟨.hbm, 660, rfl⟩
abbrev main_v534 : Ref sig .tc := ⟨.hbm, 661, rfl⟩
abbrev main_c_118 : Ref sig .tc := ⟨.hbm, 662, rfl⟩
abbrev main_v535 : Ref sig .tc := ⟨.hbm, 663, rfl⟩
abbrev main_v536 : Ref sig .tc := ⟨.hbm, 664, rfl⟩
abbrev main_v537 : Ref sig .tc := ⟨.hbm, 665, rfl⟩
abbrev main_v538 : Ref sig .tc := ⟨.hbm, 666, rfl⟩
abbrev main_v539 : Ref sig .tc := ⟨.hbm, 667, rfl⟩
abbrev main_c_119 : Ref sig .tc := ⟨.hbm, 668, rfl⟩
abbrev main_v540 : Ref sig .tc := ⟨.hbm, 669, rfl⟩
abbrev main_c_120 : Ref sig .tc := ⟨.hbm, 670, rfl⟩
abbrev main_v541 : Ref sig .tc := ⟨.hbm, 671, rfl⟩
abbrev main_v542 : Ref sig .tc := ⟨.hbm, 672, rfl⟩
abbrev main_v543 : Ref sig .tc := ⟨.hbm, 673, rfl⟩
abbrev main_v544 : Ref sig .tc := ⟨.hbm, 674, rfl⟩
abbrev main_v545 : Ref sig .tc := ⟨.hbm, 675, rfl⟩
abbrev main_v546 : Ref sig .tc := ⟨.hbm, 676, rfl⟩
abbrev main_c_121 : Ref sig .tc := ⟨.hbm, 677, rfl⟩
abbrev main_v547 : Ref sig .tc := ⟨.hbm, 678, rfl⟩
abbrev main_c_122 : Ref sig .tc := ⟨.hbm, 679, rfl⟩
abbrev main_v548 : Ref sig .tc := ⟨.hbm, 680, rfl⟩
abbrev main_v549 : Ref sig .tc := ⟨.hbm, 681, rfl⟩
abbrev main_v550 : Ref sig .tc := ⟨.hbm, 682, rfl⟩
abbrev main_v551 : Ref sig .tc := ⟨.hbm, 683, rfl⟩
abbrev main_v552 : Ref sig .tc := ⟨.hbm, 684, rfl⟩
abbrev main_v553 : Ref sig .tc := ⟨.hbm, 685, rfl⟩
abbrev main_v554 : Ref sig .tc := ⟨.hbm, 686, rfl⟩
abbrev main_v555 : Ref sig .tc := ⟨.hbm, 687, rfl⟩
abbrev main_v556 : Ref sig .tc := ⟨.hbm, 688, rfl⟩
abbrev main_v557 : Ref sig .tc := ⟨.hbm, 689, rfl⟩
abbrev main_c_123 : Ref sig .tc := ⟨.hbm, 690, rfl⟩
abbrev main_v558 : Ref sig .tc := ⟨.hbm, 691, rfl⟩
abbrev main_v559 : Ref sig .tc := ⟨.hbm, 692, rfl⟩
abbrev main_v560 : Ref sig .tc := ⟨.hbm, 693, rfl⟩
abbrev main_v561 : Ref sig .tc := ⟨.hbm, 694, rfl⟩
abbrev main_v562 : Ref sig .tc := ⟨.hbm, 695, rfl⟩
abbrev main_v563 : Ref sig .tc := ⟨.hbm, 696, rfl⟩
abbrev main_v564 : Ref sig .tc := ⟨.hbm, 697, rfl⟩
abbrev main_v565 : Ref sig .tc := ⟨.hbm, 698, rfl⟩
abbrev main_v566 : Ref sig .tc := ⟨.hbm, 699, rfl⟩
abbrev main_v567 : Ref sig .tc := ⟨.hbm, 700, rfl⟩
abbrev main_v568 : Ref sig .tc := ⟨.hbm, 701, rfl⟩
abbrev main_v569 : Ref sig .tc := ⟨.hbm, 702, rfl⟩
abbrev main_v570 : Ref sig .tc := ⟨.hbm, 703, rfl⟩
abbrev main_v571 : Ref sig .tc := ⟨.hbm, 704, rfl⟩
abbrev main_v572 : Ref sig .tc := ⟨.hbm, 705, rfl⟩
abbrev main_v573 : Ref sig .tc := ⟨.hbm, 706, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem3_1 : DmaSem sig := 9

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c20_i32 : BitVec 32 := 20#32
  let v16 : BitVec 32 := Scalar.addi c0_i32 c20_i32
  let c1_i32 : BitVec 32 := 1#32
  ⟨c0_i32, v16, c1_i32⟩
def k0_off1 (k0_t1 : Fin k0_t1_loop.trips) : Fin 3 → Nat :=
  let c0_i32 : BitVec 32 := 0#32
  let c1_i32 : BitVec 32 := 1#32
  let arg8 : BitVec 32 := Scf.iv c0_i32 c1_i32 k0_t1
  let v51 : Index := Scalar.indexCast arg8
  let c0_57 : Index := 0#32
  let c0_58 : Index := 0#32
  ![v51.toNat, 0, 0]
def k0_off2 (k0_t1 : Fin k0_t1_loop.trips) : Fin 3 → Nat :=
  let c19_i32 : BitVec 32 := 19#32
  let c0_i32 : BitVec 32 := 0#32
  let c1_i32 : BitVec 32 := 1#32
  let arg8 : BitVec 32 := Scf.iv c0_i32 c1_i32 k0_t1
  let v55 : BitVec 32 := Scalar.subi c19_i32 arg8
  let v56 : Index := Scalar.indexCast v55
  let c0_60 : Index := 0#32
  let c0_61 : Index := 0#32
  ![v56.toNat, 0, 0]
def k0_off3 (k0_t1 : Fin k0_t1_loop.trips) : Fin 3 → Nat :=
  let c0_i32 : BitVec 32 := 0#32
  let c1_i32 : BitVec 32 := 1#32
  let arg8 : BitVec 32 := Scf.iv c0_i32 c1_i32 k0_t1
  let v105 : Index := Scalar.indexCast arg8
  let c0_81 : Index := 0#32
  let c0_82 : Index := 0#32
  ![v105.toNat, 0, 0]
def k0_off4 (k0_t1 : Fin k0_t1_loop.trips) : Fin 3 → Nat :=
  let c19_i32_83 : BitVec 32 := 19#32
  let c0_i32 : BitVec 32 := 0#32
  let c1_i32 : BitVec 32 := 1#32
  let arg8 : BitVec 32 := Scf.iv c0_i32 c1_i32 k0_t1
  let v110 : BitVec 32 := Scalar.subi c19_i32_83 arg8
  let v111 : Index := Scalar.indexCast v110
  let c32 : Index := 32#32
  let c0_84 : Index := 0#32
  ![v111.toNat, 32, 0]
@[reducible] def k0_t2_loop : Scf.Loop 32 :=
  let c0_i32_32 : BitVec 32 := 0#32
  let c20_i32_33 : BitVec 32 := 20#32
  let v33 : BitVec 32 := Scalar.addi c0_i32_32 c20_i32_33
  let c1_i32_34 : BitVec 32 := 1#32
  ⟨c0_i32_32, v33, c1_i32_34⟩
def k0_off5 (k0_t2 : Fin k0_t2_loop.trips) : Fin 3 → Nat :=
  let c0_i32_32 : BitVec 32 := 0#32
  let c1_i32_34 : BitVec 32 := 1#32
  let arg8 : BitVec 32 := Scf.iv c0_i32_32 c1_i32_34 k0_t2
  let v51 : Index := Scalar.indexCast arg8
  let c0_57 : Index := 0#32
  let c0_58 : Index := 0#32
  ![v51.toNat, 0, 0]
def k0_off6 (k0_t2 : Fin k0_t2_loop.trips) : Fin 3 → Nat :=
  let c19_i32 : BitVec 32 := 19#32
  let c0_i32_32 : BitVec 32 := 0#32
  let c1_i32_34 : BitVec 32 := 1#32
  let arg8 : BitVec 32 := Scf.iv c0_i32_32 c1_i32_34 k0_t2
  let v55 : BitVec 32 := Scalar.subi c19_i32 arg8
  let v56 : Index := Scalar.indexCast v55
  let c0_60 : Index := 0#32
  let c0_61 : Index := 0#32
  ![v56.toNat, 0, 0]
def k0_off7 (k0_t2 : Fin k0_t2_loop.trips) : Fin 3 → Nat :=
  let c0_i32_32 : BitVec 32 := 0#32
  let c1_i32_34 : BitVec 32 := 1#32
  let arg8 : BitVec 32 := Scf.iv c0_i32_32 c1_i32_34 k0_t2
  let v105 : Index := Scalar.indexCast arg8
  let c0_81 : Index := 0#32
  let c0_82 : Index := 0#32
  ![v105.toNat, 0, 0]
def k0_off8 (k0_t2 : Fin k0_t2_loop.trips) : Fin 3 → Nat :=
  let c19_i32_83 : BitVec 32 := 19#32
  let c0_i32_32 : BitVec 32 := 0#32
  let c1_i32_34 : BitVec 32 := 1#32
  let arg8 : BitVec 32 := Scf.iv c0_i32_32 c1_i32_34 k0_t2
  let v110 : BitVec 32 := Scalar.subi c19_i32_83 arg8
  let v111 : Index := Scalar.indexCast v110
  let c32 : Index := 32#32
  let c0_84 : Index := 0#32
  ![v111.toNat, 32, 0]
@[reducible] def k0_t3_loop : Scf.Loop 32 :=
  let c0_i32_53 : BitVec 32 := 0#32
  let c20_i32_54 : BitVec 32 := 20#32
  let v50 : BitVec 32 := Scalar.addi c0_i32_53 c20_i32_54
  let c1_i32_55 : BitVec 32 := 1#32
  ⟨c0_i32_53, v50, c1_i32_55⟩
def k0_off9 (k0_t3 : Fin k0_t3_loop.trips) : Fin 3 → Nat :=
  let c0_i32_53 : BitVec 32 := 0#32
  let c1_i32_55 : BitVec 32 := 1#32
  let arg8 : BitVec 32 := Scf.iv c0_i32_53 c1_i32_55 k0_t3
  let v51 : Index := Scalar.indexCast arg8
  let c0_57 : Index := 0#32
  let c0_58 : Index := 0#32
  ![v51.toNat, 0, 0]
def k0_off10 (k0_t3 : Fin k0_t3_loop.trips) : Fin 3 → Nat :=
  let c19_i32 : BitVec 32 := 19#32
  let c0_i32_53 : BitVec 32 := 0#32
  let c1_i32_55 : BitVec 32 := 1#32
  let arg8 : BitVec 32 := Scf.iv c0_i32_53 c1_i32_55 k0_t3
  let v55 : BitVec 32 := Scalar.subi c19_i32 arg8
  let v56 : Index := Scalar.indexCast v55
  let c0_60 : Index := 0#32
  let c0_61 : Index := 0#32
  ![v56.toNat, 0, 0]
def k0_off11 (k0_t3 : Fin k0_t3_loop.trips) : Fin 3 → Nat :=
  let c0_i32_53 : BitVec 32 := 0#32
  let c1_i32_55 : BitVec 32 := 1#32
  let arg8 : BitVec 32 := Scf.iv c0_i32_53 c1_i32_55 k0_t3
  let v105 : Index := Scalar.indexCast arg8
  let c0_81 : Index := 0#32
  let c0_82 : Index := 0#32
  ![v105.toNat, 0, 0]
def k0_off12 (k0_t3 : Fin k0_t3_loop.trips) : Fin 3 → Nat :=
  let c19_i32_83 : BitVec 32 := 19#32
  let c0_i32_53 : BitVec 32 := 0#32
  let c1_i32_55 : BitVec 32 := 1#32
  let arg8 : BitVec 32 := Scf.iv c0_i32_53 c1_i32_55 k0_t3
  let v110 : BitVec 32 := Scalar.subi c19_i32_83 arg8
  let v111 : Index := Scalar.indexCast v110
  let c32 : Index := 32#32
  let c0_84 : Index := 0#32
  ![v111.toNat, 32, 0]
abbrev stage0_0 : Fin 1 → Memref sig .tc .vmem S20x1024x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x256x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S20x64x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := ⟨1, ![20], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage1_0 : Fin 2 → Memref sig .tc .vmem S1x64x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4x64x1000 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S4x1x1000 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x1x4x1000 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== LstmReferenceIdeal.lean ====
abbrev S20x1024x64 : Shape := ⟨3, ![20, 1024, 64]⟩
abbrev S3x2x128x64 : Shape := ⟨4, ![3, 2, 128, 64]⟩
abbrev S3x2x128x32 : Shape := ⟨4, ![3, 2, 128, 32]⟩
abbrev S3x2x128 : Shape := ⟨3, ![3, 2, 128]⟩
abbrev S4000x64 : Shape := ⟨2, ![4000, 64]⟩
abbrev S4000 : Shape := ⟨1, ![4000]⟩
abbrev S1x1x128x64 : Shape := ⟨4, ![1, 1, 128, 64]⟩
abbrev S128x64 : Shape := ⟨2, ![128, 64]⟩
abbrev S1x1x128x32 : Shape := ⟨4, ![1, 1, 128, 32]⟩
abbrev S128x32 : Shape := ⟨2, ![128, 32]⟩
abbrev S1x1x128 : Shape := ⟨3, ![1, 1, 128]⟩
abbrev S128 : Shape := ⟨1, ![128]⟩
abbrev S_ : Shape := ⟨0, ![]⟩
abbrev S1024x32 : Shape := ⟨2, ![1024, 32]⟩
abbrev S20x1024x32 : Shape := ⟨3, ![20, 1024, 32]⟩
abbrev S1x1024x64 : Shape := ⟨3, ![1, 1024, 64]⟩
abbrev S1024x64 : Shape := ⟨2, ![1024, 64]⟩
abbrev S64x128 : Shape := ⟨2, ![64, 128]⟩
abbrev S1024x128 : Shape := ⟨2, ![1024, 128]⟩
abbrev S32x128 : Shape := ⟨2, ![32, 128]⟩
abbrev S1x128 : Shape := ⟨2, ![1, 128]⟩
abbrev S1x1024x32 : Shape := ⟨3, ![1, 1024, 32]⟩
abbrev S1024x20x64 : Shape := ⟨3, ![1024, 20, 64]⟩
abbrev S64x4000 : Shape := ⟨2, ![64, 4000]⟩
abbrev S1024x20x4000 : Shape := ⟨3, ![1024, 20, 4000]⟩
abbrev S1x1x4000 : Shape := ⟨3, ![1, 1, 4000]⟩
abbrev S1024x20x4x1000 : Shape := ⟨4, ![1024, 20, 4, 1000]⟩

abbrev nBuf : Space → Nat
  | .hbm => 491
  | .vmem => 0
  | .smem => 0
  | _ => 0

abbrev hbmTy0_0 (i : Nat) : BufTy := match i % 128 with
  | 0 => ⟨S20x1024x64, .f32⟩
  | 1 => ⟨S3x2x128x64, .f32⟩
  | 2 => ⟨S3x2x128x32, .f32⟩
  | 3 => ⟨S3x2x128, .f32⟩
  | 4 => ⟨S3x2x128, .f32⟩
  | 5 => ⟨S4000x64, .f32⟩
  | 6 => ⟨S4000, .f32⟩
  | 7 => ⟨S1x1x128x64, .f32⟩
  | 8 => ⟨S128x64, .f32⟩
  | 9 => ⟨S1x1x128x32, .f32⟩
  | 10 => ⟨S128x32, .f32⟩
  | 11 => ⟨S1x1x128, .f32⟩
  | 12 => ⟨S128, .f32⟩
  | 13 => ⟨S1x1x128, .f32⟩
  | 14 => ⟨S128, .f32⟩
  | 15 => ⟨S128, .f32⟩
  | 16 => ⟨S_, .f32⟩
  | 17 => ⟨S1024x32, .f32⟩
  | 18 => ⟨S_, .f32⟩
  | 19 => ⟨S1024x32, .f32⟩
  | 20 => ⟨S_, .f32⟩
  | 21 => ⟨S20x1024x32, .f32⟩
  | 22 => ⟨S_, .i32⟩
  | 23 => ⟨S20x1024x64, .f32⟩
  | 24 => ⟨S128x64, .f32⟩
  | 25 => ⟨S128x32, .f32⟩
  | 26 => ⟨S128, .f32⟩
  | 27 => ⟨S_, .i32⟩
  | 28 => ⟨S1024x32, .f32⟩
  | 29 => ⟨S1024x32, .f32⟩
  | 30 => ⟨S20x1024x32, .f32⟩
  | 31 => ⟨S_, .i32⟩
  | 32 => ⟨S_, .i1⟩
  | 33 => ⟨S_, .i32⟩
  | 34 => ⟨S_, .i32⟩
  | 35 => ⟨S1x1024x64, .f32⟩
  | 36 => ⟨S1024x64, .f32⟩
  | 37 => ⟨S64x128, .f32⟩
  | 38 => ⟨S1024x128, .f32⟩
  | 39 => ⟨S32x128, .f32⟩
  | 40 => ⟨S1024x128, .f32⟩
  | 41 => ⟨S1024x128, .f32⟩
  | 42 => ⟨S1x128, .f32⟩
  | 43 => ⟨S1024x128, .f32⟩
  | 44 => ⟨S1024x128, .f32⟩
  | 45 => ⟨S1024x32, .f32⟩
  | 46 => ⟨S1024x32, .f32⟩
  | 47 => ⟨S1024x32, .f32⟩
  | 48 => ⟨S1024x32, .f32⟩
  | 49 => ⟨S1024x32, .f32⟩
  | 50 => ⟨S1024x32, .f32⟩
  | 51 => ⟨S_, .f32⟩
  | 52 => ⟨S1024x32, .f32⟩
  | 53 => ⟨S1024x32, .f32⟩
  | 54 => ⟨S_, .f32⟩
  | 55 => ⟨S1024x32, .f32⟩
  | 56 => ⟨S1024x32, .f32⟩
  | 57 => ⟨S1024x32, .f32⟩
  | 58 => ⟨S1024x32, .f32⟩
  | 59 => ⟨S1024x32, .f32⟩
  | 60 => ⟨S_, .f32⟩
  | 61 => ⟨S1024x32, .f32⟩
  | 62 => ⟨S1024x32, .f32⟩
  | 63 => ⟨S_, .f32⟩
  | 64 => ⟨S1024x32, .f32⟩
  | 65 => ⟨S1024x32, .f32⟩
  | 66 => ⟨S1024x32, .f32⟩
  | 67 => ⟨S1024x32, .f32⟩
  | 68 => ⟨S1024x32, .f32⟩
  | 69 => ⟨S1024x32, .f32⟩
  | 70 => ⟨S1024x32, .f32⟩
  | 71 => ⟨S_, .f32⟩
  | 72 => ⟨S1024x32, .f32⟩
  | 73 => ⟨S1024x32, .f32⟩
  | 74 => ⟨S_, .f32⟩
  | 75 => ⟨S1024x32, .f32⟩
  | 76 => ⟨S1024x32, .f32⟩
  | 77 => ⟨S1024x32, .f32⟩
  | 78 => ⟨S1024x32, .f32⟩
  | 79 => ⟨S1x1024x32, .f32⟩
  | 80 => ⟨S_, .i32⟩
  | 81 => ⟨S_, .i32⟩
  | 82 => ⟨S20x1024x32, .f32⟩
  | 83 => ⟨S_, .i32⟩
  | 84 => ⟨S_, .i32⟩
  | 85 => ⟨S20x1024x64, .f32⟩
  | 86 => ⟨S1x1x128x64, .f32⟩
  | 87 => ⟨S128x64, .f32⟩
  | 88 => ⟨S1x1x128x32, .f32⟩
  | 89 => ⟨S128x32, .f32⟩
  | 90 => ⟨S1x1x128, .f32⟩
  | 91 => ⟨S128, .f32⟩
  | 92 => ⟨S1x1x128, .f32⟩
  | 93 => ⟨S128, .f32⟩
  | 94 => ⟨S128, .f32⟩
  | 95 => ⟨S_, .f32⟩
  | 96 => ⟨S1024x32, .f32⟩
  | 97 => ⟨S_, .f32⟩
  | 98 => ⟨S1024x32, .f32⟩
  | 99 => ⟨S_, .f32⟩
  | 100 => ⟨S20x1024x32, .f32⟩
  | 101 => ⟨S_, .i32⟩
  | 102 => ⟨S20x1024x64, .f32⟩
  | 103 => ⟨S128x64, .f32⟩
  | 104 => ⟨S128x32, .f32⟩
  | 105 => ⟨S128, .f32⟩
  | 106 => ⟨S_, .i32⟩
  | 107 => ⟨S1024x32, .f32⟩
  | 108 => ⟨S1024x32, .f32⟩
  | 109 => ⟨S20x1024x32, .f32⟩
  | 110 => ⟨S_, .i32⟩
  | 111 => ⟨S_, .i1⟩
  | 112 => ⟨S_, .i32⟩
  | 113 => ⟨S_, .i32⟩
  | 114 => ⟨S1x1024x64, .f32⟩
  | 115 => ⟨S1024x64, .f32⟩
  | 116 => ⟨S64x128, .f32⟩
  | 117 => ⟨S1024x128, .f32⟩
  | 118 => ⟨S32x128, .f32⟩
  | 119 => ⟨S1024x128, .f32⟩
  | 120 => ⟨S1024x128, .f32⟩
  | 121 => ⟨S1x128, .f32⟩
  | 122 => ⟨S1024x128, .f32⟩
  | 123 => ⟨S1024x128, .f32⟩
  | 124 => ⟨S1024x32, .f32⟩
  | 125 => ⟨S1024x32, .f32⟩
  | 126 => ⟨S1024x32, .f32⟩
  | 127 => ⟨S1024x32, .f32⟩
  | _ => ⟨S20x1024x64, .f32⟩

abbrev hbmTy0_1 (i : Nat) : BufTy := match i % 128 with
  | 0 => ⟨S1024x32, .f32⟩
  | 1 => ⟨S1024x32, .f32⟩
  | 2 => ⟨S_, .f32⟩
  | 3 => ⟨S1024x32, .f32⟩
  | 4 => ⟨S1024x32, .f32⟩
  | 5 => ⟨S_, .f32⟩
  | 6 => ⟨S1024x32, .f32⟩
  | 7 => ⟨S1024x32, .f32⟩
  | 8 => ⟨S1024x32, .f32⟩
  | 9 => ⟨S1024x32, .f32⟩
  | 10 => ⟨S1024x32, .f32⟩
  | 11 => ⟨S_, .f32⟩
  | 12 => ⟨S1024x32, .f32⟩
  | 13 => ⟨S1024x32, .f32⟩
  | 14 => ⟨S_, .f32⟩
  | 15 => ⟨S1024x32, .f32⟩
  | 16 => ⟨S1024x32, .f32⟩
  | 17 => ⟨S1024x32, .f32⟩
  | 18 => ⟨S1024x32, .f32⟩
  | 19 => ⟨S1024x32, .f32⟩
  | 20 => ⟨S1024x32, .f32⟩
  | 21 => ⟨S1024x32, .f32⟩
  | 22 => ⟨S_, .f32⟩
  | 23 => ⟨S1024x32, .f32⟩
  | 24 => ⟨S1024x32, .f32⟩
  | 25 => ⟨S_, .f32⟩
  | 26 => ⟨S1024x32, .f32⟩
  | 27 => ⟨S1024x32, .f32⟩
  | 28 => ⟨S1024x32, .f32⟩
  | 29 => ⟨S1024x32, .f32⟩
  | 30 => ⟨S1x1024x32, .f32⟩
  | 31 => ⟨S_, .i32⟩
  | 32 => ⟨S_, .i32⟩
  | 33 => ⟨S20x1024x32, .f32⟩
  | 34 => ⟨S_, .i32⟩
  | 35 => ⟨S_, .i32⟩
  | 36 => ⟨S20x1024x32, .f32⟩
  | 37 => ⟨S20x1024x64, .f32⟩
  | 38 => ⟨S1x1x128x64, .f32⟩
  | 39 => ⟨S128x64, .f32⟩
  | 40 => ⟨S1x1x128x32, .f32⟩
  | 41 => ⟨S128x32, .f32⟩
  | 42 => ⟨S1x1x128, .f32⟩
  | 43 => ⟨S128, .f32⟩
  | 44 => ⟨S1x1x128, .f32⟩
  | 45 => ⟨S128, .f32⟩
  | 46 => ⟨S128, .f32⟩
  | 47 => ⟨S_, .f32⟩
  | 48 => ⟨S1024x32, .f32⟩
  | 49 => ⟨S_, .f32⟩
  | 50 => ⟨S1024x32, .f32⟩
  | 51 => ⟨S_, .f32⟩
  | 52 => ⟨S20x1024x32, .f32⟩
  | 53 => ⟨S_, .i32⟩
  | 54 => ⟨S20x1024x64, .f32⟩
  | 55 => ⟨S128x64, .f32⟩
  | 56 => ⟨S128x32, .f32⟩
  | 57 => ⟨S128, .f32⟩
  | 58 => ⟨S_, .i32⟩
  | 59 => ⟨S1024x32, .f32⟩
  | 60 => ⟨S1024x32, .f32⟩
  | 61 => ⟨S20x1024x32, .f32⟩
  | 62 => ⟨S_, .i32⟩
  | 63 => ⟨S_, .i1⟩
  | 64 => ⟨S_, .i32⟩
  | 65 => ⟨S_, .i32⟩
  | 66 => ⟨S1x1024x64, .f32⟩
  | 67 => ⟨S1024x64, .f32⟩
  | 68 => ⟨S64x128, .f32⟩
  | 69 => ⟨S1024x128, .f32⟩
  | 70 => ⟨S32x128, .f32⟩
  | 71 => ⟨S1024x128, .f32⟩
  | 72 => ⟨S1024x128, .f32⟩
  | 73 => ⟨S1x128, .f32⟩
  | 74 => ⟨S1024x128, .f32⟩
  | 75 => ⟨S1024x128, .f32⟩
  | 76 => ⟨S1024x32, .f32⟩
  | 77 => ⟨S1024x32, .f32⟩
  | 78 => ⟨S1024x32, .f32⟩
  | 79 => ⟨S1024x32, .f32⟩
  | 80 => ⟨S1024x32, .f32⟩
  | 81 => ⟨S1024x32, .f32⟩
  | 82 => ⟨S_, .f32⟩
  | 83 => ⟨S1024x32, .f32⟩
  | 84 => ⟨S1024x32, .f32⟩
  | 85 => ⟨S_, .f32⟩
  | 86 => ⟨S1024x32, .f32⟩
  | 87 => ⟨S1024x32, .f32⟩
  | 88 => ⟨S1024x32, .f32⟩
  | 89 => ⟨S1024x32, .f32⟩
  | 90 => ⟨S1024x32, .f32⟩
  | 91 => ⟨S_, .f32⟩
  | 92 => ⟨S1024x32, .f32⟩
  | 93 => ⟨S1024x32, .f32⟩
  | 94 => ⟨S_, .f32⟩
  | 95 => ⟨S1024x32, .f32⟩
  | 96 => ⟨S1024x32, .f32⟩
  | 97 => ⟨S1024x32, .f32⟩
  | 98 => ⟨S1024x32, .f32⟩
  | 99 => ⟨S1024x32, .f32⟩
  | 100 => ⟨S1024x32, .f32⟩
  | 101 => ⟨S1024x32, .f32⟩
  | 102 => ⟨S_, .f32⟩
  | 103 => ⟨S1024x32, .f32⟩
  | 104 => ⟨S1024x32, .f32⟩
  | 105 => ⟨S_, .f32⟩
  | 106 => ⟨S1024x32, .f32⟩
  | 107 => ⟨S1024x32, .f32⟩
  | 108 => ⟨S1024x32, .f32⟩
  | 109 => ⟨S1024x32, .f32⟩
  | 110 => ⟨S1x1024x32, .f32⟩
  | 111 => ⟨S_, .i32⟩
  | 112 => ⟨S_, .i32⟩
  | 113 => ⟨S20x1024x32, .f32⟩
  | 114 => ⟨S_, .i32⟩
  | 115 => ⟨S_, .i32⟩
  | 116 => ⟨S20x1024x64, .f32⟩
  | 117 => ⟨S1x1x128x64, .f32⟩
  | 118 => ⟨S128x64, .f32⟩
  | 119 => ⟨S1x1x128x32, .f32⟩
  | 120 => ⟨S128x32, .f32⟩
  | 121 => ⟨S1x1x128, .f32⟩
  | 122 => ⟨S128, .f32⟩
  | 123 => ⟨S1x1x128, .f32⟩
  | 124 => ⟨S128, .f32⟩
  | 125 => ⟨S128, .f32⟩
  | 126 => ⟨S_, .f32⟩
  | 127 => ⟨S1024x32, .f32⟩
  | _ => ⟨S20x1024x64, .f32⟩

abbrev hbmTy0_2 (i : Nat) : BufTy := match i % 128 with
  | 0 => ⟨S_, .f32⟩
  | 1 => ⟨S1024x32, .f32⟩
  | 2 => ⟨S_, .f32⟩
  | 3 => ⟨S20x1024x32, .f32⟩
  | 4 => ⟨S_, .i32⟩
  | 5 => ⟨S20x1024x64, .f32⟩
  | 6 => ⟨S128x64, .f32⟩
  | 7 => ⟨S128x32, .f32⟩
  | 8 => ⟨S128, .f32⟩
  | 9 => ⟨S_, .i32⟩
  | 10 => ⟨S1024x32, .f32⟩
  | 11 => ⟨S1024x32, .f32⟩
  | 12 => ⟨S20x1024x32, .f32⟩
  | 13 => ⟨S_, .i32⟩
  | 14 => ⟨S_, .i1⟩
  | 15 => ⟨S_, .i32⟩
  | 16 => ⟨S_, .i32⟩
  | 17 => ⟨S1x1024x64, .f32⟩
  | 18 => ⟨S1024x64, .f32⟩
  | 19 => ⟨S64x128, .f32⟩
  | 20 => ⟨S1024x128, .f32⟩
  | 21 => ⟨S32x128, .f32⟩
  | 22 => ⟨S1024x128, .f32⟩
  | 23 => ⟨S1024x128, .f32⟩
  | 24 => ⟨S1x128, .f32⟩
  | 25 => ⟨S1024x128, .f32⟩
  | 26 => ⟨S1024x128, .f32⟩
  | 27 => ⟨S1024x32, .f32⟩
  | 28 => ⟨S1024x32, .f32⟩
  | 29 => ⟨S1024x32, .f32⟩
  | 30 => ⟨S1024x32, .f32⟩
  | 31 => ⟨S1024x32, .f32⟩
  | 32 => ⟨S1024x32, .f32⟩
  | 33 => ⟨S_, .f32⟩
  | 34 => ⟨S1024x32, .f32⟩
  | 35 => ⟨S1024x32, .f32⟩
  | 36 => ⟨S_, .f32⟩
  | 37 => ⟨S1024x32, .f32⟩
  | 38 => ⟨S1024x32, .f32⟩
  | 39 => ⟨S1024x32, .f32⟩
  | 40 => ⟨S1024x32, .f32⟩
  | 41 => ⟨S1024x32, .f32⟩
  | 42 => ⟨S_, .f32⟩
  | 43 => ⟨S1024x32, .f32⟩
  | 44 => ⟨S1024x32, .f32⟩
  | 45 => ⟨S_, .f32⟩
  | 46 => ⟨S1024x32, .f32⟩
  | 47 => ⟨S1024x32, .f32⟩
  | 48 => ⟨S1024x32, .f32⟩
  | 49 => ⟨S1024x32, .f32⟩
  | 50 => ⟨S1024x32, .f32⟩
  | 51 => ⟨S1024x32, .f32⟩
  | 52 => ⟨S1024x32, .f32⟩
  | 53 => ⟨S_, .f32⟩
  | 54 => ⟨S1024x32, .f32⟩
  | 55 => ⟨S1024x32, .f32⟩
  | 56 => ⟨S_, .f32⟩
  | 57 => ⟨S1024x32, .f32⟩
  | 58 => ⟨S1024x32, .f32⟩
  | 59 => ⟨S1024x32, .f32⟩
  | 60 => ⟨S1024x32, .f32⟩
  | 61 => ⟨S1x1024x32, .f32⟩
  | 62 => ⟨S_, .i32⟩
  | 63 => ⟨S_, .i32⟩
  | 64 => ⟨S20x1024x32, .f32⟩
  | 65 => ⟨S_, .i32⟩
  | 66 => ⟨S_, .i32⟩
  | 67 => ⟨S20x1024x32, .f32⟩
  | 68 => ⟨S20x1024x64, .f32⟩
  | 69 => ⟨S1x1x128x64, .f32⟩
  | 70 => ⟨S128x64, .f32⟩
  | 71 => ⟨S1x1x128x32, .f32⟩
  | 72 => ⟨S128x32, .f32⟩
  | 73 => ⟨S1x1x128, .f32⟩
  | 74 => ⟨S128, .f32⟩
  | 75 => ⟨S1x1x128, .f32⟩
  | 76 => ⟨S128, .f32⟩
  | 77 => ⟨S128, .f32⟩
  | 78 => ⟨S_, .f32⟩
  | 79 => ⟨S1024x32, .f32⟩
  | 80 => ⟨S_, .f32⟩
  | 81 => ⟨S1024x32, .f32⟩
  | 82 => ⟨S_, .f32⟩
  | 83 => ⟨S20x1024x32, .f32⟩
  | 84 => ⟨S_, .i32⟩
  | 85 => ⟨S20x1024x64, .f32⟩
  | 86 => ⟨S128x64, .f32⟩
  | 87 => ⟨S128x32, .f32⟩
  | 88 => ⟨S128, .f32⟩
  | 89 => ⟨S_, .i32⟩
  | 90 => ⟨S1024x32, .f32⟩
  | 91 => ⟨S1024x32, .f32⟩
  | 92 => ⟨S20x1024x32, .f32⟩
  | 93 => ⟨S_, .i32⟩
  | 94 => ⟨S_, .i1⟩
  | 95 => ⟨S_, .i32⟩
  | 96 => ⟨S_, .i32⟩
  | 97 => ⟨S1x1024x64, .f32⟩
  | 98 => ⟨S1024x64, .f32⟩
  | 99 => ⟨S64x128, .f32⟩
  | 100 => ⟨S1024x128, .f32⟩
  | 101 => ⟨S32x128, .f32⟩
  | 102 => ⟨S1024x128, .f32⟩
  | 103 => ⟨S1024x128, .f32⟩
  | 104 => ⟨S1x128, .f32⟩
  | 105 => ⟨S1024x128, .f32⟩
  | 106 => ⟨S1024x128, .f32⟩
  | 107 => ⟨S1024x32, .f32⟩
  | 108 => ⟨S1024x32, .f32⟩
  | 109 => ⟨S1024x32, .f32⟩
  | 110 => ⟨S1024x32, .f32⟩
  | 111 => ⟨S1024x32, .f32⟩
  | 112 => ⟨S1024x32, .f32⟩
  | 113 => ⟨S_, .f32⟩
  | 114 => ⟨S1024x32, .f32⟩
  | 115 => ⟨S1024x32, .f32⟩
  | 116 => ⟨S_, .f32⟩
  | 117 => ⟨S1024x32, .f32⟩
  | 118 => ⟨S1024x32, .f32⟩
  | 119 => ⟨S1024x32, .f32⟩
  | 120 => ⟨S1024x32, .f32⟩
  | 121 => ⟨S1024x32, .f32⟩
  | 122 => ⟨S_, .f32⟩
  | 123 => ⟨S1024x32, .f32⟩
  | 124 => ⟨S1024x32, .f32⟩
  | 125 => ⟨S_, .f32⟩
  | 126 => ⟨S1024x32, .f32⟩
  | 127 => ⟨S1024x32, .f32⟩
  | _ => ⟨S20x1024x64, .f32⟩

abbrev hbmTy0_3 (i : Nat) : BufTy := match i % 128 with
  | 0 => ⟨S1024x32, .f32⟩
  | 1 => ⟨S1024x32, .f32⟩
  | 2 => ⟨S1024x32, .f32⟩
  | 3 => ⟨S1024x32, .f32⟩
  | 4 => ⟨S1024x32, .f32⟩
  | 5 => ⟨S_, .f32⟩
  | 6 => ⟨S1024x32, .f32⟩
  | 7 => ⟨S1024x32, .f32⟩
  | 8 => ⟨S_, .f32⟩
  | 9 => ⟨S1024x32, .f32⟩
  | 10 => ⟨S1024x32, .f32⟩
  | 11 => ⟨S1024x32, .f32⟩
  | 12 => ⟨S1024x32, .f32⟩
  | 13 => ⟨S1x1024x32, .f32⟩
  | 14 => ⟨S_, .i32⟩
  | 15 => ⟨S_, .i32⟩
  | 16 => ⟨S20x1024x32, .f32⟩
  | 17 => ⟨S_, .i32⟩
  | 18 => ⟨S_, .i32⟩
  | 19 => ⟨S20x1024x64, .f32⟩
  | 20 => ⟨S1x1x128x64, .f32⟩
  | 21 => ⟨S128x64, .f32⟩
  | 22 => ⟨S1x1x128x32, .f32⟩
  | 23 => ⟨S128x32, .f32⟩
  | 24 => ⟨S1x1x128, .f32⟩
  | 25 => ⟨S128, .f32⟩
  | 26 => ⟨S1x1x128, .f32⟩
  | 27 => ⟨S128, .f32⟩
  | 28 => ⟨S128, .f32⟩
  | 29 => ⟨S_, .f32⟩
  | 30 => ⟨S1024x32, .f32⟩
  | 31 => ⟨S_, .f32⟩
  | 32 => ⟨S1024x32, .f32⟩
  | 33 => ⟨S_, .f32⟩
  | 34 => ⟨S20x1024x32, .f32⟩
  | 35 => ⟨S_, .i32⟩
  | 36 => ⟨S20x1024x64, .f32⟩
  | 37 => ⟨S128x64, .f32⟩
  | 38 => ⟨S128x32, .f32⟩
  | 39 => ⟨S128, .f32⟩
  | 40 => ⟨S_, .i32⟩
  | 41 => ⟨S1024x32, .f32⟩
  | 42 => ⟨S1024x32, .f32⟩
  | 43 => ⟨S20x1024x32, .f32⟩
  | 44 => ⟨S_, .i32⟩
  | 45 => ⟨S_, .i1⟩
  | 46 => ⟨S_, .i32⟩
  | 47 => ⟨S_, .i32⟩
  | 48 => ⟨S1x1024x64, .f32⟩
  | 49 => ⟨S1024x64, .f32⟩
  | 50 => ⟨S64x128, .f32⟩
  | 51 => ⟨S1024x128, .f32⟩
  | 52 => ⟨S32x128, .f32⟩
  | 53 => ⟨S1024x128, .f32⟩
  | 54 => ⟨S1024x128, .f32⟩
  | 55 => ⟨S1x128, .f32⟩
  | 56 => ⟨S1024x128, .f32⟩
  | 57 => ⟨S1024x128, .f32⟩
  | 58 => ⟨S1024x32, .f32⟩
  | 59 => ⟨S1024x32, .f32⟩
  | 60 => ⟨S1024x32, .f32⟩
  | 61 => ⟨S1024x32, .f32⟩
  | 62 => ⟨S1024x32, .f32⟩
  | 63 => ⟨S1024x32, .f32⟩
  | 64 => ⟨S_, .f32⟩
  | 65 => ⟨S1024x32, .f32⟩
  | 66 => ⟨S1024x32, .f32⟩
  | 67 => ⟨S_, .f32⟩
  | 68 => ⟨S1024x32, .f32⟩
  | 69 => ⟨S1024x32, .f32⟩
  | 70 => ⟨S1024x32, .f32⟩
  | 71 => ⟨S1024x32, .f32⟩
  | 72 => ⟨S1024x32, .f32⟩
  | 73 => ⟨S_, .f32⟩
  | 74 => ⟨S1024x32, .f32⟩
  | 75 => ⟨S1024x32, .f32⟩
  | 76 => ⟨S_, .f32⟩
  | 77 => ⟨S1024x32, .f32⟩
  | 78 => ⟨S1024x32, .f32⟩
  | 79 => ⟨S1024x32, .f32⟩
  | 80 => ⟨S1024x32, .f32⟩
  | 81 => ⟨S1024x32, .f32⟩
  | 82 => ⟨S1024x32, .f32⟩
  | 83 => ⟨S1024x32, .f32⟩
  | 84 => ⟨S_, .f32⟩
  | 85 => ⟨S1024x32, .f32⟩
  | 86 => ⟨S1024x32, .f32⟩
  | 87 => ⟨S_, .f32⟩
  | 88 => ⟨S1024x32, .f32⟩
  | 89 => ⟨S1024x32, .f32⟩
  | 90 => ⟨S1024x32, .f32⟩
  | 91 => ⟨S1024x32, .f32⟩
  | 92 => ⟨S1x1024x32, .f32⟩
  | 93 => ⟨S_, .i32⟩
  | 94 => ⟨S_, .i32⟩
  | 95 => ⟨S20x1024x32, .f32⟩
  | 96 => ⟨S_, .i32⟩
  | 97 => ⟨S_, .i32⟩
  | 98 => ⟨S20x1024x32, .f32⟩
  | 99 => ⟨S20x1024x64, .f32⟩
  | 100 => ⟨S1024x20x64, .f32⟩
  | 101 => ⟨S64x4000, .f32⟩
  | 102 => ⟨S1024x20x4000, .f32⟩
  | 103 => ⟨S1x1x4000, .f32⟩
  | 104 => ⟨S1024x20x4000, .f32⟩
  | 105 => ⟨S1024x20x4000, .f32⟩
  | 106 => ⟨S1024x20x4x1000, .f32⟩
  | _ => ⟨S20x1024x64, .f32⟩

abbrev hbmTy (i : Nat) : BufTy := match i / 128 with
  | 0 => hbmTy0_0 i
  | 1 => hbmTy0_1 i
  | 2 => hbmTy0_2 i
  | 3 => hbmTy0_3 i
  | _ => ⟨S20x1024x64, .f32⟩

abbrev bufTy : (tb : Table) → Fin (tcTables nBuf tb) → BufTy
  | .hbm, ⟨i, _⟩ => hbmTy i
  | _, _ => ⟨S20x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_c : Ref sig .tc := ⟨.hbm, 22, rfl⟩
abbrev main_v12_0 : Ref sig .tc := ⟨.hbm, 23, rfl⟩
abbrev main_v12_1 : Ref sig .tc := ⟨.hbm, 24, rfl⟩
abbrev main_v12_2 : Ref sig .tc := ⟨.hbm, 25, rfl⟩
abbrev main_v12_3 : Ref sig .tc := ⟨.hbm, 26, rfl⟩
abbrev main_v12_4 : Ref sig .tc := ⟨.hbm, 27, rfl⟩
abbrev main_v12_5 : Ref sig .tc := ⟨.hbm, 28, rfl⟩
abbrev main_v12_6 : Ref sig .tc := ⟨.hbm, 29, rfl⟩
abbrev main_v12_7 : Ref sig .tc := ⟨.hbm, 30, rfl⟩
abbrev main_while0c_c_29 : Ref sig .tc := ⟨.hbm, 31, rfl⟩
abbrev main_while0c_v94 : Ref sig .tc := ⟨.hbm, 32, rfl⟩
abbrev main_while0b_call0_c : Ref sig .tc := ⟨.hbm, 33, rfl⟩
abbrev main_while0b_call0_c_0 : Ref sig .tc := ⟨.hbm, 34, rfl⟩
abbrev main_while0b_call0_v0 : Ref sig .tc := ⟨.hbm, 35, rfl⟩
abbrev main_while0b_v94 : Ref sig .tc := ⟨.hbm, 36, rfl⟩
abbrev main_while0b_v95 : Ref sig .tc := ⟨.hbm, 37, rfl⟩
abbrev main_while0b_v96 : Ref sig .tc := ⟨.hbm, 38, rfl⟩
abbrev main_while0b_v97 : Ref sig .tc := ⟨.hbm, 39, rfl⟩
abbrev main_while0b_v98 : Ref sig .tc := ⟨.hbm, 40, rfl⟩
abbrev main_while0b_v99 : Ref sig .tc := ⟨.hbm, 41, rfl⟩
abbrev main_while0b_v100 : Ref sig .tc := ⟨.hbm, 42, rfl⟩
abbrev main_while0b_v101 : Ref sig .tc := ⟨.hbm, 43, rfl⟩
abbrev main_while0b_v102 : Ref sig .tc := ⟨.hbm, 44, rfl⟩
abbrev main_while0b_v103 : Ref sig .tc := ⟨.hbm, 45, rfl⟩
abbrev main_while0b_v104 : Ref sig .tc := ⟨.hbm, 46, rfl⟩
abbrev main_while0b_v105 : Ref sig .tc := ⟨.hbm, 47, rfl⟩
abbrev main_while0b_v106 : Ref sig .tc := ⟨.hbm, 48, rfl⟩
abbrev main_while0b_v107 : Ref sig .tc := ⟨.hbm, 49, rfl⟩
abbrev main_while0b_v108 : Ref sig .tc := ⟨.hbm, 50, rfl⟩
abbrev main_while0b_cst_29 : Ref sig .tc := ⟨.hbm, 51, rfl⟩
abbrev main_while0b_v109 : Ref sig .tc := ⟨.hbm, 52, rfl⟩
abbrev main_while0b_v110 : Ref sig .tc := ⟨.hbm, 53, rfl⟩
abbrev main_while0b_cst_30 : Ref sig .tc := ⟨.hbm, 54, rfl⟩
abbrev main_while0b_v111 : Ref sig .tc := ⟨.hbm, 55, rfl⟩
abbrev main_while0b_v112 : Ref sig .tc := ⟨.hbm, 56, rfl⟩
abbrev main_while0b_v113 : Ref sig .tc := ⟨.hbm, 57, rfl⟩
abbrev main_while0b_v114 : Ref sig .tc := ⟨.hbm, 58, rfl⟩
abbrev main_while0b_v115 : Ref sig .tc := ⟨.hbm, 59, rfl⟩
abbrev main_while0b_cst_31 : Ref sig .tc := ⟨.hbm, 60, rfl⟩
abbrev main_while0b_v116 : Ref sig .tc := ⟨.hbm, 61, rfl⟩
abbrev main_while0b_v117 : Ref sig .tc := ⟨.hbm, 62, rfl⟩
abbrev main_while0b_cst_32 : Ref sig .tc := ⟨.hbm, 63, rfl⟩
abbrev main_while0b_v118 : Ref sig .tc := ⟨.hbm, 64, rfl⟩
abbrev main_while0b_v119 : Ref sig .tc := ⟨.hbm, 65, rfl⟩
abbrev main_while0b_v120 : Ref sig .tc := ⟨.hbm, 66, rfl⟩
abbrev main_while0b_v121 : Ref sig .tc := ⟨.hbm, 67, rfl⟩
abbrev main_while0b_v122 : Ref sig .tc := ⟨.hbm, 68, rfl⟩
abbrev main_while0b_v123 : Ref sig .tc := ⟨.hbm, 69, rfl⟩
abbrev main_while0b_v124 : Ref sig .tc := ⟨.hbm, 70, rfl⟩
abbrev main_while0b_cst_33 : Ref sig .tc := ⟨.hbm, 71, rfl⟩
abbrev main_while0b_v125 : Ref sig .tc := ⟨.hbm, 72, rfl⟩
abbrev main_while0b_v126 : Ref sig .tc := ⟨.hbm, 73, rfl⟩
abbrev main_while0b_cst_34 : Ref sig .tc := ⟨.hbm, 74, rfl⟩
abbrev main_while0b_v127 : Ref sig .tc := ⟨.hbm, 75, rfl⟩
abbrev main_while0b_v128 : Ref sig .tc := ⟨.hbm, 76, rfl⟩
abbrev main_while0b_v129 : Ref sig .tc := ⟨.hbm, 77, rfl⟩
abbrev main_while0b_v130 : Ref sig .tc := ⟨.hbm, 78, rfl⟩
abbrev main_while0b_call1_v0 : Ref sig .tc := ⟨.hbm, 79, rfl⟩
abbrev main_while0b_call1_c : Ref sig .tc := ⟨.hbm, 80, rfl⟩
abbrev main_while0b_call1_c_0 : Ref sig .tc := ⟨.hbm, 81, rfl⟩
abbrev main_while0b_v131 : Ref sig .tc := ⟨.hbm, 82, rfl⟩
abbrev main_while0b_c_35 : Ref sig .tc := ⟨.hbm, 83, rfl⟩
abbrev main_while0b_v132 : Ref sig .tc := ⟨.hbm, 84, rfl⟩
abbrev main_v13 : Ref sig .tc := ⟨.hbm, 85, rfl⟩
abbrev main_v14 : Ref sig .tc := ⟨.hbm, 86, rfl⟩
abbrev main_v15 : Ref sig .tc := ⟨.hbm, 87, rfl⟩
abbrev main_v16 : Ref sig .tc := ⟨.hbm, 88, rfl⟩
abbrev main_v17 : Ref sig .tc := ⟨.hbm, 89, rfl⟩
abbrev main_v18 : Ref sig .tc := ⟨.hbm, 90, rfl⟩
abbrev main_v19 : Ref sig .tc := ⟨.hbm, 91, rfl⟩
abbrev main_v20 : Ref sig .tc := ⟨.hbm, 92, rfl⟩
abbrev main_v21 : Ref sig .tc := ⟨.hbm, 93, rfl⟩
abbrev main_v22 : Ref sig .tc := ⟨.hbm, 94, rfl⟩
abbrev main_cst_2 : Ref sig .tc := ⟨.hbm, 95, rfl⟩
abbrev main_v23 : Ref sig .tc := ⟨.hbm, 96, rfl⟩
abbrev main_cst_3 : Ref sig .tc := ⟨.hbm, 97, rfl⟩
abbrev main_v24 : Ref sig .tc := ⟨.hbm, 98, rfl⟩
abbrev main_cst_4 : Ref sig .tc := ⟨.hbm, 99, rfl⟩
abbrev main_v25 : Ref sig .tc := ⟨.hbm, 100, rfl⟩
abbrev main_c_5 : Ref sig .tc := ⟨.hbm, 101, rfl⟩
abbrev main_v26_0 : Ref sig .tc := ⟨.hbm, 102, rfl⟩
abbrev main_v26_1 : Ref sig .tc := ⟨.hbm, 103, rfl⟩
abbrev main_v26_2 : Ref sig .tc := ⟨.hbm, 104, rfl⟩
abbrev main_v26_3 : Ref sig .tc := ⟨.hbm, 105, rfl⟩
abbrev main_v26_4 : Ref sig .tc := ⟨.hbm, 106, rfl⟩
abbrev main_v26_5 : Ref sig .tc := ⟨.hbm, 107, rfl⟩
abbrev main_v26_6 : Ref sig .tc := ⟨.hbm, 108, rfl⟩
abbrev main_v26_7 : Ref sig .tc := ⟨.hbm, 109, rfl⟩
abbrev main_while1c_c_29 : Ref sig .tc := ⟨.hbm, 110, rfl⟩
abbrev main_while1c_v94 : Ref sig .tc := ⟨.hbm, 111, rfl⟩
abbrev main_while1b_call2_c : Ref sig .tc := ⟨.hbm, 112, rfl⟩
abbrev main_while1b_call2_c_0 : Ref sig .tc := ⟨.hbm, 113, rfl⟩
abbrev main_while1b_call2_v0 : Ref sig .tc := ⟨.hbm, 114, rfl⟩
abbrev main_while1b_v94 : Ref sig .tc := ⟨.hbm, 115, rfl⟩
abbrev main_while1b_v95 : Ref sig .tc := ⟨.hbm, 116, rfl⟩
abbrev main_while1b_v96 : Ref sig .tc := ⟨.hbm, 117, rfl⟩
abbrev main_while1b_v97 : Ref sig .tc := ⟨.hbm, 118, rfl⟩
abbrev main_while1b_v98 : Ref sig .tc := ⟨.hbm, 119, rfl⟩
abbrev main_while1b_v99 : Ref sig .tc := ⟨.hbm, 120, rfl⟩
abbrev main_while1b_v100 : Ref sig .tc := ⟨.hbm, 121, rfl⟩
abbrev main_while1b_v101 : Ref sig .tc := ⟨.hbm, 122, rfl⟩
abbrev main_while1b_v102 : Ref sig .tc := ⟨.hbm, 123, rfl⟩
abbrev main_while1b_v103 : Ref sig .tc := ⟨.hbm, 124, rfl⟩
abbrev main_while1b_v104 : Ref sig .tc := ⟨.hbm, 125, rfl⟩
abbrev main_while1b_v105 : Ref sig .tc := ⟨.hbm, 126, rfl⟩
abbrev main_while1b_v106 : Ref sig .tc := ⟨.hbm, 127, rfl⟩
abbrev main_while1b_v107 : Ref sig .tc := ⟨.hbm, 128, rfl⟩
abbrev main_while1b_v108 : Ref sig .tc := ⟨.hbm, 129, rfl⟩
abbrev main_while1b_cst_29 : Ref sig .tc := ⟨.hbm, 130, rfl⟩
abbrev main_while1b_v109 : Ref sig .tc := ⟨.hbm, 131, rfl⟩
abbrev main_while1b_v110 : Ref sig .tc := ⟨.hbm, 132, rfl⟩
abbrev main_while1b_cst_30 : Ref sig .tc := ⟨.hbm, 133, rfl⟩
abbrev main_while1b_v111 : Ref sig .tc := ⟨.hbm, 134, rfl⟩
abbrev main_while1b_v112 : Ref sig .tc := ⟨.hbm, 135, rfl⟩
abbrev main_while1b_v113 : Ref sig .tc := ⟨.hbm, 136, rfl⟩
abbrev main_while1b_v114 : Ref sig .tc := ⟨.hbm, 137, rfl⟩
abbrev main_while1b_v115 : Ref sig .tc := ⟨.hbm, 138, rfl⟩
abbrev main_while1b_cst_31 : Ref sig .tc := ⟨.hbm, 139, rfl⟩
abbrev main_while1b_v116 : Ref sig .tc := ⟨.hbm, 140, rfl⟩
abbrev main_while1b_v117 : Ref sig .tc := ⟨.hbm, 141, rfl⟩
abbrev main_while1b_cst_32 : Ref sig .tc := ⟨.hbm, 142, rfl⟩
abbrev main_while1b_v118 : Ref sig .tc := ⟨.hbm, 143, rfl⟩
abbrev main_while1b_v119 : Ref sig .tc := ⟨.hbm, 144, rfl⟩
abbrev main_while1b_v120 : Ref sig .tc := ⟨.hbm, 145, rfl⟩
abbrev main_while1b_v121 : Ref sig .tc := ⟨.hbm, 146, rfl⟩
abbrev main_while1b_v122 : Ref sig .tc := ⟨.hbm, 147, rfl⟩
abbrev main_while1b_v123 : Ref sig .tc := ⟨.hbm, 148, rfl⟩
abbrev main_while1b_v124 : Ref sig .tc := ⟨.hbm, 149, rfl⟩
abbrev main_while1b_cst_33 : Ref sig .tc := ⟨.hbm, 150, rfl⟩
abbrev main_while1b_v125 : Ref sig .tc := ⟨.hbm, 151, rfl⟩
abbrev main_while1b_v126 : Ref sig .tc := ⟨.hbm, 152, rfl⟩
abbrev main_while1b_cst_34 : Ref sig .tc := ⟨.hbm, 153, rfl⟩
abbrev main_while1b_v127 : Ref sig .tc := ⟨.hbm, 154, rfl⟩
abbrev main_while1b_v128 : Ref sig .tc := ⟨.hbm, 155, rfl⟩
abbrev main_while1b_v129 : Ref sig .tc := ⟨.hbm, 156, rfl⟩
abbrev main_while1b_v130 : Ref sig .tc := ⟨.hbm, 157, rfl⟩
abbrev main_while1b_call3_v0 : Ref sig .tc := ⟨.hbm, 158, rfl⟩
abbrev main_while1b_call3_c : Ref sig .tc := ⟨.hbm, 159, rfl⟩
abbrev main_while1b_call3_c_0 : Ref sig .tc := ⟨.hbm, 160, rfl⟩
abbrev main_while1b_v131 : Ref sig .tc := ⟨.hbm, 161, rfl⟩
abbrev main_while1b_c_35 : Ref sig .tc := ⟨.hbm, 162, rfl⟩
abbrev main_while1b_v132 : Ref sig .tc := ⟨.hbm, 163, rfl⟩
abbrev main_v27 : Ref sig .tc := ⟨.hbm, 164, rfl⟩
abbrev main_v28 : Ref sig .tc := ⟨.hbm, 165, rfl⟩
abbrev main_v29 : Ref sig .tc := ⟨.hbm, 166, rfl⟩
abbrev main_v30 : Ref sig .tc := ⟨.hbm, 167, rfl⟩
abbrev main_v31 : Ref sig .tc := ⟨.hbm, 168, rfl⟩
abbrev main_v32 : Ref sig .tc := ⟨.hbm, 169, rfl⟩
abbrev main_v33 : Ref sig .tc := ⟨.hbm, 170, rfl⟩
abbrev main_v34 : Ref sig .tc := ⟨.hbm, 171, rfl⟩
abbrev main_v35 : Ref sig .tc := ⟨.hbm, 172, rfl⟩
abbrev main_v36 : Ref sig .tc := ⟨.hbm, 173, rfl⟩
abbrev main_v37 : Ref sig .tc := ⟨.hbm, 174, rfl⟩
abbrev main_cst_6 : Ref sig .tc := ⟨.hbm, 175, rfl⟩
abbrev main_v38 : Ref sig .tc := ⟨.hbm, 176, rfl⟩
abbrev main_cst_7 : Ref sig .tc := ⟨.hbm, 177, rfl⟩
abbrev main_v39 : Ref sig .tc := ⟨.hbm, 178, rfl⟩
abbrev main_cst_8 : Ref sig .tc := ⟨.hbm, 179, rfl⟩
abbrev main_v40 : Ref sig .tc := ⟨.hbm, 180, rfl⟩
abbrev main_c_9 : Ref sig .tc := ⟨.hbm, 181, rfl⟩
abbrev main_v41_0 : Ref sig .tc := ⟨.hbm, 182, rfl⟩
abbrev main_v41_1 : Ref sig .tc := ⟨.hbm, 183, rfl⟩
abbrev main_v41_2 : Ref sig .tc := ⟨.hbm, 184, rfl⟩
abbrev main_v41_3 : Ref sig .tc := ⟨.hbm, 185, rfl⟩
abbrev main_v41_4 : Ref sig .tc := ⟨.hbm, 186, rfl⟩
abbrev main_v41_5 : Ref sig .tc := ⟨.hbm, 187, rfl⟩
abbrev main_v41_6 : Ref sig .tc := ⟨.hbm, 188, rfl⟩
abbrev main_v41_7 : Ref sig .tc := ⟨.hbm, 189, rfl⟩
abbrev main_while2c_c_29 : Ref sig .tc := ⟨.hbm, 190, rfl⟩
abbrev main_while2c_v94 : Ref sig .tc := ⟨.hbm, 191, rfl⟩
abbrev main_while2b_call4_c : Ref sig .tc := ⟨.hbm, 192, rfl⟩
abbrev main_while2b_call4_c_0 : Ref sig .tc := ⟨.hbm, 193, rfl⟩
abbrev main_while2b_call4_v0 : Ref sig .tc := ⟨.hbm, 194, rfl⟩
abbrev main_while2b_v94 : Ref sig .tc := ⟨.hbm, 195, rfl⟩
abbrev main_while2b_v95 : Ref sig .tc := ⟨.hbm, 196, rfl⟩
abbrev main_while2b_v96 : Ref sig .tc := ⟨.hbm, 197, rfl⟩
abbrev main_while2b_v97 : Ref sig .tc := ⟨.hbm, 198, rfl⟩
abbrev main_while2b_v98 : Ref sig .tc := ⟨.hbm, 199, rfl⟩
abbrev main_while2b_v99 : Ref sig .tc := ⟨.hbm, 200, rfl⟩
abbrev main_while2b_v100 : Ref sig .tc := ⟨.hbm, 201, rfl⟩
abbrev main_while2b_v101 : Ref sig .tc := ⟨.hbm, 202, rfl⟩
abbrev main_while2b_v102 : Ref sig .tc := ⟨.hbm, 203, rfl⟩
abbrev main_while2b_v103 : Ref sig .tc := ⟨.hbm, 204, rfl⟩
abbrev main_while2b_v104 : Ref sig .tc := ⟨.hbm, 205, rfl⟩
abbrev main_while2b_v105 : Ref sig .tc := ⟨.hbm, 206, rfl⟩
abbrev main_while2b_v106 : Ref sig .tc := ⟨.hbm, 207, rfl⟩
abbrev main_while2b_v107 : Ref sig .tc := ⟨.hbm, 208, rfl⟩
abbrev main_while2b_v108 : Ref sig .tc := ⟨.hbm, 209, rfl⟩
abbrev main_while2b_cst_29 : Ref sig .tc := ⟨.hbm, 210, rfl⟩
abbrev main_while2b_v109 : Ref sig .tc := ⟨.hbm, 211, rfl⟩
abbrev main_while2b_v110 : Ref sig .tc := ⟨.hbm, 212, rfl⟩
abbrev main_while2b_cst_30 : Ref sig .tc := ⟨.hbm, 213, rfl⟩
abbrev main_while2b_v111 : Ref sig .tc := ⟨.hbm, 214, rfl⟩
abbrev main_while2b_v112 : Ref sig .tc := ⟨.hbm, 215, rfl⟩
abbrev main_while2b_v113 : Ref sig .tc := ⟨.hbm, 216, rfl⟩
abbrev main_while2b_v114 : Ref sig .tc := ⟨.hbm, 217, rfl⟩
abbrev main_while2b_v115 : Ref sig .tc := ⟨.hbm, 218, rfl⟩
abbrev main_while2b_cst_31 : Ref sig .tc := ⟨.hbm, 219, rfl⟩
abbrev main_while2b_v116 : Ref sig .tc := ⟨.hbm, 220, rfl⟩
abbrev main_while2b_v117 : Ref sig .tc := ⟨.hbm, 221, rfl⟩
abbrev main_while2b_cst_32 : Ref sig .tc := ⟨.hbm, 222, rfl⟩
abbrev main_while2b_v118 : Ref sig .tc := ⟨.hbm, 223, rfl⟩
abbrev main_while2b_v119 : Ref sig .tc := ⟨.hbm, 224, rfl⟩
abbrev main_while2b_v120 : Ref sig .tc := ⟨.hbm, 225, rfl⟩
abbrev main_while2b_v121 : Ref sig .tc := ⟨.hbm, 226, rfl⟩
abbrev main_while2b_v122 : Ref sig .tc := ⟨.hbm, 227, rfl⟩
abbrev main_while2b_v123 : Ref sig .tc := ⟨.hbm, 228, rfl⟩
abbrev main_while2b_v124 : Ref sig .tc := ⟨.hbm, 229, rfl⟩
abbrev main_while2b_cst_33 : Ref sig .tc := ⟨.hbm, 230, rfl⟩
abbrev main_while2b_v125 : Ref sig .tc := ⟨.hbm, 231, rfl⟩
abbrev main_while2b_v126 : Ref sig .tc := ⟨.hbm, 232, rfl⟩
abbrev main_while2b_cst_34 : Ref sig .tc := ⟨.hbm, 233, rfl⟩
abbrev main_while2b_v127 : Ref sig .tc := ⟨.hbm, 234, rfl⟩
abbrev main_while2b_v128 : Ref sig .tc := ⟨.hbm, 235, rfl⟩
abbrev main_while2b_v129 : Ref sig .tc := ⟨.hbm, 236, rfl⟩
abbrev main_while2b_v130 : Ref sig .tc := ⟨.hbm, 237, rfl⟩
abbrev main_while2b_call5_v0 : Ref sig .tc := ⟨.hbm, 238, rfl⟩
abbrev main_while2b_call5_c : Ref sig .tc := ⟨.hbm, 239, rfl⟩
abbrev main_while2b_call5_c_0 : Ref sig .tc := ⟨.hbm, 240, rfl⟩
abbrev main_while2b_v131 : Ref sig .tc := ⟨.hbm, 241, rfl⟩
abbrev main_while2b_c_35 : Ref sig .tc := ⟨.hbm, 242, rfl⟩
abbrev main_while2b_v132 : Ref sig .tc := ⟨.hbm, 243, rfl⟩
abbrev main_v42 : Ref sig .tc := ⟨.hbm, 244, rfl⟩
abbrev main_v43 : Ref sig .tc := ⟨.hbm, 245, rfl⟩
abbrev main_v44 : Ref sig .tc := ⟨.hbm, 246, rfl⟩
abbrev main_v45 : Ref sig .tc := ⟨.hbm, 247, rfl⟩
abbrev main_v46 : Ref sig .tc := ⟨.hbm, 248, rfl⟩
abbrev main_v47 : Ref sig .tc := ⟨.hbm, 249, rfl⟩
abbrev main_v48 : Ref sig .tc := ⟨.hbm, 250, rfl⟩
abbrev main_v49 : Ref sig .tc := ⟨.hbm, 251, rfl⟩
abbrev main_v50 : Ref sig .tc := ⟨.hbm, 252, rfl⟩
abbrev main_v51 : Ref sig .tc := ⟨.hbm, 253, rfl⟩
abbrev main_cst_10 : Ref sig .tc := ⟨.hbm, 254, rfl⟩
abbrev main_v52 : Ref sig .tc := ⟨.hbm, 255, rfl⟩
abbrev main_cst_11 : Ref sig .tc := ⟨.hbm, 256, rfl⟩
abbrev main_v53 : Ref sig .tc := ⟨.hbm, 257, rfl⟩
abbrev main_cst_12 : Ref sig .tc := ⟨.hbm, 258, rfl⟩
abbrev main_v54 : Ref sig .tc := ⟨.hbm, 259, rfl⟩
abbrev main_c_13 : Ref sig .tc := ⟨.hbm, 260, rfl⟩
abbrev main_v55_0 : Ref sig .tc := ⟨.hbm, 261, rfl⟩
abbrev main_v55_1 : Ref sig .tc := ⟨.hbm, 262, rfl⟩
abbrev main_v55_2 : Ref sig .tc := ⟨.hbm, 263, rfl⟩
abbrev main_v55_3 : Ref sig .tc := ⟨.hbm, 264, rfl⟩
abbrev main_v55_4 : Ref sig .tc := ⟨.hbm, 265, rfl⟩
abbrev main_v55_5 : Ref sig .tc := ⟨.hbm, 266, rfl⟩
abbrev main_v55_6 : Ref sig .tc := ⟨.hbm, 267, rfl⟩
abbrev main_v55_7 : Ref sig .tc := ⟨.hbm, 268, rfl⟩
abbrev main_while3c_c_29 : Ref sig .tc := ⟨.hbm, 269, rfl⟩
abbrev main_while3c_v94 : Ref sig .tc := ⟨.hbm, 270, rfl⟩
abbrev main_while3b_call6_c : Ref sig .tc := ⟨.hbm, 271, rfl⟩
abbrev main_while3b_call6_c_0 : Ref sig .tc := ⟨.hbm, 272, rfl⟩
abbrev main_while3b_call6_v0 : Ref sig .tc := ⟨.hbm, 273, rfl⟩
abbrev main_while3b_v94 : Ref sig .tc := ⟨.hbm, 274, rfl⟩
abbrev main_while3b_v95 : Ref sig .tc := ⟨.hbm, 275, rfl⟩
abbrev main_while3b_v96 : Ref sig .tc := ⟨.hbm, 276, rfl⟩
abbrev main_while3b_v97 : Ref sig .tc := ⟨.hbm, 277, rfl⟩
abbrev main_while3b_v98 : Ref sig .tc := ⟨.hbm, 278, rfl⟩
abbrev main_while3b_v99 : Ref sig .tc := ⟨.hbm, 279, rfl⟩
abbrev main_while3b_v100 : Ref sig .tc := ⟨.hbm, 280, rfl⟩
abbrev main_while3b_v101 : Ref sig .tc := ⟨.hbm, 281, rfl⟩
abbrev main_while3b_v102 : Ref sig .tc := ⟨.hbm, 282, rfl⟩
abbrev main_while3b_v103 : Ref sig .tc := ⟨.hbm, 283, rfl⟩
abbrev main_while3b_v104 : Ref sig .tc := ⟨.hbm, 284, rfl⟩
abbrev main_while3b_v105 : Ref sig .tc := ⟨.hbm, 285, rfl⟩
abbrev main_while3b_v106 : Ref sig .tc := ⟨.hbm, 286, rfl⟩
abbrev main_while3b_v107 : Ref sig .tc := ⟨.hbm, 287, rfl⟩
abbrev main_while3b_v108 : Ref sig .tc := ⟨.hbm, 288, rfl⟩
abbrev main_while3b_cst_29 : Ref sig .tc := ⟨.hbm, 289, rfl⟩
abbrev main_while3b_v109 : Ref sig .tc := ⟨.hbm, 290, rfl⟩
abbrev main_while3b_v110 : Ref sig .tc := ⟨.hbm, 291, rfl⟩
abbrev main_while3b_cst_30 : Ref sig .tc := ⟨.hbm, 292, rfl⟩
abbrev main_while3b_v111 : Ref sig .tc := ⟨.hbm, 293, rfl⟩
abbrev main_while3b_v112 : Ref sig .tc := ⟨.hbm, 294, rfl⟩
abbrev main_while3b_v113 : Ref sig .tc := ⟨.hbm, 295, rfl⟩
abbrev main_while3b_v114 : Ref sig .tc := ⟨.hbm, 296, rfl⟩
abbrev main_while3b_v115 : Ref sig .tc := ⟨.hbm, 297, rfl⟩
abbrev main_while3b_cst_31 : Ref sig .tc := ⟨.hbm, 298, rfl⟩
abbrev main_while3b_v116 : Ref sig .tc := ⟨.hbm, 299, rfl⟩
abbrev main_while3b_v117 : Ref sig .tc := ⟨.hbm, 300, rfl⟩
abbrev main_while3b_cst_32 : Ref sig .tc := ⟨.hbm, 301, rfl⟩
abbrev main_while3b_v118 : Ref sig .tc := ⟨.hbm, 302, rfl⟩
abbrev main_while3b_v119 : Ref sig .tc := ⟨.hbm, 303, rfl⟩
abbrev main_while3b_v120 : Ref sig .tc := ⟨.hbm, 304, rfl⟩
abbrev main_while3b_v121 : Ref sig .tc := ⟨.hbm, 305, rfl⟩
abbrev main_while3b_v122 : Ref sig .tc := ⟨.hbm, 306, rfl⟩
abbrev main_while3b_v123 : Ref sig .tc := ⟨.hbm, 307, rfl⟩
abbrev main_while3b_v124 : Ref sig .tc := ⟨.hbm, 308, rfl⟩
abbrev main_while3b_cst_33 : Ref sig .tc := ⟨.hbm, 309, rfl⟩
abbrev main_while3b_v125 : Ref sig .tc := ⟨.hbm, 310, rfl⟩
abbrev main_while3b_v126 : Ref sig .tc := ⟨.hbm, 311, rfl⟩
abbrev main_while3b_cst_34 : Ref sig .tc := ⟨.hbm, 312, rfl⟩
abbrev main_while3b_v127 : Ref sig .tc := ⟨.hbm, 313, rfl⟩
abbrev main_while3b_v128 : Ref sig .tc := ⟨.hbm, 314, rfl⟩
abbrev main_while3b_v129 : Ref sig .tc := ⟨.hbm, 315, rfl⟩
abbrev main_while3b_v130 : Ref sig .tc := ⟨.hbm, 316, rfl⟩
abbrev main_while3b_call7_v0 : Ref sig .tc := ⟨.hbm, 317, rfl⟩
abbrev main_while3b_call7_c : Ref sig .tc := ⟨.hbm, 318, rfl⟩
abbrev main_while3b_call7_c_0 : Ref sig .tc := ⟨.hbm, 319, rfl⟩
abbrev main_while3b_v131 : Ref sig .tc := ⟨.hbm, 320, rfl⟩
abbrev main_while3b_c_35 : Ref sig .tc := ⟨.hbm, 321, rfl⟩
abbrev main_while3b_v132 : Ref sig .tc := ⟨.hbm, 322, rfl⟩
abbrev main_v56 : Ref sig .tc := ⟨.hbm, 323, rfl⟩
abbrev main_v57 : Ref sig .tc := ⟨.hbm, 324, rfl⟩
abbrev main_v58 : Ref sig .tc := ⟨.hbm, 325, rfl⟩
abbrev main_v59 : Ref sig .tc := ⟨.hbm, 326, rfl⟩
abbrev main_v60 : Ref sig .tc := ⟨.hbm, 327, rfl⟩
abbrev main_v61 : Ref sig .tc := ⟨.hbm, 328, rfl⟩
abbrev main_v62 : Ref sig .tc := ⟨.hbm, 329, rfl⟩
abbrev main_v63 : Ref sig .tc := ⟨.hbm, 330, rfl⟩
abbrev main_v64 : Ref sig .tc := ⟨.hbm, 331, rfl⟩
abbrev main_v65 : Ref sig .tc := ⟨.hbm, 332, rfl⟩
abbrev main_v66 : Ref sig .tc := ⟨.hbm, 333, rfl⟩
abbrev main_cst_14 : Ref sig .tc := ⟨.hbm, 334, rfl⟩
abbrev main_v67 : Ref sig .tc := ⟨.hbm, 335, rfl⟩
abbrev main_cst_15 : Ref sig .tc := ⟨.hbm, 336, rfl⟩
abbrev main_v68 : Ref sig .tc := ⟨.hbm, 337, rfl⟩
abbrev main_cst_16 : Ref sig .tc := ⟨.hbm, 338, rfl⟩
abbrev main_v69 : Ref sig .tc := ⟨.hbm, 339, rfl⟩
abbrev main_c_17 : Ref sig .tc := ⟨.hbm, 340, rfl⟩
abbrev main_v70_0 : Ref sig .tc := ⟨.hbm, 341, rfl⟩
abbrev main_v70_1 : Ref sig .tc := ⟨.hbm, 342, rfl⟩
abbrev main_v70_2 : Ref sig .tc := ⟨.hbm, 343, rfl⟩
abbrev main_v70_3 : Ref sig .tc := ⟨.hbm, 344, rfl⟩
abbrev main_v70_4 : Ref sig .tc := ⟨.hbm, 345, rfl⟩
abbrev main_v70_5 : Ref sig .tc := ⟨.hbm, 346, rfl⟩
abbrev main_v70_6 : Ref sig .tc := ⟨.hbm, 347, rfl⟩
abbrev main_v70_7 : Ref sig .tc := ⟨.hbm, 348, rfl⟩
abbrev main_while4c_c_29 : Ref sig .tc := ⟨.hbm, 349, rfl⟩
abbrev main_while4c_v94 : Ref sig .tc := ⟨.hbm, 350, rfl⟩
abbrev main_while4b_call8_c : Ref sig .tc := ⟨.hbm, 351, rfl⟩
abbrev main_while4b_call8_c_0 : Ref sig .tc := ⟨.hbm, 352, rfl⟩
abbrev main_while4b_call8_v0 : Ref sig .tc := ⟨.hbm, 353, rfl⟩
abbrev main_while4b_v94 : Ref sig .tc := ⟨.hbm, 354, rfl⟩
abbrev main_while4b_v95 : Ref sig .tc := ⟨.hbm, 355, rfl⟩
abbrev main_while4b_v96 : Ref sig .tc := ⟨.hbm, 356, rfl⟩
abbrev main_while4b_v97 : Ref sig .tc := ⟨.hbm, 357, rfl⟩
abbrev main_while4b_v98 : Ref sig .tc := ⟨.hbm, 358, rfl⟩
abbrev main_while4b_v99 : Ref sig .tc := ⟨.hbm, 359, rfl⟩
abbrev main_while4b_v100 : Ref sig .tc := ⟨.hbm, 360, rfl⟩
abbrev main_while4b_v101 : Ref sig .tc := ⟨.hbm, 361, rfl⟩
abbrev main_while4b_v102 : Ref sig .tc := ⟨.hbm, 362, rfl⟩
abbrev main_while4b_v103 : Ref sig .tc := ⟨.hbm, 363, rfl⟩
abbrev main_while4b_v104 : Ref sig .tc := ⟨.hbm, 364, rfl⟩
abbrev main_while4b_v105 : Ref sig .tc := ⟨.hbm, 365, rfl⟩
abbrev main_while4b_v106 : Ref sig .tc := ⟨.hbm, 366, rfl⟩
abbrev main_while4b_v107 : Ref sig .tc := ⟨.hbm, 367, rfl⟩
abbrev main_while4b_v108 : Ref sig .tc := ⟨.hbm, 368, rfl⟩
abbrev main_while4b_cst_29 : Ref sig .tc := ⟨.hbm, 369, rfl⟩
abbrev main_while4b_v109 : Ref sig .tc := ⟨.hbm, 370, rfl⟩
abbrev main_while4b_v110 : Ref sig .tc := ⟨.hbm, 371, rfl⟩
abbrev main_while4b_cst_30 : Ref sig .tc := ⟨.hbm, 372, rfl⟩
abbrev main_while4b_v111 : Ref sig .tc := ⟨.hbm, 373, rfl⟩
abbrev main_while4b_v112 : Ref sig .tc := ⟨.hbm, 374, rfl⟩
abbrev main_while4b_v113 : Ref sig .tc := ⟨.hbm, 375, rfl⟩
abbrev main_while4b_v114 : Ref sig .tc := ⟨.hbm, 376, rfl⟩
abbrev main_while4b_v115 : Ref sig .tc := ⟨.hbm, 377, rfl⟩
abbrev main_while4b_cst_31 : Ref sig .tc := ⟨.hbm, 378, rfl⟩
abbrev main_while4b_v116 : Ref sig .tc := ⟨.hbm, 379, rfl⟩
abbrev main_while4b_v117 : Ref sig .tc := ⟨.hbm, 380, rfl⟩
abbrev main_while4b_cst_32 : Ref sig .tc := ⟨.hbm, 381, rfl⟩
abbrev main_while4b_v118 : Ref sig .tc := ⟨.hbm, 382, rfl⟩
abbrev main_while4b_v119 : Ref sig .tc := ⟨.hbm, 383, rfl⟩
abbrev main_while4b_v120 : Ref sig .tc := ⟨.hbm, 384, rfl⟩
abbrev main_while4b_v121 : Ref sig .tc := ⟨.hbm, 385, rfl⟩
abbrev main_while4b_v122 : Ref sig .tc := ⟨.hbm, 386, rfl⟩
abbrev main_while4b_v123 : Ref sig .tc := ⟨.hbm, 387, rfl⟩
abbrev main_while4b_v124 : Ref sig .tc := ⟨.hbm, 388, rfl⟩
abbrev main_while4b_cst_33 : Ref sig .tc := ⟨.hbm, 389, rfl⟩
abbrev main_while4b_v125 : Ref sig .tc := ⟨.hbm, 390, rfl⟩
abbrev main_while4b_v126 : Ref sig .tc := ⟨.hbm, 391, rfl⟩
abbrev main_while4b_cst_34 : Ref sig .tc := ⟨.hbm, 392, rfl⟩
abbrev main_while4b_v127 : Ref sig .tc := ⟨.hbm, 393, rfl⟩
abbrev main_while4b_v128 : Ref sig .tc := ⟨.hbm, 394, rfl⟩
abbrev main_while4b_v129 : Ref sig .tc := ⟨.hbm, 395, rfl⟩
abbrev main_while4b_v130 : Ref sig .tc := ⟨.hbm, 396, rfl⟩
abbrev main_while4b_call9_v0 : Ref sig .tc := ⟨.hbm, 397, rfl⟩
abbrev main_while4b_call9_c : Ref sig .tc := ⟨.hbm, 398, rfl⟩
abbrev main_while4b_call9_c_0 : Ref sig .tc := ⟨.hbm, 399, rfl⟩
abbrev main_while4b_v131 : Ref sig .tc := ⟨.hbm, 400, rfl⟩
abbrev main_while4b_c_35 : Ref sig .tc := ⟨.hbm, 401, rfl⟩
abbrev main_while4b_v132 : Ref sig .tc := ⟨.hbm, 402, rfl⟩
abbrev main_v71 : Ref sig .tc := ⟨.hbm, 403, rfl⟩
abbrev main_v72 : Ref sig .tc := ⟨.hbm, 404, rfl⟩
abbrev main_v73 : Ref sig .tc := ⟨.hbm, 405, rfl⟩
abbrev main_v74 : Ref sig .tc := ⟨.hbm, 406, rfl⟩
abbrev main_v75 : Ref sig .tc := ⟨.hbm, 407, rfl⟩
abbrev main_v76 : Ref sig .tc := ⟨.hbm, 408, rfl⟩
abbrev main_v77 : Ref sig .tc := ⟨.hbm, 409, rfl⟩
abbrev main_v78 : Ref sig .tc := ⟨.hbm, 410, rfl⟩
abbrev main_v79 : Ref sig .tc := ⟨.hbm, 411, rfl⟩
abbrev main_v80 : Ref sig .tc := ⟨.hbm, 412, rfl⟩
abbrev main_cst_18 : Ref sig .tc := ⟨.hbm, 413, rfl⟩
abbrev main_v81 : Ref sig .tc := ⟨.hbm, 414, rfl⟩
abbrev main_cst_19 : Ref sig .tc := ⟨.hbm, 415, rfl⟩
abbrev main_v82 : Ref sig .tc := ⟨.hbm, 416, rfl⟩
abbrev main_cst_20 : Ref sig .tc := ⟨.hbm, 417, rfl⟩
abbrev main_v83 : Ref sig .tc := ⟨.hbm, 418, rfl⟩
abbrev main_c_21 : Ref sig .tc := ⟨.hbm, 419, rfl⟩
abbrev main_v84_0 : Ref sig .tc := ⟨.hbm, 420, rfl⟩
abbrev main_v84_1 : Ref sig .tc := ⟨.hbm, 421, rfl⟩
abbrev main_v84_2 : Ref sig .tc := ⟨.hbm, 422, rfl⟩
abbrev main_v84_3 : Ref sig .tc := ⟨.hbm, 423, rfl⟩
abbrev main_v84_4 : Ref sig .tc := ⟨.hbm, 424, rfl⟩
abbrev main_v84_5 : Ref sig .tc := ⟨.hbm, 425, rfl⟩
abbrev main_v84_6 : Ref sig .tc := ⟨.hbm, 426, rfl⟩
abbrev main_v84_7 : Ref sig .tc := ⟨.hbm, 427, rfl⟩
abbrev main_while5c_c_29 : Ref sig .tc := ⟨.hbm, 428, rfl⟩
abbrev main_while5c_v94 : Ref sig .tc := ⟨.hbm, 429, rfl⟩
abbrev main_while5b_call10_c : Ref sig .tc := ⟨.hbm, 430, rfl⟩
abbrev main_while5b_call10_c_0 : Ref sig .tc := ⟨.hbm, 431, rfl⟩
abbrev main_while5b_call10_v0 : Ref sig .tc := ⟨.hbm, 432, rfl⟩
abbrev main_while5b_v94 : Ref sig .tc := ⟨.hbm, 433, rfl⟩
abbrev main_while5b_v95 : Ref sig .tc := ⟨.hbm, 434, rfl⟩
abbrev main_while5b_v96 : Ref sig .tc := ⟨.hbm, 435, rfl⟩
abbrev main_while5b_v97 : Ref sig .tc := ⟨.hbm, 436, rfl⟩
abbrev main_while5b_v98 : Ref sig .tc := ⟨.hbm, 437, rfl⟩
abbrev main_while5b_v99 : Ref sig .tc := ⟨.hbm, 438, rfl⟩
abbrev main_while5b_v100 : Ref sig .tc := ⟨.hbm, 439, rfl⟩
abbrev main_while5b_v101 : Ref sig .tc := ⟨.hbm, 440, rfl⟩
abbrev main_while5b_v102 : Ref sig .tc := ⟨.hbm, 441, rfl⟩
abbrev main_while5b_v103 : Ref sig .tc := ⟨.hbm, 442, rfl⟩
abbrev main_while5b_v104 : Ref sig .tc := ⟨.hbm, 443, rfl⟩
abbrev main_while5b_v105 : Ref sig .tc := ⟨.hbm, 444, rfl⟩
abbrev main_while5b_v106 : Ref sig .tc := ⟨.hbm, 445, rfl⟩
abbrev main_while5b_v107 : Ref sig .tc := ⟨.hbm, 446, rfl⟩
abbrev main_while5b_v108 : Ref sig .tc := ⟨.hbm, 447, rfl⟩
abbrev main_while5b_cst_29 : Ref sig .tc := ⟨.hbm, 448, rfl⟩
abbrev main_while5b_v109 : Ref sig .tc := ⟨.hbm, 449, rfl⟩
abbrev main_while5b_v110 : Ref sig .tc := ⟨.hbm, 450, rfl⟩
abbrev main_while5b_cst_30 : Ref sig .tc := ⟨.hbm, 451, rfl⟩
abbrev main_while5b_v111 : Ref sig .tc := ⟨.hbm, 452, rfl⟩
abbrev main_while5b_v112 : Ref sig .tc := ⟨.hbm, 453, rfl⟩
abbrev main_while5b_v113 : Ref sig .tc := ⟨.hbm, 454, rfl⟩
abbrev main_while5b_v114 : Ref sig .tc := ⟨.hbm, 455, rfl⟩
abbrev main_while5b_v115 : Ref sig .tc := ⟨.hbm, 456, rfl⟩
abbrev main_while5b_cst_31 : Ref sig .tc := ⟨.hbm, 457, rfl⟩
abbrev main_while5b_v116 : Ref sig .tc := ⟨.hbm, 458, rfl⟩
abbrev main_while5b_v117 : Ref sig .tc := ⟨.hbm, 459, rfl⟩
abbrev main_while5b_cst_32 : Ref sig .tc := ⟨.hbm, 460, rfl⟩
abbrev main_while5b_v118 : Ref sig .tc := ⟨.hbm, 461, rfl⟩
abbrev main_while5b_v119 : Ref sig .tc := ⟨.hbm, 462, rfl⟩
abbrev main_while5b_v120 : Ref sig .tc := ⟨.hbm, 463, rfl⟩
abbrev main_while5b_v121 : Ref sig .tc := ⟨.hbm, 464, rfl⟩
abbrev main_while5b_v122 : Ref sig .tc := ⟨.hbm, 465, rfl⟩
abbrev main_while5b_v123 : Ref sig .tc := ⟨.hbm, 466, rfl⟩
abbrev main_while5b_v124 : Ref sig .tc := ⟨.hbm, 467, rfl⟩
abbrev main_while5b_cst_33 : Ref sig .tc := ⟨.hbm, 468, rfl⟩
abbrev main_while5b_v125 : Ref sig .tc := ⟨.hbm, 469, rfl⟩
abbrev main_while5b_v126 : Ref sig .tc := ⟨.hbm, 470, rfl⟩
abbrev main_while5b_cst_34 : Ref sig .tc := ⟨.hbm, 471, rfl⟩
abbrev main_while5b_v127 : Ref sig .tc := ⟨.hbm, 472, rfl⟩
abbrev main_while5b_v128 : Ref sig .tc := ⟨.hbm, 473, rfl⟩
abbrev main_while5b_v129 : Ref sig .tc := ⟨.hbm, 474, rfl⟩
abbrev main_while5b_v130 : Ref sig .tc := ⟨.hbm, 475, rfl⟩
abbrev main_while5b_call11_v0 : Ref sig .tc := ⟨.hbm, 476, rfl⟩
abbrev main_while5b_call11_c : Ref sig .tc := ⟨.hbm, 477, rfl⟩
abbrev main_while5b_call11_c_0 : Ref sig .tc := ⟨.hbm, 478, rfl⟩
abbrev main_while5b_v131 : Ref sig .tc := ⟨.hbm, 479, rfl⟩
abbrev main_while5b_c_35 : Ref sig .tc := ⟨.hbm, 480, rfl⟩
abbrev main_while5b_v132 : Ref sig .tc := ⟨.hbm, 481, rfl⟩
abbrev main_v85 : Ref sig .tc := ⟨.hbm, 482, rfl⟩
abbrev main_v86 : Ref sig .tc := ⟨.hbm, 483, rfl⟩
abbrev main_v87 : Ref sig .tc := ⟨.hbm, 484, rfl⟩
abbrev main_v88 : Ref sig .tc := ⟨.hbm, 485, rfl⟩
abbrev main_v89 : Ref sig .tc := ⟨.hbm, 486, rfl⟩
abbrev main_v90 : Ref sig .tc := ⟨.hbm, 487, rfl⟩
abbrev main_v91 : Ref sig .tc := ⟨.hbm, 488, rfl⟩
abbrev main_v92 : Ref sig .tc := ⟨.hbm, 489, rfl⟩
abbrev main_v93 : Ref sig .tc := ⟨.hbm, 490, rfl⟩

abbrev nD : Nat := 1
abbrev τ : Topo := Topo.v7x

variable {F : FTy → Type} [FloatOps F]

abbrev main_while0_count : Scf.Loop 32 := ⟨0#32, 20#32, 1#32⟩

abbrev main_while1_count : Scf.Loop 32 := ⟨0#32, 20#32, 1#32⟩

abbrev main_while2_count : Scf.Loop 32 := ⟨0#32, 20#32, 1#32⟩

abbrev main_while3_count : Scf.Loop 32 := ⟨0#32, 20#32, 1#32⟩

abbrev main_while4_count : Scf.Loop 32 := ⟨0#32, 20#32, 1#32⟩

abbrev main_while5_count : Scf.Loop 32 := ⟨0#32, 20#32, 1#32⟩
-- ==== Proj.lean ====
abbrev S20x64x1024 : Shape := ⟨3, ![20, 64, 1024]⟩
abbrev S4000x64 : Shape := ⟨2, ![4000, 64]⟩
abbrev S4000 : Shape := ⟨1, ![4000]⟩
abbrev S4x1000x64 : Shape := ⟨3, ![4, 1000, 64]⟩
abbrev S4x64x1000 : Shape := ⟨3, ![4, 64, 1000]⟩
abbrev S4x1x1000 : Shape := ⟨3, ![4, 1, 1000]⟩
abbrev S1024x20x4x1000 : Shape := ⟨4, ![1024, 20, 4, 1000]⟩
abbrev S1x64x1024 : Shape := ⟨3, ![1, 64, 1024]⟩
abbrev S1024x1x4x1000 : Shape := ⟨4, ![1024, 1, 4, 1000]⟩
abbrev S64x1024 : Shape := ⟨2, ![64, 1024]⟩
abbrev S1x64x1000 : Shape := ⟨3, ![1, 64, 1000]⟩
abbrev S64x1000 : Shape := ⟨2, ![64, 1000]⟩
abbrev S1024x1000 : Shape := ⟨2, ![1024, 1000]⟩
abbrev S1x1x1000 : Shape := ⟨3, ![1, 1, 1000]⟩
abbrev S1x1000 : Shape := ⟨2, ![1, 1000]⟩
abbrev S1024x1x1x1000 : Shape := ⟨4, ![1024, 1, 1, 1000]⟩

abbrev nBuf : Space → Nat
  | .hbm => 7
  | .vmem => 6
  | .smem => 0
  | _ => 0

abbrev bufTy : (tb : Table) → Fin (tcTables nBuf tb) → BufTy
  | .hbm, ⟨0, _⟩ => ⟨S20x64x1024, .f32⟩
  | .hbm, ⟨1, _⟩ => ⟨S4000x64, .f32⟩
  | .hbm, ⟨2, _⟩ => ⟨S4000, .f32⟩
  | .hbm, ⟨3, _⟩ => ⟨S4x1000x64, .f32⟩
  | .hbm, ⟨4, _⟩ => ⟨S4x64x1000, .f32⟩
  | .hbm, ⟨5, _⟩ => ⟨S4x1x1000, .f32⟩
  | .hbm, ⟨6, _⟩ => ⟨S1024x20x4x1000, .f32⟩
  | .local _ .vmem, ⟨0, _⟩ => ⟨S1x64x1024, .f32⟩
  | .local _ .vmem, ⟨1, _⟩ => ⟨S1x64x1024, .f32⟩
  | .local _ .vmem, ⟨2, _⟩ => ⟨S4x64x1000, .f32⟩
  | .local _ .vmem, ⟨3, _⟩ => ⟨S4x1x1000, .f32⟩
  | .local _ .vmem, ⟨4, _⟩ => ⟨S1024x1x4x1000, .f32⟩
  | .local _ .vmem, ⟨5, _⟩ => ⟨S1024x1x4x1000, .f32⟩
  | _, _ => ⟨S20x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![20], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S1x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x64x1000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1x1000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1x4x1000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ProjReferenceIdeal.lean ====
abbrev S20x64x1024 : Shape := ⟨3, ![20, 64, 1024]⟩
abbrev S4000x64 : Shape := ⟨2, ![4000, 64]⟩
abbrev S4000 : Shape := ⟨1, ![4000]⟩
abbrev S1024x20x64 : Shape := ⟨3, ![1024, 20, 64]⟩
abbrev S64x4000 : Shape := ⟨2, ![64, 4000]⟩
abbrev S1024x20x4000 : Shape := ⟨3, ![1024, 20, 4000]⟩
abbrev S1x1x4000 : Shape := ⟨3, ![1, 1, 4000]⟩
abbrev S1024x20x4x1000 : Shape := ⟨4, ![1024, 20, 4, 1000]⟩

abbrev nBuf : Space → Nat
  | .hbm => 10
  | .vmem => 0
  | .smem => 0
  | _ => 0

abbrev bufTy : (tb : Table) → Fin (tcTables nBuf tb) → BufTy
  | .hbm, ⟨0, _⟩ => ⟨S20x64x1024, .f32⟩
  | .hbm, ⟨1, _⟩ => ⟨S4000x64, .f32⟩
  | .hbm, ⟨2, _⟩ => ⟨S4000, .f32⟩
  | .hbm, ⟨3, _⟩ => ⟨S1024x20x64, .f32⟩
  | .hbm, ⟨4, _⟩ => ⟨S64x4000, .f32⟩
  | .hbm, ⟨5, _⟩ => ⟨S1024x20x4000, .f32⟩
  | .hbm, ⟨6, _⟩ => ⟨S1x1x4000, .f32⟩
  | .hbm, ⟨7, _⟩ => ⟨S1024x20x4000, .f32⟩
  | .hbm, ⟨8, _⟩ => ⟨S1024x20x4000, .f32⟩
  | .hbm, ⟨9, _⟩ => ⟨S1024x20x4x1000, .f32⟩
  | _, _ => ⟨S20x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Proof.LstmKernel.lean ====
/- What the three-layer kernel leaves, over any float values: each layer is one counted loop, whose invariant
   keeps the running pair of arrays and the rows of the layer's result written so far. -/
module

public import proofs.«01_k».proof.Proof.Gen.LstmIdeal.Launch
public import proofs.«01_k».proof.Proof.Gen.LstmIdeal.Skeleton
public import proofs.«01_k».proof.Proof.Gen.LstmIdeal.Points
public import Idealize.ShloMosaic.Lib.Pipeline.FrameBody
public import Idealize.ShloMosaic.Lib.Pipeline.Value
public import Idealize.ShloMosaic.Lib.Pipeline.ValueKit
public import Idealize.ShloMosaic.Lib.Pointwise
public import Idealize.ShloMosaic.Lib.Exec
public import Idealize.ShloMosaic.Lib.Tactic
public import Idealize.ShloMosaic.Lib.VecWindow
public import Idealize.ShloMosaic.Lib.WritesUnit
public import Idealize.ShloMosaic.Lib.Claim

@[expose] public section

set_option maxRecDepth 16384

noncomputable section

namespace Cert.LstmIdeal.Own

open Cert.LstmIdeal Cert.LstmIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

theorem zeros2 : (![0, 0] : Fin 2 → ℕ) = fun _ => 0 := by decide

/-- A load of the whole of a `64 × 1024` memref reads its contents. -/
theorem ld_all (X : Vec F S64x1024 .f32) (inb : ∀ a, (![0, 0] : Fin 2 → ℕ) a + S64x1024.size a ≤ S64x1024.size a) :
    View.ld X (Rect.unit (s := S64x1024) ![0, 0] S64x1024.size inb) = X :=
  View.ld_unit_zero (S := S64x1024) zeros2 inb X

/-- A running pair: the layer's output of a trip and its cell, features by batch. -/
abbrev Pair (F : FTy → Type) := Vec F S64x1024 .f32 × Vec F S64x1024 .f32

/-- The array `d` with trip `k`'s rows put in: the low half of row `k` and the high half of row `19 - k` are `h`'s. -/
def putRows (k : ℕ) (h : Vec F S64x1024 .f32) (d : Vec F S20x64x1024 .f32) : Vec F S20x64x1024 .f32 := fun y =>
  if (y 1).val < 32 then (if (y 0).val = k then h (ix2 (y 1) (y 2)) else d y)
  else (if (y 0).val = 19 - k then h (ix2 (y 1) (y 2)) else d y)

theorem putRows_apply (k : ℕ) (h : Vec F S64x1024 .f32) (d : Vec F S20x64x1024 .f32) (t : Fin 20) (u : Fin 64) (b : Fin 1024) :
    putRows k h d (ix3 t u b) = if u.val < 32 then (if t.val = k then h (ix2 u b) else d (ix3 t u b))
      else (if t.val = 19 - k then h (ix2 u b) else d (ix3 t u b)) := rfl

/-- The two stores of a trip, read back. -/
theorem read_putRows (v : View sig .tc .vmem S20x64x1024 .f32) (f : v.ty.Contents (Elt F)) (k : ℕ)
    (off off' : Fin 3 → ℕ) (inb : ∀ a, off a + S1x32x1024.size a ≤ S20x64x1024.size a)
    (inb' : ∀ a, off' a + S1x32x1024.size a ≤ S20x64x1024.size a) (e : off = ![k, 0, 0]) (e' : off' = ![19 - k, 32, 0])
    (A B : Vec F S1x32x1024 .f32) (h : Vec F S64x1024 .f32)
    (hA : ∀ (u : Fin 32) (b : Fin 1024), A (ix3 0 u b) = h (ix2 (Fin.castLE (by decide) u) b))
    (hB : ∀ (u : Fin 32) (b : Fin 1024), B (ix3 0 u b) = h (ix2 (Fin.natAdd 32 u) b)) :
    v.read (Elt F) (v.writes (Elt F) f [⟨Rect.unit off' S1x32x1024.size inb', B⟩, ⟨Rect.unit off S1x32x1024.size inb, A⟩])
      = putRows k h (v.read (Elt F) f) := by
  funext y
  obtain ⟨t, u, b, rfl⟩ : ∃ t u b, y = ix3 (n0 := 20) (n1 := 64) (n2 := 1024) t u b := ⟨_, _, _, eq_ix3 y⟩
  rw [putRows_apply]
  by_cases hu : u.val < 32
  · rw [if_pos hu]
    rw [View.read_writes_cons_unit_of_not_mem v f inb' B _ _ e' 1 (.inl hu)]
    by_cases ht : t.val = k
    · rw [if_pos ht, View.read_writes_cons_unit_of_mem v f inb A _ _ (ix3 (n0 := 1) (n1 := 32) (n2 := 1024) 0 ⟨u.val, hu⟩ b) e
        (fun a => match a with
          | ⟨0, _⟩ => by show t.val = k + 0; omega
          | ⟨1, _⟩ => by show u.val = 0 + u.val; omega
          | ⟨2, _⟩ => by show b.val = 0 + b.val; omega)]
      exact hA ⟨u.val, hu⟩ b
    · rw [if_neg ht, View.read_writes_cons_unit_of_not_mem v f inb A _ _ e 0 (by show t.val < k ∨ k + 1 ≤ t.val; omega)]
      rfl
  · rw [if_neg hu]
    by_cases ht : t.val = 19 - k
    · rw [if_pos ht, View.read_writes_cons_unit_of_mem v f inb' B _ _ (ix3 (n0 := 1) (n1 := 32) (n2 := 1024) 0 ⟨u.val - 32, by omega⟩ b) e'
        (fun a => match a with
          | ⟨0, _⟩ => by show t.val = (19 - k) + 0; omega
          | ⟨1, _⟩ => by show u.val = 32 + (u.val - 32); omega
          | ⟨2, _⟩ => by show b.val = 0 + b.val; omega)]
      rw [hB]
      congr 2
      exact Fin.ext (by show 32 + (u.val - 32) = u.val; omega)
    · rw [if_neg ht, View.read_writes_cons_unit_of_not_mem v f inb' B _ _ e' 0 (by show t.val < 19 - k ∨ 19 - k + 1 ≤ t.val; omega),
        View.read_writes_cons_unit_of_not_mem v f inb A _ _ e 1 (.inr (by show 0 + 32 ≤ u.val; omega))]
      rfl

/-- The array a layer leaves, from its running pairs: the low half of row `t` is the output after trip `t`, the high
    half the output after trip `19 - t`. -/
def layer (S : ℕ → Pair F) : Vec F S20x64x1024 .f32 := fun y =>
  if (y 1).val < 32 then (S ((y 0).val + 1)).1 (ix2 (y 1) (y 2)) else (S (20 - (y 0).val)).1 (ix2 (y 1) (y 2))

theorem layer_apply (S : ℕ → Pair F) (t : Fin 20) (u : Fin 64) (b : Fin 1024) :
    layer S (ix3 t u b) = if u.val < 32 then (S (t.val + 1)).1 (ix2 u b) else (S (20 - t.val)).1 (ix2 u b) := rfl

/-- The rows the trips before `k` put in are the layer's. -/
def Done (S : ℕ → Pair F) (k : ℕ) (d : Vec F S20x64x1024 .f32) : Prop :=
  ∀ (t : Fin 20) (u : Fin 64) (b : Fin 1024), (if u.val < 32 then t.val < k else 20 - k ≤ t.val) →
    d (ix3 t u b) = layer S (ix3 t u b)

theorem Done.zero (S : ℕ → Pair F) (d : Vec F S20x64x1024 .f32) : Done S 0 d := fun t u b h => by
  split at h <;> omega

theorem Done.succ {S : ℕ → Pair F} {k : ℕ} {d : Vec F S20x64x1024 .f32} (hk : k < 20) (h : Done S k d) :
    Done S (k + 1) (putRows k (S (k + 1)).1 d) := fun t u b hy => by
  have := h t u b
  rw [putRows_apply]
  rw [layer_apply] at this ⊢
  by_cases hu : u.val < 32
  · simp only [if_pos hu] at this hy ⊢
    by_cases ht : t.val = k
    · rw [if_pos ht, ht]
    · rw [if_neg ht]; exact this (by omega)
  · simp only [if_neg hu] at this hy ⊢
    by_cases ht : t.val = 19 - k
    · rw [if_pos ht, ht, show 20 - (19 - k) = k + 1 by omega]
    · rw [if_neg ht]; exact this (by omega)

theorem Done.all {S : ℕ → Pair F} {d : Vec F S20x64x1024 .f32} (h : Done S 20 d) : d = layer S :=
  funext fun y => by
    obtain ⟨t, u, b, rfl⟩ : ∃ t u b, y = ix3 (n0 := 20) (n1 := 64) (n2 := 1024) t u b := ⟨_, _, _, eq_ix3 y⟩
    exact h t u b (by split <;> omega)

/-! ## Layer 1 -/

/-- Trip `k`'s pair (output, cell) from the pair before it. -/
def step1 (v0 : Vec F S1x256x64 .f32) (v2 : Vec F S1x256x64 .f32) (v4 : Vec F S1x256x64 .f32) (v6 : Vec F S1x256x1 .f32) (X : Vec F S20x1024x64 .f32) (k : Fin k0_t1_loop.trips)
    (p : Pair F) : Pair F :=
  let xa : Vec F S1x1024x64 .f32 := View.ld X (Rect.unit (s := S20x1024x64) (k0_off1 k) S1x1024x64.size (k0_off1_inb k))
  let xb : Vec F S1x1024x64 .f32 := View.ld X (Rect.unit (s := S20x1024x64) (k0_off2 k) S1x1024x64.size (k0_off2_inb k))
  let n := k0_pay7 (k0_pay15 v0) (k0_pay16 v2) (k0_pay17 v4) (k0_pay18 v6) xa xb p.1 p.2
  (k0_pay21 n (k0_pay8 (k0_pay15 v0) (k0_pay16 v2) (k0_pay17 v4) (k0_pay18 v6) xa xb p.1), n)

set_option maxHeartbeats 1000000 in
/-- One trip: the pair moves on and the trip's rows are put in. -/
theorem trip1 (𝒱 : Variants) (c : Dev nD) (bd : Option 𝒱.V) (E : Set ℕ) (arg0 : Memref sig .tc .vmem S20x1024x64 .f32) (harg0 : arg0.IsWhole) (arg1 : Memref sig .tc .vmem S3x256x192 .f32) (harg1 : arg1.IsWhole) (arg2 : Memref sig .tc .vmem S3x256x1 .f32) (harg2 : arg2.IsWhole) (arg3 : Memref sig .tc .vmem S20x64x1024 .f32) (harg3 : arg3.IsWhole) (arg4 : Memref sig .tc .vmem S20x64x1024 .f32) (harg4 : arg4.IsWhole) (arg5 : Memref sig .tc .vmem S20x64x1024 .f32) (harg5 : arg5.IsWhole) (arg6 : Memref sig .tc .vmem S64x1024 .f32) (harg6 : arg6.IsWhole) (arg7 : Memref sig .tc .vmem S64x1024 .f32) (harg7 : arg7.IsWhole) (v0 : Vec F S1x256x64 .f32) (v2 : Vec F S1x256x64 .f32) (v4 : Vec F S1x256x64 .f32) (v6 : Vec F S1x256x1 .f32)
    (k : Fin k0_t1_loop.trips) (X : BufTy.Contents (Elt F) arg0.view.ty) (f : BufTy.Contents (Elt F) arg4.view.ty)
    (f6 : BufTy.Contents (Elt F) arg6.view.ty) (f7 : BufTy.Contents (Elt F) arg7.view.ty) :
    (iprop((arg0.view.loc (c : Thread nD τ) ↦[arg0.view.set]{fullShare} X)
      ∗ (arg4.view.loc (c : Thread nD τ) ↦[arg4.view.set]{fullShare} f)
      ∗ (arg6.view.loc (c : Thread nD τ) ↦[arg6.view.set]{fullShare} f6)
      ∗ (arg7.view.loc (c : Thread nD τ) ↦[arg7.view.set]{fullShare} f7)) : sProp 𝕄)
    ⊢ wp frame (wpE (defs₀ (F := F)) 𝒱 (c : Thread nD τ) bd) E (k0_t1_body (F := F) arg0 harg0 arg1 harg1 arg2 harg2 arg3 harg3 arg4 harg4 arg5 harg5 arg6 harg6 arg7 harg7 v0 v2 v4 v6 k PUnit.unit)
      (fun _ => iprop((arg0.view.loc (c : Thread nD τ) ↦[arg0.view.set]{fullShare} X)
        ∗ (∃ g, (arg4.view.loc (c : Thread nD τ) ↦[arg4.view.set]{fullShare} g) ∗ ⌜arg4.view.read (Elt F) g = putRows k.val (step1 v0 v2 v4 v6 (arg0.view.read (Elt F) X) k (arg6.view.read (Elt F) f6, arg7.view.read (Elt F) f7)).1 (arg4.view.read (Elt F) f)⌝)
        ∗ (∃ g, (arg6.view.loc (c : Thread nD τ) ↦[arg6.view.set]{fullShare} g) ∗ ⌜arg6.view.read (Elt F) g = (step1 v0 v2 v4 v6 (arg0.view.read (Elt F) X) k (arg6.view.read (Elt F) f6, arg7.view.read (Elt F) f7)).1⌝)
        ∗ (∃ g, (arg7.view.loc (c : Thread nD τ) ↦[arg7.view.set]{fullShare} g) ∗ ⌜arg7.view.read (Elt F) g = (step1 v0 v2 v4 v6 (arg0.view.read (Elt F) X) k (arg6.view.read (Elt F) f6, arg7.view.read (Elt F) f7)).2⌝))) := by
  have hk : k.val < 20 := Nat.lt_of_lt_of_le k.isLt k0_t1_abs.2.1
  unfold k0_t1_body
  iintro ⟨HR, HD, H6, H7⟩
  sl_exec
  sl_step
  unfold trip1.sl.r trip1.sl.r_1
  have e6 : arg6.view.readAt (Elt F) (Rect.unit (s := S64x1024) ![0, 0] S64x1024.size inb_S64x1024_S64x1024_0_0) f6
      = arg6.view.read (Elt F) f6 := ld_all _ _
  have e7 : arg7.view.readAt (Elt F) (Rect.unit (s := S64x1024) ![0, 0] S64x1024.size inb_S64x1024_S64x1024_0_0) f7
      = arg7.view.read (Elt F) f7 := ld_all _ _
  rw [e6, e7]
  isplitl [HR]; · iexact HR
  isplitl [HD]
  · iexists _; isplitl [HD]; · iexact HD
    ipureintro
    refine read_putRows _ _ _ _ _ _ _ (k0_off3_eq k) (k0_off4_eq k) _ _ _ (fun u b => ?_) (fun u b => ?_)
    · pointwise [k0_pay24, step1, View.readAt_eq_ld]
      rfl
    · pointwise [k0_pay25, step1, View.readAt_eq_ld]
      rfl
  isplitl [H6]
  · iexists _; isplitl [H6]; · iexact H6
    ipureintro
    rw [View.read_writes_full]
    unfold k0_pay23
    dsimp only
    rw [shapeCast_self]
    simp only [step1, View.readAt_eq_ld]
  iexists _; isplitl [H7]; · iexact H7
  ipureintro
  rw [View.read_writes_full]
  unfold k0_pay22
  dsimp only
  rw [shapeCast_self]
  simp only [step1, View.readAt_eq_ld]

/-- The running pairs from the pair `p0`: one step a trip. -/
def st1 (v0 : Vec F S1x256x64 .f32) (v2 : Vec F S1x256x64 .f32) (v4 : Vec F S1x256x64 .f32) (v6 : Vec F S1x256x1 .f32) (X : Vec F S20x1024x64 .f32) (p0 : Pair F) : ℕ → Pair F
  | 0 => p0
  | k + 1 => if h : k < k0_t1_loop.trips then step1 v0 v2 v4 v6 X ⟨k, h⟩ (st1 v0 v2 v4 v6 X p0 k) else st1 v0 v2 v4 v6 X p0 k

theorem st1_succ (v0 : Vec F S1x256x64 .f32) (v2 : Vec F S1x256x64 .f32) (v4 : Vec F S1x256x64 .f32) (v6 : Vec F S1x256x1 .f32) (X : Vec F S20x1024x64 .f32) (p0 : Pair F) (k : Fin k0_t1_loop.trips) :
    st1 v0 v2 v4 v6 X p0 (k.val + 1) = step1 v0 v2 v4 v6 X k (st1 v0 v2 v4 v6 X p0 k.val) := dif_pos k.isLt

/-- Before trip `k`: the source as it was, the rows of the trips before put in, the pair at its `k`-th value. -/
def inv1 (c : Dev nD) (arg0 : Memref sig .tc .vmem S20x1024x64 .f32) (arg4 : Memref sig .tc .vmem S20x64x1024 .f32)
    (arg6 arg7 : Memref sig .tc .vmem S64x1024 .f32) (v0 : Vec F S1x256x64 .f32) (v2 : Vec F S1x256x64 .f32) (v4 : Vec F S1x256x64 .f32) (v6 : Vec F S1x256x1 .f32)
    (fX : BufTy.Contents (Elt F) arg0.view.ty) (p0 : Pair F) (k : ℕ) (_ : PUnit) : sProp 𝕄 :=
  iprop((arg0.view.loc (c : Thread nD τ) ↦[arg0.view.set]{fullShare} fX)
    ∗ (∃ g, (arg4.view.loc (c : Thread nD τ) ↦[arg4.view.set]{fullShare} g) ∗ ⌜Done (st1 v0 v2 v4 v6 (arg0.view.read (Elt F) fX) p0) k (arg4.view.read (Elt F) g)⌝)
    ∗ (∃ g, (arg6.view.loc (c : Thread nD τ) ↦[arg6.view.set]{fullShare} g) ∗ ⌜arg6.view.read (Elt F) g = (st1 v0 v2 v4 v6 (arg0.view.read (Elt F) fX) p0 k).1⌝)
    ∗ (∃ g, (arg7.view.loc (c : Thread nD τ) ↦[arg7.view.set]{fullShare} g) ∗ ⌜arg7.view.read (Elt F) g = (st1 v0 v2 v4 v6 (arg0.view.read (Elt F) fX) p0 k).2⌝))

/-- A trip keeps the invariant. -/
theorem inv_step1 (𝒱 : Variants) (c : Dev nD) (bd : Option 𝒱.V) (E : Set ℕ) (arg0 : Memref sig .tc .vmem S20x1024x64 .f32) (harg0 : arg0.IsWhole) (arg1 : Memref sig .tc .vmem S3x256x192 .f32) (harg1 : arg1.IsWhole) (arg2 : Memref sig .tc .vmem S3x256x1 .f32) (harg2 : arg2.IsWhole) (arg3 : Memref sig .tc .vmem S20x64x1024 .f32) (harg3 : arg3.IsWhole) (arg4 : Memref sig .tc .vmem S20x64x1024 .f32) (harg4 : arg4.IsWhole) (arg5 : Memref sig .tc .vmem S20x64x1024 .f32) (harg5 : arg5.IsWhole) (arg6 : Memref sig .tc .vmem S64x1024 .f32) (harg6 : arg6.IsWhole) (arg7 : Memref sig .tc .vmem S64x1024 .f32) (harg7 : arg7.IsWhole) (v0 : Vec F S1x256x64 .f32) (v2 : Vec F S1x256x64 .f32) (v4 : Vec F S1x256x64 .f32) (v6 : Vec F S1x256x1 .f32)
    (fX : BufTy.Contents (Elt F) arg0.view.ty) (p0 : Pair F) (k : Fin k0_t1_loop.trips) (u : PUnit) :
    inv1 c arg0 arg4 arg6 arg7 v0 v2 v4 v6 fX p0 k.val u
      ⊢ wp frame (wpE (defs₀ (F := F)) 𝒱 (c : Thread nD τ) bd) E (k0_t1_body (F := F) arg0 harg0 arg1 harg1 arg2 harg2 arg3 harg3 arg4 harg4 arg5 harg5 arg6 harg6 arg7 harg7 v0 v2 v4 v6 k u)
        (inv1 c arg0 arg4 arg6 arg7 v0 v2 v4 v6 fX p0 (k.val + 1)) := by
  have hk : k.val < 20 := Nat.lt_of_lt_of_le k.isLt k0_t1_abs.2.1
  unfold inv1
  iintro ⟨HR, ⟨%f, HD, %hD⟩, ⟨%f6, H6, %h6⟩, ⟨%f7, H7, %h7⟩⟩
  iapply (wp_wand_r Idealize.ShloMosaic.frame (wpE (defs₀ (F := F)) 𝒱 (c : Thread nD τ) bd) E)
  isplitl [HR HD H6 H7]
  · iapply (trip1 (F := F) 𝒱 c bd E arg0 harg0 arg1 harg1 arg2 harg2 arg3 harg3 arg4 harg4 arg5 harg5 arg6 harg6 arg7 harg7 v0 v2 v4 v6 k fX f f6 f7)
    isplitl [HR]; · iexact HR
    isplitl [HD]; · iexact HD
    isplitl [H6]; · iexact H6
    iexact H7
  · iintro %_ ⟨HR, ⟨%g, HD, %hg⟩, ⟨%g6, H6, %hg6⟩, ⟨%g7, H7, %hg7⟩⟩
    have hp : (arg6.view.read (Elt F) f6, arg7.view.read (Elt F) f7) = st1 v0 v2 v4 v6 (arg0.view.read (Elt F) fX) p0 k.val :=
      Prod.ext h6 h7
    rw [hp, ← st1_succ] at hg hg6 hg7
    isplitl [HR]; · iexact HR
    isplitl [HD]
    · iexists _; isplitl [HD]; · iexact HD
      ipureintro; rw [hg]; exact hD.succ hk
    isplitl [H6]
    · iexists _; isplitl [H6]; · iexact H6
      ipureintro; exact hg6
    iexists _; isplitl [H7]; · iexact H7
    ipureintro; exact hg7

/-! ## Layer 2 -/

/-- Trip `k`'s pair (output, cell) from the pair before it. -/
def step2 (v18 : FVec F S256x64 .f32) (v20 : FVec F S256x64 .f32) (v22 : FVec F S256x64 .f32) (v23 : Vec F S1x256x1 .f32) (X : Vec F S20x64x1024 .f32) (k : Fin k0_t2_loop.trips)
    (p : Pair F) : Pair F :=
  let xa : Vec F S1x64x1024 .f32 := View.ld X (Rect.unit (s := S20x64x1024) (k0_off5 k) S1x64x1024.size (k0_off5_inb k))
  let xb : Vec F S1x64x1024 .f32 := View.ld X (Rect.unit (s := S20x64x1024) (k0_off6 k) S1x64x1024.size (k0_off6_inb k))
  let n := k0_pay10 v18 v20 v22 (k0_pay29 v23) xa xb p.1 p.2
  (k0_pay32 n (k0_pay11 v18 v20 v22 (k0_pay29 v23) xa xb p.1), n)

set_option maxHeartbeats 1000000 in
/-- One trip: the pair moves on and the trip's rows are put in. -/
theorem trip2 (𝒱 : Variants) (c : Dev nD) (bd : Option 𝒱.V) (E : Set ℕ) (arg0 : Memref sig .tc .vmem S20x1024x64 .f32) (harg0 : arg0.IsWhole) (arg1 : Memref sig .tc .vmem S3x256x192 .f32) (harg1 : arg1.IsWhole) (arg2 : Memref sig .tc .vmem S3x256x1 .f32) (harg2 : arg2.IsWhole) (arg3 : Memref sig .tc .vmem S20x64x1024 .f32) (harg3 : arg3.IsWhole) (arg4 : Memref sig .tc .vmem S20x64x1024 .f32) (harg4 : arg4.IsWhole) (arg5 : Memref sig .tc .vmem S20x64x1024 .f32) (harg5 : arg5.IsWhole) (arg6 : Memref sig .tc .vmem S64x1024 .f32) (harg6 : arg6.IsWhole) (arg7 : Memref sig .tc .vmem S64x1024 .f32) (harg7 : arg7.IsWhole) (v18 : FVec F S256x64 .f32) (v20 : FVec F S256x64 .f32) (v22 : FVec F S256x64 .f32) (v23 : Vec F S1x256x1 .f32)
    (k : Fin k0_t2_loop.trips) (X : BufTy.Contents (Elt F) arg4.view.ty) (f : BufTy.Contents (Elt F) arg5.view.ty)
    (f6 : BufTy.Contents (Elt F) arg6.view.ty) (f7 : BufTy.Contents (Elt F) arg7.view.ty) :
    (iprop((arg4.view.loc (c : Thread nD τ) ↦[arg4.view.set]{fullShare} X)
      ∗ (arg5.view.loc (c : Thread nD τ) ↦[arg5.view.set]{fullShare} f)
      ∗ (arg6.view.loc (c : Thread nD τ) ↦[arg6.view.set]{fullShare} f6)
      ∗ (arg7.view.loc (c : Thread nD τ) ↦[arg7.view.set]{fullShare} f7)) : sProp 𝕄)
    ⊢ wp frame (wpE (defs₀ (F := F)) 𝒱 (c : Thread nD τ) bd) E (k0_t2_body (F := F) arg0 harg0 arg1 harg1 arg2 harg2 arg3 harg3 arg4 harg4 arg5 harg5 arg6 harg6 arg7 harg7 v18 v20 v22 v23 k PUnit.unit)
      (fun _ => iprop((arg4.view.loc (c : Thread nD τ) ↦[arg4.view.set]{fullShare} X)
        ∗ (∃ g, (arg5.view.loc (c : Thread nD τ) ↦[arg5.view.set]{fullShare} g) ∗ ⌜arg5.view.read (Elt F) g = putRows k.val (step2 v18 v20 v22 v23 (arg4.view.read (Elt F) X) k (arg6.view.read (Elt F) f6, arg7.view.read (Elt F) f7)).1 (arg5.view.read (Elt F) f)⌝)
        ∗ (∃ g, (arg6.view.loc (c : Thread nD τ) ↦[arg6.view.set]{fullShare} g) ∗ ⌜arg6.view.read (Elt F) g = (step2 v18 v20 v22 v23 (arg4.view.read (Elt F) X) k (arg6.view.read (Elt F) f6, arg7.view.read (Elt F) f7)).1⌝)
        ∗ (∃ g, (arg7.view.loc (c : Thread nD τ) ↦[arg7.view.set]{fullShare} g) ∗ ⌜arg7.view.read (Elt F) g = (step2 v18 v20 v22 v23 (arg4.view.read (Elt F) X) k (arg6.view.read (Elt F) f6, arg7.view.read (Elt F) f7)).2⌝))) := by
  have hk : k.val < 20 := Nat.lt_of_lt_of_le k.isLt k0_t2_abs.2.1
  unfold k0_t2_body
  iintro ⟨HR, HD, H6, H7⟩
  sl_exec
  sl_step
  unfold trip2.sl.r trip2.sl.r_1
  have e6 : arg6.view.readAt (Elt F) (Rect.unit (s := S64x1024) ![0, 0] S64x1024.size inb_S64x1024_S64x1024_0_0) f6
      = arg6.view.read (Elt F) f6 := ld_all _ _
  have e7 : arg7.view.readAt (Elt F) (Rect.unit (s := S64x1024) ![0, 0] S64x1024.size inb_S64x1024_S64x1024_0_0) f7
      = arg7.view.read (Elt F) f7 := ld_all _ _
  rw [e6, e7]
  isplitl [HR]; · iexact HR
  isplitl [HD]
  · iexists _; isplitl [HD]; · iexact HD
    ipureintro
    refine read_putRows _ _ _ _ _ _ _ (k0_off7_eq k) (k0_off8_eq k) _ _ _ (fun u b => ?_) (fun u b => ?_)
    · pointwise [k0_pay35, step2, View.readAt_eq_ld]
      rfl
    · pointwise [k0_pay36, step2, View.readAt_eq_ld]
      rfl
  isplitl [H6]
  · iexists _; isplitl [H6]; · iexact H6
    ipureintro
    rw [View.read_writes_full]
    unfold k0_pay34
    dsimp only
    rw [shapeCast_self]
    simp only [step2, View.readAt_eq_ld]
  iexists _; isplitl [H7]; · iexact H7
  ipureintro
  rw [View.read_writes_full]
  unfold k0_pay33
  dsimp only
  rw [shapeCast_self]
  simp only [step2, View.readAt_eq_ld]

/-- The running pairs from the pair `p0`: one step a trip. -/
def st2 (v18 : FVec F S256x64 .f32) (v20 : FVec F S256x64 .f32) (v22 : FVec F S256x64 .f32) (v23 : Vec F S1x256x1 .f32) (X : Vec F S20x64x1024 .f32) (p0 : Pair F) : ℕ → Pair F
  | 0 => p0
  | k + 1 => if h : k < k0_t2_loop.trips then step2 v18 v20 v22 v23 X ⟨k, h⟩ (st2 v18 v20 v22 v23 X p0 k) else st2 v18 v20 v22 v23 X p0 k

theorem st2_succ (v18 : FVec F S256x64 .f32) (v20 : FVec F S256x64 .f32) (v22 : FVec F S256x64 .f32) (v23 : Vec F S1x256x1 .f32) (X : Vec F S20x64x1024 .f32) (p0 : Pair F) (k : Fin k0_t2_loop.trips) :
    st2 v18 v20 v22 v23 X p0 (k.val + 1) = step2 v18 v20 v22 v23 X k (st2 v18 v20 v22 v23 X p0 k.val) := dif_pos k.isLt

/-- Before trip `k`: the source as it was, the rows of the trips before put in, the pair at its `k`-th value. -/
def inv2 (c : Dev nD) (arg4 : Memref sig .tc .vmem S20x64x1024 .f32) (arg5 : Memref sig .tc .vmem S20x64x1024 .f32)
    (arg6 arg7 : Memref sig .tc .vmem S64x1024 .f32) (v18 : FVec F S256x64 .f32) (v20 : FVec F S256x64 .f32) (v22 : FVec F S256x64 .f32) (v23 : Vec F S1x256x1 .f32)
    (fX : BufTy.Contents (Elt F) arg4.view.ty) (p0 : Pair F) (k : ℕ) (_ : PUnit) : sProp 𝕄 :=
  iprop((arg4.view.loc (c : Thread nD τ) ↦[arg4.view.set]{fullShare} fX)
    ∗ (∃ g, (arg5.view.loc (c : Thread nD τ) ↦[arg5.view.set]{fullShare} g) ∗ ⌜Done (st2 v18 v20 v22 v23 (arg4.view.read (Elt F) fX) p0) k (arg5.view.read (Elt F) g)⌝)
    ∗ (∃ g, (arg6.view.loc (c : Thread nD τ) ↦[arg6.view.set]{fullShare} g) ∗ ⌜arg6.view.read (Elt F) g = (st2 v18 v20 v22 v23 (arg4.view.read (Elt F) fX) p0 k).1⌝)
    ∗ (∃ g, (arg7.view.loc (c : Thread nD τ) ↦[arg7.view.set]{fullShare} g) ∗ ⌜arg7.view.read (Elt F) g = (st2 v18 v20 v22 v23 (arg4.view.read (Elt F) fX) p0 k).2⌝))

/-- A trip keeps the invariant. -/
theorem inv_step2 (𝒱 : Variants) (c : Dev nD) (bd : Option 𝒱.V) (E : Set ℕ) (arg0 : Memref sig .tc .vmem S20x1024x64 .f32) (harg0 : arg0.IsWhole) (arg1 : Memref sig .tc .vmem S3x256x192 .f32) (harg1 : arg1.IsWhole) (arg2 : Memref sig .tc .vmem S3x256x1 .f32) (harg2 : arg2.IsWhole) (arg3 : Memref sig .tc .vmem S20x64x1024 .f32) (harg3 : arg3.IsWhole) (arg4 : Memref sig .tc .vmem S20x64x1024 .f32) (harg4 : arg4.IsWhole) (arg5 : Memref sig .tc .vmem S20x64x1024 .f32) (harg5 : arg5.IsWhole) (arg6 : Memref sig .tc .vmem S64x1024 .f32) (harg6 : arg6.IsWhole) (arg7 : Memref sig .tc .vmem S64x1024 .f32) (harg7 : arg7.IsWhole) (v18 : FVec F S256x64 .f32) (v20 : FVec F S256x64 .f32) (v22 : FVec F S256x64 .f32) (v23 : Vec F S1x256x1 .f32)
    (fX : BufTy.Contents (Elt F) arg4.view.ty) (p0 : Pair F) (k : Fin k0_t2_loop.trips) (u : PUnit) :
    inv2 c arg4 arg5 arg6 arg7 v18 v20 v22 v23 fX p0 k.val u
      ⊢ wp frame (wpE (defs₀ (F := F)) 𝒱 (c : Thread nD τ) bd) E (k0_t2_body (F := F) arg0 harg0 arg1 harg1 arg2 harg2 arg3 harg3 arg4 harg4 arg5 harg5 arg6 harg6 arg7 harg7 v18 v20 v22 v23 k u)
        (inv2 c arg4 arg5 arg6 arg7 v18 v20 v22 v23 fX p0 (k.val + 1)) := by
  have hk : k.val < 20 := Nat.lt_of_lt_of_le k.isLt k0_t2_abs.2.1
  unfold inv2
  iintro ⟨HR, ⟨%f, HD, %hD⟩, ⟨%f6, H6, %h6⟩, ⟨%f7, H7, %h7⟩⟩
  iapply (wp_wand_r Idealize.ShloMosaic.frame (wpE (defs₀ (F := F)) 𝒱 (c : Thread nD τ) bd) E)
  isplitl [HR HD H6 H7]
  · iapply (trip2 (F := F) 𝒱 c bd E arg0 harg0 arg1 harg1 arg2 harg2 arg3 harg3 arg4 harg4 arg5 harg5 arg6 harg6 arg7 harg7 v18 v20 v22 v23 k fX f f6 f7)
    isplitl [HR]; · iexact HR
    isplitl [HD]; · iexact HD
    isplitl [H6]; · iexact H6
    iexact H7
  · iintro %_ ⟨HR, ⟨%g, HD, %hg⟩, ⟨%g6, H6, %hg6⟩, ⟨%g7, H7, %hg7⟩⟩
    have hp : (arg6.view.read (Elt F) f6, arg7.view.read (Elt F) f7) = st2 v18 v20 v22 v23 (arg4.view.read (Elt F) fX) p0 k.val :=
      Prod.ext h6 h7
    rw [hp, ← st2_succ] at hg hg6 hg7
    isplitl [HR]; · iexact HR
    isplitl [HD]
    · iexists _; isplitl [HD]; · iexact HD
      ipureintro; rw [hg]; exact hD.succ hk
    isplitl [H6]
    · iexists _; isplitl [H6]; · iexact H6
      ipureintro; exact hg6
    iexists _; isplitl [H7]; · iexact H7
    ipureintro; exact hg7

/-! ## Layer 3 -/

/-- Trip `k`'s pair (output, cell) from the pair before it. -/
def step3 (v35 : FVec F S256x64 .f32) (v37 : FVec F S256x64 .f32) (v39 : FVec F S256x64 .f32) (v41 : FVec F S256x1 .f32) (X : Vec F S20x64x1024 .f32) (k : Fin k0_t3_loop.trips)
    (p : Pair F) : Pair F :=
  let xa : Vec F S1x64x1024 .f32 := View.ld X (Rect.unit (s := S20x64x1024) (k0_off9 k) S1x64x1024.size (k0_off9_inb k))
  let xb : Vec F S1x64x1024 .f32 := View.ld X (Rect.unit (s := S20x64x1024) (k0_off10 k) S1x64x1024.size (k0_off10_inb k))
  let n := k0_pay13 v35 v37 v39 v41 xa xb p.1 p.2
  (k0_pay1 n (k0_pay14 v35 v37 v39 v41 xa xb p.1), n)

set_option maxHeartbeats 1000000 in
/-- One trip: the pair moves on and the trip's rows are put in. -/
theorem trip3 (𝒱 : Variants) (c : Dev nD) (bd : Option 𝒱.V) (E : Set ℕ) (arg0 : Memref sig .tc .vmem S20x1024x64 .f32) (harg0 : arg0.IsWhole) (arg1 : Memref sig .tc .vmem S3x256x192 .f32) (harg1 : arg1.IsWhole) (arg2 : Memref sig .tc .vmem S3x256x1 .f32) (harg2 : arg2.IsWhole) (arg3 : Memref sig .tc .vmem S20x64x1024 .f32) (harg3 : arg3.IsWhole) (arg4 : Memref sig .tc .vmem S20x64x1024 .f32) (harg4 : arg4.IsWhole) (arg5 : Memref sig .tc .vmem S20x64x1024 .f32) (harg5 : arg5.IsWhole) (arg6 : Memref sig .tc .vmem S64x1024 .f32) (harg6 : arg6.IsWhole) (arg7 : Memref sig .tc .vmem S64x1024 .f32) (harg7 : arg7.IsWhole) (v35 : FVec F S256x64 .f32) (v37 : FVec F S256x64 .f32) (v39 : FVec F S256x64 .f32) (v41 : FVec F S256x1 .f32)
    (k : Fin k0_t3_loop.trips) (X : BufTy.Contents (Elt F) arg5.view.ty) (f : BufTy.Contents (Elt F) arg3.view.ty)
    (f6 : BufTy.Contents (Elt F) arg6.view.ty) (f7 : BufTy.Contents (Elt F) arg7.view.ty) :
    (iprop((arg5.view.loc (c : Thread nD τ) ↦[arg5.view.set]{fullShare} X)
      ∗ (arg3.view.loc (c : Thread nD τ) ↦[arg3.view.set]{fullShare} f)
      ∗ (arg6.view.loc (c : Thread nD τ) ↦[arg6.view.set]{fullShare} f6)
      ∗ (arg7.view.loc (c : Thread nD τ) ↦[arg7.view.set]{fullShare} f7)) : sProp 𝕄)
    ⊢ wp frame (wpE (defs₀ (F := F)) 𝒱 (c : Thread nD τ) bd) E (k0_t3_body (F := F) arg0 harg0 arg1 harg1 arg2 harg2 arg3 harg3 arg4 harg4 arg5 harg5 arg6 harg6 arg7 harg7 v35 v37 v39 v41 k PUnit.unit)
      (fun _ => iprop((arg5.view.loc (c : Thread nD τ) ↦[arg5.view.set]{fullShare} X)
        ∗ (∃ g, (arg3.view.loc (c : Thread nD τ) ↦[arg3.view.set]{fullShare} g) ∗ ⌜arg3.view.read (Elt F) g = putRows k.val (step3 v35 v37 v39 v41 (arg5.view.read (Elt F) X) k (arg6.view.read (Elt F) f6, arg7.view.read (Elt F) f7)).1 (arg3.view.read (Elt F) f)⌝)
        ∗ (∃ g, (arg6.view.loc (c : Thread nD τ) ↦[arg6.view.set]{fullShare} g) ∗ ⌜arg6.view.read (Elt F) g = (step3 v35 v37 v39 v41 (arg5.view.read (Elt F) X) k (arg6.view.read (Elt F) f6, arg7.view.read (Elt F) f7)).1⌝)
        ∗ (∃ g, (arg7.view.loc (c : Thread nD τ) ↦[arg7.view.set]{fullShare} g) ∗ ⌜arg7.view.read (Elt F) g = (step3 v35 v37 v39 v41 (arg5.view.read (Elt F) X) k (arg6.view.read (Elt F) f6, arg7.view.read (Elt F) f7)).2⌝))) := by
  have hk : k.val < 20 := Nat.lt_of_lt_of_le k.isLt k0_t3_abs.2.1
  unfold k0_t3_body
  iintro ⟨HR, HD, H6, H7⟩
  sl_exec
  sl_step
  unfold trip3.sl.r trip3.sl.r_1
  have e6 : arg6.view.readAt (Elt F) (Rect.unit (s := S64x1024) ![0, 0] S64x1024.size inb_S64x1024_S64x1024_0_0) f6
      = arg6.view.read (Elt F) f6 := ld_all _ _
  have e7 : arg7.view.readAt (Elt F) (Rect.unit (s := S64x1024) ![0, 0] S64x1024.size inb_S64x1024_S64x1024_0_0) f7
      = arg7.view.read (Elt F) f7 := ld_all _ _
  rw [e6, e7]
  isplitl [HR]; · iexact HR
  isplitl [HD]
  · iexists _; isplitl [HD]; · iexact HD
    ipureintro
    refine read_putRows _ _ _ _ _ _ _ (k0_off11_eq k) (k0_off12_eq k) _ _ _ (fun u b => ?_) (fun u b => ?_)
    · pointwise [k0_pay4, step3, View.readAt_eq_ld]
      rfl
    · pointwise [k0_pay5, step3, View.readAt_eq_ld]
      rfl
  isplitl [H6]
  · iexists _; isplitl [H6]; · iexact H6
    ipureintro
    rw [View.read_writes_full]
    unfold k0_pay3
    dsimp only
    rw [shapeCast_self]
    simp only [step3, View.readAt_eq_ld]
  iexists _; isplitl [H7]; · iexact H7
  ipureintro
  rw [View.read_writes_full]
  unfold k0_pay2
  dsimp only
  rw [shapeCast_self]
  simp only [step3, View.readAt_eq_ld]

/-- The running pairs from the pair `p0`: one step a trip. -/
def st3 (v35 : FVec F S256x64 .f32) (v37 : FVec F S256x64 .f32) (v39 : FVec F S256x64 .f32) (v41 : FVec F S256x1 .f32) (X : Vec F S20x64x1024 .f32) (p0 : Pair F) : ℕ → Pair F
  | 0 => p0
  | k + 1 => if h : k < k0_t3_loop.trips then step3 v35 v37 v39 v41 X ⟨k, h⟩ (st3 v35 v37 v39 v41 X p0 k) else st3 v35 v37 v39 v41 X p0 k

theorem st3_succ (v35 : FVec F S256x64 .f32) (v37 : FVec F S256x64 .f32) (v39 : FVec F S256x64 .f32) (v41 : FVec F S256x1 .f32) (X : Vec F S20x64x1024 .f32) (p0 : Pair F) (k : Fin k0_t3_loop.trips) :
    st3 v35 v37 v39 v41 X p0 (k.val + 1) = step3 v35 v37 v39 v41 X k (st3 v35 v37 v39 v41 X p0 k.val) := dif_pos k.isLt

/-- Before trip `k`: the source as it was, the rows of the trips before put in, the pair at its `k`-th value. -/
def inv3 (c : Dev nD) (arg5 : Memref sig .tc .vmem S20x64x1024 .f32) (arg3 : Memref sig .tc .vmem S20x64x1024 .f32)
    (arg6 arg7 : Memref sig .tc .vmem S64x1024 .f32) (v35 : FVec F S256x64 .f32) (v37 : FVec F S256x64 .f32) (v39 : FVec F S256x64 .f32) (v41 : FVec F S256x1 .f32)
    (fX : BufTy.Contents (Elt F) arg5.view.ty) (p0 : Pair F) (k : ℕ) (_ : PUnit) : sProp 𝕄 :=
  iprop((arg5.view.loc (c : Thread nD τ) ↦[arg5.view.set]{fullShare} fX)
    ∗ (∃ g, (arg3.view.loc (c : Thread nD τ) ↦[arg3.view.set]{fullShare} g) ∗ ⌜Done (st3 v35 v37 v39 v41 (arg5.view.read (Elt F) fX) p0) k (arg3.view.read (Elt F) g)⌝)
    ∗ (∃ g, (arg6.view.loc (c : Thread nD τ) ↦[arg6.view.set]{fullShare} g) ∗ ⌜arg6.view.read (Elt F) g = (st3 v35 v37 v39 v41 (arg5.view.read (Elt F) fX) p0 k).1⌝)
    ∗ (∃ g, (arg7.view.loc (c : Thread nD τ) ↦[arg7.view.set]{fullShare} g) ∗ ⌜arg7.view.read (Elt F) g = (st3 v35 v37 v39 v41 (arg5.view.read (Elt F) fX) p0 k).2⌝))

/-- A trip keeps the invariant. -/
theorem inv_step3 (𝒱 : Variants) (c : Dev nD) (bd : Option 𝒱.V) (E : Set ℕ) (arg0 : Memref sig .tc .vmem S20x1024x64 .f32) (harg0 : arg0.IsWhole) (arg1 : Memref sig .tc .vmem S3x256x192 .f32) (harg1 : arg1.IsWhole) (arg2 : Memref sig .tc .vmem S3x256x1 .f32) (harg2 : arg2.IsWhole) (arg3 : Memref sig .tc .vmem S20x64x1024 .f32) (harg3 : arg3.IsWhole) (arg4 : Memref sig .tc .vmem S20x64x1024 .f32) (harg4 : arg4.IsWhole) (arg5 : Memref sig .tc .vmem S20x64x1024 .f32) (harg5 : arg5.IsWhole) (arg6 : Memref sig .tc .vmem S64x1024 .f32) (harg6 : arg6.IsWhole) (arg7 : Memref sig .tc .vmem S64x1024 .f32) (harg7 : arg7.IsWhole) (v35 : FVec F S256x64 .f32) (v37 : FVec F S256x64 .f32) (v39 : FVec F S256x64 .f32) (v41 : FVec F S256x1 .f32)
    (fX : BufTy.Contents (Elt F) arg5.view.ty) (p0 : Pair F) (k : Fin k0_t3_loop.trips) (u : PUnit) :
    inv3 c arg5 arg3 arg6 arg7 v35 v37 v39 v41 fX p0 k.val u
      ⊢ wp frame (wpE (defs₀ (F := F)) 𝒱 (c : Thread nD τ) bd) E (k0_t3_body (F := F) arg0 harg0 arg1 harg1 arg2 harg2 arg3 harg3 arg4 harg4 arg5 harg5 arg6 harg6 arg7 harg7 v35 v37 v39 v41 k u)
        (inv3 c arg5 arg3 arg6 arg7 v35 v37 v39 v41 fX p0 (k.val + 1)) := by
  have hk : k.val < 20 := Nat.lt_of_lt_of_le k.isLt k0_t3_abs.2.1
  unfold inv3
  iintro ⟨HR, ⟨%f, HD, %hD⟩, ⟨%f6, H6, %h6⟩, ⟨%f7, H7, %h7⟩⟩
  iapply (wp_wand_r Idealize.ShloMosaic.frame (wpE (defs₀ (F := F)) 𝒱 (c : Thread nD τ) bd) E)
  isplitl [HR HD H6 H7]
  · iapply (trip3 (F := F) 𝒱 c bd E arg0 harg0 arg1 harg1 arg2 harg2 arg3 harg3 arg4 harg4 arg5 harg5 arg6 harg6 arg7 harg7 v35 v37 v39 v41 k fX f f6 f7)
    isplitl [HR]; · iexact HR
    isplitl [HD]; · iexact HD
    isplitl [H6]; · iexact H6
    iexact H7
  · iintro %_ ⟨HR, ⟨%g, HD, %hg⟩, ⟨%g6, H6, %hg6⟩, ⟨%g7, H7, %hg7⟩⟩
    have hp : (arg6.view.read (Elt F) f6, arg7.view.read (Elt F) f7) = st3 v35 v37 v39 v41 (arg5.view.read (Elt F) fX) p0 k.val :=
      Prod.ext h6 h7
    rw [hp, ← st3_succ] at hg hg6 hg7
    isplitl [HR]; · iexact HR
    isplitl [HD]
    · iexists _; isplitl [HD]; · iexact HD
      ipureintro; rw [hg]; exact hD.succ hk
    isplitl [H6]
    · iexists _; isplitl [H6]; · iexact H6
      ipureintro; exact hg6
    iexists _; isplitl [H7]; · iexact H7
    ipureintro; exact hg7

/-! ## The whole body -/

/-- The running pairs of the three layers from the three blocks. -/
def pairs1 (x0 : Vec F S20x1024x64 .f32) (x1 : Vec F S3x256x192 .f32) (x2 : Vec F S3x256x1 .f32) : ℕ → Pair F :=
  st1 (View.ld x1 (Rect.unit (s := S3x256x192) ![0, 0, 0] S1x256x64.size inb_S3x256x192_S1x256x64_0_0_0)) (View.ld x1 (Rect.unit (s := S3x256x192) ![0, 0, 64] S1x256x64.size inb_S3x256x192_S1x256x64_0_0_64))
    (View.ld x1 (Rect.unit (s := S3x256x192) ![0, 0, 128] S1x256x64.size inb_S3x256x192_S1x256x64_0_0_128)) (View.ld x2 (Rect.unit (s := S3x256x1) ![0, 0, 0] S1x256x1.size inb_S3x256x1_S1x256x1_0_0_0)) x0 (k0_pay19, k0_pay20)

def pairs2 (x0 : Vec F S20x1024x64 .f32) (x1 : Vec F S3x256x192 .f32) (x2 : Vec F S3x256x1 .f32) : ℕ → Pair F :=
  st2 (k0_pay26 (View.ld x1 (Rect.unit (s := S3x256x192) ![1, 0, 0] S1x256x64.size inb_S3x256x192_S1x256x64_1_0_0))) (k0_pay27 (View.ld x1 (Rect.unit (s := S3x256x192) ![1, 0, 64] S1x256x64.size inb_S3x256x192_S1x256x64_1_0_64)))
    (k0_pay28 (View.ld x1 (Rect.unit (s := S3x256x192) ![1, 0, 128] S1x256x64.size inb_S3x256x192_S1x256x64_1_0_128))) (View.ld x2 (Rect.unit (s := S3x256x1) ![1, 0, 0] S1x256x1.size inb_S3x256x1_S1x256x1_1_0_0))
    (layer (pairs1 x0 x1 x2)) (k0_pay30, k0_pay31)

def pairs3 (x0 : Vec F S20x1024x64 .f32) (x1 : Vec F S3x256x192 .f32) (x2 : Vec F S3x256x1 .f32) : ℕ → Pair F :=
  st3 (k0_pay37 (View.ld x1 (Rect.unit (s := S3x256x192) ![2, 0, 0] S1x256x64.size inb_S3x256x192_S1x256x64_2_0_0))) (k0_pay38 (View.ld x1 (Rect.unit (s := S3x256x192) ![2, 0, 64] S1x256x64.size inb_S3x256x192_S1x256x64_2_0_64)))
    (k0_pay39 (View.ld x1 (Rect.unit (s := S3x256x192) ![2, 0, 128] S1x256x64.size inb_S3x256x192_S1x256x64_2_0_128))) (k0_pay40 (View.ld x2 (Rect.unit (s := S3x256x1) ![2, 0, 0] S1x256x1.size inb_S3x256x1_S1x256x1_2_0_0)))
    (layer (pairs2 x0 x1 x2)) (k0_pay41, k0_pay42)

/-- What the three layers leave. -/
def result (x0 : Vec F S20x1024x64 .f32) (x1 : Vec F S3x256x192 .f32) (x2 : Vec F S3x256x1 .f32) : Vec F S20x64x1024 .f32 := layer (pairs3 x0 x1 x2)

set_option maxHeartbeats 1000000 in
/-- The body, on whole blocks: the three inputs come back as they were, the output holds the layers' result. -/
theorem kernel_run (c : Dev nD) (arg0 : Memref sig .tc .vmem S20x1024x64 .f32) (harg0 : arg0.IsWhole) (arg1 : Memref sig .tc .vmem S3x256x192 .f32) (harg1 : arg1.IsWhole) (arg2 : Memref sig .tc .vmem S3x256x1 .f32) (harg2 : arg2.IsWhole) (arg3 : Memref sig .tc .vmem S20x64x1024 .f32) (harg3 : arg3.IsWhole) (arg4 : Memref sig .tc .vmem S20x64x1024 .f32) (harg4 : arg4.IsWhole) (arg5 : Memref sig .tc .vmem S20x64x1024 .f32) (harg5 : arg5.IsWhole) (arg6 : Memref sig .tc .vmem S64x1024 .f32) (harg6 : arg6.IsWhole) (arg7 : Memref sig .tc .vmem S64x1024 .f32) (harg7 : arg7.IsWhole) (x0 : Vec F S20x1024x64 .f32) (x1 : Vec F S3x256x192 .f32) (x2 : Vec F S3x256x1 .f32)
    (E : Set ℕ) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d) ∗ (∃ d, owns (c : Thread nD τ) arg4 fullShare d) ∗ (∃ d, owns (c : Thread nD τ) arg5 fullShare d)
        ∗ (∃ d, owns (c : Thread nD τ) arg6 fullShare d) ∗ (∃ d, owns (c : Thread nD τ) arg7 fullShare d)
        ∗ (iprop(owns (c : Thread nD τ) arg0 fullShare x0 ∗ owns (c : Thread nD τ) arg1 fullShare x1 ∗ owns (c : Thread nD τ) arg2 fullShare x2
          ∗ owns (c : Thread nD τ) arg3 fullShare (result x0 x1 x2) ∗ (∃ d, owns (c : Thread nD τ) arg4 fullShare d) ∗ (∃ d, owns (c : Thread nD τ) arg5 fullShare d)
          ∗ (∃ d, owns (c : Thread nD τ) arg6 fullShare d) ∗ (∃ d, owns (c : Thread nD τ) arg7 fullShare d)) -∗ K ⟨⟩))
      ⊢ wp frame (wpE (defs₀ (F := F)) Variants.none c none) E (cc0__lstm_kernel arg0 harg0 arg1 harg1 arg2 harg2 arg3 harg3 arg4 harg4 arg5 harg5 arg6 harg6 arg7 harg7) K := by
  simp only [cc0__lstm_kernel_eq_skeleton]; unfold cc0__lstm_kernel_skel
  simp only [k0_part4_eq_skeleton, k0_part5_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, Hk⟩
  sl_exec
  sl_for (inv1 c arg0 arg4 arg6 arg7 _ _ _ _ f0 (k0_pay19, k0_pay20)) $$ [H0 H4 H6 H7]
  case region => intro k u; exact inv_step1 _ c _ _ arg0 harg0 arg1 harg1 arg2 harg2 arg3 harg3 arg4 harg4 arg5 harg5 arg6 harg6 arg7 harg7 _ _ _ _ _ _ k u
  · unfold inv1
    isplitl [H0]; · iexact H0
    isplitl [H4]
    · iexists _; isplitl [H4]; · iexact H4
      ipureintro; exact Done.zero _ _
    isplitl [H6]
    · iexists _; isplitl [H6]; · iexact H6
      ipureintro; exact View.read_writes_full _ _ _ _ _
    iexists _; isplitl [H7]; · iexact H7
    ipureintro; exact View.read_writes_full _ _ _ _ _
  unfold inv1
  iintro %acc1 ⟨H0, ⟨%g4, H4, %hg4⟩, ⟨%p1, H6, %hp1⟩, ⟨%q1, H7, %hq1⟩⟩
  replace hg4 := Done.all hg4
  sl_exec
  sl_for (inv2 c arg4 arg5 arg6 arg7 _ _ _ _ g4 (k0_pay30, k0_pay31)) $$ [H4 H5 H6 H7]
  case region => intro k u; exact inv_step2 _ c _ _ arg0 harg0 arg1 harg1 arg2 harg2 arg3 harg3 arg4 harg4 arg5 harg5 arg6 harg6 arg7 harg7 _ _ _ _ _ _ k u
  · unfold inv2
    isplitl [H4]; · iexact H4
    isplitl [H5]
    · iexists _; isplitl [H5]; · iexact H5
      ipureintro; exact Done.zero _ _
    isplitl [H6]
    · iexists _; isplitl [H6]; · iexact H6
      ipureintro; exact View.read_writes_full _ _ _ _ _
    iexists _; isplitl [H7]; · iexact H7
    ipureintro; exact View.read_writes_full _ _ _ _ _
  unfold inv2
  iintro %acc2 ⟨H4, ⟨%g5, H5, %hg5⟩, ⟨%p2, H6, %hp2⟩, ⟨%q2, H7, %hq2⟩⟩
  replace hg5 := Done.all hg5
  sl_exec
  sl_for (inv3 c arg5 arg3 arg6 arg7 _ _ _ _ g5 (k0_pay41, k0_pay42)) $$ [H5 H3 H6 H7]
  case region => intro k u; exact inv_step3 _ c _ _ arg0 harg0 arg1 harg1 arg2 harg2 arg3 harg3 arg4 harg4 arg5 harg5 arg6 harg6 arg7 harg7 _ _ _ _ _ _ k u
  · unfold inv3
    isplitl [H5]; · iexact H5
    isplitl [H3]
    · iexists _; isplitl [H3]; · iexact H3
      ipureintro; exact Done.zero _ _
    isplitl [H6]
    · iexists _; isplitl [H6]; · iexact H6
      ipureintro; exact View.read_writes_full _ _ _ _ _
    iexists _; isplitl [H7]; · iexact H7
    ipureintro; exact View.read_writes_full _ _ _ _ _
  unfold inv3
  iintro %acc3 ⟨H5, ⟨%g3, H3, %hg3⟩, ⟨%p3, H6, %hp3⟩, ⟨%q3, H7, %hq3⟩⟩
  replace hg3 := Done.all hg3
  sl_exec
  sl_step
  have hres : arg3.view.read (Elt F) g3 = result x0 x1 x2 := by
    rw [hg4] at hg5
    rw [hg5] at hg3
    subst hf0 hf1 hf2
    exact hg3
  iapply Hk
  isplitl [H0]; · iexists _; isplitr; swap; · iexact H0
                  ipureintro; exact hf0
  isplitl [H1]; · iexists _; isplitr; swap; · iexact H1
                  ipureintro; exact hf1
  isplitl [H2]; · iexists _; isplitr; swap; · iexact H2
                  ipureintro; exact hf2
  isplitl [H3]; · iexists _; isplitr; swap; · iexact H3
                  ipureintro; exact hres
  isplitl [H4]; · iexists _, _; isplitr; swap; · iexact H4
                  ipureintro; rfl
  isplitl [H5]; · iexists _, _; isplitr; swap; · iexact H5
                  ipureintro; rfl
  isplitl [H6]; · iexists _, _; isplitr; swap; · iexact H6
                  ipureintro; rfl
  iexists _, _; isplitr; swap; · iexact H7
  ipureintro; rfl

end Cert.LstmIdeal.Own

end
-- ==== Proof.LstmHost.lean ====
/-
  The host operations before the three-layer kernel's call: the buffers they write, in order, and what follows for
  a buffer that is not written from some operation on.
-/
module

public import proofs.«01_k».proof.Proof.Gen.LstmIdeal.Launch
public import Idealize.ShloMosaic.Lib.StableHlo.Run

@[expose] public section

set_option maxRecDepth 16384

noncomputable section

namespace Cert.LstmIdeal.Own

open Cert.LstmIdeal Cert.LstmIdeal.Gen
open Idealize.ShloMosaic Idealize.ShloMosaic.StableHlo Idealize.ShloMosaic.TcCoe

variable {F : FTy → Type} [FloatOps F]

set_option maxHeartbeats 4000000 in
/-- The buffers the host operations write, one each. -/
abbrev written : List (Ref sig .tc) :=
  [ main_cst, main_v0, main_cst_0, main_v1, main_v2, main_v3, main_v4, main_c, main_v5, main_c_1, main_v6, main_v7, main_v8, main_v9, main_v10,
    main_v11, main_c_2, main_v12, main_c_3, main_v13, main_v14, main_v15, main_v16, main_v17, main_v18, main_v19, main_v20, main_v21, main_v22,
    main_c_4, main_v23, main_v24, main_v25, main_v26, main_v27, main_c_5, main_v28, main_c_6, main_v29, main_v30, main_v31, main_v32, main_v33,
    main_v34, main_c_7, main_v35, main_c_8, main_v36, main_v37, main_v38, main_v39, main_v40, main_v41, main_v42, main_v43, main_v44, main_v45,
    main_c_9, main_v46, main_v47, main_v48, main_v49, main_v50, main_c_10, main_v51, main_c_11, main_v52, main_v53, main_v54, main_v55, main_v56,
    main_v57, main_c_12, main_v58, main_c_13, main_v59, main_v60, main_v61, main_v62, main_v63, main_v64, main_v65, main_v66, main_v67, main_v68,
    main_c_14, main_v69, main_v70, main_v71, main_v72, main_v73, main_c_15, main_v74, main_c_16, main_v75, main_v76, main_v77, main_v78, main_v79,
    main_v80, main_c_17, main_v81, main_c_18, main_v82, main_v83, main_v84, main_v85, main_v86, main_v87, main_v88, main_v89, main_v90, main_v91,
    main_c_19, main_v92, main_v93, main_v94, main_v95, main_v96, main_c_20, main_v97, main_c_21, main_v98, main_v99, main_v100, main_v101, main_v102,
    main_v103, main_c_22, main_v104, main_c_23, main_v105, main_v106, main_v107, main_v108, main_v109, main_v110, main_v111, main_v112, main_v113,
    main_v114, main_c_24, main_v115, main_v116, main_v117, main_v118, main_v119, main_c_25, main_v120, main_c_26, main_v121, main_v122, main_v123,
    main_v124, main_v125, main_v126, main_c_27, main_v127, main_c_28, main_v128, main_v129, main_v130, main_v131, main_v132, main_v133, main_v134,
    main_v135, main_v136, main_v137, main_c_29, main_v138, main_v139, main_v140, main_v141, main_v142, main_c_30, main_v143, main_c_31, main_v144,
    main_v145, main_v146, main_v147, main_v148, main_v149, main_c_32, main_v150, main_c_33, main_v151, main_v152, main_v153, main_v154, main_v155,
    main_v156, main_v157, main_v158, main_v159, main_v160, main_c_34, main_v161, main_v162, main_v163, main_v164, main_v165, main_c_35, main_v166,
    main_c_36, main_v167, main_v168, main_v169, main_v170, main_v171, main_v172, main_c_37, main_v173, main_c_38, main_v174, main_v175, main_v176,
    main_v177, main_v178, main_v179, main_v180, main_v181, main_v182, main_v183, main_c_39, main_v184, main_v185, main_v186, main_cst_40, main_v187,
    main_cst_41, main_v188, main_v189, main_v190, main_v191, main_c_42, main_v192, main_c_43, main_v193, main_v194, main_v195, main_v196, main_v197,
    main_v198, main_c_44, main_v199, main_c_45, main_v200, main_v201, main_v202, main_v203, main_v204, main_v205, main_v206, main_v207, main_v208,
    main_v209, main_c_46, main_v210, main_v211, main_v212, main_v213, main_v214, main_c_47, main_v215, main_c_48, main_v216, main_v217, main_v218,
    main_v219, main_v220, main_v221, main_c_49, main_v222, main_c_50, main_v223, main_v224, main_v225, main_v226, main_v227, main_v228, main_v229,
    main_v230, main_v231, main_v232, main_c_51, main_v233, main_v234, main_v235, main_v236, main_v237, main_c_52, main_v238, main_c_53, main_v239,
    main_v240, main_v241, main_v242, main_v243, main_v244, main_c_54, main_v245, main_c_55, main_v246, main_v247, main_v248, main_v249, main_v250,
    main_v251, main_v252, main_v253, main_v254, main_v255, main_c_56, main_v256, main_v257, main_v258, main_v259, main_v260, main_c_57, main_v261,
    main_c_58, main_v262, main_v263, main_v264, main_v265, main_v266, main_v267, main_c_59, main_v268, main_c_60, main_v269, main_v270, main_v271,
    main_v272, main_v273, main_v274, main_v275, main_v276, main_v277, main_v278, main_c_61, main_v279, main_v280, main_v281, main_v282, main_v283,
    main_c_62, main_v284, main_c_63, main_v285, main_v286, main_v287, main_v288, main_v289, main_v290, main_c_64, main_v291, main_c_65, main_v292,
    main_v293, main_v294, main_v295, main_v296, main_v297, main_v298, main_v299, main_v300, main_v301, main_c_66, main_v302, main_v303, main_v304,
    main_v305, main_v306, main_c_67, main_v307, main_c_68, main_v308, main_v309, main_v310, main_v311, main_v312, main_v313, main_c_69, main_v314,
    main_c_70, main_v315, main_v316, main_v317, main_v318, main_v319, main_v320, main_v321, main_v322, main_v323, main_v324, main_c_71, main_v325,
    main_v326, main_v327, main_v328, main_v329, main_c_72, main_v330, main_c_73, main_v331, main_v332, main_v333, main_v334, main_v335, main_v336,
    main_c_74, main_v337, main_c_75, main_v338, main_v339, main_v340, main_v341, main_v342, main_v343, main_v344, main_v345, main_v346, main_v347,
    main_c_76, main_v348, main_v349, main_v350, main_v351, main_v352, main_c_77, main_v353, main_c_78, main_v354, main_v355, main_v356, main_v357,
    main_v358, main_v359, main_c_79, main_v360, main_c_80, main_v361, main_v362, main_v363, main_v364, main_v365, main_v366, main_v367, main_v368,
    main_v369, main_v370, main_c_81, main_v371, main_v372, main_v373, main_cst_82, main_v374, main_cst_83, main_v375, main_v376, main_v377, main_v378,
    main_c_84, main_v379, main_c_85, main_v380, main_v381, main_v382, main_v383, main_v384, main_v385, main_c_86, main_v386, main_c_87, main_v387,
    main_v388, main_v389, main_v390, main_v391, main_v392, main_v393, main_v394, main_v395, main_v396, main_c_88, main_v397, main_v398, main_v399,
    main_v400, main_v401, main_c_89, main_v402, main_c_90, main_v403, main_v404, main_v405, main_v406, main_v407, main_v408, main_c_91, main_v409,
    main_c_92, main_v410, main_v411, main_v412, main_v413, main_v414, main_v415, main_v416, main_v417, main_v418, main_v419, main_c_93, main_v420,
    main_v421, main_v422, main_v423, main_v424, main_c_94, main_v425, main_c_95, main_v426, main_v427, main_v428, main_v429, main_v430, main_v431,
    main_c_96, main_v432, main_c_97, main_v433, main_v434, main_v435, main_v436, main_v437, main_v438, main_v439, main_v440, main_v441, main_v442,
    main_c_98, main_v443, main_v444, main_v445, main_v446, main_v447, main_c_99, main_v448, main_c_100, main_v449, main_v450, main_v451, main_v452,
    main_v453, main_v454, main_c_101, main_v455, main_c_102, main_v456, main_v457, main_v458, main_v459, main_v460, main_v461, main_v462, main_v463,
    main_v464, main_v465, main_c_103, main_v466, main_v467, main_v468, main_v469, main_v470, main_c_104, main_v471, main_c_105, main_v472, main_v473,
    main_v474, main_v475, main_v476, main_v477, main_c_106, main_v478, main_c_107, main_v479, main_v480, main_v481, main_v482, main_v483, main_v484,
    main_v485, main_v486, main_v487, main_v488, main_c_108, main_v489, main_v490, main_v491, main_v492, main_v493, main_c_109, main_v494, main_c_110,
    main_v495, main_v496, main_v497, main_v498, main_v499, main_v500, main_c_111, main_v501, main_c_112, main_v502, main_v503, main_v504, main_v505,
    main_v506, main_v507, main_v508, main_v509, main_v510, main_v511, main_c_113, main_v512, main_v513, main_v514, main_v515, main_v516, main_c_114,
    main_v517, main_c_115, main_v518, main_v519, main_v520, main_v521, main_v522, main_v523, main_c_116, main_v524, main_c_117, main_v525, main_v526,
    main_v527, main_v528, main_v529, main_v530, main_v531, main_v532, main_v533, main_v534, main_c_118, main_v535, main_v536, main_v537, main_v538,
    main_v539, main_c_119, main_v540, main_c_120, main_v541, main_v542, main_v543, main_v544, main_v545, main_v546, main_c_121, main_v547, main_c_122,
    main_v548, main_v549, main_v550, main_v551, main_v552, main_v553, main_v554, main_v555, main_v556, main_v557, main_c_123, main_v558, main_v559,
    main_v560, main_v561, main_v562, main_v563, main_v564, main_v565, main_v566, main_v567, main_v568 ]

set_option maxHeartbeats 4000000 in
theorem written_eq : (hostOps0 (F := F)).map HloOp.writes = written.map fun r => {Proc.devRef (τ := τ) .tc r} := rfl

/-- A line of operations cut in two. -/
theorem after_two (k l : List (HloOp τ sig (Elt F))) (V : Valuation τ sig (Elt F)) : after (k ++ l) V = after l (after k V) := by
  induction k generalizing V with
  | nil => rfl
  | cons op k ih => rw [List.cons_append, after_cons, after_cons, ih]

theorem after_cut (l : List (HloOp τ sig (Elt F))) (V : Valuation τ sig (Elt F)) (a : ℕ) : after l V = after (l.drop a) (after (l.take a) V) := by
  rw [← after_two, List.take_append_drop]

/-- What is not written from the `a`-th operation on is at the end as it was before it. -/
theorem kept_from (V : Valuation τ sig (Elt F)) (a : ℕ) (r : Ref sig .tc) (h : r ∉ written.drop a) :
    after hostOps0 V (Proc.devRef .tc r) = after (hostOps0.take a) V (Proc.devRef .tc r) := by
  have e : (hostOps0.drop a (α := HloOp τ sig (Elt F))).map HloOp.writes = (written.drop a).map fun r => {Proc.devRef (τ := τ) .tc r} := by
    rw [List.map_drop, List.map_drop, written_eq]
  exact (congrFun (after_cut hostOps0 V a) _).trans (after_of_writes_sub (hostOps0.drop a) (after (hostOps0.take a) V) (forall_writes_sub_of_map e) h)

/-- What no operation writes is at the start of each as it was. -/
theorem kept_to (V : Valuation τ sig (Elt F)) (a : ℕ) (r : Ref sig .tc) (h : r ∉ written) :
    after (hostOps0.take a) V (Proc.devRef .tc r) = V (Proc.devRef .tc r) := by
  have e : (hostOps0.take a (α := HloOp τ sig (Elt F))).map HloOp.writes = (written.take a).map fun r => {Proc.devRef (τ := τ) .tc r} := by
    rw [List.map_take, List.map_take, written_eq]
  exact after_of_writes_sub (hostOps0.take a) V (forall_writes_sub_of_map e) fun q => h (List.mem_of_mem_take q)

/-- The host operations from the `a`-th on, `n` of them. -/
abbrev span (a n : ℕ) : List (HloOp τ sig (Elt F)) := (hostOps0.drop a).take n

/-- The first `a + n` operations are the first `a` and the next `n`. -/
theorem after_span (V : Valuation τ sig (Elt F)) (a n : ℕ) :
    after (hostOps0.take (a + n)) V = after (span a n) (after (hostOps0.take a) V) := by
  rw [List.take_add]
  exact after_two _ _ V

theorem arg0_unwritten : main_arg0 ∉ written := by decide
theorem arg1_unwritten : main_arg1 ∉ written := by decide
theorem arg2_unwritten : main_arg2 ∉ written := by decide
theorem arg3_unwritten : main_arg3 ∉ written := by decide
theorem arg4_unwritten : main_arg4 ∉ written := by decide

end Cert.LstmIdeal.Own

end
-- ==== Proof.LstmFrame.lean ====
/- The launch of the two kernels one after the other, over any float values: the result array is what the projection
   leaves of the layers' result of the inputs and the packed arrays the host operations leave. -/
module

public import proofs.«01_k».proof.Proof.LstmKernel
public import proofs.«01_k».proof.Proof.LstmHost
public import proofs.«01_k».proof.Proof.Gen.LstmIdeal.Loops
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.WordCmp

@[expose] public section

set_option maxRecDepth 16384

noncomputable section

namespace Cert.LstmIdeal.Own

open Cert.LstmIdeal Cert.LstmIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- A window's block at a point. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

section
variable {c : Dev nD} (dat : Dat τ (Elt F) Unit ℕ (UR sig nD τ) ℕ cfg0 c)

/-- The body finds each input window's block in its buffer. -/
theorem found0 (hA : dat.A 0 = V c (Pipeline.arrRef spec0 0)) (hafter : ∀ t, dat.after 0 t = iblk V c 0 t) (t : Fin cfg0.N) (d) :
    dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem found1 (hA : dat.A 1 = V c (Pipeline.arrRef spec0 1)) (hafter : ∀ t, dat.after 1 t = iblk V c 1 t) (t : Fin cfg0.N) (d) :
    dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem found2 (hA : dat.A 2 = V c (Pipeline.arrRef spec0 2)) (hafter : ∀ t, dat.after 2 t = iblk V c 2 t) (t : Fin cfg0.N) (d) :
    dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

end

/-- The windows' current buffers. -/
abbrev ms0_0 (t : Fin cfg0.N) : Memref sig .tc .vmem S20x1024x64 .f32 := win0_0.stage (cfg0.slots t 0)
abbrev ms0_1 (t : Fin cfg0.N) : Memref sig .tc .vmem S3x256x192 .f32 := win0_1.stage (cfg0.slots t 1)
abbrev ms0_2 (t : Fin cfg0.N) : Memref sig .tc .vmem S3x256x1 .f32 := win0_2.stage (cfg0.slots t 2)
abbrev ms0_3 (t : Fin cfg0.N) : Memref sig .tc .vmem S20x64x1024 .f32 := win0_3.stage (cfg0.slots t 3)

/-- A buffer of the other call's, at some contents. -/
abbrev some1 (c : Dev nD) (b : Ref sig .tc) : sProp 𝕄 := iprop(∃ f : Buf (Elt F) ((c : Thread nD τ).loc b), ((c : Thread nD τ).loc b) ↦{fullShare} f)

/-- The first call's share at its point: its four buffers owned, and the second call's at some contents. -/
theorem own_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)
        ∗ (∃ d, owns (c : Thread nD τ) (Memref.whole cc0_scratch2) fullShare d) ∗ (∃ d, owns (c : Thread nD τ) (Memref.whole cc0_scratch3) fullShare d)
        ∗ some1 c cc1_stg0_0 ∗ some1 c cc1_stg0_1 ∗ some1 c cc1_stg1_0 ∗ some1 c cc1_stg2_0 ∗ some1 c cc1_stg3_0 ∗ some1 c cc1_stg3_1)
        ∗ (∃ r, prngReg c r)) := by
  unfold Pipeline.ΦA; rw [scopedRest0_eq]; simp only [owns_whole]; try rfl

/-- The output block from the three input blocks of the one point. -/
def left (c : Dev nD) (t : Fin cfg0.N) : Vec F S20x64x1024 .f32 := result (iblk V c 0 t) (iblk V c 1 t) (iblk V c 2 t)

/-- The three-layer call's data: inputs keep their blocks, the output block is the layers' result. -/
def data0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => left V c t
  Φ _ := Pipeline.ΦA spec0 c
  q _ := fullShare
  owed _ := 0

theorem data0_A (c : Dev nD) (w : Fin cfg0.W) : (data0 V c).A w = V c (Pipeline.arrRef spec0 w) := by
  dsimp only [data0]

theorem data0_after0 (c : Dev nD) (t : Fin cfg0.N) : (data0 V c).after 0 t = iblk V c 0 t := by dsimp only [data0]
theorem data0_after1 (c : Dev nD) (t : Fin cfg0.N) : (data0 V c).after 1 t = iblk V c 1 t := by dsimp only [data0]
theorem data0_after2 (c : Dev nD) (t : Fin cfg0.N) : (data0 V c).after 2 t = iblk V c 2 t := by dsimp only [data0]
theorem data0_after3 (c : Dev nD) (t : Fin cfg0.N) : (data0 V c).after 3 t = left V c t := by dsimp only [data0]

/-- What the body is called with at the point: the launch's own, and the four blocks. -/
def pre (c : Dev nD) (t : Fin cfg0.N) : sProp 𝕄 :=
  iprop((data0 V c).Φ t.castSucc ∗ (data0 V c).owesAt () t.castSucc
    ∗ (∃ d, owns (c : Thread nD τ) (ms0_0 t) fullShare ((data0 V c).before 0 t d))
    ∗ (∃ d, owns (c : Thread nD τ) (ms0_1 t) fullShare ((data0 V c).before 1 t d))
    ∗ (∃ d, owns (c : Thread nD τ) (ms0_2 t) fullShare ((data0 V c).before 2 t d))
    ∗ (∃ d, owns (c : Thread nD τ) (ms0_3 t) fullShare ((data0 V c).before 3 t d)))

/-- What it gives back. -/
def post (c : Dev nD) (t : Fin cfg0.N) : sProp 𝕄 :=
  iprop((data0 V c).Φ t.succ ∗ (data0 V c).owesAt () t.succ
    ∗ owns (c : Thread nD τ) (ms0_0 t) fullShare ((data0 V c).after 0 t)
    ∗ owns (c : Thread nD τ) (ms0_1 t) fullShare ((data0 V c).after 1 t)
    ∗ owns (c : Thread nD τ) (ms0_2 t) fullShare ((data0 V c).after 2 t)
    ∗ owns (c : Thread nD τ) (ms0_3 t) fullShare ((data0 V c).after 3 t))

set_option maxHeartbeats 800000 in
/-- The body at the point. -/
theorem sound (c : Dev nD) (t : Fin cfg0.N) :
    pre V c t ⊢ wp frame (wpE (defs₀ (F := F)) Variants.none c none) Set.univ (bodyAt0 t) (fun _ => post V c t) := by
  unfold pre post bodyAt0
  simp only [fun d => found0 V (data0 V c) (data0_A V c 0) (data0_after0 V c) t d,
    fun d => found1 V (data0 V c) (data0_A V c 1) (data0_after1 V c) t d,
    fun d => found2 V (data0 V c) (data0_A V c 2) (data0_after2 V c) t d]
  rw [show (data0 V c).Φ t.succ = (data0 V c).Φ t.castSucc from rfl,
    show (data0 V c).owesAt () t.succ = (data0 V c).owesAt () t.castSucc from rfl,
    data0_after0, data0_after1, data0_after2, data0_after3]
  rw [show (data0 V c).Φ t.castSucc = Pipeline.ΦA spec0 c from rfl, own_eq]
  unfold left
  iintro ⟨⟨⟨S0, S1, S2, S3, Sr⟩, Hg⟩, Ho, ⟨%d0, H0⟩, ⟨%d1, H1⟩, ⟨%d2, H2⟩, ⟨%d3, H3⟩⟩
  iapply (kernel_run c _ _ _ _ _ _ _ _ _ _ _ _ _ _ _ _ (iblk V c 0 t) (iblk V c 1 t) (iblk V c 2 t) Set.univ _)
  isplitl [H0]; · iexact H0
  isplitl [H1]; · iexact H1
  isplitl [H2]; · iexact H2
  isplitl [H3]; · iexists _; iexact H3
  isplitl [S0]; · iexact S0
  isplitl [S1]; · iexact S1
  isplitl [S2]; · iexact S2
  isplitl [S3]; · iexact S3
  iintro ⟨H0, H1, H2, H3, S0, S1, S2, S3⟩
  isplitl [S0 S1 S2 S3 Sr Hg]
  · isplitl [S0 S1 S2 S3 Sr]
    · isplitl [S0]; · iexact S0
      isplitl [S1]; · iexact S1
      isplitl [S2]; · iexact S2
      isplitl [S3]; · iexact S3
      iexact Sr
    iexact Hg
  isplitl [Ho]; · iexact Ho
  isplitl [H0]; · iexact H0
  isplitl [H1]; · iexact H1
  isplitl [H2]; · iexact H2
  iexact H3

theorem row (t : Fin cfg0.N) :
    defs₀ (F := F) .tc cfg0.body (cfg0.bodyArgs t (cfg0.slots t)) = bodyAt0 t := by
  unfold defs₀; rw [Defs.onTc_tc]

/-- The launch's demand of the body, met at every point. -/
theorem obligation (c : Dev nD) : BodyObligation (data0 (F := F) V c) (defs₀ (F := F)) Variants.none () Set.univ := fun t => by
  rw [bigSep_W0, bigSep_W0, row]
  exact triple_restated (sound V c t) rfl .rfl fun _ => .rfl

/-- A window's block at a step of the second call. -/
def jblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

section
variable {c : Dev nD} (dat : Dat τ (Elt F) Unit ℕ (UR sig nD τ) ℕ cfg1 c)

/-- The second call's body finds each input window's block in its buffer, moved there at that step or before. -/
theorem met0 (hA : dat.A 0 = V c (Pipeline.arrRef spec1 0)) (hafter : ∀ t, dat.after 0 t = jblk V c 0 t) (t : Fin cfg1.N) (d) :
    dat.before 0 t d = jblk V c 0 t :=
  (dat.before_in_eq_fetched 0 rfl (fun _ => rfl) (fun _ _ _ => rfl) (fun t => by rw [hafter]; unfold Dat.blockOf jblk; rw [hA]; try rfl) t d).trans
    (by unfold Dat.fetched Dat.blockOf jblk; rw [hA]; try rfl)

theorem met1 (hA : dat.A 1 = V c (Pipeline.arrRef spec1 1)) (hafter : ∀ t, dat.after 1 t = jblk V c 1 t) (t : Fin cfg1.N) (d) :
    dat.before 1 t d = jblk V c 1 t :=
  (dat.before_in_eq_fetched 1 rfl (fun _ => rfl) (fun _ _ _ => rfl) (fun t => by rw [hafter]; unfold Dat.blockOf jblk; rw [hA]; try rfl) t d).trans
    (by unfold Dat.fetched Dat.blockOf jblk; rw [hA]; try rfl)

theorem met2 (hA : dat.A 2 = V c (Pipeline.arrRef spec1 2)) (hafter : ∀ t, dat.after 2 t = jblk V c 2 t) (t : Fin cfg1.N) (d) :
    dat.before 2 t d = jblk V c 2 t :=
  (dat.before_in_eq_fetched 2 rfl (fun _ => rfl) (fun _ _ _ => rfl) (fun t => by rw [hafter]; unfold Dat.blockOf jblk; rw [hA]; try rfl) t d).trans
    (by unfold Dat.fetched Dat.blockOf jblk; rw [hA]; try rfl)

end

/-- The whole of the step's states, one voice's weights and biases, and that voice's logits, as boxes of the blocks. -/
abbrev allStates : Rect S1x64x1024 := Rect.unit (s := S1x64x1024) ![0, 0, 0] S1x64x1024.size inb_S1x64x1024_S1x64x1024_0_0_0
abbrev voiceW0 : Rect S4x64x1000 := Rect.unit (s := S4x64x1000) ![0, 0, 0] S1x64x1000.size inb_S4x64x1000_S1x64x1000_0_0_0
abbrev voiceW1 : Rect S4x64x1000 := Rect.unit (s := S4x64x1000) ![1, 0, 0] S1x64x1000.size inb_S4x64x1000_S1x64x1000_1_0_0
abbrev voiceW2 : Rect S4x64x1000 := Rect.unit (s := S4x64x1000) ![2, 0, 0] S1x64x1000.size inb_S4x64x1000_S1x64x1000_2_0_0
abbrev voiceW3 : Rect S4x64x1000 := Rect.unit (s := S4x64x1000) ![3, 0, 0] S1x64x1000.size inb_S4x64x1000_S1x64x1000_3_0_0
abbrev voiceB0 : Rect S4x1x1000 := Rect.unit (s := S4x1x1000) ![0, 0, 0] S1x1x1000.size inb_S4x1x1000_S1x1x1000_0_0_0
abbrev voiceB1 : Rect S4x1x1000 := Rect.unit (s := S4x1x1000) ![1, 0, 0] S1x1x1000.size inb_S4x1x1000_S1x1x1000_1_0_0
abbrev voiceB2 : Rect S4x1x1000 := Rect.unit (s := S4x1x1000) ![2, 0, 0] S1x1x1000.size inb_S4x1x1000_S1x1x1000_2_0_0
abbrev voiceB3 : Rect S4x1x1000 := Rect.unit (s := S4x1x1000) ![3, 0, 0] S1x1x1000.size inb_S4x1x1000_S1x1x1000_3_0_0
abbrev voiceO0 : Rect S1024x1x4x1000 := Rect.unit (s := S1024x1x4x1000) ![0, 0, 0, 0] S1024x1x1x1000.size inb_S1024x1x4x1000_S1024x1x1x1000_0_0_0_0
abbrev voiceO1 : Rect S1024x1x4x1000 := Rect.unit (s := S1024x1x4x1000) ![0, 0, 1, 0] S1024x1x1x1000.size inb_S1024x1x4x1000_S1024x1x1x1000_0_0_1_0
abbrev voiceO2 : Rect S1024x1x4x1000 := Rect.unit (s := S1024x1x4x1000) ![0, 0, 2, 0] S1024x1x1x1000.size inb_S1024x1x4x1000_S1024x1x1x1000_0_0_2_0
abbrev voiceO3 : Rect S1024x1x4x1000 := Rect.unit (s := S1024x1x4x1000) ![0, 0, 3, 0] S1024x1x1x1000.size inb_S1024x1x4x1000_S1024x1x1x1000_0_0_3_0

/-- The four voices' tiles in the order in which they were stored, the last one first. -/
abbrev tiles (p0 p1 p2 p3 : Vec F S1024x1x1x1000 .f32) : List (View.Piece (Elt F) S1024x1x4x1000 .f32) :=
  [⟨voiceO3, p3⟩, ⟨voiceO2, p2⟩, ⟨voiceO1, p1⟩, ⟨voiceO0, p0⟩]

/-- The tiles fill the block. -/
theorem tiles_cover (p0 p1 p2 p3 : Vec F S1024x1x1x1000 .f32) (y : S1024x1x4x1000.Idx) : ∃ pc ∈ tiles p0 p1 p2 p3, y ∈ pc.1.set :=
  View.cover_of_tiled (tiles p0 p1 p2 p3) S1024x1x1x1000.size (by rfl) y

/-- The block a step leaves, from the step's states and the regrouped weights and biases. -/
def stored (x0 : Vec F S1x64x1024 .f32) (x1 : Vec F S4x64x1000 .f32) (x2 : Vec F S4x1x1000 .f32) : Vec F S1024x1x4x1000 .f32 :=
  View.canon (tiles (k1_pay4 (View.ld x0 allStates) (View.ld x1 voiceW0) (View.ld x2 voiceB0))
    (k1_pay5 (View.ld x0 allStates) (View.ld x1 voiceW1) (View.ld x2 voiceB1))
    (k1_pay1 (k1_pay6 (View.ld x0 allStates) (View.ld x1 voiceW2)) (View.ld x2 voiceB2))
    (k1_pay2 (k1_pay3 (View.ld x0 allStates)) (View.ld x1 voiceW3) (View.ld x2 voiceB3)))

set_option maxHeartbeats 1000000 in
/-- The second call's body, run over any four buffers of its operands. -/
theorem project_run (c : Dev nD) (E : Set ℕ) (i : grid1.Coords) (a1 : Memref sig .tc .vmem S1x64x1024 .f32) (h1 : a1.IsWhole) (a2 : Memref sig .tc .vmem S4x64x1000 .f32) (h2 : a2.IsWhole)
    (a3 : Memref sig .tc .vmem S4x1x1000 .f32) (h3 : a3.IsWhole) (a4 : Memref sig .tc .vmem S1024x1x4x1000 .f32) (h4 : a4.IsWhole)
    (x0 : Vec F S1x64x1024 .f32) (x1 : Vec F S4x64x1000 .f32) (x2 : Vec F S4x1x1000 .f32) (K : PUnit → sProp 𝕄) :
    iprop(owns (c : Thread nD τ) a1 fullShare x0 ∗ owns (c : Thread nD τ) a2 fullShare x1 ∗ owns (c : Thread nD τ) a3 fullShare x2 ∗ (∃ d, owns (c : Thread nD τ) a4 fullShare d)
        ∗ (iprop(owns (c : Thread nD τ) a1 fullShare x0 ∗ owns (c : Thread nD τ) a2 fullShare x1 ∗ owns (c : Thread nD τ) a3 fullShare x2 ∗ owns (c : Thread nD τ) a4 fullShare (stored x0 x1 x2)) -∗ K ⟨⟩))
      ⊢ wp frame (wpE (defs₀ (F := F)) Variants.none c none) E (cc1__proj_kernel i a1 h1 a2 h2 a3 h3 a4 h4) K := by
  simp only [cc1__proj_kernel_eq_skeleton]; unfold cc1__proj_kernel_skel
  simp only [k1_part1_eq_skeleton]
  unfold owns
  iintro ⟨⟨%g0, %e0, H0⟩, ⟨%g1, %e1, H1⟩, ⟨%g2, %e2, H2⟩, ⟨%d3, %g3, -, H3⟩, Hk⟩
  subst e0 e1 e2
  sl_exec
  sl_step
  iapply Hk
  isplitl [H0]
  · iexists g0; isplitr; · ipureintro; rfl
    iexact H0
  isplitl [H1]
  · iexists g1; isplitr; · ipureintro; rfl
    iexact H1
  isplitl [H2]
  · iexists g2; isplitr; · ipureintro; rfl
    iexact H2
  iexists _; isplitr
  swap; · iexact H3
  ipureintro
  exact View.read_writes_eq_canon _ _ _ (tiles_cover _ _ _ _)

/-- The projection call's data: inputs keep their blocks, the output block is the four voices' tiles. -/
def data1 (c : Dev nD) : Dat τ (Elt F) Unit ℕ (UR sig nD τ) ℕ cfg1 c where
  A w := V c (Pipeline.arrRef spec1 w)
  after w t := match w with
    | ⟨0, _⟩ => jblk V c 0 t
    | ⟨1, _⟩ => jblk V c 1 t
    | ⟨2, _⟩ => jblk V c 2 t
    | ⟨3, _⟩ => stored (jblk V c 0 t) (jblk V c 1 t) (jblk V c 2 t)
  Φ _ := Pipeline.ΦA spec1 c
  q _ := fullShare
  owed _ := 0

theorem data1_A (c : Dev nD) (w : Fin cfg1.W) : (data1 V c).A w = V c (Pipeline.arrRef spec1 w) := by
  dsimp only [data1]

theorem data1_after0 (c : Dev nD) (t : Fin cfg1.N) : (data1 V c).after 0 t = jblk V c 0 t := by dsimp only [data1]
theorem data1_after1 (c : Dev nD) (t : Fin cfg1.N) : (data1 V c).after 1 t = jblk V c 1 t := by dsimp only [data1]
theorem data1_after2 (c : Dev nD) (t : Fin cfg1.N) : (data1 V c).after 2 t = jblk V c 2 t := by dsimp only [data1]
theorem data1_after3 (c : Dev nD) (t : Fin cfg1.N) :
    (data1 V c).after 3 t = stored (jblk V c 0 t) (jblk V c 1 t) (jblk V c 2 t) := by dsimp only [data1]

/-- The second call's current buffers. -/
abbrev ms1_0 (t : Fin cfg1.N) : Memref sig .tc .vmem S1x64x1024 .f32 := win1_0.stage (cfg1.slots t 0)
abbrev ms1_1 (t : Fin cfg1.N) : Memref sig .tc .vmem S4x64x1000 .f32 := win1_1.stage (cfg1.slots t 1)
abbrev ms1_2 (t : Fin cfg1.N) : Memref sig .tc .vmem S4x1x1000 .f32 := win1_2.stage (cfg1.slots t 2)
abbrev ms1_3 (t : Fin cfg1.N) : Memref sig .tc .vmem S1024x1x4x1000 .f32 := win1_3.stage (cfg1.slots t 3)

/-- The second call's body at a step, between the launch's share and the four blocks before and after. -/
theorem sound1 (c : Dev nD) (t : Fin cfg1.N) :
    iprop((data1 V c).Φ t.castSucc ∗ (data1 V c).owesAt () t.castSucc
      ∗ (∃ d, owns (c : Thread nD τ) (ms1_0 t) fullShare ((data1 V c).before 0 t d))
      ∗ (∃ d, owns (c : Thread nD τ) (ms1_1 t) fullShare ((data1 V c).before 1 t d))
      ∗ (∃ d, owns (c : Thread nD τ) (ms1_2 t) fullShare ((data1 V c).before 2 t d))
      ∗ (∃ d, owns (c : Thread nD τ) (ms1_3 t) fullShare ((data1 V c).before 3 t d)))
    ⊢ wp frame (wpE (defs₀ (F := F)) Variants.none c none) Set.univ (bodyAt1 t) (fun _ =>
      iprop((data1 V c).Φ t.succ ∗ (data1 V c).owesAt () t.succ
      ∗ owns (c : Thread nD τ) (ms1_0 t) fullShare ((data1 V c).after 0 t)
      ∗ owns (c : Thread nD τ) (ms1_1 t) fullShare ((data1 V c).after 1 t)
      ∗ owns (c : Thread nD τ) (ms1_2 t) fullShare ((data1 V c).after 2 t)
      ∗ owns (c : Thread nD τ) (ms1_3 t) fullShare ((data1 V c).after 3 t))) := by
  unfold bodyAt1
  simp only [fun d => met0 V (data1 V c) (data1_A V c 0) (data1_after0 V c) t d,
    fun d => met1 V (data1 V c) (data1_A V c 1) (data1_after1 V c) t d,
    fun d => met2 V (data1 V c) (data1_A V c 2) (data1_after2 V c) t d]
  rw [show (data1 V c).Φ t.succ = (data1 V c).Φ t.castSucc from rfl,
    show (data1 V c).owesAt () t.succ = (data1 V c).owesAt () t.castSucc from rfl,
    data1_after0, data1_after1, data1_after2, data1_after3]
  iintro ⟨Hg, Ho, ⟨%d0, H0⟩, ⟨%d1, H1⟩, ⟨%d2, H2⟩, ⟨%d3, H3⟩⟩
  iapply (project_run c Set.univ (grid1.coords t) _ _ _ _ _ _ _ _ (jblk V c 0 t) (jblk V c 1 t) (jblk V c 2 t) _)
  isplitl [H0]; · iexact H0
  isplitl [H1]; · iexact H1
  isplitl [H2]; · iexact H2
  isplitl [H3]; · iexists _; iexact H3
  iintro ⟨H0, H1, H2, H3⟩
  isplitl [Hg]; · iexact Hg
  isplitl [Ho]; · iexact Ho
  isplitl [H0]; · iexact H0
  isplitl [H1]; · iexact H1
  isplitl [H2]; · iexact H2
  iexact H3

theorem row1 (t : Fin cfg1.N) :
    defs₀ (F := F) .tc cfg1.body (cfg1.bodyArgs t (cfg1.slots t)) = bodyAt1 t := by
  unfold defs₀; rw [Defs.onTc_tc]

/-- The second call's demand of its body, met at every step. -/
theorem obligation1 (c : Dev nD) : BodyObligation (data1 (F := F) V c) (defs₀ (F := F)) Variants.none () Set.univ := fun t => by
  rw [bigSep_W1, bigSep_W1, row1]
  exact triple_restated (sound1 V c t) rfl .rfl fun _ => .rfl

end

/-! ## The launch of any program of two stretches of host operations, each before its call -/

/-- No array is given beside the windows. -/
abbrev adm : (p : Fin 2) → (pcfgs (F := F) p).Adm := fun p => (cfgs p).toPCfg_adm
/-- No core owes another. -/
abbrev L : GSem nD τ sig → Finset Unit := fun _ => ∅
abbrev lv : GSem nD τ sig → Unit → ℕ := fun _ _ => 0
/-- What a core keeps beside its buffers from one part to the next. -/
abbrev R (c : Dev nD) : sProp 𝕄 := iprop((∃ r, prngReg c r) ∗ ∃ O, owes (c : Thread nD τ) (0 : CellTallies nD τ sig Unit) O)

/-- A stretch of host operations as a part of a program, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem scoped_sem : ∀ sm : SemLoc sig, sm.isScoped .tc = true := by decide

/-- The arguments. -/
abbrev given : List (Ref sig .tc) := [main_arg0, main_arg1, main_arg2, main_arg3, main_arg4, main_arg5, main_arg6]

/-- The program's own form: a stretch, the first call, a stretch, the second call. -/
abbrev twoCalls (ops0 ops1 : List (HloOp τ sig (Elt F))) :
    Prog (TpuEff nD τ sig (Elt F) (Pipeline.Sig Λ₀ (Fin 2) fun p => (pcfgs (F := F) p).Adm) .tc) PUnit :=
  Pipeline.chain [ StableHlo.seq ops0, Prog.lift (.customCall (Pipeline.entry 0) ()), StableHlo.seq ops1,
    Prog.lift (.customCall (Pipeline.entry 1) ()) ]

section
variable (m : (ℓ : Loc nD τ sig) → Buf (Elt F) ℓ) (ρ : Dev nD → PrngReg) (ops0 ops1 : List (HloOp τ sig (Elt F)))

/-- The buffers at the first call. -/
abbrev B1 (c : Dev nD) : Valuation τ sig (Elt F) := StableHlo.after ops0 (fun b => m (c, b))

/-- The same at the core's own references. -/
abbrev E (c : Dev nD) (b : Ref sig .tc) : Buf (Elt F) ((c : Thread nD τ).loc b) := B1 m ops0 c b

/-- The buffers after the first call. -/
def B2 (c : Dev nD) : Valuation τ sig (Elt F) :=
  Pipeline.withArrays spec0 c (B1 m ops0 c) fun w => (data0 (E m ops0) c).arrAt w cfg0.N

theorem B2_arr (c : Dev nD) (w : Fin cfg0.W) : B2 m ops0 c (Proc.devRef .tc (Pipeline.arrRef spec0 w)) = (data0 (E m ops0) c).arrAt w cfg0.N := by
  unfold B2; exact Pipeline.withArrays_arr spec0 launch0.win.arr_inj c _ _ w

theorem B2_ne (c : Dev nD) (b : Ref sig .tc) (h : ∀ w, Pipeline.arrRef spec0 w ≠ b) :
    B2 m ops0 c (Proc.devRef .tc b) = B1 m ops0 c (Proc.devRef .tc b) := by
  unfold B2; exact Pipeline.withArrays_of_ne spec0 c _ _ b h

/-- The buffers at the second call. -/
abbrev B3 (c : Dev nD) : Valuation τ sig (Elt F) := StableHlo.after ops1 (B2 m ops0 c)

/-- The same at the core's own references. -/
abbrev U (c : Dev nD) (b : Ref sig .tc) : Buf (Elt F) ((c : Thread nD τ).loc b) := B3 m ops0 ops1 c b

/-- The buffers after the second call. -/
def B4 (c : Dev nD) : Valuation τ sig (Elt F) :=
  Pipeline.withArrays spec1 c (B3 m ops0 ops1 c) fun w => (data1 (U m ops0 ops1) c).arrAt w cfg1.N

theorem B4_arr (c : Dev nD) (w : Fin cfg1.W) : B4 m ops0 ops1 c (Proc.devRef .tc (Pipeline.arrRef spec1 w)) = (data1 (U m ops0 ops1) c).arrAt w cfg1.N := by
  unfold B4; exact Pipeline.withArrays_arr spec1 launch1.win.arr_inj c _ _ w

theorem B4_ne (c : Dev nD) (b : Ref sig .tc) (h : ∀ w, Pipeline.arrRef spec1 w ≠ b) :
    B4 m ops0 ops1 c (Proc.devRef .tc b) = B3 m ops0 ops1 c (Proc.devRef .tc b) := by
  unfold B4; exact Pipeline.withArrays_of_ne spec1 c _ _ b h

/-- The two calls' data. -/
def data : (p : Fin 2) → (c : Dev nD) → Dat τ (Elt F) Unit ℕ (UR sig nD τ) ℕ (Pipeline.pin (pcfgs (F := F)) adm p) c
  | ⟨0, _⟩ => fun c => data0 (E m ops0) c
  | ⟨1, _⟩ => fun c => data1 (U m ops0 ops1) c

/-- What a core holds at the end. -/
abbrev atEnd (c : Dev nD) : sProp 𝕄 := iprop(StableHlo.held (c : Thread nD τ) (Pipeline.ucRefs τ sig) (B4 m ops0 ops1 c) ∗ ∃ r, prngReg c r)

set_option maxHeartbeats 1000000 in
set_option backward.isDefEq.respectTransparency.types false in
/-- The three-layer call as a segment. -/
def call0 : Pipeline.RegionSeg (pcfgs (F := F)) adm (data m ops0 ops1) () defs₀ Variants.none L lv 0 where
  win := launch0.win.to₀
  block_pos := launch0.block_pos
  stage_whole := launch0.stage_whole
  K := PEmpty
  osem k := k.elim
  ho := Pipeline.OwnSemFacts.none _
  hbody c := (obligation (E m ops0) c).loose
  hwaits := Pipeline.hwaits_of_owed_zero _ _ _ _ L lv 0 fun _ _ => rfl
  pre c := iprop(StableHlo.held (c : Thread nD τ) (Pipeline.ucRefs τ sig) (B1 m ops0 c) ∗ R c)
  post c := iprop(StableHlo.held (c : Thread nD τ) (Pipeline.ucRefs τ sig) (B2 m ops0 c) ∗ R c)
  X c := iprop(∃ r, prngReg c r)
  Y c := iprop(∃ r, prngReg c r)
  Z c := Pipeline.unscopedRest (Ix := Unit) (Name := ℕ) (U := UR sig nD τ) (Lvl := ℕ) spec0 c (fun b => B1 m ops0 c b)
  hentry c := by
    have cut := Pipeline.arrays_of_unscopedBufs (p := 0) (pcfgs (F := F)) adm (data m ops0 ops1) launch0.win launch0.arr_whole c
      ((data m ops0 ops1 0 c).share_full fun _ => rfl) (fun b => B1 m ops0 c b) (data0_A (E m ops0) c)
    rw [Pipeline.unscopedBufs_held] at cut
    rw [Pipeline.ownSems0_none]
    iintro ⟨⟨Hb, Hg, Hw⟩, -, -⟩
    ihave H := cut $$ Hb
    icases H with ⟨Ha, Hz⟩
    imodintro
    isplitl [Ha]; · iexact Ha
    isplitr; · unfold Pipeline.prefHeld; rw [show (Finset.univ : Finset (Fin 0)) = ∅ from rfl, BI.bigSep_empty]; iempintro
    isplitl [Hw]
    · unfold Pipeline.Dat.owesAt Pipeline.owesWithin
      icases Hw with ⟨%O, Hw⟩; iexists O; isplitr; · ipureintro; exact fun _ _ => Or.inl trivial
      iexact Hw
    isplitl [Hg]; · iexact Hg
    iexact Hz
  hin c := by
    rw [show (data m ops0 ops1 0 c).Φ 0 = Pipeline.ΦA spec0 c from rfl]; unfold Pipeline.ΦA
    iintro ⟨Hg, -, Hs⟩
    isplitl [Hs]; · iexact Hs
    iexact Hg
  hout c := by
    rw [Pipeline.ownSems0_none, show (data m ops0 ops1 0 c).Φ (Fin.last _) = Pipeline.ΦA spec0 c from rfl]; unfold Pipeline.ΦA
    iintro ⟨Hs, Hg⟩
    isplitl [Hg]; · iexact Hg
    isplitr; · iempintro
    iexact Hs
  hexit c := by
    have join := Pipeline.unscopedBufs_of_arrays (p := 0) (pcfgs (F := F)) adm (Ix := Unit) (Name := ℕ) (U := UR sig nD τ) (Lvl := ℕ)
      launch0.win launch0.arr_whole c (data m ops0 ops1) ((data m ops0 ops1 0 c).share_full fun _ => rfl)
      (fun b => B1 m ops0 c b) (fun b => B2 m ops0 c b) ((data m ops0 ops1 0 c).arrAt · cfg0.N) (fun w => (B2_arr m ops0 c w).symm)
      (fun b hb => B2_ne m ops0 c b fun w e => hb (Finset.mem_image.mpr ⟨w, Finset.mem_univ _, e⟩))
    rw [Pipeline.unscopedBufs_held] at join
    iintro ⟨Ha, Hw, Hg, Hz⟩
    imodintro
    isplitl [Ha Hz]
    · iapply join; isplitl [Ha] <;> iassumption
    isplitl [Hg]; · iexact Hg
    unfold Pipeline.Dat.owesAt Pipeline.owesWithin
    icases Hw with ⟨%O, -, Hw⟩; iexists O; iexact Hw

set_option maxHeartbeats 1000000 in
set_option backward.isDefEq.respectTransparency.types false in
/-- The projection call as a segment. -/
def call1 : Pipeline.RegionSeg (pcfgs (F := F)) adm (data m ops0 ops1) () defs₀ Variants.none L lv 1 where
  win := launch1.win.to₀
  block_pos := launch1.block_pos
  stage_whole := launch1.stage_whole
  K := PEmpty
  osem k := k.elim
  ho := Pipeline.OwnSemFacts.none _
  hbody c := (obligation1 (U m ops0 ops1) c).loose
  hwaits := Pipeline.hwaits_of_owed_zero _ _ _ _ L lv 1 fun _ _ => rfl
  pre c := iprop(StableHlo.held (c : Thread nD τ) (Pipeline.ucRefs τ sig) (B3 m ops0 ops1 c) ∗ R c)
  post c := iprop(atEnd m ops0 ops1 c ∗ ∃ O, owes (c : Thread nD τ) (0 : CellTallies nD τ sig Unit) O)
  X c := iprop(∃ r, prngReg c r)
  Y c := iprop(∃ r, prngReg c r)
  Z c := Pipeline.unscopedRest (Ix := Unit) (Name := ℕ) (U := UR sig nD τ) (Lvl := ℕ) spec1 c (fun b => B3 m ops0 ops1 c b)
  hentry c := by
    have cut := Pipeline.arrays_of_unscopedBufs (p := 1) (pcfgs (F := F)) adm (data m ops0 ops1) launch1.win launch1.arr_whole c
      ((data m ops0 ops1 1 c).share_full fun _ => rfl) (fun b => B3 m ops0 ops1 c b) (data1_A (U m ops0 ops1) c)
    rw [Pipeline.unscopedBufs_held] at cut
    rw [Pipeline.ownSems0_none]
    iintro ⟨⟨Hb, Hg, Hw⟩, -, -⟩
    ihave H := cut $$ Hb
    icases H with ⟨Ha, Hz⟩
    imodintro
    isplitl [Ha]; · iexact Ha
    isplitr; · unfold Pipeline.prefHeld; rw [show (Finset.univ : Finset (Fin 0)) = ∅ from rfl, BI.bigSep_empty]; iempintro
    isplitl [Hw]
    · unfold Pipeline.Dat.owesAt Pipeline.owesWithin
      icases Hw with ⟨%O, Hw⟩; iexists O; isplitr; · ipureintro; exact fun _ _ => Or.inl trivial
      iexact Hw
    isplitl [Hg]; · iexact Hg
    iexact Hz
  hin c := by
    rw [show (data m ops0 ops1 1 c).Φ 0 = Pipeline.ΦA spec1 c from rfl]; unfold Pipeline.ΦA
    iintro ⟨Hg, -, Hs⟩
    isplitl [Hs]; · iexact Hs
    iexact Hg
  hout c := by
    rw [Pipeline.ownSems0_none, show (data m ops0 ops1 1 c).Φ (Fin.last _) = Pipeline.ΦA spec1 c from rfl]; unfold Pipeline.ΦA
    iintro ⟨Hs, Hg⟩
    isplitl [Hg]; · iexact Hg
    isplitr; · iempintro
    iexact Hs
  hexit c := by
    have join := Pipeline.unscopedBufs_of_arrays (p := 1) (pcfgs (F := F)) adm (Ix := Unit) (Name := ℕ) (U := UR sig nD τ) (Lvl := ℕ)
      launch1.win launch1.arr_whole c (data m ops0 ops1) ((data m ops0 ops1 1 c).share_full fun _ => rfl)
      (fun b => B3 m ops0 ops1 c b) (fun b => B4 m ops0 ops1 c b) ((data m ops0 ops1 1 c).arrAt · cfg1.N) (fun w => (B4_arr m ops0 ops1 c w).symm)
      (fun b hb => B4_ne m ops0 ops1 c b fun w e => hb (Finset.mem_image.mpr ⟨w, Finset.mem_univ _, e⟩))
    rw [Pipeline.unscopedBufs_held] at join
    iintro ⟨Ha, Hw, Hg, Hz⟩
    imodintro
    isplitl [Ha Hz Hg]
    · isplitl [Ha Hz]
      · iapply join; isplitl [Ha] <;> iassumption
      iexact Hg
    unfold Pipeline.Dat.owesAt Pipeline.owesWithin
    icases Hw with ⟨%O, -, Hw⟩; iexists O; iexact Hw

variable (sub0 : ops0.Forall fun op => op.bufs ⊆ StableHlo.tcRefs τ sig) (fr0 : ops0.Forall fun op => op.fresh = ∅)
  (sub1 : ops1.Forall fun op => op.bufs ⊆ StableHlo.tcRefs τ sig) (fr1 : ops1.Forall fun op => op.fresh = ∅)

/-- The program's stretches and calls in order. -/
abbrev parts : List (Pipeline.Seg (pcfgs (F := F)) adm (data m ops0 ops1) () defs₀ Variants.none L lv) :=
  [.host (hseg ops0 sub0 fr0 fun c b => m (c, b)), .region (call0 m ops0 ops1),
    .host (hseg ops1 sub1 fr1 (B2 m ops0)), .region (call1 m ops0 ops1)]

variable (prog : Dev nD → Prog (TpuEff nD τ sig (Elt F) (Pipeline.Sig Λ₀ (Fin 2) fun p => (pcfgs (F := F) p).Adm) .tc) PUnit)
  (hprog : ∀ c, prog c = twoCalls ops0 ops1)

include hprog in
theorem prog_parts (c : Dev nD) : prog c = Pipeline.Seg.run (parts m ops0 ops1 sub0 fr0 sub1 fr1) := (hprog c).trans (by chain_rfl)

set_option maxHeartbeats 1000000 in
set_option backward.isDefEq.respectTransparency.types false in
include sub0 fr0 sub1 fr1 hprog in
/-- The run: every counter is zero and every buffer of the cores ends at `B4`. -/
theorem launched : θ_run defs (onTc (τ := τ) prog) ⟨m, fun _ => 0, ρ⟩ (fun r =>
      (∀ c : Dev nD, ∀ b ∈ Pipeline.ucRefs τ sig, r.2.mem (((c : Thread nD τ)).1, b) = B4 m ops0 ops1 c b) ∧ r.2.sem = fun _ => 0) :=
  Pipeline.θ_run_regions_kit_sems (pcfgs (F := F)) adm (data m ops0 ops1) () cellOf_inj emb₁ defs₀ Variants.none L lv m ρ prog (parts m ops0 ops1 sub0 fr0 sub1 fr1)
    (fun c Q => by rw [prog_parts m ops0 ops1 sub0 fr0 sub1 fr1 prog hprog c])
    (by simp only [parts, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (fun b => m (c, b)) ∗ R c)) (Tₙ := atEnd m ops0 ops1)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (fun b => m (c, b))
        from Pipeline.unscopedBufs_held c (fun b => m (c, b))]
      iintro ⟨⟨Hh, -, Hw, -, Hg, -⟩, -⟩
      imodintro
      isplitl [Hh]; · iexact Hh
      isplitl [Hg]; · iexists _; iexact Hg
      iexists ∅; iexact Hw)
    (QY := fun c s => ∀ b ∈ Pipeline.ucRefs τ sig, s.mem (((c : Thread nD τ)).1, b) = B4 m ops0 ops1 c b)
    (hfin := fun c s' => by
      iintro ⟨⟨Hh, -⟩, HSI⟩
      unfold StableHlo.held
      imodintro
      iapply (pointsTo_read_all (Pipeline.ucRefs τ sig) (fun b => (((c : Thread nD τ)).1, b)) (B4 m ops0 ops1 c) s')
      isplitl [Hh] <;> iassumption)
    (hQ := fun s h hz => ⟨h, funext fun g => hz g (.inr (scoped_sem g.2))⟩)

variable (k0 : ∀ c : Dev nD, ∀ a ∈ given, E m ops0 c a = m ((c : Thread nD τ).loc a))
  (k1 : ∀ (X : Valuation τ sig (Elt F)), ∀ a ∈ given, StableHlo.after ops1 X (Proc.devRef .tc a) = X (Proc.devRef .tc a))

include k0 in
/-- The first call changes no argument: one is an input window's array, the others are no window's. -/
theorem B2_given (c : Dev nD) : ∀ a ∈ given, B2 m ops0 c (Proc.devRef .tc a) = m ((c : Thread nD τ).loc a) := by
  intro a ha
  by_cases e : a = main_arg0
  · subst e
    exact (B2_arr m ops0 c 0).trans (((data0 (E m ops0) c).arrAt_in 0 rfl _).trans ((data0_A (E m ops0) c 0).trans (k0 c _ ha)))
  · have no : ∀ a ∈ given, a ≠ main_arg0 → ∀ w : Fin cfg0.W, Pipeline.arrRef spec0 w ≠ a := by decide
    exact (B2_ne m ops0 c a (no a ha e)).trans (k0 c a ha)

include k0 k1 in
/-- Nor does the rest of the program. -/
theorem B4_given (c : Dev nD) : ∀ a ∈ given, B4 m ops0 ops1 c (Proc.devRef .tc a) = m ((c : Thread nD τ).loc a) := by
  intro a ha
  have no : ∀ a ∈ given, ∀ w : Fin cfg1.W, Pipeline.arrRef spec1 w ≠ a := by decide
  exact (B4_ne m ops0 ops1 c a (no a ha)).trans ((k1 _ a ha).trans (B2_given m ops0 k0 c a ha))

include sub0 fr0 sub1 fr1 hprog k0 k1 in
/-- The frame of the program, once no argument is changed by its own stretches. -/
theorem frame_of_calls : θ_run defs (onTc (τ := τ) prog) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c =>
    have e := B4_given m ops0 ops1 k0 k1 c
    ⟨(h.1 c _ (mem_uc main_arg0 (by decide))).trans (e _ (by decide)), (h.1 c _ (mem_uc main_arg1 (by decide))).trans (e _ (by decide)),
      (h.1 c _ (mem_uc main_arg2 (by decide))).trans (e _ (by decide)), (h.1 c _ (mem_uc main_arg3 (by decide))).trans (e _ (by decide)),
      (h.1 c _ (mem_uc main_arg4 (by decide))).trans (e _ (by decide)), (h.1 c _ (mem_uc main_arg5 (by decide))).trans (e _ (by decide)),
      (h.1 c _ (mem_uc main_arg6 (by decide))).trans (e _ (by decide))⟩, h.2⟩)
    (launched m ρ ops0 ops1 sub0 fr0 sub1 fr1 prog hprog)

end

/-! ## The program at hand -/

section
variable (m : (ℓ : Loc nD τ sig) → Buf (Elt F) ℓ) (ρ : Dev nD → PrngReg)

theorem hostOps0_fresh : (hostOps0 : List (HloOp τ sig (Elt F))).Forall fun op => op.fresh = ∅ := by
  simp only [List.Forall]
  repeat' constructor

theorem hostOps1_fresh : (hostOps1 : List (HloOp τ sig (Elt F))).Forall fun op => op.fresh = ∅ := by
  simp only [List.Forall]
  repeat' constructor

/-- What the second stretch writes. -/
abbrev written1 : List (Ref sig .tc) := [main_v570, main_v571, main_v572]

/-- What it does not write is as before it. -/
theorem kept1 (X : Valuation τ sig (Elt F)) (b : Ref sig .tc) (h : b ∉ written1) :
    StableHlo.after hostOps1 X (Proc.devRef .tc b) = X (Proc.devRef .tc b) :=
  StableHlo.after_of_writes_sub hostOps1 X (W := written1) (StableHlo.forall_writes_sub_of_map rfl) h

/-- The buffers at the first call and at the second. -/
abbrev V (c : Dev nD) (b : Ref sig .tc) : Buf (Elt F) ((c : Thread nD τ).loc b) := E m hostOps0 c b
abbrev W (c : Dev nD) (b : Ref sig .tc) : Buf (Elt F) ((c : Thread nD τ).loc b) := U m hostOps0 hostOps1 c b

/-- What no host operation writes is as it was launched. -/
theorem V_unwritten (c : Dev nD) (r : Ref sig .tc) (h : r ∉ written) : V m c r = m ((c : Thread nD τ).loc r) :=
  (kept_from (fun b => m (c, b)) 0 r h).trans rfl

theorem given_unwritten : ∀ a ∈ given, a ∉ written := by decide
theorem given_unwritten1 : ∀ a ∈ given, a ∉ written1 := by decide

theorem V_given (c : Dev nD) : ∀ a ∈ given, V m c a = m ((c : Thread nD τ).loc a) := fun a ha => V_unwritten m c a (given_unwritten a ha)

/-- The frame over any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  frame_of_calls m ρ hostOps0 hostOps1 hostOps0_sub hostOps0_fresh hostOps1_sub hostOps1_fresh main main_chain (V_given m)
    fun X a ha => kept1 X a (given_unwritten1 a ha)

/-- Each input window of the first call has its whole array for its one block. -/
theorem block0 (c : Dev nD) (t : Fin cfg0.N) : iblk (V m) c 0 t = V m c main_arg0 := by
  funext y
  have hi : ∀ t : Fin cfg0.N, win0_0.index t = ![0, 0, 0] := (by decide +kernel : ∀ t : Fin grid0.N, _)
  blk_simp [iblk]
  exact congrArg (V m c main_arg0) (by blk_ext [hi])

theorem block1 (c : Dev nD) (t : Fin cfg0.N) : iblk (V m) c 1 t = V m c main_v564 := by
  funext y
  have hi : ∀ t : Fin cfg0.N, win0_1.index t = ![0, 0, 0] := (by decide +kernel : ∀ t : Fin grid0.N, _)
  blk_simp [iblk]
  exact congrArg (V m c main_v564) (by blk_ext [hi])

theorem block2 (c : Dev nD) (t : Fin cfg0.N) : iblk (V m) c 2 t = V m c main_v568 := by
  funext y
  have hi : ∀ t : Fin cfg0.N, win0_2.index t = ![0, 0, 0] := (by decide +kernel : ∀ t : Fin grid0.N, _)
  blk_simp [iblk]
  exact congrArg (V m c main_v568) (by blk_ext [hi])

/-- Its output window's one block is the whole array. -/
theorem output_eq (c : Dev nD) : (data0 (V m) c).arrAt 3 cfg0.N
    = result (m ((c : Thread nD τ).loc main_arg0)) (V m c main_v564) (V m c main_v568) := by
  refine (data0 (V m) c).arrAt_eq_of_after_last 3 (⟨0, by decide⟩ : Fin grid0.N) (by decide +kernel) _ fun j => ?_
  rw [data0_after3, left, block0, block1, block2, V_unwritten m c main_arg0 arg0_unwritten]
  rfl

/-- The second call finds the first one's result. -/
theorem states_eq (c : Dev nD) : W m c main_v569
    = result (m ((c : Thread nD τ).loc main_arg0)) (V m c main_v564) (V m c main_v568) :=
  (kept1 (B2 m hostOps0 c) main_v569 (by decide)).trans ((B2_arr m hostOps0 c 3).trans (output_eq m c))

/-- The run with the result array named, the arguments as they were. -/
theorem run_result : θ_run defs (onTc (τ := τ) (main (F := F))) ⟨m, fun _ => 0, ρ⟩ (fun r => ∀ c : Dev nD,
      r.2.mem ((c.tc : Thread nD τ).loc main_v573) = (data1 (W m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h.1.1 c _ (mem_uc main_v573 (by decide))).trans (B4_arr m hostOps0 hostOps1 c 3), h.2.1 c⟩)
    (θ_run_and (launched m ρ hostOps0 hostOps1 hostOps0_sub hostOps0_fresh hostOps1_sub hostOps1_fresh main main_chain) (frame m ρ))

end

end Cert.LstmIdeal.Own

end
-- ==== Proof.LstmBits.lean ====
/-
  The first printing of the recurrent call and the projection: the buffers its two stretches of host operations write,
  no argument among them, and its frame, from that of any program of the two calls.
-/
module

public import proofs.«01_k».proof.Defs
public import proofs.«01_k».proof.Proof.Gen.Lstm.Launch
public import proofs.«01_k».proof.Proof.LstmFrame
public import Idealize.ShloMosaic.Lib.Pipeline.FrameBody
public import Idealize.ShloMosaic.Lib.StableHlo.Run

@[expose] public section

set_option maxRecDepth 16384

noncomputable section

namespace Cert.Lstm.Own

open Cert.Lstm Cert.Lstm.Gen
open Idealize.ShloMosaic Idealize.ShloMosaic.StableHlo Idealize.ShloMosaic.TcCoe
open Idealize.SL Idealize.SL.RA Idealize.SL.BI Idealize.SL.Sem

variable {F : FTy → Type} [FloatOps F]

set_option maxHeartbeats 4000000 in
/-- The buffers the host operations write, one each. -/
abbrev written : List (Ref sig .tc) :=
  [ main_cst, main_v0, main_cst_0, main_v1, main_v2, main_v3, main_v4, main_c, main_v5, main_c_1, main_v6, main_v7, main_v8, main_v9, main_v10,
    main_v11, main_c_2, main_v12, main_c_3, main_v13, main_v14, main_v15, main_v16, main_v17, main_v18, main_v19, main_v20, main_v21, main_v22,
    main_c_4, main_v23, main_v24, main_v25, main_v26, main_v27, main_c_5, main_v28, main_c_6, main_v29, main_v30, main_v31, main_v32, main_v33,
    main_v34, main_c_7, main_v35, main_c_8, main_v36, main_v37, main_v38, main_v39, main_v40, main_v41, main_v42, main_v43, main_v44, main_v45,
    main_c_9, main_v46, main_v47, main_v48, main_v49, main_v50, main_c_10, main_v51, main_c_11, main_v52, main_v53, main_v54, main_v55, main_v56,
    main_v57, main_c_12, main_v58, main_c_13, main_v59, main_v60, main_v61, main_v62, main_v63, main_v64, main_v65, main_v66, main_v67, main_v68,
    main_c_14, main_v69, main_v70, main_v71, main_v72, main_v73, main_c_15, main_v74, main_c_16, main_v75, main_v76, main_v77, main_v78, main_v79,
    main_v80, main_c_17, main_v81, main_c_18, main_v82, main_v83, main_v84, main_v85, main_v86, main_v87, main_v88, main_v89, main_v90, main_v91,
    main_c_19, main_v92, main_v93, main_v94, main_v95, main_v96, main_c_20, main_v97, main_c_21, main_v98, main_v99, main_v100, main_v101, main_v102,
    main_v103, main_c_22, main_v104, main_c_23, main_v105, main_v106, main_v107, main_v108, main_v109, main_v110, main_v111, main_v112, main_v113,
    main_v114, main_c_24, main_v115, main_v116, main_v117, main_v118, main_v119, main_c_25, main_v120, main_c_26, main_v121, main_v122, main_v123,
    main_v124, main_v125, main_v126, main_c_27, main_v127, main_c_28, main_v128, main_v129, main_v130, main_v131, main_v132, main_v133, main_v134,
    main_v135, main_v136, main_v137, main_c_29, main_v138, main_v139, main_v140, main_v141, main_v142, main_c_30, main_v143, main_c_31, main_v144,
    main_v145, main_v146, main_v147, main_v148, main_v149, main_c_32, main_v150, main_c_33, main_v151, main_v152, main_v153, main_v154, main_v155,
    main_v156, main_v157, main_v158, main_v159, main_v160, main_c_34, main_v161, main_v162, main_v163, main_v164, main_v165, main_c_35, main_v166,
    main_c_36, main_v167, main_v168, main_v169, main_v170, main_v171, main_v172, main_c_37, main_v173, main_c_38, main_v174, main_v175, main_v176,
    main_v177, main_v178, main_v179, main_v180, main_v181, main_v182, main_v183, main_c_39, main_v184, main_v185, main_v186, main_cst_40, main_v187,
    main_cst_41, main_v188, main_v189, main_v190, main_v191, main_c_42, main_v192, main_c_43, main_v193, main_v194, main_v195, main_v196, main_v197,
    main_v198, main_c_44, main_v199, main_c_45, main_v200, main_v201, main_v202, main_v203, main_v204, main_v205, main_v206, main_v207, main_v208,
    main_v209, main_c_46, main_v210, main_v211, main_v212, main_v213, main_v214, main_c_47, main_v215, main_c_48, main_v216, main_v217, main_v218,
    main_v219, main_v220, main_v221, main_c_49, main_v222, main_c_50, main_v223, main_v224, main_v225, main_v226, main_v227, main_v228, main_v229,
    main_v230, main_v231, main_v232, main_c_51, main_v233, main_v234, main_v235, main_v236, main_v237, main_c_52, main_v238, main_c_53, main_v239,
    main_v240, main_v241, main_v242, main_v243, main_v244, main_c_54, main_v245, main_c_55, main_v246, main_v247, main_v248, main_v249, main_v250,
    main_v251, main_v252, main_v253, main_v254, main_v255, main_c_56, main_v256, main_v257, main_v258, main_v259, main_v260, main_c_57, main_v261,
    main_c_58, main_v262, main_v263, main_v264, main_v265, main_v266, main_v267, main_c_59, main_v268, main_c_60, main_v269, main_v270, main_v271,
    main_v272, main_v273, main_v274, main_v275, main_v276, main_v277, main_v278, main_c_61, main_v279, main_v280, main_v281, main_v282, main_v283,
    main_c_62, main_v284, main_c_63, main_v285, main_v286, main_v287, main_v288, main_v289, main_v290, main_c_64, main_v291, main_c_65, main_v292,
    main_v293, main_v294, main_v295, main_v296, main_v297, main_v298, main_v299, main_v300, main_v301, main_c_66, main_v302, main_v303, main_v304,
    main_v305, main_v306, main_c_67, main_v307, main_c_68, main_v308, main_v309, main_v310, main_v311, main_v312, main_v313, main_c_69, main_v314,
    main_c_70, main_v315, main_v316, main_v317, main_v318, main_v319, main_v320, main_v321, main_v322, main_v323, main_v324, main_c_71, main_v325,
    main_v326, main_v327, main_v328, main_v329, main_c_72, main_v330, main_c_73, main_v331, main_v332, main_v333, main_v334, main_v335, main_v336,
    main_c_74, main_v337, main_c_75, main_v338, main_v339, main_v340, main_v341, main_v342, main_v343, main_v344, main_v345, main_v346, main_v347,
    main_c_76, main_v348, main_v349, main_v350, main_v351, main_v352, main_c_77, main_v353, main_c_78, main_v354, main_v355, main_v356, main_v357,
    main_v358, main_v359, main_c_79, main_v360, main_c_80, main_v361, main_v362, main_v363, main_v364, main_v365, main_v366, main_v367, main_v368,
    main_v369, main_v370, main_c_81, main_v371, main_v372, main_v373, main_cst_82, main_v374, main_cst_83, main_v375, main_v376, main_v377, main_v378,
    main_c_84, main_v379, main_c_85, main_v380, main_v381, main_v382, main_v383, main_v384, main_v385, main_c_86, main_v386, main_c_87, main_v387,
    main_v388, main_v389, main_v390, main_v391, main_v392, main_v393, main_v394, main_v395, main_v396, main_c_88, main_v397, main_v398, main_v399,
    main_v400, main_v401, main_c_89, main_v402, main_c_90, main_v403, main_v404, main_v405, main_v406, main_v407, main_v408, main_c_91, main_v409,
    main_c_92, main_v410, main_v411, main_v412, main_v413, main_v414, main_v415, main_v416, main_v417, main_v418, main_v419, main_c_93, main_v420,
    main_v421, main_v422, main_v423, main_v424, main_c_94, main_v425, main_c_95, main_v426, main_v427, main_v428, main_v429, main_v430, main_v431,
    main_c_96, main_v432, main_c_97, main_v433, main_v434, main_v435, main_v436, main_v437, main_v438, main_v439, main_v440, main_v441, main_v442,
    main_c_98, main_v443, main_v444, main_v445, main_v446, main_v447, main_c_99, main_v448, main_c_100, main_v449, main_v450, main_v451, main_v452,
    main_v453, main_v454, main_c_101, main_v455, main_c_102, main_v456, main_v457, main_v458, main_v459, main_v460, main_v461, main_v462, main_v463,
    main_v464, main_v465, main_c_103, main_v466, main_v467, main_v468, main_v469, main_v470, main_c_104, main_v471, main_c_105, main_v472, main_v473,
    main_v474, main_v475, main_v476, main_v477, main_c_106, main_v478, main_c_107, main_v479, main_v480, main_v481, main_v482, main_v483, main_v484,
    main_v485, main_v486, main_v487, main_v488, main_c_108, main_v489, main_v490, main_v491, main_v492, main_v493, main_c_109, main_v494, main_c_110,
    main_v495, main_v496, main_v497, main_v498, main_v499, main_v500, main_c_111, main_v501, main_c_112, main_v502, main_v503, main_v504, main_v505,
    main_v506, main_v507, main_v508, main_v509, main_v510, main_v511, main_c_113, main_v512, main_v513, main_v514, main_v515, main_v516, main_c_114,
    main_v517, main_c_115, main_v518, main_v519, main_v520, main_v521, main_v522, main_v523, main_c_116, main_v524, main_c_117, main_v525, main_v526,
    main_v527, main_v528, main_v529, main_v530, main_v531, main_v532, main_v533, main_v534, main_c_118, main_v535, main_v536, main_v537, main_v538,
    main_v539, main_c_119, main_v540, main_c_120, main_v541, main_v542, main_v543, main_v544, main_v545, main_v546, main_c_121, main_v547, main_c_122,
    main_v548, main_v549, main_v550, main_v551, main_v552, main_v553, main_v554, main_v555, main_v556, main_v557, main_c_123, main_v558, main_v559,
    main_v560, main_v561, main_v562, main_v563, main_v564, main_v565, main_v566, main_v567, main_v568 ]

set_option maxHeartbeats 4000000 in
theorem written_eq : (hostOps0 (F := F)).map HloOp.writes = written.map fun r => {Proc.devRef (τ := τ) .tc r} := rfl

/-- What the second stretch writes. -/
abbrev written1 : List (Ref sig .tc) := [main_v570, main_v571, main_v572]

theorem fresh0 : (hostOps0 : List (HloOp τ sig (Elt F))).Forall fun op => op.fresh = ∅ := by
  simp only [List.Forall]
  repeat' constructor

theorem fresh1 : (hostOps1 : List (HloOp τ sig (Elt F))).Forall fun op => op.fresh = ∅ := by
  simp only [List.Forall]
  repeat' constructor

/-- The arguments. -/
abbrev given : List (Ref sig .tc) := [main_arg0, main_arg1, main_arg2, main_arg3, main_arg4, main_arg5, main_arg6]

/-- Neither stretch changes an argument. -/
theorem given_kept0 (X : Valuation τ sig (Elt F)) (a : Ref sig .tc) (h : a ∈ given) : after hostOps0 X (Proc.devRef .tc a) = X (Proc.devRef .tc a) :=
  after_of_writes_sub hostOps0 X (forall_writes_sub_of_map written_eq) ((by decide : ∀ a ∈ given, a ∉ written) a h)

theorem given_kept1 (X : Valuation τ sig (Elt F)) (a : Ref sig .tc) (h : a ∈ given) : after hostOps1 X (Proc.devRef .tc a) = X (Proc.devRef .tc a) :=
  after_of_writes_sub hostOps1 X (W := written1) (forall_writes_sub_of_map rfl) ((by decide : ∀ a ∈ given, a ∉ written1) a h)

/-- The two printings have the same kernel bodies. -/
theorem bodies : Cert.Lstm.defs₀ (F := Bits) = Cert.LstmIdeal.defs₀ (F := Bits) := by
  refine congrArg Defs.onTc (funext fun l => funext fun a => ?_)
  match l, a with
  | ⟨0, _⟩, (t, s) => rfl
  | ⟨1, _⟩, (t, s) => rfl
  | ⟨_ + 2, h⟩, _ => exact absurd h (Nat.not_lt.2 (Nat.le_add_left _ _))

theorem defs_eq : Cert.Lstm.defs (F := Bits) = Cert.LstmIdeal.defs (F := Bits) :=
  congrArg (Pipeline.defs Cert.LstmIdeal.pcfgs) bodies

set_option maxHeartbeats 4000000 in
/-- The frame of any program of the two calls, each after a stretch that leaves the arguments unchanged. -/
theorem frame_over (m : (ℓ : Loc nD τ sig) → Buf (Elt Bits) ℓ) (ρ : Dev nD → PrngReg) (ops0 ops1 : List (HloOp τ sig (Elt Bits)))
    (sub0 : ops0.Forall fun op => op.bufs ⊆ StableHlo.tcRefs τ sig) (fr0 : ops0.Forall fun op => op.fresh = ∅)
    (sub1 : ops1.Forall fun op => op.bufs ⊆ StableHlo.tcRefs τ sig) (fr1 : ops1.Forall fun op => op.fresh = ∅)
    (prog : Dev nD → Prog (TpuEff nD τ sig (Elt Bits) (Pipeline.Sig Λ₀ (Fin 2) fun p => (pcfgs (F := Bits) p).Adm) .tc) PUnit)
    (h : ∀ c, prog c = Pipeline.chain [ seq ops0, Prog.lift (.customCall (Pipeline.entry 0) ()), seq ops1,
      Prog.lift (.customCall (Pipeline.entry 1) ()) ])
    (k0 : ∀ (X : Valuation τ sig (Elt Bits)), ∀ a ∈ given, after ops0 X (Proc.devRef .tc a) = X (Proc.devRef .tc a))
    (k1 : ∀ (X : Valuation τ sig (Elt Bits)), ∀ a ∈ given, after ops1 X (Proc.devRef .tc a) = X (Proc.devRef .tc a)) :
    θ_run (Cert.LstmIdeal.defs (F := Bits)) (onTc (τ := τ) prog) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := by
  exact Cert.LstmIdeal.Own.frame_of_calls (F := Bits) m ρ ops0 ops1 sub0 fr0 sub1 fr1 prog h (fun c a ha => k0 (fun b => m (c, b)) a ha) k1

set_option maxHeartbeats 4000000 in
/-- The frame of the first printing. -/
theorem frame (m : (ℓ : Loc nD τ sig) → Buf (Elt Bits) ℓ) (ρ : Dev nD → PrngReg) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := by
  rw [defs_eq]
  exact frame_over m ρ hostOps0 hostOps1 hostOps0_sub fresh0 hostOps1_sub fresh1 main main_chain given_kept0 given_kept1

end Cert.Lstm.Own

end
-- ==== Proof.LstmSpec.lean ====
/-
  The three-layer network as sums over the extended reals: a step takes the running output and cell of every batch row
  to the next, a layer joins the outputs of the twenty steps from both ends, the network is three layers. Also the
  identity that makes the two programs' logistic functions one.
-/
module

public import Idealize.ShloMosaic.PureOps
public import Idealize.ShloMosaic.Lib.IdealHost

@[expose] public section

noncomputable section

namespace Cert.Proof.LstmSpec

open Idealize.ShloMosaic

/-- One half. -/
theorem half : Ideal.ofBits .f32 0x3F000000#32 = ((1 / 2 : ℝ) : EReal) := by
  simp [Ideal.ofBits, Ideal.ieee, -EReal.coe_mul]
  norm_num

/-- The logistic function by way of the hyperbolic tangent. -/
theorem half_tanh (z : EReal) :
    Ideal.ofBits .f32 0x3F000000#32 + Ideal.ofBits .f32 0x3F000000#32 * Ideal.tanh (Ideal.ofBits .f32 0x3F000000#32 * z)
      = Ideal.logistic z := by
  rw [half]
  have h2 : (0 : ℝ) < 1 / 2 := by norm_num
  induction z with
  | bot =>
    rw [EReal.coe_mul_bot_of_pos h2, Ideal.tanh_bot, Ideal.logistic_bot]
    rw [show (-1 : EReal) = ((-1 : ℝ) : EReal) by rw [EReal.coe_neg, EReal.coe_one], ← EReal.coe_mul, ← EReal.coe_add]
    norm_num
  | top =>
    rw [EReal.coe_mul_top_of_pos h2, Ideal.tanh_top, Ideal.logistic_top]
    rw [mul_one, ← EReal.coe_add]
    norm_num
  | coe r =>
    rw [← EReal.coe_mul, Ideal.tanh_coe, Ideal.logistic_coe, ← EReal.coe_mul, ← EReal.coe_add, EReal.coe_eq_coe_iff,
      Real.tanh_eq_sinh_div_cosh, Real.sinh_eq, Real.cosh_eq]
    have e : Real.exp (-r) = Real.exp (-(1 / 2 * r)) * Real.exp (-(1 / 2 * r)) := by rw [← Real.exp_add]; ring_nf
    have p : Real.exp (1 / 2 * r) * Real.exp (-(1 / 2 * r)) = 1 := by rw [← Real.exp_add]; simp
    rw [e]
    generalize ha : Real.exp (1 / 2 * r) = a at p ⊢
    generalize hb : Real.exp (-(1 / 2 * r)) = b at p ⊢
    have ha0 : 0 < a := ha ▸ Real.exp_pos _
    have hb0 : 0 < b := hb ▸ Real.exp_pos _
    have h1 : a + b ≠ 0 := by positivity
    have h3 : 1 + b * b ≠ 0 := by positivity
    field_simp
    nlinarith [p]

/-- A batch of rows of 64 features. -/
abbrev Lane := Fin 1024 → Fin 64 → EReal

def colIn (k : Fin 64) : Fin 192 := ⟨k.val, by omega⟩
def colBack (k : Fin 64) : Fin 192 := ⟨64 + k.val, by omega⟩
def colHid (k : Fin 64) : Fin 192 := ⟨128 + k.val, by omega⟩
def rowI (u : Fin 64) : Fin 256 := ⟨u.val, by omega⟩
def rowF (u : Fin 64) : Fin 256 := ⟨64 + u.val, by omega⟩
def rowG (u : Fin 64) : Fin 256 := ⟨128 + u.val, by omega⟩
def rowO (u : Fin 64) : Fin 256 := ⟨192 + u.val, by omega⟩

/-- A gate before its nonlinearity: the step's input, the input from the other end, the running output, the bias. -/
def gate (w : Fin 256 → Fin 192 → EReal) (b : Fin 256 → EReal) (xa xb h : Fin 64 → EReal) (j : Fin 256) : EReal :=
  (∑ k, xa k * w j (colIn k)) + (∑ k, xb k * w j (colBack k)) + (∑ k, h k * w j (colHid k)) + b j

/-- The new cell from the gates and the old one. -/
def cell (g : Fin 256 → EReal) (c : Fin 64 → EReal) (u : Fin 64) : EReal :=
  Ideal.logistic (g (rowF u)) * c u + Ideal.logistic (g (rowI u)) * Ideal.tanh (g (rowG u))

/-- The new output from the gates and the new cell. -/
def out (g : Fin 256 → EReal) (c : Fin 64 → EReal) (u : Fin 64) : EReal :=
  Ideal.logistic (g (rowO u)) * Ideal.tanh (c u)

/-- One step: the pair of output and cell to the next. -/
def step (w : Fin 256 → Fin 192 → EReal) (b : Fin 256 → EReal) (xa xb : Lane) (p : Lane × Lane) : Lane × Lane :=
  (fun n => out (gate w b (xa n) (xb n) (p.1 n)) (cell (gate w b (xa n) (xb n) (p.1 n)) (p.2 n)),
    fun n => cell (gate w b (xa n) (xb n) (p.1 n)) (p.2 n))

/-- The pairs after each step, from zeros. -/
def steps (w : Fin 256 → Fin 192 → EReal) (b : Fin 256 → EReal) (A : Fin 20 → Lane) : ℕ → Lane × Lane
  | 0 => (fun _ _ => 0, fun _ _ => 0)
  | k + 1 => if h : k < 20 then step w b (A ⟨k, h⟩) (A ⟨19 - k, by omega⟩) (steps w b A k) else steps w b A k

theorem steps_succ (w : Fin 256 → Fin 192 → EReal) (b : Fin 256 → EReal) (A : Fin 20 → Lane) (k : ℕ) (h : k < 20) :
    steps w b A (k + 1) = step w b (A ⟨k, h⟩) (A ⟨19 - k, by omega⟩) (steps w b A k) := dif_pos h

/-- The two halves joined: the low features in the order of the steps, the high ones backwards. -/
def joined (S : ℕ → Lane × Lane) : Fin 20 → Lane := fun t n u =>
  if u.val < 32 then (S (t.val + 1)).1 n u else (S (20 - t.val)).1 n u

/-- A layer. -/
def layer (w : Fin 256 → Fin 192 → EReal) (b : Fin 256 → EReal) (A : Fin 20 → Lane) : Fin 20 → Lane := joined (steps w b A)

/-- The network: three layers. -/
def net (w : Fin 3 → Fin 256 → Fin 192 → EReal) (b : Fin 3 → Fin 256 → EReal) (A : Fin 20 → Lane) : Fin 20 → Lane :=
  layer (w 2) (b 2) (layer (w 1) (b 1) (layer (w 0) (b 0) A))

end Cert.Proof.LstmSpec

end
-- ==== Proof.LstmValue.lean ====
/-
  The three-layer kernel's result over the ideal values: each loop's pairs are the network's, so what it leaves is the
  network's result with features before batch.
-/
module

public import proofs.«01_k».proof.Proof.LstmKernel
public import proofs.«01_k».proof.Proof.LstmSpec

@[expose] public section

set_option maxRecDepth 16384

noncomputable section

namespace Cert.LstmIdeal.Own

open Cert.LstmIdeal Cert.LstmIdeal.Gen
open Idealize.ShloMosaic Idealize.ShloMosaic.TcCoe

open Cert.Proof.LstmSpec (Lane half_tanh colIn colBack colHid rowI rowF rowG rowO)

/-- The first layer's gates. -/
theorem gates1_apply (w1 w3 w5 : FVec Ideal S256x64 .f32) (w7 : FVec Ideal S256x1 .f32) (xa xb : Vec Ideal S1x1024x64 .f32)
    (h : Vec Ideal S64x1024 .f32) (j : Fin 256) (n : Fin 1024) :
    k0_pay6 (F := Ideal) w1 w3 w5 w7 xa xb h (ix2 j n) = (∑ k : Fin 64, w1 (ix2 j k) * xa (ix3 0 n k)) + (∑ k : Fin 64, w3 (ix2 j k) * xb (ix3 0 n k))
      + (∑ k : Fin 64, w5 (ix2 j k) * h (ix2 k n)) + w7 (ix2 j 0) := by
  pointwise [k0_pay6]

/-- The first layer's new cell. -/
theorem cell1_apply (w1 w3 w5 : FVec Ideal S256x64 .f32) (w7 : FVec Ideal S256x1 .f32) (xa xb : Vec Ideal S1x1024x64 .f32)
    (h c : Vec Ideal S64x1024 .f32) (u : Fin 64) (n : Fin 1024) :
    k0_pay7 (F := Ideal) w1 w3 w5 w7 xa xb h c (ix2 u n)
      = Cert.Proof.LstmSpec.cell (fun j => k0_pay6 (F := Ideal) w1 w3 w5 w7 xa xb h (ix2 j n)) (fun u => c (ix2 u n)) u := by
  unfold Cert.Proof.LstmSpec.cell
  rw [← half_tanh, ← half_tanh]
  pointwise [k0_pay7]
  rfl

/-- The first layer's new output. -/
theorem out1_apply (w1 w3 w5 : FVec Ideal S256x64 .f32) (w7 : FVec Ideal S256x1 .f32) (xa xb : Vec Ideal S1x1024x64 .f32)
    (h d : Vec Ideal S64x1024 .f32) (u : Fin 64) (n : Fin 1024) :
    k0_pay21 (F := Ideal) d (k0_pay8 (F := Ideal) w1 w3 w5 w7 xa xb h) (ix2 u n)
      = Cert.Proof.LstmSpec.out (fun j => k0_pay6 (F := Ideal) w1 w3 w5 w7 xa xb h (ix2 j n)) (fun u => d (ix2 u n)) u := by
  unfold Cert.Proof.LstmSpec.out
  rw [← half_tanh]
  pointwise [k0_pay21, k0_pay8]
  rfl

/-- A step of the first layer's loop is a step of the network. -/
theorem pair1_eq (w : Fin 256 → Fin 192 → EReal) (b : Fin 256 → EReal) (a a' : Lane) (q : Lane × Lane)
    (w1 w3 w5 : FVec Ideal S256x64 .f32) (w7 : FVec Ideal S256x1 .f32) (xa xb : Vec Ideal S1x1024x64 .f32) (h c : Vec Ideal S64x1024 .f32)
    (h1 : ∀ j k, w1 (ix2 j k) = w j (colIn k)) (h3 : ∀ j k, w3 (ix2 j k) = w j (colBack k)) (h5 : ∀ j k, w5 (ix2 j k) = w j (colHid k))
    (h7 : ∀ j, w7 (ix2 j 0) = b j) (ha : ∀ n k, xa (ix3 0 n k) = a n k) (hb : ∀ n k, xb (ix3 0 n k) = a' n k)
    (hh : ∀ u n, h (ix2 u n) = q.1 n u) (hc : ∀ u n, c (ix2 u n) = q.2 n u) (u : Fin 64) (n : Fin 1024) :
    k0_pay21 (F := Ideal) (k0_pay7 (F := Ideal) w1 w3 w5 w7 xa xb h c) (k0_pay8 (F := Ideal) w1 w3 w5 w7 xa xb h) (ix2 u n)
        = (Cert.Proof.LstmSpec.step w b a a' q).1 n u
      ∧ k0_pay7 (F := Ideal) w1 w3 w5 w7 xa xb h c (ix2 u n) = (Cert.Proof.LstmSpec.step w b a a' q).2 n u := by
  have hg : ∀ n, (fun j => k0_pay6 (F := Ideal) w1 w3 w5 w7 xa xb h (ix2 j n)) = Cert.Proof.LstmSpec.gate w b (a n) (a' n) (q.1 n) := by
    intro n; funext j
    rw [gates1_apply]
    unfold Cert.Proof.LstmSpec.gate
    simp only [h1, h3, h5, h7, ha, hb, hh]
    simp only [mul_comm]
  have hcell : ∀ u, k0_pay7 (F := Ideal) w1 w3 w5 w7 xa xb h c (ix2 u n) = (Cert.Proof.LstmSpec.step w b a a' q).2 n u := by
    intro u
    rw [cell1_apply, hg]
    simp only [hc]
    rfl
  refine ⟨?_, hcell u⟩
  rw [out1_apply, hg]
  simp only [hcell]
  rfl

/-- The second layer's gates. -/
theorem gates2_apply (w1 w3 w5 : FVec Ideal S256x64 .f32) (w7 : FVec Ideal S256x1 .f32) (xa xb : Vec Ideal S1x64x1024 .f32)
    (h : Vec Ideal S64x1024 .f32) (j : Fin 256) (n : Fin 1024) :
    k0_pay9 (F := Ideal) w1 w3 w5 w7 xa xb h (ix2 j n) = (∑ k : Fin 64, w1 (ix2 j k) * xa (ix3 0 k n)) + (∑ k : Fin 64, w3 (ix2 j k) * xb (ix3 0 k n))
      + (∑ k : Fin 64, w5 (ix2 j k) * h (ix2 k n)) + w7 (ix2 j 0) := by
  pointwise [k0_pay9]

/-- The second layer's new cell. -/
theorem cell2_apply (w1 w3 w5 : FVec Ideal S256x64 .f32) (w7 : FVec Ideal S256x1 .f32) (xa xb : Vec Ideal S1x64x1024 .f32)
    (h c : Vec Ideal S64x1024 .f32) (u : Fin 64) (n : Fin 1024) :
    k0_pay10 (F := Ideal) w1 w3 w5 w7 xa xb h c (ix2 u n)
      = Cert.Proof.LstmSpec.cell (fun j => k0_pay9 (F := Ideal) w1 w3 w5 w7 xa xb h (ix2 j n)) (fun u => c (ix2 u n)) u := by
  unfold Cert.Proof.LstmSpec.cell
  rw [← half_tanh, ← half_tanh]
  pointwise [k0_pay10]
  rfl

/-- The second layer's new output. -/
theorem out2_apply (w1 w3 w5 : FVec Ideal S256x64 .f32) (w7 : FVec Ideal S256x1 .f32) (xa xb : Vec Ideal S1x64x1024 .f32)
    (h d : Vec Ideal S64x1024 .f32) (u : Fin 64) (n : Fin 1024) :
    k0_pay32 (F := Ideal) d (k0_pay11 (F := Ideal) w1 w3 w5 w7 xa xb h) (ix2 u n)
      = Cert.Proof.LstmSpec.out (fun j => k0_pay9 (F := Ideal) w1 w3 w5 w7 xa xb h (ix2 j n)) (fun u => d (ix2 u n)) u := by
  unfold Cert.Proof.LstmSpec.out
  rw [← half_tanh]
  pointwise [k0_pay32, k0_pay11]
  rfl

/-- A step of the second layer's loop is a step of the network. -/
theorem pair2_eq (w : Fin 256 → Fin 192 → EReal) (b : Fin 256 → EReal) (a a' : Lane) (q : Lane × Lane)
    (w1 w3 w5 : FVec Ideal S256x64 .f32) (w7 : FVec Ideal S256x1 .f32) (xa xb : Vec Ideal S1x64x1024 .f32) (h c : Vec Ideal S64x1024 .f32)
    (h1 : ∀ j k, w1 (ix2 j k) = w j (colIn k)) (h3 : ∀ j k, w3 (ix2 j k) = w j (colBack k)) (h5 : ∀ j k, w5 (ix2 j k) = w j (colHid k))
    (h7 : ∀ j, w7 (ix2 j 0) = b j) (ha : ∀ n k, xa (ix3 0 k n) = a n k) (hb : ∀ n k, xb (ix3 0 k n) = a' n k)
    (hh : ∀ u n, h (ix2 u n) = q.1 n u) (hc : ∀ u n, c (ix2 u n) = q.2 n u) (u : Fin 64) (n : Fin 1024) :
    k0_pay32 (F := Ideal) (k0_pay10 (F := Ideal) w1 w3 w5 w7 xa xb h c) (k0_pay11 (F := Ideal) w1 w3 w5 w7 xa xb h) (ix2 u n)
        = (Cert.Proof.LstmSpec.step w b a a' q).1 n u
      ∧ k0_pay10 (F := Ideal) w1 w3 w5 w7 xa xb h c (ix2 u n) = (Cert.Proof.LstmSpec.step w b a a' q).2 n u := by
  have hg : ∀ n, (fun j => k0_pay9 (F := Ideal) w1 w3 w5 w7 xa xb h (ix2 j n)) = Cert.Proof.LstmSpec.gate w b (a n) (a' n) (q.1 n) := by
    intro n; funext j
    rw [gates2_apply]
    unfold Cert.Proof.LstmSpec.gate
    simp only [h1, h3, h5, h7, ha, hb, hh]
    simp only [mul_comm]
  have hcell : ∀ u, k0_pay10 (F := Ideal) w1 w3 w5 w7 xa xb h c (ix2 u n) = (Cert.Proof.LstmSpec.step w b a a' q).2 n u := by
    intro u
    rw [cell2_apply, hg]
    simp only [hc]
    rfl
  refine ⟨?_, hcell u⟩
  rw [out2_apply, hg]
  simp only [hcell]
  rfl

/-- The third layer's gates. -/
theorem gates3_apply (w1 w3 w5 : FVec Ideal S256x64 .f32) (w7 : FVec Ideal S256x1 .f32) (xa xb : Vec Ideal S1x64x1024 .f32)
    (h : Vec Ideal S64x1024 .f32) (j : Fin 256) (n : Fin 1024) :
    k0_pay12 (F := Ideal) w1 w3 w5 w7 xa xb h (ix2 j n) = (∑ k : Fin 64, w1 (ix2 j k) * xa (ix3 0 k n)) + (∑ k : Fin 64, w3 (ix2 j k) * xb (ix3 0 k n))
      + (∑ k : Fin 64, w5 (ix2 j k) * h (ix2 k n)) + w7 (ix2 j 0) := by
  pointwise [k0_pay12]

/-- The third layer's new cell. -/
theorem cell3_apply (w1 w3 w5 : FVec Ideal S256x64 .f32) (w7 : FVec Ideal S256x1 .f32) (xa xb : Vec Ideal S1x64x1024 .f32)
    (h c : Vec Ideal S64x1024 .f32) (u : Fin 64) (n : Fin 1024) :
    k0_pay13 (F := Ideal) w1 w3 w5 w7 xa xb h c (ix2 u n)
      = Cert.Proof.LstmSpec.cell (fun j => k0_pay12 (F := Ideal) w1 w3 w5 w7 xa xb h (ix2 j n)) (fun u => c (ix2 u n)) u := by
  unfold Cert.Proof.LstmSpec.cell
  rw [← half_tanh, ← half_tanh]
  pointwise [k0_pay13]
  rfl

/-- The third layer's new output. -/
theorem out3_apply (w1 w3 w5 : FVec Ideal S256x64 .f32) (w7 : FVec Ideal S256x1 .f32) (xa xb : Vec Ideal S1x64x1024 .f32)
    (h d : Vec Ideal S64x1024 .f32) (u : Fin 64) (n : Fin 1024) :
    k0_pay1 (F := Ideal) d (k0_pay14 (F := Ideal) w1 w3 w5 w7 xa xb h) (ix2 u n)
      = Cert.Proof.LstmSpec.out (fun j => k0_pay12 (F := Ideal) w1 w3 w5 w7 xa xb h (ix2 j n)) (fun u => d (ix2 u n)) u := by
  unfold Cert.Proof.LstmSpec.out
  rw [← half_tanh]
  pointwise [k0_pay1, k0_pay14]
  rfl

/-- A step of the third layer's loop is a step of the network. -/
theorem pair3_eq (w : Fin 256 → Fin 192 → EReal) (b : Fin 256 → EReal) (a a' : Lane) (q : Lane × Lane)
    (w1 w3 w5 : FVec Ideal S256x64 .f32) (w7 : FVec Ideal S256x1 .f32) (xa xb : Vec Ideal S1x64x1024 .f32) (h c : Vec Ideal S64x1024 .f32)
    (h1 : ∀ j k, w1 (ix2 j k) = w j (colIn k)) (h3 : ∀ j k, w3 (ix2 j k) = w j (colBack k)) (h5 : ∀ j k, w5 (ix2 j k) = w j (colHid k))
    (h7 : ∀ j, w7 (ix2 j 0) = b j) (ha : ∀ n k, xa (ix3 0 k n) = a n k) (hb : ∀ n k, xb (ix3 0 k n) = a' n k)
    (hh : ∀ u n, h (ix2 u n) = q.1 n u) (hc : ∀ u n, c (ix2 u n) = q.2 n u) (u : Fin 64) (n : Fin 1024) :
    k0_pay1 (F := Ideal) (k0_pay13 (F := Ideal) w1 w3 w5 w7 xa xb h c) (k0_pay14 (F := Ideal) w1 w3 w5 w7 xa xb h) (ix2 u n)
        = (Cert.Proof.LstmSpec.step w b a a' q).1 n u
      ∧ k0_pay13 (F := Ideal) w1 w3 w5 w7 xa xb h c (ix2 u n) = (Cert.Proof.LstmSpec.step w b a a' q).2 n u := by
  have hg : ∀ n, (fun j => k0_pay12 (F := Ideal) w1 w3 w5 w7 xa xb h (ix2 j n)) = Cert.Proof.LstmSpec.gate w b (a n) (a' n) (q.1 n) := by
    intro n; funext j
    rw [gates3_apply]
    unfold Cert.Proof.LstmSpec.gate
    simp only [h1, h3, h5, h7, ha, hb, hh]
    simp only [mul_comm]
  have hcell : ∀ u, k0_pay13 (F := Ideal) w1 w3 w5 w7 xa xb h c (ix2 u n) = (Cert.Proof.LstmSpec.step w b a a' q).2 n u := by
    intro u
    rw [cell3_apply, hg]
    simp only [hc]
    rfl
  refine ⟨?_, hcell u⟩
  rw [out3_apply, hg]
  simp only [hcell]
  rfl

/-- The first loop's pairs are the network's. -/
theorem st1_eq (w : Fin 256 → Fin 192 → EReal) (b : Fin 256 → EReal) (A : Fin 20 → Lane) (v0 : Vec Ideal S1x256x64 .f32) (v2 : Vec Ideal S1x256x64 .f32) (v4 : Vec Ideal S1x256x64 .f32) (v6 : Vec Ideal S1x256x1 .f32) (X : Vec Ideal S20x1024x64 .f32)
    (h1 : ∀ j k, v0 (ix3 0 j k) = w j (colIn k)) (h3 : ∀ j k, v2 (ix3 0 j k) = w j (colBack k)) (h5 : ∀ j k, v4 (ix3 0 j k) = w j (colHid k)) (h7 : ∀ j, v6 (ix3 0 j 0) = b j)
    (hX : ∀ t n u, X (ix3 t n u) = A t n u) :
    ∀ k ≤ 20, ∀ (u : Fin 64) (n : Fin 1024), (st1 (F := Ideal) v0 v2 v4 v6 X (k0_pay19 (F := Ideal), k0_pay20 (F := Ideal)) k).1 (ix2 u n) = (Cert.Proof.LstmSpec.steps w b A k).1 n u
      ∧ (st1 (F := Ideal) v0 v2 v4 v6 X (k0_pay19 (F := Ideal), k0_pay20 (F := Ideal)) k).2 (ix2 u n) = (Cert.Proof.LstmSpec.steps w b A k).2 n u
  | 0, _, u, n => by
    constructor
    · show k0_pay19 (F := Ideal) (ix2 u n) = 0
      pointwise [k0_pay19]
    · show k0_pay20 (F := Ideal) (ix2 u n) = 0
      pointwise [k0_pay20]
  | k + 1, hk, u, n => by
    have hk' : k < 20 := hk
    have ht : k < k0_t1_loop.trips := hk'
    have ih := st1_eq w b A v0 v2 v4 v6 X h1 h3 h5 h7 hX k (by omega)
    rw [Cert.Proof.LstmSpec.steps_succ w b A k hk', show k + 1 = (⟨k, ht⟩ : Fin k0_t1_loop.trips).val + 1 from rfl, st1_succ]
    refine pair1_eq w b _ _ _ _ _ _ _ _ _ _ _ (fun j k => (by pointwise [k0_pay15] : k0_pay15 (F := Ideal) v0 (ix2 j k) = _).trans (h1 j k)) (fun j k => (by pointwise [k0_pay16] : k0_pay16 (F := Ideal) v2 (ix2 j k) = _).trans (h3 j k)) (fun j k => (by pointwise [k0_pay17] : k0_pay17 (F := Ideal) v4 (ix2 j k) = _).trans (h5 j k)) (fun j => (by pointwise [k0_pay18] : k0_pay18 (F := Ideal) v6 (ix2 j 0) = _).trans (h7 j)) (fun n u => ?_) (fun n u => ?_)
      (fun u n => (ih u n).1) (fun u n => (ih u n).2) u n
    · rw [← hX]
      refine View.ld_unit_apply_of _ _ _ _ _ _ fun a => ?_
      refine Eq.trans ?_ (congrArg (· + _) (congrFun (k0_off1_eq _) a).symm)
      fin_cases a
      · rfl
      · exact (Nat.zero_add _).symm
      · exact (Nat.zero_add _).symm
    · rw [← hX]
      refine View.ld_unit_apply_of _ _ _ _ _ _ fun a => ?_
      refine Eq.trans ?_ (congrArg (· + _) (congrFun (k0_off2_eq _) a).symm)
      fin_cases a
      · rfl
      · exact (Nat.zero_add _).symm
      · exact (Nat.zero_add _).symm

/-- The second loop's pairs are the network's. -/
theorem st2_eq (w : Fin 256 → Fin 192 → EReal) (b : Fin 256 → EReal) (A : Fin 20 → Lane) (v18 : FVec Ideal S256x64 .f32) (v20 : FVec Ideal S256x64 .f32) (v22 : FVec Ideal S256x64 .f32) (v23 : Vec Ideal S1x256x1 .f32) (X : Vec Ideal S20x64x1024 .f32)
    (h1 : ∀ j k, v18 (ix2 j k) = w j (colIn k)) (h3 : ∀ j k, v20 (ix2 j k) = w j (colBack k)) (h5 : ∀ j k, v22 (ix2 j k) = w j (colHid k)) (h7 : ∀ j, v23 (ix3 0 j 0) = b j)
    (hX : ∀ t n u, X (ix3 t u n) = A t n u) :
    ∀ k ≤ 20, ∀ (u : Fin 64) (n : Fin 1024), (st2 (F := Ideal) v18 v20 v22 v23 X (k0_pay30 (F := Ideal), k0_pay31 (F := Ideal)) k).1 (ix2 u n) = (Cert.Proof.LstmSpec.steps w b A k).1 n u
      ∧ (st2 (F := Ideal) v18 v20 v22 v23 X (k0_pay30 (F := Ideal), k0_pay31 (F := Ideal)) k).2 (ix2 u n) = (Cert.Proof.LstmSpec.steps w b A k).2 n u
  | 0, _, u, n => by
    constructor
    · show k0_pay30 (F := Ideal) (ix2 u n) = 0
      pointwise [k0_pay30]
    · show k0_pay31 (F := Ideal) (ix2 u n) = 0
      pointwise [k0_pay31]
  | k + 1, hk, u, n => by
    have hk' : k < 20 := hk
    have ht : k < k0_t2_loop.trips := hk'
    have ih := st2_eq w b A v18 v20 v22 v23 X h1 h3 h5 h7 hX k (by omega)
    rw [Cert.Proof.LstmSpec.steps_succ w b A k hk', show k + 1 = (⟨k, ht⟩ : Fin k0_t2_loop.trips).val + 1 from rfl, st2_succ]
    refine pair2_eq w b _ _ _ _ _ _ _ _ _ _ _ h1 h3 h5 (fun j => (by pointwise [k0_pay29] : k0_pay29 (F := Ideal) v23 (ix2 j 0) = _).trans (h7 j)) (fun n u => ?_) (fun n u => ?_)
      (fun u n => (ih u n).1) (fun u n => (ih u n).2) u n
    · rw [← hX]
      refine View.ld_unit_apply_of _ _ _ _ _ _ fun a => ?_
      refine Eq.trans ?_ (congrArg (· + _) (congrFun (k0_off5_eq _) a).symm)
      fin_cases a
      · rfl
      · exact (Nat.zero_add _).symm
      · exact (Nat.zero_add _).symm
    · rw [← hX]
      refine View.ld_unit_apply_of _ _ _ _ _ _ fun a => ?_
      refine Eq.trans ?_ (congrArg (· + _) (congrFun (k0_off6_eq _) a).symm)
      fin_cases a
      · rfl
      · exact (Nat.zero_add _).symm
      · exact (Nat.zero_add _).symm

/-- The third loop's pairs are the network's. -/
theorem st3_eq (w : Fin 256 → Fin 192 → EReal) (b : Fin 256 → EReal) (A : Fin 20 → Lane) (v35 : FVec Ideal S256x64 .f32) (v37 : FVec Ideal S256x64 .f32) (v39 : FVec Ideal S256x64 .f32) (v41 : FVec Ideal S256x1 .f32) (X : Vec Ideal S20x64x1024 .f32)
    (h1 : ∀ j k, v35 (ix2 j k) = w j (colIn k)) (h3 : ∀ j k, v37 (ix2 j k) = w j (colBack k)) (h5 : ∀ j k, v39 (ix2 j k) = w j (colHid k)) (h7 : ∀ j, v41 (ix2 j 0) = b j)
    (hX : ∀ t n u, X (ix3 t u n) = A t n u) :
    ∀ k ≤ 20, ∀ (u : Fin 64) (n : Fin 1024), (st3 (F := Ideal) v35 v37 v39 v41 X (k0_pay41 (F := Ideal), k0_pay42 (F := Ideal)) k).1 (ix2 u n) = (Cert.Proof.LstmSpec.steps w b A k).1 n u
      ∧ (st3 (F := Ideal) v35 v37 v39 v41 X (k0_pay41 (F := Ideal), k0_pay42 (F := Ideal)) k).2 (ix2 u n) = (Cert.Proof.LstmSpec.steps w b A k).2 n u
  | 0, _, u, n => by
    constructor
    · show k0_pay41 (F := Ideal) (ix2 u n) = 0
      pointwise [k0_pay41]
    · show k0_pay42 (F := Ideal) (ix2 u n) = 0
      pointwise [k0_pay42]
  | k + 1, hk, u, n => by
    have hk' : k < 20 := hk
    have ht : k < k0_t3_loop.trips := hk'
    have ih := st3_eq w b A v35 v37 v39 v41 X h1 h3 h5 h7 hX k (by omega)
    rw [Cert.Proof.LstmSpec.steps_succ w b A k hk', show k + 1 = (⟨k, ht⟩ : Fin k0_t3_loop.trips).val + 1 from rfl, st3_succ]
    refine pair3_eq w b _ _ _ _ _ _ _ _ _ _ _ h1 h3 h5 h7 (fun n u => ?_) (fun n u => ?_)
      (fun u n => (ih u n).1) (fun u n => (ih u n).2) u n
    · rw [← hX]
      refine View.ld_unit_apply_of _ _ _ _ _ _ fun a => ?_
      refine Eq.trans ?_ (congrArg (· + _) (congrFun (k0_off9_eq _) a).symm)
      fin_cases a
      · rfl
      · exact (Nat.zero_add _).symm
      · exact (Nat.zero_add _).symm
    · rw [← hX]
      refine View.ld_unit_apply_of _ _ _ _ _ _ fun a => ?_
      refine Eq.trans ?_ (congrArg (· + _) (congrFun (k0_off10_eq _) a).symm)
      fin_cases a
      · rfl
      · exact (Nat.zero_add _).symm
      · exact (Nat.zero_add _).symm

/-- What a layer leaves, from pairs that are the network's. -/
theorem layer_eq (S : ℕ → Pair Ideal) (w : Fin 256 → Fin 192 → EReal) (b : Fin 256 → EReal) (A : Fin 20 → Lane)
    (h : ∀ k ≤ 20, ∀ (u : Fin 64) (n : Fin 1024), (S k).1 (ix2 u n) = (Cert.Proof.LstmSpec.steps w b A k).1 n u) (t : Fin 20) (n : Fin 1024) (u : Fin 64) :
    layer S (ix3 t u n) = Cert.Proof.LstmSpec.layer w b A t n u := by
  rw [layer_apply]
  unfold Cert.Proof.LstmSpec.layer Cert.Proof.LstmSpec.joined
  rw [h _ (by omega), h _ (by omega)]

/-- The packed weights and biases as the network's, and the input sequence. -/
def weights (x1 : Vec Ideal S3x256x192 .f32) (l : Fin 3) (j : Fin 256) (k : Fin 192) : EReal := x1 (ix3 l j k)
def biases (x2 : Vec Ideal S3x256x1 .f32) (l : Fin 3) (j : Fin 256) : EReal := x2 (ix3 l j 0)
def input (x0 : Vec Ideal S20x1024x64 .f32) (t : Fin 20) : Lane := fun n u => x0 (ix3 t n u)

theorem w0_0 (x1 : Vec Ideal S3x256x192 .f32) (j : Fin 256) (k : Fin 64) :
    View.ld x1 (Rect.unit (s := S3x256x192) ![0, 0, 0] S1x256x64.size inb_S3x256x192_S1x256x64_0_0_0) (ix3 0 j k) = weights x1 0 j (colIn k) := by
  refine View.ld_unit_apply_of _ _ _ _ _ _ fun a => ?_
  fin_cases a
  · rfl
  · exact (Nat.zero_add _).symm
  · exact (Nat.zero_add _).symm

theorem w0_64 (x1 : Vec Ideal S3x256x192 .f32) (j : Fin 256) (k : Fin 64) :
    View.ld x1 (Rect.unit (s := S3x256x192) ![0, 0, 64] S1x256x64.size inb_S3x256x192_S1x256x64_0_0_64) (ix3 0 j k) = weights x1 0 j (colBack k) := by
  refine View.ld_unit_apply_of _ _ _ _ _ _ fun a => ?_
  fin_cases a
  · rfl
  · exact (Nat.zero_add _).symm
  · rfl

theorem w0_128 (x1 : Vec Ideal S3x256x192 .f32) (j : Fin 256) (k : Fin 64) :
    View.ld x1 (Rect.unit (s := S3x256x192) ![0, 0, 128] S1x256x64.size inb_S3x256x192_S1x256x64_0_0_128) (ix3 0 j k) = weights x1 0 j (colHid k) := by
  refine View.ld_unit_apply_of _ _ _ _ _ _ fun a => ?_
  fin_cases a
  · rfl
  · exact (Nat.zero_add _).symm
  · rfl

theorem b0_0 (x2 : Vec Ideal S3x256x1 .f32) (j : Fin 256) : View.ld x2 (Rect.unit (s := S3x256x1) ![0, 0, 0] S1x256x1.size inb_S3x256x1_S1x256x1_0_0_0) (ix3 0 j 0) = biases x2 0 j := by
  refine View.ld_unit_apply_of _ _ _ _ _ _ fun a => ?_
  fin_cases a
  · rfl
  · exact (Nat.zero_add _).symm
  · rfl

theorem w1_0 (x1 : Vec Ideal S3x256x192 .f32) (j : Fin 256) (k : Fin 64) :
    View.ld x1 (Rect.unit (s := S3x256x192) ![1, 0, 0] S1x256x64.size inb_S3x256x192_S1x256x64_1_0_0) (ix3 0 j k) = weights x1 1 j (colIn k) := by
  refine View.ld_unit_apply_of _ _ _ _ _ _ fun a => ?_
  fin_cases a
  · rfl
  · exact (Nat.zero_add _).symm
  · exact (Nat.zero_add _).symm

theorem w1_64 (x1 : Vec Ideal S3x256x192 .f32) (j : Fin 256) (k : Fin 64) :
    View.ld x1 (Rect.unit (s := S3x256x192) ![1, 0, 64] S1x256x64.size inb_S3x256x192_S1x256x64_1_0_64) (ix3 0 j k) = weights x1 1 j (colBack k) := by
  refine View.ld_unit_apply_of _ _ _ _ _ _ fun a => ?_
  fin_cases a
  · rfl
  · exact (Nat.zero_add _).symm
  · rfl

theorem w1_128 (x1 : Vec Ideal S3x256x192 .f32) (j : Fin 256) (k : Fin 64) :
    View.ld x1 (Rect.unit (s := S3x256x192) ![1, 0, 128] S1x256x64.size inb_S3x256x192_S1x256x64_1_0_128) (ix3 0 j k) = weights x1 1 j (colHid k) := by
  refine View.ld_unit_apply_of _ _ _ _ _ _ fun a => ?_
  fin_cases a
  · rfl
  · exact (Nat.zero_add _).symm
  · rfl

theorem b1_0 (x2 : Vec Ideal S3x256x1 .f32) (j : Fin 256) : View.ld x2 (Rect.unit (s := S3x256x1) ![1, 0, 0] S1x256x1.size inb_S3x256x1_S1x256x1_1_0_0) (ix3 0 j 0) = biases x2 1 j := by
  refine View.ld_unit_apply_of _ _ _ _ _ _ fun a => ?_
  fin_cases a
  · rfl
  · exact (Nat.zero_add _).symm
  · rfl

theorem w2_0 (x1 : Vec Ideal S3x256x192 .f32) (j : Fin 256) (k : Fin 64) :
    View.ld x1 (Rect.unit (s := S3x256x192) ![2, 0, 0] S1x256x64.size inb_S3x256x192_S1x256x64_2_0_0) (ix3 0 j k) = weights x1 2 j (colIn k) := by
  refine View.ld_unit_apply_of _ _ _ _ _ _ fun a => ?_
  fin_cases a
  · rfl
  · exact (Nat.zero_add _).symm
  · exact (Nat.zero_add _).symm

theorem w2_64 (x1 : Vec Ideal S3x256x192 .f32) (j : Fin 256) (k : Fin 64) :
    View.ld x1 (Rect.unit (s := S3x256x192) ![2, 0, 64] S1x256x64.size inb_S3x256x192_S1x256x64_2_0_64) (ix3 0 j k) = weights x1 2 j (colBack k) := by
  refine View.ld_unit_apply_of _ _ _ _ _ _ fun a => ?_
  fin_cases a
  · rfl
  · exact (Nat.zero_add _).symm
  · rfl

theorem w2_128 (x1 : Vec Ideal S3x256x192 .f32) (j : Fin 256) (k : Fin 64) :
    View.ld x1 (Rect.unit (s := S3x256x192) ![2, 0, 128] S1x256x64.size inb_S3x256x192_S1x256x64_2_0_128) (ix3 0 j k) = weights x1 2 j (colHid k) := by
  refine View.ld_unit_apply_of _ _ _ _ _ _ fun a => ?_
  fin_cases a
  · rfl
  · exact (Nat.zero_add _).symm
  · rfl

theorem b2_0 (x2 : Vec Ideal S3x256x1 .f32) (j : Fin 256) : View.ld x2 (Rect.unit (s := S3x256x1) ![2, 0, 0] S1x256x1.size inb_S3x256x1_S1x256x1_2_0_0) (ix3 0 j 0) = biases x2 2 j := by
  refine View.ld_unit_apply_of _ _ _ _ _ _ fun a => ?_
  fin_cases a
  · rfl
  · exact (Nat.zero_add _).symm
  · rfl

section
variable (x0 : Vec Ideal S20x1024x64 .f32) (x1 : Vec Ideal S3x256x192 .f32) (x2 : Vec Ideal S3x256x1 .f32)

theorem rows1_eq (t : Fin 20) (n : Fin 1024) (u : Fin 64) : layer (pairs1 x0 x1 x2) (ix3 t u n)
    = Cert.Proof.LstmSpec.layer (weights x1 0) (biases x2 0) (input x0) t n u :=
  layer_eq _ _ _ _ (fun k hk u n => (st1_eq _ _ _ _ _ _ _ _ (w0_0 x1) (w0_64 x1) (w0_128 x1) (b0_0 x2) (fun _ _ _ => rfl) k hk u n).1) t n u

theorem rows2_eq (t : Fin 20) (n : Fin 1024) (u : Fin 64) : layer (pairs2 x0 x1 x2) (ix3 t u n)
    = Cert.Proof.LstmSpec.layer (weights x1 1) (biases x2 1) (Cert.Proof.LstmSpec.layer (weights x1 0) (biases x2 0) (input x0)) t n u :=
  layer_eq _ _ _ _ (fun k hk u n => (st2_eq _ _ _ _ _ _ _ _
    (fun j k => (by pointwise [k0_pay26] : k0_pay26 (F := Ideal) _ (ix2 j k) = _).trans (w1_0 x1 j k))
    (fun j k => (by pointwise [k0_pay27] : k0_pay27 (F := Ideal) _ (ix2 j k) = _).trans (w1_64 x1 j k))
    (fun j k => (by pointwise [k0_pay28] : k0_pay28 (F := Ideal) _ (ix2 j k) = _).trans (w1_128 x1 j k))
    (b1_0 x2) (rows1_eq x0 x1 x2) k hk u n).1) t n u

/-- What the kernel leaves is the network's result. -/
theorem result_eq (t : Fin 20) (n : Fin 1024) (u : Fin 64) : result x0 x1 x2 (ix3 t u n)
    = Cert.Proof.LstmSpec.net (weights x1) (biases x2) (input x0) t n u :=
  layer_eq _ _ _ _ (fun k hk u n => (st3_eq _ _ _ _ _ _ _ _
    (fun j k => (by pointwise [k0_pay37] : k0_pay37 (F := Ideal) _ (ix2 j k) = _).trans (w2_0 x1 j k))
    (fun j k => (by pointwise [k0_pay38] : k0_pay38 (F := Ideal) _ (ix2 j k) = _).trans (w2_64 x1 j k))
    (fun j k => (by pointwise [k0_pay39] : k0_pay39 (F := Ideal) _ (ix2 j k) = _).trans (w2_128 x1 j k))
    (fun j => (by pointwise [k0_pay40] : k0_pay40 (F := Ideal) _ (ix2 j 0) = _).trans (b2_0 x2 j)) (rows2_eq x0 x1 x2) k hk u n).1) t n u

end

end Cert.LstmIdeal.Own

end
-- ==== Proof.LstmTwo.lean ====
/-
  The bidirectional network, one recurrence of 32 features in each direction, as sums over the extended reals; the
  packed weights of a layer, both directions' blocks side by side with zeros between; and the theorem that the network
  on packed weights is the bidirectional one.
-/
module

public import proofs.«01_k».proof.Proof.LstmSpec
public import Mathlib.Algebra.BigOperators.Fin

@[expose] public section

noncomputable section

namespace Cert.Proof.LstmSpec

open Idealize.ShloMosaic

/-- A batch of rows of one direction's 32 features. -/
abbrev Half := Fin 1024 → Fin 32 → EReal

/-- Row `q` of gate `e` in one direction's weights. -/
def drow (e : Fin 4) (q : Fin 32) : Fin 128 := ⟨32 * e.val + q.val, by omega⟩

/-- A direction's gate before its nonlinearity. -/
def dgate (wi : Fin 128 → Fin 64 → EReal) (wh : Fin 128 → Fin 32 → EReal) (b : Fin 128 → EReal) (x : Fin 64 → EReal) (h : Fin 32 → EReal)
    (j : Fin 128) : EReal := (∑ k, x k * wi j k) + (∑ k, h k * wh j k) + b j

/-- A direction's new cell. -/
def dcell (g : Fin 128 → EReal) (c : Fin 32 → EReal) (q : Fin 32) : EReal :=
  Ideal.logistic (g (drow 1 q)) * c q + Ideal.logistic (g (drow 0 q)) * Ideal.tanh (g (drow 2 q))

/-- A direction's new output. -/
def dout (g : Fin 128 → EReal) (c : Fin 32 → EReal) (q : Fin 32) : EReal := Ideal.logistic (g (drow 3 q)) * Ideal.tanh (c q)

/-- One step of a direction. -/
def dstep (wi : Fin 128 → Fin 64 → EReal) (wh : Fin 128 → Fin 32 → EReal) (b : Fin 128 → EReal) (x : Lane) (p : Half × Half) : Half × Half :=
  (fun n => dout (dgate wi wh b (x n) (p.1 n)) (dcell (dgate wi wh b (x n) (p.1 n)) (p.2 n)),
    fun n => dcell (dgate wi wh b (x n) (p.1 n)) (p.2 n))

/-- A direction's pairs after each step, from zeros. -/
def dsteps (wi : Fin 128 → Fin 64 → EReal) (wh : Fin 128 → Fin 32 → EReal) (b : Fin 128 → EReal) (A : Fin 20 → Lane) : ℕ → Half × Half
  | 0 => (fun _ _ => 0, fun _ _ => 0)
  | k + 1 => if h : k < 20 then dstep wi wh b (A ⟨k, h⟩) (dsteps wi wh b A k) else dsteps wi wh b A k

theorem dsteps_succ (wi : Fin 128 → Fin 64 → EReal) (wh : Fin 128 → Fin 32 → EReal) (b : Fin 128 → EReal) (A : Fin 20 → Lane) (k : ℕ) (h : k < 20) :
    dsteps wi wh b A (k + 1) = dstep wi wh b (A ⟨k, h⟩) (dsteps wi wh b A k) := dif_pos h

/-- A layer's two directions side by side: the first on the sequence, the second on it backwards. -/
def sides (S T : ℕ → Half × Half) : Fin 20 → Lane := fun t n u =>
  if h : u.val < 32 then (S (t.val + 1)).1 n ⟨u.val, h⟩ else (T (20 - t.val)).1 n ⟨u.val - 32, by omega⟩

/-- A bidirectional layer. -/
def blayer (wi : Fin 2 → Fin 128 → Fin 64 → EReal) (wh : Fin 2 → Fin 128 → Fin 32 → EReal) (b : Fin 2 → Fin 128 → EReal) (A : Fin 20 → Lane) :
    Fin 20 → Lane := sides (dsteps (wi 0) (wh 0) (b 0) A) (dsteps (wi 1) (wh 1) (b 1) fun t => A t.rev)

/-- The bidirectional network: three layers. -/
def bnet (wi : Fin 3 → Fin 2 → Fin 128 → Fin 64 → EReal) (wh : Fin 3 → Fin 2 → Fin 128 → Fin 32 → EReal) (b : Fin 3 → Fin 2 → Fin 128 → EReal)
    (A : Fin 20 → Lane) : Fin 20 → Lane :=
  blayer (wi 2) (wh 2) (b 2) (blayer (wi 1) (wh 1) (b 1) (blayer (wi 0) (wh 0) (b 0) A))

/-- A packed row's direction, and its row in that direction's weights. -/
def dirOf (r : Fin 256) : Fin 2 := ⟨r.val / 32 % 2, by omega⟩
def srcOf (r : Fin 256) : Fin 128 := ⟨32 * (r.val / 64) + r.val % 32, by omega⟩

/-- A layer's packed weights. -/
def packW (wi : Fin 2 → Fin 128 → Fin 64 → EReal) (wh : Fin 2 → Fin 128 → Fin 32 → EReal) (r : Fin 256) (k : Fin 192) : EReal :=
  if h : k.val < 64 then (if dirOf r = 0 then wi (dirOf r) (srcOf r) ⟨k.val, h⟩ else 0)
  else if h' : k.val < 128 then (if dirOf r = 1 then wi (dirOf r) (srcOf r) ⟨k.val - 64, by omega⟩ else 0)
  else if (k.val - 128) / 32 = (dirOf r).val then wh (dirOf r) (srcOf r) ⟨(k.val - 128) % 32, by omega⟩ else 0

/-- A layer's packed bias. -/
def packB (b : Fin 2 → Fin 128 → EReal) (r : Fin 256) : EReal := b (dirOf r) (srcOf r)

/-- Feature `q` of direction `d` among the 64. -/
def feat (d : Fin 2) (q : Fin 32) : Fin 64 := ⟨32 * d.val + q.val, by omega⟩

/-- The packed row of gate `e`, feature `u`. -/
def prow (e : Fin 4) (u : Fin 64) : Fin 256 := ⟨64 * e.val + u.val, by omega⟩

theorem dirOf_prow (e : Fin 4) (d : Fin 2) (q : Fin 32) : dirOf (prow e (feat d q)) = d := Fin.ext (by simp only [dirOf, prow, feat]; omega)
theorem srcOf_prow (e : Fin 4) (d : Fin 2) (q : Fin 32) : srcOf (prow e (feat d q)) = drow e q := Fin.ext (by simp only [srcOf, prow, feat, drow]; omega)

theorem sum_halves (f : Fin 64 → EReal) : ∑ k, f k = (∑ q : Fin 32, f (feat 0 q)) + ∑ q : Fin 32, f (feat 1 q) := by
  refine (Fin.sum_univ_add (a := 32) (b := 32) f).trans ?_
  refine congrArg₂ (· + ·) (Finset.sum_congr rfl fun q _ => congrArg f (Fin.ext ?_)) (Finset.sum_congr rfl fun q _ => congrArg f (Fin.ext ?_))
  · simp [feat]
  · simp [feat, Nat.add_comm]

section
variable (wi : Fin 2 → Fin 128 → Fin 64 → EReal) (wh : Fin 2 → Fin 128 → Fin 32 → EReal) (b : Fin 2 → Fin 128 → EReal)

theorem packW_in (r : Fin 256) (k : Fin 64) : packW wi wh r (colIn k) = if dirOf r = 0 then wi (dirOf r) (srcOf r) k else 0 := by
  unfold packW
  rw [dif_pos (show (colIn k).val < 64 from k.isLt)]
  rfl

theorem packW_back (r : Fin 256) (k : Fin 64) : packW wi wh r (colBack k) = if dirOf r = 1 then wi (dirOf r) (srcOf r) k else 0 := by
  unfold packW
  rw [dif_neg (show ¬(colBack k).val < 64 by simp only [colBack]; omega), dif_pos (show (colBack k).val < 128 by simp only [colBack]; omega)]
  have e : (⟨(colBack k).val - 64, by simp only [colBack]; omega⟩ : Fin 64) = k := Fin.ext (by simp only [colBack]; omega)
  rw [e]

theorem packW_hid (r : Fin 256) (d : Fin 2) (q : Fin 32) : packW wi wh r (colHid (feat d q)) = if dirOf r = d then wh (dirOf r) (srcOf r) q else 0 := by
  unfold packW
  have e : (⟨((colHid (feat d q)).val - 128) % 32, by omega⟩ : Fin 32) = q := Fin.ext (by simp only [colHid, feat]; omega)
  have e' : ((colHid (feat d q)).val - 128) / 32 = d.val := by simp only [colHid, feat]; omega
  rw [dif_neg (show ¬(colHid (feat d q)).val < 64 by simp only [colHid]; omega), dif_neg (show ¬(colHid (feat d q)).val < 128 by simp only [colHid]; omega), e, e']
  by_cases h : dirOf r = d
  · rw [if_pos h, if_pos (by rw [h])]
  · rw [if_neg h, if_neg (fun c => h (Fin.ext c.symm))]

/-- A packed gate is its direction's. -/
theorem gate_pack (d : Fin 2) (e : Fin 4) (q : Fin 32) (xa xb h : Fin 64 → EReal) :
    gate (packW wi wh) (packB b) xa xb h (prow e (feat d q))
      = dgate (wi d) (wh d) (b d) (if d = 0 then xa else xb) (fun k => h (feat d k)) (drow e q) := by
  unfold gate dgate
  simp only [sum_halves (fun k => h k * _), packW_in, packW_back, packW_hid, packB, dirOf_prow, srcOf_prow]
  fin_cases d <;> simp

/-- The carried pair of the packed recurrence is the two directions'. -/
theorem steps_pack (A : Fin 20 → Lane) : ∀ k, k ≤ 20 → ∀ (d : Fin 2) (n : Fin 1024) (q : Fin 32),
    (steps (packW wi wh) (packB b) A k).1 n (feat d q) = (dsteps (wi d) (wh d) (b d) (fun t => if d = 0 then A t else A t.rev) k).1 n q
      ∧ (steps (packW wi wh) (packB b) A k).2 n (feat d q) = (dsteps (wi d) (wh d) (b d) (fun t => if d = 0 then A t else A t.rev) k).2 n q
  | 0, _, _, _, _ => ⟨rfl, rfl⟩
  | k + 1, hk, d, n, q => by
    have ih := steps_pack A k (Nat.le_of_succ_le hk) d n
    have hk' : k < 20 := hk
    rw [steps_succ _ _ _ k hk', dsteps_succ _ _ _ _ k hk']
    have hr : (⟨19 - k, by omega⟩ : Fin 20) = Fin.rev ⟨k, hk'⟩ := Fin.ext (by simp only [Fin.val_rev]; omega)
    rw [hr]
    generalize steps (packW wi wh) (packB b) A k = p at ih ⊢
    generalize dsteps (wi d) (wh d) (b d) (fun t => if d = 0 then A t else A t.rev) k = s at ih ⊢
    have hg : ∀ (e : Fin 4) (q : Fin 32), gate (packW wi wh) (packB b) (A ⟨k, hk'⟩ n) (A (Fin.rev ⟨k, hk'⟩) n) (p.1 n) (prow e (feat d q))
        = dgate (wi d) (wh d) (b d) ((if d = 0 then A ⟨k, hk'⟩ else A (Fin.rev ⟨k, hk'⟩)) n) (s.1 n) (drow e q) := by
      intro e q
      rw [gate_pack]
      have h1 : (fun k => p.1 n (feat d k)) = s.1 n := funext fun k => (ih k).1
      have h2 : (if d = 0 then A ⟨k, hk'⟩ n else A (Fin.rev ⟨k, hk'⟩) n) = (if d = 0 then A ⟨k, hk'⟩ else A (Fin.rev ⟨k, hk'⟩)) n := by
        split <;> rfl
      rw [h1, h2]
    have ri : ∀ u, rowI u = prow 0 u := fun u => Fin.ext (by simp [rowI, prow])
    have rf : ∀ u, rowF u = prow 1 u := fun u => Fin.ext (by simp [rowF, prow])
    have rg : ∀ u, rowG u = prow 2 u := fun u => Fin.ext (by simp [rowG, prow])
    have ro : ∀ u, rowO u = prow 3 u := fun u => Fin.ext (by simp [rowO, prow])
    have hc : cell (gate (packW wi wh) (packB b) (A ⟨k, hk'⟩ n) (A (Fin.rev ⟨k, hk'⟩) n) (p.1 n)) (p.2 n) (feat d q)
        = dcell (dgate (wi d) (wh d) (b d) ((if d = 0 then A ⟨k, hk'⟩ else A (Fin.rev ⟨k, hk'⟩)) n) (s.1 n)) (s.2 n) q := by
      unfold cell dcell
      rw [rf, ri, rg, hg, hg, hg, (ih q).2]
    refine ⟨?_, hc⟩
    show out _ _ _ = dout _ _ _
    unfold out dout
    rw [hc, ro, hg]

/-- A layer on packed weights is the bidirectional layer. -/
theorem layer_pack (A : Fin 20 → Lane) : layer (packW wi wh) (packB b) A = blayer wi wh b A := by
  funext t n u
  unfold layer joined blayer sides
  by_cases h : u.val < 32
  · rw [if_pos h, dif_pos h]
    have e : u = feat 0 ⟨u.val, h⟩ := Fin.ext (by simp [feat])
    have s := (steps_pack wi wh b A (t.val + 1) (by omega) 0 n ⟨u.val, h⟩).1
    rw [← e] at s
    exact s
  · rw [if_neg h, dif_neg h]
    have e : u = feat 1 ⟨u.val - 32, by omega⟩ := Fin.ext (by simp [feat]; omega)
    have s := (steps_pack wi wh b A (20 - t.val) (by omega) 1 n ⟨u.val - 32, by omega⟩).1
    rw [← e] at s
    exact s

end

/-- The network on packed weights is the bidirectional network. -/
theorem net_pack (wi : Fin 3 → Fin 2 → Fin 128 → Fin 64 → EReal) (wh : Fin 3 → Fin 2 → Fin 128 → Fin 32 → EReal) (b : Fin 3 → Fin 2 → Fin 128 → EReal)
    (A : Fin 20 → Lane) : net (fun l => packW (wi l) (wh l)) (fun l => packB (b l)) A = bnet wi wh b A := by
  unfold net bnet
  simp only [layer_pack]

end Cert.Proof.LstmSpec

end
-- ==== Proof.LstmPack.lean ====
/-
  The packed weights and biases the host operations leave for the three-layer kernel: each scatter sets one block, so a
  layer's eight pairs of blocks fill the rows in order, and the stacked arrays hold the packed weights and biases of
  the arguments.
-/
module

public import proofs.«01_k».proof.Proof.LstmTwo
public import proofs.«01_k».proof.Proof.LstmHost
public import Idealize.ShloMosaic.Lib.Pointwise
public import Idealize.ShloMosaic.Lib.ValueIdx
public import Idealize.ShloMosaic.Lib.Routing.OpsOne

@[expose] public section

set_option maxRecDepth 16384

noncomputable section

namespace Cert.LstmIdeal.Own

open Cert.LstmIdeal Cert.LstmIdeal.Gen
open Idealize.ShloMosaic Idealize.ShloMosaic.StableHlo Idealize.ShloMosaic.TcCoe
open Idealize.ShloMosaic.Routing (resultIdx?_ix1 resultIdx?_ix2 start_pair scatter_set_hit scatter_set_miss)
open Cert.Proof.LstmSpec (packW packB dirOf srcOf)

/-- A block of rows and columns set into a matrix, read at an entry. -/
theorem put_in (x : FVec Ideal S256x192 .f32) (idx : IVec S2 32) (u : FVec Ideal S32x64 .f32) (r0 c0 : ℕ)
    (h0 : (idx (ix1 (0 : Fin 2))).toInt = r0) (h1 : (idx (ix1 (1 : Fin 2))).toInt = c0) (r : Fin 256) (k : Fin 192) :
    Host.scatter scatter_S256x192_S2_S32x64_01_n_01_0 (fun _ b => b) x idx u (ix2 r k)
      = if h : (r0 ≤ r.val ∧ r.val < r0 + 32) ∧ c0 ≤ k.val ∧ k.val < c0 + 64 then u (ix2 ⟨r.val - r0, by omega⟩ ⟨k.val - c0, by omega⟩)
        else x (ix2 r k) := by
  have lands : ∀ (p : Fin 32) (q : Fin 64), scatter_S256x192_S2_S32x64_01_n_01_0.resultIdx? (ix2 p q) idx = some (ix2 r k)
      ↔ r0 + p.val = r.val ∧ c0 + q.val = k.val := by
    intro p q
    have w0 : scatter_S256x192_S2_S32x64_01_n_01_0.window (ix2 p q) 0 = p.val := rfl
    have w1 : scatter_S256x192_S2_S32x64_01_n_01_0.window (ix2 p q) 1 = q.val := rfl
    have h0' : (idx (ValueIdx.ix1 (0 : Fin 2))).toInt = r0 := h0
    have h1' : (idx (ValueIdx.ix1 (1 : Fin 2))).toInt = c0 := h1
    refine (resultIdx?_ix2 scatter_S256x192_S2_S32x64_01_n_01_0 (ix2 p q) idx r k).trans ?_
    rw [start_pair scatter_S256x192_S2_S32x64_01_n_01_0 rfl rfl, start_pair scatter_S256x192_S2_S32x64_01_n_01_0 rfl rfl, w0, w1, h0', h1']
    omega
  split
  · rename_i h
    refine scatter_set_hit _ x idx u _ _ (fun j hj => ?_) (ix2 ⟨r.val - r0, by omega⟩ ⟨k.val - c0, by omega⟩) ((lands _ _).2 ⟨?_, ?_⟩)
    · rw [eq_ix2 j] at hj ⊢
      have e := (lands _ _).1 hj
      exact congrArg₂ (fun p q => u (ix2 p q)) (Fin.ext (show (j 0).val = r.val - r0 by omega)) (Fin.ext (show (j 1).val = k.val - c0 by omega))
    · show r0 + (r.val - r0) = r.val; omega
    · show c0 + (k.val - c0) = k.val; omega
  · rename_i h
    refine scatter_set_miss _ x idx u _ fun j hj => h ?_
    rw [eq_ix2 j] at hj
    have e := (lands _ _).1 hj
    have hp : (j 0).val < 32 := (j 0).isLt
    have hq : (j 1).val < 64 := (j 1).isLt
    omega

/-- The same with a narrower block. -/
theorem put_hid (x : FVec Ideal S256x192 .f32) (idx : IVec S2 32) (u : FVec Ideal S32x32 .f32) (r0 c0 : ℕ)
    (h0 : (idx (ix1 (0 : Fin 2))).toInt = r0) (h1 : (idx (ix1 (1 : Fin 2))).toInt = c0) (r : Fin 256) (k : Fin 192) :
    Host.scatter scatter_S256x192_S2_S32x32_01_n_01_0 (fun _ b => b) x idx u (ix2 r k)
      = if h : (r0 ≤ r.val ∧ r.val < r0 + 32) ∧ c0 ≤ k.val ∧ k.val < c0 + 32 then u (ix2 ⟨r.val - r0, by omega⟩ ⟨k.val - c0, by omega⟩)
        else x (ix2 r k) := by
  have lands : ∀ (p : Fin 32) (q : Fin 32), scatter_S256x192_S2_S32x32_01_n_01_0.resultIdx? (ix2 p q) idx = some (ix2 r k)
      ↔ r0 + p.val = r.val ∧ c0 + q.val = k.val := by
    intro p q
    have w0 : scatter_S256x192_S2_S32x32_01_n_01_0.window (ix2 p q) 0 = p.val := rfl
    have w1 : scatter_S256x192_S2_S32x32_01_n_01_0.window (ix2 p q) 1 = q.val := rfl
    have h0' : (idx (ValueIdx.ix1 (0 : Fin 2))).toInt = r0 := h0
    have h1' : (idx (ValueIdx.ix1 (1 : Fin 2))).toInt = c0 := h1
    refine (resultIdx?_ix2 scatter_S256x192_S2_S32x32_01_n_01_0 (ix2 p q) idx r k).trans ?_
    rw [start_pair scatter_S256x192_S2_S32x32_01_n_01_0 rfl rfl, start_pair scatter_S256x192_S2_S32x32_01_n_01_0 rfl rfl, w0, w1, h0', h1']
    omega
  split
  · rename_i h
    refine scatter_set_hit _ x idx u _ _ (fun j hj => ?_) (ix2 ⟨r.val - r0, by omega⟩ ⟨k.val - c0, by omega⟩) ((lands _ _).2 ⟨?_, ?_⟩)
    · rw [eq_ix2 j] at hj ⊢
      have e := (lands _ _).1 hj
      exact congrArg₂ (fun p q => u (ix2 p q)) (Fin.ext (show (j 0).val = r.val - r0 by omega)) (Fin.ext (show (j 1).val = k.val - c0 by omega))
    · show r0 + (r.val - r0) = r.val; omega
    · show c0 + (k.val - c0) = k.val; omega
  · rename_i h
    refine scatter_set_miss _ x idx u _ fun j hj => h ?_
    rw [eq_ix2 j] at hj
    have e := (lands _ _).1 hj
    have hp : (j 0).val < 32 := (j 0).isLt
    have hq : (j 1).val < 32 := (j 1).isLt
    omega

/-- A stretch of entries set into a vector, read at an entry. -/
theorem put_bias (x : FVec Ideal S256 .f32) (idx : IVec S1 32) (u : FVec Ideal S32 .f32) (r0 : ℕ)
    (h0 : (idx (ix1 (0 : Fin 1))).toInt = r0) (r : Fin 256) :
    Host.scatter scatter_S256_S1_S32_0_n_0_0 (fun _ b => b) x idx u (ix1 r)
      = if h : r0 ≤ r.val ∧ r.val < r0 + 32 then u (ix1 ⟨r.val - r0, by omega⟩) else x (ix1 r) := by
  have lands : ∀ (p : Fin 32), scatter_S256_S1_S32_0_n_0_0.resultIdx? (ix1 p) idx = some (ix1 r) ↔ r0 + p.val = r.val := by
    intro p
    have w0 : scatter_S256_S1_S32_0_n_0_0.window (ix1 p) 0 = p.val := rfl
    have s0 : scatter_S256_S1_S32_0_n_0_0.start (ix1 p) idx 0 = r0 := by
      refine Eq.trans ?_ h0
      refine congrArg (fun i => (idx i).toInt) (funext fun a => ?_)
      match a with
      | ⟨0, _⟩ => exact Subsingleton.elim (α := Fin 1) _ _
    refine (resultIdx?_ix1 scatter_S256_S1_S32_0_n_0_0 (ix1 p) idx r).trans ?_
    rw [s0, w0]
    omega
  split
  · rename_i h
    refine scatter_set_hit _ x idx u _ _ (fun j hj => ?_) (ix1 ⟨r.val - r0, by omega⟩) ((lands _).2 ?_)
    · rw [eq_ix1 j] at hj ⊢
      have e := (lands _).1 hj
      exact congrArg (fun p => u (ix1 p)) (Fin.ext (show (j 0).val = r.val - r0 by omega))
    · show r0 + (r.val - r0) = r.val; omega
  · rename_i h
    refine scatter_set_miss _ x idx u _ fun j hj => h ?_
    rw [eq_ix1 j] at hj
    have e := (lands _).1 hj
    have hp : (j 0).val < 32 := (j 0).isLt
    omega

/-- The arguments' entries as functions of their indices. -/
def wiOf (x : FVec Ideal S3x2x128x64 .f32) (l : Fin 3) (d : Fin 2) (j : Fin 128) (k : Fin 64) : EReal := x (ix4 l d j k)
def whOf (x : FVec Ideal S3x2x128x32 .f32) (l : Fin 3) (d : Fin 2) (j : Fin 128) (k : Fin 32) : EReal := x (ix4 l d j k)
def bsOf (x y : FVec Ideal S3x2x128 .f32) (l : Fin 3) (d : Fin 2) (j : Fin 128) : EReal := x (ix3 l d j) + y (ix3 l d j)

/-- What the blocks of the rows before the `s`-th 32 make. -/
def PartW (x1 : FVec Ideal S3x2x128x64 .f32) (x2 : FVec Ideal S3x2x128x32 .f32) (l : Fin 3) (s : ℕ) (y : FVec Ideal S256x192 .f32) : Prop :=
  ∀ (r : Fin 256) (k : Fin 192), y (ix2 r k) = if r.val / 32 < s then packW (wiOf x1 l) (whOf x2 l) r k else 0

def PartB (x3 x4 : FVec Ideal S3x2x128 .f32) (l : Fin 3) (s : ℕ) (y : FVec Ideal S256 .f32) : Prop :=
  ∀ r : Fin 256, y (ix1 r) = if r.val / 32 < s then packB (bsOf x3 x4 l) r else 0

/-- One more pair of blocks. -/
theorem next_w (x1 : FVec Ideal S3x2x128x64 .f32) (x2 : FVec Ideal S3x2x128x32 .f32) (l : Fin 3) (g : Fin 4) (d : Fin 2) (s R G CI CH : ℕ)
    (hs : s = 2 * g.val + d.val) (hR : R = 32 * s) (hG : G = 32 * g.val) (hCI : CI = 64 * d.val) (hCH : CH = 128 + 32 * d.val)
    (y z : FVec Ideal S256x192 .f32) (hy : PartW x1 x2 l s y)
    (hz : ∀ (r : Fin 256) (k : Fin 192), z (ix2 r k)
      = if h : (R ≤ r.val ∧ r.val < R + 32) ∧ CH ≤ k.val ∧ k.val < CH + 32 then x2 (ix4 l d ⟨G + (r.val - R), by omega⟩ ⟨k.val - CH, by omega⟩)
        else if h : (R ≤ r.val ∧ r.val < R + 32) ∧ CI ≤ k.val ∧ k.val < CI + 64 then x1 (ix4 l d ⟨G + (r.val - R), by omega⟩ ⟨k.val - CI, by omega⟩)
        else y (ix2 r k)) : PartW x1 x2 l (s + 1) z := by
  intro r k
  have hg := g.isLt
  have hd := d.isLt
  rw [hz, hy]
  by_cases hr : r.val / 32 = s
  · have e1 : dirOf r = d := Fin.ext (by simp only [dirOf]; omega)
    have e2 : srcOf r = ⟨G + (r.val - R), by omega⟩ := Fin.ext (by simp only [srcOf]; omega)
    rw [if_pos (show r.val / 32 < s + 1 by omega), if_neg (show ¬r.val / 32 < s by omega)]
    unfold packW wiOf whOf
    rw [e1, e2]
    by_cases k1 : k.val < 64
    · rw [dif_pos k1, dif_neg (by omega)]
      by_cases d0 : d = 0
      · have v0 : d.val = 0 := by rw [d0]; rfl
        rw [if_pos d0, dif_pos (by omega)]
        exact congrArg (fun q => x1 (ix4 l d _ q)) (Fin.ext (show k.val - CI = k.val by omega))
      · have v0 : d.val ≠ 0 := fun q => d0 (Fin.ext q)
        rw [if_neg d0, dif_neg (by omega)]
    · rw [dif_neg k1]
      by_cases k2 : k.val < 128
      · rw [dif_pos k2, dif_neg (by omega)]
        by_cases d1 : d = 1
        · have v1 : d.val = 1 := by rw [d1]; rfl
          rw [if_pos d1, dif_pos (by omega)]
          exact congrArg (fun q => x1 (ix4 l d _ q)) (Fin.ext (show k.val - CI = k.val - 64 by omega))
        · have v1 : d.val ≠ 1 := fun q => d1 (Fin.ext q)
          rw [if_neg d1, dif_neg (by omega)]
      · rw [dif_neg k2]
        by_cases k3 : (k.val - 128) / 32 = d.val
        · rw [if_pos k3, dif_pos (by omega)]
          exact congrArg (fun q => x2 (ix4 l d _ q)) (Fin.ext (show k.val - CH = (k.val - 128) % 32 by omega))
        · rw [if_neg k3, dif_neg (by omega), dif_neg (by omega)]
  · rw [dif_neg (by omega), dif_neg (by omega)]
    by_cases hl : r.val / 32 < s
    · rw [if_pos hl, if_pos (by omega)]
    · rw [if_neg hl, if_neg (by omega)]

/-- One more stretch of biases. -/
theorem next_b (x3 x4 : FVec Ideal S3x2x128 .f32) (l : Fin 3) (g : Fin 4) (d : Fin 2) (s R G : ℕ)
    (hs : s = 2 * g.val + d.val) (hR : R = 32 * s) (hG : G = 32 * g.val) (y z : FVec Ideal S256 .f32) (hy : PartB x3 x4 l s y)
    (hz : ∀ r : Fin 256, z (ix1 r) = if h : R ≤ r.val ∧ r.val < R + 32
        then bsOf x3 x4 l d ⟨G + (r.val - R), by omega⟩ else y (ix1 r)) :
    PartB x3 x4 l (s + 1) z := by
  intro r
  have hg := g.isLt
  have hd := d.isLt
  rw [hz, hy]
  by_cases hr : r.val / 32 = s
  · have e1 : dirOf r = d := Fin.ext (by simp only [dirOf]; omega)
    have e2 : srcOf r = ⟨G + (r.val - R), by omega⟩ := Fin.ext (by simp only [srcOf]; omega)
    rw [if_pos (show r.val / 32 < s + 1 by omega), dif_pos (by omega)]
    unfold packB
    rw [e1, e2]
  · rw [dif_neg (by omega)]
    by_cases hl : r.val / 32 < s
    · rw [if_pos hl, if_pos (by omega)]
    · rw [if_neg hl, if_neg (by omega)]

section
variable (X : Valuation τ sig (Elt Ideal))

set_option maxHeartbeats 2000000 in
theorem zero_w0 (r : Fin 256) (k : Fin 192) : after (span 0 4) X (Proc.devRef .tc main_v0) (ix2 r k) = (0 : EReal) := by
  dsimp only [span, hostOps0, List.drop, List.take]
  after_results_simp
  pointwise

set_option maxHeartbeats 2000000 in
theorem zero_b0 (r : Fin 256) : after (span 0 4) X (Proc.devRef .tc main_v1) (ix1 r) = (0 : EReal) := by
  dsimp only [span, hostOps0, List.drop, List.take]
  after_results_simp
  pointwise

set_option maxHeartbeats 2000000 in
theorem set_w0_0 (r : Fin 256) (k : Fin 192) : after (span 4 28) X (Proc.devRef .tc main_v15) (ix2 r k)
    = if h : (0 ≤ r.val ∧ r.val < 0 + 32) ∧ 128 ≤ k.val ∧ k.val < 128 + 32 then X (Proc.devRef .tc main_arg2) (ix4 0 0 ⟨0 + (r.val - 0), by omega⟩ ⟨k.val - 128, by omega⟩)
      else if h : (0 ≤ r.val ∧ r.val < 0 + 32) ∧ 0 ≤ k.val ∧ k.val < 0 + 64 then X (Proc.devRef .tc main_arg1) (ix4 0 0 ⟨0 + (r.val - 0), by omega⟩ ⟨k.val - 0, by omega⟩)
      else X (Proc.devRef .tc main_v0) (ix2 r k) := by
  dsimp only [span, hostOps0, List.drop, List.take]
  after_results_simp
  refine (put_hid _ _ _ 0 128 (by pointwise; rfl) (by pointwise; rfl) r k).trans ?_
  split
  · pointwise
  · refine (put_in _ _ _ 0 0 (by pointwise; rfl) (by pointwise; rfl) r k).trans ?_
    split
    · pointwise
    · rfl

set_option maxHeartbeats 2000000 in
theorem set_b0_0 (r : Fin 256) : after (span 4 28) X (Proc.devRef .tc main_v24) (ix1 r)
    = if h : 0 ≤ r.val ∧ r.val < 0 + 32 then bsOf (X (Proc.devRef .tc main_arg3)) (X (Proc.devRef .tc main_arg4)) 0 0 ⟨0 + (r.val - 0), by omega⟩
      else X (Proc.devRef .tc main_v1) (ix1 r) := by
  dsimp only [span, hostOps0, List.drop, List.take]
  after_results_simp
  refine (put_bias _ _ _ 0 (by pointwise; rfl) r).trans ?_
  split
  · unfold bsOf
    pointwise
  · rfl

set_option maxHeartbeats 2000000 in
theorem set_w0_1 (r : Fin 256) (k : Fin 192) : after (span 32 28) X (Proc.devRef .tc main_v38) (ix2 r k)
    = if h : (32 ≤ r.val ∧ r.val < 32 + 32) ∧ 160 ≤ k.val ∧ k.val < 160 + 32 then X (Proc.devRef .tc main_arg2) (ix4 0 1 ⟨0 + (r.val - 32), by omega⟩ ⟨k.val - 160, by omega⟩)
      else if h : (32 ≤ r.val ∧ r.val < 32 + 32) ∧ 64 ≤ k.val ∧ k.val < 64 + 64 then X (Proc.devRef .tc main_arg1) (ix4 0 1 ⟨0 + (r.val - 32), by omega⟩ ⟨k.val - 64, by omega⟩)
      else X (Proc.devRef .tc main_v15) (ix2 r k) := by
  dsimp only [span, hostOps0, List.drop, List.take]
  after_results_simp
  refine (put_hid _ _ _ 32 160 (by pointwise; rfl) (by pointwise; rfl) r k).trans ?_
  split
  · pointwise
  · refine (put_in _ _ _ 32 64 (by pointwise; rfl) (by pointwise; rfl) r k).trans ?_
    split
    · pointwise
    · rfl

set_option maxHeartbeats 2000000 in
theorem set_b0_1 (r : Fin 256) : after (span 32 28) X (Proc.devRef .tc main_v47) (ix1 r)
    = if h : 32 ≤ r.val ∧ r.val < 32 + 32 then bsOf (X (Proc.devRef .tc main_arg3)) (X (Proc.devRef .tc main_arg4)) 0 1 ⟨0 + (r.val - 32), by omega⟩
      else X (Proc.devRef .tc main_v24) (ix1 r) := by
  dsimp only [span, hostOps0, List.drop, List.take]
  after_results_simp
  refine (put_bias _ _ _ 32 (by pointwise; rfl) r).trans ?_
  split
  · unfold bsOf
    pointwise
  · rfl

set_option maxHeartbeats 2000000 in
theorem set_w0_2 (r : Fin 256) (k : Fin 192) : after (span 60 28) X (Proc.devRef .tc main_v61) (ix2 r k)
    = if h : (64 ≤ r.val ∧ r.val < 64 + 32) ∧ 128 ≤ k.val ∧ k.val < 128 + 32 then X (Proc.devRef .tc main_arg2) (ix4 0 0 ⟨32 + (r.val - 64), by omega⟩ ⟨k.val - 128, by omega⟩)
      else if h : (64 ≤ r.val ∧ r.val < 64 + 32) ∧ 0 ≤ k.val ∧ k.val < 0 + 64 then X (Proc.devRef .tc main_arg1) (ix4 0 0 ⟨32 + (r.val - 64), by omega⟩ ⟨k.val - 0, by omega⟩)
      else X (Proc.devRef .tc main_v38) (ix2 r k) := by
  dsimp only [span, hostOps0, List.drop, List.take]
  after_results_simp
  refine (put_hid _ _ _ 64 128 (by pointwise; rfl) (by pointwise; rfl) r k).trans ?_
  split
  · pointwise
  · refine (put_in _ _ _ 64 0 (by pointwise; rfl) (by pointwise; rfl) r k).trans ?_
    split
    · pointwise
    · rfl

set_option maxHeartbeats 2000000 in
theorem set_b0_2 (r : Fin 256) : after (span 60 28) X (Proc.devRef .tc main_v70) (ix1 r)
    = if h : 64 ≤ r.val ∧ r.val < 64 + 32 then bsOf (X (Proc.devRef .tc main_arg3)) (X (Proc.devRef .tc main_arg4)) 0 0 ⟨32 + (r.val - 64), by omega⟩
      else X (Proc.devRef .tc main_v47) (ix1 r) := by
  dsimp only [span, hostOps0, List.drop, List.take]
  after_results_simp
  refine (put_bias _ _ _ 64 (by pointwise; rfl) r).trans ?_
  split
  · unfold bsOf
    pointwise
  · rfl

set_option maxHeartbeats 2000000 in
theorem set_w0_3 (r : Fin 256) (k : Fin 192) : after (span 88 28) X (Proc.devRef .tc main_v84) (ix2 r k)
    = if h : (96 ≤ r.val ∧ r.val < 96 + 32) ∧ 160 ≤ k.val ∧ k.val < 160 + 32 then X (Proc.devRef .tc main_arg2) (ix4 0 1 ⟨32 + (r.val - 96), by omega⟩ ⟨k.val - 160, by omega⟩)
      else if h : (96 ≤ r.val ∧ r.val < 96 + 32) ∧ 64 ≤ k.val ∧ k.val < 64 + 64 then X (Proc.devRef .tc main_arg1) (ix4 0 1 ⟨32 + (r.val - 96), by omega⟩ ⟨k.val - 64, by omega⟩)
      else X (Proc.devRef .tc main_v61) (ix2 r k) := by
  dsimp only [span, hostOps0, List.drop, List.take]
  after_results_simp
  refine (put_hid _ _ _ 96 160 (by pointwise; rfl) (by pointwise; rfl) r k).trans ?_
  split
  · pointwise
  · refine (put_in _ _ _ 96 64 (by pointwise; rfl) (by pointwise; rfl) r k).trans ?_
    split
    · pointwise
    · rfl

set_option maxHeartbeats 2000000 in
theorem set_b0_3 (r : Fin 256) : after (span 88 28) X (Proc.devRef .tc main_v93) (ix1 r)
    = if h : 96 ≤ r.val ∧ r.val < 96 + 32 then bsOf (X (Proc.devRef .tc main_arg3)) (X (Proc.devRef .tc main_arg4)) 0 1 ⟨32 + (r.val - 96), by omega⟩
      else X (Proc.devRef .tc main_v70) (ix1 r) := by
  dsimp only [span, hostOps0, List.drop, List.take]
  after_results_simp
  refine (put_bias _ _ _ 96 (by pointwise; rfl) r).trans ?_
  split
  · unfold bsOf
    pointwise
  · rfl

set_option maxHeartbeats 2000000 in
theorem set_w0_4 (r : Fin 256) (k : Fin 192) : after (span 116 28) X (Proc.devRef .tc main_v107) (ix2 r k)
    = if h : (128 ≤ r.val ∧ r.val < 128 + 32) ∧ 128 ≤ k.val ∧ k.val < 128 + 32 then X (Proc.devRef .tc main_arg2) (ix4 0 0 ⟨64 + (r.val - 128), by omega⟩ ⟨k.val - 128, by omega⟩)
      else if h : (128 ≤ r.val ∧ r.val < 128 + 32) ∧ 0 ≤ k.val ∧ k.val < 0 + 64 then X (Proc.devRef .tc main_arg1) (ix4 0 0 ⟨64 + (r.val - 128), by omega⟩ ⟨k.val - 0, by omega⟩)
      else X (Proc.devRef .tc main_v84) (ix2 r k) := by
  dsimp only [span, hostOps0, List.drop, List.take]
  after_results_simp
  refine (put_hid _ _ _ 128 128 (by pointwise; rfl) (by pointwise; rfl) r k).trans ?_
  split
  · pointwise
  · refine (put_in _ _ _ 128 0 (by pointwise; rfl) (by pointwise; rfl) r k).trans ?_
    split
    · pointwise
    · rfl

set_option maxHeartbeats 2000000 in
theorem set_b0_4 (r : Fin 256) : after (span 116 28) X (Proc.devRef .tc main_v116) (ix1 r)
    = if h : 128 ≤ r.val ∧ r.val < 128 + 32 then bsOf (X (Proc.devRef .tc main_arg3)) (X (Proc.devRef .tc main_arg4)) 0 0 ⟨64 + (r.val - 128), by omega⟩
      else X (Proc.devRef .tc main_v93) (ix1 r) := by
  dsimp only [span, hostOps0, List.drop, List.take]
  after_results_simp
  refine (put_bias _ _ _ 128 (by pointwise; rfl) r).trans ?_
  split
  · unfold bsOf
    pointwise
  · rfl

set_option maxHeartbeats 2000000 in
theorem set_w0_5 (r : Fin 256) (k : Fin 192) : after (span 144 28) X (Proc.devRef .tc main_v130) (ix2 r k)
    = if h : (160 ≤ r.val ∧ r.val < 160 + 32) ∧ 160 ≤ k.val ∧ k.val < 160 + 32 then X (Proc.devRef .tc main_arg2) (ix4 0 1 ⟨64 + (r.val - 160), by omega⟩ ⟨k.val - 160, by omega⟩)
      else if h : (160 ≤ r.val ∧ r.val < 160 + 32) ∧ 64 ≤ k.val ∧ k.val < 64 + 64 then X (Proc.devRef .tc main_arg1) (ix4 0 1 ⟨64 + (r.val - 160), by omega⟩ ⟨k.val - 64, by omega⟩)
      else X (Proc.devRef .tc main_v107) (ix2 r k) := by
  dsimp only [span, hostOps0, List.drop, List.take]
  after_results_simp
  refine (put_hid _ _ _ 160 160 (by pointwise; rfl) (by pointwise; rfl) r k).trans ?_
  split
  · pointwise
  · refine (put_in _ _ _ 160 64 (by pointwise; rfl) (by pointwise; rfl) r k).trans ?_
    split
    · pointwise
    · rfl

set_option maxHeartbeats 2000000 in
theorem set_b0_5 (r : Fin 256) : after (span 144 28) X (Proc.devRef .tc main_v139) (ix1 r)
    = if h : 160 ≤ r.val ∧ r.val < 160 + 32 then bsOf (X (Proc.devRef .tc main_arg3)) (X (Proc.devRef .tc main_arg4)) 0 1 ⟨64 + (r.val - 160), by omega⟩
      else X (Proc.devRef .tc main_v116) (ix1 r) := by
  dsimp only [span, hostOps0, List.drop, List.take]
  after_results_simp
  refine (put_bias _ _ _ 160 (by pointwise; rfl) r).trans ?_
  split
  · unfold bsOf
    pointwise
  · rfl

set_option maxHeartbeats 2000000 in
theorem set_w0_6 (r : Fin 256) (k : Fin 192) : after (span 172 28) X (Proc.devRef .tc main_v153) (ix2 r k)
    = if h : (192 ≤ r.val ∧ r.val < 192 + 32) ∧ 128 ≤ k.val ∧ k.val < 128 + 32 then X (Proc.devRef .tc main_arg2) (ix4 0 0 ⟨96 + (r.val - 192), by omega⟩ ⟨k.val - 128, by omega⟩)
      else if h : (192 ≤ r.val ∧ r.val < 192 + 32) ∧ 0 ≤ k.val ∧ k.val < 0 + 64 then X (Proc.devRef .tc main_arg1) (ix4 0 0 ⟨96 + (r.val - 192), by omega⟩ ⟨k.val - 0, by omega⟩)
      else X (Proc.devRef .tc main_v130) (ix2 r k) := by
  dsimp only [span, hostOps0, List.drop, List.take]
  after_results_simp
  refine (put_hid _ _ _ 192 128 (by pointwise; rfl) (by pointwise; rfl) r k).trans ?_
  split
  · pointwise
  · refine (put_in _ _ _ 192 0 (by pointwise; rfl) (by pointwise; rfl) r k).trans ?_
    split
    · pointwise
    · rfl

set_option maxHeartbeats 2000000 in
theorem set_b0_6 (r : Fin 256) : after (span 172 28) X (Proc.devRef .tc main_v162) (ix1 r)
    = if h : 192 ≤ r.val ∧ r.val < 192 + 32 then bsOf (X (Proc.devRef .tc main_arg3)) (X (Proc.devRef .tc main_arg4)) 0 0 ⟨96 + (r.val - 192), by omega⟩
      else X (Proc.devRef .tc main_v139) (ix1 r) := by
  dsimp only [span, hostOps0, List.drop, List.take]
  after_results_simp
  refine (put_bias _ _ _ 192 (by pointwise; rfl) r).trans ?_
  split
  · unfold bsOf
    pointwise
  · rfl

set_option maxHeartbeats 2000000 in
theorem set_w0_7 (r : Fin 256) (k : Fin 192) : after (span 200 28) X (Proc.devRef .tc main_v176) (ix2 r k)
    = if h : (224 ≤ r.val ∧ r.val < 224 + 32) ∧ 160 ≤ k.val ∧ k.val < 160 + 32 then X (Proc.devRef .tc main_arg2) (ix4 0 1 ⟨96 + (r.val - 224), by omega⟩ ⟨k.val - 160, by omega⟩)
      else if h : (224 ≤ r.val ∧ r.val < 224 + 32) ∧ 64 ≤ k.val ∧ k.val < 64 + 64 then X (Proc.devRef .tc main_arg1) (ix4 0 1 ⟨96 + (r.val - 224), by omega⟩ ⟨k.val - 64, by omega⟩)
      else X (Proc.devRef .tc main_v153) (ix2 r k) := by
  dsimp only [span, hostOps0, List.drop, List.take]
  after_results_simp
  refine (put_hid _ _ _ 224 160 (by pointwise; rfl) (by pointwise; rfl) r k).trans ?_
  split
  · pointwise
  · refine (put_in _ _ _ 224 64 (by pointwise; rfl) (by pointwise; rfl) r k).trans ?_
    split
    · pointwise
    · rfl

set_option maxHeartbeats 2000000 in
theorem set_b0_7 (r : Fin 256) : after (span 200 28) X (Proc.devRef .tc main_v185) (ix1 r)
    = if h : 224 ≤ r.val ∧ r.val < 224 + 32 then bsOf (X (Proc.devRef .tc main_arg3)) (X (Proc.devRef .tc main_arg4)) 0 1 ⟨96 + (r.val - 224), by omega⟩
      else X (Proc.devRef .tc main_v162) (ix1 r) := by
  dsimp only [span, hostOps0, List.drop, List.take]
  after_results_simp
  refine (put_bias _ _ _ 224 (by pointwise; rfl) r).trans ?_
  split
  · unfold bsOf
    pointwise
  · rfl

set_option maxHeartbeats 2000000 in
theorem col_b0 (r : Fin 256) : after (span 228 1) X (Proc.devRef .tc main_v186) (ix2 r 0) = X (Proc.devRef .tc main_v185) (ix1 r) := by
  dsimp only [span, hostOps0, List.drop, List.take]
  after_results_simp
  pointwise

set_option maxHeartbeats 2000000 in
theorem zero_w1 (r : Fin 256) (k : Fin 192) : after (span 229 4) X (Proc.devRef .tc main_v187) (ix2 r k) = (0 : EReal) := by
  dsimp only [span, hostOps0, List.drop, List.take]
  after_results_simp
  pointwise

set_option maxHeartbeats 2000000 in
theorem zero_b1 (r : Fin 256) : after (span 229 4) X (Proc.devRef .tc main_v188) (ix1 r) = (0 : EReal) := by
  dsimp only [span, hostOps0, List.drop, List.take]
  after_results_simp
  pointwise

set_option maxHeartbeats 2000000 in
theorem set_w1_0 (r : Fin 256) (k : Fin 192) : after (span 233 28) X (Proc.devRef .tc main_v202) (ix2 r k)
    = if h : (0 ≤ r.val ∧ r.val < 0 + 32) ∧ 128 ≤ k.val ∧ k.val < 128 + 32 then X (Proc.devRef .tc main_arg2) (ix4 1 0 ⟨0 + (r.val - 0), by omega⟩ ⟨k.val - 128, by omega⟩)
      else if h : (0 ≤ r.val ∧ r.val < 0 + 32) ∧ 0 ≤ k.val ∧ k.val < 0 + 64 then X (Proc.devRef .tc main_arg1) (ix4 1 0 ⟨0 + (r.val - 0), by omega⟩ ⟨k.val - 0, by omega⟩)
      else X (Proc.devRef .tc main_v187) (ix2 r k) := by
  dsimp only [span, hostOps0, List.drop, List.take]
  after_results_simp
  refine (put_hid _ _ _ 0 128 (by pointwise; rfl) (by pointwise; rfl) r k).trans ?_
  split
  · pointwise
  · refine (put_in _ _ _ 0 0 (by pointwise; rfl) (by pointwise; rfl) r k).trans ?_
    split
    · pointwise
    · rfl

set_option maxHeartbeats 2000000 in
theorem set_b1_0 (r : Fin 256) : after (span 233 28) X (Proc.devRef .tc main_v211) (ix1 r)
    = if h : 0 ≤ r.val ∧ r.val < 0 + 32 then bsOf (X (Proc.devRef .tc main_arg3)) (X (Proc.devRef .tc main_arg4)) 1 0 ⟨0 + (r.val - 0), by omega⟩
      else X (Proc.devRef .tc main_v188) (ix1 r) := by
  dsimp only [span, hostOps0, List.drop, List.take]
  after_results_simp
  refine (put_bias _ _ _ 0 (by pointwise; rfl) r).trans ?_
  split
  · unfold bsOf
    pointwise
  · rfl

set_option maxHeartbeats 2000000 in
theorem set_w1_1 (r : Fin 256) (k : Fin 192) : after (span 261 28) X (Proc.devRef .tc main_v225) (ix2 r k)
    = if h : (32 ≤ r.val ∧ r.val < 32 + 32) ∧ 160 ≤ k.val ∧ k.val < 160 + 32 then X (Proc.devRef .tc main_arg2) (ix4 1 1 ⟨0 + (r.val - 32), by omega⟩ ⟨k.val - 160, by omega⟩)
      else if h : (32 ≤ r.val ∧ r.val < 32 + 32) ∧ 64 ≤ k.val ∧ k.val < 64 + 64 then X (Proc.devRef .tc main_arg1) (ix4 1 1 ⟨0 + (r.val - 32), by omega⟩ ⟨k.val - 64, by omega⟩)
      else X (Proc.devRef .tc main_v202) (ix2 r k) := by
  dsimp only [span, hostOps0, List.drop, List.take]
  after_results_simp
  refine (put_hid _ _ _ 32 160 (by pointwise; rfl) (by pointwise; rfl) r k).trans ?_
  split
  · pointwise
  · refine (put_in _ _ _ 32 64 (by pointwise; rfl) (by pointwise; rfl) r k).trans ?_
    split
    · pointwise
    · rfl

set_option maxHeartbeats 2000000 in
theorem set_b1_1 (r : Fin 256) : after (span 261 28) X (Proc.devRef .tc main_v234) (ix1 r)
    = if h : 32 ≤ r.val ∧ r.val < 32 + 32 then bsOf (X (Proc.devRef .tc main_arg3)) (X (Proc.devRef .tc main_arg4)) 1 1 ⟨0 + (r.val - 32), by omega⟩
      else X (Proc.devRef .tc main_v211) (ix1 r) := by
  dsimp only [span, hostOps0, List.drop, List.take]
  after_results_simp
  refine (put_bias _ _ _ 32 (by pointwise; rfl) r).trans ?_
  split
  · unfold bsOf
    pointwise
  · rfl

set_option maxHeartbeats 2000000 in
theorem set_w1_2 (r : Fin 256) (k : Fin 192) : after (span 289 28) X (Proc.devRef .tc main_v248) (ix2 r k)
    = if h : (64 ≤ r.val ∧ r.val < 64 + 32) ∧ 128 ≤ k.val ∧ k.val < 128 + 32 then X (Proc.devRef .tc main_arg2) (ix4 1 0 ⟨32 + (r.val - 64), by omega⟩ ⟨k.val - 128, by omega⟩)
      else if h : (64 ≤ r.val ∧ r.val < 64 + 32) ∧ 0 ≤ k.val ∧ k.val < 0 + 64 then X (Proc.devRef .tc main_arg1) (ix4 1 0 ⟨32 + (r.val - 64), by omega⟩ ⟨k.val - 0, by omega⟩)
      else X (Proc.devRef .tc main_v225) (ix2 r k) := by
  dsimp only [span, hostOps0, List.drop, List.take]
  after_results_simp
  refine (put_hid _ _ _ 64 128 (by pointwise; rfl) (by pointwise; rfl) r k).trans ?_
  split
  · pointwise
  · refine (put_in _ _ _ 64 0 (by pointwise; rfl) (by pointwise; rfl) r k).trans ?_
    split
    · pointwise
    · rfl

set_option maxHeartbeats 2000000 in
theorem set_b1_2 (r : Fin 256) : after (span 289 28) X (Proc.devRef .tc main_v257) (ix1 r)
    = if h : 64 ≤ r.val ∧ r.val < 64 + 32 then bsOf (X (Proc.devRef .tc main_arg3)) (X (Proc.devRef .tc main_arg4)) 1 0 ⟨32 + (r.val - 64), by omega⟩
      else X (Proc.devRef .tc main_v234) (ix1 r) := by
  dsimp only [span, hostOps0, List.drop, List.take]
  after_results_simp
  refine (put_bias _ _ _ 64 (by pointwise; rfl) r).trans ?_
  split
  · unfold bsOf
    pointwise
  · rfl

set_option maxHeartbeats 2000000 in
theorem set_w1_3 (r : Fin 256) (k : Fin 192) : after (span 317 28) X (Proc.devRef .tc main_v271) (ix2 r k)
    = if h : (96 ≤ r.val ∧ r.val < 96 + 32) ∧ 160 ≤ k.val ∧ k.val < 160 + 32 then X (Proc.devRef .tc main_arg2) (ix4 1 1 ⟨32 + (r.val - 96), by omega⟩ ⟨k.val - 160, by omega⟩)
      else if h : (96 ≤ r.val ∧ r.val < 96 + 32) ∧ 64 ≤ k.val ∧ k.val < 64 + 64 then X (Proc.devRef .tc main_arg1) (ix4 1 1 ⟨32 + (r.val - 96), by omega⟩ ⟨k.val - 64, by omega⟩)
      else X (Proc.devRef .tc main_v248) (ix2 r k) := by
  dsimp only [span, hostOps0, List.drop, List.take]
  after_results_simp
  refine (put_hid _ _ _ 96 160 (by pointwise; rfl) (by pointwise; rfl) r k).trans ?_
  split
  · pointwise
  · refine (put_in _ _ _ 96 64 (by pointwise; rfl) (by pointwise; rfl) r k).trans ?_
    split
    · pointwise
    · rfl

set_option maxHeartbeats 2000000 in
theorem set_b1_3 (r : Fin 256) : after (span 317 28) X (Proc.devRef .tc main_v280) (ix1 r)
    = if h : 96 ≤ r.val ∧ r.val < 96 + 32 then bsOf (X (Proc.devRef .tc main_arg3)) (X (Proc.devRef .tc main_arg4)) 1 1 ⟨32 + (r.val - 96), by omega⟩
      else X (Proc.devRef .tc main_v257) (ix1 r) := by
  dsimp only [span, hostOps0, List.drop, List.take]
  after_results_simp
  refine (put_bias _ _ _ 96 (by pointwise; rfl) r).trans ?_
  split
  · unfold bsOf
    pointwise
  · rfl

set_option maxHeartbeats 2000000 in
theorem set_w1_4 (r : Fin 256) (k : Fin 192) : after (span 345 28) X (Proc.devRef .tc main_v294) (ix2 r k)
    = if h : (128 ≤ r.val ∧ r.val < 128 + 32) ∧ 128 ≤ k.val ∧ k.val < 128 + 32 then X (Proc.devRef .tc main_arg2) (ix4 1 0 ⟨64 + (r.val - 128), by omega⟩ ⟨k.val - 128, by omega⟩)
      else if h : (128 ≤ r.val ∧ r.val < 128 + 32) ∧ 0 ≤ k.val ∧ k.val < 0 + 64 then X (Proc.devRef .tc main_arg1) (ix4 1 0 ⟨64 + (r.val - 128), by omega⟩ ⟨k.val - 0, by omega⟩)
      else X (Proc.devRef .tc main_v271) (ix2 r k) := by
  dsimp only [span, hostOps0, List.drop, List.take]
  after_results_simp
  refine (put_hid _ _ _ 128 128 (by pointwise; rfl) (by pointwise; rfl) r k).trans ?_
  split
  · pointwise
  · refine (put_in _ _ _ 128 0 (by pointwise; rfl) (by pointwise; rfl) r k).trans ?_
    split
    · pointwise
    · rfl

set_option maxHeartbeats 2000000 in
theorem set_b1_4 (r : Fin 256) : after (span 345 28) X (Proc.devRef .tc main_v303) (ix1 r)
    = if h : 128 ≤ r.val ∧ r.val < 128 + 32 then bsOf (X (Proc.devRef .tc main_arg3)) (X (Proc.devRef .tc main_arg4)) 1 0 ⟨64 + (r.val - 128), by omega⟩
      else X (Proc.devRef .tc main_v280) (ix1 r) := by
  dsimp only [span, hostOps0, List.drop, List.take]
  after_results_simp
  refine (put_bias _ _ _ 128 (by pointwise; rfl) r).trans ?_
  split
  · unfold bsOf
    pointwise
  · rfl

set_option maxHeartbeats 2000000 in
theorem set_w1_5 (r : Fin 256) (k : Fin 192) : after (span 373 28) X (Proc.devRef .tc main_v317) (ix2 r k)
    = if h : (160 ≤ r.val ∧ r.val < 160 + 32) ∧ 160 ≤ k.val ∧ k.val < 160 + 32 then X (Proc.devRef .tc main_arg2) (ix4 1 1 ⟨64 + (r.val - 160), by omega⟩ ⟨k.val - 160, by omega⟩)
      else if h : (160 ≤ r.val ∧ r.val < 160 + 32) ∧ 64 ≤ k.val ∧ k.val < 64 + 64 then X (Proc.devRef .tc main_arg1) (ix4 1 1 ⟨64 + (r.val - 160), by omega⟩ ⟨k.val - 64, by omega⟩)
      else X (Proc.devRef .tc main_v294) (ix2 r k) := by
  dsimp only [span, hostOps0, List.drop, List.take]
  after_results_simp
  refine (put_hid _ _ _ 160 160 (by pointwise; rfl) (by pointwise; rfl) r k).trans ?_
  split
  · pointwise
  · refine (put_in _ _ _ 160 64 (by pointwise; rfl) (by pointwise; rfl) r k).trans ?_
    split
    · pointwise
    · rfl

set_option maxHeartbeats 2000000 in
theorem set_b1_5 (r : Fin 256) : after (span 373 28) X (Proc.devRef .tc main_v326) (ix1 r)
    = if h : 160 ≤ r.val ∧ r.val < 160 + 32 then bsOf (X (Proc.devRef .tc main_arg3)) (X (Proc.devRef .tc main_arg4)) 1 1 ⟨64 + (r.val - 160), by omega⟩
      else X (Proc.devRef .tc main_v303) (ix1 r) := by
  dsimp only [span, hostOps0, List.drop, List.take]
  after_results_simp
  refine (put_bias _ _ _ 160 (by pointwise; rfl) r).trans ?_
  split
  · unfold bsOf
    pointwise
  · rfl

set_option maxHeartbeats 2000000 in
theorem set_w1_6 (r : Fin 256) (k : Fin 192) : after (span 401 28) X (Proc.devRef .tc main_v340) (ix2 r k)
    = if h : (192 ≤ r.val ∧ r.val < 192 + 32) ∧ 128 ≤ k.val ∧ k.val < 128 + 32 then X (Proc.devRef .tc main_arg2) (ix4 1 0 ⟨96 + (r.val - 192), by omega⟩ ⟨k.val - 128, by omega⟩)
      else if h : (192 ≤ r.val ∧ r.val < 192 + 32) ∧ 0 ≤ k.val ∧ k.val < 0 + 64 then X (Proc.devRef .tc main_arg1) (ix4 1 0 ⟨96 + (r.val - 192), by omega⟩ ⟨k.val - 0, by omega⟩)
      else X (Proc.devRef .tc main_v317) (ix2 r k) := by
  dsimp only [span, hostOps0, List.drop, List.take]
  after_results_simp
  refine (put_hid _ _ _ 192 128 (by pointwise; rfl) (by pointwise; rfl) r k).trans ?_
  split
  · pointwise
  · refine (put_in _ _ _ 192 0 (by pointwise; rfl) (by pointwise; rfl) r k).trans ?_
    split
    · pointwise
    · rfl

set_option maxHeartbeats 2000000 in
theorem set_b1_6 (r : Fin 256) : after (span 401 28) X (Proc.devRef .tc main_v349) (ix1 r)
    = if h : 192 ≤ r.val ∧ r.val < 192 + 32 then bsOf (X (Proc.devRef .tc main_arg3)) (X (Proc.devRef .tc main_arg4)) 1 0 ⟨96 + (r.val - 192), by omega⟩
      else X (Proc.devRef .tc main_v326) (ix1 r) := by
  dsimp only [span, hostOps0, List.drop, List.take]
  after_results_simp
  refine (put_bias _ _ _ 192 (by pointwise; rfl) r).trans ?_
  split
  · unfold bsOf
    pointwise
  · rfl

set_option maxHeartbeats 2000000 in
theorem set_w1_7 (r : Fin 256) (k : Fin 192) : after (span 429 28) X (Proc.devRef .tc main_v363) (ix2 r k)
    = if h : (224 ≤ r.val ∧ r.val < 224 + 32) ∧ 160 ≤ k.val ∧ k.val < 160 + 32 then X (Proc.devRef .tc main_arg2) (ix4 1 1 ⟨96 + (r.val - 224), by omega⟩ ⟨k.val - 160, by omega⟩)
      else if h : (224 ≤ r.val ∧ r.val < 224 + 32) ∧ 64 ≤ k.val ∧ k.val < 64 + 64 then X (Proc.devRef .tc main_arg1) (ix4 1 1 ⟨96 + (r.val - 224), by omega⟩ ⟨k.val - 64, by omega⟩)
      else X (Proc.devRef .tc main_v340) (ix2 r k) := by
  dsimp only [span, hostOps0, List.drop, List.take]
  after_results_simp
  refine (put_hid _ _ _ 224 160 (by pointwise; rfl) (by pointwise; rfl) r k).trans ?_
  split
  · pointwise
  · refine (put_in _ _ _ 224 64 (by pointwise; rfl) (by pointwise; rfl) r k).trans ?_
    split
    · pointwise
    · rfl

set_option maxHeartbeats 2000000 in
theorem set_b1_7 (r : Fin 256) : after (span 429 28) X (Proc.devRef .tc main_v372) (ix1 r)
    = if h : 224 ≤ r.val ∧ r.val < 224 + 32 then bsOf (X (Proc.devRef .tc main_arg3)) (X (Proc.devRef .tc main_arg4)) 1 1 ⟨96 + (r.val - 224), by omega⟩
      else X (Proc.devRef .tc main_v349) (ix1 r) := by
  dsimp only [span, hostOps0, List.drop, List.take]
  after_results_simp
  refine (put_bias _ _ _ 224 (by pointwise; rfl) r).trans ?_
  split
  · unfold bsOf
    pointwise
  · rfl

set_option maxHeartbeats 2000000 in
theorem col_b1 (r : Fin 256) : after (span 457 1) X (Proc.devRef .tc main_v373) (ix2 r 0) = X (Proc.devRef .tc main_v372) (ix1 r) := by
  dsimp only [span, hostOps0, List.drop, List.take]
  after_results_simp
  pointwise

set_option maxHeartbeats 2000000 in
theorem zero_w2 (r : Fin 256) (k : Fin 192) : after (span 458 4) X (Proc.devRef .tc main_v374) (ix2 r k) = (0 : EReal) := by
  dsimp only [span, hostOps0, List.drop, List.take]
  after_results_simp
  pointwise

set_option maxHeartbeats 2000000 in
theorem zero_b2 (r : Fin 256) : after (span 458 4) X (Proc.devRef .tc main_v375) (ix1 r) = (0 : EReal) := by
  dsimp only [span, hostOps0, List.drop, List.take]
  after_results_simp
  pointwise

set_option maxHeartbeats 2000000 in
theorem set_w2_0 (r : Fin 256) (k : Fin 192) : after (span 462 28) X (Proc.devRef .tc main_v389) (ix2 r k)
    = if h : (0 ≤ r.val ∧ r.val < 0 + 32) ∧ 128 ≤ k.val ∧ k.val < 128 + 32 then X (Proc.devRef .tc main_arg2) (ix4 2 0 ⟨0 + (r.val - 0), by omega⟩ ⟨k.val - 128, by omega⟩)
      else if h : (0 ≤ r.val ∧ r.val < 0 + 32) ∧ 0 ≤ k.val ∧ k.val < 0 + 64 then X (Proc.devRef .tc main_arg1) (ix4 2 0 ⟨0 + (r.val - 0), by omega⟩ ⟨k.val - 0, by omega⟩)
      else X (Proc.devRef .tc main_v374) (ix2 r k) := by
  dsimp only [span, hostOps0, List.drop, List.take]
  after_results_simp
  refine (put_hid _ _ _ 0 128 (by pointwise; rfl) (by pointwise; rfl) r k).trans ?_
  split
  · pointwise
  · refine (put_in _ _ _ 0 0 (by pointwise; rfl) (by pointwise; rfl) r k).trans ?_
    split
    · pointwise
    · rfl

set_option maxHeartbeats 2000000 in
theorem set_b2_0 (r : Fin 256) : after (span 462 28) X (Proc.devRef .tc main_v398) (ix1 r)
    = if h : 0 ≤ r.val ∧ r.val < 0 + 32 then bsOf (X (Proc.devRef .tc main_arg3)) (X (Proc.devRef .tc main_arg4)) 2 0 ⟨0 + (r.val - 0), by omega⟩
      else X (Proc.devRef .tc main_v375) (ix1 r) := by
  dsimp only [span, hostOps0, List.drop, List.take]
  after_results_simp
  refine (put_bias _ _ _ 0 (by pointwise; rfl) r).trans ?_
  split
  · unfold bsOf
    pointwise
  · rfl

set_option maxHeartbeats 2000000 in
theorem set_w2_1 (r : Fin 256) (k : Fin 192) : after (span 490 28) X (Proc.devRef .tc main_v412) (ix2 r k)
    = if h : (32 ≤ r.val ∧ r.val < 32 + 32) ∧ 160 ≤ k.val ∧ k.val < 160 + 32 then X (Proc.devRef .tc main_arg2) (ix4 2 1 ⟨0 + (r.val - 32), by omega⟩ ⟨k.val - 160, by omega⟩)
      else if h : (32 ≤ r.val ∧ r.val < 32 + 32) ∧ 64 ≤ k.val ∧ k.val < 64 + 64 then X (Proc.devRef .tc main_arg1) (ix4 2 1 ⟨0 + (r.val - 32), by omega⟩ ⟨k.val - 64, by omega⟩)
      else X (Proc.devRef .tc main_v389) (ix2 r k) := by
  dsimp only [span, hostOps0, List.drop, List.take]
  after_results_simp
  refine (put_hid _ _ _ 32 160 (by pointwise; rfl) (by pointwise; rfl) r k).trans ?_
  split
  · pointwise
  · refine (put_in _ _ _ 32 64 (by pointwise; rfl) (by pointwise; rfl) r k).trans ?_
    split
    · pointwise
    · rfl

set_option maxHeartbeats 2000000 in
theorem set_b2_1 (r : Fin 256) : after (span 490 28) X (Proc.devRef .tc main_v421) (ix1 r)
    = if h : 32 ≤ r.val ∧ r.val < 32 + 32 then bsOf (X (Proc.devRef .tc main_arg3)) (X (Proc.devRef .tc main_arg4)) 2 1 ⟨0 + (r.val - 32), by omega⟩
      else X (Proc.devRef .tc main_v398) (ix1 r) := by
  dsimp only [span, hostOps0, List.drop, List.take]
  after_results_simp
  refine (put_bias _ _ _ 32 (by pointwise; rfl) r).trans ?_
  split
  · unfold bsOf
    pointwise
  · rfl

set_option maxHeartbeats 2000000 in
theorem set_w2_2 (r : Fin 256) (k : Fin 192) : after (span 518 28) X (Proc.devRef .tc main_v435) (ix2 r k)
    = if h : (64 ≤ r.val ∧ r.val < 64 + 32) ∧ 128 ≤ k.val ∧ k.val < 128 + 32 then X (Proc.devRef .tc main_arg2) (ix4 2 0 ⟨32 + (r.val - 64), by omega⟩ ⟨k.val - 128, by omega⟩)
      else if h : (64 ≤ r.val ∧ r.val < 64 + 32) ∧ 0 ≤ k.val ∧ k.val < 0 + 64 then X (Proc.devRef .tc main_arg1) (ix4 2 0 ⟨32 + (r.val - 64), by omega⟩ ⟨k.val - 0, by omega⟩)
      else X (Proc.devRef .tc main_v412) (ix2 r k) := by
  dsimp only [span, hostOps0, List.drop, List.take]
  after_results_simp
  refine (put_hid _ _ _ 64 128 (by pointwise; rfl) (by pointwise; rfl) r k).trans ?_
  split
  · pointwise
  · refine (put_in _ _ _ 64 0 (by pointwise; rfl) (by pointwise; rfl) r k).trans ?_
    split
    · pointwise
    · rfl

set_option maxHeartbeats 2000000 in
theorem set_b2_2 (r : Fin 256) : after (span 518 28) X (Proc.devRef .tc main_v444) (ix1 r)
    = if h : 64 ≤ r.val ∧ r.val < 64 + 32 then bsOf (X (Proc.devRef .tc main_arg3)) (X (Proc.devRef .tc main_arg4)) 2 0 ⟨32 + (r.val - 64), by omega⟩
      else X (Proc.devRef .tc main_v421) (ix1 r) := by
  dsimp only [span, hostOps0, List.drop, List.take]
  after_results_simp
  refine (put_bias _ _ _ 64 (by pointwise; rfl) r).trans ?_
  split
  · unfold bsOf
    pointwise
  · rfl

set_option maxHeartbeats 2000000 in
theorem set_w2_3 (r : Fin 256) (k : Fin 192) : after (span 546 28) X (Proc.devRef .tc main_v458) (ix2 r k)
    = if h : (96 ≤ r.val ∧ r.val < 96 + 32) ∧ 160 ≤ k.val ∧ k.val < 160 + 32 then X (Proc.devRef .tc main_arg2) (ix4 2 1 ⟨32 + (r.val - 96), by omega⟩ ⟨k.val - 160, by omega⟩)
      else if h : (96 ≤ r.val ∧ r.val < 96 + 32) ∧ 64 ≤ k.val ∧ k.val < 64 + 64 then X (Proc.devRef .tc main_arg1) (ix4 2 1 ⟨32 + (r.val - 96), by omega⟩ ⟨k.val - 64, by omega⟩)
      else X (Proc.devRef .tc main_v435) (ix2 r k) := by
  dsimp only [span, hostOps0, List.drop, List.take]
  after_results_simp
  refine (put_hid _ _ _ 96 160 (by pointwise; rfl) (by pointwise; rfl) r k).trans ?_
  split
  · pointwise
  · refine (put_in _ _ _ 96 64 (by pointwise; rfl) (by pointwise; rfl) r k).trans ?_
    split
    · pointwise
    · rfl

set_option maxHeartbeats 2000000 in
theorem set_b2_3 (r : Fin 256) : after (span 546 28) X (Proc.devRef .tc main_v467) (ix1 r)
    = if h : 96 ≤ r.val ∧ r.val < 96 + 32 then bsOf (X (Proc.devRef .tc main_arg3)) (X (Proc.devRef .tc main_arg4)) 2 1 ⟨32 + (r.val - 96), by omega⟩
      else X (Proc.devRef .tc main_v444) (ix1 r) := by
  dsimp only [span, hostOps0, List.drop, List.take]
  after_results_simp
  refine (put_bias _ _ _ 96 (by pointwise; rfl) r).trans ?_
  split
  · unfold bsOf
    pointwise
  · rfl

set_option maxHeartbeats 2000000 in
theorem set_w2_4 (r : Fin 256) (k : Fin 192) : after (span 574 28) X (Proc.devRef .tc main_v481) (ix2 r k)
    = if h : (128 ≤ r.val ∧ r.val < 128 + 32) ∧ 128 ≤ k.val ∧ k.val < 128 + 32 then X (Proc.devRef .tc main_arg2) (ix4 2 0 ⟨64 + (r.val - 128), by omega⟩ ⟨k.val - 128, by omega⟩)
      else if h : (128 ≤ r.val ∧ r.val < 128 + 32) ∧ 0 ≤ k.val ∧ k.val < 0 + 64 then X (Proc.devRef .tc main_arg1) (ix4 2 0 ⟨64 + (r.val - 128), by omega⟩ ⟨k.val - 0, by omega⟩)
      else X (Proc.devRef .tc main_v458) (ix2 r k) := by
  dsimp only [span, hostOps0, List.drop, List.take]
  after_results_simp
  refine (put_hid _ _ _ 128 128 (by pointwise; rfl) (by pointwise; rfl) r k).trans ?_
  split
  · pointwise
  · refine (put_in _ _ _ 128 0 (by pointwise; rfl) (by pointwise; rfl) r k).trans ?_
    split
    · pointwise
    · rfl

set_option maxHeartbeats 2000000 in
theorem set_b2_4 (r : Fin 256) : after (span 574 28) X (Proc.devRef .tc main_v490) (ix1 r)
    = if h : 128 ≤ r.val ∧ r.val < 128 + 32 then bsOf (X (Proc.devRef .tc main_arg3)) (X (Proc.devRef .tc main_arg4)) 2 0 ⟨64 + (r.val - 128), by omega⟩
      else X (Proc.devRef .tc main_v467) (ix1 r) := by
  dsimp only [span, hostOps0, List.drop, List.take]
  after_results_simp
  refine (put_bias _ _ _ 128 (by pointwise; rfl) r).trans ?_
  split
  · unfold bsOf
    pointwise
  · rfl

set_option maxHeartbeats 2000000 in
theorem set_w2_5 (r : Fin 256) (k : Fin 192) : after (span 602 28) X (Proc.devRef .tc main_v504) (ix2 r k)
    = if h : (160 ≤ r.val ∧ r.val < 160 + 32) ∧ 160 ≤ k.val ∧ k.val < 160 + 32 then X (Proc.devRef .tc main_arg2) (ix4 2 1 ⟨64 + (r.val - 160), by omega⟩ ⟨k.val - 160, by omega⟩)
      else if h : (160 ≤ r.val ∧ r.val < 160 + 32) ∧ 64 ≤ k.val ∧ k.val < 64 + 64 then X (Proc.devRef .tc main_arg1) (ix4 2 1 ⟨64 + (r.val - 160), by omega⟩ ⟨k.val - 64, by omega⟩)
      else X (Proc.devRef .tc main_v481) (ix2 r k) := by
  dsimp only [span, hostOps0, List.drop, List.take]
  after_results_simp
  refine (put_hid _ _ _ 160 160 (by pointwise; rfl) (by pointwise; rfl) r k).trans ?_
  split
  · pointwise
  · refine (put_in _ _ _ 160 64 (by pointwise; rfl) (by pointwise; rfl) r k).trans ?_
    split
    · pointwise
    · rfl

set_option maxHeartbeats 2000000 in
theorem set_b2_5 (r : Fin 256) : after (span 602 28) X (Proc.devRef .tc main_v513) (ix1 r)
    = if h : 160 ≤ r.val ∧ r.val < 160 + 32 then bsOf (X (Proc.devRef .tc main_arg3)) (X (Proc.devRef .tc main_arg4)) 2 1 ⟨64 + (r.val - 160), by omega⟩
      else X (Proc.devRef .tc main_v490) (ix1 r) := by
  dsimp only [span, hostOps0, List.drop, List.take]
  after_results_simp
  refine (put_bias _ _ _ 160 (by pointwise; rfl) r).trans ?_
  split
  · unfold bsOf
    pointwise
  · rfl

set_option maxHeartbeats 2000000 in
theorem set_w2_6 (r : Fin 256) (k : Fin 192) : after (span 630 28) X (Proc.devRef .tc main_v527) (ix2 r k)
    = if h : (192 ≤ r.val ∧ r.val < 192 + 32) ∧ 128 ≤ k.val ∧ k.val < 128 + 32 then X (Proc.devRef .tc main_arg2) (ix4 2 0 ⟨96 + (r.val - 192), by omega⟩ ⟨k.val - 128, by omega⟩)
      else if h : (192 ≤ r.val ∧ r.val < 192 + 32) ∧ 0 ≤ k.val ∧ k.val < 0 + 64 then X (Proc.devRef .tc main_arg1) (ix4 2 0 ⟨96 + (r.val - 192), by omega⟩ ⟨k.val - 0, by omega⟩)
      else X (Proc.devRef .tc main_v504) (ix2 r k) := by
  dsimp only [span, hostOps0, List.drop, List.take]
  after_results_simp
  refine (put_hid _ _ _ 192 128 (by pointwise; rfl) (by pointwise; rfl) r k).trans ?_
  split
  · pointwise
  · refine (put_in _ _ _ 192 0 (by pointwise; rfl) (by pointwise; rfl) r k).trans ?_
    split
    · pointwise
    · rfl

set_option maxHeartbeats 2000000 in
theorem set_b2_6 (r : Fin 256) : after (span 630 28) X (Proc.devRef .tc main_v536) (ix1 r)
    = if h : 192 ≤ r.val ∧ r.val < 192 + 32 then bsOf (X (Proc.devRef .tc main_arg3)) (X (Proc.devRef .tc main_arg4)) 2 0 ⟨96 + (r.val - 192), by omega⟩
      else X (Proc.devRef .tc main_v513) (ix1 r) := by
  dsimp only [span, hostOps0, List.drop, List.take]
  after_results_simp
  refine (put_bias _ _ _ 192 (by pointwise; rfl) r).trans ?_
  split
  · unfold bsOf
    pointwise
  · rfl

set_option maxHeartbeats 2000000 in
theorem set_w2_7 (r : Fin 256) (k : Fin 192) : after (span 658 28) X (Proc.devRef .tc main_v550) (ix2 r k)
    = if h : (224 ≤ r.val ∧ r.val < 224 + 32) ∧ 160 ≤ k.val ∧ k.val < 160 + 32 then X (Proc.devRef .tc main_arg2) (ix4 2 1 ⟨96 + (r.val - 224), by omega⟩ ⟨k.val - 160, by omega⟩)
      else if h : (224 ≤ r.val ∧ r.val < 224 + 32) ∧ 64 ≤ k.val ∧ k.val < 64 + 64 then X (Proc.devRef .tc main_arg1) (ix4 2 1 ⟨96 + (r.val - 224), by omega⟩ ⟨k.val - 64, by omega⟩)
      else X (Proc.devRef .tc main_v527) (ix2 r k) := by
  dsimp only [span, hostOps0, List.drop, List.take]
  after_results_simp
  refine (put_hid _ _ _ 224 160 (by pointwise; rfl) (by pointwise; rfl) r k).trans ?_
  split
  · pointwise
  · refine (put_in _ _ _ 224 64 (by pointwise; rfl) (by pointwise; rfl) r k).trans ?_
    split
    · pointwise
    · rfl

set_option maxHeartbeats 2000000 in
theorem set_b2_7 (r : Fin 256) : after (span 658 28) X (Proc.devRef .tc main_v559) (ix1 r)
    = if h : 224 ≤ r.val ∧ r.val < 224 + 32 then bsOf (X (Proc.devRef .tc main_arg3)) (X (Proc.devRef .tc main_arg4)) 2 1 ⟨96 + (r.val - 224), by omega⟩
      else X (Proc.devRef .tc main_v536) (ix1 r) := by
  dsimp only [span, hostOps0, List.drop, List.take]
  after_results_simp
  refine (put_bias _ _ _ 224 (by pointwise; rfl) r).trans ?_
  split
  · unfold bsOf
    pointwise
  · rfl

set_option maxHeartbeats 2000000 in
theorem col_b2 (r : Fin 256) : after (span 686 1) X (Proc.devRef .tc main_v560) (ix2 r 0) = X (Proc.devRef .tc main_v559) (ix1 r) := by
  dsimp only [span, hostOps0, List.drop, List.take]
  after_results_simp
  pointwise

end

end Cert.LstmIdeal.Own

end
-- ==== Proof.LstmStack.lean ====
/-
  The blocks the host operations set, one after another: each layer's weights and biases are the packed ones, and the
  arrays the kernel is called on stack them.
-/
module

public import proofs.«01_k».proof.Proof.LstmPack

@[expose] public section

set_option maxRecDepth 16384

noncomputable section

namespace Cert.LstmIdeal.Own

open Cert.LstmIdeal Cert.LstmIdeal.Gen
open Idealize.ShloMosaic Idealize.ShloMosaic.StableHlo Idealize.ShloMosaic.TcCoe
open Cert.Proof.LstmSpec (packW packB)

section
variable (V : Valuation τ sig (Elt Ideal))

/-- What a buffer holds before the `a`-th operation. -/
abbrev now (a : ℕ) (r : Ref sig .tc) := after (hostOps0.take a) V (Proc.devRef .tc r)

theorem filled_w0_0 : PartW (V (Proc.devRef .tc main_arg1)) (V (Proc.devRef .tc main_arg2)) 0 0 (now V 4 main_v0) := fun r k =>
  (congrFun (congrFun (after_span V 0 4) (Proc.devRef .tc main_v0)) (ix2 r k)).trans ((zero_w0 _ r k).trans (if_neg (Nat.not_lt_zero _)).symm)

theorem filled_b0_0 : PartB (V (Proc.devRef .tc main_arg3)) (V (Proc.devRef .tc main_arg4)) 0 0 (now V 4 main_v1) := fun r =>
  (congrFun (congrFun (after_span V 0 4) (Proc.devRef .tc main_v1)) (ix1 r)).trans ((zero_b0 _ r).trans (if_neg (Nat.not_lt_zero _)).symm)

theorem filled_w0_1 : PartW (V (Proc.devRef .tc main_arg1)) (V (Proc.devRef .tc main_arg2)) 0 1 (now V 32 main_v15) :=
  next_w _ _ 0 0 0 0 0 0 0 128 rfl rfl rfl rfl rfl _ _ (filled_w0_0 V) fun r k => by
    refine (congrFun (congrFun (after_span V 4 28) (Proc.devRef .tc main_v15)) (ix2 r k)).trans ?_
    rw [set_w0_0, kept_to V 4 main_arg1 arg1_unwritten, kept_to V 4 main_arg2 arg2_unwritten]

theorem filled_b0_1 : PartB (V (Proc.devRef .tc main_arg3)) (V (Proc.devRef .tc main_arg4)) 0 1 (now V 32 main_v24) :=
  next_b _ _ 0 0 0 0 0 0 rfl rfl rfl _ _ (filled_b0_0 V) fun r => by
    refine (congrFun (congrFun (after_span V 4 28) (Proc.devRef .tc main_v24)) (ix1 r)).trans ?_
    rw [set_b0_0, kept_to V 4 main_arg3 arg3_unwritten, kept_to V 4 main_arg4 arg4_unwritten]

theorem filled_w0_2 : PartW (V (Proc.devRef .tc main_arg1)) (V (Proc.devRef .tc main_arg2)) 0 2 (now V 60 main_v38) :=
  next_w _ _ 0 0 1 1 32 0 64 160 rfl rfl rfl rfl rfl _ _ (filled_w0_1 V) fun r k => by
    refine (congrFun (congrFun (after_span V 32 28) (Proc.devRef .tc main_v38)) (ix2 r k)).trans ?_
    rw [set_w0_1, kept_to V 32 main_arg1 arg1_unwritten, kept_to V 32 main_arg2 arg2_unwritten]

theorem filled_b0_2 : PartB (V (Proc.devRef .tc main_arg3)) (V (Proc.devRef .tc main_arg4)) 0 2 (now V 60 main_v47) :=
  next_b _ _ 0 0 1 1 32 0 rfl rfl rfl _ _ (filled_b0_1 V) fun r => by
    refine (congrFun (congrFun (after_span V 32 28) (Proc.devRef .tc main_v47)) (ix1 r)).trans ?_
    rw [set_b0_1, kept_to V 32 main_arg3 arg3_unwritten, kept_to V 32 main_arg4 arg4_unwritten]

theorem filled_w0_3 : PartW (V (Proc.devRef .tc main_arg1)) (V (Proc.devRef .tc main_arg2)) 0 3 (now V 88 main_v61) :=
  next_w _ _ 0 1 0 2 64 32 0 128 rfl rfl rfl rfl rfl _ _ (filled_w0_2 V) fun r k => by
    refine (congrFun (congrFun (after_span V 60 28) (Proc.devRef .tc main_v61)) (ix2 r k)).trans ?_
    rw [set_w0_2, kept_to V 60 main_arg1 arg1_unwritten, kept_to V 60 main_arg2 arg2_unwritten]

theorem filled_b0_3 : PartB (V (Proc.devRef .tc main_arg3)) (V (Proc.devRef .tc main_arg4)) 0 3 (now V 88 main_v70) :=
  next_b _ _ 0 1 0 2 64 32 rfl rfl rfl _ _ (filled_b0_2 V) fun r => by
    refine (congrFun (congrFun (after_span V 60 28) (Proc.devRef .tc main_v70)) (ix1 r)).trans ?_
    rw [set_b0_2, kept_to V 60 main_arg3 arg3_unwritten, kept_to V 60 main_arg4 arg4_unwritten]

theorem filled_w0_4 : PartW (V (Proc.devRef .tc main_arg1)) (V (Proc.devRef .tc main_arg2)) 0 4 (now V 116 main_v84) :=
  next_w _ _ 0 1 1 3 96 32 64 160 rfl rfl rfl rfl rfl _ _ (filled_w0_3 V) fun r k => by
    refine (congrFun (congrFun (after_span V 88 28) (Proc.devRef .tc main_v84)) (ix2 r k)).trans ?_
    rw [set_w0_3, kept_to V 88 main_arg1 arg1_unwritten, kept_to V 88 main_arg2 arg2_unwritten]

theorem filled_b0_4 : PartB (V (Proc.devRef .tc main_arg3)) (V (Proc.devRef .tc main_arg4)) 0 4 (now V 116 main_v93) :=
  next_b _ _ 0 1 1 3 96 32 rfl rfl rfl _ _ (filled_b0_3 V) fun r => by
    refine (congrFun (congrFun (after_span V 88 28) (Proc.devRef .tc main_v93)) (ix1 r)).trans ?_
    rw [set_b0_3, kept_to V 88 main_arg3 arg3_unwritten, kept_to V 88 main_arg4 arg4_unwritten]

theorem filled_w0_5 : PartW (V (Proc.devRef .tc main_arg1)) (V (Proc.devRef .tc main_arg2)) 0 5 (now V 144 main_v107) :=
  next_w _ _ 0 2 0 4 128 64 0 128 rfl rfl rfl rfl rfl _ _ (filled_w0_4 V) fun r k => by
    refine (congrFun (congrFun (after_span V 116 28) (Proc.devRef .tc main_v107)) (ix2 r k)).trans ?_
    rw [set_w0_4, kept_to V 116 main_arg1 arg1_unwritten, kept_to V 116 main_arg2 arg2_unwritten]

theorem filled_b0_5 : PartB (V (Proc.devRef .tc main_arg3)) (V (Proc.devRef .tc main_arg4)) 0 5 (now V 144 main_v116) :=
  next_b _ _ 0 2 0 4 128 64 rfl rfl rfl _ _ (filled_b0_4 V) fun r => by
    refine (congrFun (congrFun (after_span V 116 28) (Proc.devRef .tc main_v116)) (ix1 r)).trans ?_
    rw [set_b0_4, kept_to V 116 main_arg3 arg3_unwritten, kept_to V 116 main_arg4 arg4_unwritten]

theorem filled_w0_6 : PartW (V (Proc.devRef .tc main_arg1)) (V (Proc.devRef .tc main_arg2)) 0 6 (now V 172 main_v130) :=
  next_w _ _ 0 2 1 5 160 64 64 160 rfl rfl rfl rfl rfl _ _ (filled_w0_5 V) fun r k => by
    refine (congrFun (congrFun (after_span V 144 28) (Proc.devRef .tc main_v130)) (ix2 r k)).trans ?_
    rw [set_w0_5, kept_to V 144 main_arg1 arg1_unwritten, kept_to V 144 main_arg2 arg2_unwritten]

theorem filled_b0_6 : PartB (V (Proc.devRef .tc main_arg3)) (V (Proc.devRef .tc main_arg4)) 0 6 (now V 172 main_v139) :=
  next_b _ _ 0 2 1 5 160 64 rfl rfl rfl _ _ (filled_b0_5 V) fun r => by
    refine (congrFun (congrFun (after_span V 144 28) (Proc.devRef .tc main_v139)) (ix1 r)).trans ?_
    rw [set_b0_5, kept_to V 144 main_arg3 arg3_unwritten, kept_to V 144 main_arg4 arg4_unwritten]

theorem filled_w0_7 : PartW (V (Proc.devRef .tc main_arg1)) (V (Proc.devRef .tc main_arg2)) 0 7 (now V 200 main_v153) :=
  next_w _ _ 0 3 0 6 192 96 0 128 rfl rfl rfl rfl rfl _ _ (filled_w0_6 V) fun r k => by
    refine (congrFun (congrFun (after_span V 172 28) (Proc.devRef .tc main_v153)) (ix2 r k)).trans ?_
    rw [set_w0_6, kept_to V 172 main_arg1 arg1_unwritten, kept_to V 172 main_arg2 arg2_unwritten]

theorem filled_b0_7 : PartB (V (Proc.devRef .tc main_arg3)) (V (Proc.devRef .tc main_arg4)) 0 7 (now V 200 main_v162) :=
  next_b _ _ 0 3 0 6 192 96 rfl rfl rfl _ _ (filled_b0_6 V) fun r => by
    refine (congrFun (congrFun (after_span V 172 28) (Proc.devRef .tc main_v162)) (ix1 r)).trans ?_
    rw [set_b0_6, kept_to V 172 main_arg3 arg3_unwritten, kept_to V 172 main_arg4 arg4_unwritten]

theorem filled_w0_8 : PartW (V (Proc.devRef .tc main_arg1)) (V (Proc.devRef .tc main_arg2)) 0 8 (now V 228 main_v176) :=
  next_w _ _ 0 3 1 7 224 96 64 160 rfl rfl rfl rfl rfl _ _ (filled_w0_7 V) fun r k => by
    refine (congrFun (congrFun (after_span V 200 28) (Proc.devRef .tc main_v176)) (ix2 r k)).trans ?_
    rw [set_w0_7, kept_to V 200 main_arg1 arg1_unwritten, kept_to V 200 main_arg2 arg2_unwritten]

theorem filled_b0_8 : PartB (V (Proc.devRef .tc main_arg3)) (V (Proc.devRef .tc main_arg4)) 0 8 (now V 228 main_v185) :=
  next_b _ _ 0 3 1 7 224 96 rfl rfl rfl _ _ (filled_b0_7 V) fun r => by
    refine (congrFun (congrFun (after_span V 200 28) (Proc.devRef .tc main_v185)) (ix1 r)).trans ?_
    rw [set_b0_7, kept_to V 200 main_arg3 arg3_unwritten, kept_to V 200 main_arg4 arg4_unwritten]

theorem layer_w0 (r : Fin 256) (k : Fin 192) : now V 687 main_v176 (ix2 r k) = packW (wiOf (V (Proc.devRef .tc main_arg1)) 0) (whOf (V (Proc.devRef .tc main_arg2)) 0) r k :=
  (congrFun ((kept_from V 687 main_v176 (by decide)).symm.trans (kept_from V 228 main_v176 (by decide))) (ix2 r k)).trans
    ((filled_w0_8 V r k).trans (if_pos (by omega)))

theorem layer_b0 (r : Fin 256) : now V 687 main_v186 (ix2 r 0) = packB (bsOf (V (Proc.devRef .tc main_arg3)) (V (Proc.devRef .tc main_arg4)) 0) r :=
  (congrFun ((kept_from V 687 main_v186 (by decide)).symm.trans (kept_from V 229 main_v186 (by decide))) (ix2 r 0)).trans
    ((congrFun (congrFun (after_span V 228 1) (Proc.devRef .tc main_v186)) (ix2 r 0)).trans
      ((col_b0 _ r).trans ((filled_b0_8 V r).trans (if_pos (by omega)))))

theorem filled_w1_0 : PartW (V (Proc.devRef .tc main_arg1)) (V (Proc.devRef .tc main_arg2)) 1 0 (now V 233 main_v187) := fun r k =>
  (congrFun (congrFun (after_span V 229 4) (Proc.devRef .tc main_v187)) (ix2 r k)).trans ((zero_w1 _ r k).trans (if_neg (Nat.not_lt_zero _)).symm)

theorem filled_b1_0 : PartB (V (Proc.devRef .tc main_arg3)) (V (Proc.devRef .tc main_arg4)) 1 0 (now V 233 main_v188) := fun r =>
  (congrFun (congrFun (after_span V 229 4) (Proc.devRef .tc main_v188)) (ix1 r)).trans ((zero_b1 _ r).trans (if_neg (Nat.not_lt_zero _)).symm)

theorem filled_w1_1 : PartW (V (Proc.devRef .tc main_arg1)) (V (Proc.devRef .tc main_arg2)) 1 1 (now V 261 main_v202) :=
  next_w _ _ 1 0 0 0 0 0 0 128 rfl rfl rfl rfl rfl _ _ (filled_w1_0 V) fun r k => by
    refine (congrFun (congrFun (after_span V 233 28) (Proc.devRef .tc main_v202)) (ix2 r k)).trans ?_
    rw [set_w1_0, kept_to V 233 main_arg1 arg1_unwritten, kept_to V 233 main_arg2 arg2_unwritten]

theorem filled_b1_1 : PartB (V (Proc.devRef .tc main_arg3)) (V (Proc.devRef .tc main_arg4)) 1 1 (now V 261 main_v211) :=
  next_b _ _ 1 0 0 0 0 0 rfl rfl rfl _ _ (filled_b1_0 V) fun r => by
    refine (congrFun (congrFun (after_span V 233 28) (Proc.devRef .tc main_v211)) (ix1 r)).trans ?_
    rw [set_b1_0, kept_to V 233 main_arg3 arg3_unwritten, kept_to V 233 main_arg4 arg4_unwritten]

theorem filled_w1_2 : PartW (V (Proc.devRef .tc main_arg1)) (V (Proc.devRef .tc main_arg2)) 1 2 (now V 289 main_v225) :=
  next_w _ _ 1 0 1 1 32 0 64 160 rfl rfl rfl rfl rfl _ _ (filled_w1_1 V) fun r k => by
    refine (congrFun (congrFun (after_span V 261 28) (Proc.devRef .tc main_v225)) (ix2 r k)).trans ?_
    rw [set_w1_1, kept_to V 261 main_arg1 arg1_unwritten, kept_to V 261 main_arg2 arg2_unwritten]

theorem filled_b1_2 : PartB (V (Proc.devRef .tc main_arg3)) (V (Proc.devRef .tc main_arg4)) 1 2 (now V 289 main_v234) :=
  next_b _ _ 1 0 1 1 32 0 rfl rfl rfl _ _ (filled_b1_1 V) fun r => by
    refine (congrFun (congrFun (after_span V 261 28) (Proc.devRef .tc main_v234)) (ix1 r)).trans ?_
    rw [set_b1_1, kept_to V 261 main_arg3 arg3_unwritten, kept_to V 261 main_arg4 arg4_unwritten]

theorem filled_w1_3 : PartW (V (Proc.devRef .tc main_arg1)) (V (Proc.devRef .tc main_arg2)) 1 3 (now V 317 main_v248) :=
  next_w _ _ 1 1 0 2 64 32 0 128 rfl rfl rfl rfl rfl _ _ (filled_w1_2 V) fun r k => by
    refine (congrFun (congrFun (after_span V 289 28) (Proc.devRef .tc main_v248)) (ix2 r k)).trans ?_
    rw [set_w1_2, kept_to V 289 main_arg1 arg1_unwritten, kept_to V 289 main_arg2 arg2_unwritten]

theorem filled_b1_3 : PartB (V (Proc.devRef .tc main_arg3)) (V (Proc.devRef .tc main_arg4)) 1 3 (now V 317 main_v257) :=
  next_b _ _ 1 1 0 2 64 32 rfl rfl rfl _ _ (filled_b1_2 V) fun r => by
    refine (congrFun (congrFun (after_span V 289 28) (Proc.devRef .tc main_v257)) (ix1 r)).trans ?_
    rw [set_b1_2, kept_to V 289 main_arg3 arg3_unwritten, kept_to V 289 main_arg4 arg4_unwritten]

theorem filled_w1_4 : PartW (V (Proc.devRef .tc main_arg1)) (V (Proc.devRef .tc main_arg2)) 1 4 (now V 345 main_v271) :=
  next_w _ _ 1 1 1 3 96 32 64 160 rfl rfl rfl rfl rfl _ _ (filled_w1_3 V) fun r k => by
    refine (congrFun (congrFun (after_span V 317 28) (Proc.devRef .tc main_v271)) (ix2 r k)).trans ?_
    rw [set_w1_3, kept_to V 317 main_arg1 arg1_unwritten, kept_to V 317 main_arg2 arg2_unwritten]

theorem filled_b1_4 : PartB (V (Proc.devRef .tc main_arg3)) (V (Proc.devRef .tc main_arg4)) 1 4 (now V 345 main_v280) :=
  next_b _ _ 1 1 1 3 96 32 rfl rfl rfl _ _ (filled_b1_3 V) fun r => by
    refine (congrFun (congrFun (after_span V 317 28) (Proc.devRef .tc main_v280)) (ix1 r)).trans ?_
    rw [set_b1_3, kept_to V 317 main_arg3 arg3_unwritten, kept_to V 317 main_arg4 arg4_unwritten]

theorem filled_w1_5 : PartW (V (Proc.devRef .tc main_arg1)) (V (Proc.devRef .tc main_arg2)) 1 5 (now V 373 main_v294) :=
  next_w _ _ 1 2 0 4 128 64 0 128 rfl rfl rfl rfl rfl _ _ (filled_w1_4 V) fun r k => by
    refine (congrFun (congrFun (after_span V 345 28) (Proc.devRef .tc main_v294)) (ix2 r k)).trans ?_
    rw [set_w1_4, kept_to V 345 main_arg1 arg1_unwritten, kept_to V 345 main_arg2 arg2_unwritten]

theorem filled_b1_5 : PartB (V (Proc.devRef .tc main_arg3)) (V (Proc.devRef .tc main_arg4)) 1 5 (now V 373 main_v303) :=
  next_b _ _ 1 2 0 4 128 64 rfl rfl rfl _ _ (filled_b1_4 V) fun r => by
    refine (congrFun (congrFun (after_span V 345 28) (Proc.devRef .tc main_v303)) (ix1 r)).trans ?_
    rw [set_b1_4, kept_to V 345 main_arg3 arg3_unwritten, kept_to V 345 main_arg4 arg4_unwritten]

theorem filled_w1_6 : PartW (V (Proc.devRef .tc main_arg1)) (V (Proc.devRef .tc main_arg2)) 1 6 (now V 401 main_v317) :=
  next_w _ _ 1 2 1 5 160 64 64 160 rfl rfl rfl rfl rfl _ _ (filled_w1_5 V) fun r k => by
    refine (congrFun (congrFun (after_span V 373 28) (Proc.devRef .tc main_v317)) (ix2 r k)).trans ?_
    rw [set_w1_5, kept_to V 373 main_arg1 arg1_unwritten, kept_to V 373 main_arg2 arg2_unwritten]

theorem filled_b1_6 : PartB (V (Proc.devRef .tc main_arg3)) (V (Proc.devRef .tc main_arg4)) 1 6 (now V 401 main_v326) :=
  next_b _ _ 1 2 1 5 160 64 rfl rfl rfl _ _ (filled_b1_5 V) fun r => by
    refine (congrFun (congrFun (after_span V 373 28) (Proc.devRef .tc main_v326)) (ix1 r)).trans ?_
    rw [set_b1_5, kept_to V 373 main_arg3 arg3_unwritten, kept_to V 373 main_arg4 arg4_unwritten]

theorem filled_w1_7 : PartW (V (Proc.devRef .tc main_arg1)) (V (Proc.devRef .tc main_arg2)) 1 7 (now V 429 main_v340) :=
  next_w _ _ 1 3 0 6 192 96 0 128 rfl rfl rfl rfl rfl _ _ (filled_w1_6 V) fun r k => by
    refine (congrFun (congrFun (after_span V 401 28) (Proc.devRef .tc main_v340)) (ix2 r k)).trans ?_
    rw [set_w1_6, kept_to V 401 main_arg1 arg1_unwritten, kept_to V 401 main_arg2 arg2_unwritten]

theorem filled_b1_7 : PartB (V (Proc.devRef .tc main_arg3)) (V (Proc.devRef .tc main_arg4)) 1 7 (now V 429 main_v349) :=
  next_b _ _ 1 3 0 6 192 96 rfl rfl rfl _ _ (filled_b1_6 V) fun r => by
    refine (congrFun (congrFun (after_span V 401 28) (Proc.devRef .tc main_v349)) (ix1 r)).trans ?_
    rw [set_b1_6, kept_to V 401 main_arg3 arg3_unwritten, kept_to V 401 main_arg4 arg4_unwritten]

theorem filled_w1_8 : PartW (V (Proc.devRef .tc main_arg1)) (V (Proc.devRef .tc main_arg2)) 1 8 (now V 457 main_v363) :=
  next_w _ _ 1 3 1 7 224 96 64 160 rfl rfl rfl rfl rfl _ _ (filled_w1_7 V) fun r k => by
    refine (congrFun (congrFun (after_span V 429 28) (Proc.devRef .tc main_v363)) (ix2 r k)).trans ?_
    rw [set_w1_7, kept_to V 429 main_arg1 arg1_unwritten, kept_to V 429 main_arg2 arg2_unwritten]

theorem filled_b1_8 : PartB (V (Proc.devRef .tc main_arg3)) (V (Proc.devRef .tc main_arg4)) 1 8 (now V 457 main_v372) :=
  next_b _ _ 1 3 1 7 224 96 rfl rfl rfl _ _ (filled_b1_7 V) fun r => by
    refine (congrFun (congrFun (after_span V 429 28) (Proc.devRef .tc main_v372)) (ix1 r)).trans ?_
    rw [set_b1_7, kept_to V 429 main_arg3 arg3_unwritten, kept_to V 429 main_arg4 arg4_unwritten]

theorem layer_w1 (r : Fin 256) (k : Fin 192) : now V 687 main_v363 (ix2 r k) = packW (wiOf (V (Proc.devRef .tc main_arg1)) 1) (whOf (V (Proc.devRef .tc main_arg2)) 1) r k :=
  (congrFun ((kept_from V 687 main_v363 (by decide)).symm.trans (kept_from V 457 main_v363 (by decide))) (ix2 r k)).trans
    ((filled_w1_8 V r k).trans (if_pos (by omega)))

theorem layer_b1 (r : Fin 256) : now V 687 main_v373 (ix2 r 0) = packB (bsOf (V (Proc.devRef .tc main_arg3)) (V (Proc.devRef .tc main_arg4)) 1) r :=
  (congrFun ((kept_from V 687 main_v373 (by decide)).symm.trans (kept_from V 458 main_v373 (by decide))) (ix2 r 0)).trans
    ((congrFun (congrFun (after_span V 457 1) (Proc.devRef .tc main_v373)) (ix2 r 0)).trans
      ((col_b1 _ r).trans ((filled_b1_8 V r).trans (if_pos (by omega)))))

theorem filled_w2_0 : PartW (V (Proc.devRef .tc main_arg1)) (V (Proc.devRef .tc main_arg2)) 2 0 (now V 462 main_v374) := fun r k =>
  (congrFun (congrFun (after_span V 458 4) (Proc.devRef .tc main_v374)) (ix2 r k)).trans ((zero_w2 _ r k).trans (if_neg (Nat.not_lt_zero _)).symm)

theorem filled_b2_0 : PartB (V (Proc.devRef .tc main_arg3)) (V (Proc.devRef .tc main_arg4)) 2 0 (now V 462 main_v375) := fun r =>
  (congrFun (congrFun (after_span V 458 4) (Proc.devRef .tc main_v375)) (ix1 r)).trans ((zero_b2 _ r).trans (if_neg (Nat.not_lt_zero _)).symm)

theorem filled_w2_1 : PartW (V (Proc.devRef .tc main_arg1)) (V (Proc.devRef .tc main_arg2)) 2 1 (now V 490 main_v389) :=
  next_w _ _ 2 0 0 0 0 0 0 128 rfl rfl rfl rfl rfl _ _ (filled_w2_0 V) fun r k => by
    refine (congrFun (congrFun (after_span V 462 28) (Proc.devRef .tc main_v389)) (ix2 r k)).trans ?_
    rw [set_w2_0, kept_to V 462 main_arg1 arg1_unwritten, kept_to V 462 main_arg2 arg2_unwritten]

theorem filled_b2_1 : PartB (V (Proc.devRef .tc main_arg3)) (V (Proc.devRef .tc main_arg4)) 2 1 (now V 490 main_v398) :=
  next_b _ _ 2 0 0 0 0 0 rfl rfl rfl _ _ (filled_b2_0 V) fun r => by
    refine (congrFun (congrFun (after_span V 462 28) (Proc.devRef .tc main_v398)) (ix1 r)).trans ?_
    rw [set_b2_0, kept_to V 462 main_arg3 arg3_unwritten, kept_to V 462 main_arg4 arg4_unwritten]

theorem filled_w2_2 : PartW (V (Proc.devRef .tc main_arg1)) (V (Proc.devRef .tc main_arg2)) 2 2 (now V 518 main_v412) :=
  next_w _ _ 2 0 1 1 32 0 64 160 rfl rfl rfl rfl rfl _ _ (filled_w2_1 V) fun r k => by
    refine (congrFun (congrFun (after_span V 490 28) (Proc.devRef .tc main_v412)) (ix2 r k)).trans ?_
    rw [set_w2_1, kept_to V 490 main_arg1 arg1_unwritten, kept_to V 490 main_arg2 arg2_unwritten]

theorem filled_b2_2 : PartB (V (Proc.devRef .tc main_arg3)) (V (Proc.devRef .tc main_arg4)) 2 2 (now V 518 main_v421) :=
  next_b _ _ 2 0 1 1 32 0 rfl rfl rfl _ _ (filled_b2_1 V) fun r => by
    refine (congrFun (congrFun (after_span V 490 28) (Proc.devRef .tc main_v421)) (ix1 r)).trans ?_
    rw [set_b2_1, kept_to V 490 main_arg3 arg3_unwritten, kept_to V 490 main_arg4 arg4_unwritten]

theorem filled_w2_3 : PartW (V (Proc.devRef .tc main_arg1)) (V (Proc.devRef .tc main_arg2)) 2 3 (now V 546 main_v435) :=
  next_w _ _ 2 1 0 2 64 32 0 128 rfl rfl rfl rfl rfl _ _ (filled_w2_2 V) fun r k => by
    refine (congrFun (congrFun (after_span V 518 28) (Proc.devRef .tc main_v435)) (ix2 r k)).trans ?_
    rw [set_w2_2, kept_to V 518 main_arg1 arg1_unwritten, kept_to V 518 main_arg2 arg2_unwritten]

theorem filled_b2_3 : PartB (V (Proc.devRef .tc main_arg3)) (V (Proc.devRef .tc main_arg4)) 2 3 (now V 546 main_v444) :=
  next_b _ _ 2 1 0 2 64 32 rfl rfl rfl _ _ (filled_b2_2 V) fun r => by
    refine (congrFun (congrFun (after_span V 518 28) (Proc.devRef .tc main_v444)) (ix1 r)).trans ?_
    rw [set_b2_2, kept_to V 518 main_arg3 arg3_unwritten, kept_to V 518 main_arg4 arg4_unwritten]

theorem filled_w2_4 : PartW (V (Proc.devRef .tc main_arg1)) (V (Proc.devRef .tc main_arg2)) 2 4 (now V 574 main_v458) :=
  next_w _ _ 2 1 1 3 96 32 64 160 rfl rfl rfl rfl rfl _ _ (filled_w2_3 V) fun r k => by
    refine (congrFun (congrFun (after_span V 546 28) (Proc.devRef .tc main_v458)) (ix2 r k)).trans ?_
    rw [set_w2_3, kept_to V 546 main_arg1 arg1_unwritten, kept_to V 546 main_arg2 arg2_unwritten]

theorem filled_b2_4 : PartB (V (Proc.devRef .tc main_arg3)) (V (Proc.devRef .tc main_arg4)) 2 4 (now V 574 main_v467) :=
  next_b _ _ 2 1 1 3 96 32 rfl rfl rfl _ _ (filled_b2_3 V) fun r => by
    refine (congrFun (congrFun (after_span V 546 28) (Proc.devRef .tc main_v467)) (ix1 r)).trans ?_
    rw [set_b2_3, kept_to V 546 main_arg3 arg3_unwritten, kept_to V 546 main_arg4 arg4_unwritten]

theorem filled_w2_5 : PartW (V (Proc.devRef .tc main_arg1)) (V (Proc.devRef .tc main_arg2)) 2 5 (now V 602 main_v481) :=
  next_w _ _ 2 2 0 4 128 64 0 128 rfl rfl rfl rfl rfl _ _ (filled_w2_4 V) fun r k => by
    refine (congrFun (congrFun (after_span V 574 28) (Proc.devRef .tc main_v481)) (ix2 r k)).trans ?_
    rw [set_w2_4, kept_to V 574 main_arg1 arg1_unwritten, kept_to V 574 main_arg2 arg2_unwritten]

theorem filled_b2_5 : PartB (V (Proc.devRef .tc main_arg3)) (V (Proc.devRef .tc main_arg4)) 2 5 (now V 602 main_v490) :=
  next_b _ _ 2 2 0 4 128 64 rfl rfl rfl _ _ (filled_b2_4 V) fun r => by
    refine (congrFun (congrFun (after_span V 574 28) (Proc.devRef .tc main_v490)) (ix1 r)).trans ?_
    rw [set_b2_4, kept_to V 574 main_arg3 arg3_unwritten, kept_to V 574 main_arg4 arg4_unwritten]

theorem filled_w2_6 : PartW (V (Proc.devRef .tc main_arg1)) (V (Proc.devRef .tc main_arg2)) 2 6 (now V 630 main_v504) :=
  next_w _ _ 2 2 1 5 160 64 64 160 rfl rfl rfl rfl rfl _ _ (filled_w2_5 V) fun r k => by
    refine (congrFun (congrFun (after_span V 602 28) (Proc.devRef .tc main_v504)) (ix2 r k)).trans ?_
    rw [set_w2_5, kept_to V 602 main_arg1 arg1_unwritten, kept_to V 602 main_arg2 arg2_unwritten]

theorem filled_b2_6 : PartB (V (Proc.devRef .tc main_arg3)) (V (Proc.devRef .tc main_arg4)) 2 6 (now V 630 main_v513) :=
  next_b _ _ 2 2 1 5 160 64 rfl rfl rfl _ _ (filled_b2_5 V) fun r => by
    refine (congrFun (congrFun (after_span V 602 28) (Proc.devRef .tc main_v513)) (ix1 r)).trans ?_
    rw [set_b2_5, kept_to V 602 main_arg3 arg3_unwritten, kept_to V 602 main_arg4 arg4_unwritten]

theorem filled_w2_7 : PartW (V (Proc.devRef .tc main_arg1)) (V (Proc.devRef .tc main_arg2)) 2 7 (now V 658 main_v527) :=
  next_w _ _ 2 3 0 6 192 96 0 128 rfl rfl rfl rfl rfl _ _ (filled_w2_6 V) fun r k => by
    refine (congrFun (congrFun (after_span V 630 28) (Proc.devRef .tc main_v527)) (ix2 r k)).trans ?_
    rw [set_w2_6, kept_to V 630 main_arg1 arg1_unwritten, kept_to V 630 main_arg2 arg2_unwritten]

theorem filled_b2_7 : PartB (V (Proc.devRef .tc main_arg3)) (V (Proc.devRef .tc main_arg4)) 2 7 (now V 658 main_v536) :=
  next_b _ _ 2 3 0 6 192 96 rfl rfl rfl _ _ (filled_b2_6 V) fun r => by
    refine (congrFun (congrFun (after_span V 630 28) (Proc.devRef .tc main_v536)) (ix1 r)).trans ?_
    rw [set_b2_6, kept_to V 630 main_arg3 arg3_unwritten, kept_to V 630 main_arg4 arg4_unwritten]

theorem filled_w2_8 : PartW (V (Proc.devRef .tc main_arg1)) (V (Proc.devRef .tc main_arg2)) 2 8 (now V 686 main_v550) :=
  next_w _ _ 2 3 1 7 224 96 64 160 rfl rfl rfl rfl rfl _ _ (filled_w2_7 V) fun r k => by
    refine (congrFun (congrFun (after_span V 658 28) (Proc.devRef .tc main_v550)) (ix2 r k)).trans ?_
    rw [set_w2_7, kept_to V 658 main_arg1 arg1_unwritten, kept_to V 658 main_arg2 arg2_unwritten]

theorem filled_b2_8 : PartB (V (Proc.devRef .tc main_arg3)) (V (Proc.devRef .tc main_arg4)) 2 8 (now V 686 main_v559) :=
  next_b _ _ 2 3 1 7 224 96 rfl rfl rfl _ _ (filled_b2_7 V) fun r => by
    refine (congrFun (congrFun (after_span V 658 28) (Proc.devRef .tc main_v559)) (ix1 r)).trans ?_
    rw [set_b2_7, kept_to V 658 main_arg3 arg3_unwritten, kept_to V 658 main_arg4 arg4_unwritten]

theorem layer_w2 (r : Fin 256) (k : Fin 192) : now V 687 main_v550 (ix2 r k) = packW (wiOf (V (Proc.devRef .tc main_arg1)) 2) (whOf (V (Proc.devRef .tc main_arg2)) 2) r k :=
  (congrFun ((kept_from V 687 main_v550 (by decide)).symm.trans (kept_from V 686 main_v550 (by decide))) (ix2 r k)).trans
    ((filled_w2_8 V r k).trans (if_pos (by omega)))

theorem layer_b2 (r : Fin 256) : now V 687 main_v560 (ix2 r 0) = packB (bsOf (V (Proc.devRef .tc main_arg3)) (V (Proc.devRef .tc main_arg4)) 2) r :=
  (congrFun ((kept_from V 687 main_v560 (by decide)).symm.trans (kept_from V 687 main_v560 (by decide))) (ix2 r 0)).trans
    ((congrFun (congrFun (after_span V 686 1) (Proc.devRef .tc main_v560)) (ix2 r 0)).trans
      ((col_b2 _ r).trans ((filled_b2_8 V r).trans (if_pos (by omega)))))

set_option maxHeartbeats 2000000 in
theorem stack_w0 (X : Valuation τ sig (Elt Ideal)) (r : Fin 256) (k : Fin 192) :
    after (hostOps0.drop 687) X (Proc.devRef .tc main_v564) (ix3 0 r k) = X (Proc.devRef .tc main_v176) (ix2 r k) := by
  dsimp only [hostOps0, List.drop]
  after_results_simp
  pointwise
  after_results_simp
  pointwise

set_option maxHeartbeats 2000000 in
theorem stack_b0 (X : Valuation τ sig (Elt Ideal)) (r : Fin 256) :
    after (hostOps0.drop 687) X (Proc.devRef .tc main_v568) (ix3 0 r 0) = X (Proc.devRef .tc main_v186) (ix2 r 0) := by
  dsimp only [hostOps0, List.drop]
  after_results_simp
  pointwise
  after_results_simp
  pointwise

set_option maxHeartbeats 2000000 in
theorem stack_w1 (X : Valuation τ sig (Elt Ideal)) (r : Fin 256) (k : Fin 192) :
    after (hostOps0.drop 687) X (Proc.devRef .tc main_v564) (ix3 1 r k) = X (Proc.devRef .tc main_v363) (ix2 r k) := by
  dsimp only [hostOps0, List.drop]
  after_results_simp
  pointwise
  after_results_simp
  pointwise

set_option maxHeartbeats 2000000 in
theorem stack_b1 (X : Valuation τ sig (Elt Ideal)) (r : Fin 256) :
    after (hostOps0.drop 687) X (Proc.devRef .tc main_v568) (ix3 1 r 0) = X (Proc.devRef .tc main_v373) (ix2 r 0) := by
  dsimp only [hostOps0, List.drop]
  after_results_simp
  pointwise
  after_results_simp
  pointwise

set_option maxHeartbeats 2000000 in
theorem stack_w2 (X : Valuation τ sig (Elt Ideal)) (r : Fin 256) (k : Fin 192) :
    after (hostOps0.drop 687) X (Proc.devRef .tc main_v564) (ix3 2 r k) = X (Proc.devRef .tc main_v550) (ix2 r k) := by
  dsimp only [hostOps0, List.drop]
  after_results_simp
  pointwise
  after_results_simp
  pointwise

set_option maxHeartbeats 2000000 in
theorem stack_b2 (X : Valuation τ sig (Elt Ideal)) (r : Fin 256) :
    after (hostOps0.drop 687) X (Proc.devRef .tc main_v568) (ix3 2 r 0) = X (Proc.devRef .tc main_v560) (ix2 r 0) := by
  dsimp only [hostOps0, List.drop]
  after_results_simp
  pointwise
  after_results_simp
  pointwise

/-- The weights the kernel is called on. -/
theorem packed_w (l : Fin 3) (r : Fin 256) (k : Fin 192) :
    after hostOps0 V (Proc.devRef .tc main_v564) (ix3 l r k) = packW (wiOf (V (Proc.devRef .tc main_arg1)) l) (whOf (V (Proc.devRef .tc main_arg2)) l) r k := by
  rw [after_cut hostOps0 V 687]
  match l with
  | 0 => exact (stack_w0 _ r k).trans (layer_w0 V r k)
  | 1 => exact (stack_w1 _ r k).trans (layer_w1 V r k)
  | 2 => exact (stack_w2 _ r k).trans (layer_w2 V r k)

/-- The biases the kernel is called on. -/
theorem packed_b (l : Fin 3) (r : Fin 256) :
    after hostOps0 V (Proc.devRef .tc main_v568) (ix3 l r 0) = packB (bsOf (V (Proc.devRef .tc main_arg3)) (V (Proc.devRef .tc main_arg4)) l) r := by
  rw [after_cut hostOps0 V 687]
  match l with
  | 0 => exact (stack_b0 _ r).trans (layer_b0 V r)
  | 1 => exact (stack_b1 _ r).trans (layer_b1 V r)
  | 2 => exact (stack_b2 _ r).trans (layer_b2 V r)

end

end Cert.LstmIdeal.Own

end
-- ==== Proof.LoopsRun.lean ====
/-
  The run of a program of host operations whose main function is stretches of operations with
  several counted loops between them, one after another. Each loop with the stretches before it is
  a `Phase`; a phase takes the contents of the buffers at its entry to their contents at its end.
-/
module

public import Idealize.ShloMosaic.Lib.StableHlo.RunLoop

@[expose] public section

noncomputable section

namespace Cert.Phases

open Idealize.ShloMosaic Idealize.ShloMosaic.StableHlo Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (CSeg Ticket PCfg ucRefs unscopedBufs_held sub_ucRefs)

variable {nD : Nat} {τ : Topo} {sig : RefSig} {F : FTy → Type} {Λ₀ : Idealize.SL.Sem.Labels}

local notation "𝕄" => MT nD τ sig Unit (Elt F) ℕ (Option PUnit) ℕ

/-- A program fragment of the main function. -/
abbrev Frag (pcs : Fin 0 → PCfg sig Λ₀ (Elt F)) (nL : ℕ) (α : Type) :=
  Prog (TpuEff nD τ sig (Elt F) (HostLoop.Sig (Pipeline.Sig Λ₀ (Fin 0) fun p => (pcs p).Adm) nL) .tc) α

variable (pcs : Fin 0 → PCfg sig Λ₀ (Elt F)) (defs₀ : Defs nD τ sig (Elt F) Λ₀) {nL : ℕ}
  (loops : Fin nL → Frag (nD := nD) (τ := τ) pcs nL PUnit)

/-- Stretches of operations and the counted loop that follows them. -/
structure Phase where
  pre : List (List (HloOp τ sig (Elt F)))
  hpre : Plain pre
  l : Fin nL
  cond : Frag (nD := nD) (τ := τ) pcs nL (Elt F .i1)
  body : Frag (nD := nD) (τ := τ) pcs nL PUnit
  hloop : loops l = HostLoop.step l cond body
  condOps : List (HloOp τ sig (Elt F))
  bodyI : List (List (HloOp τ sig (Elt F)))
  hbodyI : Plain bodyI
  hbody : body = Pipeline.chain (bodyI.map fun ops => (seq ops : Prog _ PUnit))
  n : ℕ
  hcond : ∀ V : Dev nD → Valuation τ sig (Elt F),
    CondSpec pcs defs₀ loops cond condOps bodyI (fun c => afterL pre (V c)) n

variable {pcs defs₀ loops}

namespace Phase

/-- The buffers when the phase's loop is entered. -/
def entry (p : Phase pcs defs₀ loops) (V : Dev nD → Valuation τ sig (Elt F)) : Dev nD → Valuation τ sig (Elt F) :=
  fun c => afterL p.pre (V c)

/-- The buffers after the phase. -/
def out (p : Phase pcs defs₀ loops) (V : Dev nD → Valuation τ sig (Elt F)) : Dev nD → Valuation τ sig (Elt F) :=
  fun c => after p.condOps (atTrip p.condOps p.bodyI (p.entry V) p.n c)

/-- The phase's items in the main function. -/
def items (p : Phase pcs defs₀ loops) : List (Frag (nD := nD) (τ := τ) pcs nL PUnit) :=
  (p.pre.map fun ops => (seq ops : Prog _ PUnit)) ++ [HostLoop.enter p.l]

end Phase

/-- The buffers after a list of phases. -/
def outs : List (Phase pcs defs₀ loops) → (Dev nD → Valuation τ sig (Elt F)) → Dev nD → Valuation τ sig (Elt F)
  | [], V => V
  | p :: ps, V => outs ps (p.out V)

variable (pcs) in
private abbrev noAdm : (p : Fin 0) → (pcs p).Adm := fun p => p.elim0
variable (pcs) in
private abbrev noTk : Fin 0 → Ticket (Ix := Unit) (Name := ℕ) (U := Option PUnit) (Lvl := ℕ) (nD := nD) (τ := τ) pcs (noAdm pcs) :=
  fun j => j.elim0
private abbrev noL : GSem nD τ sig → Finset Unit := fun _ => ∅
private abbrev lev : GSem nD τ sig → Unit → ℕ := fun _ _ => 0

variable (pcs) in
private theorem cells_injective : Function.Injective (Pipeline.cellOf (nD := nD) (τ := τ) (Pipeline.pin pcs (noAdm pcs))) :=
  fun k => k.1.elim0

/-- What a core owes, carried beside the buffers: nothing. -/
private abbrev Due (c : Dev nD) : sProp 𝕄 := iprop(∃ W, owes (c : Thread nD τ) (0 : CellTallies nD τ sig Unit) W)

/-- A condition's specification with what the core owes carried through it. -/
private theorem carried {cond : Frag (nD := nD) (τ := τ) pcs nL (Elt F .i1)}
    {condOps : List (HloOp τ sig (Elt F))} {bodyI : List (List (HloOp τ sig (Elt F)))} {W : Dev nD → Valuation τ sig (Elt F)} {n : ℕ}
    (h : CondSpec pcs defs₀ loops cond condOps bodyI W n) :
    LoopCond pcs defs₀ Variants.none loops Due cond condOps bodyI W n := by
  intro k hk c bd
  have after_ : ∀ v : Elt F .i1,
      iprop(iprop(⌜v = 1#1 ↔ k < n⌝ ∗ boundary (c : Thread nD τ) ∗ held (c : Thread nD τ) (ucRefs τ sig) (after condOps (atTrip condOps bodyI W k c))) ∗ Due c)
        ⊢ iprop(⌜v = 1#1 ↔ k < n⌝ ∗ boundary (c : Thread nD τ) ∗ held (c : Thread nD τ) (ucRefs τ sig) (after condOps (atTrip condOps bodyI W k c)) ∗ Due c) := by
    intro v
    iintro ⟨⟨%hv, Hb, Hh⟩, HD⟩
    isplitr
    · ipureintro; exact hv
    isplitl [Hb]
    · iexact Hb
    isplitl [Hh] <;> iassumption
  refine BIBase.Entails.trans ?_ (((sep_mono_left (h k hk c bd)).trans (wp_frame_r _ _ _)).trans (wp_mono _ _ _ after_))
  iintro ⟨Hb, Hh, HD⟩
  isplitl [Hb Hh]
  · isplitl [Hb] <;> iassumption
  iexact HD

/-- The phases as segments, from the buffers at `V`. -/
private def segs : List (Phase pcs defs₀ loops) → (Dev nD → Valuation τ sig (Elt F)) →
    List (CSeg pcs (noAdm pcs) defs₀ Variants.none noL lev loops (noTk pcs))
  | [], _ => []
  | p :: ps, V =>
    (segsOf _ _ _ _ _ _ _ _ Due p.pre p.hpre V
      ++ [loopSeg _ _ _ _ _ _ _ _ p.l p.cond p.body p.hloop p.condOps p.bodyI p.hbodyI p.hbody p.n (p.entry V) Due (carried (p.hcond V))])
      ++ segs ps (p.out V)

private theorem segs_prog : ∀ (ps : List (Phase pcs defs₀ loops)) (V : Dev nD → Valuation τ sig (Elt F)),
    (segs ps V).map CSeg.prog = ps.flatMap Phase.items
  | [], _ => rfl
  | p :: ps, V => by
    unfold segs
    rw [List.map_append, List.map_append, segsOf_prog, segs_prog ps, List.flatMap_cons]
    rfl

private theorem segs_chains : ∀ (ps : List (Phase pcs defs₀ loops)) (V : Dev nD → Valuation τ sig (Elt F)),
    CSeg.Chains (fun c => iprop(held (c : Thread nD τ) (ucRefs τ sig) (V c) ∗ Due c)) (segs ps V)
      (fun c => iprop(held (c : Thread nD τ) (ucRefs τ sig) (outs ps V c) ∗ Due c))
  | [], _ => fun _ => .rfl
  | p :: ps, V => by
    unfold segs
    exact CSeg.Chains.append (CSeg.Chains.append (segsOf_chains _ _ _ _ _ _ _ _ Due p.pre p.hpre V) ⟨fun _ => .rfl, fun _ => .rfl⟩)
      (segs_chains ps (p.out V))

/-- The run: from any memory whose counters are zero the main function ends, and every buffer that
    holds a value of the program is then what the phases and the last stretches leave. -/
theorem run_phases [∀ e, Nonempty (Elt F e)]
    (main : Dev nD → Frag (nD := nD) (τ := τ) pcs nL PUnit) (ps : List (Phase pcs defs₀ loops))
    (post : List (List (HloOp τ sig (Elt F)))) (hpost : Plain post)
    (hmain : ∀ c, main c = Pipeline.chain (ps.flatMap Phase.items ++ post.map fun ops => (seq ops : Prog _ PUnit)))
    (m : (ℓ : Loc nD τ sig) → Buf (Elt F) ℓ) (ρ : Dev nD → PrngReg) :
    θ_run (HostLoop.defs loops (Pipeline.defs pcs defs₀)) (onTc (τ := τ) main) ⟨m, fun _ => 0, ρ⟩
      (fun r => ∀ (c : Dev nD) (b : Ref sig .tc), (Proc.devRef .tc b : DevRef τ sig).isScoped = false →
        r.2.mem ((c.tc : Thread nD τ).loc b) = afterL post (outs ps (launchContents m) c) (Proc.devRef .tc b)) :=
  Pipeline.θ_run_regions_loop_kit (Ix := Unit) (Name := ℕ) (U := Option PUnit) (Lvl := ℕ) (J := Fin 0) (P := Fin 0) (Val := Elt F)
    pcs (noAdm pcs) (cells_injective pcs) defs₀ Variants.none noL lev loops (noTk pcs) m ρ main
    (segs ps (launchContents m) ++ segsOf _ _ _ _ _ _ _ _ Due post hpost (outs ps (launchContents m)))
    (fun c Q => by
      rw [hmain c]
      show wp _ _ _ (Pipeline.chain ((segs ps (launchContents m) ++ segsOf _ _ _ _ _ _ _ _ Due post hpost (outs ps (launchContents m))).map CSeg.prog)) Q ⊢ _
      rw [List.map_append, segs_prog, segsOf_prog])
    (CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ Due c))
    (Tₙ := fun c => iprop(held (c : Thread nD τ) (ucRefs τ sig) (afterL post (outs ps (launchContents m) c))))
    (hch := CSeg.Chains.append (segs_chains ps _) (segsOf_chains _ _ _ _ _ _ _ _ Due post hpost _))
    (hinit := by
      refine Pipeline.initEach noL lev fun c => ?_
      rw [show unscopedBufs c (fun b => m ((c : Thread nD τ).loc b)) = held (c : Thread nD τ) (ucRefs τ sig) (launchContents m c)
        from Pipeline.unscopedBufs_held c (launchContents m c)]
      iintro ⟨⟨Hh, -, HO, -, -, -⟩, -⟩
      imodintro
      isplitl [Hh]
      · iexact Hh
      iexists ∅
      iexact HO)
    (QY := fun c s => ∀ b ∈ ucRefs τ sig, s.mem ((c : Dev nD), b) = afterL post (outs ps (launchContents m) c) b)
    (hfin := fun c s' => by
      unfold held
      iintro ⟨Hh, HSI⟩
      ihave Hr := (pointsTo_read_all (ucRefs τ sig) (fun b => ((c : Dev nD), b)) (fun b => afterL post (outs ps (launchContents m) c) b) s') $$ [Hh HSI]
      · isplitl [Hh] <;> iassumption
      icases Hr with ⟨%h, HSI⟩
      imodintro
      isplitr
      · ipureintro; exact h
      iexact HSI)
    (hQ := fun _ h c b hb => h c _ (devRef_mem_ucRefs b hb))

end Cert.Phases

end
-- ==== Proof.LstmRun.lean ====
/-
  The run of the LSTM's reference: its main function and the bodies of its six loops as stretches
  of host operations, and the loops as counted loops of twenty steps.
-/
module

public import proofs.«01_k».proof.LstmReferenceIdeal
public import proofs.«01_k».proof.Proof.Gen.LstmReferenceIdeal
public import proofs.«01_k».proof.Proof.LoopsRun
public import Idealize.ShloMosaic.Lib.Scf.ExitTest

@[expose] public section

namespace Cert.LstmRun

open Cert.LstmReferenceIdeal Cert.LstmReferenceIdeal.Gen
open Idealize.ShloMosaic Idealize.ShloMosaic.StableHlo Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (ucRefs sub_ucRefs)

variable {F : FTy → Type} [FloatOps F]

/-- A chain of one stretch is the stretch. -/
theorem one (ops : List (HloOp τ sig (Elt F))) :
    Pipeline.chain ([seq ops] : List (Prog (TpuEff nD τ sig (Elt F) (HostLoop.Sig (Pipeline.Sig Λ₀ (Fin 0) fun p => (pcfgs (F := F) p).Adm) 6) .tc) PUnit)) = seq ops := by
  rw [Pipeline.chain_cons]
  exact bind_pure _

/-- What the first scan takes. -/
noncomputable abbrev in0 : List (HloOp τ sig (Elt F)) :=
  [ unary main_arg1 main_v0 ((extractStridedSlice S1x1x128x64 ![0, 0, 0, 0] · slices_S3x2x128x64_S1x1x128x64_0_0_0_0) : (⟨S3x2x128x64, .f32⟩ : BufTy).Contents (Elt F) → (⟨S1x1x128x64, .f32⟩ : BufTy).Contents (Elt F))
  , reshape main_v0 main_v1 (rfl : (.f32 : EltTy) = .f32) shapeCasts_S1x1x128x64_S128x64
  , unary main_arg2 main_v2 ((extractStridedSlice S1x1x128x32 ![0, 0, 0, 0] · slices_S3x2x128x32_S1x1x128x32_0_0_0_0) : (⟨S3x2x128x32, .f32⟩ : BufTy).Contents (Elt F) → (⟨S1x1x128x32, .f32⟩ : BufTy).Contents (Elt F))
  , reshape main_v2 main_v3 (rfl : (.f32 : EltTy) = .f32) shapeCasts_S1x1x128x32_S128x32
  , unary main_arg3 main_v4 ((extractStridedSlice S1x1x128 ![0, 0, 0] · slices_S3x2x128_S1x1x128_0_0_0) : (⟨S3x2x128, .f32⟩ : BufTy).Contents (Elt F) → (⟨S1x1x128, .f32⟩ : BufTy).Contents (Elt F))
  , reshape main_v4 main_v5 (rfl : (.f32 : EltTy) = .f32) shapeCasts_S1x1x128_S128
  , unary main_arg4 main_v6 ((extractStridedSlice S1x1x128 ![0, 0, 0] · slices_S3x2x128_S1x1x128_0_0_0) : (⟨S3x2x128, .f32⟩ : BufTy).Contents (Elt F) → (⟨S1x1x128, .f32⟩ : BufTy).Contents (Elt F))
  , reshape main_v6 main_v7 (rfl : (.f32 : EltTy) = .f32) shapeCasts_S1x1x128_S128
  , binary main_v5 main_v7 main_v8 (addf : (⟨S128, .f32⟩ : BufTy).Contents (Elt F) → (⟨S128, .f32⟩ : BufTy).Contents (Elt F) → (⟨S128, .f32⟩ : BufTy).Contents (Elt F))
  , nullary main_cst (constant S_ .f32 0x00000000#32)
  , unary main_cst main_v9 (broadcastInDim S1024x32 ![] bcast_S_S1024x32 : (⟨S_, .f32⟩ : BufTy).Contents (Elt F) → (⟨S1024x32, .f32⟩ : BufTy).Contents (Elt F))
  , nullary main_cst_0 (constant S_ .f32 0x00000000#32)
  , unary main_cst_0 main_v10 (broadcastInDim S1024x32 ![] bcast_S_S1024x32 : (⟨S_, .f32⟩ : BufTy).Contents (Elt F) → (⟨S1024x32, .f32⟩ : BufTy).Contents (Elt F))
  , nullary main_cst_1 (constant S_ .f32 0x00000000#32)
  , unary main_cst_1 main_v11 (broadcastInDim S20x1024x32 ![] bcast_S_S20x1024x32 : (⟨S_, .f32⟩ : BufTy).Contents (Elt F) → (⟨S20x1024x32, .f32⟩ : BufTy).Contents (Elt F))
  , nullary main_c (constantI S_ 32 0#32) ]

theorem in0_sub : (in0 (F := F)).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., binary_bufs_sub .., nullary_bufs_sub .., unary_bufs_sub .., nullary_bufs_sub .., unary_bufs_sub .., nullary_bufs_sub .., unary_bufs_sub .., nullary_bufs_sub ..⟩

/-- The buffers it writes. -/
abbrev in0_W : List (Ref sig .tc) := [main_v0, main_v1, main_v2, main_v3, main_v4, main_v5, main_v6, main_v7, main_v8, main_cst, main_v9, main_cst_0, main_v10, main_cst_1, main_v11, main_c]

theorem in0_writes : (in0 (F := F)).Forall fun op => op.writes ⊆ (in0_W.map (Proc.devRef (τ := τ) .tc)).toFinset :=
  forall_writes_sub_of_map rfl

/-- What the first loop starts from. -/
noncomputable abbrev cp0 : List (HloOp τ sig (Elt F)) :=
  [ unary main_arg0 main_v12_0 id
  , unary main_v1 main_v12_1 id
  , unary main_v3 main_v12_2 id
  , unary main_v8 main_v12_3 id
  , unary main_c main_v12_4 id
  , unary main_v9 main_v12_5 id
  , unary main_v10 main_v12_6 id
  , unary main_v11 main_v12_7 id ]

theorem cp0_sub : (cp0 (F := F)).Forall fun op => op.bufs ⊆ tcRefs τ sig :=
  ⟨unary_bufs_sub .., unary_bufs_sub .., unary_bufs_sub .., unary_bufs_sub .., unary_bufs_sub .., unary_bufs_sub .., unary_bufs_sub .., unary_bufs_sub ..⟩

/-- The buffers it writes. -/
abbrev cp0_W : List (Ref sig .tc) := [main_v12_0, main_v12_1, main_v12_2, main_v12_3, main_v12_4, main_v12_5, main_v12_6, main_v12_7]

theorem cp0_writes : (cp0 (F := F)).Forall fun op => op.writes ⊆ (cp0_W.map (Proc.devRef (τ := τ) .tc)).toFinset :=
  forall_writes_sub_of_map rfl

/-- What the second scan takes. -/
noncomputable abbrev in1 : List (HloOp τ sig (Elt F)) :=
  [ unary main_arg0 main_v13 (Host.reverse [0] : (⟨S20x1024x64, .f32⟩ : BufTy).Contents (Elt F) → (⟨S20x1024x64, .f32⟩ : BufTy).Contents (Elt F))
  , unary main_arg1 main_v14 ((extractStridedSlice S1x1x128x64 ![0, 1, 0, 0] · slices_S3x2x128x64_S1x1x128x64_0_1_0_0) : (⟨S3x2x128x64, .f32⟩ : BufTy).Contents (Elt F) → (⟨S1x1x128x64, .f32⟩ : BufTy).Contents (Elt F))
  , reshape main_v14 main_v15 (rfl : (.f32 : EltTy) = .f32) shapeCasts_S1x1x128x64_S128x64
  , unary main_arg2 main_v16 ((extractStridedSlice S1x1x128x32 ![0, 1, 0, 0] · slices_S3x2x128x32_S1x1x128x32_0_1_0_0) : (⟨S3x2x128x32, .f32⟩ : BufTy).Contents (Elt F) → (⟨S1x1x128x32, .f32⟩ : BufTy).Contents (Elt F))
  , reshape main_v16 main_v17 (rfl : (.f32 : EltTy) = .f32) shapeCasts_S1x1x128x32_S128x32
  , unary main_arg3 main_v18 ((extractStridedSlice S1x1x128 ![0, 1, 0] · slices_S3x2x128_S1x1x128_0_1_0) : (⟨S3x2x128, .f32⟩ : BufTy).Contents (Elt F) → (⟨S1x1x128, .f32⟩ : BufTy).Contents (Elt F))
  , reshape main_v18 main_v19 (rfl : (.f32 : EltTy) = .f32) shapeCasts_S1x1x128_S128
  , unary main_arg4 main_v20 ((extractStridedSlice S1x1x128 ![0, 1, 0] · slices_S3x2x128_S1x1x128_0_1_0) : (⟨S3x2x128, .f32⟩ : BufTy).Contents (Elt F) → (⟨S1x1x128, .f32⟩ : BufTy).Contents (Elt F))
  , reshape main_v20 main_v21 (rfl : (.f32 : EltTy) = .f32) shapeCasts_S1x1x128_S128
  , binary main_v19 main_v21 main_v22 (addf : (⟨S128, .f32⟩ : BufTy).Contents (Elt F) → (⟨S128, .f32⟩ : BufTy).Contents (Elt F) → (⟨S128, .f32⟩ : BufTy).Contents (Elt F))
  , nullary main_cst_2 (constant S_ .f32 0x00000000#32)
  , unary main_cst_2 main_v23 (broadcastInDim S1024x32 ![] bcast_S_S1024x32 : (⟨S_, .f32⟩ : BufTy).Contents (Elt F) → (⟨S1024x32, .f32⟩ : BufTy).Contents (Elt F))
  , nullary main_cst_3 (constant S_ .f32 0x00000000#32)
  , unary main_cst_3 main_v24 (broadcastInDim S1024x32 ![] bcast_S_S1024x32 : (⟨S_, .f32⟩ : BufTy).Contents (Elt F) → (⟨S1024x32, .f32⟩ : BufTy).Contents (Elt F))
  , nullary main_cst_4 (constant S_ .f32 0x00000000#32)
  , unary main_cst_4 main_v25 (broadcastInDim S20x1024x32 ![] bcast_S_S20x1024x32 : (⟨S_, .f32⟩ : BufTy).Contents (Elt F) → (⟨S20x1024x32, .f32⟩ : BufTy).Contents (Elt F))
  , nullary main_c_5 (constantI S_ 32 0#32) ]

theorem in1_sub : (in1 (F := F)).Forall fun op => op.bufs ⊆ tcRefs τ sig :=
  ⟨unary_bufs_sub .., unary_bufs_sub .., reshape_bufs_sub .., unary_bufs_sub .., reshape_bufs_sub .., unary_bufs_sub .., reshape_bufs_sub .., unary_bufs_sub .., reshape_bufs_sub .., binary_bufs_sub .., nullary_bufs_sub .., unary_bufs_sub .., nullary_bufs_sub .., unary_bufs_sub .., nullary_bufs_sub .., unary_bufs_sub .., nullary_bufs_sub ..⟩

/-- The buffers it writes. -/
abbrev in1_W : List (Ref sig .tc) := [main_v13, main_v14, main_v15, main_v16, main_v17, main_v18, main_v19, main_v20, main_v21, main_v22, main_cst_2, main_v23, main_cst_3, main_v24, main_cst_4, main_v25, main_c_5]

theorem in1_writes : (in1 (F := F)).Forall fun op => op.writes ⊆ (in1_W.map (Proc.devRef (τ := τ) .tc)).toFinset :=
  forall_writes_sub_of_map rfl

/-- What the second loop starts from. -/
noncomputable abbrev cp1 : List (HloOp τ sig (Elt F)) :=
  [ unary main_v13 main_v26_0 id
  , unary main_v15 main_v26_1 id
  , unary main_v17 main_v26_2 id
  , unary main_v22 main_v26_3 id
  , unary main_c_5 main_v26_4 id
  , unary main_v23 main_v26_5 id
  , unary main_v24 main_v26_6 id
  , unary main_v25 main_v26_7 id ]

theorem cp1_sub : (cp1 (F := F)).Forall fun op => op.bufs ⊆ tcRefs τ sig :=
  ⟨unary_bufs_sub .., unary_bufs_sub .., unary_bufs_sub .., unary_bufs_sub .., unary_bufs_sub .., unary_bufs_sub .., unary_bufs_sub .., unary_bufs_sub ..⟩

/-- The buffers it writes. -/
abbrev cp1_W : List (Ref sig .tc) := [main_v26_0, main_v26_1, main_v26_2, main_v26_3, main_v26_4, main_v26_5, main_v26_6, main_v26_7]

theorem cp1_writes : (cp1 (F := F)).Forall fun op => op.writes ⊆ (cp1_W.map (Proc.devRef (τ := τ) .tc)).toFinset :=
  forall_writes_sub_of_map rfl

/-- The directions' outputs put together. -/
noncomputable abbrev join2 : List (HloOp τ sig (Elt F)) :=
  [ unary main_v26_7 main_v27 (Host.reverse [0] : (⟨S20x1024x32, .f32⟩ : BufTy).Contents (Elt F) → (⟨S20x1024x32, .f32⟩ : BufTy).Contents (Elt F))
  , binary main_v12_7 main_v27 main_v28 ((fun a b => concatenate S20x1024x64 2 [⟨S20x1024x32, a⟩, ⟨S20x1024x32, b⟩] concatenates_S20x1024x32_S20x1024x32_S20x1024x64_d2) : (⟨S20x1024x32, .f32⟩ : BufTy).Contents (Elt F) → (⟨S20x1024x32, .f32⟩ : BufTy).Contents (Elt F) → (⟨S20x1024x64, .f32⟩ : BufTy).Contents (Elt F)) ]

theorem join2_sub : (join2 (F := F)).Forall fun op => op.bufs ⊆ tcRefs τ sig :=
  ⟨unary_bufs_sub .., binary_bufs_sub ..⟩

/-- The buffers it writes. -/
abbrev join2_W : List (Ref sig .tc) := [main_v27, main_v28]

theorem join2_writes : (join2 (F := F)).Forall fun op => op.writes ⊆ (join2_W.map (Proc.devRef (τ := τ) .tc)).toFinset :=
  forall_writes_sub_of_map rfl

/-- What the third scan takes, the first part. -/
noncomputable abbrev in2a : List (HloOp τ sig (Elt F)) :=
  [ unary main_arg1 main_v29 ((extractStridedSlice S1x1x128x64 ![1, 0, 0, 0] · slices_S3x2x128x64_S1x1x128x64_1_0_0_0) : (⟨S3x2x128x64, .f32⟩ : BufTy).Contents (Elt F) → (⟨S1x1x128x64, .f32⟩ : BufTy).Contents (Elt F))
  , reshape main_v29 main_v30 (rfl : (.f32 : EltTy) = .f32) shapeCasts_S1x1x128x64_S128x64
  , unary main_arg2 main_v31 ((extractStridedSlice S1x1x128x32 ![1, 0, 0, 0] · slices_S3x2x128x32_S1x1x128x32_1_0_0_0) : (⟨S3x2x128x32, .f32⟩ : BufTy).Contents (Elt F) → (⟨S1x1x128x32, .f32⟩ : BufTy).Contents (Elt F))
  , reshape main_v31 main_v32 (rfl : (.f32 : EltTy) = .f32) shapeCasts_S1x1x128x32_S128x32
  , unary main_arg3 main_v33 ((extractStridedSlice S1x1x128 ![1, 0, 0] · slices_S3x2x128_S1x1x128_1_0_0) : (⟨S3x2x128, .f32⟩ : BufTy).Contents (Elt F) → (⟨S1x1x128, .f32⟩ : BufTy).Contents (Elt F))
  , reshape main_v33 main_v34 (rfl : (.f32 : EltTy) = .f32) shapeCasts_S1x1x128_S128
  , unary main_arg4 main_v35 ((extractStridedSlice S1x1x128 ![1, 0, 0] · slices_S3x2x128_S1x1x128_1_0_0) : (⟨S3x2x128, .f32⟩ : BufTy).Contents (Elt F) → (⟨S1x1x128, .f32⟩ : BufTy).Contents (Elt F)) ]

theorem in2a_sub : (in2a (F := F)).Forall fun op => op.bufs ⊆ tcRefs τ sig :=
  ⟨unary_bufs_sub .., reshape_bufs_sub .., unary_bufs_sub .., reshape_bufs_sub .., unary_bufs_sub .., reshape_bufs_sub .., unary_bufs_sub ..⟩

/-- The buffers it writes. -/
abbrev in2a_W : List (Ref sig .tc) := [main_v29, main_v30, main_v31, main_v32, main_v33, main_v34, main_v35]

theorem in2a_writes : (in2a (F := F)).Forall fun op => op.writes ⊆ (in2a_W.map (Proc.devRef (τ := τ) .tc)).toFinset :=
  forall_writes_sub_of_map rfl

/-- What the third scan takes, the rest. -/
noncomputable abbrev in2b : List (HloOp τ sig (Elt F)) :=
  [ reshape main_v35 main_v36 (rfl : (.f32 : EltTy) = .f32) shapeCasts_S1x1x128_S128
  , binary main_v34 main_v36 main_v37 (addf : (⟨S128, .f32⟩ : BufTy).Contents (Elt F) → (⟨S128, .f32⟩ : BufTy).Contents (Elt F) → (⟨S128, .f32⟩ : BufTy).Contents (Elt F))
  , nullary main_cst_6 (constant S_ .f32 0x00000000#32)
  , unary main_cst_6 main_v38 (broadcastInDim S1024x32 ![] bcast_S_S1024x32 : (⟨S_, .f32⟩ : BufTy).Contents (Elt F) → (⟨S1024x32, .f32⟩ : BufTy).Contents (Elt F))
  , nullary main_cst_7 (constant S_ .f32 0x00000000#32)
  , unary main_cst_7 main_v39 (broadcastInDim S1024x32 ![] bcast_S_S1024x32 : (⟨S_, .f32⟩ : BufTy).Contents (Elt F) → (⟨S1024x32, .f32⟩ : BufTy).Contents (Elt F))
  , nullary main_cst_8 (constant S_ .f32 0x00000000#32)
  , unary main_cst_8 main_v40 (broadcastInDim S20x1024x32 ![] bcast_S_S20x1024x32 : (⟨S_, .f32⟩ : BufTy).Contents (Elt F) → (⟨S20x1024x32, .f32⟩ : BufTy).Contents (Elt F))
  , nullary main_c_9 (constantI S_ 32 0#32) ]

theorem in2b_sub : (in2b (F := F)).Forall fun op => op.bufs ⊆ tcRefs τ sig :=
  ⟨reshape_bufs_sub .., binary_bufs_sub .., nullary_bufs_sub .., unary_bufs_sub .., nullary_bufs_sub .., unary_bufs_sub .., nullary_bufs_sub .., unary_bufs_sub .., nullary_bufs_sub ..⟩

/-- The buffers it writes. -/
abbrev in2b_W : List (Ref sig .tc) := [main_v36, main_v37, main_cst_6, main_v38, main_cst_7, main_v39, main_cst_8, main_v40, main_c_9]

theorem in2b_writes : (in2b (F := F)).Forall fun op => op.writes ⊆ (in2b_W.map (Proc.devRef (τ := τ) .tc)).toFinset :=
  forall_writes_sub_of_map rfl

/-- What the third loop starts from. -/
noncomputable abbrev cp2 : List (HloOp τ sig (Elt F)) :=
  [ unary main_v28 main_v41_0 id
  , unary main_v30 main_v41_1 id
  , unary main_v32 main_v41_2 id
  , unary main_v37 main_v41_3 id
  , unary main_c_9 main_v41_4 id
  , unary main_v38 main_v41_5 id
  , unary main_v39 main_v41_6 id
  , unary main_v40 main_v41_7 id ]

theorem cp2_sub : (cp2 (F := F)).Forall fun op => op.bufs ⊆ tcRefs τ sig :=
  ⟨unary_bufs_sub .., unary_bufs_sub .., unary_bufs_sub .., unary_bufs_sub .., unary_bufs_sub .., unary_bufs_sub .., unary_bufs_sub .., unary_bufs_sub ..⟩

/-- The buffers it writes. -/
abbrev cp2_W : List (Ref sig .tc) := [main_v41_0, main_v41_1, main_v41_2, main_v41_3, main_v41_4, main_v41_5, main_v41_6, main_v41_7]

theorem cp2_writes : (cp2 (F := F)).Forall fun op => op.writes ⊆ (cp2_W.map (Proc.devRef (τ := τ) .tc)).toFinset :=
  forall_writes_sub_of_map rfl

/-- What the fourth scan takes. -/
noncomputable abbrev in3 : List (HloOp τ sig (Elt F)) :=
  [ unary main_v28 main_v42 (Host.reverse [0] : (⟨S20x1024x64, .f32⟩ : BufTy).Contents (Elt F) → (⟨S20x1024x64, .f32⟩ : BufTy).Contents (Elt F))
  , unary main_arg1 main_v43 ((extractStridedSlice S1x1x128x64 ![1, 1, 0, 0] · slices_S3x2x128x64_S1x1x128x64_1_1_0_0) : (⟨S3x2x128x64, .f32⟩ : BufTy).Contents (Elt F) → (⟨S1x1x128x64, .f32⟩ : BufTy).Contents (Elt F))
  , reshape main_v43 main_v44 (rfl : (.f32 : EltTy) = .f32) shapeCasts_S1x1x128x64_S128x64
  , unary main_arg2 main_v45 ((extractStridedSlice S1x1x128x32 ![1, 1, 0, 0] · slices_S3x2x128x32_S1x1x128x32_1_1_0_0) : (⟨S3x2x128x32, .f32⟩ : BufTy).Contents (Elt F) → (⟨S1x1x128x32, .f32⟩ : BufTy).Contents (Elt F))
  , reshape main_v45 main_v46 (rfl : (.f32 : EltTy) = .f32) shapeCasts_S1x1x128x32_S128x32
  , unary main_arg3 main_v47 ((extractStridedSlice S1x1x128 ![1, 1, 0] · slices_S3x2x128_S1x1x128_1_1_0) : (⟨S3x2x128, .f32⟩ : BufTy).Contents (Elt F) → (⟨S1x1x128, .f32⟩ : BufTy).Contents (Elt F))
  , reshape main_v47 main_v48 (rfl : (.f32 : EltTy) = .f32) shapeCasts_S1x1x128_S128
  , unary main_arg4 main_v49 ((extractStridedSlice S1x1x128 ![1, 1, 0] · slices_S3x2x128_S1x1x128_1_1_0) : (⟨S3x2x128, .f32⟩ : BufTy).Contents (Elt F) → (⟨S1x1x128, .f32⟩ : BufTy).Contents (Elt F))
  , reshape main_v49 main_v50 (rfl : (.f32 : EltTy) = .f32) shapeCasts_S1x1x128_S128
  , binary main_v48 main_v50 main_v51 (addf : (⟨S128, .f32⟩ : BufTy).Contents (Elt F) → (⟨S128, .f32⟩ : BufTy).Contents (Elt F) → (⟨S128, .f32⟩ : BufTy).Contents (Elt F))
  , nullary main_cst_10 (constant S_ .f32 0x00000000#32)
  , unary main_cst_10 main_v52 (broadcastInDim S1024x32 ![] bcast_S_S1024x32 : (⟨S_, .f32⟩ : BufTy).Contents (Elt F) → (⟨S1024x32, .f32⟩ : BufTy).Contents (Elt F))
  , nullary main_cst_11 (constant S_ .f32 0x00000000#32)
  , unary main_cst_11 main_v53 (broadcastInDim S1024x32 ![] bcast_S_S1024x32 : (⟨S_, .f32⟩ : BufTy).Contents (Elt F) → (⟨S1024x32, .f32⟩ : BufTy).Contents (Elt F))
  , nullary main_cst_12 (constant S_ .f32 0x00000000#32)
  , unary main_cst_12 main_v54 (broadcastInDim S20x1024x32 ![] bcast_S_S20x1024x32 : (⟨S_, .f32⟩ : BufTy).Contents (Elt F) → (⟨S20x1024x32, .f32⟩ : BufTy).Contents (Elt F))
  , nullary main_c_13 (constantI S_ 32 0#32) ]

theorem in3_sub : (in3 (F := F)).Forall fun op => op.bufs ⊆ tcRefs τ sig :=
  ⟨unary_bufs_sub .., unary_bufs_sub .., reshape_bufs_sub .., unary_bufs_sub .., reshape_bufs_sub .., unary_bufs_sub .., reshape_bufs_sub .., unary_bufs_sub .., reshape_bufs_sub .., binary_bufs_sub .., nullary_bufs_sub .., unary_bufs_sub .., nullary_bufs_sub .., unary_bufs_sub .., nullary_bufs_sub .., unary_bufs_sub .., nullary_bufs_sub ..⟩

/-- The buffers it writes. -/
abbrev in3_W : List (Ref sig .tc) := [main_v42, main_v43, main_v44, main_v45, main_v46, main_v47, main_v48, main_v49, main_v50, main_v51, main_cst_10, main_v52, main_cst_11, main_v53, main_cst_12, main_v54, main_c_13]

theorem in3_writes : (in3 (F := F)).Forall fun op => op.writes ⊆ (in3_W.map (Proc.devRef (τ := τ) .tc)).toFinset :=
  forall_writes_sub_of_map rfl

/-- What the fourth loop starts from. -/
noncomputable abbrev cp3 : List (HloOp τ sig (Elt F)) :=
  [ unary main_v42 main_v55_0 id
  , unary main_v44 main_v55_1 id
  , unary main_v46 main_v55_2 id
  , unary main_v51 main_v55_3 id
  , unary main_c_13 main_v55_4 id
  , unary main_v52 main_v55_5 id
  , unary main_v53 main_v55_6 id
  , unary main_v54 main_v55_7 id ]

theorem cp3_sub : (cp3 (F := F)).Forall fun op => op.bufs ⊆ tcRefs τ sig :=
  ⟨unary_bufs_sub .., unary_bufs_sub .., unary_bufs_sub .., unary_bufs_sub .., unary_bufs_sub .., unary_bufs_sub .., unary_bufs_sub .., unary_bufs_sub ..⟩

/-- The buffers it writes. -/
abbrev cp3_W : List (Ref sig .tc) := [main_v55_0, main_v55_1, main_v55_2, main_v55_3, main_v55_4, main_v55_5, main_v55_6, main_v55_7]

theorem cp3_writes : (cp3 (F := F)).Forall fun op => op.writes ⊆ (cp3_W.map (Proc.devRef (τ := τ) .tc)).toFinset :=
  forall_writes_sub_of_map rfl

/-- The directions' outputs put together. -/
noncomputable abbrev join4 : List (HloOp τ sig (Elt F)) :=
  [ unary main_v55_7 main_v56 (Host.reverse [0] : (⟨S20x1024x32, .f32⟩ : BufTy).Contents (Elt F) → (⟨S20x1024x32, .f32⟩ : BufTy).Contents (Elt F))
  , binary main_v41_7 main_v56 main_v57 ((fun a b => concatenate S20x1024x64 2 [⟨S20x1024x32, a⟩, ⟨S20x1024x32, b⟩] concatenates_S20x1024x32_S20x1024x32_S20x1024x64_d2) : (⟨S20x1024x32, .f32⟩ : BufTy).Contents (Elt F) → (⟨S20x1024x32, .f32⟩ : BufTy).Contents (Elt F) → (⟨S20x1024x64, .f32⟩ : BufTy).Contents (Elt F)) ]

theorem join4_sub : (join4 (F := F)).Forall fun op => op.bufs ⊆ tcRefs τ sig :=
  ⟨unary_bufs_sub .., binary_bufs_sub ..⟩

/-- The buffers it writes. -/
abbrev join4_W : List (Ref sig .tc) := [main_v56, main_v57]

theorem join4_writes : (join4 (F := F)).Forall fun op => op.writes ⊆ (join4_W.map (Proc.devRef (τ := τ) .tc)).toFinset :=
  forall_writes_sub_of_map rfl

/-- What the fifth scan takes, the first part. -/
noncomputable abbrev in4a : List (HloOp τ sig (Elt F)) :=
  [ unary main_arg1 main_v58 ((extractStridedSlice S1x1x128x64 ![2, 0, 0, 0] · slices_S3x2x128x64_S1x1x128x64_2_0_0_0) : (⟨S3x2x128x64, .f32⟩ : BufTy).Contents (Elt F) → (⟨S1x1x128x64, .f32⟩ : BufTy).Contents (Elt F))
  , reshape main_v58 main_v59 (rfl : (.f32 : EltTy) = .f32) shapeCasts_S1x1x128x64_S128x64
  , unary main_arg2 main_v60 ((extractStridedSlice S1x1x128x32 ![2, 0, 0, 0] · slices_S3x2x128x32_S1x1x128x32_2_0_0_0) : (⟨S3x2x128x32, .f32⟩ : BufTy).Contents (Elt F) → (⟨S1x1x128x32, .f32⟩ : BufTy).Contents (Elt F))
  , reshape main_v60 main_v61 (rfl : (.f32 : EltTy) = .f32) shapeCasts_S1x1x128x32_S128x32
  , unary main_arg3 main_v62 ((extractStridedSlice S1x1x128 ![2, 0, 0] · slices_S3x2x128_S1x1x128_2_0_0) : (⟨S3x2x128, .f32⟩ : BufTy).Contents (Elt F) → (⟨S1x1x128, .f32⟩ : BufTy).Contents (Elt F))
  , reshape main_v62 main_v63 (rfl : (.f32 : EltTy) = .f32) shapeCasts_S1x1x128_S128
  , unary main_arg4 main_v64 ((extractStridedSlice S1x1x128 ![2, 0, 0] · slices_S3x2x128_S1x1x128_2_0_0) : (⟨S3x2x128, .f32⟩ : BufTy).Contents (Elt F) → (⟨S1x1x128, .f32⟩ : BufTy).Contents (Elt F))
  , reshape main_v64 main_v65 (rfl : (.f32 : EltTy) = .f32) shapeCasts_S1x1x128_S128
  , binary main_v63 main_v65 main_v66 (addf : (⟨S128, .f32⟩ : BufTy).Contents (Elt F) → (⟨S128, .f32⟩ : BufTy).Contents (Elt F) → (⟨S128, .f32⟩ : BufTy).Contents (Elt F))
  , nullary main_cst_14 (constant S_ .f32 0x00000000#32)
  , unary main_cst_14 main_v67 (broadcastInDim S1024x32 ![] bcast_S_S1024x32 : (⟨S_, .f32⟩ : BufTy).Contents (Elt F) → (⟨S1024x32, .f32⟩ : BufTy).Contents (Elt F))
  , nullary main_cst_15 (constant S_ .f32 0x00000000#32)
  , unary main_cst_15 main_v68 (broadcastInDim S1024x32 ![] bcast_S_S1024x32 : (⟨S_, .f32⟩ : BufTy).Contents (Elt F) → (⟨S1024x32, .f32⟩ : BufTy).Contents (Elt F))
  , nullary main_cst_16 (constant S_ .f32 0x00000000#32) ]

theorem in4a_sub : (in4a (F := F)).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., binary_bufs_sub .., nullary_bufs_sub .., unary_bufs_sub .., nullary_bufs_sub .., unary_bufs_sub .., nullary_bufs_sub ..⟩

/-- The buffers it writes. -/
abbrev in4a_W : List (Ref sig .tc) := [main_v58, main_v59, main_v60, main_v61, main_v62, main_v63, main_v64, main_v65, main_v66, main_cst_14, main_v67, main_cst_15, main_v68, main_cst_16]

theorem in4a_writes : (in4a (F := F)).Forall fun op => op.writes ⊆ (in4a_W.map (Proc.devRef (τ := τ) .tc)).toFinset :=
  forall_writes_sub_of_map rfl

/-- What the fifth scan takes, the rest. -/
noncomputable abbrev in4b : List (HloOp τ sig (Elt F)) :=
  [ unary main_cst_16 main_v69 (broadcastInDim S20x1024x32 ![] bcast_S_S20x1024x32 : (⟨S_, .f32⟩ : BufTy).Contents (Elt F) → (⟨S20x1024x32, .f32⟩ : BufTy).Contents (Elt F))
  , nullary main_c_17 (constantI S_ 32 0#32) ]

theorem in4b_sub : (in4b (F := F)).Forall fun op => op.bufs ⊆ tcRefs τ sig :=
  ⟨unary_bufs_sub .., nullary_bufs_sub ..⟩

/-- The buffers it writes. -/
abbrev in4b_W : List (Ref sig .tc) := [main_v69, main_c_17]

theorem in4b_writes : (in4b (F := F)).Forall fun op => op.writes ⊆ (in4b_W.map (Proc.devRef (τ := τ) .tc)).toFinset :=
  forall_writes_sub_of_map rfl

/-- What the fifth loop starts from. -/
noncomputable abbrev cp4 : List (HloOp τ sig (Elt F)) :=
  [ unary main_v57 main_v70_0 id
  , unary main_v59 main_v70_1 id
  , unary main_v61 main_v70_2 id
  , unary main_v66 main_v70_3 id
  , unary main_c_17 main_v70_4 id
  , unary main_v67 main_v70_5 id
  , unary main_v68 main_v70_6 id
  , unary main_v69 main_v70_7 id ]

theorem cp4_sub : (cp4 (F := F)).Forall fun op => op.bufs ⊆ tcRefs τ sig :=
  ⟨unary_bufs_sub .., unary_bufs_sub .., unary_bufs_sub .., unary_bufs_sub .., unary_bufs_sub .., unary_bufs_sub .., unary_bufs_sub .., unary_bufs_sub ..⟩

/-- The buffers it writes. -/
abbrev cp4_W : List (Ref sig .tc) := [main_v70_0, main_v70_1, main_v70_2, main_v70_3, main_v70_4, main_v70_5, main_v70_6, main_v70_7]

theorem cp4_writes : (cp4 (F := F)).Forall fun op => op.writes ⊆ (cp4_W.map (Proc.devRef (τ := τ) .tc)).toFinset :=
  forall_writes_sub_of_map rfl

/-- What the sixth scan takes. -/
noncomputable abbrev in5 : List (HloOp τ sig (Elt F)) :=
  [ unary main_v57 main_v71 (Host.reverse [0] : (⟨S20x1024x64, .f32⟩ : BufTy).Contents (Elt F) → (⟨S20x1024x64, .f32⟩ : BufTy).Contents (Elt F))
  , unary main_arg1 main_v72 ((extractStridedSlice S1x1x128x64 ![2, 1, 0, 0] · slices_S3x2x128x64_S1x1x128x64_2_1_0_0) : (⟨S3x2x128x64, .f32⟩ : BufTy).Contents (Elt F) → (⟨S1x1x128x64, .f32⟩ : BufTy).Contents (Elt F))
  , reshape main_v72 main_v73 (rfl : (.f32 : EltTy) = .f32) shapeCasts_S1x1x128x64_S128x64
  , unary main_arg2 main_v74 ((extractStridedSlice S1x1x128x32 ![2, 1, 0, 0] · slices_S3x2x128x32_S1x1x128x32_2_1_0_0) : (⟨S3x2x128x32, .f32⟩ : BufTy).Contents (Elt F) → (⟨S1x1x128x32, .f32⟩ : BufTy).Contents (Elt F))
  , reshape main_v74 main_v75 (rfl : (.f32 : EltTy) = .f32) shapeCasts_S1x1x128x32_S128x32
  , unary main_arg3 main_v76 ((extractStridedSlice S1x1x128 ![2, 1, 0] · slices_S3x2x128_S1x1x128_2_1_0) : (⟨S3x2x128, .f32⟩ : BufTy).Contents (Elt F) → (⟨S1x1x128, .f32⟩ : BufTy).Contents (Elt F))
  , reshape main_v76 main_v77 (rfl : (.f32 : EltTy) = .f32) shapeCasts_S1x1x128_S128
  , unary main_arg4 main_v78 ((extractStridedSlice S1x1x128 ![2, 1, 0] · slices_S3x2x128_S1x1x128_2_1_0) : (⟨S3x2x128, .f32⟩ : BufTy).Contents (Elt F) → (⟨S1x1x128, .f32⟩ : BufTy).Contents (Elt F))
  , reshape main_v78 main_v79 (rfl : (.f32 : EltTy) = .f32) shapeCasts_S1x1x128_S128
  , binary main_v77 main_v79 main_v80 (addf : (⟨S128, .f32⟩ : BufTy).Contents (Elt F) → (⟨S128, .f32⟩ : BufTy).Contents (Elt F) → (⟨S128, .f32⟩ : BufTy).Contents (Elt F))
  , nullary main_cst_18 (constant S_ .f32 0x00000000#32)
  , unary main_cst_18 main_v81 (broadcastInDim S1024x32 ![] bcast_S_S1024x32 : (⟨S_, .f32⟩ : BufTy).Contents (Elt F) → (⟨S1024x32, .f32⟩ : BufTy).Contents (Elt F))
  , nullary main_cst_19 (constant S_ .f32 0x00000000#32)
  , unary main_cst_19 main_v82 (broadcastInDim S1024x32 ![] bcast_S_S1024x32 : (⟨S_, .f32⟩ : BufTy).Contents (Elt F) → (⟨S1024x32, .f32⟩ : BufTy).Contents (Elt F))
  , nullary main_cst_20 (constant S_ .f32 0x00000000#32)
  , unary main_cst_20 main_v83 (broadcastInDim S20x1024x32 ![] bcast_S_S20x1024x32 : (⟨S_, .f32⟩ : BufTy).Contents (Elt F) → (⟨S20x1024x32, .f32⟩ : BufTy).Contents (Elt F))
  , nullary main_c_21 (constantI S_ 32 0#32) ]

theorem in5_sub : (in5 (F := F)).Forall fun op => op.bufs ⊆ tcRefs τ sig :=
  ⟨unary_bufs_sub .., unary_bufs_sub .., reshape_bufs_sub .., unary_bufs_sub .., reshape_bufs_sub .., unary_bufs_sub .., reshape_bufs_sub .., unary_bufs_sub .., reshape_bufs_sub .., binary_bufs_sub .., nullary_bufs_sub .., unary_bufs_sub .., nullary_bufs_sub .., unary_bufs_sub .., nullary_bufs_sub .., unary_bufs_sub .., nullary_bufs_sub ..⟩

/-- The buffers it writes. -/
abbrev in5_W : List (Ref sig .tc) := [main_v71, main_v72, main_v73, main_v74, main_v75, main_v76, main_v77, main_v78, main_v79, main_v80, main_cst_18, main_v81, main_cst_19, main_v82, main_cst_20, main_v83, main_c_21]

theorem in5_writes : (in5 (F := F)).Forall fun op => op.writes ⊆ (in5_W.map (Proc.devRef (τ := τ) .tc)).toFinset :=
  forall_writes_sub_of_map rfl

/-- What the sixth loop starts from. -/
noncomputable abbrev cp5 : List (HloOp τ sig (Elt F)) :=
  [ unary main_v71 main_v84_0 id
  , unary main_v73 main_v84_1 id
  , unary main_v75 main_v84_2 id
  , unary main_v80 main_v84_3 id
  , unary main_c_21 main_v84_4 id
  , unary main_v81 main_v84_5 id
  , unary main_v82 main_v84_6 id
  , unary main_v83 main_v84_7 id ]

theorem cp5_sub : (cp5 (F := F)).Forall fun op => op.bufs ⊆ tcRefs τ sig :=
  ⟨unary_bufs_sub .., unary_bufs_sub .., unary_bufs_sub .., unary_bufs_sub .., unary_bufs_sub .., unary_bufs_sub .., unary_bufs_sub .., unary_bufs_sub ..⟩

/-- The buffers it writes. -/
abbrev cp5_W : List (Ref sig .tc) := [main_v84_0, main_v84_1, main_v84_2, main_v84_3, main_v84_4, main_v84_5, main_v84_6, main_v84_7]

theorem cp5_writes : (cp5 (F := F)).Forall fun op => op.writes ⊆ (cp5_W.map (Proc.devRef (τ := τ) .tc)).toFinset :=
  forall_writes_sub_of_map rfl

/-- The last layer's directions put together. -/
noncomputable abbrev join6 : List (HloOp τ sig (Elt F)) :=
  [ unary main_v84_7 main_v85 (Host.reverse [0] : (⟨S20x1024x32, .f32⟩ : BufTy).Contents (Elt F) → (⟨S20x1024x32, .f32⟩ : BufTy).Contents (Elt F))
  , binary main_v70_7 main_v85 main_v86 ((fun a b => concatenate S20x1024x64 2 [⟨S20x1024x32, a⟩, ⟨S20x1024x32, b⟩] concatenates_S20x1024x32_S20x1024x32_S20x1024x64_d2) : (⟨S20x1024x32, .f32⟩ : BufTy).Contents (Elt F) → (⟨S20x1024x32, .f32⟩ : BufTy).Contents (Elt F) → (⟨S20x1024x64, .f32⟩ : BufTy).Contents (Elt F)) ]

theorem join6_sub : (join6 (F := F)).Forall fun op => op.bufs ⊆ tcRefs τ sig :=
  ⟨unary_bufs_sub .., binary_bufs_sub ..⟩

/-- The buffers it writes. -/
abbrev join6_W : List (Ref sig .tc) := [main_v85, main_v86]

theorem join6_writes : (join6 (F := F)).Forall fun op => op.writes ⊆ (join6_W.map (Proc.devRef (τ := τ) .tc)).toFinset :=
  forall_writes_sub_of_map rfl

/-- The logits of the states. -/
noncomputable abbrev logits : List (HloOp τ sig (Elt F)) :=
  [ unary main_v86 main_v87 ((transpose S1024x20x64 [1, 0, 2] · transposes_S20x1024x64_S1024x20x64_1_0_2) : (⟨S20x1024x64, .f32⟩ : BufTy).Contents (Elt F) → (⟨S1024x20x64, .f32⟩ : BufTy).Contents (Elt F))
  , unary main_arg5 main_v88 ((transpose S64x4000 [1, 0] · transposes_S4000x64_S64x4000_1_0) : (⟨S4000x64, .f32⟩ : BufTy).Contents (Elt F) → (⟨S64x4000, .f32⟩ : BufTy).Contents (Elt F))
  , binary main_v87 main_v88 main_v89 ((fun l r => Host.dotGeneral dot_S1024x20x64_S64x4000_S1024x20x4000_2_0_01_1_n_n none l r) : (⟨S1024x20x64, .f32⟩ : BufTy).Contents (Elt F) → (⟨S64x4000, .f32⟩ : BufTy).Contents (Elt F) → (⟨S1024x20x4000, .f32⟩ : BufTy).Contents (Elt F))
  , unary main_arg6 main_v90 (broadcastInDim S1x1x4000 ![2] bcast_S4000_S1x1x4000_2 : (⟨S4000, .f32⟩ : BufTy).Contents (Elt F) → (⟨S1x1x4000, .f32⟩ : BufTy).Contents (Elt F))
  , unary main_v90 main_v91 (broadcastInDim S1024x20x4000 ![0, 1, 2] bcast_S1x1x4000_S1024x20x4000_0_1_2 : (⟨S1x1x4000, .f32⟩ : BufTy).Contents (Elt F) → (⟨S1024x20x4000, .f32⟩ : BufTy).Contents (Elt F))
  , binary main_v89 main_v91 main_v92 (addf : (⟨S1024x20x4000, .f32⟩ : BufTy).Contents (Elt F) → (⟨S1024x20x4000, .f32⟩ : BufTy).Contents (Elt F) → (⟨S1024x20x4000, .f32⟩ : BufTy).Contents (Elt F))
  , reshape main_v92 main_v93 (rfl : (.f32 : EltTy) = .f32) shapeCasts_S1024x20x4000_S1024x20x4x1000 ]

theorem logits_sub : (logits (F := F)).Forall fun op => op.bufs ⊆ tcRefs τ sig :=
  ⟨unary_bufs_sub .., unary_bufs_sub .., binary_bufs_sub .., unary_bufs_sub .., unary_bufs_sub .., binary_bufs_sub .., reshape_bufs_sub ..⟩

/-- The comparison of the counter with the number of steps. -/
noncomputable abbrev cond0 : List (HloOp τ sig (Elt F)) :=
  [ nullary main_while0c_c_29 (constantI S_ 32 20#32)
  , binary main_v12_4 main_while0c_c_29 main_while0c_v94 (cmpi .slt : (⟨S_, .i32⟩ : BufTy).Contents (Elt F) → (⟨S_, .i32⟩ : BufTy).Contents (Elt F) → (⟨S_, .i1⟩ : BufTy).Contents (Elt F)) ]

theorem cond0_sub : (cond0 (F := F)).Forall fun op => op.bufs ⊆ tcRefs τ sig :=
  ⟨nullary_bufs_sub .., binary_bufs_sub ..⟩

/-- The buffers it writes. -/
abbrev cond0_W : List (Ref sig .tc) := [main_while0c_c_29, main_while0c_v94]

theorem cond0_writes : (cond0 (F := F)).Forall fun op => op.writes ⊆ (cond0_W.map (Proc.devRef (τ := τ) .tc)).toFinset :=
  forall_writes_sub_of_map rfl

/-- The step's input. -/
noncomputable abbrev row0 : List (HloOp τ sig (Elt F)) :=
  [ TRef.nullary (.of main_while0b_call0_c : TRef sig ⟨S_, .i32⟩) (constantI S_ 32 0#32)
  , TRef.nullary (.of main_while0b_call0_c_0 : TRef sig ⟨S_, .i32⟩) (constantI S_ 32 0#32)
  , TRef.unaryIndexed (.of main_v12_0 : TRef sig ⟨S20x1024x64, .f32⟩) ![(.of main_v12_4 : TRef sig ⟨S_, .i32⟩), (.of main_while0b_call0_c : TRef sig ⟨S_, .i32⟩), (.of main_while0b_call0_c_0 : TRef sig ⟨S_, .i32⟩)] (.of main_while0b_call0_v0 : TRef sig ⟨S1x1024x64, .f32⟩) (fun x i => Host.dynamicSlice S1x1024x64 x (fun k => (i k (Shape.Idx.first h_S_)).toInt) sliceFits_S20x1024x64_S1x1024x64)
  , TRef.reshape (.of main_while0b_call0_v0 : TRef sig ⟨S1x1024x64, .f32⟩) (.of main_while0b_v94 : TRef sig ⟨S1024x64, .f32⟩) (rfl : (.f32 : EltTy) = .f32) shapeCasts_S1x1024x64_S1024x64 ]

theorem row0_sub : (row0 (F := F)).Forall fun op => op.bufs ⊆ tcRefs τ sig :=
  ⟨nullary_bufs_sub .., nullary_bufs_sub .., unaryIndexed_bufs_sub .., reshape_bufs_sub ..⟩

/-- The buffers it writes. -/
abbrev row0_W : List (Ref sig .tc) := [main_while0b_call0_c, main_while0b_call0_c_0, main_while0b_call0_v0, main_while0b_v94]

theorem row0_writes : (row0 (F := F)).Forall fun op => op.writes ⊆ (row0_W.map (Proc.devRef (τ := τ) .tc)).toFinset :=
  forall_writes_sub_of_map rfl

/-- The four gates before their nonlinearities. -/
noncomputable abbrev gate0 : List (HloOp τ sig (Elt F)) :=
  [ unary main_v12_1 main_while0b_v95 ((transpose S64x128 [1, 0] · transposes_S128x64_S64x128_1_0) : (⟨S128x64, .f32⟩ : BufTy).Contents (Elt F) → (⟨S64x128, .f32⟩ : BufTy).Contents (Elt F))
  , binary main_while0b_v94 main_while0b_v95 main_while0b_v96 ((fun l r => Host.dotGeneral dot_S1024x64_S64x128_S1024x128_1_0_0_1_n_n none l r) : (⟨S1024x64, .f32⟩ : BufTy).Contents (Elt F) → (⟨S64x128, .f32⟩ : BufTy).Contents (Elt F) → (⟨S1024x128, .f32⟩ : BufTy).Contents (Elt F))
  , unary main_v12_2 main_while0b_v97 ((transpose S32x128 [1, 0] · transposes_S128x32_S32x128_1_0) : (⟨S128x32, .f32⟩ : BufTy).Contents (Elt F) → (⟨S32x128, .f32⟩ : BufTy).Contents (Elt F))
  , binary main_v12_5 main_while0b_v97 main_while0b_v98 ((fun l r => Host.dotGeneral dot_S1024x32_S32x128_S1024x128_1_0_0_1_n_n none l r) : (⟨S1024x32, .f32⟩ : BufTy).Contents (Elt F) → (⟨S32x128, .f32⟩ : BufTy).Contents (Elt F) → (⟨S1024x128, .f32⟩ : BufTy).Contents (Elt F))
  , binary main_while0b_v96 main_while0b_v98 main_while0b_v99 (addf : (⟨S1024x128, .f32⟩ : BufTy).Contents (Elt F) → (⟨S1024x128, .f32⟩ : BufTy).Contents (Elt F) → (⟨S1024x128, .f32⟩ : BufTy).Contents (Elt F))
  , unary main_v12_3 main_while0b_v100 (broadcastInDim S1x128 ![1] bcast_S128_S1x128_1 : (⟨S128, .f32⟩ : BufTy).Contents (Elt F) → (⟨S1x128, .f32⟩ : BufTy).Contents (Elt F))
  , unary main_while0b_v100 main_while0b_v101 (broadcastInDim S1024x128 ![0, 1] bcast_S1x128_S1024x128_0_1 : (⟨S1x128, .f32⟩ : BufTy).Contents (Elt F) → (⟨S1024x128, .f32⟩ : BufTy).Contents (Elt F))
  , binary main_while0b_v99 main_while0b_v101 main_while0b_v102 (addf : (⟨S1024x128, .f32⟩ : BufTy).Contents (Elt F) → (⟨S1024x128, .f32⟩ : BufTy).Contents (Elt F) → (⟨S1024x128, .f32⟩ : BufTy).Contents (Elt F))
  , unary main_while0b_v102 main_while0b_v103 ((extractStridedSlice S1024x32 ![0, 0] · slices_S1024x128_S1024x32_0_0) : (⟨S1024x128, .f32⟩ : BufTy).Contents (Elt F) → (⟨S1024x32, .f32⟩ : BufTy).Contents (Elt F))
  , unary main_while0b_v102 main_while0b_v104 ((extractStridedSlice S1024x32 ![0, 32] · slices_S1024x128_S1024x32_0_32) : (⟨S1024x128, .f32⟩ : BufTy).Contents (Elt F) → (⟨S1024x32, .f32⟩ : BufTy).Contents (Elt F))
  , unary main_while0b_v102 main_while0b_v105 ((extractStridedSlice S1024x32 ![0, 64] · slices_S1024x128_S1024x32_0_64) : (⟨S1024x128, .f32⟩ : BufTy).Contents (Elt F) → (⟨S1024x32, .f32⟩ : BufTy).Contents (Elt F))
  , unary main_while0b_v102 main_while0b_v106 ((extractStridedSlice S1024x32 ![0, 96] · slices_S1024x128_S1024x32_0_96) : (⟨S1024x128, .f32⟩ : BufTy).Contents (Elt F) → (⟨S1024x32, .f32⟩ : BufTy).Contents (Elt F)) ]

theorem gate0_sub : (gate0 (F := F)).Forall fun op => op.bufs ⊆ tcRefs τ sig :=
  ⟨unary_bufs_sub .., binary_bufs_sub .., unary_bufs_sub .., binary_bufs_sub .., binary_bufs_sub .., unary_bufs_sub .., unary_bufs_sub .., binary_bufs_sub .., unary_bufs_sub .., unary_bufs_sub .., unary_bufs_sub .., unary_bufs_sub ..⟩

/-- The buffers it writes. -/
abbrev gate0_W : List (Ref sig .tc) := [main_while0b_v95, main_while0b_v96, main_while0b_v97, main_while0b_v98, main_while0b_v99, main_while0b_v100, main_while0b_v101, main_while0b_v102, main_while0b_v103, main_while0b_v104, main_while0b_v105, main_while0b_v106]

theorem gate0_writes : (gate0 (F := F)).Forall fun op => op.writes ⊆ (gate0_W.map (Proc.devRef (τ := τ) .tc)).toFinset :=
  forall_writes_sub_of_map rfl

/-- The new cell and the new hidden state. -/
noncomputable abbrev cell0 : List (HloOp τ sig (Elt F)) :=
  [ unary main_while0b_v104 main_while0b_v107 (Host.negf : (⟨S1024x32, .f32⟩ : BufTy).Contents (Elt F) → (⟨S1024x32, .f32⟩ : BufTy).Contents (Elt F))
  , unary main_while0b_v107 main_while0b_v108 (Host.exp : (⟨S1024x32, .f32⟩ : BufTy).Contents (Elt F) → (⟨S1024x32, .f32⟩ : BufTy).Contents (Elt F))
  , nullary main_while0b_cst_29 (constant S_ .f32 0x3F800000#32)
  , unary main_while0b_cst_29 main_while0b_v109 (broadcastInDim S1024x32 ![] bcast_S_S1024x32 : (⟨S_, .f32⟩ : BufTy).Contents (Elt F) → (⟨S1024x32, .f32⟩ : BufTy).Contents (Elt F))
  , binary main_while0b_v109 main_while0b_v108 main_while0b_v110 (addf : (⟨S1024x32, .f32⟩ : BufTy).Contents (Elt F) → (⟨S1024x32, .f32⟩ : BufTy).Contents (Elt F) → (⟨S1024x32, .f32⟩ : BufTy).Contents (Elt F))
  , nullary main_while0b_cst_30 (constant S_ .f32 0x3F800000#32)
  , unary main_while0b_cst_30 main_while0b_v111 (broadcastInDim S1024x32 ![] bcast_S_S1024x32 : (⟨S_, .f32⟩ : BufTy).Contents (Elt F) → (⟨S1024x32, .f32⟩ : BufTy).Contents (Elt F))
  , binary main_while0b_v111 main_while0b_v110 main_while0b_v112 (Host.divf : (⟨S1024x32, .f32⟩ : BufTy).Contents (Elt F) → (⟨S1024x32, .f32⟩ : BufTy).Contents (Elt F) → (⟨S1024x32, .f32⟩ : BufTy).Contents (Elt F))
  , binary main_while0b_v112 main_v12_6 main_while0b_v113 (mulf : (⟨S1024x32, .f32⟩ : BufTy).Contents (Elt F) → (⟨S1024x32, .f32⟩ : BufTy).Contents (Elt F) → (⟨S1024x32, .f32⟩ : BufTy).Contents (Elt F))
  , unary main_while0b_v103 main_while0b_v114 (Host.negf : (⟨S1024x32, .f32⟩ : BufTy).Contents (Elt F) → (⟨S1024x32, .f32⟩ : BufTy).Contents (Elt F))
  , unary main_while0b_v114 main_while0b_v115 (Host.exp : (⟨S1024x32, .f32⟩ : BufTy).Contents (Elt F) → (⟨S1024x32, .f32⟩ : BufTy).Contents (Elt F))
  , nullary main_while0b_cst_31 (constant S_ .f32 0x3F800000#32)
  , unary main_while0b_cst_31 main_while0b_v116 (broadcastInDim S1024x32 ![] bcast_S_S1024x32 : (⟨S_, .f32⟩ : BufTy).Contents (Elt F) → (⟨S1024x32, .f32⟩ : BufTy).Contents (Elt F))
  , binary main_while0b_v116 main_while0b_v115 main_while0b_v117 (addf : (⟨S1024x32, .f32⟩ : BufTy).Contents (Elt F) → (⟨S1024x32, .f32⟩ : BufTy).Contents (Elt F) → (⟨S1024x32, .f32⟩ : BufTy).Contents (Elt F))
  , nullary main_while0b_cst_32 (constant S_ .f32 0x3F800000#32)
  , unary main_while0b_cst_32 main_while0b_v118 (broadcastInDim S1024x32 ![] bcast_S_S1024x32 : (⟨S_, .f32⟩ : BufTy).Contents (Elt F) → (⟨S1024x32, .f32⟩ : BufTy).Contents (Elt F))
  , binary main_while0b_v118 main_while0b_v117 main_while0b_v119 (Host.divf : (⟨S1024x32, .f32⟩ : BufTy).Contents (Elt F) → (⟨S1024x32, .f32⟩ : BufTy).Contents (Elt F) → (⟨S1024x32, .f32⟩ : BufTy).Contents (Elt F))
  , unary main_while0b_v105 main_while0b_v120 (Host.tanh : (⟨S1024x32, .f32⟩ : BufTy).Contents (Elt F) → (⟨S1024x32, .f32⟩ : BufTy).Contents (Elt F))
  , binary main_while0b_v119 main_while0b_v120 main_while0b_v121 (mulf : (⟨S1024x32, .f32⟩ : BufTy).Contents (Elt F) → (⟨S1024x32, .f32⟩ : BufTy).Contents (Elt F) → (⟨S1024x32, .f32⟩ : BufTy).Contents (Elt F))
  , binary main_while0b_v113 main_while0b_v121 main_while0b_v122 (addf : (⟨S1024x32, .f32⟩ : BufTy).Contents (Elt F) → (⟨S1024x32, .f32⟩ : BufTy).Contents (Elt F) → (⟨S1024x32, .f32⟩ : BufTy).Contents (Elt F))
  , unary main_while0b_v106 main_while0b_v123 (Host.negf : (⟨S1024x32, .f32⟩ : BufTy).Contents (Elt F) → (⟨S1024x32, .f32⟩ : BufTy).Contents (Elt F))
  , unary main_while0b_v123 main_while0b_v124 (Host.exp : (⟨S1024x32, .f32⟩ : BufTy).Contents (Elt F) → (⟨S1024x32, .f32⟩ : BufTy).Contents (Elt F))
  , nullary main_while0b_cst_33 (constant S_ .f32 0x3F800000#32)
  , unary main_while0b_cst_33 main_while0b_v125 (broadcastInDim S1024x32 ![] bcast_S_S1024x32 : (⟨S_, .f32⟩ : BufTy).Contents (Elt F) → (⟨S1024x32, .f32⟩ : BufTy).Contents (Elt F))
  , binary main_while0b_v125 main_while0b_v124 main_while0b_v126 (addf : (⟨S1024x32, .f32⟩ : BufTy).Contents (Elt F) → (⟨S1024x32, .f32⟩ : BufTy).Contents (Elt F) → (⟨S1024x32, .f32⟩ : BufTy).Contents (Elt F))
  , nullary main_while0b_cst_34 (constant S_ .f32 0x3F800000#32)
  , unary main_while0b_cst_34 main_while0b_v127 (broadcastInDim S1024x32 ![] bcast_S_S1024x32 : (⟨S_, .f32⟩ : BufTy).Contents (Elt F) → (⟨S1024x32, .f32⟩ : BufTy).Contents (Elt F))
  , binary main_while0b_v127 main_while0b_v126 main_while0b_v128 (Host.divf : (⟨S1024x32, .f32⟩ : BufTy).Contents (Elt F) → (⟨S1024x32, .f32⟩ : BufTy).Contents (Elt F) → (⟨S1024x32, .f32⟩ : BufTy).Contents (Elt F))
  , unary main_while0b_v122 main_while0b_v129 (Host.tanh : (⟨S1024x32, .f32⟩ : BufTy).Contents (Elt F) → (⟨S1024x32, .f32⟩ : BufTy).Contents (Elt F))
  , binary main_while0b_v128 main_while0b_v129 main_while0b_v130 (mulf : (⟨S1024x32, .f32⟩ : BufTy).Contents (Elt F) → (⟨S1024x32, .f32⟩ : BufTy).Contents (Elt F) → (⟨S1024x32, .f32⟩ : BufTy).Contents (Elt F)) ]

theorem cell0_sub : (cell0 (F := F)).Forall fun op => op.bufs ⊆ tcRefs τ sig :=
  ⟨unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub ..⟩

/-- The buffers it writes. -/
abbrev cell0_W : List (Ref sig .tc) := [main_while0b_v107, main_while0b_v108, main_while0b_cst_29, main_while0b_v109, main_while0b_v110, main_while0b_cst_30, main_while0b_v111, main_while0b_v112, main_while0b_v113, main_while0b_v114, main_while0b_v115, main_while0b_cst_31, main_while0b_v116, main_while0b_v117, main_while0b_cst_32, main_while0b_v118, main_while0b_v119, main_while0b_v120, main_while0b_v121, main_while0b_v122, main_while0b_v123, main_while0b_v124, main_while0b_cst_33, main_while0b_v125, main_while0b_v126, main_while0b_cst_34, main_while0b_v127, main_while0b_v128, main_while0b_v129, main_while0b_v130]

theorem cell0_writes : (cell0 (F := F)).Forall fun op => op.writes ⊆ (cell0_W.map (Proc.devRef (τ := τ) .tc)).toFinset :=
  forall_writes_sub_of_map rfl

/-- The hidden state written into the sequence. -/
noncomputable abbrev put0 : List (HloOp τ sig (Elt F)) :=
  [ TRef.unary (.of main_while0b_v130 : TRef sig ⟨S1024x32, .f32⟩) (.of main_while0b_call1_v0 : TRef sig ⟨S1x1024x32, .f32⟩) (broadcastInDim S1x1024x32 ![1, 2] bcast_S1024x32_S1x1024x32_1_2)
  , TRef.nullary (.of main_while0b_call1_c : TRef sig ⟨S_, .i32⟩) (constantI S_ 32 0#32)
  , TRef.nullary (.of main_while0b_call1_c_0 : TRef sig ⟨S_, .i32⟩) (constantI S_ 32 0#32)
  , TRef.binaryIndexed (.of main_v12_7 : TRef sig ⟨S20x1024x32, .f32⟩) (.of main_while0b_call1_v0 : TRef sig ⟨S1x1024x32, .f32⟩) ![(.of main_v12_4 : TRef sig ⟨S_, .i32⟩), (.of main_while0b_call1_c : TRef sig ⟨S_, .i32⟩), (.of main_while0b_call1_c_0 : TRef sig ⟨S_, .i32⟩)] (.of main_while0b_v131 : TRef sig ⟨S20x1024x32, .f32⟩) (fun x u i => Host.dynamicUpdateSlice x u (fun k => (i k (Shape.Idx.first h_S_)).toInt) updateFits_S20x1024x32_S1x1024x32) ]

theorem put0_sub : (put0 (F := F)).Forall fun op => op.bufs ⊆ tcRefs τ sig :=
  ⟨unary_bufs_sub .., nullary_bufs_sub .., nullary_bufs_sub .., binaryIndexed_bufs_sub ..⟩

/-- The buffers it writes. -/
abbrev put0_W : List (Ref sig .tc) := [main_while0b_call1_v0, main_while0b_call1_c, main_while0b_call1_c_0, main_while0b_v131]

theorem put0_writes : (put0 (F := F)).Forall fun op => op.writes ⊆ (put0_W.map (Proc.devRef (τ := τ) .tc)).toFinset :=
  forall_writes_sub_of_map rfl

/-- The counter raised and the carried values handed on. -/
noncomputable abbrev next0 : List (HloOp τ sig (Elt F)) :=
  [ nullary main_while0b_c_35 (constantI S_ 32 1#32)
  , binary main_v12_4 main_while0b_c_35 main_while0b_v132 (addi : (⟨S_, .i32⟩ : BufTy).Contents (Elt F) → (⟨S_, .i32⟩ : BufTy).Contents (Elt F) → (⟨S_, .i32⟩ : BufTy).Contents (Elt F))
  , unary main_while0b_v132 main_v12_4 id
  , unary main_while0b_v130 main_v12_5 id
  , unary main_while0b_v122 main_v12_6 id
  , unary main_while0b_v131 main_v12_7 id ]

theorem next0_sub : (next0 (F := F)).Forall fun op => op.bufs ⊆ tcRefs τ sig :=
  ⟨nullary_bufs_sub .., binary_bufs_sub .., unary_bufs_sub .., unary_bufs_sub .., unary_bufs_sub .., unary_bufs_sub ..⟩

/-- The buffers it writes. -/
abbrev next0_W : List (Ref sig .tc) := [main_while0b_c_35, main_while0b_v132, main_v12_4, main_v12_5, main_v12_6, main_v12_7]

theorem next0_writes : (next0 (F := F)).Forall fun op => op.writes ⊆ (next0_W.map (Proc.devRef (τ := τ) .tc)).toFinset :=
  forall_writes_sub_of_map rfl

/-- The comparison of the counter with the number of steps. -/
noncomputable abbrev cond1 : List (HloOp τ sig (Elt F)) :=
  [ nullary main_while1c_c_29 (constantI S_ 32 20#32)
  , binary main_v26_4 main_while1c_c_29 main_while1c_v94 (cmpi .slt : (⟨S_, .i32⟩ : BufTy).Contents (Elt F) → (⟨S_, .i32⟩ : BufTy).Contents (Elt F) → (⟨S_, .i1⟩ : BufTy).Contents (Elt F)) ]

theorem cond1_sub : (cond1 (F := F)).Forall fun op => op.bufs ⊆ tcRefs τ sig :=
  ⟨nullary_bufs_sub .., binary_bufs_sub ..⟩

/-- The buffers it writes. -/
abbrev cond1_W : List (Ref sig .tc) := [main_while1c_c_29, main_while1c_v94]

theorem cond1_writes : (cond1 (F := F)).Forall fun op => op.writes ⊆ (cond1_W.map (Proc.devRef (τ := τ) .tc)).toFinset :=
  forall_writes_sub_of_map rfl

/-- The step's input. -/
noncomputable abbrev row1 : List (HloOp τ sig (Elt F)) :=
  [ TRef.nullary (.of main_while1b_call2_c : TRef sig ⟨S_, .i32⟩) (constantI S_ 32 0#32)
  , TRef.nullary (.of main_while1b_call2_c_0 : TRef sig ⟨S_, .i32⟩) (constantI S_ 32 0#32)
  , TRef.unaryIndexed (.of main_v26_0 : TRef sig ⟨S20x1024x64, .f32⟩) ![(.of main_v26_4 : TRef sig ⟨S_, .i32⟩), (.of main_while1b_call2_c : TRef sig ⟨S_, .i32⟩), (.of main_while1b_call2_c_0 : TRef sig ⟨S_, .i32⟩)] (.of main_while1b_call2_v0 : TRef sig ⟨S1x1024x64, .f32⟩) (fun x i => Host.dynamicSlice S1x1024x64 x (fun k => (i k (Shape.Idx.first h_S_)).toInt) sliceFits_S20x1024x64_S1x1024x64)
  , TRef.reshape (.of main_while1b_call2_v0 : TRef sig ⟨S1x1024x64, .f32⟩) (.of main_while1b_v94 : TRef sig ⟨S1024x64, .f32⟩) (rfl : (.f32 : EltTy) = .f32) shapeCasts_S1x1024x64_S1024x64 ]

theorem row1_sub : (row1 (F := F)).Forall fun op => op.bufs ⊆ tcRefs τ sig :=
  ⟨nullary_bufs_sub .., nullary_bufs_sub .., unaryIndexed_bufs_sub .., reshape_bufs_sub ..⟩

/-- The buffers it writes. -/
abbrev row1_W : List (Ref sig .tc) := [main_while1b_call2_c, main_while1b_call2_c_0, main_while1b_call2_v0, main_while1b_v94]

theorem row1_writes : (row1 (F := F)).Forall fun op => op.writes ⊆ (row1_W.map (Proc.devRef (τ := τ) .tc)).toFinset :=
  forall_writes_sub_of_map rfl

/-- The four gates before their nonlinearities. -/
noncomputable abbrev gate1 : List (HloOp τ sig (Elt F)) :=
  [ unary main_v26_1 main_while1b_v95 ((transpose S64x128 [1, 0] · transposes_S128x64_S64x128_1_0) : (⟨S128x64, .f32⟩ : BufTy).Contents (Elt F) → (⟨S64x128, .f32⟩ : BufTy).Contents (Elt F))
  , binary main_while1b_v94 main_while1b_v95 main_while1b_v96 ((fun l r => Host.dotGeneral dot_S1024x64_S64x128_S1024x128_1_0_0_1_n_n none l r) : (⟨S1024x64, .f32⟩ : BufTy).Contents (Elt F) → (⟨S64x128, .f32⟩ : BufTy).Contents (Elt F) → (⟨S1024x128, .f32⟩ : BufTy).Contents (Elt F))
  , unary main_v26_2 main_while1b_v97 ((transpose S32x128 [1, 0] · transposes_S128x32_S32x128_1_0) : (⟨S128x32, .f32⟩ : BufTy).Contents (Elt F) → (⟨S32x128, .f32⟩ : BufTy).Contents (Elt F))
  , binary main_v26_5 main_while1b_v97 main_while1b_v98 ((fun l r => Host.dotGeneral dot_S1024x32_S32x128_S1024x128_1_0_0_1_n_n none l r) : (⟨S1024x32, .f32⟩ : BufTy).Contents (Elt F) → (⟨S32x128, .f32⟩ : BufTy).Contents (Elt F) → (⟨S1024x128, .f32⟩ : BufTy).Contents (Elt F))
  , binary main_while1b_v96 main_while1b_v98 main_while1b_v99 (addf : (⟨S1024x128, .f32⟩ : BufTy).Contents (Elt F) → (⟨S1024x128, .f32⟩ : BufTy).Contents (Elt F) → (⟨S1024x128, .f32⟩ : BufTy).Contents (Elt F))
  , unary main_v26_3 main_while1b_v100 (broadcastInDim S1x128 ![1] bcast_S128_S1x128_1 : (⟨S128, .f32⟩ : BufTy).Contents (Elt F) → (⟨S1x128, .f32⟩ : BufTy).Contents (Elt F))
  , unary main_while1b_v100 main_while1b_v101 (broadcastInDim S1024x128 ![0, 1] bcast_S1x128_S1024x128_0_1 : (⟨S1x128, .f32⟩ : BufTy).Contents (Elt F) → (⟨S1024x128, .f32⟩ : BufTy).Contents (Elt F))
  , binary main_while1b_v99 main_while1b_v101 main_while1b_v102 (addf : (⟨S1024x128, .f32⟩ : BufTy).Contents (Elt F) → (⟨S1024x128, .f32⟩ : BufTy).Contents (Elt F) → (⟨S1024x128, .f32⟩ : BufTy).Contents (Elt F))
  , unary main_while1b_v102 main_while1b_v103 ((extractStridedSlice S1024x32 ![0, 0] · slices_S1024x128_S1024x32_0_0) : (⟨S1024x128, .f32⟩ : BufTy).Contents (Elt F) → (⟨S1024x32, .f32⟩ : BufTy).Contents (Elt F))
  , unary main_while1b_v102 main_while1b_v104 ((extractStridedSlice S1024x32 ![0, 32] · slices_S1024x128_S1024x32_0_32) : (⟨S1024x128, .f32⟩ : BufTy).Contents (Elt F) → (⟨S1024x32, .f32⟩ : BufTy).Contents (Elt F))
  , unary main_while1b_v102 main_while1b_v105 ((extractStridedSlice S1024x32 ![0, 64] · slices_S1024x128_S1024x32_0_64) : (⟨S1024x128, .f32⟩ : BufTy).Contents (Elt F) → (⟨S1024x32, .f32⟩ : BufTy).Contents (Elt F))
  , unary main_while1b_v102 main_while1b_v106 ((extractStridedSlice S1024x32 ![0, 96] · slices_S1024x128_S1024x32_0_96) : (⟨S1024x128, .f32⟩ : BufTy).Contents (Elt F) → (⟨S1024x32, .f32⟩ : BufTy).Contents (Elt F)) ]

theorem gate1_sub : (gate1 (F := F)).Forall fun op => op.bufs ⊆ tcRefs τ sig :=
  ⟨unary_bufs_sub .., binary_bufs_sub .., unary_bufs_sub .., binary_bufs_sub .., binary_bufs_sub .., unary_bufs_sub .., unary_bufs_sub .., binary_bufs_sub .., unary_bufs_sub .., unary_bufs_sub .., unary_bufs_sub .., unary_bufs_sub ..⟩

/-- The buffers it writes. -/
abbrev gate1_W : List (Ref sig .tc) := [main_while1b_v95, main_while1b_v96, main_while1b_v97, main_while1b_v98, main_while1b_v99, main_while1b_v100, main_while1b_v101, main_while1b_v102, main_while1b_v103, main_while1b_v104, main_while1b_v105, main_while1b_v106]

theorem gate1_writes : (gate1 (F := F)).Forall fun op => op.writes ⊆ (gate1_W.map (Proc.devRef (τ := τ) .tc)).toFinset :=
  forall_writes_sub_of_map rfl

/-- The new cell and the new hidden state. -/
noncomputable abbrev cell1 : List (HloOp τ sig (Elt F)) :=
  [ unary main_while1b_v104 main_while1b_v107 (Host.negf : (⟨S1024x32, .f32⟩ : BufTy).Contents (Elt F) → (⟨S1024x32, .f32⟩ : BufTy).Contents (Elt F))
  , unary main_while1b_v107 main_while1b_v108 (Host.exp : (⟨S1024x32, .f32⟩ : BufTy).Contents (Elt F) → (⟨S1024x32, .f32⟩ : BufTy).Contents (Elt F))
  , nullary main_while1b_cst_29 (constant S_ .f32 0x3F800000#32)
  , unary main_while1b_cst_29 main_while1b_v109 (broadcastInDim S1024x32 ![] bcast_S_S1024x32 : (⟨S_, .f32⟩ : BufTy).Contents (Elt F) → (⟨S1024x32, .f32⟩ : BufTy).Contents (Elt F))
  , binary main_while1b_v109 main_while1b_v108 main_while1b_v110 (addf : (⟨S1024x32, .f32⟩ : BufTy).Contents (Elt F) → (⟨S1024x32, .f32⟩ : BufTy).Contents (Elt F) → (⟨S1024x32, .f32⟩ : BufTy).Contents (Elt F))
  , nullary main_while1b_cst_30 (constant S_ .f32 0x3F800000#32)
  , unary main_while1b_cst_30 main_while1b_v111 (broadcastInDim S1024x32 ![] bcast_S_S1024x32 : (⟨S_, .f32⟩ : BufTy).Contents (Elt F) → (⟨S1024x32, .f32⟩ : BufTy).Contents (Elt F))
  , binary main_while1b_v111 main_while1b_v110 main_while1b_v112 (Host.divf : (⟨S1024x32, .f32⟩ : BufTy).Contents (Elt F) → (⟨S1024x32, .f32⟩ : BufTy).Contents (Elt F) → (⟨S1024x32, .f32⟩ : BufTy).Contents (Elt F))
  , binary main_while1b_v112 main_v26_6 main_while1b_v113 (mulf : (⟨S1024x32, .f32⟩ : BufTy).Contents (Elt F) → (⟨S1024x32, .f32⟩ : BufTy).Contents (Elt F) → (⟨S1024x32, .f32⟩ : BufTy).Contents (Elt F))
  , unary main_while1b_v103 main_while1b_v114 (Host.negf : (⟨S1024x32, .f32⟩ : BufTy).Contents (Elt F) → (⟨S1024x32, .f32⟩ : BufTy).Contents (Elt F))
  , unary main_while1b_v114 main_while1b_v115 (Host.exp : (⟨S1024x32, .f32⟩ : BufTy).Contents (Elt F) → (⟨S1024x32, .f32⟩ : BufTy).Contents (Elt F))
  , nullary main_while1b_cst_31 (constant S_ .f32 0x3F800000#32)
  , unary main_while1b_cst_31 main_while1b_v116 (broadcastInDim S1024x32 ![] bcast_S_S1024x32 : (⟨S_, .f32⟩ : BufTy).Contents (Elt F) → (⟨S1024x32, .f32⟩ : BufTy).Contents (Elt F))
  , binary main_while1b_v116 main_while1b_v115 main_while1b_v117 (addf : (⟨S1024x32, .f32⟩ : BufTy).Contents (Elt F) → (⟨S1024x32, .f32⟩ : BufTy).Contents (Elt F) → (⟨S1024x32, .f32⟩ : BufTy).Contents (Elt F))
  , nullary main_while1b_cst_32 (constant S_ .f32 0x3F800000#32)
  , unary main_while1b_cst_32 main_while1b_v118 (broadcastInDim S1024x32 ![] bcast_S_S1024x32 : (⟨S_, .f32⟩ : BufTy).Contents (Elt F) → (⟨S1024x32, .f32⟩ : BufTy).Contents (Elt F))
  , binary main_while1b_v118 main_while1b_v117 main_while1b_v119 (Host.divf : (⟨S1024x32, .f32⟩ : BufTy).Contents (Elt F) → (⟨S1024x32, .f32⟩ : BufTy).Contents (Elt F) → (⟨S1024x32, .f32⟩ : BufTy).Contents (Elt F))
  , unary main_while1b_v105 main_while1b_v120 (Host.tanh : (⟨S1024x32, .f32⟩ : BufTy).Contents (Elt F) → (⟨S1024x32, .f32⟩ : BufTy).Contents (Elt F))
  , binary main_while1b_v119 main_while1b_v120 main_while1b_v121 (mulf : (⟨S1024x32, .f32⟩ : BufTy).Contents (Elt F) → (⟨S1024x32, .f32⟩ : BufTy).Contents (Elt F) → (⟨S1024x32, .f32⟩ : BufTy).Contents (Elt F))
  , binary main_while1b_v113 main_while1b_v121 main_while1b_v122 (addf : (⟨S1024x32, .f32⟩ : BufTy).Contents (Elt F) → (⟨S1024x32, .f32⟩ : BufTy).Contents (Elt F) → (⟨S1024x32, .f32⟩ : BufTy).Contents (Elt F))
  , unary main_while1b_v106 main_while1b_v123 (Host.negf : (⟨S1024x32, .f32⟩ : BufTy).Contents (Elt F) → (⟨S1024x32, .f32⟩ : BufTy).Contents (Elt F))
  , unary main_while1b_v123 main_while1b_v124 (Host.exp : (⟨S1024x32, .f32⟩ : BufTy).Contents (Elt F) → (⟨S1024x32, .f32⟩ : BufTy).Contents (Elt F))
  , nullary main_while1b_cst_33 (constant S_ .f32 0x3F800000#32)
  , unary main_while1b_cst_33 main_while1b_v125 (broadcastInDim S1024x32 ![] bcast_S_S1024x32 : (⟨S_, .f32⟩ : BufTy).Contents (Elt F) → (⟨S1024x32, .f32⟩ : BufTy).Contents (Elt F))
  , binary main_while1b_v125 main_while1b_v124 main_while1b_v126 (addf : (⟨S1024x32, .f32⟩ : BufTy).Contents (Elt F) → (⟨S1024x32, .f32⟩ : BufTy).Contents (Elt F) → (⟨S1024x32, .f32⟩ : BufTy).Contents (Elt F))
  , nullary main_while1b_cst_34 (constant S_ .f32 0x3F800000#32)
  , unary main_while1b_cst_34 main_while1b_v127 (broadcastInDim S1024x32 ![] bcast_S_S1024x32 : (⟨S_, .f32⟩ : BufTy).Contents (Elt F) → (⟨S1024x32, .f32⟩ : BufTy).Contents (Elt F))
  , binary main_while1b_v127 main_while1b_v126 main_while1b_v128 (Host.divf : (⟨S1024x32, .f32⟩ : BufTy).Contents (Elt F) → (⟨S1024x32, .f32⟩ : BufTy).Contents (Elt F) → (⟨S1024x32, .f32⟩ : BufTy).Contents (Elt F))
  , unary main_while1b_v122 main_while1b_v129 (Host.tanh : (⟨S1024x32, .f32⟩ : BufTy).Contents (Elt F) → (⟨S1024x32, .f32⟩ : BufTy).Contents (Elt F))
  , binary main_while1b_v128 main_while1b_v129 main_while1b_v130 (mulf : (⟨S1024x32, .f32⟩ : BufTy).Contents (Elt F) → (⟨S1024x32, .f32⟩ : BufTy).Contents (Elt F) → (⟨S1024x32, .f32⟩ : BufTy).Contents (Elt F)) ]

theorem cell1_sub : (cell1 (F := F)).Forall fun op => op.bufs ⊆ tcRefs τ sig :=
  ⟨unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub ..⟩

/-- The buffers it writes. -/
abbrev cell1_W : List (Ref sig .tc) := [main_while1b_v107, main_while1b_v108, main_while1b_cst_29, main_while1b_v109, main_while1b_v110, main_while1b_cst_30, main_while1b_v111, main_while1b_v112, main_while1b_v113, main_while1b_v114, main_while1b_v115, main_while1b_cst_31, main_while1b_v116, main_while1b_v117, main_while1b_cst_32, main_while1b_v118, main_while1b_v119, main_while1b_v120, main_while1b_v121, main_while1b_v122, main_while1b_v123, main_while1b_v124, main_while1b_cst_33, main_while1b_v125, main_while1b_v126, main_while1b_cst_34, main_while1b_v127, main_while1b_v128, main_while1b_v129, main_while1b_v130]

theorem cell1_writes : (cell1 (F := F)).Forall fun op => op.writes ⊆ (cell1_W.map (Proc.devRef (τ := τ) .tc)).toFinset :=
  forall_writes_sub_of_map rfl

/-- The hidden state written into the sequence. -/
noncomputable abbrev put1 : List (HloOp τ sig (Elt F)) :=
  [ TRef.unary (.of main_while1b_v130 : TRef sig ⟨S1024x32, .f32⟩) (.of main_while1b_call3_v0 : TRef sig ⟨S1x1024x32, .f32⟩) (broadcastInDim S1x1024x32 ![1, 2] bcast_S1024x32_S1x1024x32_1_2)
  , TRef.nullary (.of main_while1b_call3_c : TRef sig ⟨S_, .i32⟩) (constantI S_ 32 0#32)
  , TRef.nullary (.of main_while1b_call3_c_0 : TRef sig ⟨S_, .i32⟩) (constantI S_ 32 0#32)
  , TRef.binaryIndexed (.of main_v26_7 : TRef sig ⟨S20x1024x32, .f32⟩) (.of main_while1b_call3_v0 : TRef sig ⟨S1x1024x32, .f32⟩) ![(.of main_v26_4 : TRef sig ⟨S_, .i32⟩), (.of main_while1b_call3_c : TRef sig ⟨S_, .i32⟩), (.of main_while1b_call3_c_0 : TRef sig ⟨S_, .i32⟩)] (.of main_while1b_v131 : TRef sig ⟨S20x1024x32, .f32⟩) (fun x u i => Host.dynamicUpdateSlice x u (fun k => (i k (Shape.Idx.first h_S_)).toInt) updateFits_S20x1024x32_S1x1024x32) ]

theorem put1_sub : (put1 (F := F)).Forall fun op => op.bufs ⊆ tcRefs τ sig :=
  ⟨unary_bufs_sub .., nullary_bufs_sub .., nullary_bufs_sub .., binaryIndexed_bufs_sub ..⟩

/-- The buffers it writes. -/
abbrev put1_W : List (Ref sig .tc) := [main_while1b_call3_v0, main_while1b_call3_c, main_while1b_call3_c_0, main_while1b_v131]

theorem put1_writes : (put1 (F := F)).Forall fun op => op.writes ⊆ (put1_W.map (Proc.devRef (τ := τ) .tc)).toFinset :=
  forall_writes_sub_of_map rfl

/-- The counter raised and the carried values handed on. -/
noncomputable abbrev next1 : List (HloOp τ sig (Elt F)) :=
  [ nullary main_while1b_c_35 (constantI S_ 32 1#32)
  , binary main_v26_4 main_while1b_c_35 main_while1b_v132 (addi : (⟨S_, .i32⟩ : BufTy).Contents (Elt F) → (⟨S_, .i32⟩ : BufTy).Contents (Elt F) → (⟨S_, .i32⟩ : BufTy).Contents (Elt F))
  , unary main_while1b_v132 main_v26_4 id
  , unary main_while1b_v130 main_v26_5 id
  , unary main_while1b_v122 main_v26_6 id
  , unary main_while1b_v131 main_v26_7 id ]

theorem next1_sub : (next1 (F := F)).Forall fun op => op.bufs ⊆ tcRefs τ sig :=
  ⟨nullary_bufs_sub .., binary_bufs_sub .., unary_bufs_sub .., unary_bufs_sub .., unary_bufs_sub .., unary_bufs_sub ..⟩

/-- The buffers it writes. -/
abbrev next1_W : List (Ref sig .tc) := [main_while1b_c_35, main_while1b_v132, main_v26_4, main_v26_5, main_v26_6, main_v26_7]

theorem next1_writes : (next1 (F := F)).Forall fun op => op.writes ⊆ (next1_W.map (Proc.devRef (τ := τ) .tc)).toFinset :=
  forall_writes_sub_of_map rfl

/-- The comparison of the counter with the number of steps. -/
noncomputable abbrev cond2 : List (HloOp τ sig (Elt F)) :=
  [ nullary main_while2c_c_29 (constantI S_ 32 20#32)
  , binary main_v41_4 main_while2c_c_29 main_while2c_v94 (cmpi .slt : (⟨S_, .i32⟩ : BufTy).Contents (Elt F) → (⟨S_, .i32⟩ : BufTy).Contents (Elt F) → (⟨S_, .i1⟩ : BufTy).Contents (Elt F)) ]

theorem cond2_sub : (cond2 (F := F)).Forall fun op => op.bufs ⊆ tcRefs τ sig :=
  ⟨nullary_bufs_sub .., binary_bufs_sub ..⟩

/-- The buffers it writes. -/
abbrev cond2_W : List (Ref sig .tc) := [main_while2c_c_29, main_while2c_v94]

theorem cond2_writes : (cond2 (F := F)).Forall fun op => op.writes ⊆ (cond2_W.map (Proc.devRef (τ := τ) .tc)).toFinset :=
  forall_writes_sub_of_map rfl

/-- The step's input. -/
noncomputable abbrev row2 : List (HloOp τ sig (Elt F)) :=
  [ TRef.nullary (.of main_while2b_call4_c : TRef sig ⟨S_, .i32⟩) (constantI S_ 32 0#32)
  , TRef.nullary (.of main_while2b_call4_c_0 : TRef sig ⟨S_, .i32⟩) (constantI S_ 32 0#32)
  , TRef.unaryIndexed (.of main_v41_0 : TRef sig ⟨S20x1024x64, .f32⟩) ![(.of main_v41_4 : TRef sig ⟨S_, .i32⟩), (.of main_while2b_call4_c : TRef sig ⟨S_, .i32⟩), (.of main_while2b_call4_c_0 : TRef sig ⟨S_, .i32⟩)] (.of main_while2b_call4_v0 : TRef sig ⟨S1x1024x64, .f32⟩) (fun x i => Host.dynamicSlice S1x1024x64 x (fun k => (i k (Shape.Idx.first h_S_)).toInt) sliceFits_S20x1024x64_S1x1024x64)
  , TRef.reshape (.of main_while2b_call4_v0 : TRef sig ⟨S1x1024x64, .f32⟩) (.of main_while2b_v94 : TRef sig ⟨S1024x64, .f32⟩) (rfl : (.f32 : EltTy) = .f32) shapeCasts_S1x1024x64_S1024x64 ]

theorem row2_sub : (row2 (F := F)).Forall fun op => op.bufs ⊆ tcRefs τ sig :=
  ⟨nullary_bufs_sub .., nullary_bufs_sub .., unaryIndexed_bufs_sub .., reshape_bufs_sub ..⟩

/-- The buffers it writes. -/
abbrev row2_W : List (Ref sig .tc) := [main_while2b_call4_c, main_while2b_call4_c_0, main_while2b_call4_v0, main_while2b_v94]

theorem row2_writes : (row2 (F := F)).Forall fun op => op.writes ⊆ (row2_W.map (Proc.devRef (τ := τ) .tc)).toFinset :=
  forall_writes_sub_of_map rfl

/-- The four gates before their nonlinearities. -/
noncomputable abbrev gate2 : List (HloOp τ sig (Elt F)) :=
  [ unary main_v41_1 main_while2b_v95 ((transpose S64x128 [1, 0] · transposes_S128x64_S64x128_1_0) : (⟨S128x64, .f32⟩ : BufTy).Contents (Elt F) → (⟨S64x128, .f32⟩ : BufTy).Contents (Elt F))
  , binary main_while2b_v94 main_while2b_v95 main_while2b_v96 ((fun l r => Host.dotGeneral dot_S1024x64_S64x128_S1024x128_1_0_0_1_n_n none l r) : (⟨S1024x64, .f32⟩ : BufTy).Contents (Elt F) → (⟨S64x128, .f32⟩ : BufTy).Contents (Elt F) → (⟨S1024x128, .f32⟩ : BufTy).Contents (Elt F))
  , unary main_v41_2 main_while2b_v97 ((transpose S32x128 [1, 0] · transposes_S128x32_S32x128_1_0) : (⟨S128x32, .f32⟩ : BufTy).Contents (Elt F) → (⟨S32x128, .f32⟩ : BufTy).Contents (Elt F))
  , binary main_v41_5 main_while2b_v97 main_while2b_v98 ((fun l r => Host.dotGeneral dot_S1024x32_S32x128_S1024x128_1_0_0_1_n_n none l r) : (⟨S1024x32, .f32⟩ : BufTy).Contents (Elt F) → (⟨S32x128, .f32⟩ : BufTy).Contents (Elt F) → (⟨S1024x128, .f32⟩ : BufTy).Contents (Elt F))
  , binary main_while2b_v96 main_while2b_v98 main_while2b_v99 (addf : (⟨S1024x128, .f32⟩ : BufTy).Contents (Elt F) → (⟨S1024x128, .f32⟩ : BufTy).Contents (Elt F) → (⟨S1024x128, .f32⟩ : BufTy).Contents (Elt F))
  , unary main_v41_3 main_while2b_v100 (broadcastInDim S1x128 ![1] bcast_S128_S1x128_1 : (⟨S128, .f32⟩ : BufTy).Contents (Elt F) → (⟨S1x128, .f32⟩ : BufTy).Contents (Elt F))
  , unary main_while2b_v100 main_while2b_v101 (broadcastInDim S1024x128 ![0, 1] bcast_S1x128_S1024x128_0_1 : (⟨S1x128, .f32⟩ : BufTy).Contents (Elt F) → (⟨S1024x128, .f32⟩ : BufTy).Contents (Elt F))
  , binary main_while2b_v99 main_while2b_v101 main_while2b_v102 (addf : (⟨S1024x128, .f32⟩ : BufTy).Contents (Elt F) → (⟨S1024x128, .f32⟩ : BufTy).Contents (Elt F) → (⟨S1024x128, .f32⟩ : BufTy).Contents (Elt F))
  , unary main_while2b_v102 main_while2b_v103 ((extractStridedSlice S1024x32 ![0, 0] · slices_S1024x128_S1024x32_0_0) : (⟨S1024x128, .f32⟩ : BufTy).Contents (Elt F) → (⟨S1024x32, .f32⟩ : BufTy).Contents (Elt F))
  , unary main_while2b_v102 main_while2b_v104 ((extractStridedSlice S1024x32 ![0, 32] · slices_S1024x128_S1024x32_0_32) : (⟨S1024x128, .f32⟩ : BufTy).Contents (Elt F) → (⟨S1024x32, .f32⟩ : BufTy).Contents (Elt F))
  , unary main_while2b_v102 main_while2b_v105 ((extractStridedSlice S1024x32 ![0, 64] · slices_S1024x128_S1024x32_0_64) : (⟨S1024x128, .f32⟩ : BufTy).Contents (Elt F) → (⟨S1024x32, .f32⟩ : BufTy).Contents (Elt F))
  , unary main_while2b_v102 main_while2b_v106 ((extractStridedSlice S1024x32 ![0, 96] · slices_S1024x128_S1024x32_0_96) : (⟨S1024x128, .f32⟩ : BufTy).Contents (Elt F) → (⟨S1024x32, .f32⟩ : BufTy).Contents (Elt F)) ]

theorem gate2_sub : (gate2 (F := F)).Forall fun op => op.bufs ⊆ tcRefs τ sig :=
  ⟨unary_bufs_sub .., binary_bufs_sub .., unary_bufs_sub .., binary_bufs_sub .., binary_bufs_sub .., unary_bufs_sub .., unary_bufs_sub .., binary_bufs_sub .., unary_bufs_sub .., unary_bufs_sub .., unary_bufs_sub .., unary_bufs_sub ..⟩

/-- The buffers it writes. -/
abbrev gate2_W : List (Ref sig .tc) := [main_while2b_v95, main_while2b_v96, main_while2b_v97, main_while2b_v98, main_while2b_v99, main_while2b_v100, main_while2b_v101, main_while2b_v102, main_while2b_v103, main_while2b_v104, main_while2b_v105, main_while2b_v106]

theorem gate2_writes : (gate2 (F := F)).Forall fun op => op.writes ⊆ (gate2_W.map (Proc.devRef (τ := τ) .tc)).toFinset :=
  forall_writes_sub_of_map rfl

/-- The new cell and the new hidden state. -/
noncomputable abbrev cell2 : List (HloOp τ sig (Elt F)) :=
  [ unary main_while2b_v104 main_while2b_v107 (Host.negf : (⟨S1024x32, .f32⟩ : BufTy).Contents (Elt F) → (⟨S1024x32, .f32⟩ : BufTy).Contents (Elt F))
  , unary main_while2b_v107 main_while2b_v108 (Host.exp : (⟨S1024x32, .f32⟩ : BufTy).Contents (Elt F) → (⟨S1024x32, .f32⟩ : BufTy).Contents (Elt F))
  , nullary main_while2b_cst_29 (constant S_ .f32 0x3F800000#32)
  , unary main_while2b_cst_29 main_while2b_v109 (broadcastInDim S1024x32 ![] bcast_S_S1024x32 : (⟨S_, .f32⟩ : BufTy).Contents (Elt F) → (⟨S1024x32, .f32⟩ : BufTy).Contents (Elt F))
  , binary main_while2b_v109 main_while2b_v108 main_while2b_v110 (addf : (⟨S1024x32, .f32⟩ : BufTy).Contents (Elt F) → (⟨S1024x32, .f32⟩ : BufTy).Contents (Elt F) → (⟨S1024x32, .f32⟩ : BufTy).Contents (Elt F))
  , nullary main_while2b_cst_30 (constant S_ .f32 0x3F800000#32)
  , unary main_while2b_cst_30 main_while2b_v111 (broadcastInDim S1024x32 ![] bcast_S_S1024x32 : (⟨S_, .f32⟩ : BufTy).Contents (Elt F) → (⟨S1024x32, .f32⟩ : BufTy).Contents (Elt F))
  , binary main_while2b_v111 main_while2b_v110 main_while2b_v112 (Host.divf : (⟨S1024x32, .f32⟩ : BufTy).Contents (Elt F) → (⟨S1024x32, .f32⟩ : BufTy).Contents (Elt F) → (⟨S1024x32, .f32⟩ : BufTy).Contents (Elt F))
  , binary main_while2b_v112 main_v41_6 main_while2b_v113 (mulf : (⟨S1024x32, .f32⟩ : BufTy).Contents (Elt F) → (⟨S1024x32, .f32⟩ : BufTy).Contents (Elt F) → (⟨S1024x32, .f32⟩ : BufTy).Contents (Elt F))
  , unary main_while2b_v103 main_while2b_v114 (Host.negf : (⟨S1024x32, .f32⟩ : BufTy).Contents (Elt F) → (⟨S1024x32, .f32⟩ : BufTy).Contents (Elt F))
  , unary main_while2b_v114 main_while2b_v115 (Host.exp : (⟨S1024x32, .f32⟩ : BufTy).Contents (Elt F) → (⟨S1024x32, .f32⟩ : BufTy).Contents (Elt F))
  , nullary main_while2b_cst_31 (constant S_ .f32 0x3F800000#32)
  , unary main_while2b_cst_31 main_while2b_v116 (broadcastInDim S1024x32 ![] bcast_S_S1024x32 : (⟨S_, .f32⟩ : BufTy).Contents (Elt F) → (⟨S1024x32, .f32⟩ : BufTy).Contents (Elt F))
  , binary main_while2b_v116 main_while2b_v115 main_while2b_v117 (addf : (⟨S1024x32, .f32⟩ : BufTy).Contents (Elt F) → (⟨S1024x32, .f32⟩ : BufTy).Contents (Elt F) → (⟨S1024x32, .f32⟩ : BufTy).Contents (Elt F))
  , nullary main_while2b_cst_32 (constant S_ .f32 0x3F800000#32)
  , unary main_while2b_cst_32 main_while2b_v118 (broadcastInDim S1024x32 ![] bcast_S_S1024x32 : (⟨S_, .f32⟩ : BufTy).Contents (Elt F) → (⟨S1024x32, .f32⟩ : BufTy).Contents (Elt F))
  , binary main_while2b_v118 main_while2b_v117 main_while2b_v119 (Host.divf : (⟨S1024x32, .f32⟩ : BufTy).Contents (Elt F) → (⟨S1024x32, .f32⟩ : BufTy).Contents (Elt F) → (⟨S1024x32, .f32⟩ : BufTy).Contents (Elt F))
  , unary main_while2b_v105 main_while2b_v120 (Host.tanh : (⟨S1024x32, .f32⟩ : BufTy).Contents (Elt F) → (⟨S1024x32, .f32⟩ : BufTy).Contents (Elt F))
  , binary main_while2b_v119 main_while2b_v120 main_while2b_v121 (mulf : (⟨S1024x32, .f32⟩ : BufTy).Contents (Elt F) → (⟨S1024x32, .f32⟩ : BufTy).Contents (Elt F) → (⟨S1024x32, .f32⟩ : BufTy).Contents (Elt F))
  , binary main_while2b_v113 main_while2b_v121 main_while2b_v122 (addf : (⟨S1024x32, .f32⟩ : BufTy).Contents (Elt F) → (⟨S1024x32, .f32⟩ : BufTy).Contents (Elt F) → (⟨S1024x32, .f32⟩ : BufTy).Contents (Elt F))
  , unary main_while2b_v106 main_while2b_v123 (Host.negf : (⟨S1024x32, .f32⟩ : BufTy).Contents (Elt F) → (⟨S1024x32, .f32⟩ : BufTy).Contents (Elt F))
  , unary main_while2b_v123 main_while2b_v124 (Host.exp : (⟨S1024x32, .f32⟩ : BufTy).Contents (Elt F) → (⟨S1024x32, .f32⟩ : BufTy).Contents (Elt F))
  , nullary main_while2b_cst_33 (constant S_ .f32 0x3F800000#32)
  , unary main_while2b_cst_33 main_while2b_v125 (broadcastInDim S1024x32 ![] bcast_S_S1024x32 : (⟨S_, .f32⟩ : BufTy).Contents (Elt F) → (⟨S1024x32, .f32⟩ : BufTy).Contents (Elt F))
  , binary main_while2b_v125 main_while2b_v124 main_while2b_v126 (addf : (⟨S1024x32, .f32⟩ : BufTy).Contents (Elt F) → (⟨S1024x32, .f32⟩ : BufTy).Contents (Elt F) → (⟨S1024x32, .f32⟩ : BufTy).Contents (Elt F))
  , nullary main_while2b_cst_34 (constant S_ .f32 0x3F800000#32)
  , unary main_while2b_cst_34 main_while2b_v127 (broadcastInDim S1024x32 ![] bcast_S_S1024x32 : (⟨S_, .f32⟩ : BufTy).Contents (Elt F) → (⟨S1024x32, .f32⟩ : BufTy).Contents (Elt F))
  , binary main_while2b_v127 main_while2b_v126 main_while2b_v128 (Host.divf : (⟨S1024x32, .f32⟩ : BufTy).Contents (Elt F) → (⟨S1024x32, .f32⟩ : BufTy).Contents (Elt F) → (⟨S1024x32, .f32⟩ : BufTy).Contents (Elt F))
  , unary main_while2b_v122 main_while2b_v129 (Host.tanh : (⟨S1024x32, .f32⟩ : BufTy).Contents (Elt F) → (⟨S1024x32, .f32⟩ : BufTy).Contents (Elt F))
  , binary main_while2b_v128 main_while2b_v129 main_while2b_v130 (mulf : (⟨S1024x32, .f32⟩ : BufTy).Contents (Elt F) → (⟨S1024x32, .f32⟩ : BufTy).Contents (Elt F) → (⟨S1024x32, .f32⟩ : BufTy).Contents (Elt F)) ]

theorem cell2_sub : (cell2 (F := F)).Forall fun op => op.bufs ⊆ tcRefs τ sig :=
  ⟨unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub ..⟩

/-- The buffers it writes. -/
abbrev cell2_W : List (Ref sig .tc) := [main_while2b_v107, main_while2b_v108, main_while2b_cst_29, main_while2b_v109, main_while2b_v110, main_while2b_cst_30, main_while2b_v111, main_while2b_v112, main_while2b_v113, main_while2b_v114, main_while2b_v115, main_while2b_cst_31, main_while2b_v116, main_while2b_v117, main_while2b_cst_32, main_while2b_v118, main_while2b_v119, main_while2b_v120, main_while2b_v121, main_while2b_v122, main_while2b_v123, main_while2b_v124, main_while2b_cst_33, main_while2b_v125, main_while2b_v126, main_while2b_cst_34, main_while2b_v127, main_while2b_v128, main_while2b_v129, main_while2b_v130]

theorem cell2_writes : (cell2 (F := F)).Forall fun op => op.writes ⊆ (cell2_W.map (Proc.devRef (τ := τ) .tc)).toFinset :=
  forall_writes_sub_of_map rfl

/-- The hidden state written into the sequence. -/
noncomputable abbrev put2 : List (HloOp τ sig (Elt F)) :=
  [ TRef.unary (.of main_while2b_v130 : TRef sig ⟨S1024x32, .f32⟩) (.of main_while2b_call5_v0 : TRef sig ⟨S1x1024x32, .f32⟩) (broadcastInDim S1x1024x32 ![1, 2] bcast_S1024x32_S1x1024x32_1_2)
  , TRef.nullary (.of main_while2b_call5_c : TRef sig ⟨S_, .i32⟩) (constantI S_ 32 0#32)
  , TRef.nullary (.of main_while2b_call5_c_0 : TRef sig ⟨S_, .i32⟩) (constantI S_ 32 0#32)
  , TRef.binaryIndexed (.of main_v41_7 : TRef sig ⟨S20x1024x32, .f32⟩) (.of main_while2b_call5_v0 : TRef sig ⟨S1x1024x32, .f32⟩) ![(.of main_v41_4 : TRef sig ⟨S_, .i32⟩), (.of main_while2b_call5_c : TRef sig ⟨S_, .i32⟩), (.of main_while2b_call5_c_0 : TRef sig ⟨S_, .i32⟩)] (.of main_while2b_v131 : TRef sig ⟨S20x1024x32, .f32⟩) (fun x u i => Host.dynamicUpdateSlice x u (fun k => (i k (Shape.Idx.first h_S_)).toInt) updateFits_S20x1024x32_S1x1024x32) ]

theorem put2_sub : (put2 (F := F)).Forall fun op => op.bufs ⊆ tcRefs τ sig :=
  ⟨unary_bufs_sub .., nullary_bufs_sub .., nullary_bufs_sub .., binaryIndexed_bufs_sub ..⟩

/-- The buffers it writes. -/
abbrev put2_W : List (Ref sig .tc) := [main_while2b_call5_v0, main_while2b_call5_c, main_while2b_call5_c_0, main_while2b_v131]

theorem put2_writes : (put2 (F := F)).Forall fun op => op.writes ⊆ (put2_W.map (Proc.devRef (τ := τ) .tc)).toFinset :=
  forall_writes_sub_of_map rfl

/-- The counter raised and the carried values handed on. -/
noncomputable abbrev next2 : List (HloOp τ sig (Elt F)) :=
  [ nullary main_while2b_c_35 (constantI S_ 32 1#32)
  , binary main_v41_4 main_while2b_c_35 main_while2b_v132 (addi : (⟨S_, .i32⟩ : BufTy).Contents (Elt F) → (⟨S_, .i32⟩ : BufTy).Contents (Elt F) → (⟨S_, .i32⟩ : BufTy).Contents (Elt F))
  , unary main_while2b_v132 main_v41_4 id
  , unary main_while2b_v130 main_v41_5 id
  , unary main_while2b_v122 main_v41_6 id
  , unary main_while2b_v131 main_v41_7 id ]

theorem next2_sub : (next2 (F := F)).Forall fun op => op.bufs ⊆ tcRefs τ sig :=
  ⟨nullary_bufs_sub .., binary_bufs_sub .., unary_bufs_sub .., unary_bufs_sub .., unary_bufs_sub .., unary_bufs_sub ..⟩

/-- The buffers it writes. -/
abbrev next2_W : List (Ref sig .tc) := [main_while2b_c_35, main_while2b_v132, main_v41_4, main_v41_5, main_v41_6, main_v41_7]

theorem next2_writes : (next2 (F := F)).Forall fun op => op.writes ⊆ (next2_W.map (Proc.devRef (τ := τ) .tc)).toFinset :=
  forall_writes_sub_of_map rfl

/-- The comparison of the counter with the number of steps. -/
noncomputable abbrev cond3 : List (HloOp τ sig (Elt F)) :=
  [ nullary main_while3c_c_29 (constantI S_ 32 20#32)
  , binary main_v55_4 main_while3c_c_29 main_while3c_v94 (cmpi .slt : (⟨S_, .i32⟩ : BufTy).Contents (Elt F) → (⟨S_, .i32⟩ : BufTy).Contents (Elt F) → (⟨S_, .i1⟩ : BufTy).Contents (Elt F)) ]

theorem cond3_sub : (cond3 (F := F)).Forall fun op => op.bufs ⊆ tcRefs τ sig :=
  ⟨nullary_bufs_sub .., binary_bufs_sub ..⟩

/-- The buffers it writes. -/
abbrev cond3_W : List (Ref sig .tc) := [main_while3c_c_29, main_while3c_v94]

theorem cond3_writes : (cond3 (F := F)).Forall fun op => op.writes ⊆ (cond3_W.map (Proc.devRef (τ := τ) .tc)).toFinset :=
  forall_writes_sub_of_map rfl

/-- The step's input. -/
noncomputable abbrev row3 : List (HloOp τ sig (Elt F)) :=
  [ TRef.nullary (.of main_while3b_call6_c : TRef sig ⟨S_, .i32⟩) (constantI S_ 32 0#32)
  , TRef.nullary (.of main_while3b_call6_c_0 : TRef sig ⟨S_, .i32⟩) (constantI S_ 32 0#32)
  , TRef.unaryIndexed (.of main_v55_0 : TRef sig ⟨S20x1024x64, .f32⟩) ![(.of main_v55_4 : TRef sig ⟨S_, .i32⟩), (.of main_while3b_call6_c : TRef sig ⟨S_, .i32⟩), (.of main_while3b_call6_c_0 : TRef sig ⟨S_, .i32⟩)] (.of main_while3b_call6_v0 : TRef sig ⟨S1x1024x64, .f32⟩) (fun x i => Host.dynamicSlice S1x1024x64 x (fun k => (i k (Shape.Idx.first h_S_)).toInt) sliceFits_S20x1024x64_S1x1024x64)
  , TRef.reshape (.of main_while3b_call6_v0 : TRef sig ⟨S1x1024x64, .f32⟩) (.of main_while3b_v94 : TRef sig ⟨S1024x64, .f32⟩) (rfl : (.f32 : EltTy) = .f32) shapeCasts_S1x1024x64_S1024x64 ]

theorem row3_sub : (row3 (F := F)).Forall fun op => op.bufs ⊆ tcRefs τ sig :=
  ⟨nullary_bufs_sub .., nullary_bufs_sub .., unaryIndexed_bufs_sub .., reshape_bufs_sub ..⟩

/-- The buffers it writes. -/
abbrev row3_W : List (Ref sig .tc) := [main_while3b_call6_c, main_while3b_call6_c_0, main_while3b_call6_v0, main_while3b_v94]

theorem row3_writes : (row3 (F := F)).Forall fun op => op.writes ⊆ (row3_W.map (Proc.devRef (τ := τ) .tc)).toFinset :=
  forall_writes_sub_of_map rfl

/-- The four gates before their nonlinearities. -/
noncomputable abbrev gate3 : List (HloOp τ sig (Elt F)) :=
  [ unary main_v55_1 main_while3b_v95 ((transpose S64x128 [1, 0] · transposes_S128x64_S64x128_1_0) : (⟨S128x64, .f32⟩ : BufTy).Contents (Elt F) → (⟨S64x128, .f32⟩ : BufTy).Contents (Elt F))
  , binary main_while3b_v94 main_while3b_v95 main_while3b_v96 ((fun l r => Host.dotGeneral dot_S1024x64_S64x128_S1024x128_1_0_0_1_n_n none l r) : (⟨S1024x64, .f32⟩ : BufTy).Contents (Elt F) → (⟨S64x128, .f32⟩ : BufTy).Contents (Elt F) → (⟨S1024x128, .f32⟩ : BufTy).Contents (Elt F))
  , unary main_v55_2 main_while3b_v97 ((transpose S32x128 [1, 0] · transposes_S128x32_S32x128_1_0) : (⟨S128x32, .f32⟩ : BufTy).Contents (Elt F) → (⟨S32x128, .f32⟩ : BufTy).Contents (Elt F))
  , binary main_v55_5 main_while3b_v97 main_while3b_v98 ((fun l r => Host.dotGeneral dot_S1024x32_S32x128_S1024x128_1_0_0_1_n_n none l r) : (⟨S1024x32, .f32⟩ : BufTy).Contents (Elt F) → (⟨S32x128, .f32⟩ : BufTy).Contents (Elt F) → (⟨S1024x128, .f32⟩ : BufTy).Contents (Elt F))
  , binary main_while3b_v96 main_while3b_v98 main_while3b_v99 (addf : (⟨S1024x128, .f32⟩ : BufTy).Contents (Elt F) → (⟨S1024x128, .f32⟩ : BufTy).Contents (Elt F) → (⟨S1024x128, .f32⟩ : BufTy).Contents (Elt F))
  , unary main_v55_3 main_while3b_v100 (broadcastInDim S1x128 ![1] bcast_S128_S1x128_1 : (⟨S128, .f32⟩ : BufTy).Contents (Elt F) → (⟨S1x128, .f32⟩ : BufTy).Contents (Elt F))
  , unary main_while3b_v100 main_while3b_v101 (broadcastInDim S1024x128 ![0, 1] bcast_S1x128_S1024x128_0_1 : (⟨S1x128, .f32⟩ : BufTy).Contents (Elt F) → (⟨S1024x128, .f32⟩ : BufTy).Contents (Elt F))
  , binary main_while3b_v99 main_while3b_v101 main_while3b_v102 (addf : (⟨S1024x128, .f32⟩ : BufTy).Contents (Elt F) → (⟨S1024x128, .f32⟩ : BufTy).Contents (Elt F) → (⟨S1024x128, .f32⟩ : BufTy).Contents (Elt F))
  , unary main_while3b_v102 main_while3b_v103 ((extractStridedSlice S1024x32 ![0, 0] · slices_S1024x128_S1024x32_0_0) : (⟨S1024x128, .f32⟩ : BufTy).Contents (Elt F) → (⟨S1024x32, .f32⟩ : BufTy).Contents (Elt F))
  , unary main_while3b_v102 main_while3b_v104 ((extractStridedSlice S1024x32 ![0, 32] · slices_S1024x128_S1024x32_0_32) : (⟨S1024x128, .f32⟩ : BufTy).Contents (Elt F) → (⟨S1024x32, .f32⟩ : BufTy).Contents (Elt F))
  , unary main_while3b_v102 main_while3b_v105 ((extractStridedSlice S1024x32 ![0, 64] · slices_S1024x128_S1024x32_0_64) : (⟨S1024x128, .f32⟩ : BufTy).Contents (Elt F) → (⟨S1024x32, .f32⟩ : BufTy).Contents (Elt F))
  , unary main_while3b_v102 main_while3b_v106 ((extractStridedSlice S1024x32 ![0, 96] · slices_S1024x128_S1024x32_0_96) : (⟨S1024x128, .f32⟩ : BufTy).Contents (Elt F) → (⟨S1024x32, .f32⟩ : BufTy).Contents (Elt F)) ]

theorem gate3_sub : (gate3 (F := F)).Forall fun op => op.bufs ⊆ tcRefs τ sig :=
  ⟨unary_bufs_sub .., binary_bufs_sub .., unary_bufs_sub .., binary_bufs_sub .., binary_bufs_sub .., unary_bufs_sub .., unary_bufs_sub .., binary_bufs_sub .., unary_bufs_sub .., unary_bufs_sub .., unary_bufs_sub .., unary_bufs_sub ..⟩

/-- The buffers it writes. -/
abbrev gate3_W : List (Ref sig .tc) := [main_while3b_v95, main_while3b_v96, main_while3b_v97, main_while3b_v98, main_while3b_v99, main_while3b_v100, main_while3b_v101, main_while3b_v102, main_while3b_v103, main_while3b_v104, main_while3b_v105, main_while3b_v106]

theorem gate3_writes : (gate3 (F := F)).Forall fun op => op.writes ⊆ (gate3_W.map (Proc.devRef (τ := τ) .tc)).toFinset :=
  forall_writes_sub_of_map rfl

/-- The new cell and the new hidden state. -/
noncomputable abbrev cell3 : List (HloOp τ sig (Elt F)) :=
  [ unary main_while3b_v104 main_while3b_v107 (Host.negf : (⟨S1024x32, .f32⟩ : BufTy).Contents (Elt F) → (⟨S1024x32, .f32⟩ : BufTy).Contents (Elt F))
  , unary main_while3b_v107 main_while3b_v108 (Host.exp : (⟨S1024x32, .f32⟩ : BufTy).Contents (Elt F) → (⟨S1024x32, .f32⟩ : BufTy).Contents (Elt F))
  , nullary main_while3b_cst_29 (constant S_ .f32 0x3F800000#32)
  , unary main_while3b_cst_29 main_while3b_v109 (broadcastInDim S1024x32 ![] bcast_S_S1024x32 : (⟨S_, .f32⟩ : BufTy).Contents (Elt F) → (⟨S1024x32, .f32⟩ : BufTy).Contents (Elt F))
  , binary main_while3b_v109 main_while3b_v108 main_while3b_v110 (addf : (⟨S1024x32, .f32⟩ : BufTy).Contents (Elt F) → (⟨S1024x32, .f32⟩ : BufTy).Contents (Elt F) → (⟨S1024x32, .f32⟩ : BufTy).Contents (Elt F))
  , nullary main_while3b_cst_30 (constant S_ .f32 0x3F800000#32)
  , unary main_while3b_cst_30 main_while3b_v111 (broadcastInDim S1024x32 ![] bcast_S_S1024x32 : (⟨S_, .f32⟩ : BufTy).Contents (Elt F) → (⟨S1024x32, .f32⟩ : BufTy).Contents (Elt F))
  , binary main_while3b_v111 main_while3b_v110 main_while3b_v112 (Host.divf : (⟨S1024x32, .f32⟩ : BufTy).Contents (Elt F) → (⟨S1024x32, .f32⟩ : BufTy).Contents (Elt F) → (⟨S1024x32, .f32⟩ : BufTy).Contents (Elt F))
  , binary main_while3b_v112 main_v55_6 main_while3b_v113 (mulf : (⟨S1024x32, .f32⟩ : BufTy).Contents (Elt F) → (⟨S1024x32, .f32⟩ : BufTy).Contents (Elt F) → (⟨S1024x32, .f32⟩ : BufTy).Contents (Elt F))
  , unary main_while3b_v103 main_while3b_v114 (Host.negf : (⟨S1024x32, .f32⟩ : BufTy).Contents (Elt F) → (⟨S1024x32, .f32⟩ : BufTy).Contents (Elt F))
  , unary main_while3b_v114 main_while3b_v115 (Host.exp : (⟨S1024x32, .f32⟩ : BufTy).Contents (Elt F) → (⟨S1024x32, .f32⟩ : BufTy).Contents (Elt F))
  , nullary main_while3b_cst_31 (constant S_ .f32 0x3F800000#32)
  , unary main_while3b_cst_31 main_while3b_v116 (broadcastInDim S1024x32 ![] bcast_S_S1024x32 : (⟨S_, .f32⟩ : BufTy).Contents (Elt F) → (⟨S1024x32, .f32⟩ : BufTy).Contents (Elt F))
  , binary main_while3b_v116 main_while3b_v115 main_while3b_v117 (addf : (⟨S1024x32, .f32⟩ : BufTy).Contents (Elt F) → (⟨S1024x32, .f32⟩ : BufTy).Contents (Elt F) → (⟨S1024x32, .f32⟩ : BufTy).Contents (Elt F))
  , nullary main_while3b_cst_32 (constant S_ .f32 0x3F800000#32)
  , unary main_while3b_cst_32 main_while3b_v118 (broadcastInDim S1024x32 ![] bcast_S_S1024x32 : (⟨S_, .f32⟩ : BufTy).Contents (Elt F) → (⟨S1024x32, .f32⟩ : BufTy).Contents (Elt F))
  , binary main_while3b_v118 main_while3b_v117 main_while3b_v119 (Host.divf : (⟨S1024x32, .f32⟩ : BufTy).Contents (Elt F) → (⟨S1024x32, .f32⟩ : BufTy).Contents (Elt F) → (⟨S1024x32, .f32⟩ : BufTy).Contents (Elt F))
  , unary main_while3b_v105 main_while3b_v120 (Host.tanh : (⟨S1024x32, .f32⟩ : BufTy).Contents (Elt F) → (⟨S1024x32, .f32⟩ : BufTy).Contents (Elt F))
  , binary main_while3b_v119 main_while3b_v120 main_while3b_v121 (mulf : (⟨S1024x32, .f32⟩ : BufTy).Contents (Elt F) → (⟨S1024x32, .f32⟩ : BufTy).Contents (Elt F) → (⟨S1024x32, .f32⟩ : BufTy).Contents (Elt F))
  , binary main_while3b_v113 main_while3b_v121 main_while3b_v122 (addf : (⟨S1024x32, .f32⟩ : BufTy).Contents (Elt F) → (⟨S1024x32, .f32⟩ : BufTy).Contents (Elt F) → (⟨S1024x32, .f32⟩ : BufTy).Contents (Elt F))
  , unary main_while3b_v106 main_while3b_v123 (Host.negf : (⟨S1024x32, .f32⟩ : BufTy).Contents (Elt F) → (⟨S1024x32, .f32⟩ : BufTy).Contents (Elt F))
  , unary main_while3b_v123 main_while3b_v124 (Host.exp : (⟨S1024x32, .f32⟩ : BufTy).Contents (Elt F) → (⟨S1024x32, .f32⟩ : BufTy).Contents (Elt F))
  , nullary main_while3b_cst_33 (constant S_ .f32 0x3F800000#32)
  , unary main_while3b_cst_33 main_while3b_v125 (broadcastInDim S1024x32 ![] bcast_S_S1024x32 : (⟨S_, .f32⟩ : BufTy).Contents (Elt F) → (⟨S1024x32, .f32⟩ : BufTy).Contents (Elt F))
  , binary main_while3b_v125 main_while3b_v124 main_while3b_v126 (addf : (⟨S1024x32, .f32⟩ : BufTy).Contents (Elt F) → (⟨S1024x32, .f32⟩ : BufTy).Contents (Elt F) → (⟨S1024x32, .f32⟩ : BufTy).Contents (Elt F))
  , nullary main_while3b_cst_34 (constant S_ .f32 0x3F800000#32)
  , unary main_while3b_cst_34 main_while3b_v127 (broadcastInDim S1024x32 ![] bcast_S_S1024x32 : (⟨S_, .f32⟩ : BufTy).Contents (Elt F) → (⟨S1024x32, .f32⟩ : BufTy).Contents (Elt F))
  , binary main_while3b_v127 main_while3b_v126 main_while3b_v128 (Host.divf : (⟨S1024x32, .f32⟩ : BufTy).Contents (Elt F) → (⟨S1024x32, .f32⟩ : BufTy).Contents (Elt F) → (⟨S1024x32, .f32⟩ : BufTy).Contents (Elt F))
  , unary main_while3b_v122 main_while3b_v129 (Host.tanh : (⟨S1024x32, .f32⟩ : BufTy).Contents (Elt F) → (⟨S1024x32, .f32⟩ : BufTy).Contents (Elt F))
  , binary main_while3b_v128 main_while3b_v129 main_while3b_v130 (mulf : (⟨S1024x32, .f32⟩ : BufTy).Contents (Elt F) → (⟨S1024x32, .f32⟩ : BufTy).Contents (Elt F) → (⟨S1024x32, .f32⟩ : BufTy).Contents (Elt F)) ]

theorem cell3_sub : (cell3 (F := F)).Forall fun op => op.bufs ⊆ tcRefs τ sig :=
  ⟨unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub ..⟩

/-- The buffers it writes. -/
abbrev cell3_W : List (Ref sig .tc) := [main_while3b_v107, main_while3b_v108, main_while3b_cst_29, main_while3b_v109, main_while3b_v110, main_while3b_cst_30, main_while3b_v111, main_while3b_v112, main_while3b_v113, main_while3b_v114, main_while3b_v115, main_while3b_cst_31, main_while3b_v116, main_while3b_v117, main_while3b_cst_32, main_while3b_v118, main_while3b_v119, main_while3b_v120, main_while3b_v121, main_while3b_v122, main_while3b_v123, main_while3b_v124, main_while3b_cst_33, main_while3b_v125, main_while3b_v126, main_while3b_cst_34, main_while3b_v127, main_while3b_v128, main_while3b_v129, main_while3b_v130]

theorem cell3_writes : (cell3 (F := F)).Forall fun op => op.writes ⊆ (cell3_W.map (Proc.devRef (τ := τ) .tc)).toFinset :=
  forall_writes_sub_of_map rfl

/-- The hidden state written into the sequence. -/
noncomputable abbrev put3 : List (HloOp τ sig (Elt F)) :=
  [ TRef.unary (.of main_while3b_v130 : TRef sig ⟨S1024x32, .f32⟩) (.of main_while3b_call7_v0 : TRef sig ⟨S1x1024x32, .f32⟩) (broadcastInDim S1x1024x32 ![1, 2] bcast_S1024x32_S1x1024x32_1_2)
  , TRef.nullary (.of main_while3b_call7_c : TRef sig ⟨S_, .i32⟩) (constantI S_ 32 0#32)
  , TRef.nullary (.of main_while3b_call7_c_0 : TRef sig ⟨S_, .i32⟩) (constantI S_ 32 0#32)
  , TRef.binaryIndexed (.of main_v55_7 : TRef sig ⟨S20x1024x32, .f32⟩) (.of main_while3b_call7_v0 : TRef sig ⟨S1x1024x32, .f32⟩) ![(.of main_v55_4 : TRef sig ⟨S_, .i32⟩), (.of main_while3b_call7_c : TRef sig ⟨S_, .i32⟩), (.of main_while3b_call7_c_0 : TRef sig ⟨S_, .i32⟩)] (.of main_while3b_v131 : TRef sig ⟨S20x1024x32, .f32⟩) (fun x u i => Host.dynamicUpdateSlice x u (fun k => (i k (Shape.Idx.first h_S_)).toInt) updateFits_S20x1024x32_S1x1024x32) ]

theorem put3_sub : (put3 (F := F)).Forall fun op => op.bufs ⊆ tcRefs τ sig :=
  ⟨unary_bufs_sub .., nullary_bufs_sub .., nullary_bufs_sub .., binaryIndexed_bufs_sub ..⟩

/-- The buffers it writes. -/
abbrev put3_W : List (Ref sig .tc) := [main_while3b_call7_v0, main_while3b_call7_c, main_while3b_call7_c_0, main_while3b_v131]

theorem put3_writes : (put3 (F := F)).Forall fun op => op.writes ⊆ (put3_W.map (Proc.devRef (τ := τ) .tc)).toFinset :=
  forall_writes_sub_of_map rfl

/-- The counter raised and the carried values handed on. -/
noncomputable abbrev next3 : List (HloOp τ sig (Elt F)) :=
  [ nullary main_while3b_c_35 (constantI S_ 32 1#32)
  , binary main_v55_4 main_while3b_c_35 main_while3b_v132 (addi : (⟨S_, .i32⟩ : BufTy).Contents (Elt F) → (⟨S_, .i32⟩ : BufTy).Contents (Elt F) → (⟨S_, .i32⟩ : BufTy).Contents (Elt F))
  , unary main_while3b_v132 main_v55_4 id
  , unary main_while3b_v130 main_v55_5 id
  , unary main_while3b_v122 main_v55_6 id
  , unary main_while3b_v131 main_v55_7 id ]

theorem next3_sub : (next3 (F := F)).Forall fun op => op.bufs ⊆ tcRefs τ sig :=
  ⟨nullary_bufs_sub .., binary_bufs_sub .., unary_bufs_sub .., unary_bufs_sub .., unary_bufs_sub .., unary_bufs_sub ..⟩

/-- The buffers it writes. -/
abbrev next3_W : List (Ref sig .tc) := [main_while3b_c_35, main_while3b_v132, main_v55_4, main_v55_5, main_v55_6, main_v55_7]

theorem next3_writes : (next3 (F := F)).Forall fun op => op.writes ⊆ (next3_W.map (Proc.devRef (τ := τ) .tc)).toFinset :=
  forall_writes_sub_of_map rfl

/-- The comparison of the counter with the number of steps. -/
noncomputable abbrev cond4 : List (HloOp τ sig (Elt F)) :=
  [ nullary main_while4c_c_29 (constantI S_ 32 20#32)
  , binary main_v70_4 main_while4c_c_29 main_while4c_v94 (cmpi .slt : (⟨S_, .i32⟩ : BufTy).Contents (Elt F) → (⟨S_, .i32⟩ : BufTy).Contents (Elt F) → (⟨S_, .i1⟩ : BufTy).Contents (Elt F)) ]

theorem cond4_sub : (cond4 (F := F)).Forall fun op => op.bufs ⊆ tcRefs τ sig :=
  ⟨nullary_bufs_sub .., binary_bufs_sub ..⟩

/-- The buffers it writes. -/
abbrev cond4_W : List (Ref sig .tc) := [main_while4c_c_29, main_while4c_v94]

theorem cond4_writes : (cond4 (F := F)).Forall fun op => op.writes ⊆ (cond4_W.map (Proc.devRef (τ := τ) .tc)).toFinset :=
  forall_writes_sub_of_map rfl

/-- The step's input. -/
noncomputable abbrev row4 : List (HloOp τ sig (Elt F)) :=
  [ TRef.nullary (.of main_while4b_call8_c : TRef sig ⟨S_, .i32⟩) (constantI S_ 32 0#32)
  , TRef.nullary (.of main_while4b_call8_c_0 : TRef sig ⟨S_, .i32⟩) (constantI S_ 32 0#32)
  , TRef.unaryIndexed (.of main_v70_0 : TRef sig ⟨S20x1024x64, .f32⟩) ![(.of main_v70_4 : TRef sig ⟨S_, .i32⟩), (.of main_while4b_call8_c : TRef sig ⟨S_, .i32⟩), (.of main_while4b_call8_c_0 : TRef sig ⟨S_, .i32⟩)] (.of main_while4b_call8_v0 : TRef sig ⟨S1x1024x64, .f32⟩) (fun x i => Host.dynamicSlice S1x1024x64 x (fun k => (i k (Shape.Idx.first h_S_)).toInt) sliceFits_S20x1024x64_S1x1024x64)
  , TRef.reshape (.of main_while4b_call8_v0 : TRef sig ⟨S1x1024x64, .f32⟩) (.of main_while4b_v94 : TRef sig ⟨S1024x64, .f32⟩) (rfl : (.f32 : EltTy) = .f32) shapeCasts_S1x1024x64_S1024x64 ]

theorem row4_sub : (row4 (F := F)).Forall fun op => op.bufs ⊆ tcRefs τ sig :=
  ⟨nullary_bufs_sub .., nullary_bufs_sub .., unaryIndexed_bufs_sub .., reshape_bufs_sub ..⟩

/-- The buffers it writes. -/
abbrev row4_W : List (Ref sig .tc) := [main_while4b_call8_c, main_while4b_call8_c_0, main_while4b_call8_v0, main_while4b_v94]

theorem row4_writes : (row4 (F := F)).Forall fun op => op.writes ⊆ (row4_W.map (Proc.devRef (τ := τ) .tc)).toFinset :=
  forall_writes_sub_of_map rfl

/-- The four gates before their nonlinearities. -/
noncomputable abbrev gate4 : List (HloOp τ sig (Elt F)) :=
  [ unary main_v70_1 main_while4b_v95 ((transpose S64x128 [1, 0] · transposes_S128x64_S64x128_1_0) : (⟨S128x64, .f32⟩ : BufTy).Contents (Elt F) → (⟨S64x128, .f32⟩ : BufTy).Contents (Elt F))
  , binary main_while4b_v94 main_while4b_v95 main_while4b_v96 ((fun l r => Host.dotGeneral dot_S1024x64_S64x128_S1024x128_1_0_0_1_n_n none l r) : (⟨S1024x64, .f32⟩ : BufTy).Contents (Elt F) → (⟨S64x128, .f32⟩ : BufTy).Contents (Elt F) → (⟨S1024x128, .f32⟩ : BufTy).Contents (Elt F))
  , unary main_v70_2 main_while4b_v97 ((transpose S32x128 [1, 0] · transposes_S128x32_S32x128_1_0) : (⟨S128x32, .f32⟩ : BufTy).Contents (Elt F) → (⟨S32x128, .f32⟩ : BufTy).Contents (Elt F))
  , binary main_v70_5 main_while4b_v97 main_while4b_v98 ((fun l r => Host.dotGeneral dot_S1024x32_S32x128_S1024x128_1_0_0_1_n_n none l r) : (⟨S1024x32, .f32⟩ : BufTy).Contents (Elt F) → (⟨S32x128, .f32⟩ : BufTy).Contents (Elt F) → (⟨S1024x128, .f32⟩ : BufTy).Contents (Elt F))
  , binary main_while4b_v96 main_while4b_v98 main_while4b_v99 (addf : (⟨S1024x128, .f32⟩ : BufTy).Contents (Elt F) → (⟨S1024x128, .f32⟩ : BufTy).Contents (Elt F) → (⟨S1024x128, .f32⟩ : BufTy).Contents (Elt F))
  , unary main_v70_3 main_while4b_v100 (broadcastInDim S1x128 ![1] bcast_S128_S1x128_1 : (⟨S128, .f32⟩ : BufTy).Contents (Elt F) → (⟨S1x128, .f32⟩ : BufTy).Contents (Elt F))
  , unary main_while4b_v100 main_while4b_v101 (broadcastInDim S1024x128 ![0, 1] bcast_S1x128_S1024x128_0_1 : (⟨S1x128, .f32⟩ : BufTy).Contents (Elt F) → (⟨S1024x128, .f32⟩ : BufTy).Contents (Elt F))
  , binary main_while4b_v99 main_while4b_v101 main_while4b_v102 (addf : (⟨S1024x128, .f32⟩ : BufTy).Contents (Elt F) → (⟨S1024x128, .f32⟩ : BufTy).Contents (Elt F) → (⟨S1024x128, .f32⟩ : BufTy).Contents (Elt F))
  , unary main_while4b_v102 main_while4b_v103 ((extractStridedSlice S1024x32 ![0, 0] · slices_S1024x128_S1024x32_0_0) : (⟨S1024x128, .f32⟩ : BufTy).Contents (Elt F) → (⟨S1024x32, .f32⟩ : BufTy).Contents (Elt F))
  , unary main_while4b_v102 main_while4b_v104 ((extractStridedSlice S1024x32 ![0, 32] · slices_S1024x128_S1024x32_0_32) : (⟨S1024x128, .f32⟩ : BufTy).Contents (Elt F) → (⟨S1024x32, .f32⟩ : BufTy).Contents (Elt F))
  , unary main_while4b_v102 main_while4b_v105 ((extractStridedSlice S1024x32 ![0, 64] · slices_S1024x128_S1024x32_0_64) : (⟨S1024x128, .f32⟩ : BufTy).Contents (Elt F) → (⟨S1024x32, .f32⟩ : BufTy).Contents (Elt F))
  , unary main_while4b_v102 main_while4b_v106 ((extractStridedSlice S1024x32 ![0, 96] · slices_S1024x128_S1024x32_0_96) : (⟨S1024x128, .f32⟩ : BufTy).Contents (Elt F) → (⟨S1024x32, .f32⟩ : BufTy).Contents (Elt F)) ]

theorem gate4_sub : (gate4 (F := F)).Forall fun op => op.bufs ⊆ tcRefs τ sig :=
  ⟨unary_bufs_sub .., binary_bufs_sub .., unary_bufs_sub .., binary_bufs_sub .., binary_bufs_sub .., unary_bufs_sub .., unary_bufs_sub .., binary_bufs_sub .., unary_bufs_sub .., unary_bufs_sub .., unary_bufs_sub .., unary_bufs_sub ..⟩

/-- The buffers it writes. -/
abbrev gate4_W : List (Ref sig .tc) := [main_while4b_v95, main_while4b_v96, main_while4b_v97, main_while4b_v98, main_while4b_v99, main_while4b_v100, main_while4b_v101, main_while4b_v102, main_while4b_v103, main_while4b_v104, main_while4b_v105, main_while4b_v106]

theorem gate4_writes : (gate4 (F := F)).Forall fun op => op.writes ⊆ (gate4_W.map (Proc.devRef (τ := τ) .tc)).toFinset :=
  forall_writes_sub_of_map rfl

/-- The new cell and the new hidden state. -/
noncomputable abbrev cell4 : List (HloOp τ sig (Elt F)) :=
  [ unary main_while4b_v104 main_while4b_v107 (Host.negf : (⟨S1024x32, .f32⟩ : BufTy).Contents (Elt F) → (⟨S1024x32, .f32⟩ : BufTy).Contents (Elt F))
  , unary main_while4b_v107 main_while4b_v108 (Host.exp : (⟨S1024x32, .f32⟩ : BufTy).Contents (Elt F) → (⟨S1024x32, .f32⟩ : BufTy).Contents (Elt F))
  , nullary main_while4b_cst_29 (constant S_ .f32 0x3F800000#32)
  , unary main_while4b_cst_29 main_while4b_v109 (broadcastInDim S1024x32 ![] bcast_S_S1024x32 : (⟨S_, .f32⟩ : BufTy).Contents (Elt F) → (⟨S1024x32, .f32⟩ : BufTy).Contents (Elt F))
  , binary main_while4b_v109 main_while4b_v108 main_while4b_v110 (addf : (⟨S1024x32, .f32⟩ : BufTy).Contents (Elt F) → (⟨S1024x32, .f32⟩ : BufTy).Contents (Elt F) → (⟨S1024x32, .f32⟩ : BufTy).Contents (Elt F))
  , nullary main_while4b_cst_30 (constant S_ .f32 0x3F800000#32)
  , unary main_while4b_cst_30 main_while4b_v111 (broadcastInDim S1024x32 ![] bcast_S_S1024x32 : (⟨S_, .f32⟩ : BufTy).Contents (Elt F) → (⟨S1024x32, .f32⟩ : BufTy).Contents (Elt F))
  , binary main_while4b_v111 main_while4b_v110 main_while4b_v112 (Host.divf : (⟨S1024x32, .f32⟩ : BufTy).Contents (Elt F) → (⟨S1024x32, .f32⟩ : BufTy).Contents (Elt F) → (⟨S1024x32, .f32⟩ : BufTy).Contents (Elt F))
  , binary main_while4b_v112 main_v70_6 main_while4b_v113 (mulf : (⟨S1024x32, .f32⟩ : BufTy).Contents (Elt F) → (⟨S1024x32, .f32⟩ : BufTy).Contents (Elt F) → (⟨S1024x32, .f32⟩ : BufTy).Contents (Elt F))
  , unary main_while4b_v103 main_while4b_v114 (Host.negf : (⟨S1024x32, .f32⟩ : BufTy).Contents (Elt F) → (⟨S1024x32, .f32⟩ : BufTy).Contents (Elt F))
  , unary main_while4b_v114 main_while4b_v115 (Host.exp : (⟨S1024x32, .f32⟩ : BufTy).Contents (Elt F) → (⟨S1024x32, .f32⟩ : BufTy).Contents (Elt F))
  , nullary main_while4b_cst_31 (constant S_ .f32 0x3F800000#32)
  , unary main_while4b_cst_31 main_while4b_v116 (broadcastInDim S1024x32 ![] bcast_S_S1024x32 : (⟨S_, .f32⟩ : BufTy).Contents (Elt F) → (⟨S1024x32, .f32⟩ : BufTy).Contents (Elt F))
  , binary main_while4b_v116 main_while4b_v115 main_while4b_v117 (addf : (⟨S1024x32, .f32⟩ : BufTy).Contents (Elt F) → (⟨S1024x32, .f32⟩ : BufTy).Contents (Elt F) → (⟨S1024x32, .f32⟩ : BufTy).Contents (Elt F))
  , nullary main_while4b_cst_32 (constant S_ .f32 0x3F800000#32)
  , unary main_while4b_cst_32 main_while4b_v118 (broadcastInDim S1024x32 ![] bcast_S_S1024x32 : (⟨S_, .f32⟩ : BufTy).Contents (Elt F) → (⟨S1024x32, .f32⟩ : BufTy).Contents (Elt F))
  , binary main_while4b_v118 main_while4b_v117 main_while4b_v119 (Host.divf : (⟨S1024x32, .f32⟩ : BufTy).Contents (Elt F) → (⟨S1024x32, .f32⟩ : BufTy).Contents (Elt F) → (⟨S1024x32, .f32⟩ : BufTy).Contents (Elt F))
  , unary main_while4b_v105 main_while4b_v120 (Host.tanh : (⟨S1024x32, .f32⟩ : BufTy).Contents (Elt F) → (⟨S1024x32, .f32⟩ : BufTy).Contents (Elt F))
  , binary main_while4b_v119 main_while4b_v120 main_while4b_v121 (mulf : (⟨S1024x32, .f32⟩ : BufTy).Contents (Elt F) → (⟨S1024x32, .f32⟩ : BufTy).Contents (Elt F) → (⟨S1024x32, .f32⟩ : BufTy).Contents (Elt F))
  , binary main_while4b_v113 main_while4b_v121 main_while4b_v122 (addf : (⟨S1024x32, .f32⟩ : BufTy).Contents (Elt F) → (⟨S1024x32, .f32⟩ : BufTy).Contents (Elt F) → (⟨S1024x32, .f32⟩ : BufTy).Contents (Elt F))
  , unary main_while4b_v106 main_while4b_v123 (Host.negf : (⟨S1024x32, .f32⟩ : BufTy).Contents (Elt F) → (⟨S1024x32, .f32⟩ : BufTy).Contents (Elt F))
  , unary main_while4b_v123 main_while4b_v124 (Host.exp : (⟨S1024x32, .f32⟩ : BufTy).Contents (Elt F) → (⟨S1024x32, .f32⟩ : BufTy).Contents (Elt F))
  , nullary main_while4b_cst_33 (constant S_ .f32 0x3F800000#32)
  , unary main_while4b_cst_33 main_while4b_v125 (broadcastInDim S1024x32 ![] bcast_S_S1024x32 : (⟨S_, .f32⟩ : BufTy).Contents (Elt F) → (⟨S1024x32, .f32⟩ : BufTy).Contents (Elt F))
  , binary main_while4b_v125 main_while4b_v124 main_while4b_v126 (addf : (⟨S1024x32, .f32⟩ : BufTy).Contents (Elt F) → (⟨S1024x32, .f32⟩ : BufTy).Contents (Elt F) → (⟨S1024x32, .f32⟩ : BufTy).Contents (Elt F))
  , nullary main_while4b_cst_34 (constant S_ .f32 0x3F800000#32)
  , unary main_while4b_cst_34 main_while4b_v127 (broadcastInDim S1024x32 ![] bcast_S_S1024x32 : (⟨S_, .f32⟩ : BufTy).Contents (Elt F) → (⟨S1024x32, .f32⟩ : BufTy).Contents (Elt F))
  , binary main_while4b_v127 main_while4b_v126 main_while4b_v128 (Host.divf : (⟨S1024x32, .f32⟩ : BufTy).Contents (Elt F) → (⟨S1024x32, .f32⟩ : BufTy).Contents (Elt F) → (⟨S1024x32, .f32⟩ : BufTy).Contents (Elt F))
  , unary main_while4b_v122 main_while4b_v129 (Host.tanh : (⟨S1024x32, .f32⟩ : BufTy).Contents (Elt F) → (⟨S1024x32, .f32⟩ : BufTy).Contents (Elt F))
  , binary main_while4b_v128 main_while4b_v129 main_while4b_v130 (mulf : (⟨S1024x32, .f32⟩ : BufTy).Contents (Elt F) → (⟨S1024x32, .f32⟩ : BufTy).Contents (Elt F) → (⟨S1024x32, .f32⟩ : BufTy).Contents (Elt F)) ]

theorem cell4_sub : (cell4 (F := F)).Forall fun op => op.bufs ⊆ tcRefs τ sig :=
  ⟨unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub ..⟩

/-- The buffers it writes. -/
abbrev cell4_W : List (Ref sig .tc) := [main_while4b_v107, main_while4b_v108, main_while4b_cst_29, main_while4b_v109, main_while4b_v110, main_while4b_cst_30, main_while4b_v111, main_while4b_v112, main_while4b_v113, main_while4b_v114, main_while4b_v115, main_while4b_cst_31, main_while4b_v116, main_while4b_v117, main_while4b_cst_32, main_while4b_v118, main_while4b_v119, main_while4b_v120, main_while4b_v121, main_while4b_v122, main_while4b_v123, main_while4b_v124, main_while4b_cst_33, main_while4b_v125, main_while4b_v126, main_while4b_cst_34, main_while4b_v127, main_while4b_v128, main_while4b_v129, main_while4b_v130]

theorem cell4_writes : (cell4 (F := F)).Forall fun op => op.writes ⊆ (cell4_W.map (Proc.devRef (τ := τ) .tc)).toFinset :=
  forall_writes_sub_of_map rfl

/-- The hidden state written into the sequence. -/
noncomputable abbrev put4 : List (HloOp τ sig (Elt F)) :=
  [ TRef.unary (.of main_while4b_v130 : TRef sig ⟨S1024x32, .f32⟩) (.of main_while4b_call9_v0 : TRef sig ⟨S1x1024x32, .f32⟩) (broadcastInDim S1x1024x32 ![1, 2] bcast_S1024x32_S1x1024x32_1_2)
  , TRef.nullary (.of main_while4b_call9_c : TRef sig ⟨S_, .i32⟩) (constantI S_ 32 0#32)
  , TRef.nullary (.of main_while4b_call9_c_0 : TRef sig ⟨S_, .i32⟩) (constantI S_ 32 0#32)
  , TRef.binaryIndexed (.of main_v70_7 : TRef sig ⟨S20x1024x32, .f32⟩) (.of main_while4b_call9_v0 : TRef sig ⟨S1x1024x32, .f32⟩) ![(.of main_v70_4 : TRef sig ⟨S_, .i32⟩), (.of main_while4b_call9_c : TRef sig ⟨S_, .i32⟩), (.of main_while4b_call9_c_0 : TRef sig ⟨S_, .i32⟩)] (.of main_while4b_v131 : TRef sig ⟨S20x1024x32, .f32⟩) (fun x u i => Host.dynamicUpdateSlice x u (fun k => (i k (Shape.Idx.first h_S_)).toInt) updateFits_S20x1024x32_S1x1024x32) ]

theorem put4_sub : (put4 (F := F)).Forall fun op => op.bufs ⊆ tcRefs τ sig :=
  ⟨unary_bufs_sub .., nullary_bufs_sub .., nullary_bufs_sub .., binaryIndexed_bufs_sub ..⟩

/-- The buffers it writes. -/
abbrev put4_W : List (Ref sig .tc) := [main_while4b_call9_v0, main_while4b_call9_c, main_while4b_call9_c_0, main_while4b_v131]

theorem put4_writes : (put4 (F := F)).Forall fun op => op.writes ⊆ (put4_W.map (Proc.devRef (τ := τ) .tc)).toFinset :=
  forall_writes_sub_of_map rfl

/-- The counter raised and the carried values handed on. -/
noncomputable abbrev next4 : List (HloOp τ sig (Elt F)) :=
  [ nullary main_while4b_c_35 (constantI S_ 32 1#32)
  , binary main_v70_4 main_while4b_c_35 main_while4b_v132 (addi : (⟨S_, .i32⟩ : BufTy).Contents (Elt F) → (⟨S_, .i32⟩ : BufTy).Contents (Elt F) → (⟨S_, .i32⟩ : BufTy).Contents (Elt F))
  , unary main_while4b_v132 main_v70_4 id
  , unary main_while4b_v130 main_v70_5 id
  , unary main_while4b_v122 main_v70_6 id
  , unary main_while4b_v131 main_v70_7 id ]

theorem next4_sub : (next4 (F := F)).Forall fun op => op.bufs ⊆ tcRefs τ sig :=
  ⟨nullary_bufs_sub .., binary_bufs_sub .., unary_bufs_sub .., unary_bufs_sub .., unary_bufs_sub .., unary_bufs_sub ..⟩

/-- The buffers it writes. -/
abbrev next4_W : List (Ref sig .tc) := [main_while4b_c_35, main_while4b_v132, main_v70_4, main_v70_5, main_v70_6, main_v70_7]

theorem next4_writes : (next4 (F := F)).Forall fun op => op.writes ⊆ (next4_W.map (Proc.devRef (τ := τ) .tc)).toFinset :=
  forall_writes_sub_of_map rfl

/-- The comparison of the counter with the number of steps. -/
noncomputable abbrev cond5 : List (HloOp τ sig (Elt F)) :=
  [ nullary main_while5c_c_29 (constantI S_ 32 20#32)
  , binary main_v84_4 main_while5c_c_29 main_while5c_v94 (cmpi .slt : (⟨S_, .i32⟩ : BufTy).Contents (Elt F) → (⟨S_, .i32⟩ : BufTy).Contents (Elt F) → (⟨S_, .i1⟩ : BufTy).Contents (Elt F)) ]

theorem cond5_sub : (cond5 (F := F)).Forall fun op => op.bufs ⊆ tcRefs τ sig :=
  ⟨nullary_bufs_sub .., binary_bufs_sub ..⟩

/-- The buffers it writes. -/
abbrev cond5_W : List (Ref sig .tc) := [main_while5c_c_29, main_while5c_v94]

theorem cond5_writes : (cond5 (F := F)).Forall fun op => op.writes ⊆ (cond5_W.map (Proc.devRef (τ := τ) .tc)).toFinset :=
  forall_writes_sub_of_map rfl

/-- The step's input. -/
noncomputable abbrev row5 : List (HloOp τ sig (Elt F)) :=
  [ TRef.nullary (.of main_while5b_call10_c : TRef sig ⟨S_, .i32⟩) (constantI S_ 32 0#32)
  , TRef.nullary (.of main_while5b_call10_c_0 : TRef sig ⟨S_, .i32⟩) (constantI S_ 32 0#32)
  , TRef.unaryIndexed (.of main_v84_0 : TRef sig ⟨S20x1024x64, .f32⟩) ![(.of main_v84_4 : TRef sig ⟨S_, .i32⟩), (.of main_while5b_call10_c : TRef sig ⟨S_, .i32⟩), (.of main_while5b_call10_c_0 : TRef sig ⟨S_, .i32⟩)] (.of main_while5b_call10_v0 : TRef sig ⟨S1x1024x64, .f32⟩) (fun x i => Host.dynamicSlice S1x1024x64 x (fun k => (i k (Shape.Idx.first h_S_)).toInt) sliceFits_S20x1024x64_S1x1024x64)
  , TRef.reshape (.of main_while5b_call10_v0 : TRef sig ⟨S1x1024x64, .f32⟩) (.of main_while5b_v94 : TRef sig ⟨S1024x64, .f32⟩) (rfl : (.f32 : EltTy) = .f32) shapeCasts_S1x1024x64_S1024x64 ]

theorem row5_sub : (row5 (F := F)).Forall fun op => op.bufs ⊆ tcRefs τ sig :=
  ⟨nullary_bufs_sub .., nullary_bufs_sub .., unaryIndexed_bufs_sub .., reshape_bufs_sub ..⟩

/-- The buffers it writes. -/
abbrev row5_W : List (Ref sig .tc) := [main_while5b_call10_c, main_while5b_call10_c_0, main_while5b_call10_v0, main_while5b_v94]

theorem row5_writes : (row5 (F := F)).Forall fun op => op.writes ⊆ (row5_W.map (Proc.devRef (τ := τ) .tc)).toFinset :=
  forall_writes_sub_of_map rfl

/-- The four gates before their nonlinearities. -/
noncomputable abbrev gate5 : List (HloOp τ sig (Elt F)) :=
  [ unary main_v84_1 main_while5b_v95 ((transpose S64x128 [1, 0] · transposes_S128x64_S64x128_1_0) : (⟨S128x64, .f32⟩ : BufTy).Contents (Elt F) → (⟨S64x128, .f32⟩ : BufTy).Contents (Elt F))
  , binary main_while5b_v94 main_while5b_v95 main_while5b_v96 ((fun l r => Host.dotGeneral dot_S1024x64_S64x128_S1024x128_1_0_0_1_n_n none l r) : (⟨S1024x64, .f32⟩ : BufTy).Contents (Elt F) → (⟨S64x128, .f32⟩ : BufTy).Contents (Elt F) → (⟨S1024x128, .f32⟩ : BufTy).Contents (Elt F))
  , unary main_v84_2 main_while5b_v97 ((transpose S32x128 [1, 0] · transposes_S128x32_S32x128_1_0) : (⟨S128x32, .f32⟩ : BufTy).Contents (Elt F) → (⟨S32x128, .f32⟩ : BufTy).Contents (Elt F))
  , binary main_v84_5 main_while5b_v97 main_while5b_v98 ((fun l r => Host.dotGeneral dot_S1024x32_S32x128_S1024x128_1_0_0_1_n_n none l r) : (⟨S1024x32, .f32⟩ : BufTy).Contents (Elt F) → (⟨S32x128, .f32⟩ : BufTy).Contents (Elt F) → (⟨S1024x128, .f32⟩ : BufTy).Contents (Elt F))
  , binary main_while5b_v96 main_while5b_v98 main_while5b_v99 (addf : (⟨S1024x128, .f32⟩ : BufTy).Contents (Elt F) → (⟨S1024x128, .f32⟩ : BufTy).Contents (Elt F) → (⟨S1024x128, .f32⟩ : BufTy).Contents (Elt F))
  , unary main_v84_3 main_while5b_v100 (broadcastInDim S1x128 ![1] bcast_S128_S1x128_1 : (⟨S128, .f32⟩ : BufTy).Contents (Elt F) → (⟨S1x128, .f32⟩ : BufTy).Contents (Elt F))
  , unary main_while5b_v100 main_while5b_v101 (broadcastInDim S1024x128 ![0, 1] bcast_S1x128_S1024x128_0_1 : (⟨S1x128, .f32⟩ : BufTy).Contents (Elt F) → (⟨S1024x128, .f32⟩ : BufTy).Contents (Elt F))
  , binary main_while5b_v99 main_while5b_v101 main_while5b_v102 (addf : (⟨S1024x128, .f32⟩ : BufTy).Contents (Elt F) → (⟨S1024x128, .f32⟩ : BufTy).Contents (Elt F) → (⟨S1024x128, .f32⟩ : BufTy).Contents (Elt F))
  , unary main_while5b_v102 main_while5b_v103 ((extractStridedSlice S1024x32 ![0, 0] · slices_S1024x128_S1024x32_0_0) : (⟨S1024x128, .f32⟩ : BufTy).Contents (Elt F) → (⟨S1024x32, .f32⟩ : BufTy).Contents (Elt F))
  , unary main_while5b_v102 main_while5b_v104 ((extractStridedSlice S1024x32 ![0, 32] · slices_S1024x128_S1024x32_0_32) : (⟨S1024x128, .f32⟩ : BufTy).Contents (Elt F) → (⟨S1024x32, .f32⟩ : BufTy).Contents (Elt F))
  , unary main_while5b_v102 main_while5b_v105 ((extractStridedSlice S1024x32 ![0, 64] · slices_S1024x128_S1024x32_0_64) : (⟨S1024x128, .f32⟩ : BufTy).Contents (Elt F) → (⟨S1024x32, .f32⟩ : BufTy).Contents (Elt F))
  , unary main_while5b_v102 main_while5b_v106 ((extractStridedSlice S1024x32 ![0, 96] · slices_S1024x128_S1024x32_0_96) : (⟨S1024x128, .f32⟩ : BufTy).Contents (Elt F) → (⟨S1024x32, .f32⟩ : BufTy).Contents (Elt F)) ]

theorem gate5_sub : (gate5 (F := F)).Forall fun op => op.bufs ⊆ tcRefs τ sig :=
  ⟨unary_bufs_sub .., binary_bufs_sub .., unary_bufs_sub .., binary_bufs_sub .., binary_bufs_sub .., unary_bufs_sub .., unary_bufs_sub .., binary_bufs_sub .., unary_bufs_sub .., unary_bufs_sub .., unary_bufs_sub .., unary_bufs_sub ..⟩

/-- The buffers it writes. -/
abbrev gate5_W : List (Ref sig .tc) := [main_while5b_v95, main_while5b_v96, main_while5b_v97, main_while5b_v98, main_while5b_v99, main_while5b_v100, main_while5b_v101, main_while5b_v102, main_while5b_v103, main_while5b_v104, main_while5b_v105, main_while5b_v106]

theorem gate5_writes : (gate5 (F := F)).Forall fun op => op.writes ⊆ (gate5_W.map (Proc.devRef (τ := τ) .tc)).toFinset :=
  forall_writes_sub_of_map rfl

/-- The new cell and the new hidden state. -/
noncomputable abbrev cell5 : List (HloOp τ sig (Elt F)) :=
  [ unary main_while5b_v104 main_while5b_v107 (Host.negf : (⟨S1024x32, .f32⟩ : BufTy).Contents (Elt F) → (⟨S1024x32, .f32⟩ : BufTy).Contents (Elt F))
  , unary main_while5b_v107 main_while5b_v108 (Host.exp : (⟨S1024x32, .f32⟩ : BufTy).Contents (Elt F) → (⟨S1024x32, .f32⟩ : BufTy).Contents (Elt F))
  , nullary main_while5b_cst_29 (constant S_ .f32 0x3F800000#32)
  , unary main_while5b_cst_29 main_while5b_v109 (broadcastInDim S1024x32 ![] bcast_S_S1024x32 : (⟨S_, .f32⟩ : BufTy).Contents (Elt F) → (⟨S1024x32, .f32⟩ : BufTy).Contents (Elt F))
  , binary main_while5b_v109 main_while5b_v108 main_while5b_v110 (addf : (⟨S1024x32, .f32⟩ : BufTy).Contents (Elt F) → (⟨S1024x32, .f32⟩ : BufTy).Contents (Elt F) → (⟨S1024x32, .f32⟩ : BufTy).Contents (Elt F))
  , nullary main_while5b_cst_30 (constant S_ .f32 0x3F800000#32)
  , unary main_while5b_cst_30 main_while5b_v111 (broadcastInDim S1024x32 ![] bcast_S_S1024x32 : (⟨S_, .f32⟩ : BufTy).Contents (Elt F) → (⟨S1024x32, .f32⟩ : BufTy).Contents (Elt F))
  , binary main_while5b_v111 main_while5b_v110 main_while5b_v112 (Host.divf : (⟨S1024x32, .f32⟩ : BufTy).Contents (Elt F) → (⟨S1024x32, .f32⟩ : BufTy).Contents (Elt F) → (⟨S1024x32, .f32⟩ : BufTy).Contents (Elt F))
  , binary main_while5b_v112 main_v84_6 main_while5b_v113 (mulf : (⟨S1024x32, .f32⟩ : BufTy).Contents (Elt F) → (⟨S1024x32, .f32⟩ : BufTy).Contents (Elt F) → (⟨S1024x32, .f32⟩ : BufTy).Contents (Elt F))
  , unary main_while5b_v103 main_while5b_v114 (Host.negf : (⟨S1024x32, .f32⟩ : BufTy).Contents (Elt F) → (⟨S1024x32, .f32⟩ : BufTy).Contents (Elt F))
  , unary main_while5b_v114 main_while5b_v115 (Host.exp : (⟨S1024x32, .f32⟩ : BufTy).Contents (Elt F) → (⟨S1024x32, .f32⟩ : BufTy).Contents (Elt F))
  , nullary main_while5b_cst_31 (constant S_ .f32 0x3F800000#32)
  , unary main_while5b_cst_31 main_while5b_v116 (broadcastInDim S1024x32 ![] bcast_S_S1024x32 : (⟨S_, .f32⟩ : BufTy).Contents (Elt F) → (⟨S1024x32, .f32⟩ : BufTy).Contents (Elt F))
  , binary main_while5b_v116 main_while5b_v115 main_while5b_v117 (addf : (⟨S1024x32, .f32⟩ : BufTy).Contents (Elt F) → (⟨S1024x32, .f32⟩ : BufTy).Contents (Elt F) → (⟨S1024x32, .f32⟩ : BufTy).Contents (Elt F))
  , nullary main_while5b_cst_32 (constant S_ .f32 0x3F800000#32)
  , unary main_while5b_cst_32 main_while5b_v118 (broadcastInDim S1024x32 ![] bcast_S_S1024x32 : (⟨S_, .f32⟩ : BufTy).Contents (Elt F) → (⟨S1024x32, .f32⟩ : BufTy).Contents (Elt F))
  , binary main_while5b_v118 main_while5b_v117 main_while5b_v119 (Host.divf : (⟨S1024x32, .f32⟩ : BufTy).Contents (Elt F) → (⟨S1024x32, .f32⟩ : BufTy).Contents (Elt F) → (⟨S1024x32, .f32⟩ : BufTy).Contents (Elt F))
  , unary main_while5b_v105 main_while5b_v120 (Host.tanh : (⟨S1024x32, .f32⟩ : BufTy).Contents (Elt F) → (⟨S1024x32, .f32⟩ : BufTy).Contents (Elt F))
  , binary main_while5b_v119 main_while5b_v120 main_while5b_v121 (mulf : (⟨S1024x32, .f32⟩ : BufTy).Contents (Elt F) → (⟨S1024x32, .f32⟩ : BufTy).Contents (Elt F) → (⟨S1024x32, .f32⟩ : BufTy).Contents (Elt F))
  , binary main_while5b_v113 main_while5b_v121 main_while5b_v122 (addf : (⟨S1024x32, .f32⟩ : BufTy).Contents (Elt F) → (⟨S1024x32, .f32⟩ : BufTy).Contents (Elt F) → (⟨S1024x32, .f32⟩ : BufTy).Contents (Elt F))
  , unary main_while5b_v106 main_while5b_v123 (Host.negf : (⟨S1024x32, .f32⟩ : BufTy).Contents (Elt F) → (⟨S1024x32, .f32⟩ : BufTy).Contents (Elt F))
  , unary main_while5b_v123 main_while5b_v124 (Host.exp : (⟨S1024x32, .f32⟩ : BufTy).Contents (Elt F) → (⟨S1024x32, .f32⟩ : BufTy).Contents (Elt F))
  , nullary main_while5b_cst_33 (constant S_ .f32 0x3F800000#32)
  , unary main_while5b_cst_33 main_while5b_v125 (broadcastInDim S1024x32 ![] bcast_S_S1024x32 : (⟨S_, .f32⟩ : BufTy).Contents (Elt F) → (⟨S1024x32, .f32⟩ : BufTy).Contents (Elt F))
  , binary main_while5b_v125 main_while5b_v124 main_while5b_v126 (addf : (⟨S1024x32, .f32⟩ : BufTy).Contents (Elt F) → (⟨S1024x32, .f32⟩ : BufTy).Contents (Elt F) → (⟨S1024x32, .f32⟩ : BufTy).Contents (Elt F))
  , nullary main_while5b_cst_34 (constant S_ .f32 0x3F800000#32)
  , unary main_while5b_cst_34 main_while5b_v127 (broadcastInDim S1024x32 ![] bcast_S_S1024x32 : (⟨S_, .f32⟩ : BufTy).Contents (Elt F) → (⟨S1024x32, .f32⟩ : BufTy).Contents (Elt F))
  , binary main_while5b_v127 main_while5b_v126 main_while5b_v128 (Host.divf : (⟨S1024x32, .f32⟩ : BufTy).Contents (Elt F) → (⟨S1024x32, .f32⟩ : BufTy).Contents (Elt F) → (⟨S1024x32, .f32⟩ : BufTy).Contents (Elt F))
  , unary main_while5b_v122 main_while5b_v129 (Host.tanh : (⟨S1024x32, .f32⟩ : BufTy).Contents (Elt F) → (⟨S1024x32, .f32⟩ : BufTy).Contents (Elt F))
  , binary main_while5b_v128 main_while5b_v129 main_while5b_v130 (mulf : (⟨S1024x32, .f32⟩ : BufTy).Contents (Elt F) → (⟨S1024x32, .f32⟩ : BufTy).Contents (Elt F) → (⟨S1024x32, .f32⟩ : BufTy).Contents (Elt F)) ]

theorem cell5_sub : (cell5 (F := F)).Forall fun op => op.bufs ⊆ tcRefs τ sig :=
  ⟨unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub ..⟩

/-- The buffers it writes. -/
abbrev cell5_W : List (Ref sig .tc) := [main_while5b_v107, main_while5b_v108, main_while5b_cst_29, main_while5b_v109, main_while5b_v110, main_while5b_cst_30, main_while5b_v111, main_while5b_v112, main_while5b_v113, main_while5b_v114, main_while5b_v115, main_while5b_cst_31, main_while5b_v116, main_while5b_v117, main_while5b_cst_32, main_while5b_v118, main_while5b_v119, main_while5b_v120, main_while5b_v121, main_while5b_v122, main_while5b_v123, main_while5b_v124, main_while5b_cst_33, main_while5b_v125, main_while5b_v126, main_while5b_cst_34, main_while5b_v127, main_while5b_v128, main_while5b_v129, main_while5b_v130]

theorem cell5_writes : (cell5 (F := F)).Forall fun op => op.writes ⊆ (cell5_W.map (Proc.devRef (τ := τ) .tc)).toFinset :=
  forall_writes_sub_of_map rfl

/-- The hidden state written into the sequence. -/
noncomputable abbrev put5 : List (HloOp τ sig (Elt F)) :=
  [ TRef.unary (.of main_while5b_v130 : TRef sig ⟨S1024x32, .f32⟩) (.of main_while5b_call11_v0 : TRef sig ⟨S1x1024x32, .f32⟩) (broadcastInDim S1x1024x32 ![1, 2] bcast_S1024x32_S1x1024x32_1_2)
  , TRef.nullary (.of main_while5b_call11_c : TRef sig ⟨S_, .i32⟩) (constantI S_ 32 0#32)
  , TRef.nullary (.of main_while5b_call11_c_0 : TRef sig ⟨S_, .i32⟩) (constantI S_ 32 0#32)
  , TRef.binaryIndexed (.of main_v84_7 : TRef sig ⟨S20x1024x32, .f32⟩) (.of main_while5b_call11_v0 : TRef sig ⟨S1x1024x32, .f32⟩) ![(.of main_v84_4 : TRef sig ⟨S_, .i32⟩), (.of main_while5b_call11_c : TRef sig ⟨S_, .i32⟩), (.of main_while5b_call11_c_0 : TRef sig ⟨S_, .i32⟩)] (.of main_while5b_v131 : TRef sig ⟨S20x1024x32, .f32⟩) (fun x u i => Host.dynamicUpdateSlice x u (fun k => (i k (Shape.Idx.first h_S_)).toInt) updateFits_S20x1024x32_S1x1024x32) ]

theorem put5_sub : (put5 (F := F)).Forall fun op => op.bufs ⊆ tcRefs τ sig :=
  ⟨unary_bufs_sub .., nullary_bufs_sub .., nullary_bufs_sub .., binaryIndexed_bufs_sub ..⟩

/-- The buffers it writes. -/
abbrev put5_W : List (Ref sig .tc) := [main_while5b_call11_v0, main_while5b_call11_c, main_while5b_call11_c_0, main_while5b_v131]

theorem put5_writes : (put5 (F := F)).Forall fun op => op.writes ⊆ (put5_W.map (Proc.devRef (τ := τ) .tc)).toFinset :=
  forall_writes_sub_of_map rfl

/-- The counter raised and the carried values handed on. -/
noncomputable abbrev next5 : List (HloOp τ sig (Elt F)) :=
  [ nullary main_while5b_c_35 (constantI S_ 32 1#32)
  , binary main_v84_4 main_while5b_c_35 main_while5b_v132 (addi : (⟨S_, .i32⟩ : BufTy).Contents (Elt F) → (⟨S_, .i32⟩ : BufTy).Contents (Elt F) → (⟨S_, .i32⟩ : BufTy).Contents (Elt F))
  , unary main_while5b_v132 main_v84_4 id
  , unary main_while5b_v130 main_v84_5 id
  , unary main_while5b_v122 main_v84_6 id
  , unary main_while5b_v131 main_v84_7 id ]

theorem next5_sub : (next5 (F := F)).Forall fun op => op.bufs ⊆ tcRefs τ sig :=
  ⟨nullary_bufs_sub .., binary_bufs_sub .., unary_bufs_sub .., unary_bufs_sub .., unary_bufs_sub .., unary_bufs_sub ..⟩

/-- The buffers it writes. -/
abbrev next5_W : List (Ref sig .tc) := [main_while5b_c_35, main_while5b_v132, main_v84_4, main_v84_5, main_v84_6, main_v84_7]

theorem next5_writes : (next5 (F := F)).Forall fun op => op.writes ⊆ (next5_W.map (Proc.devRef (τ := τ) .tc)).toFinset :=
  forall_writes_sub_of_map rfl

variable (c : Dev nD)

theorem part0_chain : main_part0 (F := F) c = Pipeline.chainK ([seq in0, seq cp0, HostLoop.enter 0, seq in1, seq cp1, HostLoop.enter 1, seq join2] : List (Prog (TpuEff nD τ sig (Elt F) (HostLoop.Sig (Pipeline.Sig Λ₀ (Fin 0) fun p => (pcfgs (F := F) p).Adm) 6) .tc) PUnit)) (seq in2a) := by
  rewrite [chainK_seq_cons, chainK_seq_cons, Pipeline.chainK_cons, chainK_seq_cons, chainK_seq_cons, Pipeline.chainK_cons, chainK_seq_cons]
  chain_rfl

theorem part1_chain : main_part1 (F := F) c = Pipeline.chainK ([seq in2b, seq cp2, HostLoop.enter 2, seq in3, seq cp3, HostLoop.enter 3, seq join4] : List (Prog (TpuEff nD τ sig (Elt F) (HostLoop.Sig (Pipeline.Sig Λ₀ (Fin 0) fun p => (pcfgs (F := F) p).Adm) 6) .tc) PUnit)) (seq in4a) := by
  rewrite [chainK_seq_cons, chainK_seq_cons, Pipeline.chainK_cons, chainK_seq_cons, chainK_seq_cons, Pipeline.chainK_cons, chainK_seq_cons]
  chain_rfl

theorem part2_chain : main_part2 (F := F) c = Pipeline.chain ([seq in4b, seq cp4, HostLoop.enter 4, seq in5, seq cp5, HostLoop.enter 5, seq join6, seq logits] : List (Prog (TpuEff nD τ sig (Elt F) (HostLoop.Sig (Pipeline.Sig Λ₀ (Fin 0) fun p => (pcfgs (F := F) p).Adm) 6) .tc) PUnit)) := by
  rewrite [chain_seq_cons, chain_seq_cons, Pipeline.chain_cons, chain_seq_cons, chain_seq_cons, Pipeline.chain_cons, chain_seq_cons, chain_seq_cons]
  chain_rfl

theorem row0_call : fn_dynamic_index_in_dim.body (F := F) (.of main_v12_0) (.of main_v12_4) main_while0b_call0 = seq row0 := by
  rewrite [← one row0, chain_seq_cons]
  chain_rfl

theorem put0_call : fn_dynamic_update_index_in_dim.body (F := F) (.of main_v12_7) (.of main_while0b_v130) (.of main_v12_4) main_while0b_call1 = seq put0 := by
  rewrite [← one put0, chain_seq_cons]
  chain_rfl

theorem body0_chain : main_while0_body (F := F) = Pipeline.chain (([row0, gate0, cell0, put0, next0] : List (List (HloOp τ sig (Elt F)))).map fun ops => (seq ops : Prog _ PUnit)) := by
  unfold main_while0_body
  rewrite [row0_call, put0_call]
  rewrite [List.map_cons, List.map_cons, List.map_cons, List.map_cons, List.map_cons, List.map_nil,
    Pipeline.chain_cons, chain_seq_cons, chain_seq_cons, Pipeline.chain_cons, chain_seq_cons]
  chain_rfl

theorem row1_call : fn_dynamic_index_in_dim_0.body (F := F) (.of main_v26_0) (.of main_v26_4) main_while1b_call2 = seq row1 := by
  rewrite [← one row1, chain_seq_cons]
  chain_rfl

theorem put1_call : fn_dynamic_update_index_in_dim.body (F := F) (.of main_v26_7) (.of main_while1b_v130) (.of main_v26_4) main_while1b_call3 = seq put1 := by
  rewrite [← one put1, chain_seq_cons]
  chain_rfl

theorem body1_chain : main_while1_body (F := F) = Pipeline.chain (([row1, gate1, cell1, put1, next1] : List (List (HloOp τ sig (Elt F)))).map fun ops => (seq ops : Prog _ PUnit)) := by
  unfold main_while1_body
  rewrite [row1_call, put1_call]
  rewrite [List.map_cons, List.map_cons, List.map_cons, List.map_cons, List.map_cons, List.map_nil,
    Pipeline.chain_cons, chain_seq_cons, chain_seq_cons, Pipeline.chain_cons, chain_seq_cons]
  chain_rfl

theorem row2_call : fn_dynamic_index_in_dim_0.body (F := F) (.of main_v41_0) (.of main_v41_4) main_while2b_call4 = seq row2 := by
  rewrite [← one row2, chain_seq_cons]
  chain_rfl

theorem put2_call : fn_dynamic_update_index_in_dim.body (F := F) (.of main_v41_7) (.of main_while2b_v130) (.of main_v41_4) main_while2b_call5 = seq put2 := by
  rewrite [← one put2, chain_seq_cons]
  chain_rfl

theorem body2_chain : main_while2_body (F := F) = Pipeline.chain (([row2, gate2, cell2, put2, next2] : List (List (HloOp τ sig (Elt F)))).map fun ops => (seq ops : Prog _ PUnit)) := by
  unfold main_while2_body
  rewrite [row2_call, put2_call]
  rewrite [List.map_cons, List.map_cons, List.map_cons, List.map_cons, List.map_cons, List.map_nil,
    Pipeline.chain_cons, chain_seq_cons, chain_seq_cons, Pipeline.chain_cons, chain_seq_cons]
  chain_rfl

theorem row3_call : fn_dynamic_index_in_dim_0.body (F := F) (.of main_v55_0) (.of main_v55_4) main_while3b_call6 = seq row3 := by
  rewrite [← one row3, chain_seq_cons]
  chain_rfl

theorem put3_call : fn_dynamic_update_index_in_dim.body (F := F) (.of main_v55_7) (.of main_while3b_v130) (.of main_v55_4) main_while3b_call7 = seq put3 := by
  rewrite [← one put3, chain_seq_cons]
  chain_rfl

theorem body3_chain : main_while3_body (F := F) = Pipeline.chain (([row3, gate3, cell3, put3, next3] : List (List (HloOp τ sig (Elt F)))).map fun ops => (seq ops : Prog _ PUnit)) := by
  unfold main_while3_body
  rewrite [row3_call, put3_call]
  rewrite [List.map_cons, List.map_cons, List.map_cons, List.map_cons, List.map_cons, List.map_nil,
    Pipeline.chain_cons, chain_seq_cons, chain_seq_cons, Pipeline.chain_cons, chain_seq_cons]
  chain_rfl

theorem row4_call : fn_dynamic_index_in_dim_0.body (F := F) (.of main_v70_0) (.of main_v70_4) main_while4b_call8 = seq row4 := by
  rewrite [← one row4, chain_seq_cons]
  chain_rfl

theorem put4_call : fn_dynamic_update_index_in_dim.body (F := F) (.of main_v70_7) (.of main_while4b_v130) (.of main_v70_4) main_while4b_call9 = seq put4 := by
  rewrite [← one put4, chain_seq_cons]
  chain_rfl

theorem body4_chain : main_while4_body (F := F) = Pipeline.chain (([row4, gate4, cell4, put4, next4] : List (List (HloOp τ sig (Elt F)))).map fun ops => (seq ops : Prog _ PUnit)) := by
  unfold main_while4_body
  rewrite [row4_call, put4_call]
  rewrite [List.map_cons, List.map_cons, List.map_cons, List.map_cons, List.map_cons, List.map_nil,
    Pipeline.chain_cons, chain_seq_cons, chain_seq_cons, Pipeline.chain_cons, chain_seq_cons]
  chain_rfl

theorem row5_call : fn_dynamic_index_in_dim_0.body (F := F) (.of main_v84_0) (.of main_v84_4) main_while5b_call10 = seq row5 := by
  rewrite [← one row5, chain_seq_cons]
  chain_rfl

theorem put5_call : fn_dynamic_update_index_in_dim.body (F := F) (.of main_v84_7) (.of main_while5b_v130) (.of main_v84_4) main_while5b_call11 = seq put5 := by
  rewrite [← one put5, chain_seq_cons]
  chain_rfl

theorem body5_chain : main_while5_body (F := F) = Pipeline.chain (([row5, gate5, cell5, put5, next5] : List (List (HloOp τ sig (Elt F)))).map fun ops => (seq ops : Prog _ PUnit)) := by
  unfold main_while5_body
  rewrite [row5_call, put5_call]
  rewrite [List.map_cons, List.map_cons, List.map_cons, List.map_cons, List.map_cons, List.map_nil,
    Pipeline.chain_cons, chain_seq_cons, chain_seq_cons, Pipeline.chain_cons, chain_seq_cons]
  chain_rfl

/-! ## The first loop -/

/-- The body's stretches, in order. -/
noncomputable abbrev bodyI0 : List (List (HloOp τ sig (Elt F))) := [row0, gate0, cell0, put0, next0]

/-- The stretches before the loop. -/
noncomputable abbrev pre0 : List (List (HloOp τ sig (Elt F))) := [in0, cp0]

section
variable (V : Dev nD → Valuation τ sig (Elt F))

/-- The counter after the first `k` steps is `k`. -/
theorem ctr0 (c : Dev nD) : ∀ k, atTrip cond0 bodyI0 (fun c => afterL pre0 (V c)) k c (Proc.devRef .tc main_v12_4) = fun _ => Scf.iv 0#32 1#32 k
  | 0 => by
    rw [Scf.iv_zero]
    show afterL pre0 (V c) (Proc.devRef .tc main_v12_4) = _
    simp only [afterL_cons, afterL_nil]
    after_results
    rfl
  | k + 1 => by
    have h0 := ctr0 c k
    show afterL bodyI0 (after cond0 (atTrip cond0 bodyI0 (fun c => afterL pre0 (V c)) k c)) (Proc.devRef .tc main_v12_4) = _
    generalize atTrip cond0 bodyI0 (fun c => afterL pre0 (V c)) k c = X at h0 ⊢
    simp only [afterL_cons, afterL_nil]
    have h1 : after next0 (after put0 (after cell0 (after gate0 (after row0 (after cond0 X))))) (Proc.devRef .tc main_v12_4)
        = addi (after put0 (after cell0 (after gate0 (after row0 (after cond0 X)))) (Proc.devRef .tc main_v12_4)) (constantI S_ 32 1#32) := by
      after_results; rfl
    rw [h1, after_of_writes_sub put0 _ put0_writes (by decide), after_of_writes_sub cell0 _ cell0_writes (by decide),
      after_of_writes_sub gate0 _ gate0_writes (by decide), after_of_writes_sub row0 _ row0_writes (by decide),
      after_of_writes_sub cond0 _ cond0_writes (by decide), h0, Scf.iv_succ]
    rfl

set_option backward.isDefEq.respectTransparency.types false in
/-- The condition's specification. -/
theorem cond0_spec : CondSpec (pcfgs (F := F)) defs₀ loops (main_while0_cond (F := F)) cond0 bodyI0 (fun c => afterL pre0 (V c)) 20 := by
  intro k hk c bd
  have hctr := ctr0 V c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip cond0 bodyI0 (fun c => afterL pre0 (V c)) k c) main_v12_4 HostLoop.idx0)
        (HloOp.result _ (atTrip cond0 bodyI0 (fun c => afterL pre0 (V c)) k c) main_while0c_c_29 HostLoop.idx0) = 1#1) (k < 20)
    rw [nullary_result_ne _ _ _ _ (by decide), nullary_result, hctr]
    exact Scf.cmpi_slt_iv_ub_iff (lb := 0#32) (ub := 20#32) (st := 1#32) (by decide) (show k ≤ Scf.trips 0#32 20#32 1#32 from hk)
  isplitl [Hb]; · iexact Hb
  rw [after_cons, after_cons, after_nil]; iexact Hh
end

/-- The loop as a phase. -/
noncomputable def phase0 : Phases.Phase (pcfgs (F := F)) defs₀ loops where
  pre := pre0
  hpre := .cons in0_sub (.cons cp0_sub (.nil))
  l := 0
  cond := main_while0_cond
  body := main_while0_body
  hloop := rfl
  condOps := cond0
  bodyI := bodyI0
  hbodyI := .cons row0_sub (.cons gate0_sub (.cons cell0_sub (.cons put0_sub (.cons next0_sub (.nil)))))
  hbody := body0_chain
  n := 20
  hcond := cond0_spec

/-! ## The second loop -/

/-- The body's stretches, in order. -/
noncomputable abbrev bodyI1 : List (List (HloOp τ sig (Elt F))) := [row1, gate1, cell1, put1, next1]

/-- The stretches before the loop. -/
noncomputable abbrev pre1 : List (List (HloOp τ sig (Elt F))) := [in1, cp1]

section
variable (V : Dev nD → Valuation τ sig (Elt F))

/-- The counter after the first `k` steps is `k`. -/
theorem ctr1 (c : Dev nD) : ∀ k, atTrip cond1 bodyI1 (fun c => afterL pre1 (V c)) k c (Proc.devRef .tc main_v26_4) = fun _ => Scf.iv 0#32 1#32 k
  | 0 => by
    rw [Scf.iv_zero]
    show afterL pre1 (V c) (Proc.devRef .tc main_v26_4) = _
    simp only [afterL_cons, afterL_nil]
    after_results
    rfl
  | k + 1 => by
    have h0 := ctr1 c k
    show afterL bodyI1 (after cond1 (atTrip cond1 bodyI1 (fun c => afterL pre1 (V c)) k c)) (Proc.devRef .tc main_v26_4) = _
    generalize atTrip cond1 bodyI1 (fun c => afterL pre1 (V c)) k c = X at h0 ⊢
    simp only [afterL_cons, afterL_nil]
    have h1 : after next1 (after put1 (after cell1 (after gate1 (after row1 (after cond1 X))))) (Proc.devRef .tc main_v26_4)
        = addi (after put1 (after cell1 (after gate1 (after row1 (after cond1 X)))) (Proc.devRef .tc main_v26_4)) (constantI S_ 32 1#32) := by
      after_results; rfl
    rw [h1, after_of_writes_sub put1 _ put1_writes (by decide), after_of_writes_sub cell1 _ cell1_writes (by decide),
      after_of_writes_sub gate1 _ gate1_writes (by decide), after_of_writes_sub row1 _ row1_writes (by decide),
      after_of_writes_sub cond1 _ cond1_writes (by decide), h0, Scf.iv_succ]
    rfl

set_option backward.isDefEq.respectTransparency.types false in
/-- The condition's specification. -/
theorem cond1_spec : CondSpec (pcfgs (F := F)) defs₀ loops (main_while1_cond (F := F)) cond1 bodyI1 (fun c => afterL pre1 (V c)) 20 := by
  intro k hk c bd
  have hctr := ctr1 V c k
  unfold main_while1_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip cond1 bodyI1 (fun c => afterL pre1 (V c)) k c) main_v26_4 HostLoop.idx0)
        (HloOp.result _ (atTrip cond1 bodyI1 (fun c => afterL pre1 (V c)) k c) main_while1c_c_29 HostLoop.idx0) = 1#1) (k < 20)
    rw [nullary_result_ne _ _ _ _ (by decide), nullary_result, hctr]
    exact Scf.cmpi_slt_iv_ub_iff (lb := 0#32) (ub := 20#32) (st := 1#32) (by decide) (show k ≤ Scf.trips 0#32 20#32 1#32 from hk)
  isplitl [Hb]; · iexact Hb
  rw [after_cons, after_cons, after_nil]; iexact Hh
end

/-- The loop as a phase. -/
noncomputable def phase1 : Phases.Phase (pcfgs (F := F)) defs₀ loops where
  pre := pre1
  hpre := .cons in1_sub (.cons cp1_sub (.nil))
  l := 1
  cond := main_while1_cond
  body := main_while1_body
  hloop := rfl
  condOps := cond1
  bodyI := bodyI1
  hbodyI := .cons row1_sub (.cons gate1_sub (.cons cell1_sub (.cons put1_sub (.cons next1_sub (.nil)))))
  hbody := body1_chain
  n := 20
  hcond := cond1_spec

/-! ## The third loop -/

/-- The body's stretches, in order. -/
noncomputable abbrev bodyI2 : List (List (HloOp τ sig (Elt F))) := [row2, gate2, cell2, put2, next2]

/-- The stretches before the loop. -/
noncomputable abbrev pre2 : List (List (HloOp τ sig (Elt F))) := [join2, in2a, in2b, cp2]

section
variable (V : Dev nD → Valuation τ sig (Elt F))

/-- The counter after the first `k` steps is `k`. -/
theorem ctr2 (c : Dev nD) : ∀ k, atTrip cond2 bodyI2 (fun c => afterL pre2 (V c)) k c (Proc.devRef .tc main_v41_4) = fun _ => Scf.iv 0#32 1#32 k
  | 0 => by
    rw [Scf.iv_zero]
    show afterL pre2 (V c) (Proc.devRef .tc main_v41_4) = _
    simp only [afterL_cons, afterL_nil]
    after_results
    rfl
  | k + 1 => by
    have h0 := ctr2 c k
    show afterL bodyI2 (after cond2 (atTrip cond2 bodyI2 (fun c => afterL pre2 (V c)) k c)) (Proc.devRef .tc main_v41_4) = _
    generalize atTrip cond2 bodyI2 (fun c => afterL pre2 (V c)) k c = X at h0 ⊢
    simp only [afterL_cons, afterL_nil]
    have h1 : after next2 (after put2 (after cell2 (after gate2 (after row2 (after cond2 X))))) (Proc.devRef .tc main_v41_4)
        = addi (after put2 (after cell2 (after gate2 (after row2 (after cond2 X)))) (Proc.devRef .tc main_v41_4)) (constantI S_ 32 1#32) := by
      after_results; rfl
    rw [h1, after_of_writes_sub put2 _ put2_writes (by decide), after_of_writes_sub cell2 _ cell2_writes (by decide),
      after_of_writes_sub gate2 _ gate2_writes (by decide), after_of_writes_sub row2 _ row2_writes (by decide),
      after_of_writes_sub cond2 _ cond2_writes (by decide), h0, Scf.iv_succ]
    rfl

set_option backward.isDefEq.respectTransparency.types false in
/-- The condition's specification. -/
theorem cond2_spec : CondSpec (pcfgs (F := F)) defs₀ loops (main_while2_cond (F := F)) cond2 bodyI2 (fun c => afterL pre2 (V c)) 20 := by
  intro k hk c bd
  have hctr := ctr2 V c k
  unfold main_while2_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip cond2 bodyI2 (fun c => afterL pre2 (V c)) k c) main_v41_4 HostLoop.idx0)
        (HloOp.result _ (atTrip cond2 bodyI2 (fun c => afterL pre2 (V c)) k c) main_while2c_c_29 HostLoop.idx0) = 1#1) (k < 20)
    rw [nullary_result_ne _ _ _ _ (by decide), nullary_result, hctr]
    exact Scf.cmpi_slt_iv_ub_iff (lb := 0#32) (ub := 20#32) (st := 1#32) (by decide) (show k ≤ Scf.trips 0#32 20#32 1#32 from hk)
  isplitl [Hb]; · iexact Hb
  rw [after_cons, after_cons, after_nil]; iexact Hh
end

/-- The loop as a phase. -/
noncomputable def phase2 : Phases.Phase (pcfgs (F := F)) defs₀ loops where
  pre := pre2
  hpre := .cons join2_sub (.cons in2a_sub (.cons in2b_sub (.cons cp2_sub (.nil))))
  l := 2
  cond := main_while2_cond
  body := main_while2_body
  hloop := rfl
  condOps := cond2
  bodyI := bodyI2
  hbodyI := .cons row2_sub (.cons gate2_sub (.cons cell2_sub (.cons put2_sub (.cons next2_sub (.nil)))))
  hbody := body2_chain
  n := 20
  hcond := cond2_spec

/-! ## The fourth loop -/

/-- The body's stretches, in order. -/
noncomputable abbrev bodyI3 : List (List (HloOp τ sig (Elt F))) := [row3, gate3, cell3, put3, next3]

/-- The stretches before the loop. -/
noncomputable abbrev pre3 : List (List (HloOp τ sig (Elt F))) := [in3, cp3]

section
variable (V : Dev nD → Valuation τ sig (Elt F))

/-- The counter after the first `k` steps is `k`. -/
theorem ctr3 (c : Dev nD) : ∀ k, atTrip cond3 bodyI3 (fun c => afterL pre3 (V c)) k c (Proc.devRef .tc main_v55_4) = fun _ => Scf.iv 0#32 1#32 k
  | 0 => by
    rw [Scf.iv_zero]
    show afterL pre3 (V c) (Proc.devRef .tc main_v55_4) = _
    simp only [afterL_cons, afterL_nil]
    after_results
    rfl
  | k + 1 => by
    have h0 := ctr3 c k
    show afterL bodyI3 (after cond3 (atTrip cond3 bodyI3 (fun c => afterL pre3 (V c)) k c)) (Proc.devRef .tc main_v55_4) = _
    generalize atTrip cond3 bodyI3 (fun c => afterL pre3 (V c)) k c = X at h0 ⊢
    simp only [afterL_cons, afterL_nil]
    have h1 : after next3 (after put3 (after cell3 (after gate3 (after row3 (after cond3 X))))) (Proc.devRef .tc main_v55_4)
        = addi (after put3 (after cell3 (after gate3 (after row3 (after cond3 X)))) (Proc.devRef .tc main_v55_4)) (constantI S_ 32 1#32) := by
      after_results; rfl
    rw [h1, after_of_writes_sub put3 _ put3_writes (by decide), after_of_writes_sub cell3 _ cell3_writes (by decide),
      after_of_writes_sub gate3 _ gate3_writes (by decide), after_of_writes_sub row3 _ row3_writes (by decide),
      after_of_writes_sub cond3 _ cond3_writes (by decide), h0, Scf.iv_succ]
    rfl

set_option backward.isDefEq.respectTransparency.types false in
/-- The condition's specification. -/
theorem cond3_spec : CondSpec (pcfgs (F := F)) defs₀ loops (main_while3_cond (F := F)) cond3 bodyI3 (fun c => afterL pre3 (V c)) 20 := by
  intro k hk c bd
  have hctr := ctr3 V c k
  unfold main_while3_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip cond3 bodyI3 (fun c => afterL pre3 (V c)) k c) main_v55_4 HostLoop.idx0)
        (HloOp.result _ (atTrip cond3 bodyI3 (fun c => afterL pre3 (V c)) k c) main_while3c_c_29 HostLoop.idx0) = 1#1) (k < 20)
    rw [nullary_result_ne _ _ _ _ (by decide), nullary_result, hctr]
    exact Scf.cmpi_slt_iv_ub_iff (lb := 0#32) (ub := 20#32) (st := 1#32) (by decide) (show k ≤ Scf.trips 0#32 20#32 1#32 from hk)
  isplitl [Hb]; · iexact Hb
  rw [after_cons, after_cons, after_nil]; iexact Hh
end

/-- The loop as a phase. -/
noncomputable def phase3 : Phases.Phase (pcfgs (F := F)) defs₀ loops where
  pre := pre3
  hpre := .cons in3_sub (.cons cp3_sub (.nil))
  l := 3
  cond := main_while3_cond
  body := main_while3_body
  hloop := rfl
  condOps := cond3
  bodyI := bodyI3
  hbodyI := .cons row3_sub (.cons gate3_sub (.cons cell3_sub (.cons put3_sub (.cons next3_sub (.nil)))))
  hbody := body3_chain
  n := 20
  hcond := cond3_spec

/-! ## The fifth loop -/

/-- The body's stretches, in order. -/
noncomputable abbrev bodyI4 : List (List (HloOp τ sig (Elt F))) := [row4, gate4, cell4, put4, next4]

/-- The stretches before the loop. -/
noncomputable abbrev pre4 : List (List (HloOp τ sig (Elt F))) := [join4, in4a, in4b, cp4]

section
variable (V : Dev nD → Valuation τ sig (Elt F))

/-- The counter after the first `k` steps is `k`. -/
theorem ctr4 (c : Dev nD) : ∀ k, atTrip cond4 bodyI4 (fun c => afterL pre4 (V c)) k c (Proc.devRef .tc main_v70_4) = fun _ => Scf.iv 0#32 1#32 k
  | 0 => by
    rw [Scf.iv_zero]
    show afterL pre4 (V c) (Proc.devRef .tc main_v70_4) = _
    simp only [afterL_cons, afterL_nil]
    after_results
    rfl
  | k + 1 => by
    have h0 := ctr4 c k
    show afterL bodyI4 (after cond4 (atTrip cond4 bodyI4 (fun c => afterL pre4 (V c)) k c)) (Proc.devRef .tc main_v70_4) = _
    generalize atTrip cond4 bodyI4 (fun c => afterL pre4 (V c)) k c = X at h0 ⊢
    simp only [afterL_cons, afterL_nil]
    have h1 : after next4 (after put4 (after cell4 (after gate4 (after row4 (after cond4 X))))) (Proc.devRef .tc main_v70_4)
        = addi (after put4 (after cell4 (after gate4 (after row4 (after cond4 X)))) (Proc.devRef .tc main_v70_4)) (constantI S_ 32 1#32) := by
      after_results; rfl
    rw [h1, after_of_writes_sub put4 _ put4_writes (by decide), after_of_writes_sub cell4 _ cell4_writes (by decide),
      after_of_writes_sub gate4 _ gate4_writes (by decide), after_of_writes_sub row4 _ row4_writes (by decide),
      after_of_writes_sub cond4 _ cond4_writes (by decide), h0, Scf.iv_succ]
    rfl

set_option backward.isDefEq.respectTransparency.types false in
/-- The condition's specification. -/
theorem cond4_spec : CondSpec (pcfgs (F := F)) defs₀ loops (main_while4_cond (F := F)) cond4 bodyI4 (fun c => afterL pre4 (V c)) 20 := by
  intro k hk c bd
  have hctr := ctr4 V c k
  unfold main_while4_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip cond4 bodyI4 (fun c => afterL pre4 (V c)) k c) main_v70_4 HostLoop.idx0)
        (HloOp.result _ (atTrip cond4 bodyI4 (fun c => afterL pre4 (V c)) k c) main_while4c_c_29 HostLoop.idx0) = 1#1) (k < 20)
    rw [nullary_result_ne _ _ _ _ (by decide), nullary_result, hctr]
    exact Scf.cmpi_slt_iv_ub_iff (lb := 0#32) (ub := 20#32) (st := 1#32) (by decide) (show k ≤ Scf.trips 0#32 20#32 1#32 from hk)
  isplitl [Hb]; · iexact Hb
  rw [after_cons, after_cons, after_nil]; iexact Hh
end

/-- The loop as a phase. -/
noncomputable def phase4 : Phases.Phase (pcfgs (F := F)) defs₀ loops where
  pre := pre4
  hpre := .cons join4_sub (.cons in4a_sub (.cons in4b_sub (.cons cp4_sub (.nil))))
  l := 4
  cond := main_while4_cond
  body := main_while4_body
  hloop := rfl
  condOps := cond4
  bodyI := bodyI4
  hbodyI := .cons row4_sub (.cons gate4_sub (.cons cell4_sub (.cons put4_sub (.cons next4_sub (.nil)))))
  hbody := body4_chain
  n := 20
  hcond := cond4_spec

/-! ## The sixth loop -/

/-- The body's stretches, in order. -/
noncomputable abbrev bodyI5 : List (List (HloOp τ sig (Elt F))) := [row5, gate5, cell5, put5, next5]

/-- The stretches before the loop. -/
noncomputable abbrev pre5 : List (List (HloOp τ sig (Elt F))) := [in5, cp5]

section
variable (V : Dev nD → Valuation τ sig (Elt F))

/-- The counter after the first `k` steps is `k`. -/
theorem ctr5 (c : Dev nD) : ∀ k, atTrip cond5 bodyI5 (fun c => afterL pre5 (V c)) k c (Proc.devRef .tc main_v84_4) = fun _ => Scf.iv 0#32 1#32 k
  | 0 => by
    rw [Scf.iv_zero]
    show afterL pre5 (V c) (Proc.devRef .tc main_v84_4) = _
    simp only [afterL_cons, afterL_nil]
    after_results
    rfl
  | k + 1 => by
    have h0 := ctr5 c k
    show afterL bodyI5 (after cond5 (atTrip cond5 bodyI5 (fun c => afterL pre5 (V c)) k c)) (Proc.devRef .tc main_v84_4) = _
    generalize atTrip cond5 bodyI5 (fun c => afterL pre5 (V c)) k c = X at h0 ⊢
    simp only [afterL_cons, afterL_nil]
    have h1 : after next5 (after put5 (after cell5 (after gate5 (after row5 (after cond5 X))))) (Proc.devRef .tc main_v84_4)
        = addi (after put5 (after cell5 (after gate5 (after row5 (after cond5 X)))) (Proc.devRef .tc main_v84_4)) (constantI S_ 32 1#32) := by
      after_results; rfl
    rw [h1, after_of_writes_sub put5 _ put5_writes (by decide), after_of_writes_sub cell5 _ cell5_writes (by decide),
      after_of_writes_sub gate5 _ gate5_writes (by decide), after_of_writes_sub row5 _ row5_writes (by decide),
      after_of_writes_sub cond5 _ cond5_writes (by decide), h0, Scf.iv_succ]
    rfl

set_option backward.isDefEq.respectTransparency.types false in
/-- The condition's specification. -/
theorem cond5_spec : CondSpec (pcfgs (F := F)) defs₀ loops (main_while5_cond (F := F)) cond5 bodyI5 (fun c => afterL pre5 (V c)) 20 := by
  intro k hk c bd
  have hctr := ctr5 V c k
  unfold main_while5_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip cond5 bodyI5 (fun c => afterL pre5 (V c)) k c) main_v84_4 HostLoop.idx0)
        (HloOp.result _ (atTrip cond5 bodyI5 (fun c => afterL pre5 (V c)) k c) main_while5c_c_29 HostLoop.idx0) = 1#1) (k < 20)
    rw [nullary_result_ne _ _ _ _ (by decide), nullary_result, hctr]
    exact Scf.cmpi_slt_iv_ub_iff (lb := 0#32) (ub := 20#32) (st := 1#32) (by decide) (show k ≤ Scf.trips 0#32 20#32 1#32 from hk)
  isplitl [Hb]; · iexact Hb
  rw [after_cons, after_cons, after_nil]; iexact Hh
end

/-- The loop as a phase. -/
noncomputable def phase5 : Phases.Phase (pcfgs (F := F)) defs₀ loops where
  pre := pre5
  hpre := .cons in5_sub (.cons cp5_sub (.nil))
  l := 5
  cond := main_while5_cond
  body := main_while5_body
  hloop := rfl
  condOps := cond5
  bodyI := bodyI5
  hbodyI := .cons row5_sub (.cons gate5_sub (.cons cell5_sub (.cons put5_sub (.cons next5_sub (.nil)))))
  hbody := body5_chain
  n := 20
  hcond := cond5_spec

end Cert.LstmRun

end
-- ==== Proof.LstmRef.lean ====
/-
  The bidirectional reference's result over the ideal values: each scan's carried pair is that direction's, so what
  the six leave is the bidirectional network's result.
-/
module

public import proofs.«01_k».proof.Proof.LstmRun
public import proofs.«01_k».proof.Proof.LstmTwo
public import Idealize.ShloMosaic.Lib.Pointwise
public import Idealize.ShloMosaic.Lib.ValueIdx
public import Idealize.ShloMosaic.Lib.DynamicIndex

@[expose] public section

set_option maxRecDepth 16384

noncomputable section

namespace Cert.LstmRun

open Cert.LstmReferenceIdeal Cert.LstmReferenceIdeal.Gen
open Idealize.ShloMosaic Idealize.ShloMosaic.StableHlo Idealize.ShloMosaic.TcCoe
open Cert.Proof.LstmSpec (Lane Half drow dgate dcell dout dstep dsteps dsteps_succ sides blayer bnet)

/-- A gate before its nonlinearity, from the step's input, the running output, their weights and the bias. -/
def gateOf (r : FVec Ideal S1024x64 .f32) (h : FVec Ideal S1024x32 .f32) (wi : FVec Ideal S128x64 .f32) (wh : FVec Ideal S128x32 .f32)
    (b : FVec Ideal S128 .f32) (n : Fin 1024) (j : Fin 128) : EReal :=
  (∑ k : Fin 64, r (ix2 n k) * wi (ix2 j k)) + (∑ k : Fin 32, h (ix2 n k) * wh (ix2 j k)) + b (ix1 j)

theorem gateOf_eq (wi : Fin 128 → Fin 64 → EReal) (wh : Fin 128 → Fin 32 → EReal) (b : Fin 128 → EReal) (x : Lane) (p : Half)
    (r : FVec Ideal S1024x64 .f32) (h : FVec Ideal S1024x32 .f32) (wi' : FVec Ideal S128x64 .f32) (wh' : FVec Ideal S128x32 .f32)
    (b' : FVec Ideal S128 .f32) (hr : ∀ n k, r (ix2 n k) = x n k) (hh : ∀ n u, h (ix2 n u) = p n u)
    (hi : ∀ j k, wi' (ix2 j k) = wi j k) (hw : ∀ j k, wh' (ix2 j k) = wh j k) (hb : ∀ j, b' (ix1 j) = b j) (n : Fin 1024) (j : Fin 128) :
    gateOf r h wi' wh' b' n j = dgate wi wh b (x n) (p n) j := by
  unfold gateOf dgate
  rw [hb]
  simp only [hr, hh, hi, hw]

/-- The arguments' entries as functions of their indices. -/
def wiOf (x : FVec Ideal S3x2x128x64 .f32) (l : Fin 3) (d : Fin 2) (j : Fin 128) (k : Fin 64) : EReal := x (ix4 l d j k)
def whOf (x : FVec Ideal S3x2x128x32 .f32) (l : Fin 3) (d : Fin 2) (j : Fin 128) (k : Fin 32) : EReal := x (ix4 l d j k)
def bsOf (x y : FVec Ideal S3x2x128 .f32) (l : Fin 3) (d : Fin 2) (j : Fin 128) : EReal := x (ix3 l d j) + y (ix3 l d j)
def aOf (x : FVec Ideal S20x1024x64 .f32) (t : Fin 20) : Lane := fun n u => x (ix3 t n u)

/-- The two directions' outputs side by side. -/
theorem sides_apply (S T : ℕ → Half × Half) (x y : FVec Ideal S20x1024x32 .f32)
    (hx : ∀ t : Fin 20, ∀ n u, x (ix3 t n u) = (S (t.val + 1)).1 n u) (hy : ∀ t : Fin 20, ∀ n u, y (ix3 t n u) = (T (t.val + 1)).1 n u)
    (t : Fin 20) (n : Fin 1024) (u : Fin 64) :
    (if h : u.val < 32 then x (ix3 t n ⟨u.val, h⟩) else y (ix3 t.rev n ⟨u.val - 32, by omega⟩)) = sides S T t n u := by
  unfold sides
  have e : t.rev.val + 1 = 20 - t.val := by rw [Fin.val_rev]; omega
  split
  · exact hx _ _ _
  · rw [hy, e]

theorem slices_row (k : Fin 20) : S20x1024x64.Slices ![k.val, 0, 0] S1x1024x64 :=
  ⟨rfl, fun a => by fin_cases a <;> simp <;> omega⟩

theorem slices_put (k : Fin 20) : S20x1024x32.Slices ![k.val, 0, 0] S1x1024x32 :=
  ⟨rfl, fun a => by fin_cases a <;> simp <;> omega⟩

theorem iv_toInt (k : Fin 20) : (Scf.iv 0#32 1#32 k.val).toInt = k.val := by
  have h : ∀ k : Fin 20, (Scf.iv 0#32 1#32 k.val).toInt = k.val := by decide +kernel
  exact h k

/-- A row read at a counted position. -/
theorem dyn_row (x : FVec Ideal S20x1024x64 .f32) (start : Fin 3 → Int) (h) (k : Fin 20) (hs : ∀ a, start a = (![k.val, 0, 0] a : ℕ))
    (n : Fin 1024) (j : Fin 64) : Host.dynamicSlice S1x1024x64 x start h (ix3 0 n j) = x (ix3 k n j) := by
  rw [Host.dynamicSlice_eq_extractStridedSlice S1x1024x64 x start ![k.val, 0, 0] h (slices_row k) hs]
  pointwise

/-- A row written at a counted position. -/
theorem dyn_put (x : FVec Ideal S20x1024x32 .f32) (upd : FVec Ideal S1x1024x32 .f32) (start : Fin 3 → Int) (h) (k : Fin 20)
    (hs : ∀ a, start a = (![k.val, 0, 0] a : ℕ)) (t : Fin 20) (n : Fin 1024) (u : Fin 32) :
    Host.dynamicUpdateSlice x upd start h (ix3 t n u) = if t = k then upd (ix3 0 n u) else x (ix3 t n u) := by
  rw [Host.dynamicUpdateSlice_eq_updateSlice x upd start h ![k.val, 0, 0] (fun a => by
    have := (slices_put k).2 a; rw [hs a]; omega) (slices_put k)]
  pointwise
  by_cases e : t = k
  · subst e
    rw [dif_pos ⟨le_rfl, Nat.lt_succ_self _⟩, if_pos rfl]
    exact congrArg upd (congrArg (fun a => ix3 a n u) (Subsingleton.elim _ _))
  · rw [dif_neg (fun q => e (Fin.ext (by omega))), if_neg e]

/-! ## The first scan -/

section
variable (X : Valuation τ sig (Elt Ideal))

theorem row0_apply (k : Fin 20) (hctr : X (Proc.devRef .tc main_v12_4) = fun _ => Scf.iv 0#32 1#32 k.val) (n : Fin 1024) (j : Fin 64) :
    after row0 X (Proc.devRef .tc main_while0b_v94) (ix2 n j) = X (Proc.devRef .tc main_v12_0) (ix3 k n j) := by
  after_results_simp_entrywise
  pointwise [hctr]
  refine dyn_row (X (Proc.devRef .tc main_v12_0)) _ sliceFits_S20x1024x64_S1x1024x64 k (fun a => ?_) n j
  fin_cases a
  · exact iv_toInt k
  · rfl
  · rfl

theorem gate0_i (n : Fin 1024) (u : Fin 32) :
    after gate0 X (Proc.devRef .tc main_while0b_v103) (ix2 n u) =
      gateOf (X (Proc.devRef .tc main_while0b_v94)) (X (Proc.devRef .tc main_v12_5)) (X (Proc.devRef .tc main_v12_1)) (X (Proc.devRef .tc main_v12_2))
        (X (Proc.devRef .tc main_v12_3)) n (drow 0 u) := by
  rw [show drow 0 u = ⟨u.val, by omega⟩ from Fin.ext (by simp [drow])]
  after_results_simp
  pointwise
  rfl

theorem gate0_f (n : Fin 1024) (u : Fin 32) :
    after gate0 X (Proc.devRef .tc main_while0b_v104) (ix2 n u) =
      gateOf (X (Proc.devRef .tc main_while0b_v94)) (X (Proc.devRef .tc main_v12_5)) (X (Proc.devRef .tc main_v12_1)) (X (Proc.devRef .tc main_v12_2))
        (X (Proc.devRef .tc main_v12_3)) n (drow 1 u) := by
  after_results_simp
  pointwise
  rfl

theorem gate0_g (n : Fin 1024) (u : Fin 32) :
    after gate0 X (Proc.devRef .tc main_while0b_v105) (ix2 n u) =
      gateOf (X (Proc.devRef .tc main_while0b_v94)) (X (Proc.devRef .tc main_v12_5)) (X (Proc.devRef .tc main_v12_1)) (X (Proc.devRef .tc main_v12_2))
        (X (Proc.devRef .tc main_v12_3)) n (drow 2 u) := by
  after_results_simp
  pointwise
  rfl

theorem gate0_o (n : Fin 1024) (u : Fin 32) :
    after gate0 X (Proc.devRef .tc main_while0b_v106) (ix2 n u) =
      gateOf (X (Proc.devRef .tc main_while0b_v94)) (X (Proc.devRef .tc main_v12_5)) (X (Proc.devRef .tc main_v12_1)) (X (Proc.devRef .tc main_v12_2))
        (X (Proc.devRef .tc main_v12_3)) n (drow 3 u) := by
  after_results_simp
  pointwise
  rfl

theorem cell0_c (n : Fin 1024) (u : Fin 32) :
    after cell0 X (Proc.devRef .tc main_while0b_v122) (ix2 n u) = Ideal.logistic (X (Proc.devRef .tc main_while0b_v104) (ix2 n u)) * X (Proc.devRef .tc main_v12_6) (ix2 n u)
      + Ideal.logistic (X (Proc.devRef .tc main_while0b_v103) (ix2 n u)) * Ideal.tanh (X (Proc.devRef .tc main_while0b_v105) (ix2 n u)) := by
  after_results_simp
  pointwise
  rfl

theorem cell0_h (n : Fin 1024) (u : Fin 32) :
    after cell0 X (Proc.devRef .tc main_while0b_v130) (ix2 n u) = Ideal.logistic (X (Proc.devRef .tc main_while0b_v106) (ix2 n u))
      * Ideal.tanh (after cell0 X (Proc.devRef .tc main_while0b_v122) (ix2 n u)) := by
  rw [cell0_c]
  after_results_simp
  pointwise
  rfl

theorem put0_apply (k : Fin 20) (hctr : X (Proc.devRef .tc main_v12_4) = fun _ => Scf.iv 0#32 1#32 k.val) (t : Fin 20) (n : Fin 1024) (u : Fin 32) :
    after put0 X (Proc.devRef .tc main_while0b_v131) (ix3 t n u)
      = if t = k then X (Proc.devRef .tc main_while0b_v130) (ix2 n u) else X (Proc.devRef .tc main_v12_7) (ix3 t n u) := by
  after_results_simp_entrywise
  pointwise [hctr]
  refine (dyn_put (X (Proc.devRef .tc main_v12_7)) _ _ updateFits_S20x1024x32_S1x1024x32 k (fun a => ?_) t n u).trans ?_
  · fin_cases a
    · exact iv_toInt k
    · rfl
    · rfl
  · split
    · rw [TRef.ofBuf_toBuf]
      pointwise
      rfl
    · rfl

/-- One trip of the loop's body. -/
theorem trip0 (wi : Fin 128 → Fin 64 → EReal) (wh : Fin 128 → Fin 32 → EReal) (b : Fin 128 → EReal) (x : Lane) (p : Half × Half) (k : Fin 20)
    (h4 : X (Proc.devRef .tc main_v12_4) = fun _ => Scf.iv 0#32 1#32 k.val)
    (h0 : ∀ n j, X (Proc.devRef .tc main_v12_0) (ix3 k n j) = x n j)
    (h1 : ∀ j q, X (Proc.devRef .tc main_v12_1) (ix2 j q) = wi j q) (h2 : ∀ j q, X (Proc.devRef .tc main_v12_2) (ix2 j q) = wh j q)
    (h3 : ∀ j, X (Proc.devRef .tc main_v12_3) (ix1 j) = b j)
    (h5 : ∀ n u, X (Proc.devRef .tc main_v12_5) (ix2 n u) = p.1 n u) (h6 : ∀ n u, X (Proc.devRef .tc main_v12_6) (ix2 n u) = p.2 n u) :
    (∀ n u, afterL bodyI0 X (Proc.devRef .tc main_v12_5) (ix2 n u) = (dstep wi wh b x p).1 n u)
      ∧ (∀ n u, afterL bodyI0 X (Proc.devRef .tc main_v12_6) (ix2 n u) = (dstep wi wh b x p).2 n u)
      ∧ ∀ t n u, afterL bodyI0 X (Proc.devRef .tc main_v12_7) (ix3 t n u)
          = if t = k then (dstep wi wh b x p).1 n u else X (Proc.devRef .tc main_v12_7) (ix3 t n u) := by
  have r : ∀ b' : Ref sig .tc, b' ∉ row0_W → after row0 X (Proc.devRef .tc b') = X (Proc.devRef .tc b') := fun b' h =>
    after_of_writes_sub row0 _ row0_writes h
  have g : ∀ n j, gateOf (after row0 X (Proc.devRef .tc main_while0b_v94)) (after row0 X (Proc.devRef .tc main_v12_5))
      (after row0 X (Proc.devRef .tc main_v12_1)) (after row0 X (Proc.devRef .tc main_v12_2)) (after row0 X (Proc.devRef .tc main_v12_3)) n j
        = dgate wi wh b (x n) (p.1 n) j := by
    refine gateOf_eq wi wh b x p.1 _ _ _ _ _ (fun n j => (row0_apply X k h4 n j).trans (h0 n j)) (fun n u => ?_) (fun j q => ?_) (fun j q => ?_) (fun j => ?_)
    · rw [r _ (by decide)]; exact h5 n u
    · rw [r _ (by decide)]; exact h1 j q
    · rw [r _ (by decide)]; exact h2 j q
    · rw [r _ (by decide)]; exact h3 j
  have cc : ∀ n u, after cell0 (after gate0 (after row0 X)) (Proc.devRef .tc main_while0b_v122) (ix2 n u) = (dstep wi wh b x p).2 n u := by
    intro n u
    rw [cell0_c, gate0_f, gate0_i, gate0_g, g, g, g, after_of_writes_sub gate0 _ gate0_writes (by decide), r _ (by decide), h6]
    rfl
  have ch : ∀ n u, after cell0 (after gate0 (after row0 X)) (Proc.devRef .tc main_while0b_v130) (ix2 n u) = (dstep wi wh b x p).1 n u := by
    intro n u
    rw [cell0_h, cc, gate0_o, g]
    rfl
  have n5 : ∀ Y : Valuation τ sig (Elt Ideal), after next0 Y (Proc.devRef .tc main_v12_5) = Y (Proc.devRef .tc main_while0b_v130) := by
    intro Y; after_results_simp; rfl
  have n6 : ∀ Y : Valuation τ sig (Elt Ideal), after next0 Y (Proc.devRef .tc main_v12_6) = Y (Proc.devRef .tc main_while0b_v122) := by
    intro Y; after_results_simp; rfl
  have n7 : ∀ Y : Valuation τ sig (Elt Ideal), after next0 Y (Proc.devRef .tc main_v12_7) = Y (Proc.devRef .tc main_while0b_v131) := by
    intro Y; after_results_simp; rfl
  simp only [afterL_cons, afterL_nil]
  refine ⟨fun n u => ?_, fun n u => ?_, fun t n u => ?_⟩
  · rw [n5, after_of_writes_sub put0 _ put0_writes (by decide)]; exact ch n u
  · rw [n6, after_of_writes_sub put0 _ put0_writes (by decide)]; exact cc n u
  · rw [n7, put0_apply _ k (by
      rw [after_of_writes_sub cell0 _ cell0_writes (by decide), after_of_writes_sub gate0 _ gate0_writes (by decide), r _ (by decide)]; exact h4), ch,
      after_of_writes_sub cell0 _ cell0_writes (by decide), after_of_writes_sub gate0 _ gate0_writes (by decide), r _ (by decide)]

/-- What a trip leaves alone. -/
theorem kept0 {b : Ref sig .tc} (hc : b ∉ cond0_W) (hr : b ∉ row0_W) (hg : b ∉ gate0_W) (he : b ∉ cell0_W)
    (hp : b ∉ put0_W) (hn : b ∉ next0_W)
    (E : Dev nD → Valuation τ sig (Elt Ideal)) (c : Dev nD) : ∀ k, atTrip cond0 bodyI0 E k c (Proc.devRef .tc b) = E c (Proc.devRef .tc b)
  | 0 => rfl
  | k + 1 => by
    show afterL bodyI0 (after cond0 (atTrip cond0 bodyI0 E k c)) (Proc.devRef .tc b) = _
    simp only [afterL_cons, afterL_nil]
    rw [after_of_writes_sub next0 _ next0_writes hn, after_of_writes_sub put0 _ put0_writes hp, after_of_writes_sub cell0 _ cell0_writes he,
      after_of_writes_sub gate0 _ gate0_writes hg, after_of_writes_sub row0 _ row0_writes hr, after_of_writes_sub cond0 _ cond0_writes hc]
    exact kept0 hc hr hg he hp hn E c k

/-- The carried pair after each trip is the direction's. -/
theorem trips0 (wi : Fin 128 → Fin 64 → EReal) (wh : Fin 128 → Fin 32 → EReal) (b : Fin 128 → EReal) (A : Fin 20 → Lane)
    (E : Dev nD → Valuation τ sig (Elt Ideal)) (c : Dev nD)
    (h4 : ∀ k, atTrip cond0 bodyI0 E k c (Proc.devRef .tc main_v12_4) = fun _ => Scf.iv 0#32 1#32 k)
    (h0 : ∀ t n j, E c (Proc.devRef .tc main_v12_0) (ix3 t n j) = A t n j)
    (h1 : ∀ j q, E c (Proc.devRef .tc main_v12_1) (ix2 j q) = wi j q) (h2 : ∀ j q, E c (Proc.devRef .tc main_v12_2) (ix2 j q) = wh j q)
    (h3 : ∀ j, E c (Proc.devRef .tc main_v12_3) (ix1 j) = b j)
    (h5 : ∀ n u, E c (Proc.devRef .tc main_v12_5) (ix2 n u) = (0 : EReal)) (h6 : ∀ n u, E c (Proc.devRef .tc main_v12_6) (ix2 n u) = (0 : EReal)) :
    ∀ k, k ≤ 20 → (∀ n u, atTrip cond0 bodyI0 E k c (Proc.devRef .tc main_v12_5) (ix2 n u) = (dsteps wi wh b A k).1 n u)
      ∧ (∀ n u, atTrip cond0 bodyI0 E k c (Proc.devRef .tc main_v12_6) (ix2 n u) = (dsteps wi wh b A k).2 n u)
      ∧ ∀ t : Fin 20, t.val < k → ∀ n u, atTrip cond0 bodyI0 E k c (Proc.devRef .tc main_v12_7) (ix3 t n u) = (dsteps wi wh b A (t.val + 1)).1 n u
  | 0, _ => ⟨h5, h6, fun _ q => absurd q (Nat.not_lt_zero _)⟩
  | k + 1, hk => by
    have hk' : k < 20 := hk
    obtain ⟨i5, i6, i7⟩ := trips0 wi wh b A E c h4 h0 h1 h2 h3 h5 h6 k hk'.le
    have s := dsteps_succ wi wh b A k hk'
    have z : ∀ b' : Ref sig .tc, b' ∉ cond0_W →
        after cond0 (atTrip cond0 bodyI0 E k c) (Proc.devRef .tc b') = atTrip cond0 bodyI0 E k c (Proc.devRef .tc b') := fun b' h => after_of_writes_sub cond0 _ cond0_writes h
    obtain ⟨j5, j6, j7⟩ := trip0 (after cond0 (atTrip cond0 bodyI0 E k c)) wi wh b (A ⟨k, hk'⟩) (dsteps wi wh b A k) ⟨k, hk'⟩
      (by rw [z _ (by decide)]; exact h4 k)
      (fun n j => by rw [z _ (by decide), kept0 (by decide) (by decide) (by decide) (by decide) (by decide) (by decide) E c k]; exact h0 _ n j)
      (fun j q => by rw [z _ (by decide), kept0 (by decide) (by decide) (by decide) (by decide) (by decide) (by decide) E c k]; exact h1 j q)
      (fun j q => by rw [z _ (by decide), kept0 (by decide) (by decide) (by decide) (by decide) (by decide) (by decide) E c k]; exact h2 j q)
      (fun j => by rw [z _ (by decide), kept0 (by decide) (by decide) (by decide) (by decide) (by decide) (by decide) E c k]; exact h3 j)
      (fun n u => by rw [z _ (by decide)]; exact i5 n u) (fun n u => by rw [z _ (by decide)]; exact i6 n u)
    rw [s]
    refine ⟨j5, j6, fun t ht n u => (j7 t n u).trans ?_⟩
    by_cases e : t = ⟨k, hk'⟩
    · subst e
      rw [if_pos rfl, s]
    · rw [if_neg e, z _ (by decide)]
      exact i7 t (lt_of_le_of_ne (Nat.lt_succ_iff.mp ht) (fun q => e (Fin.ext q))) n u

theorem in0_wi (j : Fin 128) (q : Fin 64) : after in0 X (Proc.devRef .tc main_v1) (ix2 j q) = wiOf (X (Proc.devRef .tc main_arg1)) 0 0 j q := by
  after_results_simp
  pointwise
  rfl

theorem in0_wh (j : Fin 128) (q : Fin 32) : after in0 X (Proc.devRef .tc main_v3) (ix2 j q) = whOf (X (Proc.devRef .tc main_arg2)) 0 0 j q := by
  after_results_simp
  pointwise
  rfl

theorem in0_b (j : Fin 128) : after in0 X (Proc.devRef .tc main_v8) (ix1 j) = bsOf (X (Proc.devRef .tc main_arg3)) (X (Proc.devRef .tc main_arg4)) 0 0 j := by
  after_results_simp
  pointwise
  rfl

theorem in0_h (n : Fin 1024) (u : Fin 32) : after in0 X (Proc.devRef .tc main_v9) (ix2 n u) = (0 : EReal) := by
  after_results_simp
  pointwise

theorem in0_c (n : Fin 1024) (u : Fin 32) : after in0 X (Proc.devRef .tc main_v10) (ix2 n u) = (0 : EReal) := by
  after_results_simp
  pointwise

theorem in0_x (t : Fin 20) (n : Fin 1024) (u : Fin 64) : after in0 X (Proc.devRef .tc main_arg0) (ix3 t n u) = X (Proc.devRef .tc main_arg0) (ix3 t n u) := by
  rw [after_of_writes_sub in0 _ in0_writes (by decide)]

/-- What the loop starts from. -/
theorem start0 : after cp0 X (Proc.devRef .tc main_v12_0) = X (Proc.devRef .tc main_arg0) ∧ after cp0 X (Proc.devRef .tc main_v12_1) = X (Proc.devRef .tc main_v1)
    ∧ after cp0 X (Proc.devRef .tc main_v12_2) = X (Proc.devRef .tc main_v3) ∧ after cp0 X (Proc.devRef .tc main_v12_3) = X (Proc.devRef .tc main_v8)
    ∧ after cp0 X (Proc.devRef .tc main_v12_5) = X (Proc.devRef .tc main_v9) ∧ after cp0 X (Proc.devRef .tc main_v12_6) = X (Proc.devRef .tc main_v10) := by
  refine ⟨?_, ?_, ?_, ?_, ?_, ?_⟩ <;> (after_results_simp; rfl)

end

section
variable (V : Dev nD → Valuation τ sig (Elt Ideal)) (c : Dev nD)

/-- The outputs the loop leaves are those of the direction's steps. -/
theorem out0 (A : Fin 20 → Lane) (hA : ∀ t n u, V c (Proc.devRef .tc main_arg0) (ix3 t n u) = A t n u) (t : Fin 20) (n : Fin 1024) (u : Fin 32) :
    phase0.out V c (Proc.devRef .tc main_v12_7) (ix3 t n u)
      = (dsteps (wiOf (V c (Proc.devRef .tc main_arg1)) 0 0) (whOf (V c (Proc.devRef .tc main_arg2)) 0 0)
          (bsOf (V c (Proc.devRef .tc main_arg3)) (V c (Proc.devRef .tc main_arg4)) 0 0) A (t.val + 1)).1 n u := by
  show after cond0 (atTrip cond0 bodyI0 (fun c => afterL pre0 (V c)) 20 c) (Proc.devRef .tc main_v12_7) (ix3 t n u) = _
  rw [after_of_writes_sub cond0 _ cond0_writes (by decide)]
  obtain ⟨s0, s1, s2, s3, s5, s6⟩ := start0 (after in0 (V c))
  refine (trips0 _ _ _ A (fun c => afterL pre0 (V c)) c (ctr0 V c) (fun t n j => ?_) (fun j q => ?_) (fun j q => ?_) (fun j => ?_) (fun n u => ?_) (fun n u => ?_) 20 le_rfl).2.2 t t.isLt n u
  · exact (congrFun s0 (ix3 t n j)).trans ((in0_x _ t n j).trans (hA _ n j))
  · refine (congrFun s1 (ix2 j q)).trans ((in0_wi _ j q).trans ?_)
    rfl
  · refine (congrFun s2 (ix2 j q)).trans ((in0_wh _ j q).trans ?_)
    rfl
  · refine (congrFun s3 (ix1 j)).trans ((in0_b _ j).trans ?_)
    rfl
  · exact (congrFun s5 (ix2 n u)).trans (in0_h _ n u)
  · exact (congrFun s6 (ix2 n u)).trans (in0_c _ n u)

/-- What the scan and what is before it leave alone. -/
theorem hold0 {b : Ref sig .tc} (k0 : b ∉ in0_W) (k1 : b ∉ cp0_W) (hc : b ∉ cond0_W) (hr : b ∉ row0_W) (hg : b ∉ gate0_W) (he : b ∉ cell0_W)
    (hp : b ∉ put0_W) (hn : b ∉ next0_W) : phase0.out V c (Proc.devRef .tc b) = V c (Proc.devRef .tc b) := by
  refine (after_of_writes_sub cond0 (atTrip cond0 bodyI0 (fun c => afterL pre0 (V c)) 20 c) cond0_writes hc).trans
    ((kept0 hc hr hg he hp hn _ c 20).trans ?_)
  simp only [afterL_cons, afterL_nil]
  rw [after_of_writes_sub cp0 _ cp0_writes k1, after_of_writes_sub in0 _ in0_writes k0]

end

/-! ## The second scan -/

section
variable (X : Valuation τ sig (Elt Ideal))

theorem row1_apply (k : Fin 20) (hctr : X (Proc.devRef .tc main_v26_4) = fun _ => Scf.iv 0#32 1#32 k.val) (n : Fin 1024) (j : Fin 64) :
    after row1 X (Proc.devRef .tc main_while1b_v94) (ix2 n j) = X (Proc.devRef .tc main_v26_0) (ix3 k n j) := by
  after_results_simp_entrywise
  pointwise [hctr]
  refine dyn_row (X (Proc.devRef .tc main_v26_0)) _ sliceFits_S20x1024x64_S1x1024x64 k (fun a => ?_) n j
  fin_cases a
  · exact iv_toInt k
  · rfl
  · rfl

theorem gate1_i (n : Fin 1024) (u : Fin 32) :
    after gate1 X (Proc.devRef .tc main_while1b_v103) (ix2 n u) =
      gateOf (X (Proc.devRef .tc main_while1b_v94)) (X (Proc.devRef .tc main_v26_5)) (X (Proc.devRef .tc main_v26_1)) (X (Proc.devRef .tc main_v26_2))
        (X (Proc.devRef .tc main_v26_3)) n (drow 0 u) := by
  rw [show drow 0 u = ⟨u.val, by omega⟩ from Fin.ext (by simp [drow])]
  after_results_simp
  pointwise
  rfl

theorem gate1_f (n : Fin 1024) (u : Fin 32) :
    after gate1 X (Proc.devRef .tc main_while1b_v104) (ix2 n u) =
      gateOf (X (Proc.devRef .tc main_while1b_v94)) (X (Proc.devRef .tc main_v26_5)) (X (Proc.devRef .tc main_v26_1)) (X (Proc.devRef .tc main_v26_2))
        (X (Proc.devRef .tc main_v26_3)) n (drow 1 u) := by
  after_results_simp
  pointwise
  rfl

theorem gate1_g (n : Fin 1024) (u : Fin 32) :
    after gate1 X (Proc.devRef .tc main_while1b_v105) (ix2 n u) =
      gateOf (X (Proc.devRef .tc main_while1b_v94)) (X (Proc.devRef .tc main_v26_5)) (X (Proc.devRef .tc main_v26_1)) (X (Proc.devRef .tc main_v26_2))
        (X (Proc.devRef .tc main_v26_3)) n (drow 2 u) := by
  after_results_simp
  pointwise
  rfl

theorem gate1_o (n : Fin 1024) (u : Fin 32) :
    after gate1 X (Proc.devRef .tc main_while1b_v106) (ix2 n u) =
      gateOf (X (Proc.devRef .tc main_while1b_v94)) (X (Proc.devRef .tc main_v26_5)) (X (Proc.devRef .tc main_v26_1)) (X (Proc.devRef .tc main_v26_2))
        (X (Proc.devRef .tc main_v26_3)) n (drow 3 u) := by
  after_results_simp
  pointwise
  rfl

theorem cell1_c (n : Fin 1024) (u : Fin 32) :
    after cell1 X (Proc.devRef .tc main_while1b_v122) (ix2 n u) = Ideal.logistic (X (Proc.devRef .tc main_while1b_v104) (ix2 n u)) * X (Proc.devRef .tc main_v26_6) (ix2 n u)
      + Ideal.logistic (X (Proc.devRef .tc main_while1b_v103) (ix2 n u)) * Ideal.tanh (X (Proc.devRef .tc main_while1b_v105) (ix2 n u)) := by
  after_results_simp
  pointwise
  rfl

theorem cell1_h (n : Fin 1024) (u : Fin 32) :
    after cell1 X (Proc.devRef .tc main_while1b_v130) (ix2 n u) = Ideal.logistic (X (Proc.devRef .tc main_while1b_v106) (ix2 n u))
      * Ideal.tanh (after cell1 X (Proc.devRef .tc main_while1b_v122) (ix2 n u)) := by
  rw [cell1_c]
  after_results_simp
  pointwise
  rfl

theorem put1_apply (k : Fin 20) (hctr : X (Proc.devRef .tc main_v26_4) = fun _ => Scf.iv 0#32 1#32 k.val) (t : Fin 20) (n : Fin 1024) (u : Fin 32) :
    after put1 X (Proc.devRef .tc main_while1b_v131) (ix3 t n u)
      = if t = k then X (Proc.devRef .tc main_while1b_v130) (ix2 n u) else X (Proc.devRef .tc main_v26_7) (ix3 t n u) := by
  after_results_simp_entrywise
  pointwise [hctr]
  refine (dyn_put (X (Proc.devRef .tc main_v26_7)) _ _ updateFits_S20x1024x32_S1x1024x32 k (fun a => ?_) t n u).trans ?_
  · fin_cases a
    · exact iv_toInt k
    · rfl
    · rfl
  · split
    · rw [TRef.ofBuf_toBuf]
      pointwise
      rfl
    · rfl

/-- One trip of the loop's body. -/
theorem trip1 (wi : Fin 128 → Fin 64 → EReal) (wh : Fin 128 → Fin 32 → EReal) (b : Fin 128 → EReal) (x : Lane) (p : Half × Half) (k : Fin 20)
    (h4 : X (Proc.devRef .tc main_v26_4) = fun _ => Scf.iv 0#32 1#32 k.val)
    (h0 : ∀ n j, X (Proc.devRef .tc main_v26_0) (ix3 k n j) = x n j)
    (h1 : ∀ j q, X (Proc.devRef .tc main_v26_1) (ix2 j q) = wi j q) (h2 : ∀ j q, X (Proc.devRef .tc main_v26_2) (ix2 j q) = wh j q)
    (h3 : ∀ j, X (Proc.devRef .tc main_v26_3) (ix1 j) = b j)
    (h5 : ∀ n u, X (Proc.devRef .tc main_v26_5) (ix2 n u) = p.1 n u) (h6 : ∀ n u, X (Proc.devRef .tc main_v26_6) (ix2 n u) = p.2 n u) :
    (∀ n u, afterL bodyI1 X (Proc.devRef .tc main_v26_5) (ix2 n u) = (dstep wi wh b x p).1 n u)
      ∧ (∀ n u, afterL bodyI1 X (Proc.devRef .tc main_v26_6) (ix2 n u) = (dstep wi wh b x p).2 n u)
      ∧ ∀ t n u, afterL bodyI1 X (Proc.devRef .tc main_v26_7) (ix3 t n u)
          = if t = k then (dstep wi wh b x p).1 n u else X (Proc.devRef .tc main_v26_7) (ix3 t n u) := by
  have r : ∀ b' : Ref sig .tc, b' ∉ row1_W → after row1 X (Proc.devRef .tc b') = X (Proc.devRef .tc b') := fun b' h =>
    after_of_writes_sub row1 _ row1_writes h
  have g : ∀ n j, gateOf (after row1 X (Proc.devRef .tc main_while1b_v94)) (after row1 X (Proc.devRef .tc main_v26_5))
      (after row1 X (Proc.devRef .tc main_v26_1)) (after row1 X (Proc.devRef .tc main_v26_2)) (after row1 X (Proc.devRef .tc main_v26_3)) n j
        = dgate wi wh b (x n) (p.1 n) j := by
    refine gateOf_eq wi wh b x p.1 _ _ _ _ _ (fun n j => (row1_apply X k h4 n j).trans (h0 n j)) (fun n u => ?_) (fun j q => ?_) (fun j q => ?_) (fun j => ?_)
    · rw [r _ (by decide)]; exact h5 n u
    · rw [r _ (by decide)]; exact h1 j q
    · rw [r _ (by decide)]; exact h2 j q
    · rw [r _ (by decide)]; exact h3 j
  have cc : ∀ n u, after cell1 (after gate1 (after row1 X)) (Proc.devRef .tc main_while1b_v122) (ix2 n u) = (dstep wi wh b x p).2 n u := by
    intro n u
    rw [cell1_c, gate1_f, gate1_i, gate1_g, g, g, g, after_of_writes_sub gate1 _ gate1_writes (by decide), r _ (by decide), h6]
    rfl
  have ch : ∀ n u, after cell1 (after gate1 (after row1 X)) (Proc.devRef .tc main_while1b_v130) (ix2 n u) = (dstep wi wh b x p).1 n u := by
    intro n u
    rw [cell1_h, cc, gate1_o, g]
    rfl
  have n5 : ∀ Y : Valuation τ sig (Elt Ideal), after next1 Y (Proc.devRef .tc main_v26_5) = Y (Proc.devRef .tc main_while1b_v130) := by
    intro Y; after_results_simp; rfl
  have n6 : ∀ Y : Valuation τ sig (Elt Ideal), after next1 Y (Proc.devRef .tc main_v26_6) = Y (Proc.devRef .tc main_while1b_v122) := by
    intro Y; after_results_simp; rfl
  have n7 : ∀ Y : Valuation τ sig (Elt Ideal), after next1 Y (Proc.devRef .tc main_v26_7) = Y (Proc.devRef .tc main_while1b_v131) := by
    intro Y; after_results_simp; rfl
  simp only [afterL_cons, afterL_nil]
  refine ⟨fun n u => ?_, fun n u => ?_, fun t n u => ?_⟩
  · rw [n5, after_of_writes_sub put1 _ put1_writes (by decide)]; exact ch n u
  · rw [n6, after_of_writes_sub put1 _ put1_writes (by decide)]; exact cc n u
  · rw [n7, put1_apply _ k (by
      rw [after_of_writes_sub cell1 _ cell1_writes (by decide), after_of_writes_sub gate1 _ gate1_writes (by decide), r _ (by decide)]; exact h4), ch,
      after_of_writes_sub cell1 _ cell1_writes (by decide), after_of_writes_sub gate1 _ gate1_writes (by decide), r _ (by decide)]

/-- What a trip leaves alone. -/
theorem kept1 {b : Ref sig .tc} (hc : b ∉ cond1_W) (hr : b ∉ row1_W) (hg : b ∉ gate1_W) (he : b ∉ cell1_W)
    (hp : b ∉ put1_W) (hn : b ∉ next1_W)
    (E : Dev nD → Valuation τ sig (Elt Ideal)) (c : Dev nD) : ∀ k, atTrip cond1 bodyI1 E k c (Proc.devRef .tc b) = E c (Proc.devRef .tc b)
  | 0 => rfl
  | k + 1 => by
    show afterL bodyI1 (after cond1 (atTrip cond1 bodyI1 E k c)) (Proc.devRef .tc b) = _
    simp only [afterL_cons, afterL_nil]
    rw [after_of_writes_sub next1 _ next1_writes hn, after_of_writes_sub put1 _ put1_writes hp, after_of_writes_sub cell1 _ cell1_writes he,
      after_of_writes_sub gate1 _ gate1_writes hg, after_of_writes_sub row1 _ row1_writes hr, after_of_writes_sub cond1 _ cond1_writes hc]
    exact kept1 hc hr hg he hp hn E c k

/-- The carried pair after each trip is the direction's. -/
theorem trips1 (wi : Fin 128 → Fin 64 → EReal) (wh : Fin 128 → Fin 32 → EReal) (b : Fin 128 → EReal) (A : Fin 20 → Lane)
    (E : Dev nD → Valuation τ sig (Elt Ideal)) (c : Dev nD)
    (h4 : ∀ k, atTrip cond1 bodyI1 E k c (Proc.devRef .tc main_v26_4) = fun _ => Scf.iv 0#32 1#32 k)
    (h0 : ∀ t n j, E c (Proc.devRef .tc main_v26_0) (ix3 t n j) = A t n j)
    (h1 : ∀ j q, E c (Proc.devRef .tc main_v26_1) (ix2 j q) = wi j q) (h2 : ∀ j q, E c (Proc.devRef .tc main_v26_2) (ix2 j q) = wh j q)
    (h3 : ∀ j, E c (Proc.devRef .tc main_v26_3) (ix1 j) = b j)
    (h5 : ∀ n u, E c (Proc.devRef .tc main_v26_5) (ix2 n u) = (0 : EReal)) (h6 : ∀ n u, E c (Proc.devRef .tc main_v26_6) (ix2 n u) = (0 : EReal)) :
    ∀ k, k ≤ 20 → (∀ n u, atTrip cond1 bodyI1 E k c (Proc.devRef .tc main_v26_5) (ix2 n u) = (dsteps wi wh b A k).1 n u)
      ∧ (∀ n u, atTrip cond1 bodyI1 E k c (Proc.devRef .tc main_v26_6) (ix2 n u) = (dsteps wi wh b A k).2 n u)
      ∧ ∀ t : Fin 20, t.val < k → ∀ n u, atTrip cond1 bodyI1 E k c (Proc.devRef .tc main_v26_7) (ix3 t n u) = (dsteps wi wh b A (t.val + 1)).1 n u
  | 0, _ => ⟨h5, h6, fun _ q => absurd q (Nat.not_lt_zero _)⟩
  | k + 1, hk => by
    have hk' : k < 20 := hk
    obtain ⟨i5, i6, i7⟩ := trips1 wi wh b A E c h4 h0 h1 h2 h3 h5 h6 k hk'.le
    have s := dsteps_succ wi wh b A k hk'
    have z : ∀ b' : Ref sig .tc, b' ∉ cond1_W →
        after cond1 (atTrip cond1 bodyI1 E k c) (Proc.devRef .tc b') = atTrip cond1 bodyI1 E k c (Proc.devRef .tc b') := fun b' h => after_of_writes_sub cond1 _ cond1_writes h
    obtain ⟨j5, j6, j7⟩ := trip1 (after cond1 (atTrip cond1 bodyI1 E k c)) wi wh b (A ⟨k, hk'⟩) (dsteps wi wh b A k) ⟨k, hk'⟩
      (by rw [z _ (by decide)]; exact h4 k)
      (fun n j => by rw [z _ (by decide), kept1 (by decide) (by decide) (by decide) (by decide) (by decide) (by decide) E c k]; exact h0 _ n j)
      (fun j q => by rw [z _ (by decide), kept1 (by decide) (by decide) (by decide) (by decide) (by decide) (by decide) E c k]; exact h1 j q)
      (fun j q => by rw [z _ (by decide), kept1 (by decide) (by decide) (by decide) (by decide) (by decide) (by decide) E c k]; exact h2 j q)
      (fun j => by rw [z _ (by decide), kept1 (by decide) (by decide) (by decide) (by decide) (by decide) (by decide) E c k]; exact h3 j)
      (fun n u => by rw [z _ (by decide)]; exact i5 n u) (fun n u => by rw [z _ (by decide)]; exact i6 n u)
    rw [s]
    refine ⟨j5, j6, fun t ht n u => (j7 t n u).trans ?_⟩
    by_cases e : t = ⟨k, hk'⟩
    · subst e
      rw [if_pos rfl, s]
    · rw [if_neg e, z _ (by decide)]
      exact i7 t (lt_of_le_of_ne (Nat.lt_succ_iff.mp ht) (fun q => e (Fin.ext q))) n u

theorem in1_wi (j : Fin 128) (q : Fin 64) : after in1 X (Proc.devRef .tc main_v15) (ix2 j q) = wiOf (X (Proc.devRef .tc main_arg1)) 0 1 j q := by
  after_results_simp
  pointwise
  rfl

theorem in1_wh (j : Fin 128) (q : Fin 32) : after in1 X (Proc.devRef .tc main_v17) (ix2 j q) = whOf (X (Proc.devRef .tc main_arg2)) 0 1 j q := by
  after_results_simp
  pointwise
  rfl

theorem in1_b (j : Fin 128) : after in1 X (Proc.devRef .tc main_v22) (ix1 j) = bsOf (X (Proc.devRef .tc main_arg3)) (X (Proc.devRef .tc main_arg4)) 0 1 j := by
  after_results_simp
  pointwise
  rfl

theorem in1_h (n : Fin 1024) (u : Fin 32) : after in1 X (Proc.devRef .tc main_v23) (ix2 n u) = (0 : EReal) := by
  after_results_simp
  pointwise

theorem in1_c (n : Fin 1024) (u : Fin 32) : after in1 X (Proc.devRef .tc main_v24) (ix2 n u) = (0 : EReal) := by
  after_results_simp
  pointwise

theorem in1_x (t : Fin 20) (n : Fin 1024) (u : Fin 64) : after in1 X (Proc.devRef .tc main_v13) (ix3 t n u) = X (Proc.devRef .tc main_arg0) (ix3 t.rev n u) := by
  after_results_simp
  pointwise
  rfl

/-- What the loop starts from. -/
theorem start1 : after cp1 X (Proc.devRef .tc main_v26_0) = X (Proc.devRef .tc main_v13) ∧ after cp1 X (Proc.devRef .tc main_v26_1) = X (Proc.devRef .tc main_v15)
    ∧ after cp1 X (Proc.devRef .tc main_v26_2) = X (Proc.devRef .tc main_v17) ∧ after cp1 X (Proc.devRef .tc main_v26_3) = X (Proc.devRef .tc main_v22)
    ∧ after cp1 X (Proc.devRef .tc main_v26_5) = X (Proc.devRef .tc main_v23) ∧ after cp1 X (Proc.devRef .tc main_v26_6) = X (Proc.devRef .tc main_v24) := by
  refine ⟨?_, ?_, ?_, ?_, ?_, ?_⟩ <;> (after_results_simp; rfl)

end

section
variable (V : Dev nD → Valuation τ sig (Elt Ideal)) (c : Dev nD)

/-- The outputs the loop leaves are those of the direction's steps. -/
theorem out1 (A : Fin 20 → Lane) (hA : ∀ t n u, V c (Proc.devRef .tc main_arg0) (ix3 t n u) = A t n u) (t : Fin 20) (n : Fin 1024) (u : Fin 32) :
    phase1.out V c (Proc.devRef .tc main_v26_7) (ix3 t n u)
      = (dsteps (wiOf (V c (Proc.devRef .tc main_arg1)) 0 1) (whOf (V c (Proc.devRef .tc main_arg2)) 0 1)
          (bsOf (V c (Proc.devRef .tc main_arg3)) (V c (Proc.devRef .tc main_arg4)) 0 1) (fun t => A t.rev) (t.val + 1)).1 n u := by
  show after cond1 (atTrip cond1 bodyI1 (fun c => afterL pre1 (V c)) 20 c) (Proc.devRef .tc main_v26_7) (ix3 t n u) = _
  rw [after_of_writes_sub cond1 _ cond1_writes (by decide)]
  obtain ⟨s0, s1, s2, s3, s5, s6⟩ := start1 (after in1 (V c))
  refine (trips1 _ _ _ (fun t => A t.rev) (fun c => afterL pre1 (V c)) c (ctr1 V c) (fun t n j => ?_) (fun j q => ?_) (fun j q => ?_) (fun j => ?_) (fun n u => ?_) (fun n u => ?_) 20 le_rfl).2.2 t t.isLt n u
  · exact (congrFun s0 (ix3 t n j)).trans ((in1_x _ t n j).trans (hA _ n j))
  · refine (congrFun s1 (ix2 j q)).trans ((in1_wi _ j q).trans ?_)
    rfl
  · refine (congrFun s2 (ix2 j q)).trans ((in1_wh _ j q).trans ?_)
    rfl
  · refine (congrFun s3 (ix1 j)).trans ((in1_b _ j).trans ?_)
    rfl
  · exact (congrFun s5 (ix2 n u)).trans (in1_h _ n u)
  · exact (congrFun s6 (ix2 n u)).trans (in1_c _ n u)

/-- What the scan and what is before it leave alone. -/
theorem hold1 {b : Ref sig .tc} (k0 : b ∉ in1_W) (k1 : b ∉ cp1_W) (hc : b ∉ cond1_W) (hr : b ∉ row1_W) (hg : b ∉ gate1_W) (he : b ∉ cell1_W)
    (hp : b ∉ put1_W) (hn : b ∉ next1_W) : phase1.out V c (Proc.devRef .tc b) = V c (Proc.devRef .tc b) := by
  refine (after_of_writes_sub cond1 (atTrip cond1 bodyI1 (fun c => afterL pre1 (V c)) 20 c) cond1_writes hc).trans
    ((kept1 hc hr hg he hp hn _ c 20).trans ?_)
  simp only [afterL_cons, afterL_nil]
  rw [after_of_writes_sub cp1 _ cp1_writes k1, after_of_writes_sub in1 _ in1_writes k0]

end

/-! ## The third scan -/

section
variable (X : Valuation τ sig (Elt Ideal))

theorem row2_apply (k : Fin 20) (hctr : X (Proc.devRef .tc main_v41_4) = fun _ => Scf.iv 0#32 1#32 k.val) (n : Fin 1024) (j : Fin 64) :
    after row2 X (Proc.devRef .tc main_while2b_v94) (ix2 n j) = X (Proc.devRef .tc main_v41_0) (ix3 k n j) := by
  after_results_simp_entrywise
  pointwise [hctr]
  refine dyn_row (X (Proc.devRef .tc main_v41_0)) _ sliceFits_S20x1024x64_S1x1024x64 k (fun a => ?_) n j
  fin_cases a
  · exact iv_toInt k
  · rfl
  · rfl

theorem gate2_i (n : Fin 1024) (u : Fin 32) :
    after gate2 X (Proc.devRef .tc main_while2b_v103) (ix2 n u) =
      gateOf (X (Proc.devRef .tc main_while2b_v94)) (X (Proc.devRef .tc main_v41_5)) (X (Proc.devRef .tc main_v41_1)) (X (Proc.devRef .tc main_v41_2))
        (X (Proc.devRef .tc main_v41_3)) n (drow 0 u) := by
  rw [show drow 0 u = ⟨u.val, by omega⟩ from Fin.ext (by simp [drow])]
  after_results_simp
  pointwise
  rfl

theorem gate2_f (n : Fin 1024) (u : Fin 32) :
    after gate2 X (Proc.devRef .tc main_while2b_v104) (ix2 n u) =
      gateOf (X (Proc.devRef .tc main_while2b_v94)) (X (Proc.devRef .tc main_v41_5)) (X (Proc.devRef .tc main_v41_1)) (X (Proc.devRef .tc main_v41_2))
        (X (Proc.devRef .tc main_v41_3)) n (drow 1 u) := by
  after_results_simp
  pointwise
  rfl

theorem gate2_g (n : Fin 1024) (u : Fin 32) :
    after gate2 X (Proc.devRef .tc main_while2b_v105) (ix2 n u) =
      gateOf (X (Proc.devRef .tc main_while2b_v94)) (X (Proc.devRef .tc main_v41_5)) (X (Proc.devRef .tc main_v41_1)) (X (Proc.devRef .tc main_v41_2))
        (X (Proc.devRef .tc main_v41_3)) n (drow 2 u) := by
  after_results_simp
  pointwise
  rfl

theorem gate2_o (n : Fin 1024) (u : Fin 32) :
    after gate2 X (Proc.devRef .tc main_while2b_v106) (ix2 n u) =
      gateOf (X (Proc.devRef .tc main_while2b_v94)) (X (Proc.devRef .tc main_v41_5)) (X (Proc.devRef .tc main_v41_1)) (X (Proc.devRef .tc main_v41_2))
        (X (Proc.devRef .tc main_v41_3)) n (drow 3 u) := by
  after_results_simp
  pointwise
  rfl

theorem cell2_c (n : Fin 1024) (u : Fin 32) :
    after cell2 X (Proc.devRef .tc main_while2b_v122) (ix2 n u) = Ideal.logistic (X (Proc.devRef .tc main_while2b_v104) (ix2 n u)) * X (Proc.devRef .tc main_v41_6) (ix2 n u)
      + Ideal.logistic (X (Proc.devRef .tc main_while2b_v103) (ix2 n u)) * Ideal.tanh (X (Proc.devRef .tc main_while2b_v105) (ix2 n u)) := by
  after_results_simp
  pointwise
  rfl

theorem cell2_h (n : Fin 1024) (u : Fin 32) :
    after cell2 X (Proc.devRef .tc main_while2b_v130) (ix2 n u) = Ideal.logistic (X (Proc.devRef .tc main_while2b_v106) (ix2 n u))
      * Ideal.tanh (after cell2 X (Proc.devRef .tc main_while2b_v122) (ix2 n u)) := by
  rw [cell2_c]
  after_results_simp
  pointwise
  rfl

theorem put2_apply (k : Fin 20) (hctr : X (Proc.devRef .tc main_v41_4) = fun _ => Scf.iv 0#32 1#32 k.val) (t : Fin 20) (n : Fin 1024) (u : Fin 32) :
    after put2 X (Proc.devRef .tc main_while2b_v131) (ix3 t n u)
      = if t = k then X (Proc.devRef .tc main_while2b_v130) (ix2 n u) else X (Proc.devRef .tc main_v41_7) (ix3 t n u) := by
  after_results_simp_entrywise
  pointwise [hctr]
  refine (dyn_put (X (Proc.devRef .tc main_v41_7)) _ _ updateFits_S20x1024x32_S1x1024x32 k (fun a => ?_) t n u).trans ?_
  · fin_cases a
    · exact iv_toInt k
    · rfl
    · rfl
  · split
    · rw [TRef.ofBuf_toBuf]
      pointwise
      rfl
    · rfl

/-- One trip of the loop's body. -/
theorem trip2 (wi : Fin 128 → Fin 64 → EReal) (wh : Fin 128 → Fin 32 → EReal) (b : Fin 128 → EReal) (x : Lane) (p : Half × Half) (k : Fin 20)
    (h4 : X (Proc.devRef .tc main_v41_4) = fun _ => Scf.iv 0#32 1#32 k.val)
    (h0 : ∀ n j, X (Proc.devRef .tc main_v41_0) (ix3 k n j) = x n j)
    (h1 : ∀ j q, X (Proc.devRef .tc main_v41_1) (ix2 j q) = wi j q) (h2 : ∀ j q, X (Proc.devRef .tc main_v41_2) (ix2 j q) = wh j q)
    (h3 : ∀ j, X (Proc.devRef .tc main_v41_3) (ix1 j) = b j)
    (h5 : ∀ n u, X (Proc.devRef .tc main_v41_5) (ix2 n u) = p.1 n u) (h6 : ∀ n u, X (Proc.devRef .tc main_v41_6) (ix2 n u) = p.2 n u) :
    (∀ n u, afterL bodyI2 X (Proc.devRef .tc main_v41_5) (ix2 n u) = (dstep wi wh b x p).1 n u)
      ∧ (∀ n u, afterL bodyI2 X (Proc.devRef .tc main_v41_6) (ix2 n u) = (dstep wi wh b x p).2 n u)
      ∧ ∀ t n u, afterL bodyI2 X (Proc.devRef .tc main_v41_7) (ix3 t n u)
          = if t = k then (dstep wi wh b x p).1 n u else X (Proc.devRef .tc main_v41_7) (ix3 t n u) := by
  have r : ∀ b' : Ref sig .tc, b' ∉ row2_W → after row2 X (Proc.devRef .tc b') = X (Proc.devRef .tc b') := fun b' h =>
    after_of_writes_sub row2 _ row2_writes h
  have g : ∀ n j, gateOf (after row2 X (Proc.devRef .tc main_while2b_v94)) (after row2 X (Proc.devRef .tc main_v41_5))
      (after row2 X (Proc.devRef .tc main_v41_1)) (after row2 X (Proc.devRef .tc main_v41_2)) (after row2 X (Proc.devRef .tc main_v41_3)) n j
        = dgate wi wh b (x n) (p.1 n) j := by
    refine gateOf_eq wi wh b x p.1 _ _ _ _ _ (fun n j => (row2_apply X k h4 n j).trans (h0 n j)) (fun n u => ?_) (fun j q => ?_) (fun j q => ?_) (fun j => ?_)
    · rw [r _ (by decide)]; exact h5 n u
    · rw [r _ (by decide)]; exact h1 j q
    · rw [r _ (by decide)]; exact h2 j q
    · rw [r _ (by decide)]; exact h3 j
  have cc : ∀ n u, after cell2 (after gate2 (after row2 X)) (Proc.devRef .tc main_while2b_v122) (ix2 n u) = (dstep wi wh b x p).2 n u := by
    intro n u
    rw [cell2_c, gate2_f, gate2_i, gate2_g, g, g, g, after_of_writes_sub gate2 _ gate2_writes (by decide), r _ (by decide), h6]
    rfl
  have ch : ∀ n u, after cell2 (after gate2 (after row2 X)) (Proc.devRef .tc main_while2b_v130) (ix2 n u) = (dstep wi wh b x p).1 n u := by
    intro n u
    rw [cell2_h, cc, gate2_o, g]
    rfl
  have n5 : ∀ Y : Valuation τ sig (Elt Ideal), after next2 Y (Proc.devRef .tc main_v41_5) = Y (Proc.devRef .tc main_while2b_v130) := by
    intro Y; after_results_simp; rfl
  have n6 : ∀ Y : Valuation τ sig (Elt Ideal), after next2 Y (Proc.devRef .tc main_v41_6) = Y (Proc.devRef .tc main_while2b_v122) := by
    intro Y; after_results_simp; rfl
  have n7 : ∀ Y : Valuation τ sig (Elt Ideal), after next2 Y (Proc.devRef .tc main_v41_7) = Y (Proc.devRef .tc main_while2b_v131) := by
    intro Y; after_results_simp; rfl
  simp only [afterL_cons, afterL_nil]
  refine ⟨fun n u => ?_, fun n u => ?_, fun t n u => ?_⟩
  · rw [n5, after_of_writes_sub put2 _ put2_writes (by decide)]; exact ch n u
  · rw [n6, after_of_writes_sub put2 _ put2_writes (by decide)]; exact cc n u
  · rw [n7, put2_apply _ k (by
      rw [after_of_writes_sub cell2 _ cell2_writes (by decide), after_of_writes_sub gate2 _ gate2_writes (by decide), r _ (by decide)]; exact h4), ch,
      after_of_writes_sub cell2 _ cell2_writes (by decide), after_of_writes_sub gate2 _ gate2_writes (by decide), r _ (by decide)]

/-- What a trip leaves alone. -/
theorem kept2 {b : Ref sig .tc} (hc : b ∉ cond2_W) (hr : b ∉ row2_W) (hg : b ∉ gate2_W) (he : b ∉ cell2_W)
    (hp : b ∉ put2_W) (hn : b ∉ next2_W)
    (E : Dev nD → Valuation τ sig (Elt Ideal)) (c : Dev nD) : ∀ k, atTrip cond2 bodyI2 E k c (Proc.devRef .tc b) = E c (Proc.devRef .tc b)
  | 0 => rfl
  | k + 1 => by
    show afterL bodyI2 (after cond2 (atTrip cond2 bodyI2 E k c)) (Proc.devRef .tc b) = _
    simp only [afterL_cons, afterL_nil]
    rw [after_of_writes_sub next2 _ next2_writes hn, after_of_writes_sub put2 _ put2_writes hp, after_of_writes_sub cell2 _ cell2_writes he,
      after_of_writes_sub gate2 _ gate2_writes hg, after_of_writes_sub row2 _ row2_writes hr, after_of_writes_sub cond2 _ cond2_writes hc]
    exact kept2 hc hr hg he hp hn E c k

/-- The carried pair after each trip is the direction's. -/
theorem trips2 (wi : Fin 128 → Fin 64 → EReal) (wh : Fin 128 → Fin 32 → EReal) (b : Fin 128 → EReal) (A : Fin 20 → Lane)
    (E : Dev nD → Valuation τ sig (Elt Ideal)) (c : Dev nD)
    (h4 : ∀ k, atTrip cond2 bodyI2 E k c (Proc.devRef .tc main_v41_4) = fun _ => Scf.iv 0#32 1#32 k)
    (h0 : ∀ t n j, E c (Proc.devRef .tc main_v41_0) (ix3 t n j) = A t n j)
    (h1 : ∀ j q, E c (Proc.devRef .tc main_v41_1) (ix2 j q) = wi j q) (h2 : ∀ j q, E c (Proc.devRef .tc main_v41_2) (ix2 j q) = wh j q)
    (h3 : ∀ j, E c (Proc.devRef .tc main_v41_3) (ix1 j) = b j)
    (h5 : ∀ n u, E c (Proc.devRef .tc main_v41_5) (ix2 n u) = (0 : EReal)) (h6 : ∀ n u, E c (Proc.devRef .tc main_v41_6) (ix2 n u) = (0 : EReal)) :
    ∀ k, k ≤ 20 → (∀ n u, atTrip cond2 bodyI2 E k c (Proc.devRef .tc main_v41_5) (ix2 n u) = (dsteps wi wh b A k).1 n u)
      ∧ (∀ n u, atTrip cond2 bodyI2 E k c (Proc.devRef .tc main_v41_6) (ix2 n u) = (dsteps wi wh b A k).2 n u)
      ∧ ∀ t : Fin 20, t.val < k → ∀ n u, atTrip cond2 bodyI2 E k c (Proc.devRef .tc main_v41_7) (ix3 t n u) = (dsteps wi wh b A (t.val + 1)).1 n u
  | 0, _ => ⟨h5, h6, fun _ q => absurd q (Nat.not_lt_zero _)⟩
  | k + 1, hk => by
    have hk' : k < 20 := hk
    obtain ⟨i5, i6, i7⟩ := trips2 wi wh b A E c h4 h0 h1 h2 h3 h5 h6 k hk'.le
    have s := dsteps_succ wi wh b A k hk'
    have z : ∀ b' : Ref sig .tc, b' ∉ cond2_W →
        after cond2 (atTrip cond2 bodyI2 E k c) (Proc.devRef .tc b') = atTrip cond2 bodyI2 E k c (Proc.devRef .tc b') := fun b' h => after_of_writes_sub cond2 _ cond2_writes h
    obtain ⟨j5, j6, j7⟩ := trip2 (after cond2 (atTrip cond2 bodyI2 E k c)) wi wh b (A ⟨k, hk'⟩) (dsteps wi wh b A k) ⟨k, hk'⟩
      (by rw [z _ (by decide)]; exact h4 k)
      (fun n j => by rw [z _ (by decide), kept2 (by decide) (by decide) (by decide) (by decide) (by decide) (by decide) E c k]; exact h0 _ n j)
      (fun j q => by rw [z _ (by decide), kept2 (by decide) (by decide) (by decide) (by decide) (by decide) (by decide) E c k]; exact h1 j q)
      (fun j q => by rw [z _ (by decide), kept2 (by decide) (by decide) (by decide) (by decide) (by decide) (by decide) E c k]; exact h2 j q)
      (fun j => by rw [z _ (by decide), kept2 (by decide) (by decide) (by decide) (by decide) (by decide) (by decide) E c k]; exact h3 j)
      (fun n u => by rw [z _ (by decide)]; exact i5 n u) (fun n u => by rw [z _ (by decide)]; exact i6 n u)
    rw [s]
    refine ⟨j5, j6, fun t ht n u => (j7 t n u).trans ?_⟩
    by_cases e : t = ⟨k, hk'⟩
    · subst e
      rw [if_pos rfl, s]
    · rw [if_neg e, z _ (by decide)]
      exact i7 t (lt_of_le_of_ne (Nat.lt_succ_iff.mp ht) (fun q => e (Fin.ext q))) n u

theorem in2_wi (j : Fin 128) (q : Fin 64) : after in2b (after in2a X) (Proc.devRef .tc main_v30) (ix2 j q) = wiOf (X (Proc.devRef .tc main_arg1)) 1 0 j q := by
  after_results_simp
  pointwise
  rfl

theorem in2_wh (j : Fin 128) (q : Fin 32) : after in2b (after in2a X) (Proc.devRef .tc main_v32) (ix2 j q) = whOf (X (Proc.devRef .tc main_arg2)) 1 0 j q := by
  after_results_simp
  pointwise
  rfl

theorem in2_b (j : Fin 128) : after in2b (after in2a X) (Proc.devRef .tc main_v37) (ix1 j) = bsOf (X (Proc.devRef .tc main_arg3)) (X (Proc.devRef .tc main_arg4)) 1 0 j := by
  after_results_simp
  pointwise
  rfl

theorem in2_h (n : Fin 1024) (u : Fin 32) : after in2b (after in2a X) (Proc.devRef .tc main_v38) (ix2 n u) = (0 : EReal) := by
  after_results_simp
  pointwise

theorem in2_c (n : Fin 1024) (u : Fin 32) : after in2b (after in2a X) (Proc.devRef .tc main_v39) (ix2 n u) = (0 : EReal) := by
  after_results_simp
  pointwise

theorem in2_x (t : Fin 20) (n : Fin 1024) (u : Fin 64) : after in2b (after in2a X) (Proc.devRef .tc main_v28) (ix3 t n u) = X (Proc.devRef .tc main_v28) (ix3 t n u) := by
  rw [after_of_writes_sub in2b _ in2b_writes (by decide), after_of_writes_sub in2a _ in2a_writes (by decide)]

/-- What the loop starts from. -/
theorem start2 : after cp2 X (Proc.devRef .tc main_v41_0) = X (Proc.devRef .tc main_v28) ∧ after cp2 X (Proc.devRef .tc main_v41_1) = X (Proc.devRef .tc main_v30)
    ∧ after cp2 X (Proc.devRef .tc main_v41_2) = X (Proc.devRef .tc main_v32) ∧ after cp2 X (Proc.devRef .tc main_v41_3) = X (Proc.devRef .tc main_v37)
    ∧ after cp2 X (Proc.devRef .tc main_v41_5) = X (Proc.devRef .tc main_v38) ∧ after cp2 X (Proc.devRef .tc main_v41_6) = X (Proc.devRef .tc main_v39) := by
  refine ⟨?_, ?_, ?_, ?_, ?_, ?_⟩ <;> (after_results_simp; rfl)

end

section
variable (V : Dev nD → Valuation τ sig (Elt Ideal)) (c : Dev nD)

/-- The outputs the loop leaves are those of the direction's steps. -/
theorem out2 (A : Fin 20 → Lane) (hA : ∀ t n u, after join2 (V c) (Proc.devRef .tc main_v28) (ix3 t n u) = A t n u) (t : Fin 20) (n : Fin 1024) (u : Fin 32) :
    phase2.out V c (Proc.devRef .tc main_v41_7) (ix3 t n u)
      = (dsteps (wiOf (V c (Proc.devRef .tc main_arg1)) 1 0) (whOf (V c (Proc.devRef .tc main_arg2)) 1 0)
          (bsOf (V c (Proc.devRef .tc main_arg3)) (V c (Proc.devRef .tc main_arg4)) 1 0) A (t.val + 1)).1 n u := by
  show after cond2 (atTrip cond2 bodyI2 (fun c => afterL pre2 (V c)) 20 c) (Proc.devRef .tc main_v41_7) (ix3 t n u) = _
  rw [after_of_writes_sub cond2 _ cond2_writes (by decide)]
  obtain ⟨s0, s1, s2, s3, s5, s6⟩ := start2 (after in2b (after in2a (after join2 (V c))))
  refine (trips2 _ _ _ A (fun c => afterL pre2 (V c)) c (ctr2 V c) (fun t n j => ?_) (fun j q => ?_) (fun j q => ?_) (fun j => ?_) (fun n u => ?_) (fun n u => ?_) 20 le_rfl).2.2 t t.isLt n u
  · exact (congrFun s0 (ix3 t n j)).trans ((in2_x _ t n j).trans (hA _ n j))
  · refine (congrFun s1 (ix2 j q)).trans ((in2_wi _ j q).trans ?_)
    rw [after_of_writes_sub join2 _ join2_writes (by decide)]
  · refine (congrFun s2 (ix2 j q)).trans ((in2_wh _ j q).trans ?_)
    rw [after_of_writes_sub join2 _ join2_writes (by decide)]
  · refine (congrFun s3 (ix1 j)).trans ((in2_b _ j).trans ?_)
    rw [after_of_writes_sub join2 _ join2_writes (by decide), after_of_writes_sub join2 _ join2_writes (by decide)]
  · exact (congrFun s5 (ix2 n u)).trans (in2_h _ n u)
  · exact (congrFun s6 (ix2 n u)).trans (in2_c _ n u)

/-- What the scan and what is before it leave alone. -/
theorem hold2 {b : Ref sig .tc} (k0 : b ∉ in2a_W) (k1 : b ∉ in2b_W) (k2 : b ∉ cp2_W) (hc : b ∉ cond2_W) (hr : b ∉ row2_W) (hg : b ∉ gate2_W) (he : b ∉ cell2_W)
    (hp : b ∉ put2_W) (hn : b ∉ next2_W) : phase2.out V c (Proc.devRef .tc b) = after join2 (V c) (Proc.devRef .tc b) := by
  refine (after_of_writes_sub cond2 (atTrip cond2 bodyI2 (fun c => afterL pre2 (V c)) 20 c) cond2_writes hc).trans
    ((kept2 hc hr hg he hp hn _ c 20).trans ?_)
  simp only [afterL_cons, afterL_nil]
  rw [after_of_writes_sub cp2 _ cp2_writes k2, after_of_writes_sub in2b _ in2b_writes k1, after_of_writes_sub in2a _ in2a_writes k0]

end

/-! ## The fourth scan -/

section
variable (X : Valuation τ sig (Elt Ideal))

theorem row3_apply (k : Fin 20) (hctr : X (Proc.devRef .tc main_v55_4) = fun _ => Scf.iv 0#32 1#32 k.val) (n : Fin 1024) (j : Fin 64) :
    after row3 X (Proc.devRef .tc main_while3b_v94) (ix2 n j) = X (Proc.devRef .tc main_v55_0) (ix3 k n j) := by
  after_results_simp_entrywise
  pointwise [hctr]
  refine dyn_row (X (Proc.devRef .tc main_v55_0)) _ sliceFits_S20x1024x64_S1x1024x64 k (fun a => ?_) n j
  fin_cases a
  · exact iv_toInt k
  · rfl
  · rfl

theorem gate3_i (n : Fin 1024) (u : Fin 32) :
    after gate3 X (Proc.devRef .tc main_while3b_v103) (ix2 n u) =
      gateOf (X (Proc.devRef .tc main_while3b_v94)) (X (Proc.devRef .tc main_v55_5)) (X (Proc.devRef .tc main_v55_1)) (X (Proc.devRef .tc main_v55_2))
        (X (Proc.devRef .tc main_v55_3)) n (drow 0 u) := by
  rw [show drow 0 u = ⟨u.val, by omega⟩ from Fin.ext (by simp [drow])]
  after_results_simp
  pointwise
  rfl

theorem gate3_f (n : Fin 1024) (u : Fin 32) :
    after gate3 X (Proc.devRef .tc main_while3b_v104) (ix2 n u) =
      gateOf (X (Proc.devRef .tc main_while3b_v94)) (X (Proc.devRef .tc main_v55_5)) (X (Proc.devRef .tc main_v55_1)) (X (Proc.devRef .tc main_v55_2))
        (X (Proc.devRef .tc main_v55_3)) n (drow 1 u) := by
  after_results_simp
  pointwise
  rfl

theorem gate3_g (n : Fin 1024) (u : Fin 32) :
    after gate3 X (Proc.devRef .tc main_while3b_v105) (ix2 n u) =
      gateOf (X (Proc.devRef .tc main_while3b_v94)) (X (Proc.devRef .tc main_v55_5)) (X (Proc.devRef .tc main_v55_1)) (X (Proc.devRef .tc main_v55_2))
        (X (Proc.devRef .tc main_v55_3)) n (drow 2 u) := by
  after_results_simp
  pointwise
  rfl

theorem gate3_o (n : Fin 1024) (u : Fin 32) :
    after gate3 X (Proc.devRef .tc main_while3b_v106) (ix2 n u) =
      gateOf (X (Proc.devRef .tc main_while3b_v94)) (X (Proc.devRef .tc main_v55_5)) (X (Proc.devRef .tc main_v55_1)) (X (Proc.devRef .tc main_v55_2))
        (X (Proc.devRef .tc main_v55_3)) n (drow 3 u) := by
  after_results_simp
  pointwise
  rfl

theorem cell3_c (n : Fin 1024) (u : Fin 32) :
    after cell3 X (Proc.devRef .tc main_while3b_v122) (ix2 n u) = Ideal.logistic (X (Proc.devRef .tc main_while3b_v104) (ix2 n u)) * X (Proc.devRef .tc main_v55_6) (ix2 n u)
      + Ideal.logistic (X (Proc.devRef .tc main_while3b_v103) (ix2 n u)) * Ideal.tanh (X (Proc.devRef .tc main_while3b_v105) (ix2 n u)) := by
  after_results_simp
  pointwise
  rfl

theorem cell3_h (n : Fin 1024) (u : Fin 32) :
    after cell3 X (Proc.devRef .tc main_while3b_v130) (ix2 n u) = Ideal.logistic (X (Proc.devRef .tc main_while3b_v106) (ix2 n u))
      * Ideal.tanh (after cell3 X (Proc.devRef .tc main_while3b_v122) (ix2 n u)) := by
  rw [cell3_c]
  after_results_simp
  pointwise
  rfl

theorem put3_apply (k : Fin 20) (hctr : X (Proc.devRef .tc main_v55_4) = fun _ => Scf.iv 0#32 1#32 k.val) (t : Fin 20) (n : Fin 1024) (u : Fin 32) :
    after put3 X (Proc.devRef .tc main_while3b_v131) (ix3 t n u)
      = if t = k then X (Proc.devRef .tc main_while3b_v130) (ix2 n u) else X (Proc.devRef .tc main_v55_7) (ix3 t n u) := by
  after_results_simp_entrywise
  pointwise [hctr]
  refine (dyn_put (X (Proc.devRef .tc main_v55_7)) _ _ updateFits_S20x1024x32_S1x1024x32 k (fun a => ?_) t n u).trans ?_
  · fin_cases a
    · exact iv_toInt k
    · rfl
    · rfl
  · split
    · rw [TRef.ofBuf_toBuf]
      pointwise
      rfl
    · rfl

/-- One trip of the loop's body. -/
theorem trip3 (wi : Fin 128 → Fin 64 → EReal) (wh : Fin 128 → Fin 32 → EReal) (b : Fin 128 → EReal) (x : Lane) (p : Half × Half) (k : Fin 20)
    (h4 : X (Proc.devRef .tc main_v55_4) = fun _ => Scf.iv 0#32 1#32 k.val)
    (h0 : ∀ n j, X (Proc.devRef .tc main_v55_0) (ix3 k n j) = x n j)
    (h1 : ∀ j q, X (Proc.devRef .tc main_v55_1) (ix2 j q) = wi j q) (h2 : ∀ j q, X (Proc.devRef .tc main_v55_2) (ix2 j q) = wh j q)
    (h3 : ∀ j, X (Proc.devRef .tc main_v55_3) (ix1 j) = b j)
    (h5 : ∀ n u, X (Proc.devRef .tc main_v55_5) (ix2 n u) = p.1 n u) (h6 : ∀ n u, X (Proc.devRef .tc main_v55_6) (ix2 n u) = p.2 n u) :
    (∀ n u, afterL bodyI3 X (Proc.devRef .tc main_v55_5) (ix2 n u) = (dstep wi wh b x p).1 n u)
      ∧ (∀ n u, afterL bodyI3 X (Proc.devRef .tc main_v55_6) (ix2 n u) = (dstep wi wh b x p).2 n u)
      ∧ ∀ t n u, afterL bodyI3 X (Proc.devRef .tc main_v55_7) (ix3 t n u)
          = if t = k then (dstep wi wh b x p).1 n u else X (Proc.devRef .tc main_v55_7) (ix3 t n u) := by
  have r : ∀ b' : Ref sig .tc, b' ∉ row3_W → after row3 X (Proc.devRef .tc b') = X (Proc.devRef .tc b') := fun b' h =>
    after_of_writes_sub row3 _ row3_writes h
  have g : ∀ n j, gateOf (after row3 X (Proc.devRef .tc main_while3b_v94)) (after row3 X (Proc.devRef .tc main_v55_5))
      (after row3 X (Proc.devRef .tc main_v55_1)) (after row3 X (Proc.devRef .tc main_v55_2)) (after row3 X (Proc.devRef .tc main_v55_3)) n j
        = dgate wi wh b (x n) (p.1 n) j := by
    refine gateOf_eq wi wh b x p.1 _ _ _ _ _ (fun n j => (row3_apply X k h4 n j).trans (h0 n j)) (fun n u => ?_) (fun j q => ?_) (fun j q => ?_) (fun j => ?_)
    · rw [r _ (by decide)]; exact h5 n u
    · rw [r _ (by decide)]; exact h1 j q
    · rw [r _ (by decide)]; exact h2 j q
    · rw [r _ (by decide)]; exact h3 j
  have cc : ∀ n u, after cell3 (after gate3 (after row3 X)) (Proc.devRef .tc main_while3b_v122) (ix2 n u) = (dstep wi wh b x p).2 n u := by
    intro n u
    rw [cell3_c, gate3_f, gate3_i, gate3_g, g, g, g, after_of_writes_sub gate3 _ gate3_writes (by decide), r _ (by decide), h6]
    rfl
  have ch : ∀ n u, after cell3 (after gate3 (after row3 X)) (Proc.devRef .tc main_while3b_v130) (ix2 n u) = (dstep wi wh b x p).1 n u := by
    intro n u
    rw [cell3_h, cc, gate3_o, g]
    rfl
  have n5 : ∀ Y : Valuation τ sig (Elt Ideal), after next3 Y (Proc.devRef .tc main_v55_5) = Y (Proc.devRef .tc main_while3b_v130) := by
    intro Y; after_results_simp; rfl
  have n6 : ∀ Y : Valuation τ sig (Elt Ideal), after next3 Y (Proc.devRef .tc main_v55_6) = Y (Proc.devRef .tc main_while3b_v122) := by
    intro Y; after_results_simp; rfl
  have n7 : ∀ Y : Valuation τ sig (Elt Ideal), after next3 Y (Proc.devRef .tc main_v55_7) = Y (Proc.devRef .tc main_while3b_v131) := by
    intro Y; after_results_simp; rfl
  simp only [afterL_cons, afterL_nil]
  refine ⟨fun n u => ?_, fun n u => ?_, fun t n u => ?_⟩
  · rw [n5, after_of_writes_sub put3 _ put3_writes (by decide)]; exact ch n u
  · rw [n6, after_of_writes_sub put3 _ put3_writes (by decide)]; exact cc n u
  · rw [n7, put3_apply _ k (by
      rw [after_of_writes_sub cell3 _ cell3_writes (by decide), after_of_writes_sub gate3 _ gate3_writes (by decide), r _ (by decide)]; exact h4), ch,
      after_of_writes_sub cell3 _ cell3_writes (by decide), after_of_writes_sub gate3 _ gate3_writes (by decide), r _ (by decide)]

/-- What a trip leaves alone. -/
theorem kept3 {b : Ref sig .tc} (hc : b ∉ cond3_W) (hr : b ∉ row3_W) (hg : b ∉ gate3_W) (he : b ∉ cell3_W)
    (hp : b ∉ put3_W) (hn : b ∉ next3_W)
    (E : Dev nD → Valuation τ sig (Elt Ideal)) (c : Dev nD) : ∀ k, atTrip cond3 bodyI3 E k c (Proc.devRef .tc b) = E c (Proc.devRef .tc b)
  | 0 => rfl
  | k + 1 => by
    show afterL bodyI3 (after cond3 (atTrip cond3 bodyI3 E k c)) (Proc.devRef .tc b) = _
    simp only [afterL_cons, afterL_nil]
    rw [after_of_writes_sub next3 _ next3_writes hn, after_of_writes_sub put3 _ put3_writes hp, after_of_writes_sub cell3 _ cell3_writes he,
      after_of_writes_sub gate3 _ gate3_writes hg, after_of_writes_sub row3 _ row3_writes hr, after_of_writes_sub cond3 _ cond3_writes hc]
    exact kept3 hc hr hg he hp hn E c k

/-- The carried pair after each trip is the direction's. -/
theorem trips3 (wi : Fin 128 → Fin 64 → EReal) (wh : Fin 128 → Fin 32 → EReal) (b : Fin 128 → EReal) (A : Fin 20 → Lane)
    (E : Dev nD → Valuation τ sig (Elt Ideal)) (c : Dev nD)
    (h4 : ∀ k, atTrip cond3 bodyI3 E k c (Proc.devRef .tc main_v55_4) = fun _ => Scf.iv 0#32 1#32 k)
    (h0 : ∀ t n j, E c (Proc.devRef .tc main_v55_0) (ix3 t n j) = A t n j)
    (h1 : ∀ j q, E c (Proc.devRef .tc main_v55_1) (ix2 j q) = wi j q) (h2 : ∀ j q, E c (Proc.devRef .tc main_v55_2) (ix2 j q) = wh j q)
    (h3 : ∀ j, E c (Proc.devRef .tc main_v55_3) (ix1 j) = b j)
    (h5 : ∀ n u, E c (Proc.devRef .tc main_v55_5) (ix2 n u) = (0 : EReal)) (h6 : ∀ n u, E c (Proc.devRef .tc main_v55_6) (ix2 n u) = (0 : EReal)) :
    ∀ k, k ≤ 20 → (∀ n u, atTrip cond3 bodyI3 E k c (Proc.devRef .tc main_v55_5) (ix2 n u) = (dsteps wi wh b A k).1 n u)
      ∧ (∀ n u, atTrip cond3 bodyI3 E k c (Proc.devRef .tc main_v55_6) (ix2 n u) = (dsteps wi wh b A k).2 n u)
      ∧ ∀ t : Fin 20, t.val < k → ∀ n u, atTrip cond3 bodyI3 E k c (Proc.devRef .tc main_v55_7) (ix3 t n u) = (dsteps wi wh b A (t.val + 1)).1 n u
  | 0, _ => ⟨h5, h6, fun _ q => absurd q (Nat.not_lt_zero _)⟩
  | k + 1, hk => by
    have hk' : k < 20 := hk
    obtain ⟨i5, i6, i7⟩ := trips3 wi wh b A E c h4 h0 h1 h2 h3 h5 h6 k hk'.le
    have s := dsteps_succ wi wh b A k hk'
    have z : ∀ b' : Ref sig .tc, b' ∉ cond3_W →
        after cond3 (atTrip cond3 bodyI3 E k c) (Proc.devRef .tc b') = atTrip cond3 bodyI3 E k c (Proc.devRef .tc b') := fun b' h => after_of_writes_sub cond3 _ cond3_writes h
    obtain ⟨j5, j6, j7⟩ := trip3 (after cond3 (atTrip cond3 bodyI3 E k c)) wi wh b (A ⟨k, hk'⟩) (dsteps wi wh b A k) ⟨k, hk'⟩
      (by rw [z _ (by decide)]; exact h4 k)
      (fun n j => by rw [z _ (by decide), kept3 (by decide) (by decide) (by decide) (by decide) (by decide) (by decide) E c k]; exact h0 _ n j)
      (fun j q => by rw [z _ (by decide), kept3 (by decide) (by decide) (by decide) (by decide) (by decide) (by decide) E c k]; exact h1 j q)
      (fun j q => by rw [z _ (by decide), kept3 (by decide) (by decide) (by decide) (by decide) (by decide) (by decide) E c k]; exact h2 j q)
      (fun j => by rw [z _ (by decide), kept3 (by decide) (by decide) (by decide) (by decide) (by decide) (by decide) E c k]; exact h3 j)
      (fun n u => by rw [z _ (by decide)]; exact i5 n u) (fun n u => by rw [z _ (by decide)]; exact i6 n u)
    rw [s]
    refine ⟨j5, j6, fun t ht n u => (j7 t n u).trans ?_⟩
    by_cases e : t = ⟨k, hk'⟩
    · subst e
      rw [if_pos rfl, s]
    · rw [if_neg e, z _ (by decide)]
      exact i7 t (lt_of_le_of_ne (Nat.lt_succ_iff.mp ht) (fun q => e (Fin.ext q))) n u

theorem in3_wi (j : Fin 128) (q : Fin 64) : after in3 X (Proc.devRef .tc main_v44) (ix2 j q) = wiOf (X (Proc.devRef .tc main_arg1)) 1 1 j q := by
  after_results_simp
  pointwise
  rfl

theorem in3_wh (j : Fin 128) (q : Fin 32) : after in3 X (Proc.devRef .tc main_v46) (ix2 j q) = whOf (X (Proc.devRef .tc main_arg2)) 1 1 j q := by
  after_results_simp
  pointwise
  rfl

theorem in3_b (j : Fin 128) : after in3 X (Proc.devRef .tc main_v51) (ix1 j) = bsOf (X (Proc.devRef .tc main_arg3)) (X (Proc.devRef .tc main_arg4)) 1 1 j := by
  after_results_simp
  pointwise
  rfl

theorem in3_h (n : Fin 1024) (u : Fin 32) : after in3 X (Proc.devRef .tc main_v52) (ix2 n u) = (0 : EReal) := by
  after_results_simp
  pointwise

theorem in3_c (n : Fin 1024) (u : Fin 32) : after in3 X (Proc.devRef .tc main_v53) (ix2 n u) = (0 : EReal) := by
  after_results_simp
  pointwise

theorem in3_x (t : Fin 20) (n : Fin 1024) (u : Fin 64) : after in3 X (Proc.devRef .tc main_v42) (ix3 t n u) = X (Proc.devRef .tc main_v28) (ix3 t.rev n u) := by
  after_results_simp
  pointwise
  rfl

/-- What the loop starts from. -/
theorem start3 : after cp3 X (Proc.devRef .tc main_v55_0) = X (Proc.devRef .tc main_v42) ∧ after cp3 X (Proc.devRef .tc main_v55_1) = X (Proc.devRef .tc main_v44)
    ∧ after cp3 X (Proc.devRef .tc main_v55_2) = X (Proc.devRef .tc main_v46) ∧ after cp3 X (Proc.devRef .tc main_v55_3) = X (Proc.devRef .tc main_v51)
    ∧ after cp3 X (Proc.devRef .tc main_v55_5) = X (Proc.devRef .tc main_v52) ∧ after cp3 X (Proc.devRef .tc main_v55_6) = X (Proc.devRef .tc main_v53) := by
  refine ⟨?_, ?_, ?_, ?_, ?_, ?_⟩ <;> (after_results_simp; rfl)

end

section
variable (V : Dev nD → Valuation τ sig (Elt Ideal)) (c : Dev nD)

/-- The outputs the loop leaves are those of the direction's steps. -/
theorem out3 (A : Fin 20 → Lane) (hA : ∀ t n u, V c (Proc.devRef .tc main_v28) (ix3 t n u) = A t n u) (t : Fin 20) (n : Fin 1024) (u : Fin 32) :
    phase3.out V c (Proc.devRef .tc main_v55_7) (ix3 t n u)
      = (dsteps (wiOf (V c (Proc.devRef .tc main_arg1)) 1 1) (whOf (V c (Proc.devRef .tc main_arg2)) 1 1)
          (bsOf (V c (Proc.devRef .tc main_arg3)) (V c (Proc.devRef .tc main_arg4)) 1 1) (fun t => A t.rev) (t.val + 1)).1 n u := by
  show after cond3 (atTrip cond3 bodyI3 (fun c => afterL pre3 (V c)) 20 c) (Proc.devRef .tc main_v55_7) (ix3 t n u) = _
  rw [after_of_writes_sub cond3 _ cond3_writes (by decide)]
  obtain ⟨s0, s1, s2, s3, s5, s6⟩ := start3 (after in3 (V c))
  refine (trips3 _ _ _ (fun t => A t.rev) (fun c => afterL pre3 (V c)) c (ctr3 V c) (fun t n j => ?_) (fun j q => ?_) (fun j q => ?_) (fun j => ?_) (fun n u => ?_) (fun n u => ?_) 20 le_rfl).2.2 t t.isLt n u
  · exact (congrFun s0 (ix3 t n j)).trans ((in3_x _ t n j).trans (hA _ n j))
  · refine (congrFun s1 (ix2 j q)).trans ((in3_wi _ j q).trans ?_)
    rfl
  · refine (congrFun s2 (ix2 j q)).trans ((in3_wh _ j q).trans ?_)
    rfl
  · refine (congrFun s3 (ix1 j)).trans ((in3_b _ j).trans ?_)
    rfl
  · exact (congrFun s5 (ix2 n u)).trans (in3_h _ n u)
  · exact (congrFun s6 (ix2 n u)).trans (in3_c _ n u)

/-- What the scan and what is before it leave alone. -/
theorem hold3 {b : Ref sig .tc} (k0 : b ∉ in3_W) (k1 : b ∉ cp3_W) (hc : b ∉ cond3_W) (hr : b ∉ row3_W) (hg : b ∉ gate3_W) (he : b ∉ cell3_W)
    (hp : b ∉ put3_W) (hn : b ∉ next3_W) : phase3.out V c (Proc.devRef .tc b) = V c (Proc.devRef .tc b) := by
  refine (after_of_writes_sub cond3 (atTrip cond3 bodyI3 (fun c => afterL pre3 (V c)) 20 c) cond3_writes hc).trans
    ((kept3 hc hr hg he hp hn _ c 20).trans ?_)
  simp only [afterL_cons, afterL_nil]
  rw [after_of_writes_sub cp3 _ cp3_writes k1, after_of_writes_sub in3 _ in3_writes k0]

end

/-! ## The fifth scan -/

section
variable (X : Valuation τ sig (Elt Ideal))

theorem row4_apply (k : Fin 20) (hctr : X (Proc.devRef .tc main_v70_4) = fun _ => Scf.iv 0#32 1#32 k.val) (n : Fin 1024) (j : Fin 64) :
    after row4 X (Proc.devRef .tc main_while4b_v94) (ix2 n j) = X (Proc.devRef .tc main_v70_0) (ix3 k n j) := by
  after_results_simp_entrywise
  pointwise [hctr]
  refine dyn_row (X (Proc.devRef .tc main_v70_0)) _ sliceFits_S20x1024x64_S1x1024x64 k (fun a => ?_) n j
  fin_cases a
  · exact iv_toInt k
  · rfl
  · rfl

theorem gate4_i (n : Fin 1024) (u : Fin 32) :
    after gate4 X (Proc.devRef .tc main_while4b_v103) (ix2 n u) =
      gateOf (X (Proc.devRef .tc main_while4b_v94)) (X (Proc.devRef .tc main_v70_5)) (X (Proc.devRef .tc main_v70_1)) (X (Proc.devRef .tc main_v70_2))
        (X (Proc.devRef .tc main_v70_3)) n (drow 0 u) := by
  rw [show drow 0 u = ⟨u.val, by omega⟩ from Fin.ext (by simp [drow])]
  after_results_simp
  pointwise
  rfl

theorem gate4_f (n : Fin 1024) (u : Fin 32) :
    after gate4 X (Proc.devRef .tc main_while4b_v104) (ix2 n u) =
      gateOf (X (Proc.devRef .tc main_while4b_v94)) (X (Proc.devRef .tc main_v70_5)) (X (Proc.devRef .tc main_v70_1)) (X (Proc.devRef .tc main_v70_2))
        (X (Proc.devRef .tc main_v70_3)) n (drow 1 u) := by
  after_results_simp
  pointwise
  rfl

theorem gate4_g (n : Fin 1024) (u : Fin 32) :
    after gate4 X (Proc.devRef .tc main_while4b_v105) (ix2 n u) =
      gateOf (X (Proc.devRef .tc main_while4b_v94)) (X (Proc.devRef .tc main_v70_5)) (X (Proc.devRef .tc main_v70_1)) (X (Proc.devRef .tc main_v70_2))
        (X (Proc.devRef .tc main_v70_3)) n (drow 2 u) := by
  after_results_simp
  pointwise
  rfl

theorem gate4_o (n : Fin 1024) (u : Fin 32) :
    after gate4 X (Proc.devRef .tc main_while4b_v106) (ix2 n u) =
      gateOf (X (Proc.devRef .tc main_while4b_v94)) (X (Proc.devRef .tc main_v70_5)) (X (Proc.devRef .tc main_v70_1)) (X (Proc.devRef .tc main_v70_2))
        (X (Proc.devRef .tc main_v70_3)) n (drow 3 u) := by
  after_results_simp
  pointwise
  rfl

theorem cell4_c (n : Fin 1024) (u : Fin 32) :
    after cell4 X (Proc.devRef .tc main_while4b_v122) (ix2 n u) = Ideal.logistic (X (Proc.devRef .tc main_while4b_v104) (ix2 n u)) * X (Proc.devRef .tc main_v70_6) (ix2 n u)
      + Ideal.logistic (X (Proc.devRef .tc main_while4b_v103) (ix2 n u)) * Ideal.tanh (X (Proc.devRef .tc main_while4b_v105) (ix2 n u)) := by
  after_results_simp
  pointwise
  rfl

theorem cell4_h (n : Fin 1024) (u : Fin 32) :
    after cell4 X (Proc.devRef .tc main_while4b_v130) (ix2 n u) = Ideal.logistic (X (Proc.devRef .tc main_while4b_v106) (ix2 n u))
      * Ideal.tanh (after cell4 X (Proc.devRef .tc main_while4b_v122) (ix2 n u)) := by
  rw [cell4_c]
  after_results_simp
  pointwise
  rfl

theorem put4_apply (k : Fin 20) (hctr : X (Proc.devRef .tc main_v70_4) = fun _ => Scf.iv 0#32 1#32 k.val) (t : Fin 20) (n : Fin 1024) (u : Fin 32) :
    after put4 X (Proc.devRef .tc main_while4b_v131) (ix3 t n u)
      = if t = k then X (Proc.devRef .tc main_while4b_v130) (ix2 n u) else X (Proc.devRef .tc main_v70_7) (ix3 t n u) := by
  after_results_simp_entrywise
  pointwise [hctr]
  refine (dyn_put (X (Proc.devRef .tc main_v70_7)) _ _ updateFits_S20x1024x32_S1x1024x32 k (fun a => ?_) t n u).trans ?_
  · fin_cases a
    · exact iv_toInt k
    · rfl
    · rfl
  · split
    · rw [TRef.ofBuf_toBuf]
      pointwise
      rfl
    · rfl

/-- One trip of the loop's body. -/
theorem trip4 (wi : Fin 128 → Fin 64 → EReal) (wh : Fin 128 → Fin 32 → EReal) (b : Fin 128 → EReal) (x : Lane) (p : Half × Half) (k : Fin 20)
    (h4 : X (Proc.devRef .tc main_v70_4) = fun _ => Scf.iv 0#32 1#32 k.val)
    (h0 : ∀ n j, X (Proc.devRef .tc main_v70_0) (ix3 k n j) = x n j)
    (h1 : ∀ j q, X (Proc.devRef .tc main_v70_1) (ix2 j q) = wi j q) (h2 : ∀ j q, X (Proc.devRef .tc main_v70_2) (ix2 j q) = wh j q)
    (h3 : ∀ j, X (Proc.devRef .tc main_v70_3) (ix1 j) = b j)
    (h5 : ∀ n u, X (Proc.devRef .tc main_v70_5) (ix2 n u) = p.1 n u) (h6 : ∀ n u, X (Proc.devRef .tc main_v70_6) (ix2 n u) = p.2 n u) :
    (∀ n u, afterL bodyI4 X (Proc.devRef .tc main_v70_5) (ix2 n u) = (dstep wi wh b x p).1 n u)
      ∧ (∀ n u, afterL bodyI4 X (Proc.devRef .tc main_v70_6) (ix2 n u) = (dstep wi wh b x p).2 n u)
      ∧ ∀ t n u, afterL bodyI4 X (Proc.devRef .tc main_v70_7) (ix3 t n u)
          = if t = k then (dstep wi wh b x p).1 n u else X (Proc.devRef .tc main_v70_7) (ix3 t n u) := by
  have r : ∀ b' : Ref sig .tc, b' ∉ row4_W → after row4 X (Proc.devRef .tc b') = X (Proc.devRef .tc b') := fun b' h =>
    after_of_writes_sub row4 _ row4_writes h
  have g : ∀ n j, gateOf (after row4 X (Proc.devRef .tc main_while4b_v94)) (after row4 X (Proc.devRef .tc main_v70_5))
      (after row4 X (Proc.devRef .tc main_v70_1)) (after row4 X (Proc.devRef .tc main_v70_2)) (after row4 X (Proc.devRef .tc main_v70_3)) n j
        = dgate wi wh b (x n) (p.1 n) j := by
    refine gateOf_eq wi wh b x p.1 _ _ _ _ _ (fun n j => (row4_apply X k h4 n j).trans (h0 n j)) (fun n u => ?_) (fun j q => ?_) (fun j q => ?_) (fun j => ?_)
    · rw [r _ (by decide)]; exact h5 n u
    · rw [r _ (by decide)]; exact h1 j q
    · rw [r _ (by decide)]; exact h2 j q
    · rw [r _ (by decide)]; exact h3 j
  have cc : ∀ n u, after cell4 (after gate4 (after row4 X)) (Proc.devRef .tc main_while4b_v122) (ix2 n u) = (dstep wi wh b x p).2 n u := by
    intro n u
    rw [cell4_c, gate4_f, gate4_i, gate4_g, g, g, g, after_of_writes_sub gate4 _ gate4_writes (by decide), r _ (by decide), h6]
    rfl
  have ch : ∀ n u, after cell4 (after gate4 (after row4 X)) (Proc.devRef .tc main_while4b_v130) (ix2 n u) = (dstep wi wh b x p).1 n u := by
    intro n u
    rw [cell4_h, cc, gate4_o, g]
    rfl
  have n5 : ∀ Y : Valuation τ sig (Elt Ideal), after next4 Y (Proc.devRef .tc main_v70_5) = Y (Proc.devRef .tc main_while4b_v130) := by
    intro Y; after_results_simp; rfl
  have n6 : ∀ Y : Valuation τ sig (Elt Ideal), after next4 Y (Proc.devRef .tc main_v70_6) = Y (Proc.devRef .tc main_while4b_v122) := by
    intro Y; after_results_simp; rfl
  have n7 : ∀ Y : Valuation τ sig (Elt Ideal), after next4 Y (Proc.devRef .tc main_v70_7) = Y (Proc.devRef .tc main_while4b_v131) := by
    intro Y; after_results_simp; rfl
  simp only [afterL_cons, afterL_nil]
  refine ⟨fun n u => ?_, fun n u => ?_, fun t n u => ?_⟩
  · rw [n5, after_of_writes_sub put4 _ put4_writes (by decide)]; exact ch n u
  · rw [n6, after_of_writes_sub put4 _ put4_writes (by decide)]; exact cc n u
  · rw [n7, put4_apply _ k (by
      rw [after_of_writes_sub cell4 _ cell4_writes (by decide), after_of_writes_sub gate4 _ gate4_writes (by decide), r _ (by decide)]; exact h4), ch,
      after_of_writes_sub cell4 _ cell4_writes (by decide), after_of_writes_sub gate4 _ gate4_writes (by decide), r _ (by decide)]

/-- What a trip leaves alone. -/
theorem kept4 {b : Ref sig .tc} (hc : b ∉ cond4_W) (hr : b ∉ row4_W) (hg : b ∉ gate4_W) (he : b ∉ cell4_W)
    (hp : b ∉ put4_W) (hn : b ∉ next4_W)
    (E : Dev nD → Valuation τ sig (Elt Ideal)) (c : Dev nD) : ∀ k, atTrip cond4 bodyI4 E k c (Proc.devRef .tc b) = E c (Proc.devRef .tc b)
  | 0 => rfl
  | k + 1 => by
    show afterL bodyI4 (after cond4 (atTrip cond4 bodyI4 E k c)) (Proc.devRef .tc b) = _
    simp only [afterL_cons, afterL_nil]
    rw [after_of_writes_sub next4 _ next4_writes hn, after_of_writes_sub put4 _ put4_writes hp, after_of_writes_sub cell4 _ cell4_writes he,
      after_of_writes_sub gate4 _ gate4_writes hg, after_of_writes_sub row4 _ row4_writes hr, after_of_writes_sub cond4 _ cond4_writes hc]
    exact kept4 hc hr hg he hp hn E c k

/-- The carried pair after each trip is the direction's. -/
theorem trips4 (wi : Fin 128 → Fin 64 → EReal) (wh : Fin 128 → Fin 32 → EReal) (b : Fin 128 → EReal) (A : Fin 20 → Lane)
    (E : Dev nD → Valuation τ sig (Elt Ideal)) (c : Dev nD)
    (h4 : ∀ k, atTrip cond4 bodyI4 E k c (Proc.devRef .tc main_v70_4) = fun _ => Scf.iv 0#32 1#32 k)
    (h0 : ∀ t n j, E c (Proc.devRef .tc main_v70_0) (ix3 t n j) = A t n j)
    (h1 : ∀ j q, E c (Proc.devRef .tc main_v70_1) (ix2 j q) = wi j q) (h2 : ∀ j q, E c (Proc.devRef .tc main_v70_2) (ix2 j q) = wh j q)
    (h3 : ∀ j, E c (Proc.devRef .tc main_v70_3) (ix1 j) = b j)
    (h5 : ∀ n u, E c (Proc.devRef .tc main_v70_5) (ix2 n u) = (0 : EReal)) (h6 : ∀ n u, E c (Proc.devRef .tc main_v70_6) (ix2 n u) = (0 : EReal)) :
    ∀ k, k ≤ 20 → (∀ n u, atTrip cond4 bodyI4 E k c (Proc.devRef .tc main_v70_5) (ix2 n u) = (dsteps wi wh b A k).1 n u)
      ∧ (∀ n u, atTrip cond4 bodyI4 E k c (Proc.devRef .tc main_v70_6) (ix2 n u) = (dsteps wi wh b A k).2 n u)
      ∧ ∀ t : Fin 20, t.val < k → ∀ n u, atTrip cond4 bodyI4 E k c (Proc.devRef .tc main_v70_7) (ix3 t n u) = (dsteps wi wh b A (t.val + 1)).1 n u
  | 0, _ => ⟨h5, h6, fun _ q => absurd q (Nat.not_lt_zero _)⟩
  | k + 1, hk => by
    have hk' : k < 20 := hk
    obtain ⟨i5, i6, i7⟩ := trips4 wi wh b A E c h4 h0 h1 h2 h3 h5 h6 k hk'.le
    have s := dsteps_succ wi wh b A k hk'
    have z : ∀ b' : Ref sig .tc, b' ∉ cond4_W →
        after cond4 (atTrip cond4 bodyI4 E k c) (Proc.devRef .tc b') = atTrip cond4 bodyI4 E k c (Proc.devRef .tc b') := fun b' h => after_of_writes_sub cond4 _ cond4_writes h
    obtain ⟨j5, j6, j7⟩ := trip4 (after cond4 (atTrip cond4 bodyI4 E k c)) wi wh b (A ⟨k, hk'⟩) (dsteps wi wh b A k) ⟨k, hk'⟩
      (by rw [z _ (by decide)]; exact h4 k)
      (fun n j => by rw [z _ (by decide), kept4 (by decide) (by decide) (by decide) (by decide) (by decide) (by decide) E c k]; exact h0 _ n j)
      (fun j q => by rw [z _ (by decide), kept4 (by decide) (by decide) (by decide) (by decide) (by decide) (by decide) E c k]; exact h1 j q)
      (fun j q => by rw [z _ (by decide), kept4 (by decide) (by decide) (by decide) (by decide) (by decide) (by decide) E c k]; exact h2 j q)
      (fun j => by rw [z _ (by decide), kept4 (by decide) (by decide) (by decide) (by decide) (by decide) (by decide) E c k]; exact h3 j)
      (fun n u => by rw [z _ (by decide)]; exact i5 n u) (fun n u => by rw [z _ (by decide)]; exact i6 n u)
    rw [s]
    refine ⟨j5, j6, fun t ht n u => (j7 t n u).trans ?_⟩
    by_cases e : t = ⟨k, hk'⟩
    · subst e
      rw [if_pos rfl, s]
    · rw [if_neg e, z _ (by decide)]
      exact i7 t (lt_of_le_of_ne (Nat.lt_succ_iff.mp ht) (fun q => e (Fin.ext q))) n u

theorem in4_wi (j : Fin 128) (q : Fin 64) : after in4b (after in4a X) (Proc.devRef .tc main_v59) (ix2 j q) = wiOf (X (Proc.devRef .tc main_arg1)) 2 0 j q := by
  after_results_simp
  pointwise
  rfl

theorem in4_wh (j : Fin 128) (q : Fin 32) : after in4b (after in4a X) (Proc.devRef .tc main_v61) (ix2 j q) = whOf (X (Proc.devRef .tc main_arg2)) 2 0 j q := by
  after_results_simp
  pointwise
  rfl

theorem in4_b (j : Fin 128) : after in4b (after in4a X) (Proc.devRef .tc main_v66) (ix1 j) = bsOf (X (Proc.devRef .tc main_arg3)) (X (Proc.devRef .tc main_arg4)) 2 0 j := by
  after_results_simp
  pointwise
  rfl

theorem in4_h (n : Fin 1024) (u : Fin 32) : after in4b (after in4a X) (Proc.devRef .tc main_v67) (ix2 n u) = (0 : EReal) := by
  after_results_simp
  pointwise

theorem in4_c (n : Fin 1024) (u : Fin 32) : after in4b (after in4a X) (Proc.devRef .tc main_v68) (ix2 n u) = (0 : EReal) := by
  after_results_simp
  pointwise

theorem in4_x (t : Fin 20) (n : Fin 1024) (u : Fin 64) : after in4b (after in4a X) (Proc.devRef .tc main_v57) (ix3 t n u) = X (Proc.devRef .tc main_v57) (ix3 t n u) := by
  rw [after_of_writes_sub in4b _ in4b_writes (by decide), after_of_writes_sub in4a _ in4a_writes (by decide)]

/-- What the loop starts from. -/
theorem start4 : after cp4 X (Proc.devRef .tc main_v70_0) = X (Proc.devRef .tc main_v57) ∧ after cp4 X (Proc.devRef .tc main_v70_1) = X (Proc.devRef .tc main_v59)
    ∧ after cp4 X (Proc.devRef .tc main_v70_2) = X (Proc.devRef .tc main_v61) ∧ after cp4 X (Proc.devRef .tc main_v70_3) = X (Proc.devRef .tc main_v66)
    ∧ after cp4 X (Proc.devRef .tc main_v70_5) = X (Proc.devRef .tc main_v67) ∧ after cp4 X (Proc.devRef .tc main_v70_6) = X (Proc.devRef .tc main_v68) := by
  refine ⟨?_, ?_, ?_, ?_, ?_, ?_⟩ <;> (after_results_simp; rfl)

end

section
variable (V : Dev nD → Valuation τ sig (Elt Ideal)) (c : Dev nD)

/-- The outputs the loop leaves are those of the direction's steps. -/
theorem out4 (A : Fin 20 → Lane) (hA : ∀ t n u, after join4 (V c) (Proc.devRef .tc main_v57) (ix3 t n u) = A t n u) (t : Fin 20) (n : Fin 1024) (u : Fin 32) :
    phase4.out V c (Proc.devRef .tc main_v70_7) (ix3 t n u)
      = (dsteps (wiOf (V c (Proc.devRef .tc main_arg1)) 2 0) (whOf (V c (Proc.devRef .tc main_arg2)) 2 0)
          (bsOf (V c (Proc.devRef .tc main_arg3)) (V c (Proc.devRef .tc main_arg4)) 2 0) A (t.val + 1)).1 n u := by
  show after cond4 (atTrip cond4 bodyI4 (fun c => afterL pre4 (V c)) 20 c) (Proc.devRef .tc main_v70_7) (ix3 t n u) = _
  rw [after_of_writes_sub cond4 _ cond4_writes (by decide)]
  obtain ⟨s0, s1, s2, s3, s5, s6⟩ := start4 (after in4b (after in4a (after join4 (V c))))
  refine (trips4 _ _ _ A (fun c => afterL pre4 (V c)) c (ctr4 V c) (fun t n j => ?_) (fun j q => ?_) (fun j q => ?_) (fun j => ?_) (fun n u => ?_) (fun n u => ?_) 20 le_rfl).2.2 t t.isLt n u
  · exact (congrFun s0 (ix3 t n j)).trans ((in4_x _ t n j).trans (hA _ n j))
  · refine (congrFun s1 (ix2 j q)).trans ((in4_wi _ j q).trans ?_)
    rw [after_of_writes_sub join4 _ join4_writes (by decide)]
  · refine (congrFun s2 (ix2 j q)).trans ((in4_wh _ j q).trans ?_)
    rw [after_of_writes_sub join4 _ join4_writes (by decide)]
  · refine (congrFun s3 (ix1 j)).trans ((in4_b _ j).trans ?_)
    rw [after_of_writes_sub join4 _ join4_writes (by decide), after_of_writes_sub join4 _ join4_writes (by decide)]
  · exact (congrFun s5 (ix2 n u)).trans (in4_h _ n u)
  · exact (congrFun s6 (ix2 n u)).trans (in4_c _ n u)

/-- What the scan and what is before it leave alone. -/
theorem hold4 {b : Ref sig .tc} (k0 : b ∉ in4a_W) (k1 : b ∉ in4b_W) (k2 : b ∉ cp4_W) (hc : b ∉ cond4_W) (hr : b ∉ row4_W) (hg : b ∉ gate4_W) (he : b ∉ cell4_W)
    (hp : b ∉ put4_W) (hn : b ∉ next4_W) : phase4.out V c (Proc.devRef .tc b) = after join4 (V c) (Proc.devRef .tc b) := by
  refine (after_of_writes_sub cond4 (atTrip cond4 bodyI4 (fun c => afterL pre4 (V c)) 20 c) cond4_writes hc).trans
    ((kept4 hc hr hg he hp hn _ c 20).trans ?_)
  simp only [afterL_cons, afterL_nil]
  rw [after_of_writes_sub cp4 _ cp4_writes k2, after_of_writes_sub in4b _ in4b_writes k1, after_of_writes_sub in4a _ in4a_writes k0]

end

/-! ## The sixth scan -/

section
variable (X : Valuation τ sig (Elt Ideal))

theorem row5_apply (k : Fin 20) (hctr : X (Proc.devRef .tc main_v84_4) = fun _ => Scf.iv 0#32 1#32 k.val) (n : Fin 1024) (j : Fin 64) :
    after row5 X (Proc.devRef .tc main_while5b_v94) (ix2 n j) = X (Proc.devRef .tc main_v84_0) (ix3 k n j) := by
  after_results_simp_entrywise
  pointwise [hctr]
  refine dyn_row (X (Proc.devRef .tc main_v84_0)) _ sliceFits_S20x1024x64_S1x1024x64 k (fun a => ?_) n j
  fin_cases a
  · exact iv_toInt k
  · rfl
  · rfl

theorem gate5_i (n : Fin 1024) (u : Fin 32) :
    after gate5 X (Proc.devRef .tc main_while5b_v103) (ix2 n u) =
      gateOf (X (Proc.devRef .tc main_while5b_v94)) (X (Proc.devRef .tc main_v84_5)) (X (Proc.devRef .tc main_v84_1)) (X (Proc.devRef .tc main_v84_2))
        (X (Proc.devRef .tc main_v84_3)) n (drow 0 u) := by
  rw [show drow 0 u = ⟨u.val, by omega⟩ from Fin.ext (by simp [drow])]
  after_results_simp
  pointwise
  rfl

theorem gate5_f (n : Fin 1024) (u : Fin 32) :
    after gate5 X (Proc.devRef .tc main_while5b_v104) (ix2 n u) =
      gateOf (X (Proc.devRef .tc main_while5b_v94)) (X (Proc.devRef .tc main_v84_5)) (X (Proc.devRef .tc main_v84_1)) (X (Proc.devRef .tc main_v84_2))
        (X (Proc.devRef .tc main_v84_3)) n (drow 1 u) := by
  after_results_simp
  pointwise
  rfl

theorem gate5_g (n : Fin 1024) (u : Fin 32) :
    after gate5 X (Proc.devRef .tc main_while5b_v105) (ix2 n u) =
      gateOf (X (Proc.devRef .tc main_while5b_v94)) (X (Proc.devRef .tc main_v84_5)) (X (Proc.devRef .tc main_v84_1)) (X (Proc.devRef .tc main_v84_2))
        (X (Proc.devRef .tc main_v84_3)) n (drow 2 u) := by
  after_results_simp
  pointwise
  rfl

theorem gate5_o (n : Fin 1024) (u : Fin 32) :
    after gate5 X (Proc.devRef .tc main_while5b_v106) (ix2 n u) =
      gateOf (X (Proc.devRef .tc main_while5b_v94)) (X (Proc.devRef .tc main_v84_5)) (X (Proc.devRef .tc main_v84_1)) (X (Proc.devRef .tc main_v84_2))
        (X (Proc.devRef .tc main_v84_3)) n (drow 3 u) := by
  after_results_simp
  pointwise
  rfl

theorem cell5_c (n : Fin 1024) (u : Fin 32) :
    after cell5 X (Proc.devRef .tc main_while5b_v122) (ix2 n u) = Ideal.logistic (X (Proc.devRef .tc main_while5b_v104) (ix2 n u)) * X (Proc.devRef .tc main_v84_6) (ix2 n u)
      + Ideal.logistic (X (Proc.devRef .tc main_while5b_v103) (ix2 n u)) * Ideal.tanh (X (Proc.devRef .tc main_while5b_v105) (ix2 n u)) := by
  after_results_simp
  pointwise
  rfl

theorem cell5_h (n : Fin 1024) (u : Fin 32) :
    after cell5 X (Proc.devRef .tc main_while5b_v130) (ix2 n u) = Ideal.logistic (X (Proc.devRef .tc main_while5b_v106) (ix2 n u))
      * Ideal.tanh (after cell5 X (Proc.devRef .tc main_while5b_v122) (ix2 n u)) := by
  rw [cell5_c]
  after_results_simp
  pointwise
  rfl

theorem put5_apply (k : Fin 20) (hctr : X (Proc.devRef .tc main_v84_4) = fun _ => Scf.iv 0#32 1#32 k.val) (t : Fin 20) (n : Fin 1024) (u : Fin 32) :
    after put5 X (Proc.devRef .tc main_while5b_v131) (ix3 t n u)
      = if t = k then X (Proc.devRef .tc main_while5b_v130) (ix2 n u) else X (Proc.devRef .tc main_v84_7) (ix3 t n u) := by
  after_results_simp_entrywise
  pointwise [hctr]
  refine (dyn_put (X (Proc.devRef .tc main_v84_7)) _ _ updateFits_S20x1024x32_S1x1024x32 k (fun a => ?_) t n u).trans ?_
  · fin_cases a
    · exact iv_toInt k
    · rfl
    · rfl
  · split
    · rw [TRef.ofBuf_toBuf]
      pointwise
      rfl
    · rfl

/-- One trip of the loop's body. -/
theorem trip5 (wi : Fin 128 → Fin 64 → EReal) (wh : Fin 128 → Fin 32 → EReal) (b : Fin 128 → EReal) (x : Lane) (p : Half × Half) (k : Fin 20)
    (h4 : X (Proc.devRef .tc main_v84_4) = fun _ => Scf.iv 0#32 1#32 k.val)
    (h0 : ∀ n j, X (Proc.devRef .tc main_v84_0) (ix3 k n j) = x n j)
    (h1 : ∀ j q, X (Proc.devRef .tc main_v84_1) (ix2 j q) = wi j q) (h2 : ∀ j q, X (Proc.devRef .tc main_v84_2) (ix2 j q) = wh j q)
    (h3 : ∀ j, X (Proc.devRef .tc main_v84_3) (ix1 j) = b j)
    (h5 : ∀ n u, X (Proc.devRef .tc main_v84_5) (ix2 n u) = p.1 n u) (h6 : ∀ n u, X (Proc.devRef .tc main_v84_6) (ix2 n u) = p.2 n u) :
    (∀ n u, afterL bodyI5 X (Proc.devRef .tc main_v84_5) (ix2 n u) = (dstep wi wh b x p).1 n u)
      ∧ (∀ n u, afterL bodyI5 X (Proc.devRef .tc main_v84_6) (ix2 n u) = (dstep wi wh b x p).2 n u)
      ∧ ∀ t n u, afterL bodyI5 X (Proc.devRef .tc main_v84_7) (ix3 t n u)
          = if t = k then (dstep wi wh b x p).1 n u else X (Proc.devRef .tc main_v84_7) (ix3 t n u) := by
  have r : ∀ b' : Ref sig .tc, b' ∉ row5_W → after row5 X (Proc.devRef .tc b') = X (Proc.devRef .tc b') := fun b' h =>
    after_of_writes_sub row5 _ row5_writes h
  have g : ∀ n j, gateOf (after row5 X (Proc.devRef .tc main_while5b_v94)) (after row5 X (Proc.devRef .tc main_v84_5))
      (after row5 X (Proc.devRef .tc main_v84_1)) (after row5 X (Proc.devRef .tc main_v84_2)) (after row5 X (Proc.devRef .tc main_v84_3)) n j
        = dgate wi wh b (x n) (p.1 n) j := by
    refine gateOf_eq wi wh b x p.1 _ _ _ _ _ (fun n j => (row5_apply X k h4 n j).trans (h0 n j)) (fun n u => ?_) (fun j q => ?_) (fun j q => ?_) (fun j => ?_)
    · rw [r _ (by decide)]; exact h5 n u
    · rw [r _ (by decide)]; exact h1 j q
    · rw [r _ (by decide)]; exact h2 j q
    · rw [r _ (by decide)]; exact h3 j
  have cc : ∀ n u, after cell5 (after gate5 (after row5 X)) (Proc.devRef .tc main_while5b_v122) (ix2 n u) = (dstep wi wh b x p).2 n u := by
    intro n u
    rw [cell5_c, gate5_f, gate5_i, gate5_g, g, g, g, after_of_writes_sub gate5 _ gate5_writes (by decide), r _ (by decide), h6]
    rfl
  have ch : ∀ n u, after cell5 (after gate5 (after row5 X)) (Proc.devRef .tc main_while5b_v130) (ix2 n u) = (dstep wi wh b x p).1 n u := by
    intro n u
    rw [cell5_h, cc, gate5_o, g]
    rfl
  have n5 : ∀ Y : Valuation τ sig (Elt Ideal), after next5 Y (Proc.devRef .tc main_v84_5) = Y (Proc.devRef .tc main_while5b_v130) := by
    intro Y; after_results_simp; rfl
  have n6 : ∀ Y : Valuation τ sig (Elt Ideal), after next5 Y (Proc.devRef .tc main_v84_6) = Y (Proc.devRef .tc main_while5b_v122) := by
    intro Y; after_results_simp; rfl
  have n7 : ∀ Y : Valuation τ sig (Elt Ideal), after next5 Y (Proc.devRef .tc main_v84_7) = Y (Proc.devRef .tc main_while5b_v131) := by
    intro Y; after_results_simp; rfl
  simp only [afterL_cons, afterL_nil]
  refine ⟨fun n u => ?_, fun n u => ?_, fun t n u => ?_⟩
  · rw [n5, after_of_writes_sub put5 _ put5_writes (by decide)]; exact ch n u
  · rw [n6, after_of_writes_sub put5 _ put5_writes (by decide)]; exact cc n u
  · rw [n7, put5_apply _ k (by
      rw [after_of_writes_sub cell5 _ cell5_writes (by decide), after_of_writes_sub gate5 _ gate5_writes (by decide), r _ (by decide)]; exact h4), ch,
      after_of_writes_sub cell5 _ cell5_writes (by decide), after_of_writes_sub gate5 _ gate5_writes (by decide), r _ (by decide)]

/-- What a trip leaves alone. -/
theorem kept5 {b : Ref sig .tc} (hc : b ∉ cond5_W) (hr : b ∉ row5_W) (hg : b ∉ gate5_W) (he : b ∉ cell5_W)
    (hp : b ∉ put5_W) (hn : b ∉ next5_W)
    (E : Dev nD → Valuation τ sig (Elt Ideal)) (c : Dev nD) : ∀ k, atTrip cond5 bodyI5 E k c (Proc.devRef .tc b) = E c (Proc.devRef .tc b)
  | 0 => rfl
  | k + 1 => by
    show afterL bodyI5 (after cond5 (atTrip cond5 bodyI5 E k c)) (Proc.devRef .tc b) = _
    simp only [afterL_cons, afterL_nil]
    rw [after_of_writes_sub next5 _ next5_writes hn, after_of_writes_sub put5 _ put5_writes hp, after_of_writes_sub cell5 _ cell5_writes he,
      after_of_writes_sub gate5 _ gate5_writes hg, after_of_writes_sub row5 _ row5_writes hr, after_of_writes_sub cond5 _ cond5_writes hc]
    exact kept5 hc hr hg he hp hn E c k

/-- The carried pair after each trip is the direction's. -/
theorem trips5 (wi : Fin 128 → Fin 64 → EReal) (wh : Fin 128 → Fin 32 → EReal) (b : Fin 128 → EReal) (A : Fin 20 → Lane)
    (E : Dev nD → Valuation τ sig (Elt Ideal)) (c : Dev nD)
    (h4 : ∀ k, atTrip cond5 bodyI5 E k c (Proc.devRef .tc main_v84_4) = fun _ => Scf.iv 0#32 1#32 k)
    (h0 : ∀ t n j, E c (Proc.devRef .tc main_v84_0) (ix3 t n j) = A t n j)
    (h1 : ∀ j q, E c (Proc.devRef .tc main_v84_1) (ix2 j q) = wi j q) (h2 : ∀ j q, E c (Proc.devRef .tc main_v84_2) (ix2 j q) = wh j q)
    (h3 : ∀ j, E c (Proc.devRef .tc main_v84_3) (ix1 j) = b j)
    (h5 : ∀ n u, E c (Proc.devRef .tc main_v84_5) (ix2 n u) = (0 : EReal)) (h6 : ∀ n u, E c (Proc.devRef .tc main_v84_6) (ix2 n u) = (0 : EReal)) :
    ∀ k, k ≤ 20 → (∀ n u, atTrip cond5 bodyI5 E k c (Proc.devRef .tc main_v84_5) (ix2 n u) = (dsteps wi wh b A k).1 n u)
      ∧ (∀ n u, atTrip cond5 bodyI5 E k c (Proc.devRef .tc main_v84_6) (ix2 n u) = (dsteps wi wh b A k).2 n u)
      ∧ ∀ t : Fin 20, t.val < k → ∀ n u, atTrip cond5 bodyI5 E k c (Proc.devRef .tc main_v84_7) (ix3 t n u) = (dsteps wi wh b A (t.val + 1)).1 n u
  | 0, _ => ⟨h5, h6, fun _ q => absurd q (Nat.not_lt_zero _)⟩
  | k + 1, hk => by
    have hk' : k < 20 := hk
    obtain ⟨i5, i6, i7⟩ := trips5 wi wh b A E c h4 h0 h1 h2 h3 h5 h6 k hk'.le
    have s := dsteps_succ wi wh b A k hk'
    have z : ∀ b' : Ref sig .tc, b' ∉ cond5_W →
        after cond5 (atTrip cond5 bodyI5 E k c) (Proc.devRef .tc b') = atTrip cond5 bodyI5 E k c (Proc.devRef .tc b') := fun b' h => after_of_writes_sub cond5 _ cond5_writes h
    obtain ⟨j5, j6, j7⟩ := trip5 (after cond5 (atTrip cond5 bodyI5 E k c)) wi wh b (A ⟨k, hk'⟩) (dsteps wi wh b A k) ⟨k, hk'⟩
      (by rw [z _ (by decide)]; exact h4 k)
      (fun n j => by rw [z _ (by decide), kept5 (by decide) (by decide) (by decide) (by decide) (by decide) (by decide) E c k]; exact h0 _ n j)
      (fun j q => by rw [z _ (by decide), kept5 (by decide) (by decide) (by decide) (by decide) (by decide) (by decide) E c k]; exact h1 j q)
      (fun j q => by rw [z _ (by decide), kept5 (by decide) (by decide) (by decide) (by decide) (by decide) (by decide) E c k]; exact h2 j q)
      (fun j => by rw [z _ (by decide), kept5 (by decide) (by decide) (by decide) (by decide) (by decide) (by decide) E c k]; exact h3 j)
      (fun n u => by rw [z _ (by decide)]; exact i5 n u) (fun n u => by rw [z _ (by decide)]; exact i6 n u)
    rw [s]
    refine ⟨j5, j6, fun t ht n u => (j7 t n u).trans ?_⟩
    by_cases e : t = ⟨k, hk'⟩
    · subst e
      rw [if_pos rfl, s]
    · rw [if_neg e, z _ (by decide)]
      exact i7 t (lt_of_le_of_ne (Nat.lt_succ_iff.mp ht) (fun q => e (Fin.ext q))) n u

theorem in5_wi (j : Fin 128) (q : Fin 64) : after in5 X (Proc.devRef .tc main_v73) (ix2 j q) = wiOf (X (Proc.devRef .tc main_arg1)) 2 1 j q := by
  after_results_simp
  pointwise
  rfl

theorem in5_wh (j : Fin 128) (q : Fin 32) : after in5 X (Proc.devRef .tc main_v75) (ix2 j q) = whOf (X (Proc.devRef .tc main_arg2)) 2 1 j q := by
  after_results_simp
  pointwise
  rfl

theorem in5_b (j : Fin 128) : after in5 X (Proc.devRef .tc main_v80) (ix1 j) = bsOf (X (Proc.devRef .tc main_arg3)) (X (Proc.devRef .tc main_arg4)) 2 1 j := by
  after_results_simp
  pointwise
  rfl

theorem in5_h (n : Fin 1024) (u : Fin 32) : after in5 X (Proc.devRef .tc main_v81) (ix2 n u) = (0 : EReal) := by
  after_results_simp
  pointwise

theorem in5_c (n : Fin 1024) (u : Fin 32) : after in5 X (Proc.devRef .tc main_v82) (ix2 n u) = (0 : EReal) := by
  after_results_simp
  pointwise

theorem in5_x (t : Fin 20) (n : Fin 1024) (u : Fin 64) : after in5 X (Proc.devRef .tc main_v71) (ix3 t n u) = X (Proc.devRef .tc main_v57) (ix3 t.rev n u) := by
  after_results_simp
  pointwise
  rfl

/-- What the loop starts from. -/
theorem start5 : after cp5 X (Proc.devRef .tc main_v84_0) = X (Proc.devRef .tc main_v71) ∧ after cp5 X (Proc.devRef .tc main_v84_1) = X (Proc.devRef .tc main_v73)
    ∧ after cp5 X (Proc.devRef .tc main_v84_2) = X (Proc.devRef .tc main_v75) ∧ after cp5 X (Proc.devRef .tc main_v84_3) = X (Proc.devRef .tc main_v80)
    ∧ after cp5 X (Proc.devRef .tc main_v84_5) = X (Proc.devRef .tc main_v81) ∧ after cp5 X (Proc.devRef .tc main_v84_6) = X (Proc.devRef .tc main_v82) := by
  refine ⟨?_, ?_, ?_, ?_, ?_, ?_⟩ <;> (after_results_simp; rfl)

end

section
variable (V : Dev nD → Valuation τ sig (Elt Ideal)) (c : Dev nD)

/-- The outputs the loop leaves are those of the direction's steps. -/
theorem out5 (A : Fin 20 → Lane) (hA : ∀ t n u, V c (Proc.devRef .tc main_v57) (ix3 t n u) = A t n u) (t : Fin 20) (n : Fin 1024) (u : Fin 32) :
    phase5.out V c (Proc.devRef .tc main_v84_7) (ix3 t n u)
      = (dsteps (wiOf (V c (Proc.devRef .tc main_arg1)) 2 1) (whOf (V c (Proc.devRef .tc main_arg2)) 2 1)
          (bsOf (V c (Proc.devRef .tc main_arg3)) (V c (Proc.devRef .tc main_arg4)) 2 1) (fun t => A t.rev) (t.val + 1)).1 n u := by
  show after cond5 (atTrip cond5 bodyI5 (fun c => afterL pre5 (V c)) 20 c) (Proc.devRef .tc main_v84_7) (ix3 t n u) = _
  rw [after_of_writes_sub cond5 _ cond5_writes (by decide)]
  obtain ⟨s0, s1, s2, s3, s5, s6⟩ := start5 (after in5 (V c))
  refine (trips5 _ _ _ (fun t => A t.rev) (fun c => afterL pre5 (V c)) c (ctr5 V c) (fun t n j => ?_) (fun j q => ?_) (fun j q => ?_) (fun j => ?_) (fun n u => ?_) (fun n u => ?_) 20 le_rfl).2.2 t t.isLt n u
  · exact (congrFun s0 (ix3 t n j)).trans ((in5_x _ t n j).trans (hA _ n j))
  · refine (congrFun s1 (ix2 j q)).trans ((in5_wi _ j q).trans ?_)
    rfl
  · refine (congrFun s2 (ix2 j q)).trans ((in5_wh _ j q).trans ?_)
    rfl
  · refine (congrFun s3 (ix1 j)).trans ((in5_b _ j).trans ?_)
    rfl
  · exact (congrFun s5 (ix2 n u)).trans (in5_h _ n u)
  · exact (congrFun s6 (ix2 n u)).trans (in5_c _ n u)

/-- What the scan and what is before it leave alone. -/
theorem hold5 {b : Ref sig .tc} (k0 : b ∉ in5_W) (k1 : b ∉ cp5_W) (hc : b ∉ cond5_W) (hr : b ∉ row5_W) (hg : b ∉ gate5_W) (he : b ∉ cell5_W)
    (hp : b ∉ put5_W) (hn : b ∉ next5_W) : phase5.out V c (Proc.devRef .tc b) = V c (Proc.devRef .tc b) := by
  refine (after_of_writes_sub cond5 (atTrip cond5 bodyI5 (fun c => afterL pre5 (V c)) 20 c) cond5_writes hc).trans
    ((kept5 hc hr hg he hp hn _ c 20).trans ?_)
  simp only [afterL_cons, afterL_nil]
  rw [after_of_writes_sub cp5 _ cp5_writes k1, after_of_writes_sub in5 _ in5_writes k0]

end

/-! ## The network -/

section
variable (X : Valuation τ sig (Elt Ideal))

theorem join2_apply (t : Fin 20) (n : Fin 1024) (u : Fin 64) : after join2 X (Proc.devRef .tc main_v28) (ix3 t n u)
    = (if h : u.val < 32 then X (Proc.devRef .tc main_v12_7) (ix3 t n ⟨u.val, h⟩) else X (Proc.devRef .tc main_v26_7) (ix3 t.rev n ⟨u.val - 32, by omega⟩) : EReal) := by
  after_results_simp
  pointwise
  rfl

theorem join4_apply (t : Fin 20) (n : Fin 1024) (u : Fin 64) : after join4 X (Proc.devRef .tc main_v57) (ix3 t n u)
    = (if h : u.val < 32 then X (Proc.devRef .tc main_v41_7) (ix3 t n ⟨u.val, h⟩) else X (Proc.devRef .tc main_v55_7) (ix3 t.rev n ⟨u.val - 32, by omega⟩) : EReal) := by
  after_results_simp
  pointwise
  rfl

theorem join6_apply (t : Fin 20) (n : Fin 1024) (u : Fin 64) : after join6 X (Proc.devRef .tc main_v86) (ix3 t n u)
    = (if h : u.val < 32 then X (Proc.devRef .tc main_v70_7) (ix3 t n ⟨u.val, h⟩) else X (Proc.devRef .tc main_v84_7) (ix3 t.rev n ⟨u.val - 32, by omega⟩) : EReal) := by
  after_results_simp
  pointwise
  rfl

end

section
variable (V : Dev nD → Valuation τ sig (Elt Ideal)) (c : Dev nD)

theorem args0 : phase0.out V c (Proc.devRef .tc main_arg0) = V c (Proc.devRef .tc main_arg0) ∧ phase0.out V c (Proc.devRef .tc main_arg1) = V c (Proc.devRef .tc main_arg1) ∧ phase0.out V c (Proc.devRef .tc main_arg2) = V c (Proc.devRef .tc main_arg2) ∧ phase0.out V c (Proc.devRef .tc main_arg3) = V c (Proc.devRef .tc main_arg3) ∧ phase0.out V c (Proc.devRef .tc main_arg4) = V c (Proc.devRef .tc main_arg4) :=
  ⟨hold0 V c (b := main_arg0) (by decide) (by decide) (by decide) (by decide) (by decide) (by decide) (by decide) (by decide),
    hold0 V c (b := main_arg1) (by decide) (by decide) (by decide) (by decide) (by decide) (by decide) (by decide) (by decide),
    hold0 V c (b := main_arg2) (by decide) (by decide) (by decide) (by decide) (by decide) (by decide) (by decide) (by decide),
    hold0 V c (b := main_arg3) (by decide) (by decide) (by decide) (by decide) (by decide) (by decide) (by decide) (by decide),
    hold0 V c (b := main_arg4) (by decide) (by decide) (by decide) (by decide) (by decide) (by decide) (by decide) (by decide)⟩

theorem args1 : phase1.out V c (Proc.devRef .tc main_arg0) = V c (Proc.devRef .tc main_arg0) ∧ phase1.out V c (Proc.devRef .tc main_arg1) = V c (Proc.devRef .tc main_arg1) ∧ phase1.out V c (Proc.devRef .tc main_arg2) = V c (Proc.devRef .tc main_arg2) ∧ phase1.out V c (Proc.devRef .tc main_arg3) = V c (Proc.devRef .tc main_arg3) ∧ phase1.out V c (Proc.devRef .tc main_arg4) = V c (Proc.devRef .tc main_arg4) :=
  ⟨hold1 V c (b := main_arg0) (by decide) (by decide) (by decide) (by decide) (by decide) (by decide) (by decide) (by decide),
    hold1 V c (b := main_arg1) (by decide) (by decide) (by decide) (by decide) (by decide) (by decide) (by decide) (by decide),
    hold1 V c (b := main_arg2) (by decide) (by decide) (by decide) (by decide) (by decide) (by decide) (by decide) (by decide),
    hold1 V c (b := main_arg3) (by decide) (by decide) (by decide) (by decide) (by decide) (by decide) (by decide) (by decide),
    hold1 V c (b := main_arg4) (by decide) (by decide) (by decide) (by decide) (by decide) (by decide) (by decide) (by decide)⟩

theorem args2 : phase2.out V c (Proc.devRef .tc main_arg0) = V c (Proc.devRef .tc main_arg0) ∧ phase2.out V c (Proc.devRef .tc main_arg1) = V c (Proc.devRef .tc main_arg1) ∧ phase2.out V c (Proc.devRef .tc main_arg2) = V c (Proc.devRef .tc main_arg2) ∧ phase2.out V c (Proc.devRef .tc main_arg3) = V c (Proc.devRef .tc main_arg3) ∧ phase2.out V c (Proc.devRef .tc main_arg4) = V c (Proc.devRef .tc main_arg4) :=
  ⟨(hold2 V c (b := main_arg0) (by decide) (by decide) (by decide) (by decide) (by decide) (by decide) (by decide) (by decide) (by decide)).trans (after_of_writes_sub join2 _ join2_writes (by decide)),
    (hold2 V c (b := main_arg1) (by decide) (by decide) (by decide) (by decide) (by decide) (by decide) (by decide) (by decide) (by decide)).trans (after_of_writes_sub join2 _ join2_writes (by decide)),
    (hold2 V c (b := main_arg2) (by decide) (by decide) (by decide) (by decide) (by decide) (by decide) (by decide) (by decide) (by decide)).trans (after_of_writes_sub join2 _ join2_writes (by decide)),
    (hold2 V c (b := main_arg3) (by decide) (by decide) (by decide) (by decide) (by decide) (by decide) (by decide) (by decide) (by decide)).trans (after_of_writes_sub join2 _ join2_writes (by decide)),
    (hold2 V c (b := main_arg4) (by decide) (by decide) (by decide) (by decide) (by decide) (by decide) (by decide) (by decide) (by decide)).trans (after_of_writes_sub join2 _ join2_writes (by decide))⟩

theorem args3 : phase3.out V c (Proc.devRef .tc main_arg0) = V c (Proc.devRef .tc main_arg0) ∧ phase3.out V c (Proc.devRef .tc main_arg1) = V c (Proc.devRef .tc main_arg1) ∧ phase3.out V c (Proc.devRef .tc main_arg2) = V c (Proc.devRef .tc main_arg2) ∧ phase3.out V c (Proc.devRef .tc main_arg3) = V c (Proc.devRef .tc main_arg3) ∧ phase3.out V c (Proc.devRef .tc main_arg4) = V c (Proc.devRef .tc main_arg4) :=
  ⟨hold3 V c (b := main_arg0) (by decide) (by decide) (by decide) (by decide) (by decide) (by decide) (by decide) (by decide),
    hold3 V c (b := main_arg1) (by decide) (by decide) (by decide) (by decide) (by decide) (by decide) (by decide) (by decide),
    hold3 V c (b := main_arg2) (by decide) (by decide) (by decide) (by decide) (by decide) (by decide) (by decide) (by decide),
    hold3 V c (b := main_arg3) (by decide) (by decide) (by decide) (by decide) (by decide) (by decide) (by decide) (by decide),
    hold3 V c (b := main_arg4) (by decide) (by decide) (by decide) (by decide) (by decide) (by decide) (by decide) (by decide)⟩

theorem args4 : phase4.out V c (Proc.devRef .tc main_arg0) = V c (Proc.devRef .tc main_arg0) ∧ phase4.out V c (Proc.devRef .tc main_arg1) = V c (Proc.devRef .tc main_arg1) ∧ phase4.out V c (Proc.devRef .tc main_arg2) = V c (Proc.devRef .tc main_arg2) ∧ phase4.out V c (Proc.devRef .tc main_arg3) = V c (Proc.devRef .tc main_arg3) ∧ phase4.out V c (Proc.devRef .tc main_arg4) = V c (Proc.devRef .tc main_arg4) :=
  ⟨(hold4 V c (b := main_arg0) (by decide) (by decide) (by decide) (by decide) (by decide) (by decide) (by decide) (by decide) (by decide)).trans (after_of_writes_sub join4 _ join4_writes (by decide)),
    (hold4 V c (b := main_arg1) (by decide) (by decide) (by decide) (by decide) (by decide) (by decide) (by decide) (by decide) (by decide)).trans (after_of_writes_sub join4 _ join4_writes (by decide)),
    (hold4 V c (b := main_arg2) (by decide) (by decide) (by decide) (by decide) (by decide) (by decide) (by decide) (by decide) (by decide)).trans (after_of_writes_sub join4 _ join4_writes (by decide)),
    (hold4 V c (b := main_arg3) (by decide) (by decide) (by decide) (by decide) (by decide) (by decide) (by decide) (by decide) (by decide)).trans (after_of_writes_sub join4 _ join4_writes (by decide)),
    (hold4 V c (b := main_arg4) (by decide) (by decide) (by decide) (by decide) (by decide) (by decide) (by decide) (by decide) (by decide)).trans (after_of_writes_sub join4 _ join4_writes (by decide))⟩

theorem args5 : phase5.out V c (Proc.devRef .tc main_arg0) = V c (Proc.devRef .tc main_arg0) ∧ phase5.out V c (Proc.devRef .tc main_arg1) = V c (Proc.devRef .tc main_arg1) ∧ phase5.out V c (Proc.devRef .tc main_arg2) = V c (Proc.devRef .tc main_arg2) ∧ phase5.out V c (Proc.devRef .tc main_arg3) = V c (Proc.devRef .tc main_arg3) ∧ phase5.out V c (Proc.devRef .tc main_arg4) = V c (Proc.devRef .tc main_arg4) :=
  ⟨hold5 V c (b := main_arg0) (by decide) (by decide) (by decide) (by decide) (by decide) (by decide) (by decide) (by decide),
    hold5 V c (b := main_arg1) (by decide) (by decide) (by decide) (by decide) (by decide) (by decide) (by decide) (by decide),
    hold5 V c (b := main_arg2) (by decide) (by decide) (by decide) (by decide) (by decide) (by decide) (by decide) (by decide),
    hold5 V c (b := main_arg3) (by decide) (by decide) (by decide) (by decide) (by decide) (by decide) (by decide) (by decide),
    hold5 V c (b := main_arg4) (by decide) (by decide) (by decide) (by decide) (by decide) (by decide) (by decide) (by decide)⟩

/-- A network's layer on the arguments of a launch. -/
abbrev layerOf (l : Fin 3) (A : Fin 20 → Lane) : Fin 20 → Lane :=
  blayer (wiOf (V c (Proc.devRef .tc main_arg1)) l) (whOf (V c (Proc.devRef .tc main_arg2)) l)
    (bsOf (V c (Proc.devRef .tc main_arg3)) (V c (Proc.devRef .tc main_arg4)) l) A

/-- Layer 1: what its two scans leave, put together. -/
theorem layer0 (A : Fin 20 → Lane) (hA : ∀ t n u, V c (Proc.devRef .tc main_arg0) (ix3 t n u) = A t n u) (t : Fin 20) (n : Fin 1024) (u : Fin 64) :
    after join2 (phase1.out (phase0.out V) c) (Proc.devRef .tc main_v28) (ix3 t n u) = layerOf V c 0 A t n u := by
  obtain ⟨-, a1, a2, a3, a4⟩ := args0 V c
  have f := out0 V c A hA
  have b := out1 (phase0.out V) c A (fun t n u => (congrFun (args0 V c).1 _).trans (hA t n u))
  rw [a1, a2, a3, a4] at b
  refine (join2_apply _ t n u).trans (sides_apply _ _ _ _ (fun t n u => ?_) b t n u)
  exact (congrFun (hold1 (phase0.out V) c (b := main_v12_7) (by decide) (by decide) (by decide) (by decide) (by decide) (by decide) (by decide) (by decide)) (ix3 t n u)).trans (f t n u)

/-- The layer leaves the arguments alone. -/
theorem layerArgs0 : phase1.out (phase0.out V) c (Proc.devRef .tc main_arg0) = V c (Proc.devRef .tc main_arg0) ∧ phase1.out (phase0.out V) c (Proc.devRef .tc main_arg1) = V c (Proc.devRef .tc main_arg1) ∧ phase1.out (phase0.out V) c (Proc.devRef .tc main_arg2) = V c (Proc.devRef .tc main_arg2) ∧ phase1.out (phase0.out V) c (Proc.devRef .tc main_arg3) = V c (Proc.devRef .tc main_arg3) ∧ phase1.out (phase0.out V) c (Proc.devRef .tc main_arg4) = V c (Proc.devRef .tc main_arg4) := by
  obtain ⟨a0, a1, a2, a3, a4⟩ := args0 V c
  obtain ⟨b0, b1, b2, b3, b4⟩ := args1 (phase0.out V) c
  exact ⟨b0.trans a0, b1.trans a1, b2.trans a2, b3.trans a3, b4.trans a4⟩

/-- Layer 2: what its two scans leave, put together. -/
theorem layer1 (A : Fin 20 → Lane) (hA : ∀ t n u, after join2 (V c) (Proc.devRef .tc main_v28) (ix3 t n u) = A t n u) (t : Fin 20) (n : Fin 1024) (u : Fin 64) :
    after join4 (phase3.out (phase2.out V) c) (Proc.devRef .tc main_v57) (ix3 t n u) = layerOf V c 1 A t n u := by
  obtain ⟨-, a1, a2, a3, a4⟩ := args2 V c
  have f := out2 V c A hA
  have b := out3 (phase2.out V) c A (fun t n u => (congrFun (hold2 V c (b := main_v28) (by decide) (by decide) (by decide) (by decide) (by decide) (by decide) (by decide) (by decide) (by decide)) _).trans (hA t n u))
  rw [a1, a2, a3, a4] at b
  refine (join4_apply _ t n u).trans (sides_apply _ _ _ _ (fun t n u => ?_) b t n u)
  exact (congrFun (hold3 (phase2.out V) c (b := main_v41_7) (by decide) (by decide) (by decide) (by decide) (by decide) (by decide) (by decide) (by decide)) (ix3 t n u)).trans (f t n u)

/-- The layer leaves the arguments alone. -/
theorem layerArgs1 : phase3.out (phase2.out V) c (Proc.devRef .tc main_arg0) = V c (Proc.devRef .tc main_arg0) ∧ phase3.out (phase2.out V) c (Proc.devRef .tc main_arg1) = V c (Proc.devRef .tc main_arg1) ∧ phase3.out (phase2.out V) c (Proc.devRef .tc main_arg2) = V c (Proc.devRef .tc main_arg2) ∧ phase3.out (phase2.out V) c (Proc.devRef .tc main_arg3) = V c (Proc.devRef .tc main_arg3) ∧ phase3.out (phase2.out V) c (Proc.devRef .tc main_arg4) = V c (Proc.devRef .tc main_arg4) := by
  obtain ⟨a0, a1, a2, a3, a4⟩ := args2 V c
  obtain ⟨b0, b1, b2, b3, b4⟩ := args3 (phase2.out V) c
  exact ⟨b0.trans a0, b1.trans a1, b2.trans a2, b3.trans a3, b4.trans a4⟩

/-- Layer 3: what its two scans leave, put together. -/
theorem layer2 (A : Fin 20 → Lane) (hA : ∀ t n u, after join4 (V c) (Proc.devRef .tc main_v57) (ix3 t n u) = A t n u) (t : Fin 20) (n : Fin 1024) (u : Fin 64) :
    after join6 (phase5.out (phase4.out V) c) (Proc.devRef .tc main_v86) (ix3 t n u) = layerOf V c 2 A t n u := by
  obtain ⟨-, a1, a2, a3, a4⟩ := args4 V c
  have f := out4 V c A hA
  have b := out5 (phase4.out V) c A (fun t n u => (congrFun (hold4 V c (b := main_v57) (by decide) (by decide) (by decide) (by decide) (by decide) (by decide) (by decide) (by decide) (by decide)) _).trans (hA t n u))
  rw [a1, a2, a3, a4] at b
  refine (join6_apply _ t n u).trans (sides_apply _ _ _ _ (fun t n u => ?_) b t n u)
  exact (congrFun (hold5 (phase4.out V) c (b := main_v70_7) (by decide) (by decide) (by decide) (by decide) (by decide) (by decide) (by decide) (by decide)) (ix3 t n u)).trans (f t n u)

/-- The layer leaves the arguments alone. -/
theorem layerArgs2 : phase5.out (phase4.out V) c (Proc.devRef .tc main_arg0) = V c (Proc.devRef .tc main_arg0) ∧ phase5.out (phase4.out V) c (Proc.devRef .tc main_arg1) = V c (Proc.devRef .tc main_arg1) ∧ phase5.out (phase4.out V) c (Proc.devRef .tc main_arg2) = V c (Proc.devRef .tc main_arg2) ∧ phase5.out (phase4.out V) c (Proc.devRef .tc main_arg3) = V c (Proc.devRef .tc main_arg3) ∧ phase5.out (phase4.out V) c (Proc.devRef .tc main_arg4) = V c (Proc.devRef .tc main_arg4) := by
  obtain ⟨a0, a1, a2, a3, a4⟩ := args4 V c
  obtain ⟨b0, b1, b2, b3, b4⟩ := args5 (phase4.out V) c
  exact ⟨b0.trans a0, b1.trans a1, b2.trans a2, b3.trans a3, b4.trans a4⟩

/-- The states' entries are the network's. -/
theorem net_eq (t : Fin 20) (n : Fin 1024) (u : Fin 64) :
    after join6 (Phases.outs [phase0, phase1, phase2, phase3, phase4, phase5] V c) (Proc.devRef .tc main_v86) (ix3 t n u)
      = bnet (wiOf (V c (Proc.devRef .tc main_arg1))) (whOf (V c (Proc.devRef .tc main_arg2)))
          (bsOf (V c (Proc.devRef .tc main_arg3)) (V c (Proc.devRef .tc main_arg4))) (aOf (V c (Proc.devRef .tc main_arg0))) t n u := by
  obtain ⟨-, a1, a2, a3, a4⟩ := layerArgs0 V c
  obtain ⟨-, b1, b2, b3, b4⟩ := layerArgs1 (phase1.out (phase0.out V)) c
  have l0 := layer0 V c (aOf (V c (Proc.devRef .tc main_arg0))) (fun _ _ _ => rfl)
  have l1 := layer1 (phase1.out (phase0.out V)) c _ l0
  have l2 := layer2 (phase3.out (phase2.out (phase1.out (phase0.out V)))) c _ l1 t n u
  unfold layerOf at l2
  rw [b1, b2, b3, b4, a1, a2, a3, a4] at l2
  exact l2

/-- The network leaves its arguments as they were. -/
theorem argsKept : after join6 (Phases.outs [phase0, phase1, phase2, phase3, phase4, phase5] V c) (Proc.devRef .tc main_arg0) = V c (Proc.devRef .tc main_arg0) ∧ after join6 (Phases.outs [phase0, phase1, phase2, phase3, phase4, phase5] V c) (Proc.devRef .tc main_arg1) = V c (Proc.devRef .tc main_arg1) ∧ after join6 (Phases.outs [phase0, phase1, phase2, phase3, phase4, phase5] V c) (Proc.devRef .tc main_arg2) = V c (Proc.devRef .tc main_arg2) ∧ after join6 (Phases.outs [phase0, phase1, phase2, phase3, phase4, phase5] V c) (Proc.devRef .tc main_arg3) = V c (Proc.devRef .tc main_arg3) ∧ after join6 (Phases.outs [phase0, phase1, phase2, phase3, phase4, phase5] V c) (Proc.devRef .tc main_arg4) = V c (Proc.devRef .tc main_arg4) := by
  obtain ⟨a0, a1, a2, a3, a4⟩ := layerArgs0 V c
  obtain ⟨b0, b1, b2, b3, b4⟩ := layerArgs1 (phase1.out (phase0.out V)) c
  obtain ⟨c0, c1, c2, c3, c4⟩ := layerArgs2 (phase3.out (phase2.out (phase1.out (phase0.out V)))) c
  refine ⟨?_, ?_, ?_, ?_, ?_⟩
  · exact (after_of_writes_sub join6 _ join6_writes (by decide)).trans (c0.trans (b0.trans a0))
  · exact (after_of_writes_sub join6 _ join6_writes (by decide)).trans (c1.trans (b1.trans a1))
  · exact (after_of_writes_sub join6 _ join6_writes (by decide)).trans (c2.trans (b2.trans a2))
  · exact (after_of_writes_sub join6 _ join6_writes (by decide)).trans (c3.trans (b3.trans a3))
  · exact (after_of_writes_sub join6 _ join6_writes (by decide)).trans (c4.trans (b4.trans a4))

end

end Cert.LstmRun

end
-- ==== Proof.LogitSpec.lean ====
/-
  The logits of a network's states, as sums over the extended reals.
-/
module

public import proofs.«01_k».proof.Proof.LstmSpec

@[expose] public section

noncomputable section

namespace Cert.Proof.LogitSpec

open Idealize.ShloMosaic
open Cert.Proof.LstmSpec (Lane)

/-- The row of the weights for voice `v` and note `o`, one of 4000. -/
def feat (v : Fin 4) (o : Fin 1000) : Fin 4000 := ⟨v.val * 1000 + o.val, by omega⟩

/-- The logit of voice `v` and note `o` at step `t` of batch row `n`: that state against the row of the weights, plus the row's
    bias. -/
def logit (h : Fin 20 → Lane) (w : Fin 4000 → Fin 64 → EReal) (b : Fin 4000 → EReal) (n : Fin 1024) (t : Fin 20) (v : Fin 4) (o : Fin 1000) : EReal :=
  (∑ k : Fin 64, h t n k * w (feat v o) k) + b (feat v o)

end Cert.Proof.LogitSpec

end
-- ==== Proof.LogitRef.lean ====
/-
  The reference's run: its result is the logits of the bidirectional network's states.
-/
module

public import proofs.«01_k».proof.Proof.LstmRef
public import proofs.«01_k».proof.Proof.LogitSpec

@[expose] public section

set_option maxRecDepth 16384

noncomputable section

namespace Cert.LstmRun

open Cert.LstmReferenceIdeal Cert.LstmReferenceIdeal.Gen
open Idealize.ShloMosaic Idealize.ShloMosaic.StableHlo Idealize.ShloMosaic.TcCoe
open Cert.Proof.LstmSpec (bnet)
open Cert.Proof.LogitSpec (feat logit)

section
open Idealize.SL Idealize.SL.RA Idealize.SL.BI Idealize.SL.Sem
open Idealize.ShloMosaic.Pipeline (ucRefs sub_ucRefs)

variable {F : FTy → Type} [FloatOps F]

/-! ## The run -/

/-- The main function is its six phases and the last two stretches. -/
theorem main_chain (c : Dev nD) : main (F := F) c = Pipeline.chain
    (([phase0, phase1, phase2, phase3, phase4, phase5] : List (Phases.Phase (pcfgs (F := F)) defs₀ loops)).flatMap Phases.Phase.items
      ++ ([join6, logits] : List _).map fun ops => (seq ops : Prog _ PUnit)) := by
  show (main_part0 c >>= fun _ => main_part1 c >>= fun _ => main_part2 c) = _
  rw [part0_chain, part1_chain, part2_chain, Pipeline.chainK_bind_chain, Pipeline.chainK_bind_chain]
  rfl

/-- The run: every buffer ends as the phases and the last two stretches leave it. -/
theorem run [∀ e, Nonempty (Elt F e)] (m : (ℓ : Loc nD τ sig) → Buf (Elt F) ℓ) (ρ : Dev nD → PrngReg) :
    θ_run (defs (F := F)) (onTc (τ := τ) (main (F := F))) ⟨m, fun _ => 0, ρ⟩
      (fun r => ∀ (c : Dev nD) (b : Ref sig .tc), (Proc.devRef .tc b : DevRef τ sig).isScoped = false →
        r.2.mem ((c.tc : Thread nD τ).loc b)
          = afterL [join6, logits] (Phases.outs [phase0, phase1, phase2, phase3, phase4, phase5] (launchContents m) c) (Proc.devRef .tc b)) :=
  Phases.run_phases main [phase0, phase1, phase2, phase3, phase4, phase5] [join6, logits] (.cons join6_sub (.cons logits_sub .nil)) main_chain m ρ

end

/-- The buffers the last stretch writes. -/
abbrev logits_W : List (Ref sig .tc) := [main_v87, main_v88, main_v89, main_v90, main_v91, main_v92, main_v93]

theorem logits_writes : (logits (F := Ideal)).Forall fun op => op.writes ⊆ (logits_W.map (Proc.devRef (τ := τ) .tc)).toFinset :=
  forall_writes_sub_of_map rfl

/-- What the last stretch does not write is at the end as the network leaves it. -/
theorem logits_hold (X : Valuation τ sig (Elt Ideal)) (b : Ref sig .tc) (h : b ∉ logits_W) :
    afterL [join6, logits] X (Proc.devRef .tc b) = after join6 X (Proc.devRef .tc b) := by
  simp only [afterL_cons, afterL_nil]
  exact after_of_writes_sub logits _ logits_writes h

/-- What it writes it writes over the network's end. -/
theorem logits_last (X : Valuation τ sig (Elt Ideal)) (b : Ref sig .tc) :
    afterL [join6, logits] X (Proc.devRef .tc b) = after logits (after join6 X) (Proc.devRef .tc b) := by
  simp only [afterL_cons, afterL_nil]

/-- The last stretch's result, entry by entry. -/
theorem logits_apply (X : Valuation τ sig (Elt Ideal)) (n : Fin 1024) (t : Fin 20) (v : Fin 4) (o : Fin 1000) :
    after logits X (Proc.devRef .tc main_v93) (ix4 n t v o)
      = logit (fun t n k => X (Proc.devRef .tc main_v86) (ix3 t n k)) (fun j k => X (Proc.devRef .tc main_arg5) (ix2 j k))
          (fun j => X (Proc.devRef .tc main_arg6) (ix1 j)) n t v o := by
  unfold logit
  after_results_simp
  pointwise
  rfl

section
variable (V : Dev nD → Valuation τ sig (Elt Ideal)) (c : Dev nD)

/-- The projection's weights and biases. -/
abbrev heads : List (Ref sig .tc) := [main_arg5, main_arg6]

/-- A scan leaves them as they were. -/
theorem heads0 (b : Ref sig .tc) (hb : b ∈ heads) : phase0.out V c (Proc.devRef .tc b) = V c (Proc.devRef .tc b) :=
  hold0 V c (b := b) ((by decide : ∀ b ∈ heads, b ∉ in0_W) b hb) ((by decide : ∀ b ∈ heads, b ∉ cp0_W) b hb) ((by decide : ∀ b ∈ heads, b ∉ cond0_W) b hb) ((by decide : ∀ b ∈ heads, b ∉ row0_W) b hb) ((by decide : ∀ b ∈ heads, b ∉ gate0_W) b hb) ((by decide : ∀ b ∈ heads, b ∉ cell0_W) b hb) ((by decide : ∀ b ∈ heads, b ∉ put0_W) b hb) ((by decide : ∀ b ∈ heads, b ∉ next0_W) b hb)

theorem heads1 (b : Ref sig .tc) (hb : b ∈ heads) : phase1.out V c (Proc.devRef .tc b) = V c (Proc.devRef .tc b) :=
  hold1 V c (b := b) ((by decide : ∀ b ∈ heads, b ∉ in1_W) b hb) ((by decide : ∀ b ∈ heads, b ∉ cp1_W) b hb) ((by decide : ∀ b ∈ heads, b ∉ cond1_W) b hb) ((by decide : ∀ b ∈ heads, b ∉ row1_W) b hb) ((by decide : ∀ b ∈ heads, b ∉ gate1_W) b hb) ((by decide : ∀ b ∈ heads, b ∉ cell1_W) b hb) ((by decide : ∀ b ∈ heads, b ∉ put1_W) b hb) ((by decide : ∀ b ∈ heads, b ∉ next1_W) b hb)

theorem heads2 (b : Ref sig .tc) (hb : b ∈ heads) : phase2.out V c (Proc.devRef .tc b) = V c (Proc.devRef .tc b) :=
  (hold2 V c (b := b) ((by decide : ∀ b ∈ heads, b ∉ in2a_W) b hb) ((by decide : ∀ b ∈ heads, b ∉ in2b_W) b hb) ((by decide : ∀ b ∈ heads, b ∉ cp2_W) b hb) ((by decide : ∀ b ∈ heads, b ∉ cond2_W) b hb) ((by decide : ∀ b ∈ heads, b ∉ row2_W) b hb) ((by decide : ∀ b ∈ heads, b ∉ gate2_W) b hb) ((by decide : ∀ b ∈ heads, b ∉ cell2_W) b hb) ((by decide : ∀ b ∈ heads, b ∉ put2_W) b hb) ((by decide : ∀ b ∈ heads, b ∉ next2_W) b hb)).trans
    (after_of_writes_sub join2 _ join2_writes ((by decide : ∀ b ∈ heads, b ∉ join2_W) b hb))

theorem heads3 (b : Ref sig .tc) (hb : b ∈ heads) : phase3.out V c (Proc.devRef .tc b) = V c (Proc.devRef .tc b) :=
  hold3 V c (b := b) ((by decide : ∀ b ∈ heads, b ∉ in3_W) b hb) ((by decide : ∀ b ∈ heads, b ∉ cp3_W) b hb) ((by decide : ∀ b ∈ heads, b ∉ cond3_W) b hb) ((by decide : ∀ b ∈ heads, b ∉ row3_W) b hb) ((by decide : ∀ b ∈ heads, b ∉ gate3_W) b hb) ((by decide : ∀ b ∈ heads, b ∉ cell3_W) b hb) ((by decide : ∀ b ∈ heads, b ∉ put3_W) b hb) ((by decide : ∀ b ∈ heads, b ∉ next3_W) b hb)

theorem heads4 (b : Ref sig .tc) (hb : b ∈ heads) : phase4.out V c (Proc.devRef .tc b) = V c (Proc.devRef .tc b) :=
  (hold4 V c (b := b) ((by decide : ∀ b ∈ heads, b ∉ in4a_W) b hb) ((by decide : ∀ b ∈ heads, b ∉ in4b_W) b hb) ((by decide : ∀ b ∈ heads, b ∉ cp4_W) b hb) ((by decide : ∀ b ∈ heads, b ∉ cond4_W) b hb) ((by decide : ∀ b ∈ heads, b ∉ row4_W) b hb) ((by decide : ∀ b ∈ heads, b ∉ gate4_W) b hb) ((by decide : ∀ b ∈ heads, b ∉ cell4_W) b hb) ((by decide : ∀ b ∈ heads, b ∉ put4_W) b hb) ((by decide : ∀ b ∈ heads, b ∉ next4_W) b hb)).trans
    (after_of_writes_sub join4 _ join4_writes ((by decide : ∀ b ∈ heads, b ∉ join4_W) b hb))

theorem heads5 (b : Ref sig .tc) (hb : b ∈ heads) : phase5.out V c (Proc.devRef .tc b) = V c (Proc.devRef .tc b) :=
  hold5 V c (b := b) ((by decide : ∀ b ∈ heads, b ∉ in5_W) b hb) ((by decide : ∀ b ∈ heads, b ∉ cp5_W) b hb) ((by decide : ∀ b ∈ heads, b ∉ cond5_W) b hb) ((by decide : ∀ b ∈ heads, b ∉ row5_W) b hb) ((by decide : ∀ b ∈ heads, b ∉ gate5_W) b hb) ((by decide : ∀ b ∈ heads, b ∉ cell5_W) b hb) ((by decide : ∀ b ∈ heads, b ∉ put5_W) b hb) ((by decide : ∀ b ∈ heads, b ∉ next5_W) b hb)

/-- A layer's two scans leave them as they were. -/
theorem headsA (b : Ref sig .tc) (hb : b ∈ heads) : phase1.out (phase0.out V) c (Proc.devRef .tc b) = V c (Proc.devRef .tc b) :=
  (heads1 (phase0.out V) c b hb).trans (heads0 V c b hb)

theorem headsB (b : Ref sig .tc) (hb : b ∈ heads) : phase3.out (phase2.out V) c (Proc.devRef .tc b) = V c (Proc.devRef .tc b) :=
  (heads3 (phase2.out V) c b hb).trans (heads2 V c b hb)

theorem headsC (b : Ref sig .tc) (hb : b ∈ heads) : phase5.out (phase4.out V) c (Proc.devRef .tc b) = V c (Proc.devRef .tc b) :=
  (heads5 (phase4.out V) c b hb).trans (heads4 V c b hb)

/-- They are at the end of the network as they were. -/
theorem heads_kept (b : Ref sig .tc) (hb : b ∈ heads) :
    after join6 (Phases.outs [phase0, phase1, phase2, phase3, phase4, phase5] V c) (Proc.devRef .tc b) = V c (Proc.devRef .tc b) := by
  have x := headsA V c b hb
  have y := headsB (phase1.out (phase0.out V)) c b hb
  have z := headsC (phase3.out (phase2.out (phase1.out (phase0.out V)))) c b hb
  exact (after_of_writes_sub join6 _ join6_writes ((by decide : ∀ b ∈ heads, b ∉ join6_W) b hb)).trans (z.trans (y.trans x))

end

/-- The run of the reference: its result is the logits of the bidirectional network's states, the arguments are unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩
      (fun r => ∀ c : Dev nD, (∀ n t v o, r.2.mem ((c.tc : Thread nD τ).loc main_v93) (ix4 n t v o)
          = logit (bnet (wiOf (m ((c.tc : Thread nD τ).loc main_arg1))) (whOf (m ((c.tc : Thread nD τ).loc main_arg2)))
              (bsOf (m ((c.tc : Thread nD τ).loc main_arg3)) (m ((c.tc : Thread nD τ).loc main_arg4)))
              (aOf (m ((c.tc : Thread nD τ).loc main_arg0)))) (fun j k => m ((c.tc : Thread nD τ).loc main_arg5) (ix2 j k))
              (fun j => m ((c.tc : Thread nD τ).loc main_arg6) (ix1 j)) n t v o)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)) := by
  refine (θ_run _ _ _).mono (fun r h c => ?_) (run m ρ)
  obtain ⟨k0, k1, k2, k3, k4⟩ := argsKept (launchContents m) c
  have k5 := heads_kept (launchContents m) c main_arg5 (by decide)
  have k6 := heads_kept (launchContents m) c main_arg6 (by decide)
  refine ⟨fun n t v o => ?_, (h c main_arg0 (by decide)).trans ((logits_hold _ main_arg0 (by decide)).trans k0),
    (h c main_arg1 (by decide)).trans ((logits_hold _ main_arg1 (by decide)).trans k1),
    (h c main_arg2 (by decide)).trans ((logits_hold _ main_arg2 (by decide)).trans k2),
    (h c main_arg3 (by decide)).trans ((logits_hold _ main_arg3 (by decide)).trans k3),
    (h c main_arg4 (by decide)).trans ((logits_hold _ main_arg4 (by decide)).trans k4),
    (h c main_arg5 (by decide)).trans ((logits_hold _ main_arg5 (by decide)).trans k5),
    (h c main_arg6 (by decide)).trans ((logits_hold _ main_arg6 (by decide)).trans k6)⟩
  rw [h c main_v93 (by decide), logits_last]
  refine (logits_apply _ n t v o).trans ?_
  rw [k5, k6]
  refine congrArg (fun f => logit f _ _ n t v o) (funext fun t => funext fun n => funext fun k => ?_)
  exact net_eq (launchContents m) c t n k

end Cert.LstmRun

end
-- ==== Proof.LogitValue.lean ====
/-
  What the projection leaves of the states it finds: their logits, entry by entry.
-/
module

public import proofs.«01_k».proof.Proof.LstmFrame
public import proofs.«01_k».proof.Proof.LogitSpec
public import Idealize.ShloMosaic.Lib.Pipeline.ValueKit
public import Idealize.ShloMosaic.Lib.Pointwise

@[expose] public section

set_option maxRecDepth 16384

noncomputable section

namespace Cert.LstmIdeal.Own

open Cert.LstmIdeal Cert.LstmIdeal.Gen
open Idealize.ShloMosaic Idealize.ShloMosaic.StableHlo Idealize.ShloMosaic.TcCoe Idealize.SL.Sem
open Idealize.ShloMosaic.Pipeline (Dat)
open Cert.Proof.LogitSpec (feat logit)

/-- One step's logits from that step's block of hidden states and the regrouped weights and biases. -/
def stepLogit (x0 : FVec Ideal S1x64x1024 .f32) (x1 : FVec Ideal S4x64x1000 .f32) (x2 : FVec Ideal S4x1x1000 .f32) :
    FVec Ideal S1024x1x4x1000 .f32 :=
  fun y => (∑ k : Fin 64, x0 (ix3 0 k (y 0)) * x1 (ix3 (y 2) k (y 3))) + x2 (ix3 (y 2) 0 (y 3))

/-- One stored tile, entry by entry. -/
theorem tile_apply (x0 : FVec Ideal S1x64x1024 .f32) (w : FVec Ideal S1x64x1000 .f32) (b : FVec Ideal S1x1x1000 .f32)
    (y : S1024x1x1x1000.Idx) :
    k1_pay4 (F := Ideal) x0 w b y = (∑ k : Fin 64, x0 (ix3 0 k (y 0)) * w (ix3 0 k (y 3))) + b (ix3 0 0 (y 3)) := by
  idx_vars y
  pointwise [k1_pay4, k1_pay3]

/-- Where a box of unit steps puts an index. -/
theorem unit_idx_val {s : Shape} (off size : Fin s.rank → Nat) (inb) (x : (Rect.unit off size inb).shape.Idx) (a : Fin s.rank) :
    ((Rect.unit off size inb).idx x a : ℕ) = off a + x a :=
  (Rect.emb_apply (Rect.unit off size inb) x a).trans (by show off a + 1 * (x a : ℕ) = _; omega)

/-- The body's stored block is the step's logits. -/
theorem out_eq (x0 : FVec Ideal S1x64x1024 .f32) (x1 : FVec Ideal S4x64x1000 .f32) (x2 : FVec Ideal S4x1x1000 .f32) :
    stored (F := Ideal) x0 x1 x2 = stepLogit x0 x1 x2 := by
  funext y
  unfold stored
  refine View.canon_apply_of_pieces _ _ ?_ y (tiles_cover _ _ _ _ y)
  intro p hp x
  simp only [List.mem_cons, List.not_mem_nil, or_false] at hp
  rcases hp with rfl | rfl | rfl | rfl
  all_goals
    refine (tile_apply _ _ _ x).trans ?_
    refine congrArg₂ (· + ·) (Finset.sum_congr rfl fun k _ => congrArg₂ (· * ·) (congrArg x0 ?_) (congrArg x1 ?_))
      (congrArg x2 ?_)
    all_goals blk_ext [unit_idx_val]

/-- Step `t`'s block of the states is plane `t`, the other operands' blocks the whole arrays, and its block of the result is
    slice `t` of the second axis. -/
theorem where0 : ∀ t : Fin cfg1.N, win1_0.index t = ![(grid1.coords t 0).val, 0, 0] :=
  (by decide +kernel : ∀ t : Fin grid1.N, _)
theorem where1 : ∀ t : Fin cfg1.N, win1_1.index t = ![0, 0, 0] := (by decide +kernel : ∀ t : Fin grid1.N, _)
theorem where2 : ∀ t : Fin cfg1.N, win1_2.index t = ![0, 0, 0] := (by decide +kernel : ∀ t : Fin grid1.N, _)
theorem where3 : ∀ t : Fin cfg1.N, win1_3.index t = ![0, (grid1.coords t 0).val, 0, 0] :=
  (by decide +kernel : ∀ t : Fin grid1.N, _)

/-- The regrouped weights after the second stretch. -/
theorem weights_apply (X : Valuation τ sig (Elt Ideal)) (v : Fin 4) (k : Fin 64) (o : Fin 1000) :
    after hostOps1 X (Proc.devRef .tc main_v571) (ix3 v k o) = X (Proc.devRef .tc main_arg5) (ix2 (feat v o) k) := by
  after_results_simp
  pointwise
  rfl

/-- The regrouped biases after it. -/
theorem biases_apply (X : Valuation τ sig (Elt Ideal)) (v : Fin 4) (o : Fin 1000) :
    after hostOps1 X (Proc.devRef .tc main_v572) (ix3 v 0 o) = X (Proc.devRef .tc main_arg6) (ix1 (feat v o)) := by
  after_results_simp
  pointwise
  rfl

section
variable (Y : (c : Dev nD) → (b : Ref sig .tc) → Buf (Elt Ideal) ((c : Thread nD τ).loc b))

set_option maxHeartbeats 1000000 in
/-- The result array the second call leaves, from what it finds. -/
theorem projected (c : Dev nD) (h : FVec Ideal S20x64x1024 .f32) (w : FVec Ideal S4000x64 .f32) (b : FVec Ideal S4000 .f32)
    (hh : Y c main_v569 = h) (hw : ∀ v k o, Y c main_v571 (ix3 v k o) = w (ix2 (feat v o) k))
    (hb : ∀ v o, Y c main_v572 (ix3 v 0 o) = b (ix1 (feat v o))) :
    (data1 Y c).arrAt 3 cfg1.N = fun y : S1024x20x4x1000.Idx =>
      logit (fun t n k => h (ix3 t k n)) (fun j k => w (ix2 j k)) (fun j => b (ix1 j)) (y 0) (y 1) (y 2) (y 3) := by
  refine (data1 Y c).arrAt_eq_of_covers 3 _ (by decide +kernel) fun t hf y => ?_
  blk_simp
  rw [data1_after3, out_eq]
  have hv : (win1_3.blk t).view.emb y 2 = y 2 := Fin.ext (by blk_simp [where3]; try omega)
  have hn : (win1_3.blk t).view.emb y 3 = y 3 := Fin.ext (by blk_simp [where3]; try omega)
  refine congrArg₂ (· + ·) (Finset.sum_congr rfl fun k _ => congrArg₂ (· * ·) ?_ ?_) ?_
  · blk_simp [jblk]
    rw [← hh]
    refine congrArg (Y c main_v569) ?_
    blk_ext [where0, where3]
  · blk_simp [jblk]
    rw [hv, hn]
    refine Eq.trans (congrArg (Y c main_v571) ?_) (hw (y 2) k (y 3))
    blk_ext [where1]
  · blk_simp [jblk]
    rw [hv, hn]
    refine Eq.trans (congrArg (Y c main_v572) ?_) (hb (y 2) (y 3))
    blk_ext [where2]

end

variable (m : (ℓ : Loc nD τ sig) → Buf (Elt Ideal) ℓ)

/-- The program's result array is the logits of the layers' result. -/
theorem logits_eq (c : Dev nD) (n : Fin 1024) (t : Fin 20) (v : Fin 4) (o : Fin 1000) :
    (data1 (W m) c).arrAt 3 cfg1.N (ix4 n t v o)
      = logit (fun t n k => result (m ((c : Thread nD τ).loc main_arg0)) (V m c main_v564) (V m c main_v568) (ix3 t k n))
          (fun j k => m ((c : Thread nD τ).loc main_arg5) (ix2 j k)) (fun j => m ((c : Thread nD τ).loc main_arg6) (ix1 j)) n t v o :=
  congrFun (projected (W m) c _ (m ((c : Thread nD τ).loc main_arg5)) (m ((c : Thread nD τ).loc main_arg6)) (states_eq m c)
    (fun v k o => (weights_apply (B2 m hostOps0 c) v k o).trans (congrFun (B2_given m hostOps0 (V_given m) c main_arg5 (by decide)) _))
    (fun v o => (biases_apply (B2 m hostOps0 c) v o).trans (congrFun (B2_given m hostOps0 (V_given m) c main_arg6 (by decide)) _))) (ix4 n t v o)

end Cert.LstmIdeal.Own

end
-- ==== Proof.ProjValue.lean ====
/-
  The projection call's result: the logits of its operands, entry by entry, beside the plain product's.
-/
module

public import proofs.«01_k».proof.Proof.Gen.ProjIdeal.Value
public import proofs.«01_k».proof.Proof.Gen.ProjReferenceIdeal.Run
public import Idealize.ShloMosaic.Lib.Pipeline.ValueKit
public import Idealize.ShloMosaic.Lib.Pointwise

@[expose] public section

noncomputable section

namespace Cert.Proof.ProjValue

open Idealize.ShloMosaic Idealize.ShloMosaic.TcCoe Idealize.SL.Sem
open Idealize.ShloMosaic.Pipeline (Dat)

section Plain

open Cert.ProjReferenceIdeal Cert.ProjReferenceIdeal.Gen

/-- The feature index of voice `v` and note `n` among the 4000. -/
def feat (v : Fin 4) (n : Fin 1000) : Fin 4000 := ⟨v.val * 1000 + n.val, by omega⟩

/-- The logits: the hidden state of entry `b` at step `s` against row `v * 1000 + n` of the weights, plus that row's bias. -/
def logit (hs : FVec Ideal S20x64x1024 .f32) (w : FVec Ideal S4000x64 .f32) (b : FVec Ideal S4000 .f32) :
    FVec Ideal S1024x20x4x1000 .f32 :=
  fun y => (∑ k : Fin 64, hs (ix3 (y 1) k (y 0)) * w (ix2 (feat (y 2) (y 3)) k)) + b (ix1 (feat (y 2) (y 3)))

/-- The plain product's term, over the arguments. -/
def plain (hs : FVec Ideal S20x64x1024 .f32) (w : FVec Ideal S4000x64 .f32) (b : FVec Ideal S4000 .f32) :
    FVec Ideal S1024x20x4x1000 .f32 :=
  shapeCast _ (addf (Host.dotGeneral dot_S1024x20x64_S64x4000_S1024x20x4000_2_0_01_1_n_n none
      (transpose S1024x20x64 [2, 0, 1] hs transposes_S20x64x1024_S1024x20x64_2_0_1)
      (transpose S64x4000 [1, 0] w transposes_S4000x64_S64x4000_1_0))
    (broadcastInDim S1024x20x4000 ![0, 1, 2] bcast_S1x1x4000_S1024x20x4000_0_1_2
      (broadcastInDim S1x1x4000 ![2] bcast_S4000_S1x1x4000_2 b))) shapeCasts_S1024x20x4000_S1024x20x4x1000

/-- The plain product, entry by entry. -/
theorem plain_eq (hs : FVec Ideal S20x64x1024 .f32) (w : FVec Ideal S4000x64 .f32) (b : FVec Ideal S4000 .f32) :
    plain hs w b = logit hs w b := by
  funext y
  idx_vars y
  simp only [logit, plain]
  pointwise
  rfl

end Plain

open Cert.ProjIdeal Cert.ProjIdeal.Gen

/-- One step's logits from that step's block of hidden states and the regrouped weights and biases. -/
def stepLogit (x0 : FVec Ideal S1x64x1024 .f32) (x1 : FVec Ideal S4x64x1000 .f32) (x2 : FVec Ideal S4x1x1000 .f32) :
    FVec Ideal S1024x1x4x1000 .f32 :=
  fun y => (∑ k : Fin 64, x0 (ix3 0 k (y 0)) * x1 (ix3 (y 2) k (y 3))) + x2 (ix3 (y 2) 0 (y 3))

/-- One stored tile, entry by entry. -/
theorem tile_apply (x0 : FVec Ideal S1x64x1024 .f32) (w : FVec Ideal S1x64x1000 .f32) (b : FVec Ideal S1x1x1000 .f32)
    (y : S1024x1x1x1000.Idx) :
    k0_pay4 (F := Ideal) x0 w b y = (∑ k : Fin 64, x0 (ix3 0 k (y 0)) * w (ix3 0 k (y 3))) + b (ix3 0 0 (y 3)) := by
  idx_vars y
  pointwise [k0_pay4, k0_pay3]

/-- Where a box of unit steps puts an index. -/
theorem unit_idx_val {s : Shape} (off size : Fin s.rank → Nat) (inb) (x : (Rect.unit off size inb).shape.Idx) (a : Fin s.rank) :
    ((Rect.unit off size inb).idx x a : ℕ) = off a + x a :=
  (Rect.emb_apply (Rect.unit off size inb) x a).trans (by show off a + 1 * (x a : ℕ) = _; omega)

/-- The body's stored block is the step's logits. -/
theorem out_eq (x0 : FVec Ideal S1x64x1024 .f32) (x1 : FVec Ideal S4x64x1000 .f32) (x2 : FVec Ideal S4x1x1000 .f32) :
    out0_3 (F := Ideal) x0 x1 x2 = stepLogit x0 x1 x2 := by
  funext y
  unfold out0_3
  refine View.canon_apply_of_pieces _ _ ?_ y (cover0_3 _ _ _ _ y)
  intro p hp x
  simp only [List.mem_cons, List.not_mem_nil, or_false] at hp
  rcases hp with rfl | rfl | rfl | rfl
  all_goals
    refine (tile_apply _ _ _ x).trans ?_
    refine congrArg₂ (· + ·) (Finset.sum_congr rfl fun k _ => congrArg₂ (· * ·) (congrArg x0 ?_) (congrArg x1 ?_))
      (congrArg x2 ?_)
    all_goals blk_ext [unit_idx_val]

variable (m : (ℓ : Loc nD τ sig) → Buf (Elt Ideal) ℓ)

/-- Step `t`'s block of the hidden states is plane `t`, the other operands' blocks the whole arrays, and its block of the result
    is slice `t` of the second axis. -/
theorem index0 : ∀ t : Fin cfg0.N, win0_0.index t = ![(grid0.coords t 0).val, 0, 0] :=
  (by decide +kernel : ∀ t : Fin grid0.N, _)
theorem index1 : ∀ t : Fin cfg0.N, win0_1.index t = ![0, 0, 0] := (by decide +kernel : ∀ t : Fin grid0.N, _)
theorem index2 : ∀ t : Fin cfg0.N, win0_2.index t = ![0, 0, 0] := (by decide +kernel : ∀ t : Fin grid0.N, _)
theorem index3 : ∀ t : Fin cfg0.N, win0_3.index t = ![0, (grid0.coords t 0).val, 0, 0] :=
  (by decide +kernel : ∀ t : Fin grid0.N, _)

/-- The regrouped weights at the call. -/
theorem weights_eq (c : Dev nD) (v : Fin 4) (k : Fin 64) (n : Fin 1000) :
    V m c main_v1 (ix3 v k n) = m ((c : Thread nD τ).loc main_arg1) (ix2 (feat v n) k) := by
  show StableHlo.after hostOps0 _ _ _ = _
  after_results_simp
  pointwise
  rfl

/-- The regrouped biases at the call. -/
theorem biases_eq (c : Dev nD) (v : Fin 4) (n : Fin 1000) :
    V m c main_v2 (ix3 v 0 n) = m ((c : Thread nD τ).loc main_arg2) (ix1 (feat v n)) := by
  show StableHlo.after hostOps0 _ _ _ = _
  after_results_simp
  pointwise
  rfl

/-- The result array after the run is the logits. -/
theorem final (c : Dev nD) :
    (dats m 0 c).arrAt 3 cfg0.N = logit (m ((c : Thread nD τ).loc main_arg0)) (m ((c : Thread nD τ).loc main_arg1))
      (m ((c : Thread nD τ).loc main_arg2)) := by
  refine (dats m 0 c).arrAt_eq_of_covers 3 _ (by decide +kernel) fun t hf y => ?_
  blk_simp
  rw [after0_3, out_eq]
  have hv : (win0_3.blk t).view.emb y 2 = y 2 := Fin.ext (by blk_simp [index3]; try omega)
  have hn : (win0_3.blk t).view.emb y 3 = y 3 := Fin.ext (by blk_simp [index3]; try omega)
  refine congrArg₂ (· + ·) (Finset.sum_congr rfl fun k _ => congrArg₂ (· * ·) ?_ ?_) ?_
  · blk_simp [iblk]
    rw [V_main_arg0]
    refine congrArg _ ?_
    blk_ext [index0, index3]
  · blk_simp [iblk]
    rw [hv, hn]
    refine Eq.trans (congrArg (V m c main_v1) ?_) (weights_eq m c (y 2) k (y 3))
    blk_ext [index1]
  · blk_simp [iblk]
    rw [hv, hn]
    refine Eq.trans (congrArg (V m c main_v2) ?_) (biases_eq m c (y 2) (y 3))
    blk_ext [index2]

end Cert.Proof.ProjValue

end
-- ==== Proof.Gather.lean ====
/-
  The indirect gather on the SparseCore. Thirty-two tasks, one per vector subcore of the two SparseCores; the task on
  subcore `s` of core `c` is worker `2 * s + c`. It fetches its 2560 row numbers, fetches the table's rows they name,
  and writes them out to its 2560 rows of the result. `rowsOf T I` is what the call leaves: row `k` is the table's row
  `I k`. The call's operands are any contents `T`, `I`, `O` (the host code before it decides them), so the proof is of
  the call alone.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.ValueIdxCore
public import proofs.«01_k».proof.Proof.Gen.KernelIdeal
public import proofs.«01_k».proof.Proof.Gen.KernelIdeal.Skeleton

@[expose] public section

noncomputable section

namespace Cert.Proof.Gather

open Cert.KernelIdeal Cert.KernelIdeal.Gen

open Idealize.ShloMosaic
open Idealize.ShloMosaic.ValueIdx
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-- The handshakes' rounds library. -/
abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The buffers and the workers' parts of them -/

abbrev tLoc (d : Dev nD) : Loc nD τ sig := (SparseCore.T d).loc main_v0
abbrev iLoc (d : Dev nD) : Loc nD τ sig := (SparseCore.T d).loc main_v8
abbrev oLoc (d : Dev nD) : Loc nD τ sig := (SparseCore.T d).loc main_v9

local notation "tV" => (Memref.whole Cert.KernelIdeal.main_v0_scv : Memref Cert.KernelIdeal.sig Kind.scVector Space.hbm Cert.KernelIdeal.S4000x16 EltTy.f32)
local notation "iV" => (Memref.whole Cert.KernelIdeal.main_v8_scv : Memref Cert.KernelIdeal.sig Kind.scVector Space.hbm Cert.KernelIdeal.S81920 EltTy.i32)
local notation "oV" => (Memref.whole Cert.KernelIdeal.main_v9_scv : Memref Cert.KernelIdeal.sig Kind.scVector Space.hbm Cert.KernelIdeal.S81920x16 EltTy.f32)
local notation "sV" => (Memref.whole Cert.KernelIdeal.cc0_scratch0 : Memref Cert.KernelIdeal.sig Kind.scVector Space.vmem Cert.KernelIdeal.S2560 EltTy.i32)
local notation "rV" => (Memref.whole Cert.KernelIdeal.cc0_scratch1 : Memref Cert.KernelIdeal.sig Kind.scVector Space.vmem Cert.KernelIdeal.S2560x16 EltTy.f32)

theorem idiv : 32 ∣ S81920.size 0 := ⟨2560, rfl⟩
theorem odiv : 32 ∣ S81920x16.size 0 := ⟨2560, rfl⟩
abbrev iblk (w : Fin 32) : Rect S81920 := Rect.part (s := S81920) (a₀ := 0) idiv w
abbrev oblk (w : Fin 32) : Rect S81920x16 := Rect.part (s := S81920x16) (a₀ := 0) odiv w
abbrev iSet (w : Fin 32) : Finset S81920.Idx := ((iV).view.slice (iblk w)).set
abbrev oSet (w : Fin 32) : Finset S81920x16.Idx := ((oV).view.slice (oblk w)).set

/-- Worker `w`'s share of the table. -/
abbrev tq (w : Fin 32) : PosShare TreeShare := pieceOf fullShare 32 (by decide) w

/-- Core `c`, subcore `s`: worker `2 * s + c`. -/
def wid (c : Fin 2) (s : Fin 16) : Fin 32 := ⟨2 * s.val + c.val, by omega⟩

/-- The workers are the pairs of a core and a subcore. -/
def widEquiv : Fin 2 × Fin 16 ≃ Fin 32 where
  toFun p := wid p.1 p.2
  invFun w := (⟨w.val % 2, by omega⟩, ⟨w.val / 2, by omega⟩)
  left_inv p := by
    rcases p with ⟨c, s⟩
    simp only [wid, Prod.mk.injEq, Fin.ext_iff]
    omega
  right_inv w := by
    simp only [wid, Fin.ext_iff]
    omega

/-! ## The contents -/

variable (T : (d : Dev nD) → Buf (Elt F) (tLoc d)) (I : (d : Dev nD) → Buf (Elt F) (iLoc d)) (O : (d : Dev nD) → Buf (Elt F) (oLoc d))

/-- What the call leaves in the result: row `k` is the table's row `I k`. -/
def rowsOf (t : S4000x16.Idx → Elt F .f32) (i : S81920.Idx → BitVec 32) : S81920x16.Idx → Elt F .f32 :=
  fun p => t (ix2 (⟨(i (ix1 (p 0 : Fin 81920))).toNat % 4000, Nat.mod_lt _ (by decide)⟩ : Fin 4000) (p 1 : Fin 16))

/-- Every row number names a row of the table. -/
def InTable (I : (d : Dev nD) → Buf (Elt F) (iLoc d)) : Prop := ∀ (d : Dev nD) (j : S81920.Idx), (I d j : BitVec 32).toNat < 4000

abbrev tPts (d : Dev nD) : sProp 𝕄 := tLoc d ↦{fullShare} T d
abbrev iPts (d : Dev nD) : sProp 𝕄 := iLoc d ↦{fullShare} I d
abbrev oPts (d : Dev nD) (f : Buf (Elt F) (oLoc d)) : sProp 𝕄 := oLoc d ↦{fullShare} f
abbrev tShPts (d : Dev nD) (w : Fin 32) : sProp 𝕄 := tLoc d ↦{tq w} T d
abbrev iBlkPts (d : Dev nD) (w : Fin 32) : sProp 𝕄 := iLoc d ↦[iSet w]{fullShare} I d
abbrev oBlkPts (d : Dev nD) (w : Fin 32) (f : Buf (Elt F) (oLoc d)) : sProp 𝕄 := oLoc d ↦[oSet w]{fullShare} f

/-- What worker `w` is handed, … -/
def goP (d : Dev nD) (w : Fin 32) : sProp 𝕄 := iprop(tShPts T d w ∗ iBlkPts I d w ∗ oBlkPts d w (O d))
/-- … and what it brings back: its rows of the result at the gathered rows. -/
def tdP (d : Dev nD) (w : Fin 32) : sProp 𝕄 := iprop(tShPts T d w ∗ iBlkPts I d w ∗ oBlkPts d w (rowsOf (T d) (I d)))

instance goP_storable (d : Dev nD) (w : Fin 32) : BI.Storable (upEmb : UEmb _ 𝕄) (goP T I O d w) := by
  unfold goP; infer_instance
instance tdP_storable (d : Dev nD) (w : Fin 32) : BI.Storable (upEmb : UEmb _ 𝕄) (tdP T I d w) := by
  unfold tdP; infer_instance

/-- The call takes, per core, its sixteen workers' operands, and brings them back. -/
def P : (K (F := F)).Pay (nD := nD) (Val := Elt F) (Name := ℕ) (U := UU) where
  st := fun q d c => match q with | 0 => bigSep Finset.univ fun s : Fin 16 => goP T I O d (wid (Fin.cast nCore_zero c) s)
  dn := fun q d c => match q with | 0 => bigSep Finset.univ fun s : Fin 16 => tdP T I d (wid (Fin.cast nCore_zero c) s)
  go := fun q d c s => match q with | 0 => goP T I O d (wid (Fin.cast nCore_zero c) (Fin.cast nSub_zero s))
  td := fun q d c s => match q with | 0 => tdP T I d (wid (Fin.cast nCore_zero c) (Fin.cast nSub_zero s))
  x := fun _ _ => iprop(emp)

instance P_storable : (P T I O).IsStorable where
  st q d c := match q with
    | 0 => (inferInstance : BI.Storable (upEmb : UEmb _ 𝕄) (bigSep Finset.univ fun s : Fin 16 => goP T I O d (wid (Fin.cast nCore_zero c) s)))
  dn q d c := match q with
    | 0 => (inferInstance : BI.Storable (upEmb : UEmb _ 𝕄) (bigSep Finset.univ fun s : Fin 16 => tdP T I d (wid (Fin.cast nCore_zero c) s)))
  go q d c s := match q with
    | 0 => (inferInstance : BI.Storable (upEmb : UEmb _ 𝕄) (goP T I O d (wid (Fin.cast nCore_zero c) (Fin.cast nSub_zero s))))
  td q d c s := match q with
    | 0 => (inferInstance : BI.Storable (upEmb : UEmb _ 𝕄) (tdP T I d (wid (Fin.cast nCore_zero c) (Fin.cast nSub_zero s))))

variable [FloatOps F]

/-! ## The task -/

section Tile

variable (d : Dev nD) (L : grid0.Coords)

abbrev cV (L : grid0.Coords) : Fin τ.nSC := (L 0).castLE hcore0
abbrev jV (L : grid0.Coords) : Fin τ.nSub := (L 1).castLE hsub0
omit [FloatOps F] in
theorem bound_zero : grid0.bound 0 = 2 := rfl
omit [FloatOps F] in
theorem bound_one : grid0.bound 1 = 16 := rfl
/-- The worker at the call's coordinates. -/
abbrev wL (L : grid0.Coords) : Fin 32 := wid (Fin.cast bound_zero (L 0)) (Fin.cast bound_one (L 1))

/-- The worker's row numbers and its rows of the result as the task addresses them, and all of the table. -/
abbrev iRowK (L : grid0.Coords) : Memref sig .scVector .hbm S2560 .i32 :=
  (iV).slice (Rect.unit (s := S81920) (k0_off1 L) S2560.size (k0_off1_inb L)) (fun _ => rfl)
abbrev oRowK (L : grid0.Coords) : Memref sig .scVector .hbm S2560x16 .f32 :=
  (oV).slice (Rect.unit (s := S81920x16) (k0_off2 L) S2560x16.size (k0_off2_inb L)) (fun _ => rfl)
abbrev tAllK : Memref sig .scVector .hbm S4000x16 .f32 :=
  (tV).slice (Rect.unit (s := S4000x16) ![0, 0] S4000x16.size inb_S4000x16_S4000x16_0_0) (fun _ => rfl)

omit [FloatOps F] in
theorem irow_eq : Rect.unit (s := S81920) (k0_off1 L) S2560.size (k0_off1_inb L) = iblk (wL L) := by
  unfold iblk Rect.part Rect.block
  have h : (wL L).val = 2 * (L 1).val + (L 0).val := rfl
  generalize wL L = w at h ⊢
  congr 1 <;> funext a
  · rw [k0_off1_eq]
    match a with
    | 0 => simp [Shape.partIx, Shape.partSize, h]; omega
  · match a with
    | 0 => simp [Shape.partSize]
omit [FloatOps F] in
theorem orow_eq : Rect.unit (s := S81920x16) (k0_off2 L) S2560x16.size (k0_off2_inb L) = oblk (wL L) := by
  unfold oblk Rect.part Rect.block
  have h : (wL L).val = 2 * (L 1).val + (L 0).val := rfl
  generalize wL L = w at h ⊢
  congr 1 <;> funext a
  · rw [k0_off2_eq]
    match a with
    | 0 => simp [Shape.partIx, Shape.partSize, h]; omega
    | 1 => simp [Shape.partIx, Shape.partSize]
  · match a with
    | 0 => simp [Shape.partSize]
    | 1 => simp [Shape.partSize]

omit [FloatOps F] in
theorem set_iRowK : (iRowK L).view.set = iSet (wL L) := by
  show ((iV).view.slice (Rect.unit (s := S81920) (k0_off1 L) S2560.size (k0_off1_inb L))).set = _
  exact irow_eq L ▸ rfl
omit [FloatOps F] in
theorem set_oRowK : (oRowK L).view.set = oSet (wL L) := by
  show ((oV).view.slice (Rect.unit (s := S81920x16) (k0_off2 L) S2560x16.size (k0_off2_inb L))).set = _
  exact orow_eq L ▸ rfl

omit [FloatOps F] in
theorem pts_iRowK (f : Buf (Elt F) (iLoc d)) :
    ((iRowK L).view.loc (V d (cV L) (jV L)) ↦[(iRowK L).view.set]{fullShare} f : sProp 𝕄) = iLoc d ↦[iSet (wL L)]{fullShare} f := by
  rw [set_iRowK]
omit [FloatOps F] in
theorem pts_oRowK (f : Buf (Elt F) (oLoc d)) :
    ((oRowK L).view.loc (V d (cV L) (jV L)) ↦[(oRowK L).view.set]{fullShare} f : sProp 𝕄) = oLoc d ↦[oSet (wL L)]{fullShare} f := by
  rw [set_oRowK]

omit [FloatOps F] in
/-- The scratch buffers' contents, held as the task's views of them hold them. -/
theorem pts_sV (f : Buf (Elt F) ((V d (cV L) (jV L)).loc cc0_scratch0)) :
    ((sV).view.loc (V d (cV L) (jV L)) ↦[(sV).view.set]{fullShare} f : sProp 𝕄) = (V d (cV L) (jV L)).loc cc0_scratch0 ↦{fullShare} f := by
  rw [show (sV).view.set = Finset.univ from View.set_whole _]
omit [FloatOps F] in
theorem pts_rV (f : Buf (Elt F) ((V d (cV L) (jV L)).loc cc0_scratch1)) :
    ((rV).view.loc (V d (cV L) (jV L)) ↦[(rV).view.set]{fullShare} f : sProp 𝕄) = (V d (cV L) (jV L)).loc cc0_scratch1 ↦{fullShare} f := by
  rw [show (rV).view.set = Finset.univ from View.set_whole _]

omit [FloatOps F] in
theorem whole_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl
omit [FloatOps F] in
theorem whole_rV (f : Buf (Elt F) ((V d (cV L) (jV L)).loc cc0_scratch1)) :
    ((rV).view.loc (V d (cV L) (jV L)) ↦{fullShare} f : sProp 𝕄) = (V d (cV L) (jV L)).loc cc0_scratch1 ↦{fullShare} f := rfl

abbrev cellI (d : Dev nD) (c : Fin τ.nSC) (i : Fin τ.nSub) : GSem nD τ sig := (V d c i, .dma cc0_scoped0.sem)
abbrev cellG (d : Dev nD) (c : Fin τ.nSC) (i : Fin τ.nSub) : GSem nD τ sig := (V d c i, .dma cc0_scratch2.sem)
abbrev cellO (d : Dev nD) (c : Fin τ.nSC) (i : Fin τ.nSub) : GSem nD τ sig := (V d c i, .dma cc0_scoped1.sem)

omit [FloatOps F] in
/-- The subcore's own semaphores: the three transfers' and the others, each at zero. -/
theorem ownSems0_split :
    (ownSems0 (V d (cV L) (jV L)) : sProp 𝕄)
      = iprop(semVal (cellI d (cV L) (jV L)) 0 ∗ semVal (cellG d (cV L) (jV L)) 0 ∗ semVal (cellO d (cV L) (jV L)) 0
          ∗ bigSep ((((ownCells (V d (cV L) (jV L))).erase (cellI d (cV L) (jV L))).erase (cellG d (cV L) (jV L))).erase (cellO d (cV L) (jV L))) fun g => semVal g 0) := by
  unfold SparseCore.Cfg.ownSems0
  rw [SparseCore.bigSep_erase' ((mem_ownCells (g := cellI d (cV L) (jV L))).mpr ⟨rfl, by
      show (SemLoc.dma cc0_scoped0.sem : SemLoc sig).isScoped .scVector = true; decide⟩),
    SparseCore.bigSep_erase' (Finset.mem_erase.mpr ⟨by simp [cellI, cellG]; decide, (mem_ownCells (g := cellG d (cV L) (jV L))).mpr ⟨rfl, by
      show (SemLoc.dma cc0_scratch2.sem : SemLoc sig).isScoped .scVector = true; decide⟩⟩),
    SparseCore.bigSep_erase' (Finset.mem_erase.mpr ⟨by simp [cellG, cellO]; decide, Finset.mem_erase.mpr ⟨by simp [cellI, cellO]; decide,
      (mem_ownCells (g := cellO d (cV L) (jV L))).mpr ⟨rfl, by show (SemLoc.dma cc0_scoped1.sem : SemLoc sig).isScoped .scVector = true; decide⟩⟩⟩)]

omit [FloatOps F] in
/-- The subcore's own buffers: the two scratch buffers and the others, each at some contents. -/
theorem ownBufs_split :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

omit [FloatOps F] in
/-- What the fetch of the row numbers lands: entry `x` is the worker's entry `x` of the list. -/
theorem fetched (fs : Buf (Elt F) ((V d (cV L) (jV L)).loc cc0_scratch0)) (x : S2560.Idx) :
    (sV).view.read (Elt F) (View.write (Elt F) (sV).view fs ((iRowK L).view.read (Elt F) (I d)) Finset.univ) x = I d ((iRowK L).view.emb x) := by
  rw [View.read_write_univ]
  exact (View.read_apply _ _).trans (cast_eq _ _)

omit [FloatOps F] in
/-- The row numbers the gather reads name rows of the table. -/
theorem fetched_lt (hI : InTable I) (fs : Buf (Elt F) ((V d (cV L) (jV L)).loc cc0_scratch0)) (pay : S2560.Idx → Elt F .i32)
    (hpay : pay = (iRowK L).view.read (Elt F) (I d)) :
    ∀ x, ((sV).view.read (Elt F) (View.write (Elt F) (sV).view fs pay Finset.univ) x).toNat < S4000x16.size gathers_S4000x16_S2560x16.axis := by
  subst hpay; intro x
  rw [fetched]
  exact hI d _

omit [FloatOps F] in
/-- Entry `k` of a list of rank one, in row-major order, is the list's element `k`. -/
theorem listed_val (k : Fin S2560.numel) (a : Fin 1) : (S2560.rowMajor.symm k a).val = k.val := by
  have h := congrArg Fin.val (S2560.rowMajor.apply_symm_apply k)
  rw [Shape.rowMajor_val_one] at h
  match a with
  | 0 => exact h

omit [FloatOps F] in
/-- The gathered rows, written out, are the worker's rows of the result. -/
theorem written (hI : InTable I) (fs : Buf (Elt F) ((V d (cV L) (jV L)).loc cc0_scratch0)) (fr : Buf (Elt F) ((V d (cV L) (jV L)).loc cc0_scratch1))
    (pay : S2560.Idx → Elt F .i32) (hpay : pay = (iRowK L).view.read (Elt F) (I d))
    (hn : S2560.numel = S2560x16.size gathers_S4000x16_S2560x16.axis')
    (hin : ∀ x, ((sV).view.read (Elt F) (View.write (Elt F) (sV).view fs pay Finset.univ) x).toNat < S4000x16.size gathers_S4000x16_S2560x16.axis)
    (out : S2560x16.Idx → Elt F .f32)
    (hout : out = (rV).view.read (Elt F) (View.write (Elt F) (rV).view fr (SparseCore.gatherPayload gathers_S4000x16_S2560x16 ((tAllK).view.read (Elt F) (T d))
      (SparseCore.rows ((sV).view.read (Elt F) (View.write (Elt F) (sV).view fs pay Finset.univ)) hn hin)) Finset.univ)) :
    ∀ i ∈ (oRowK L).view.set, (oRowK L).view.writes (Elt F) (O d) [⟨Rect.whole S2560x16, out⟩] i = rowsOf (T d) (I d) i := by
  subst hpay
  intro i hi
  obtain ⟨x, -, rfl⟩ := Finset.mem_map.mp hi
  have hw := View.read_writes_cons_emb (oRowK L).view (O d) (Rect.whole S2560x16) out [] x
  rw [show (Rect.whole S2560x16).emb x = x from funext fun a => Fin.ext (by show 0 + 1 * (x a).val = _; omega), View.read_apply, cast_eq] at hw
  rw [hw, hout, View.read_write_univ]
  unfold SparseCore.gatherPayload rowsOf
  rw [View.read_apply, cast_eq]
  have h0 : (SparseCore.rows ((sV).view.read (Elt F) (View.write (Elt F) (sV).view fs ((iRowK L).view.read (Elt F) (I d)) Finset.univ)) hn hin
      (x gathers_S4000x16_S2560x16.axis')).val = (I d (ix1 ((oRowK L).view.emb x 0 : Fin 81920)) : BitVec 32).toNat % 4000 := by
    rw [Nat.mod_eq_of_lt (hI d _)]
    show ((sV).view.read (Elt F) (View.write (Elt F) (sV).view fs _ Finset.univ) _).toNat = _
    rw [fetched]
    refine congrArg (fun j => (I d j : BitVec 32).toNat) (funext fun a => Fin.ext ?_)
    match a with
    | 0 =>
      have e₁ : k0_off1 L 0 = 5120 * (L 1).val + 2560 * (L 0).val := congrFun (k0_off1_eq L) 0
      have e₂ : k0_off2 L 0 = 5120 * (L 1).val + 2560 * (L 0).val := congrFun (k0_off2_eq L) 0
      show k0_off1 L 0 + 1 * _ = k0_off2 L 0 + 1 * _
      exact congr (congrArg HAdd.hAdd (e₁.trans e₂.symm)) (congrArg (1 * ·) (listed_val _ _))
  refine congrArg (T d) (funext fun a => Fin.ext ?_)
  match a with
  | 0 =>
    refine Eq.trans ?_ h0
    show 0 + 1 * _ = _
    rw [Nat.zero_add, Nat.one_mul]
    exact congrArg Fin.val (gathers_S4000x16_S2560x16.idx_axis _ x)
  | 1 =>
    have e : k0_off2 L 1 = 0 := congrFun (k0_off2_eq L) 1
    show 0 + 1 * _ = k0_off2 L 1 + 1 * (x 1).val
    exact congr (congrArg HAdd.hAdd e.symm) (congrArg (1 * ·) (gathers_S4000x16_S2560x16.idx_of_ne _ x 1 (by decide)))

theorem rows_pos : 0 < S2560x16.numel := Shape.numel_pos fun a => match a with | 0 => (by decide : 0 < 2560) | 1 => (by decide : 0 < 16)

omit [FloatOps F] in
/-- One row counts its 512 bits. -/
theorem row_credit (h : S4000x16.Gathers 0 S2560x16) (j : Fin (S2560x16.size h.axis')) :
    ((rV).slice (S2560x16.rowRect h.axis' j) (S2560x16.stride_rowRect h.axis' j)).view.dmaCredit = 512 := by
  show (∏ a : Fin 2, if a = h.axis' then 1 else S2560x16.size a) * 32 = 512
  rw [show h.axis' = (0 : Fin 2) from rfl, Fin.prod_univ_two, if_pos rfl, if_neg (by decide)]
  rfl

omit [FloatOps F] in
/-- The row buffer counts its 2560 rows. -/
theorem buffer_credit : (rV).view.dmaCredit = 2560 * 512 := by
  show (∏ a : Fin 2, S2560x16.size a) * 32 = 2560 * 512
  rw [Fin.prod_univ_two, show S2560x16.size (0 : Fin 2) = 2560 from rfl, show S2560x16.size (1 : Fin 2) = 16 from rfl]; norm_num

omit [FloatOps F] in
theorem rows_credit (h : S4000x16.Gathers 0 S2560x16) :
    ∑ j, ((rV).slice (S2560x16.rowRect h.axis' j) (S2560x16.stride_rowRect h.axis' j)).view.dmaCredit = (rV).view.dmaCredit := by
  rw [Finset.sum_congr rfl fun j _ => row_credit h j, buffer_credit, Finset.sum_const, smul_eq_mul, Finset.card_univ]
  rw [show Fintype.card (Fin (S2560x16.size h.axis')) = 2560 from Fintype.card_fin _]

set_option maxHeartbeats 4000000 in
/-- The task at coordinates `L`: the fetch of the row numbers and its wait, the gather and its wait, the write-out and
    its wait. The gather's row numbers are in range by `hI`. -/
theorem tile_body (hF : (K (F := F)).Facts) (hI : InTable I) (Ow : CellTallies nD τ sig (HIx 1)) (W : Waits sig (HIx 1)) (hO : ∀ g, Ow g none = 0) :
    iprop(levAts (K (F := F)).L (K (F := F)).lev ∗ emp ∗ goP T I O d (wL L)
        ∗ scopedBufs (V d (cV L) (jV L)) ∗ scopedSems0 (V d (cV L) (jV L)) ∗ owes (V d (cV L) (jV L)) Ow W)
      ⊢ wp frame (wpE (defs₀ (F := F)) 𝒱₀ (V d (cV L) (jV L)) none) Set.univ
          (cc0_k L tV (Memref.isWhole_whole _) iV (Memref.isWhole_whole _) oV (Memref.isWhole_whole _)
            sV (Memref.isWhole_whole _) rV (Memref.isWhole_whole _) cc0_scratch2 cc0_scoped0 cc0_scoped1)
          fun _ => iprop(tdP T I d (wL L)
            ∗ scopedBufs (V d (cV L) (jV L)) ∗ scopedSems0 (V d (cV L) (jV L))
            ∗ ∃ W', ⌜∀ p ∈ W', p ∈ W ∨ p.2 = none⌝ ∗ owes (V d (cV L) (jV L)) Ow W') := by
  simp only [cc0_k_eq_skeleton]; unfold cc0_k_skel goP tdP
  rw [(K (F := F)).scopedBufs_V hF d (cV L) (jV L), SparseCore.Cfg.scopedSems0_V (Val := Elt F) d (cV L) (jV L), ownSems0_split, ownBufs_split]
  iintro ⟨#Hlv, -, ⟨Ht, Hi, Ho⟩, ⟨⟨%fs, Hs⟩, ⟨%fr, Hr⟩, Hbufs⟩, ⟨HsemI, HsemG, HsemO, Hsems⟩, HO⟩
  ihave Hmw := (show levAts (K (F := F)).L (K (F := F)).lev ⊢ Transfers.MayWaits (V d (cV L) (jV L)) (default : HIx 1) Ow from
    (K (F := F)).mayWaits_none (thr := V d (cV L) (jV L)) hO) $$ Hlv
  ihave Hi := (Entails.of_eq (pts_iRowK (F := F) d L _).symm) $$ Hi
  ihave Ho := (Entails.of_eq (pts_oRowK (F := F) d L _).symm) $$ Ho
  ihave Ht := (Entails.of_eq (show (tLoc d ↦{tq (wL L)} T d : sProp 𝕄) = (tV).view.loc (V d (cV L) (jV L)) ↦{tq (wL L)} T d from rfl)) $$ Ht
  ihave Hs := (Entails.of_eq (show ((V d (cV L) (jV L)).loc cc0_scratch0 ↦{fullShare} fs : sProp 𝕄) = (sV).view.loc (V d (cV L) (jV L)) ↦{fullShare} fs from rfl)) $$ Hs
  ihave Hr := (Entails.of_eq (show ((V d (cV L) (jV L)).loc cc0_scratch1 ↦{fullShare} fr : sProp 𝕄) = (rV).view.loc (V d (cV L) (jV L)) ↦{fullShare} fr from rfl)) $$ Hr
  sl_exec
  -- the gather: the tile hands in its share of the table, the row buffer, the list of row numbers and the cell at zero
  ihave Hts := (pointsTo_split_subset (q := tq (wL L)) (f := T d) (S := Finset.univ) (Finset.subset_univ (tAllK).view.set)).1 $$ Ht
  icases Hts with ⟨Hts, Htr⟩
  ihave Hr := (Entails.of_eq (pts_rV (F := F) d L fr).symm) $$ Hr
  ihave Hs := (Entails.of_eq (pts_sV (F := F) d L (View.write (Elt F) (sV).view fs (tile_body.sl.dma0 I d L) Finset.univ)).symm) $$ Hs
  iapply (SparseCore.wp_indirectGatherLocal countersEmb 𝒱₀ (V d (cV L) (jV L)) none (hg := gathers_S4000x16_S2560x16) (default : HIx 1)
      (rV).view.dmaCredit (rows_credit _) rows_pos (fetched_lt I d L hI fs _ rfl)) $$ [Hts Hr Hs HsemG]
  · isplitl [Hts]; · iexact Hts
    isplitl [Hr]; · iexact Hr
    isplitl [Hs]; · iexact Hs
    iexact HsemG
  iintro Hfl
  sl_exec
  -- its wait: the row buffer holds the gathered rows; the share of the table and the list are back
  iapply (Transfers.wp_waitLocalO countersEmb 𝒱₀ (V d (cV L) (jV L)) none (default : HIx 1) (rfl : (rV).view.dmaCredit = _)) $$ [Hfl HO]
  · isplitl [Hfl]; · iexact Hfl
    isplitl [HO]; · iexact HO
    iapply (Transfers.MayWaits.elim (SemLoc.dma cc0_scratch2.sem)) $$ Hmw
  iintro ⟨⟨Hr, Hts, Hs⟩, HsemG, HO⟩
  ihave Ht := (pointsTo_split_subset (q := tq (wL L)) (f := T d) (S := Finset.univ) (Finset.subset_univ (tAllK).view.set)).2 $$ [Hts Htr]
  · isplitl [Hts] <;> iassumption
  ihave Hr := (Entails.of_eq ((pts_rV (F := F) d L _).trans (whole_rV (F := F) d L _).symm)) $$ Hr
  ihave Hs := (Entails.of_eq ((pts_sV (F := F) d L _).trans (whole_sV (F := F) d L _).symm)) $$ Hs
  sl_exec
  sl_step
  isplitl [Ht Hi Ho]
  · isplitl [Ht]; · iexact Ht
    isplitl [Hi]; · iapply (Entails.of_eq (pts_iRowK (F := F) d L _)); iexact Hi
    iapply (Entails.of_eq (pts_oRowK (F := F) d L _))
    iapply (Entails.of_eq (pointsTo_congr (written T I O d L hI fs fr _ rfl cc0_k_skel._proof_8 (fetched_lt I d L hI fs _ rfl) (tile_body.sl.dma0_1 T I d L hI fs fr) rfl)))
    iexact Ho
  isplitl [Hs Hr Hbufs]
  · isplitl [Hs]; · iexists _; iexact Hs
    isplitl [Hr]; · iexists _; iexact Hr
    iexact Hbufs
  isplitl [HsemI HsemG HsemO Hsems]
  · isplitl [HsemI]; · iexact HsemI
    isplitl [HsemG]; · iexact HsemG
    isplitl [HsemO]; · iexact HsemO
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-! ## The obligation -/

/-- The grid's point of a core and a subcore. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_k (coordsV c s)
          tV (Memref.isWhole_whole _) iV (Memref.isWhole_whole _) oV (Memref.isWhole_whole _)
          sV (Memref.isWhole_whole _) rV (Memref.isWhole_whole _) cc0_scratch2 cc0_scoped0 cc0_scoped1) ⟨⟩ c s := rfl

omit [FloatOps F] in
theorem obl_post {thr : Thread nD τ} {A B C : sProp 𝕄} {Ow : CellTallies nD τ sig (HIx 1)} {W : Waits sig (HIx 1)} {q : Fin 1} :
    iprop(A ∗ B ∗ C ∗ ∃ W', ⌜∀ p ∈ W', p ∈ W ∨ p.2 = none⌝ ∗ owes thr Ow W')
      ⊢ iprop(A ∗ B ∗ C ∗ ∃ W', ⌜∀ p ∈ W', p ∈ W ∨ p.2 = none ∨ p.2 = some q⌝ ∗ owes thr Ow W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hI : InTable I) : (K (F := F)).TileObl (D (F := F)) 𝒱 (P T I O) v₀ 0 := by
  intro d c i Ow W hO _ _
  simp only [show (P T I O).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body T I O d (coordsV ⟨_, hci.1⟩ ⟨_, hci.2⟩) hF hI Ow W hO).trans (wp_mono frame _ _ fun _ => obl_post)

end Tile

/-! ## The operands split among the workers, and join -/

omit [FloatOps F] in
theorem bigSep_tasks (Φ : Fin 16 → sProp 𝕄) :
    (bigSep Finset.univ fun s : Fin ((K (F := F)).nSub 0) => Φ (Fin.cast nSub_zero s)) = bigSep Finset.univ Φ :=
  bigSep_congr fun _ _ => congrArg Φ (Fin.ext rfl)
omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)
omit [FloatOps F] in
/-- What every worker of every core holds is what every worker holds. -/
theorem bigSep_workers (Φ : Fin 32 → sProp 𝕄) :
    (bigSep Finset.univ fun c : Fin 2 => bigSep Finset.univ fun s : Fin 16 => Φ (wid c s)) = bigSep Finset.univ Φ := by
  rw [bigSep_univ_equiv widEquiv Φ, bigSep_univ_prod]; rfl

/-- A core's operands are its tasks'. -/
theorem vecSplit : (K (F := F)).VecSplit' (P T I O) 0 := by
  intro d c
  show (bigSep Finset.univ fun s : Fin 16 => goP T I O d (wid (Fin.cast nCore_zero c) s)) ⊢ |={Set.univ}=> iprop(
      (bigSep Finset.univ fun s : Fin ((K (F := F)).nSub 0) => goP T I O d (wid (Fin.cast nCore_zero c) (Fin.cast nSub_zero s)))
      ∗ ((bigSep Finset.univ fun s : Fin ((K (F := F)).nSub 0) => tdP T I d (wid (Fin.cast nCore_zero c) (Fin.cast nSub_zero s)))
          -∗ bigSep Finset.univ fun s : Fin 16 => tdP T I d (wid (Fin.cast nCore_zero c) s)))
  rw [bigSep_tasks (F := F) (fun s => goP T I O d (wid (Fin.cast nCore_zero c) s)),
    bigSep_tasks (F := F) (fun s => tdP T I d (wid (Fin.cast nCore_zero c) s))]
  iintro H; imodintro
  isplitl [H]; · iexact H
  iintro H; iexact H

omit [FloatOps F] in
theorem iSet_eq (w : Fin 32) : iSet w = (iblk w).set := by
  show ((View.whole (main_v8_scv : Ref sig .scVector)).slice (iblk w)).set = _
  rw [View.set_slice]; exact Finset.map_refl
omit [FloatOps F] in
theorem oSet_eq (w : Fin 32) : oSet w = (oblk w).set := by
  show ((View.whole (main_v9_scv : Ref sig .scVector)).slice (oblk w)).set = _
  rw [View.set_slice]; exact Finset.map_refl

omit [FloatOps F] in
theorem iPts_parts (d : Dev nD) (f : Buf (Elt F) (iLoc d)) :
    (iLoc d ↦{fullShare} f : sProp 𝕄) = bigSep Finset.univ fun w : Fin 32 => iLoc d ↦[iSet w]{fullShare} f := by
  rw [← pointsTo_biUnion Finset.univ (ℓ := iLoc d) iSet (fun w _ v _ h => by rw [iSet_eq, iSet_eq]; exact Rect.part_disjoint idiv h),
    (Finset.biUnion_congr rfl fun w _ => iSet_eq w).trans (Rect.biUnion_part idiv)]; try rfl
omit [FloatOps F] in
theorem oPts_parts (d : Dev nD) (f : Buf (Elt F) (oLoc d)) :
    (oLoc d ↦{fullShare} f : sProp 𝕄) = bigSep Finset.univ fun w : Fin 32 => oLoc d ↦[oSet w]{fullShare} f := by
  rw [← pointsTo_biUnion Finset.univ (ℓ := oLoc d) oSet (fun w _ v _ h => by rw [oSet_eq, oSet_eq]; exact Rect.part_disjoint odiv h),
    (Finset.biUnion_congr rfl fun w _ => oSet_eq w).trans (Rect.biUnion_part odiv)]; try rfl
omit [FloatOps F] in
theorem tPts_parts (d : Dev nD) (f : Buf (Elt F) (tLoc d)) :
    (tLoc d ↦{fullShare} f : sProp 𝕄) = bigSep Finset.univ fun w : Fin 32 => tLoc d ↦{tq w} f :=
  pointsTo_piecesOf Finset.univ f (by decide) fullShare

/-- The whole operands are what the cores take; … -/
theorem st_eq (d : Dev nD) :
    (bigSep Finset.univ fun c : Fin ((K (F := F)).nCore 0) => (P T I O).st 0 d c) = iprop(tPts T d ∗ iPts I d ∗ oPts d (O d)) := by
  show (bigSep Finset.univ fun c : Fin ((K (F := F)).nCore 0) => bigSep Finset.univ fun s : Fin 16 => goP T I O d (wid (Fin.cast nCore_zero c) s)) = _
  rw [bigSep_cores (F := F) (fun c => bigSep Finset.univ fun s : Fin 16 => goP T I O d (wid c s)), bigSep_workers]
  unfold goP tPts iPts oPts
  rw [bigSep_sep', bigSep_sep', tPts_parts, iPts_parts, oPts_parts]
/-- … and what they bring back is the operands whole, the result at the gathered rows. -/
theorem dn_eq (d : Dev nD) :
    (bigSep Finset.univ fun c : Fin ((K (F := F)).nCore 0) => (P T I O).dn 0 d c) = iprop(tPts T d ∗ iPts I d ∗ oPts d (rowsOf (T d) (I d))) := by
  show (bigSep Finset.univ fun c : Fin ((K (F := F)).nCore 0) => bigSep Finset.univ fun s : Fin 16 => tdP T I d (wid (Fin.cast nCore_zero c) s)) = _
  rw [bigSep_cores (F := F) (fun c => bigSep Finset.univ fun s : Fin 16 => tdP T I d (wid c s)), bigSep_workers]
  unfold tdP tPts iPts oPts
  rw [bigSep_sep', bigSep_sep', tPts_parts, iPts_parts, oPts_parts]

end Cert.Proof.Gather

end
-- ==== Proof.Run.lean ====
/-
  The program's run. The host operations before the call compute the table and the row numbers; the call leaves the
  gathered rows; every other array is as the host operations left it. `run_main`: the run ends with the result at
  `rowsOf` of the table and the row numbers, the arguments unchanged, every semaphore at zero.
-/
module

public import proofs.«01_k».proof.Proof.Gather
public import Idealize.ShloMosaic.Lib.Pipeline.Frame

@[expose] public section

noncomputable section

namespace Cert.Proof.Run

open Cert.KernelIdeal Cert.KernelIdeal.Gen Cert.Proof.Gather

open Idealize.ShloMosaic
open Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (ucRefs unscopedBufs_held)

variable {F : FTy → Type}

local notation "𝕄" => MT nD τ sig (HIx 1) (Elt F) ℕ UU ℕ

variable [FloatOps F]
variable (m : (ℓ : Loc nD τ sig) → Buf (Elt F) ℓ) (ρ : Dev nD → PrngReg)

/-- The host operations before the call. -/
abbrev hostOps : List (HloOp τ sig (Elt F)) := [
  StableHlo.nary ![main_arg1, main_arg2, main_arg3, main_arg4] main_v0 (fun u => (concatenate S4000x16 0 [⟨S1000x16, (u 0 : (⟨S1000x16, .f32⟩ : BufTy).Contents (Elt F))⟩, ⟨S1000x16, (u 1 : (⟨S1000x16, .f32⟩ : BufTy).Contents (Elt F))⟩, ⟨S1000x16, (u 2 : (⟨S1000x16, .f32⟩ : BufTy).Contents (Elt F))⟩, ⟨S1000x16, (u 3 : (⟨S1000x16, .f32⟩ : BufTy).Contents (Elt F))⟩] concatenates_S1000x16_S1000x16_S1000x16_S1000x16_S4000x16_d0 : (⟨S4000x16, .f32⟩ : BufTy).Contents (Elt F))),
  StableHlo.nullary main_v1 (iotaInDim S4 32 0),
  StableHlo.nullary main_c (constantI S_ 32 1000#32),
  StableHlo.unary main_c main_v2 (broadcastInDim S4 ![] bcast_S_S4 : (⟨S_, .i32⟩ : BufTy).Contents (Elt F) → (⟨S4, .i32⟩ : BufTy).Contents (Elt F)),
  StableHlo.binary main_v1 main_v2 main_v3 (muli : (⟨S4, .i32⟩ : BufTy).Contents (Elt F) → (⟨S4, .i32⟩ : BufTy).Contents (Elt F) → (⟨S4, .i32⟩ : BufTy).Contents (Elt F)),
  StableHlo.unary main_arg0 main_v4 ((transpose S20x1024x4 [1, 0, 2] · transposes_S1024x20x4_S20x1024x4_1_0_2) : (⟨S1024x20x4, .i32⟩ : BufTy).Contents (Elt F) → (⟨S20x1024x4, .i32⟩ : BufTy).Contents (Elt F)),
  StableHlo.unary main_v3 main_v5 (broadcastInDim S1x1x4 ![2] bcast_S4_S1x1x4_2 : (⟨S4, .i32⟩ : BufTy).Contents (Elt F) → (⟨S1x1x4, .i32⟩ : BufTy).Contents (Elt F)),
  StableHlo.unary main_v5 main_v6 (broadcastInDim S20x1024x4 ![0, 1, 2] bcast_S1x1x4_S20x1024x4_0_1_2 : (⟨S1x1x4, .i32⟩ : BufTy).Contents (Elt F) → (⟨S20x1024x4, .i32⟩ : BufTy).Contents (Elt F)),
  StableHlo.binary main_v4 main_v6 main_v7 (addi : (⟨S20x1024x4, .i32⟩ : BufTy).Contents (Elt F) → (⟨S20x1024x4, .i32⟩ : BufTy).Contents (Elt F) → (⟨S20x1024x4, .i32⟩ : BufTy).Contents (Elt F)),
  StableHlo.reshape main_v7 main_v8 (rfl : (.i32 : EltTy) = .i32) shapeCasts_S20x1024x4_S81920]

theorem main_eq (d : Dev nD) : main (F := F) d = StableHlo.seq hostOps >>= fun _ => sc.run d 0 := rfl

theorem ops_sub : ∀ op ∈ (hostOps : List (HloOp τ sig (Elt F))), op.bufs ⊆ StableHlo.tcRefs τ sig := by
  simp only [List.forall_mem_cons, StableHlo.nary_bufs_sub, StableHlo.nullary_bufs_sub, StableHlo.unary_bufs_sub, StableHlo.binary_bufs_sub,
    StableHlo.reshape_bufs_sub, true_and]
  exact fun _ h => nomatch h
theorem ops_fresh : ∀ op ∈ (hostOps : List (HloOp τ sig (Elt F))), op.fresh = ∅ := by
  intro _ h; (repeat (cases h with | head => rfl | tail _ h => ?_)); exact nomatch h

/-- The arrays' contents when the call starts, … -/
abbrev V₁ (d : Dev nD) : Valuation τ sig (Elt F) := StableHlo.after hostOps (StableHlo.launchContents m d)
/-- … the table and the row numbers among them, … -/
def tbl (d : Dev nD) : Buf (Elt F) (tLoc d) := V₁ m d (Proc.devRef .tc main_v0)
def idx (d : Dev nD) : Buf (Elt F) (iLoc d) := V₁ m d (Proc.devRef .tc main_v8)
def old (d : Dev nD) : Buf (Elt F) (oLoc d) := V₁ m d (Proc.devRef .tc main_v9)
/-- … and when it has ended. -/
def V₂ (d : Dev nD) : Valuation τ sig (Elt F) :=
  Function.update (V₁ m d) (Proc.devRef .tc main_v9) (rowsOf (F := F) (tbl m d) (idx m d))

theorem V₂_ne (d : Dev nD) (r : Ref sig .tc) (h : r ≠ main_v9) : V₂ m d (Proc.devRef .tc r) = V₁ m d (Proc.devRef .tc r) :=
  Function.update_of_ne (StableHlo.devRef_ne_of_ne h) _ _
theorem V₂_table (d : Dev nD) : V₂ m d (Proc.devRef .tc main_v0) = tbl m d := V₂_ne m d _ (by decide)
theorem V₂_rows (d : Dev nD) : V₂ m d (Proc.devRef .tc main_v8) = idx m d := V₂_ne m d _ (by decide)
theorem V₂_result (d : Dev nD) : V₂ m d (Proc.devRef .tc main_v9) = rowsOf (F := F) (tbl m d) (idx m d) := Function.update_self _ _ _

/-- The call's three arrays. -/
abbrev three : Finset (DevRef τ sig) := {Proc.devRef .tc main_v0, Proc.devRef .tc main_v8, Proc.devRef .tc main_v9}

omit [FloatOps F] in
theorem held_three (d : Dev nD) (W : Valuation τ sig (Elt F)) :
    (StableHlo.held (T d) three W : sProp 𝕄)
      = iprop((tLoc d ↦{fullShare} W (Proc.devRef .tc main_v0)) ∗ (iLoc d ↦{fullShare} W (Proc.devRef .tc main_v8)) ∗ oLoc d ↦{fullShare} W (Proc.devRef .tc main_v9)) := by
  unfold StableHlo.held three
  rw [SparseCore.bigSep_insert' (by decide), SparseCore.bigSep_insert' (by decide), bigSep_singleton]

omit [FloatOps F] in
theorem held_split (d : Dev nD) (W : Valuation τ sig (Elt F)) :
    (StableHlo.held (T d) (ucRefs τ sig) W : sProp 𝕄)
      = iprop(((tLoc d ↦{fullShare} W (Proc.devRef .tc main_v0)) ∗ (iLoc d ↦{fullShare} W (Proc.devRef .tc main_v8)) ∗ oLoc d ↦{fullShare} W (Proc.devRef .tc main_v9))
          ∗ StableHlo.held (T d) (ucRefs τ sig \ three) W) := by
  rw [StableHlo.held_sub_split (T d) (T := three) (by decide) W, held_three]

theorem held_rest (d : Dev nD) :
    (StableHlo.held (T d) (ucRefs τ sig \ three) (V₁ m d) : sProp 𝕄) = StableHlo.held (T d) (ucRefs τ sig \ three) (V₂ m d) :=
  StableHlo.held_congr _ fun b hb => by
    have hne : b ≠ Proc.devRef .tc main_v9 := fun e => (Finset.mem_sdiff.mp hb).2 (e ▸ by decide)
    exact (Function.update_of_ne hne _ _).symm

abbrev FIN (d : Dev nD) : sProp 𝕄 := StableHlo.held (T d) (ucRefs τ sig) (V₂ m d)

abbrev Pm : (K (F := F)).Pay (nD := nD) (Val := Elt F) (Name := ℕ) (U := UU) := P (tbl m) (idx m) (old m)

omit [FloatOps F] in
/-- The launch's arrays, as the host operations hold them. -/
theorem launch_held (d : Dev nD) :
    (unscopedBufs d (fun b => m ((SparseCore.T d).loc b)) : sProp 𝕄) = StableHlo.held (T d) (ucRefs τ sig) (StableHlo.launchContents m d) :=
  unscopedBufs_held (Ix := HIx 1) (Name := ℕ) (U := UU) (Lvl := ℕ) d (StableHlo.launchContents m d)

/-- @main on device `d`'s TensorCore. -/
theorem hmain (κ : GSem nD τ sig → ℕ) (d : Dev nD) :
    iprop((K (F := F)).ctx EH (Pm m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, launch_held]
  iintro ⟨#Hctx, Hst, ⟨Hb, Hbufs, Hts, -⟩, -⟩
  iapply (StableHlo.wp_seq 𝒱 none Set.univ d (ucRefs τ sig) (fun _ => sc.run d 0) hostOps (fun op h => Pipeline.sub_ucRefs op (ops_sub op h)) ops_fresh (StableHlo.launchContents m d)) $$ [Hb Hbufs]
  · isplitl [Hb]; · iexact Hb
    iexact Hbufs
  iintro ⟨Hb, Hbufs⟩
  ihave H := (Entails.of_eq (held_split d (V₁ m d))) $$ Hbufs
  icases H with ⟨H, Hrest⟩
  iapply ((K (F := F)).wp_run (D (F := F)) 𝒱 (EH := EH) (P := Pm m) κ d 0) $$ [-]
  isplitr; · iexact Hctx
  isplitl [Hst]; · iexact Hst
  isplitl [H]
  · rw [st_eq]; iexact H
  iintro ⟨Hst, Hdn⟩
  ihave Hdn := (Entails.of_eq (dn_eq (tbl m) (idx m) (old m) d)) $$ Hdn
  isplitl [Hst]; · iexact Hst
  isplitr [Hb Hts]
  · rw [FIN, held_split, ← held_rest]
    isplitl [Hdn]
    · rw [V₂_table, V₂_rows, V₂_result]; iexact Hdn
    iexact Hrest
  isplitl [Hb] <;> iassumption

/-! ## The run -/

def fq (d : Dev nD) (s' : Phys nD τ sig (Elt F)) : Prop := ∀ r : Ref sig .tc, r.isScoped = false → s'.mem.mem ((SparseCore.T d).loc r) = V₂ m d (Proc.devRef .tc r)

theorem hfin (d : Dev nD) (s' : Phys nD τ sig (Elt F)) : iprop(FIN m d ∗ SI s') ⊢ (⌜fq m d s'⌝ : sProp 𝕄) := by
  unfold FIN StableHlo.held
  iintro ⟨H, HSI⟩
  ihave %h := (SI_pointsTo_bufs_agree (qs := fun _ => fullShare) (ucRefs τ sig)) $$ [HSI H]
  · isplitl [HSI]; · iexact HSI
    iexact H
  ipureintro
  exact fun r hr => h _ (Finset.mem_filter.mpr ⟨StableHlo.devRef_mem_tcRefs r, by rw [show (Proc.devRef .tc r : DevRef τ sig).isScoped = r.isScoped from rfl, hr]; exact Bool.false_ne_true⟩)

/-- The launch's ghost state: the handshakes' rounds, no transfer in flight. -/
def u₀ : UU := (initOf (K (F := F)).hsCells (K (F := F)).hsToks, 1)

omit [FloatOps F] in
theorem bigSep_nothing {J : Type} (s : Finset J) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (Pm m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_nothing]; iempintro
  rw [show (bigSep Finset.univ fun thr : Thread nD τ => bigSep Finset.univ fun q : Fin 1 => (Pm (F := F) m).x q thr) = bigSep Finset.univ fun _ => iprop(emp) from
    bigSep_congr fun _ _ => bigSep_univ_of_subsingleton (0 : Fin 1), bigSep_nothing]
  iempintro

/-- Where every row number names a row of the table, the run ends with every array as `V₂` has it and every semaphore
    at zero. -/
theorem run_main [∀ e, Nonempty (Elt F e)] (hI : InTable (F := F) (idx m)) :
    θ_run (defs (F := F)) (threads (F := F)) ⟨m, fun _ => 0, ρ⟩
      fun r => (∀ d : Dev nD, ∀ b : Ref sig .tc, b.isScoped = false → r.2.mem ((SparseCore.T d).loc b) = V₂ m d (Proc.devRef .tc b)) ∧ r.2.sem = fun _ => 0 :=
  SparseCore.Cfg.θ_run_sc_quiescent (K := K (F := F)) (D := D (F := F)) (𝒱 := 𝒱) (EH := EH) (P := Pm m) (A := ∅) facts v₀
    (fun q hq => match q with | 0 => nomatch hq)
    (fun q _ => match q with | 0 => tileObl (tbl m) (idx m) (old m) facts hI)
    (fun q _ => match q with | 0 => SparseCore.Cfg.VecSplit.of_plain (vecSplit (tbl m) (idx m) (old m)))
    m ρ main (fun _ => iprop(emp)) (FIN m) (u₀ (F := F)) (sep_elim_left.trans (hu₀ m)) (hmain m ρ) (fq m) (hfin m) _ (fun _ h hz => ⟨h, hz⟩)

end Cert.Proof.Run

end
-- ==== Proof.Value.lean ====
/-
  The values at an index: the table's row, the row numbers, the reference's rows, and their equality under the
  precondition.
-/
module

public import proofs.«01_k».proof.Proof.Run
public import proofs.«01_k».proof.Proof.Gen.ReferenceIdeal.Run
public import proofs.«01_k».proof.Proof.Gen.Pre_in_range
public import Idealize.ShloMosaic.Lib.StableHlo.ReadAt
public import Idealize.ShloMosaic.Lib.ReduceAll
public import Idealize.ShloMosaic.Lib.Affine
public import Idealize.ShloMosaic.Lib.WordCmp
public import Idealize.ShloMosaic.Lib.Routing.OpsPair

@[expose] public section

noncomputable section

namespace Cert.Proof.Value

open Cert.KernelIdeal Cert.KernelIdeal.Gen
open Idealize.ShloMosaic
open Cert.Proof.Gather (rowsOf InTable)
open Cert.Proof.Run (tbl idx)

variable {F : FTy → Type} [FloatOps F]
variable (m : (ℓ : Loc nD τ sig) → Buf (Elt F) ℓ)

/-! ## The precondition -/

/-- Every note is below 1000. -/
def InRange (x : IVec S1024x20x4 32) : Prop := ∀ j, (x j).toNat < 1000

theorem lt_of_word (v : BitVec 32) (e : IntOp.andi (IntOp.cmpi .sge v 0#32) (IntOp.cmpi .slt v 1000#32) = 1#1) : v.toNat < 1000 := by
  simp only [IntOp.cmpi, WordCmp.andi_ofBool, WordCmp.ofBool_eq_one_iff, Bool.and_eq_true, BitVec.sle_eq_decide, BitVec.slt_eq_decide, decide_eq_true_eq,
    BitVec.toInt_eq_toNat_cond, BitVec.toNat_ofNat, Nat.reducePow, Nat.reduceMod] at e
  omega

theorem inRange_of_pre (x : IVec S1024x20x4 32) (e₁ e₂ e₃ e₄ : FVec F S1000x16 .f32)
    (h : Cert.Pre_in_range.fn (F := F) x e₁ e₂ e₃ e₄ = fun _ => 1#1) : InRange x := by
  intro j
  have h0 := congrFun h ix0
  dsimp only [Cert.Pre_in_range.fn] at h0
  have h1 := Host.reduce_andi_all _ _ _ _ _ h0 j
  exact lt_of_word _ h1

/-! ## The table and the row numbers at an index -/

theorem tbl_apply (d : Dev nD) (r : Fin 4000) (c : Fin 16) :
    tbl m d (ix2 r c) = (if h : r.val < 1000 then m ((SparseCore.T d).loc main_arg1) (ix2 ⟨r.val, h⟩ c)
      else if h : r.val - 1000 < 1000 then m ((SparseCore.T d).loc main_arg2) (ix2 ⟨r.val - 1000, h⟩ c)
      else if h : r.val - 1000 - 1000 < 1000 then m ((SparseCore.T d).loc main_arg3) (ix2 ⟨r.val - 1000 - 1000, h⟩ c)
      else m ((SparseCore.T d).loc main_arg4) (ix2 ⟨r.val - 1000 - 1000 - 1000, by omega⟩ c)) := by
  unfold tbl
  after_reads_at

theorem idx_apply (d : Dev nD) (k : Fin 81920) :
    idx m d (ix1 k) = IntOp.addi (m ((SparseCore.T d).loc main_arg0) (ix3 ⟨k.val / 4 % 1024, by omega⟩ ⟨k.val / 4096, by omega⟩ ⟨k.val % 4, by omega⟩))
      (IntOp.muli (BitVec.ofNat 32 (k.val % 4)) 1000#32) := by
  unfold idx
  after_reads_at

theorem idx_toNat (d : Dev nD) (hx : InRange (m ((SparseCore.T d).loc main_arg0))) (k : Fin 81920) :
    (idx m d (ix1 k)).toNat
      = (m ((SparseCore.T d).loc main_arg0) (ix3 ⟨k.val / 4 % 1024, by omega⟩ ⟨k.val / 4096, by omega⟩ ⟨k.val % 4, by omega⟩)).toNat + 1000 * (k.val % 4) := by
  rw [idx_apply]
  have := hx (ix3 ⟨k.val / 4 % 1024, by omega⟩ ⟨k.val / 4096, by omega⟩ ⟨k.val % 4, by omega⟩)
  simp only [IntOp.addi, IntOp.muli, BitVec.toNat_add, BitVec.toNat_mul, BitVec.toNat_ofNat]
  have : k.val % 4 < 4 := by omega
  omega

theorem inTable (hx : ∀ d : Dev nD, InRange (m ((SparseCore.T d).loc main_arg0))) : InTable (F := F) (idx m) := by
  intro d j
  obtain ⟨k, rfl⟩ : ∃ k : Fin 81920, j = ix1 k := ⟨j 0, eq_ix1 j⟩
  rw [idx_toNat m d (hx d)]
  have := hx d (ix3 ⟨k.val / 4 % 1024, by omega⟩ ⟨k.val / 4096, by omega⟩ ⟨k.val % 4, by omega⟩)
  omega

/-- The rows gathered: row `k` is of table `k % 4`, at the note of batch `k / 4 % 1024` and step `k / 4096`. -/
def specAt (x : IVec S1024x20x4 32) (e : Fin 4 → FVec F S1000x16 .f32) (hx : InRange x) (k : Fin 81920) (c : Fin 16) : F .f32 :=
  e ⟨k.val % 4, by omega⟩ (ix2 ⟨(x (ix3 ⟨k.val / 4 % 1024, by omega⟩ ⟨k.val / 4096, by omega⟩ ⟨k.val % 4, by omega⟩)).toNat, hx _⟩ c)

/-- The row of the four tables on one another, at a note of one of them. -/
theorem pick (e₁ e₂ e₃ e₄ : FVec F S1000x16 .f32) (q w : ℕ) (hq : q < 4) (hw : w < 1000) (r : ℕ) (hr : r = w + 1000 * q) (hr4 : r < 4000) (c : Fin 16) :
    (if h : r < 1000 then e₁ (ix2 ⟨r, h⟩ c)
      else if h : r - 1000 < 1000 then e₂ (ix2 ⟨r - 1000, h⟩ c)
      else if h : r - 1000 - 1000 < 1000 then e₃ (ix2 ⟨r - 1000 - 1000, h⟩ c)
      else e₄ (ix2 ⟨r - 1000 - 1000 - 1000, by omega⟩ c)) = (![e₁, e₂, e₃, e₄] : Fin 4 → FVec F S1000x16 .f32) ⟨q, hq⟩ (ix2 ⟨w, hw⟩ c) := by
  subst hr
  interval_cases q
  · rw [dif_pos (by omega)]; rfl
  · rw [dif_neg (by omega), dif_pos (by omega)]; exact congrArg (fun z => e₂ (ix2 z c)) (Fin.ext (by dsimp only; omega))
  · rw [dif_neg (by omega), dif_neg (by omega), dif_pos (by omega)]; exact congrArg (fun z => e₃ (ix2 z c)) (Fin.ext (by dsimp only; omega))
  · rw [dif_neg (by omega), dif_neg (by omega), dif_neg (by omega)]; exact congrArg (fun z => e₄ (ix2 z c)) (Fin.ext (by dsimp only; omega))

theorem rows_apply (d : Dev nD) (hx : InRange (m ((SparseCore.T d).loc main_arg0))) (k : Fin 81920) (c : Fin 16) :
    rowsOf (F := F) (tbl m d) (idx m d) (ix2 k c)
      = specAt (m ((SparseCore.T d).loc main_arg0))
          ![m ((SparseCore.T d).loc main_arg1), m ((SparseCore.T d).loc main_arg2), m ((SparseCore.T d).loc main_arg3), m ((SparseCore.T d).loc main_arg4)] hx k c := by
  have hk := idx_toNat m d hx k
  have hlt := hx (ix3 ⟨k.val / 4 % 1024, by omega⟩ ⟨k.val / 4096, by omega⟩ ⟨k.val % 4, by omega⟩)
  have e : rowsOf (F := F) (tbl m d) (idx m d) (ix2 k c) = tbl m d (ix2 ⟨(idx m d (ix1 k)).toNat % 4000, Nat.mod_lt _ (by decide)⟩ c) := rfl
  rw [e, tbl_apply]
  exact pick _ _ _ _ _ _ _ hlt _ (show (idx m d (ix1 k)).toNat % 4000 = _ by omega) (Nat.mod_lt _ (by decide)) c

/-! ## The reference's rows at an index -/

/-- Rows of a table at one-word start indices: the row is the word, read signed and held in the table. -/
theorem gather_rows (e : FVec F S1000x16 .f32) (i : IVec Cert.ReferenceIdeal.S1024x20x1 32) (b : Fin 1024) (t : Fin 20) (c : Fin 16) :
    Host.gather Cert.ReferenceIdeal.gather_S1000x16_S1024x20x1_S1024x20x16_2_0_n_n_0_2_116 e i (ix3 b t c)
      = e (ix2 ⟨min (i (ix3 b t 0)).toInt.toNat 999, by omega⟩ c) := by
  unfold Host.gather
  congr 1
  funext a
  refine Fin.ext ?_
  show GatherDims.start _ _ _ _ + GatherDims.batchCoord _ _ _ + GatherDims.offCoord _ _ _ = _
  have hb : GatherDims.batchCoord Cert.ReferenceIdeal.gather_S1000x16_S1024x20x1_S1024x20x16_2_0_n_n_0_2_116 (ix3 b t c) a = 0 :=
    GatherDims.batchCoord_eq_zero _ _ _ (fun h => nomatch h)
  rw [hb]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ Cert.ReferenceIdeal.gather_S1000x16_S1024x20x1_S1024x20x16_2_0_n_n_0_2_116.startIndexMap from List.mem_singleton.mpr rfl)]
    have hsi : Cert.ReferenceIdeal.gather_S1000x16_S1024x20x1_S1024x20x16_2_0_n_n_0_2_116.siIdx (ix3 b t c) ⟨List.idxOf (0 : Fin 2) Cert.ReferenceIdeal.gather_S1000x16_S1024x20x1_S1024x20x16_2_0_n_n_0_2_116.startIndexMap,
        List.idxOf_lt_length_iff.2 (List.mem_singleton.mpr rfl)⟩ = ix3 b t 0 := by
      funext b'; refine Fin.ext ?_
      match b' with
      | ⟨0, _⟩ => rfl
      | ⟨1, _⟩ => rfl
      | ⟨2, _⟩ => rfl
    exact congrArg (fun z => min (i z).toInt.toNat 999) hsi
  · have hs : GatherDims.start Cert.ReferenceIdeal.gather_S1000x16_S1024x20x1_S1024x20x16_2_0_n_n_0_2_116 (ix3 b t c) i 1 = 0 := by
      unfold GatherDims.start
      exact dif_neg (fun h => absurd (List.mem_singleton.mp h) (by decide))
    rw [hs]
    simp only [Nat.zero_add, Nat.add_zero]
    unfold GatherDims.offCoord
    rw [dif_pos (show (1 : Fin 2) ∈ Cert.ReferenceIdeal.gather_S1000x16_S1024x20x1_S1024x20x16_2_0_n_n_0_2_116.sKept from (GatherDims.mem_sKept _ _).mpr ⟨fun h => absurd (List.mem_singleton.mp h) (by decide), fun h => nomatch h⟩)]
    rfl

/-- A note in range is its own row: not negative, below 1000. -/
theorem note_row (w : BitVec 32) (h : w.toNat < 1000) :
    min (Scalar.select (IntOp.cmpi .slt w 0#32) (IntOp.addi w 1000#32) w).toInt.toNat 999 = w.toNat := by
  rw [Idealize.ShloMosaic.Routing.wrap_of_lt w _ (by omega), BitVec.toInt_eq_toNat_of_lt (by omega)]
  omega

theorem looked_0 (x : IVec S1024x20x4 32) (hx : InRange x) (e : FVec F S1000x16 .f32) (b : Fin 1024) (t : Fin 20) (c : Fin 16) :
    (Host.gather Cert.ReferenceIdeal.gather_S1000x16_S1024x20x1_S1024x20x16_2_0_n_n_0_2_116 e (broadcastInDim Cert.ReferenceIdeal.S1024x20x1 ![0, 1] Cert.ReferenceIdeal.Gen.bcast_S1024x20_S1024x20x1_0_1 (select (cmpi .slt (shapeCast Cert.ReferenceIdeal.S1024x20 (extractStridedSlice Cert.ReferenceIdeal.S1024x20x1 ![0, 0, 0] x Cert.ReferenceIdeal.Gen.slices_S1024x20x4_S1024x20x1_0_0_0) Cert.ReferenceIdeal.Gen.shapeCasts_S1024x20x1_S1024x20) (broadcastInDim Cert.ReferenceIdeal.S1024x20 ![] Cert.ReferenceIdeal.Gen.bcast_S_S1024x20 (constantI Cert.ReferenceIdeal.S_ 32 0#32))) (addi (shapeCast Cert.ReferenceIdeal.S1024x20 (extractStridedSlice Cert.ReferenceIdeal.S1024x20x1 ![0, 0, 0] x Cert.ReferenceIdeal.Gen.slices_S1024x20x4_S1024x20x1_0_0_0) Cert.ReferenceIdeal.Gen.shapeCasts_S1024x20x1_S1024x20) (broadcastInDim Cert.ReferenceIdeal.S1024x20 ![] Cert.ReferenceIdeal.Gen.bcast_S_S1024x20 (constantI Cert.ReferenceIdeal.S_ 32 1000#32))) (shapeCast Cert.ReferenceIdeal.S1024x20 (extractStridedSlice Cert.ReferenceIdeal.S1024x20x1 ![0, 0, 0] x Cert.ReferenceIdeal.Gen.slices_S1024x20x4_S1024x20x1_0_0_0) Cert.ReferenceIdeal.Gen.shapeCasts_S1024x20x1_S1024x20)))) (ix3 b t c)
      = e (ix2 ⟨(x (ix3 b t 0)).toNat, hx _⟩ c) := by
  rw [gather_rows]
  congr 2
  apply Fin.ext
  dsimp only
  pointwise
  exact note_row _ (hx _)

theorem looked_1 (x : IVec S1024x20x4 32) (hx : InRange x) (e : FVec F S1000x16 .f32) (b : Fin 1024) (t : Fin 20) (c : Fin 16) :
    (Host.gather Cert.ReferenceIdeal.gather_S1000x16_S1024x20x1_S1024x20x16_2_0_n_n_0_2_116 e (broadcastInDim Cert.ReferenceIdeal.S1024x20x1 ![0, 1] Cert.ReferenceIdeal.Gen.bcast_S1024x20_S1024x20x1_0_1 (select (cmpi .slt (shapeCast Cert.ReferenceIdeal.S1024x20 (extractStridedSlice Cert.ReferenceIdeal.S1024x20x1 ![0, 0, 1] x Cert.ReferenceIdeal.Gen.slices_S1024x20x4_S1024x20x1_0_0_1) Cert.ReferenceIdeal.Gen.shapeCasts_S1024x20x1_S1024x20) (broadcastInDim Cert.ReferenceIdeal.S1024x20 ![] Cert.ReferenceIdeal.Gen.bcast_S_S1024x20 (constantI Cert.ReferenceIdeal.S_ 32 0#32))) (addi (shapeCast Cert.ReferenceIdeal.S1024x20 (extractStridedSlice Cert.ReferenceIdeal.S1024x20x1 ![0, 0, 1] x Cert.ReferenceIdeal.Gen.slices_S1024x20x4_S1024x20x1_0_0_1) Cert.ReferenceIdeal.Gen.shapeCasts_S1024x20x1_S1024x20) (broadcastInDim Cert.ReferenceIdeal.S1024x20 ![] Cert.ReferenceIdeal.Gen.bcast_S_S1024x20 (constantI Cert.ReferenceIdeal.S_ 32 1000#32))) (shapeCast Cert.ReferenceIdeal.S1024x20 (extractStridedSlice Cert.ReferenceIdeal.S1024x20x1 ![0, 0, 1] x Cert.ReferenceIdeal.Gen.slices_S1024x20x4_S1024x20x1_0_0_1) Cert.ReferenceIdeal.Gen.shapeCasts_S1024x20x1_S1024x20)))) (ix3 b t c)
      = e (ix2 ⟨(x (ix3 b t 1)).toNat, hx _⟩ c) := by
  rw [gather_rows]
  congr 2
  apply Fin.ext
  dsimp only
  pointwise
  exact note_row _ (hx _)

theorem looked_2 (x : IVec S1024x20x4 32) (hx : InRange x) (e : FVec F S1000x16 .f32) (b : Fin 1024) (t : Fin 20) (c : Fin 16) :
    (Host.gather Cert.ReferenceIdeal.gather_S1000x16_S1024x20x1_S1024x20x16_2_0_n_n_0_2_116 e (broadcastInDim Cert.ReferenceIdeal.S1024x20x1 ![0, 1] Cert.ReferenceIdeal.Gen.bcast_S1024x20_S1024x20x1_0_1 (select (cmpi .slt (shapeCast Cert.ReferenceIdeal.S1024x20 (extractStridedSlice Cert.ReferenceIdeal.S1024x20x1 ![0, 0, 2] x Cert.ReferenceIdeal.Gen.slices_S1024x20x4_S1024x20x1_0_0_2) Cert.ReferenceIdeal.Gen.shapeCasts_S1024x20x1_S1024x20) (broadcastInDim Cert.ReferenceIdeal.S1024x20 ![] Cert.ReferenceIdeal.Gen.bcast_S_S1024x20 (constantI Cert.ReferenceIdeal.S_ 32 0#32))) (addi (shapeCast Cert.ReferenceIdeal.S1024x20 (extractStridedSlice Cert.ReferenceIdeal.S1024x20x1 ![0, 0, 2] x Cert.ReferenceIdeal.Gen.slices_S1024x20x4_S1024x20x1_0_0_2) Cert.ReferenceIdeal.Gen.shapeCasts_S1024x20x1_S1024x20) (broadcastInDim Cert.ReferenceIdeal.S1024x20 ![] Cert.ReferenceIdeal.Gen.bcast_S_S1024x20 (constantI Cert.ReferenceIdeal.S_ 32 1000#32))) (shapeCast Cert.ReferenceIdeal.S1024x20 (extractStridedSlice Cert.ReferenceIdeal.S1024x20x1 ![0, 0, 2] x Cert.ReferenceIdeal.Gen.slices_S1024x20x4_S1024x20x1_0_0_2) Cert.ReferenceIdeal.Gen.shapeCasts_S1024x20x1_S1024x20)))) (ix3 b t c)
      = e (ix2 ⟨(x (ix3 b t 2)).toNat, hx _⟩ c) := by
  rw [gather_rows]
  congr 2
  apply Fin.ext
  dsimp only
  pointwise
  exact note_row _ (hx _)

theorem looked_3 (x : IVec S1024x20x4 32) (hx : InRange x) (e : FVec F S1000x16 .f32) (b : Fin 1024) (t : Fin 20) (c : Fin 16) :
    (Host.gather Cert.ReferenceIdeal.gather_S1000x16_S1024x20x1_S1024x20x16_2_0_n_n_0_2_116 e (broadcastInDim Cert.ReferenceIdeal.S1024x20x1 ![0, 1] Cert.ReferenceIdeal.Gen.bcast_S1024x20_S1024x20x1_0_1 (select (cmpi .slt (shapeCast Cert.ReferenceIdeal.S1024x20 (extractStridedSlice Cert.ReferenceIdeal.S1024x20x1 ![0, 0, 3] x Cert.ReferenceIdeal.Gen.slices_S1024x20x4_S1024x20x1_0_0_3) Cert.ReferenceIdeal.Gen.shapeCasts_S1024x20x1_S1024x20) (broadcastInDim Cert.ReferenceIdeal.S1024x20 ![] Cert.ReferenceIdeal.Gen.bcast_S_S1024x20 (constantI Cert.ReferenceIdeal.S_ 32 0#32))) (addi (shapeCast Cert.ReferenceIdeal.S1024x20 (extractStridedSlice Cert.ReferenceIdeal.S1024x20x1 ![0, 0, 3] x Cert.ReferenceIdeal.Gen.slices_S1024x20x4_S1024x20x1_0_0_3) Cert.ReferenceIdeal.Gen.shapeCasts_S1024x20x1_S1024x20) (broadcastInDim Cert.ReferenceIdeal.S1024x20 ![] Cert.ReferenceIdeal.Gen.bcast_S_S1024x20 (constantI Cert.ReferenceIdeal.S_ 32 1000#32))) (shapeCast Cert.ReferenceIdeal.S1024x20 (extractStridedSlice Cert.ReferenceIdeal.S1024x20x1 ![0, 0, 3] x Cert.ReferenceIdeal.Gen.slices_S1024x20x4_S1024x20x1_0_0_3) Cert.ReferenceIdeal.Gen.shapeCasts_S1024x20x1_S1024x20)))) (ix3 b t c)
      = e (ix2 ⟨(x (ix3 b t 3)).toNat, hx _⟩ c) := by
  rw [gather_rows]
  congr 2
  apply Fin.ext
  dsimp only
  pointwise
  exact note_row _ (hx _)

/-- The entry of four arrays beside one another, at a place in one of them. -/
theorem pick₂ (A B C D : FVec F Cert.ReferenceIdeal.S1024x20x16 .f32) (b : Fin 1024) (t : Fin 20) (q r : ℕ) (c : Fin 16) (hr : r = q * 16 + c.val) (hq : q < 4) :
    (if h : r < 16 then A (ix3 b t ⟨r, h⟩) else if h : r - 16 < 16 then B (ix3 b t ⟨r - 16, h⟩)
      else if h : r - 16 - 16 < 16 then C (ix3 b t ⟨r - 16 - 16, h⟩) else D (ix3 b t ⟨r - 16 - 16 - 16, by omega⟩))
      = (![A, B, C, D] : Fin 4 → FVec F Cert.ReferenceIdeal.S1024x20x16 .f32) ⟨q, hq⟩ (ix3 b t c) := by
  subst hr
  interval_cases q
  · rw [dif_pos (by omega)]; exact congrArg (fun z => A (ix3 b t z)) (Fin.ext (by dsimp only; omega))
  · rw [dif_neg (by omega), dif_pos (by omega)]; exact congrArg (fun z => B (ix3 b t z)) (Fin.ext (by dsimp only; omega))
  · rw [dif_neg (by omega), dif_neg (by omega), dif_pos (by omega)]; exact congrArg (fun z => C (ix3 b t z)) (Fin.ext (by dsimp only; omega))
  · rw [dif_neg (by omega), dif_neg (by omega), dif_neg (by omega)]; exact congrArg (fun z => D (ix3 b t z)) (Fin.ext (by dsimp only; omega))

/-- Four arrays side by side, their first two axes exchanged, read as rows of 16. -/
theorem beside (A B C D : FVec F Cert.ReferenceIdeal.S1024x20x16 .f32) (k : Fin 81920) (c : Fin 16) :
    shapeCast Cert.ReferenceIdeal.S81920x16 (transpose Cert.ReferenceIdeal.S20x1024x64 [1, 0, 2] ((concatenate Cert.ReferenceIdeal.S1024x20x64 2 [⟨Cert.ReferenceIdeal.S1024x20x16, A⟩, ⟨Cert.ReferenceIdeal.S1024x20x16, B⟩, ⟨Cert.ReferenceIdeal.S1024x20x16, C⟩, ⟨Cert.ReferenceIdeal.S1024x20x16, D⟩] Cert.ReferenceIdeal.Gen.concatenates_S1024x20x16_S1024x20x16_S1024x20x16_S1024x20x16_S1024x20x64_d2 : FVec F Cert.ReferenceIdeal.S1024x20x64 .f32)) Cert.ReferenceIdeal.Gen.transposes_S1024x20x64_S20x1024x64_1_0_2) Cert.ReferenceIdeal.Gen.shapeCasts_S20x1024x64_S81920x16 (ix2 k c)
      = (![A, B, C, D] : Fin 4 → FVec F Cert.ReferenceIdeal.S1024x20x16 .f32) ⟨k.val % 4, by omega⟩ (ix3 ⟨k.val / 4 % 1024, by omega⟩ ⟨k.val / 4096, by omega⟩ c) := by
  pointwise
  exact pick₂ A B C D ⟨k.val / 4 % 1024, by omega⟩ ⟨k.val / 4096, by omega⟩ _ _ c rfl (Nat.mod_lt k.val (by decide))

/-- The four lookups, by number. -/
theorem looked (x : IVec S1024x20x4 32) (hx : InRange x) (e₁ e₂ e₃ e₄ : FVec F S1000x16 .f32) (b : Fin 1024) (t : Fin 20) (c : Fin 16) (q : Fin 4) :
    (![(Host.gather Cert.ReferenceIdeal.gather_S1000x16_S1024x20x1_S1024x20x16_2_0_n_n_0_2_116 e₁ (broadcastInDim Cert.ReferenceIdeal.S1024x20x1 ![0, 1] Cert.ReferenceIdeal.Gen.bcast_S1024x20_S1024x20x1_0_1 (select (cmpi .slt (shapeCast Cert.ReferenceIdeal.S1024x20 (extractStridedSlice Cert.ReferenceIdeal.S1024x20x1 ![0, 0, 0] x Cert.ReferenceIdeal.Gen.slices_S1024x20x4_S1024x20x1_0_0_0) Cert.ReferenceIdeal.Gen.shapeCasts_S1024x20x1_S1024x20) (broadcastInDim Cert.ReferenceIdeal.S1024x20 ![] Cert.ReferenceIdeal.Gen.bcast_S_S1024x20 (constantI Cert.ReferenceIdeal.S_ 32 0#32))) (addi (shapeCast Cert.ReferenceIdeal.S1024x20 (extractStridedSlice Cert.ReferenceIdeal.S1024x20x1 ![0, 0, 0] x Cert.ReferenceIdeal.Gen.slices_S1024x20x4_S1024x20x1_0_0_0) Cert.ReferenceIdeal.Gen.shapeCasts_S1024x20x1_S1024x20) (broadcastInDim Cert.ReferenceIdeal.S1024x20 ![] Cert.ReferenceIdeal.Gen.bcast_S_S1024x20 (constantI Cert.ReferenceIdeal.S_ 32 1000#32))) (shapeCast Cert.ReferenceIdeal.S1024x20 (extractStridedSlice Cert.ReferenceIdeal.S1024x20x1 ![0, 0, 0] x Cert.ReferenceIdeal.Gen.slices_S1024x20x4_S1024x20x1_0_0_0) Cert.ReferenceIdeal.Gen.shapeCasts_S1024x20x1_S1024x20)))), (Host.gather Cert.ReferenceIdeal.gather_S1000x16_S1024x20x1_S1024x20x16_2_0_n_n_0_2_116 e₂ (broadcastInDim Cert.ReferenceIdeal.S1024x20x1 ![0, 1] Cert.ReferenceIdeal.Gen.bcast_S1024x20_S1024x20x1_0_1 (select (cmpi .slt (shapeCast Cert.ReferenceIdeal.S1024x20 (extractStridedSlice Cert.ReferenceIdeal.S1024x20x1 ![0, 0, 1] x Cert.ReferenceIdeal.Gen.slices_S1024x20x4_S1024x20x1_0_0_1) Cert.ReferenceIdeal.Gen.shapeCasts_S1024x20x1_S1024x20) (broadcastInDim Cert.ReferenceIdeal.S1024x20 ![] Cert.ReferenceIdeal.Gen.bcast_S_S1024x20 (constantI Cert.ReferenceIdeal.S_ 32 0#32))) (addi (shapeCast Cert.ReferenceIdeal.S1024x20 (extractStridedSlice Cert.ReferenceIdeal.S1024x20x1 ![0, 0, 1] x Cert.ReferenceIdeal.Gen.slices_S1024x20x4_S1024x20x1_0_0_1) Cert.ReferenceIdeal.Gen.shapeCasts_S1024x20x1_S1024x20) (broadcastInDim Cert.ReferenceIdeal.S1024x20 ![] Cert.ReferenceIdeal.Gen.bcast_S_S1024x20 (constantI Cert.ReferenceIdeal.S_ 32 1000#32))) (shapeCast Cert.ReferenceIdeal.S1024x20 (extractStridedSlice Cert.ReferenceIdeal.S1024x20x1 ![0, 0, 1] x Cert.ReferenceIdeal.Gen.slices_S1024x20x4_S1024x20x1_0_0_1) Cert.ReferenceIdeal.Gen.shapeCasts_S1024x20x1_S1024x20)))), (Host.gather Cert.ReferenceIdeal.gather_S1000x16_S1024x20x1_S1024x20x16_2_0_n_n_0_2_116 e₃ (broadcastInDim Cert.ReferenceIdeal.S1024x20x1 ![0, 1] Cert.ReferenceIdeal.Gen.bcast_S1024x20_S1024x20x1_0_1 (select (cmpi .slt (shapeCast Cert.ReferenceIdeal.S1024x20 (extractStridedSlice Cert.ReferenceIdeal.S1024x20x1 ![0, 0, 2] x Cert.ReferenceIdeal.Gen.slices_S1024x20x4_S1024x20x1_0_0_2) Cert.ReferenceIdeal.Gen.shapeCasts_S1024x20x1_S1024x20) (broadcastInDim Cert.ReferenceIdeal.S1024x20 ![] Cert.ReferenceIdeal.Gen.bcast_S_S1024x20 (constantI Cert.ReferenceIdeal.S_ 32 0#32))) (addi (shapeCast Cert.ReferenceIdeal.S1024x20 (extractStridedSlice Cert.ReferenceIdeal.S1024x20x1 ![0, 0, 2] x Cert.ReferenceIdeal.Gen.slices_S1024x20x4_S1024x20x1_0_0_2) Cert.ReferenceIdeal.Gen.shapeCasts_S1024x20x1_S1024x20) (broadcastInDim Cert.ReferenceIdeal.S1024x20 ![] Cert.ReferenceIdeal.Gen.bcast_S_S1024x20 (constantI Cert.ReferenceIdeal.S_ 32 1000#32))) (shapeCast Cert.ReferenceIdeal.S1024x20 (extractStridedSlice Cert.ReferenceIdeal.S1024x20x1 ![0, 0, 2] x Cert.ReferenceIdeal.Gen.slices_S1024x20x4_S1024x20x1_0_0_2) Cert.ReferenceIdeal.Gen.shapeCasts_S1024x20x1_S1024x20)))), (Host.gather Cert.ReferenceIdeal.gather_S1000x16_S1024x20x1_S1024x20x16_2_0_n_n_0_2_116 e₄ (broadcastInDim Cert.ReferenceIdeal.S1024x20x1 ![0, 1] Cert.ReferenceIdeal.Gen.bcast_S1024x20_S1024x20x1_0_1 (select (cmpi .slt (shapeCast Cert.ReferenceIdeal.S1024x20 (extractStridedSlice Cert.ReferenceIdeal.S1024x20x1 ![0, 0, 3] x Cert.ReferenceIdeal.Gen.slices_S1024x20x4_S1024x20x1_0_0_3) Cert.ReferenceIdeal.Gen.shapeCasts_S1024x20x1_S1024x20) (broadcastInDim Cert.ReferenceIdeal.S1024x20 ![] Cert.ReferenceIdeal.Gen.bcast_S_S1024x20 (constantI Cert.ReferenceIdeal.S_ 32 0#32))) (addi (shapeCast Cert.ReferenceIdeal.S1024x20 (extractStridedSlice Cert.ReferenceIdeal.S1024x20x1 ![0, 0, 3] x Cert.ReferenceIdeal.Gen.slices_S1024x20x4_S1024x20x1_0_0_3) Cert.ReferenceIdeal.Gen.shapeCasts_S1024x20x1_S1024x20) (broadcastInDim Cert.ReferenceIdeal.S1024x20 ![] Cert.ReferenceIdeal.Gen.bcast_S_S1024x20 (constantI Cert.ReferenceIdeal.S_ 32 1000#32))) (shapeCast Cert.ReferenceIdeal.S1024x20 (extractStridedSlice Cert.ReferenceIdeal.S1024x20x1 ![0, 0, 3] x Cert.ReferenceIdeal.Gen.slices_S1024x20x4_S1024x20x1_0_0_3) Cert.ReferenceIdeal.Gen.shapeCasts_S1024x20x1_S1024x20))))] : Fin 4 → FVec F Cert.ReferenceIdeal.S1024x20x16 .f32) q (ix3 b t c)
      = (![e₁, e₂, e₃, e₄] : Fin 4 → FVec F S1000x16 .f32) q (ix2 ⟨(x (ix3 b t q)).toNat, hx _⟩ c) := by
  fin_cases q
  · exact looked_0 x hx _ b t c
  · exact looked_1 x hx _ b t c
  · exact looked_2 x hx _ b t c
  · exact looked_3 x hx _ b t c

/-- The reference's result, of its arguments. -/
def refRows (x : IVec S1024x20x4 32) (e₁ e₂ e₃ e₄ : FVec F S1000x16 .f32) : FVec F S81920x16 .f32 :=
  shapeCast Cert.ReferenceIdeal.S81920x16 (transpose Cert.ReferenceIdeal.S20x1024x64 [1, 0, 2] ((concatenate Cert.ReferenceIdeal.S1024x20x64 2 [⟨Cert.ReferenceIdeal.S1024x20x16, (Host.gather Cert.ReferenceIdeal.gather_S1000x16_S1024x20x1_S1024x20x16_2_0_n_n_0_2_116 e₁ (broadcastInDim Cert.ReferenceIdeal.S1024x20x1 ![0, 1] Cert.ReferenceIdeal.Gen.bcast_S1024x20_S1024x20x1_0_1 (select (cmpi .slt (shapeCast Cert.ReferenceIdeal.S1024x20 (extractStridedSlice Cert.ReferenceIdeal.S1024x20x1 ![0, 0, 0] x Cert.ReferenceIdeal.Gen.slices_S1024x20x4_S1024x20x1_0_0_0) Cert.ReferenceIdeal.Gen.shapeCasts_S1024x20x1_S1024x20) (broadcastInDim Cert.ReferenceIdeal.S1024x20 ![] Cert.ReferenceIdeal.Gen.bcast_S_S1024x20 (constantI Cert.ReferenceIdeal.S_ 32 0#32))) (addi (shapeCast Cert.ReferenceIdeal.S1024x20 (extractStridedSlice Cert.ReferenceIdeal.S1024x20x1 ![0, 0, 0] x Cert.ReferenceIdeal.Gen.slices_S1024x20x4_S1024x20x1_0_0_0) Cert.ReferenceIdeal.Gen.shapeCasts_S1024x20x1_S1024x20) (broadcastInDim Cert.ReferenceIdeal.S1024x20 ![] Cert.ReferenceIdeal.Gen.bcast_S_S1024x20 (constantI Cert.ReferenceIdeal.S_ 32 1000#32))) (shapeCast Cert.ReferenceIdeal.S1024x20 (extractStridedSlice Cert.ReferenceIdeal.S1024x20x1 ![0, 0, 0] x Cert.ReferenceIdeal.Gen.slices_S1024x20x4_S1024x20x1_0_0_0) Cert.ReferenceIdeal.Gen.shapeCasts_S1024x20x1_S1024x20))))⟩, ⟨Cert.ReferenceIdeal.S1024x20x16, (Host.gather Cert.ReferenceIdeal.gather_S1000x16_S1024x20x1_S1024x20x16_2_0_n_n_0_2_116 e₂ (broadcastInDim Cert.ReferenceIdeal.S1024x20x1 ![0, 1] Cert.ReferenceIdeal.Gen.bcast_S1024x20_S1024x20x1_0_1 (select (cmpi .slt (shapeCast Cert.ReferenceIdeal.S1024x20 (extractStridedSlice Cert.ReferenceIdeal.S1024x20x1 ![0, 0, 1] x Cert.ReferenceIdeal.Gen.slices_S1024x20x4_S1024x20x1_0_0_1) Cert.ReferenceIdeal.Gen.shapeCasts_S1024x20x1_S1024x20) (broadcastInDim Cert.ReferenceIdeal.S1024x20 ![] Cert.ReferenceIdeal.Gen.bcast_S_S1024x20 (constantI Cert.ReferenceIdeal.S_ 32 0#32))) (addi (shapeCast Cert.ReferenceIdeal.S1024x20 (extractStridedSlice Cert.ReferenceIdeal.S1024x20x1 ![0, 0, 1] x Cert.ReferenceIdeal.Gen.slices_S1024x20x4_S1024x20x1_0_0_1) Cert.ReferenceIdeal.Gen.shapeCasts_S1024x20x1_S1024x20) (broadcastInDim Cert.ReferenceIdeal.S1024x20 ![] Cert.ReferenceIdeal.Gen.bcast_S_S1024x20 (constantI Cert.ReferenceIdeal.S_ 32 1000#32))) (shapeCast Cert.ReferenceIdeal.S1024x20 (extractStridedSlice Cert.ReferenceIdeal.S1024x20x1 ![0, 0, 1] x Cert.ReferenceIdeal.Gen.slices_S1024x20x4_S1024x20x1_0_0_1) Cert.ReferenceIdeal.Gen.shapeCasts_S1024x20x1_S1024x20))))⟩, ⟨Cert.ReferenceIdeal.S1024x20x16, (Host.gather Cert.ReferenceIdeal.gather_S1000x16_S1024x20x1_S1024x20x16_2_0_n_n_0_2_116 e₃ (broadcastInDim Cert.ReferenceIdeal.S1024x20x1 ![0, 1] Cert.ReferenceIdeal.Gen.bcast_S1024x20_S1024x20x1_0_1 (select (cmpi .slt (shapeCast Cert.ReferenceIdeal.S1024x20 (extractStridedSlice Cert.ReferenceIdeal.S1024x20x1 ![0, 0, 2] x Cert.ReferenceIdeal.Gen.slices_S1024x20x4_S1024x20x1_0_0_2) Cert.ReferenceIdeal.Gen.shapeCasts_S1024x20x1_S1024x20) (broadcastInDim Cert.ReferenceIdeal.S1024x20 ![] Cert.ReferenceIdeal.Gen.bcast_S_S1024x20 (constantI Cert.ReferenceIdeal.S_ 32 0#32))) (addi (shapeCast Cert.ReferenceIdeal.S1024x20 (extractStridedSlice Cert.ReferenceIdeal.S1024x20x1 ![0, 0, 2] x Cert.ReferenceIdeal.Gen.slices_S1024x20x4_S1024x20x1_0_0_2) Cert.ReferenceIdeal.Gen.shapeCasts_S1024x20x1_S1024x20) (broadcastInDim Cert.ReferenceIdeal.S1024x20 ![] Cert.ReferenceIdeal.Gen.bcast_S_S1024x20 (constantI Cert.ReferenceIdeal.S_ 32 1000#32))) (shapeCast Cert.ReferenceIdeal.S1024x20 (extractStridedSlice Cert.ReferenceIdeal.S1024x20x1 ![0, 0, 2] x Cert.ReferenceIdeal.Gen.slices_S1024x20x4_S1024x20x1_0_0_2) Cert.ReferenceIdeal.Gen.shapeCasts_S1024x20x1_S1024x20))))⟩, ⟨Cert.ReferenceIdeal.S1024x20x16, (Host.gather Cert.ReferenceIdeal.gather_S1000x16_S1024x20x1_S1024x20x16_2_0_n_n_0_2_116 e₄ (broadcastInDim Cert.ReferenceIdeal.S1024x20x1 ![0, 1] Cert.ReferenceIdeal.Gen.bcast_S1024x20_S1024x20x1_0_1 (select (cmpi .slt (shapeCast Cert.ReferenceIdeal.S1024x20 (extractStridedSlice Cert.ReferenceIdeal.S1024x20x1 ![0, 0, 3] x Cert.ReferenceIdeal.Gen.slices_S1024x20x4_S1024x20x1_0_0_3) Cert.ReferenceIdeal.Gen.shapeCasts_S1024x20x1_S1024x20) (broadcastInDim Cert.ReferenceIdeal.S1024x20 ![] Cert.ReferenceIdeal.Gen.bcast_S_S1024x20 (constantI Cert.ReferenceIdeal.S_ 32 0#32))) (addi (shapeCast Cert.ReferenceIdeal.S1024x20 (extractStridedSlice Cert.ReferenceIdeal.S1024x20x1 ![0, 0, 3] x Cert.ReferenceIdeal.Gen.slices_S1024x20x4_S1024x20x1_0_0_3) Cert.ReferenceIdeal.Gen.shapeCasts_S1024x20x1_S1024x20) (broadcastInDim Cert.ReferenceIdeal.S1024x20 ![] Cert.ReferenceIdeal.Gen.bcast_S_S1024x20 (constantI Cert.ReferenceIdeal.S_ 32 1000#32))) (shapeCast Cert.ReferenceIdeal.S1024x20 (extractStridedSlice Cert.ReferenceIdeal.S1024x20x1 ![0, 0, 3] x Cert.ReferenceIdeal.Gen.slices_S1024x20x4_S1024x20x1_0_0_3) Cert.ReferenceIdeal.Gen.shapeCasts_S1024x20x1_S1024x20))))⟩] Cert.ReferenceIdeal.Gen.concatenates_S1024x20x16_S1024x20x16_S1024x20x16_S1024x20x16_S1024x20x64_d2 : FVec F Cert.ReferenceIdeal.S1024x20x64 .f32)) Cert.ReferenceIdeal.Gen.transposes_S1024x20x64_S20x1024x64_1_0_2) Cert.ReferenceIdeal.Gen.shapeCasts_S20x1024x64_S81920x16

theorem refRows_apply (x : IVec S1024x20x4 32) (e₁ e₂ e₃ e₄ : FVec F S1000x16 .f32) (hx : InRange x) (k : Fin 81920) (c : Fin 16) :
    refRows x e₁ e₂ e₃ e₄ (ix2 k c) = specAt x ![e₁, e₂, e₃, e₄] hx k c := by
  unfold refRows specAt
  rw [beside]
  exact looked x hx e₁ e₂ e₃ e₄ _ _ c _

/-- The rows that the kernel leaves are the reference's. -/
theorem rows_eq (d : Dev nD) (hx : InRange (m ((SparseCore.T d).loc main_arg0))) :
    rowsOf (F := F) (tbl m d) (idx m d)
      = refRows (m ((SparseCore.T d).loc main_arg0)) (m ((SparseCore.T d).loc main_arg1)) (m ((SparseCore.T d).loc main_arg2))
          (m ((SparseCore.T d).loc main_arg3)) (m ((SparseCore.T d).loc main_arg4)) := by
  funext j
  obtain ⟨k, c, rfl⟩ : ∃ (k : Fin 81920) (c : Fin 16), j = ix2 k c := ⟨j 0, j 1, eq_ix2 j⟩
  rw [refRows_apply _ _ _ _ _ hx]
  exact rows_apply m d hx k c

end Cert.Proof.Value

end
-- ==== Proof.lean ====
/-
  The certificate's claim, assembled: each program's run, its reference's run, and the equality of what they leave.
  The lookup is in Proof/Run.lean and Proof/Value.lean, the recurrent call in the Lstm modules, the projection after it
  in the Logit modules, and the projection of any states in Proof/ProjValue.lean.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_in_range
public import proofs.«01_k».proof.Proof.Gen.Lstm
public import proofs.«01_k».proof.Proof.Gen.LstmIdeal
public import proofs.«01_k».proof.Proof.Gen.LstmReferenceIdeal
public import proofs.«01_k».proof.Proof.LstmFrame
public import proofs.«01_k».proof.Proof.LstmBits
public import proofs.«01_k».proof.Proof.LstmValue
public import proofs.«01_k».proof.Proof.LstmStack
public import proofs.«01_k».proof.Proof.LogitRef
public import proofs.«01_k».proof.Proof.LogitValue
public import proofs.«01_k».proof.Proof.Gen.Proj
public import proofs.«01_k».proof.Proof.Gen.Proj.Frame
public import proofs.«01_k».proof.Proof.Gen.ProjIdeal.Value
public import proofs.«01_k».proof.Proof.Gen.ProjReferenceIdeal.Run
public import proofs.«01_k».proof.Proof.ProjValue
public import proofs.«01_k».proof.Proof.Run
public import proofs.«01_k».proof.Proof.Value
public import Idealize.ShloMosaic.Adequacy
public import Idealize.ShloMosaic.Lib.Quiescent
public import Idealize.ShloMosaic.Init

@[expose] public section

noncomputable section

namespace Cert.Proof

open Idealize.ShloMosaic Idealize.SL.Sem

section Kernel

open Cert.KernelIdeal Cert.KernelIdeal.Gen

variable {F : FTy → Type} [FloatOps F]
variable (m : (ℓ : Loc nD τ sig) → Buf (Elt F) ℓ) (ρ : Dev nD → PrngReg)

/-- No host operation writes an argument. -/
theorem arg_kept (d : Dev nD) (r : Ref sig .tc) (hr : r ∈ [main_arg0, main_arg1, main_arg2, main_arg3, main_arg4]) :
    Run.V₂ m d (Proc.devRef .tc r) = m ((SparseCore.T d).loc r) := by
  simp only [List.mem_cons, List.not_mem_nil, or_false] at hr
  rcases hr with rfl | rfl | rfl | rfl | rfl <;> (rw [Run.V₂_ne m d _ (by decide)]; after_results_simp)

/-- The kernel's run, from notes in range: the result, the arguments, the semaphores. -/
theorem kernel_run (hx : ∀ d : Dev nD, Value.InRange (m ((SparseCore.T d).loc main_arg0))) :
    θ_run defs threads ⟨m, fun _ => 0, ρ⟩ fun r => (∀ c : Dev nD,
      r.2.mem ((c.tc : Thread nD τ).loc main_v9)
          = Value.refRows (m ((SparseCore.T c).loc main_arg0)) (m ((SparseCore.T c).loc main_arg1)) (m ((SparseCore.T c).loc main_arg2))
              (m ((SparseCore.T c).loc main_arg3)) (m ((SparseCore.T c).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0 :=
  (θ_run defs _ _).mono (fun r h => ⟨fun c =>
    ⟨(h.1 c main_v9 rfl).trans ((Run.V₂_result m c).trans (Value.rows_eq m c (hx c))),
      (h.1 c main_arg0 rfl).trans (arg_kept m c _ (by decide)), (h.1 c main_arg1 rfl).trans (arg_kept m c _ (by decide)),
      (h.1 c main_arg2 rfl).trans (arg_kept m c _ (by decide)), (h.1 c main_arg3 rfl).trans (arg_kept m c _ (by decide)),
      (h.1 c main_arg4 rfl).trans (arg_kept m c _ (by decide))⟩, h.2⟩) (Run.run_main m ρ (Value.inTable m hx))

end Kernel

section Lstm

open Cert.Lstm.Gen Cert.LstmIdeal.Gen

/-- Two arrays of logits agree once their entries do. -/
theorem logits_ext (x y : FVec Ideal ⟨4, ![1024, 20, 4, 1000]⟩ .f32) (h : ∀ n t v o, x (ix4 n t v o) = y (ix4 n t v o)) : x = y :=
  funext fun i => by
    rw [eq_ix4 i]
    exact h _ _ _ _

/-- The recurrent call's result is the bidirectional network's of the arguments. -/
theorem lstm_value (m : (ℓ : Loc Cert.LstmIdeal.nD Cert.LstmIdeal.τ Cert.LstmIdeal.sig) → Buf (Elt Ideal) ℓ) (c : Dev Cert.LstmIdeal.nD)
    (t : Fin 20) (n : Fin 1024) (u : Fin 64) :
    Cert.LstmIdeal.Own.result (m ((c.tc : Thread _ Cert.LstmIdeal.τ).loc Cert.LstmIdeal.main_arg0))
        (Cert.LstmIdeal.Own.V m c Cert.LstmIdeal.main_v564) (Cert.LstmIdeal.Own.V m c Cert.LstmIdeal.main_v568) (ix3 t u n)
      = LstmSpec.bnet (Cert.LstmIdeal.Own.wiOf (m ((c.tc : Thread _ Cert.LstmIdeal.τ).loc Cert.LstmIdeal.main_arg1)))
          (Cert.LstmIdeal.Own.whOf (m ((c.tc : Thread _ Cert.LstmIdeal.τ).loc Cert.LstmIdeal.main_arg2)))
          (Cert.LstmIdeal.Own.bsOf (m ((c.tc : Thread _ Cert.LstmIdeal.τ).loc Cert.LstmIdeal.main_arg3))
            (m ((c.tc : Thread _ Cert.LstmIdeal.τ).loc Cert.LstmIdeal.main_arg4)))
          (Cert.LstmIdeal.Own.input (m ((c.tc : Thread _ Cert.LstmIdeal.τ).loc Cert.LstmIdeal.main_arg0))) t n u := by
  refine (Cert.LstmIdeal.Own.result_eq _ _ _ t n u).trans ?_
  rw [← LstmSpec.net_pack]
  exact congrArg₂ (fun w b => LstmSpec.net w b (Cert.LstmIdeal.Own.input (m ((c.tc : Thread _ Cert.LstmIdeal.τ).loc Cert.LstmIdeal.main_arg0))) t n u)
    (funext fun l => funext fun r => funext fun k => Cert.LstmIdeal.Own.packed_w (fun b => m (c, b)) l r k)
    (funext fun l => funext fun r => Cert.LstmIdeal.Own.packed_b (fun b => m (c, b)) l r)

end Lstm

theorem claim : Cert.Claim := ⟨Cert.Kernel.Gen.facts, Cert.KernelIdeal.Gen.facts, Cert.ReferenceIdeal.Gen.facts,
    Cert.Lstm.Gen.facts, Cert.LstmIdeal.Gen.facts, Cert.LstmReferenceIdeal.Gen.facts,
    Cert.Proj.Gen.facts, Cert.ProjIdeal.Gen.facts, Cert.ProjReferenceIdeal.Gen.facts, Cert.Pre_in_range.Gen.facts, by
  refine ⟨?_, ?_, ?_, ?_, ?_, ?_, ?_, ?_, ?_, ?_, ?_, ?_, ?_, ?_, ?_, ?_⟩
  · intro m g hpre
    exact (θ_run Cert.KernelIdeal.defs _ _).mono (fun r h => ⟨fun c => (h.1 c).2, h.2⟩)
      (kernel_run (F := Bits) m g fun d => Value.inRange_of_pre _ _ _ _ _ (hpre d))
  · intro m g hpre
    exact (θ_run Cert.KernelIdeal.defs _ _).mono (fun r h => ⟨fun c => (h.1 c).2, h.2⟩)
      (kernel_run (F := Ideal) m g fun d => Value.inRange_of_pre _ _ _ _ _ (hpre d))
  · intro m g _
    exact (θ_run Cert.ReferenceIdeal.defs _ _).mono (fun r h => ⟨fun c => (h c).2, sem_eq_zero_of_no_sems (by decide) r.2⟩)
      (Cert.ReferenceIdeal.Value.run (F := Ideal) m g)
  · intro m g _
    exact (θ_run Cert.ReferenceIdeal.defs _ _).mono (fun r h => ⟨fun c => (h c).2, sem_eq_zero_of_no_sems (by decide) r.2⟩)
      (Cert.ReferenceIdeal.Value.run (F := Ideal) m g)
  · intro m g _
    exact Cert.Lstm.Own.frame m g
  · exact fun m g _ => Cert.LstmIdeal.Own.frame (F := Ideal) m g
  · intro m g _
    exact (θ_run Cert.LstmReferenceIdeal.defs _ _).mono (fun r h => ⟨fun c => (h c).2, sem_eq_zero_of_no_sems (by decide) r.2⟩)
      (Cert.LstmRun.ref_run m g)
  · exact fun m g _ => Cert.Proj.Gen.frame (F := Bits) m g
  · exact fun m g _ => Cert.ProjIdeal.Gen.frame (F := Ideal) m g
  · intro m g _
    exact (θ_run Cert.ProjReferenceIdeal.defs _ _).mono (fun r h => ⟨fun c => (h c).2, sem_eq_zero_of_no_sems (by decide) r.2⟩)
      (Cert.ProjReferenceIdeal.Value.run (F := Ideal) m g)
  · trivial
  · intro m g m' g' hpre hargs
    have hx := fun d => Value.inRange_of_pre _ _ _ _ _ (hpre d)
    refine ⟨_, (θ_run Cert.KernelIdeal.defs _ _).mono (fun r h => h.1) (kernel_run (F := Ideal) m g hx),
      (θ_run Cert.ReferenceIdeal.defs _ _).mono (fun r h c => ⟨?_, (h c).2⟩) (Cert.ReferenceIdeal.Value.run (F := Ideal) m' g')⟩
    obtain ⟨h₀, h₁, h₂, h₃, h₄⟩ := hargs c
    rw [(h c).1, h₀, h₁, h₂, h₃, h₄]
    rfl
  · trivial
  · intro m g m' g' _ hargs
    refine ⟨_, Cert.LstmIdeal.Own.run_result (F := Ideal) m g,
      (θ_run Cert.LstmReferenceIdeal.defs _ _).mono (fun r h c => ⟨?_, (h c).2⟩) (Cert.LstmRun.ref_run m' g')⟩
    obtain ⟨h₀, h₁, h₂, h₃, h₄, h₅, h₆⟩ := hargs c
    refine logits_ext _ _ fun n t v o => ((h c).1 n t v o).trans (Eq.trans ?_ (Cert.LstmIdeal.Own.logits_eq m c n t v o).symm)
    rw [h₀, h₁, h₂, h₃, h₄, h₅, h₆]
    refine congrArg (fun f => LogitSpec.logit f _ _ n t v o) (funext fun t => funext fun n => funext fun u => ?_)
    exact (lstm_value m c t n u).symm
  · trivial
  · intro m g m' g' _ hargs
    refine ⟨_, (θ_run Cert.ProjIdeal.defs _ _).mono (fun r h c => ⟨(h c).1.trans (ProjValue.final m c), (h c).2⟩)
        (Cert.ProjIdeal.Value.run_blocks (F := Ideal) m g),
      (θ_run Cert.ProjReferenceIdeal.defs _ _).mono (fun r h c => ⟨?_, (h c).2⟩) (Cert.ProjReferenceIdeal.Value.run (F := Ideal) m' g')⟩
    obtain ⟨h₀, h₁, h₂⟩ := hargs c
    rw [(h c).1, h₀, h₁, h₂]
    exact ProjValue.plain_eq _ _ _⟩

end Cert.Proof

end
